-- ==== Defs.lean ====
def Pre_FwdA (m : (ℓ : Loc Cert.FwdA.nD Cert.FwdA.τ Cert.FwdA.sig) → Buf (Elt Bits) ℓ) : Prop :=
  True

def Pre_FwdAIdeal (m : (ℓ : Loc Cert.FwdAIdeal.nD Cert.FwdAIdeal.τ Cert.FwdAIdeal.sig) → Buf (Elt Ideal) ℓ) : Prop :=
  True

def Pre_FwdAIdeal_finite_a [hPre_finite_a : Cert.Pre_finite_a.Facts] (m : (ℓ : Loc Cert.FwdAIdeal.nD Cert.FwdAIdeal.τ Cert.FwdAIdeal.sig) → Buf (Elt Ideal) ℓ) : Prop :=
  ∀ c : Dev Cert.FwdAIdeal.nD,
    (Cert.Pre_finite_a.fn (F := Ideal) (m ((c.tc : Thread Cert.FwdAIdeal.nD Cert.FwdAIdeal.τ).loc Cert.FwdAIdeal.main_arg0)) (m ((c.tc : Thread Cert.FwdAIdeal.nD Cert.FwdAIdeal.τ).loc Cert.FwdAIdeal.main_arg1)) (m ((c.tc : Thread Cert.FwdAIdeal.nD Cert.FwdAIdeal.τ).loc Cert.FwdAIdeal.main_arg2))) = (fun _ => 1#1)

def Pre_FwdARefIdeal (m : (ℓ : Loc Cert.FwdARefIdeal.nD Cert.FwdARefIdeal.τ Cert.FwdARefIdeal.sig) → Buf (Elt Ideal) ℓ) : Prop :=
  True

def Pre_FwdARefIdeal_finite_a [hPre_finite_a : Cert.Pre_finite_a.Facts] (m : (ℓ : Loc Cert.FwdARefIdeal.nD Cert.FwdARefIdeal.τ Cert.FwdARefIdeal.sig) → Buf (Elt Ideal) ℓ) : Prop :=
  ∀ c : Dev Cert.FwdARefIdeal.nD,
    (Cert.Pre_finite_a.fn (F := Ideal) (m ((c.tc : Thread Cert.FwdARefIdeal.nD Cert.FwdARefIdeal.τ).loc Cert.FwdARefIdeal.main_arg0)) (m ((c.tc : Thread Cert.FwdARefIdeal.nD Cert.FwdARefIdeal.τ).loc Cert.FwdARefIdeal.main_arg1)) (m ((c.tc : Thread Cert.FwdARefIdeal.nD Cert.FwdARefIdeal.τ).loc Cert.FwdARefIdeal.main_arg2))) = (fun _ => 1#1)

def Pre_FwdB (m : (ℓ : Loc Cert.FwdB.nD Cert.FwdB.τ Cert.FwdB.sig) → Buf (Elt Bits) ℓ) : Prop :=
  True

def Pre_FwdBIdeal (m : (ℓ : Loc Cert.FwdBIdeal.nD Cert.FwdBIdeal.τ Cert.FwdBIdeal.sig) → Buf (Elt Ideal) ℓ) : Prop :=
  True

def Pre_FwdBIdeal_finite_b [hPre_finite_b : Cert.Pre_finite_b.Facts] (m : (ℓ : Loc Cert.FwdBIdeal.nD Cert.FwdBIdeal.τ Cert.FwdBIdeal.sig) → Buf (Elt Ideal) ℓ) : Prop :=
  ∀ c : Dev Cert.FwdBIdeal.nD,
    (Cert.Pre_finite_b.fn (F := Ideal) (m ((c.tc : Thread Cert.FwdBIdeal.nD Cert.FwdBIdeal.τ).loc Cert.FwdBIdeal.main_arg0)) (m ((c.tc : Thread Cert.FwdBIdeal.nD Cert.FwdBIdeal.τ).loc Cert.FwdBIdeal.main_arg1)) (m ((c.tc : Thread Cert.FwdBIdeal.nD Cert.FwdBIdeal.τ).loc Cert.FwdBIdeal.main_arg2))) = (fun _ => 1#1)

def Pre_FwdBRefIdeal (m : (ℓ : Loc Cert.FwdBRefIdeal.nD Cert.FwdBRefIdeal.τ Cert.FwdBRefIdeal.sig) → Buf (Elt Ideal) ℓ) : Prop :=
  True

def Pre_FwdBRefIdeal_finite_b [hPre_finite_b : Cert.Pre_finite_b.Facts] (m : (ℓ : Loc Cert.FwdBRefIdeal.nD Cert.FwdBRefIdeal.τ Cert.FwdBRefIdeal.sig) → Buf (Elt Ideal) ℓ) : Prop :=
  ∀ c : Dev Cert.FwdBRefIdeal.nD,
    (Cert.Pre_finite_b.fn (F := Ideal) (m ((c.tc : Thread Cert.FwdBRefIdeal.nD Cert.FwdBRefIdeal.τ).loc Cert.FwdBRefIdeal.main_arg0)) (m ((c.tc : Thread Cert.FwdBRefIdeal.nD Cert.FwdBRefIdeal.τ).loc Cert.FwdBRefIdeal.main_arg1)) (m ((c.tc : Thread Cert.FwdBRefIdeal.nD Cert.FwdBRefIdeal.τ).loc Cert.FwdBRefIdeal.main_arg2))) = (fun _ => 1#1)

def Pre_BwdA (m : (ℓ : Loc Cert.BwdA.nD Cert.BwdA.τ Cert.BwdA.sig) → Buf (Elt Bits) ℓ) : Prop :=
  True

def Pre_BwdAIdeal (m : (ℓ : Loc Cert.BwdAIdeal.nD Cert.BwdAIdeal.τ Cert.BwdAIdeal.sig) → Buf (Elt Ideal) ℓ) : Prop :=
  True

def Pre_BwdARefIdeal (m : (ℓ : Loc Cert.BwdARefIdeal.nD Cert.BwdARefIdeal.τ Cert.BwdARefIdeal.sig) → Buf (Elt Ideal) ℓ) : Prop :=
  True

def Pre_BwdB (m : (ℓ : Loc Cert.BwdB.nD Cert.BwdB.τ Cert.BwdB.sig) → Buf (Elt Bits) ℓ) : Prop :=
  True

def Pre_BwdBIdeal (m : (ℓ : Loc Cert.BwdBIdeal.nD Cert.BwdBIdeal.τ Cert.BwdBIdeal.sig) → Buf (Elt Ideal) ℓ) : Prop :=
  True

def Pre_BwdBRefIdeal (m : (ℓ : Loc Cert.BwdBRefIdeal.nD Cert.BwdBRefIdeal.τ Cert.BwdBRefIdeal.sig) → Buf (Elt Ideal) ℓ) : Prop :=
  True

def Pre_GradIn (m : (ℓ : Loc Cert.GradIn.nD Cert.GradIn.τ Cert.GradIn.sig) → Buf (Elt Bits) ℓ) : Prop :=
  True

def Pre_GradInIdeal (m : (ℓ : Loc Cert.GradInIdeal.nD Cert.GradInIdeal.τ Cert.GradInIdeal.sig) → Buf (Elt Ideal) ℓ) : Prop :=
  True

def Pre_GradInRefIdeal (m : (ℓ : Loc Cert.GradInRefIdeal.nD Cert.GradInRefIdeal.τ Cert.GradInRefIdeal.sig) → Buf (Elt Ideal) ℓ) : Prop :=
  True

def Pre_GradOut (m : (ℓ : Loc Cert.GradOut.nD Cert.GradOut.τ Cert.GradOut.sig) → Buf (Elt Bits) ℓ) : Prop :=
  True

def Pre_GradOutIdeal (m : (ℓ : Loc Cert.GradOutIdeal.nD Cert.GradOutIdeal.τ Cert.GradOutIdeal.sig) → Buf (Elt Ideal) ℓ) : Prop :=
  True

def Pre_GradOutRefIdeal (m : (ℓ : Loc Cert.GradOutRefIdeal.nD Cert.GradOutRefIdeal.τ Cert.GradOutRefIdeal.sig) → Buf (Elt Ideal) ℓ) : Prop :=
  True

def Pre_GradUq (m : (ℓ : Loc Cert.GradUq.nD Cert.GradUq.τ Cert.GradUq.sig) → Buf (Elt Bits) ℓ) : Prop :=
  True

def Pre_GradUqIdeal (m : (ℓ : Loc Cert.GradUqIdeal.nD Cert.GradUqIdeal.τ Cert.GradUqIdeal.sig) → Buf (Elt Ideal) ℓ) : Prop :=
  True

def Pre_GradUqRefIdeal (m : (ℓ : Loc Cert.GradUqRefIdeal.nD Cert.GradUqRefIdeal.τ Cert.GradUqRefIdeal.sig) → Buf (Elt Ideal) ℓ) : Prop :=
  True

def Pre_GradUkv (m : (ℓ : Loc Cert.GradUkv.nD Cert.GradUkv.τ Cert.GradUkv.sig) → Buf (Elt Bits) ℓ) : Prop :=
  True

def Pre_GradUkvIdeal (m : (ℓ : Loc Cert.GradUkvIdeal.nD Cert.GradUkvIdeal.τ Cert.GradUkvIdeal.sig) → Buf (Elt Ideal) ℓ) : Prop :=
  True

def Pre_GradUkvRefIdeal (m : (ℓ : Loc Cert.GradUkvRefIdeal.nD Cert.GradUkvRefIdeal.τ Cert.GradUkvRefIdeal.sig) → Buf (Elt Ideal) ℓ) : Prop :=
  True

def Pre_Mid (m : (ℓ : Loc Cert.Mid.nD Cert.Mid.τ Cert.Mid.sig) → Buf (Elt Bits) ℓ) : Prop :=
  True

def Pre_MidIdeal (m : (ℓ : Loc Cert.MidIdeal.nD Cert.MidIdeal.τ Cert.MidIdeal.sig) → Buf (Elt Ideal) ℓ) : Prop :=
  True

def Pre_MidRefIdeal (m : (ℓ : Loc Cert.MidRefIdeal.nD Cert.MidRefIdeal.τ Cert.MidRefIdeal.sig) → Buf (Elt Ideal) ℓ) : Prop :=
  True

def Pre_Adam (m : (ℓ : Loc Cert.Adam.nD Cert.Adam.τ Cert.Adam.sig) → Buf (Elt Bits) ℓ) : Prop :=
  True

def Pre_AdamIdeal (m : (ℓ : Loc Cert.AdamIdeal.nD Cert.AdamIdeal.τ Cert.AdamIdeal.sig) → Buf (Elt Ideal) ℓ) : Prop :=
  True

def Pre_AdamRefIdeal (m : (ℓ : Loc Cert.AdamRefIdeal.nD Cert.AdamRefIdeal.τ Cert.AdamRefIdeal.sig) → Buf (Elt Ideal) ℓ) : Prop :=
  True

def Pre_Pre (m : (ℓ : Loc Cert.Pre.nD Cert.Pre.τ Cert.Pre.sig) → Buf (Elt Bits) ℓ) : Prop :=
  True

def Pre_PreIdeal (m : (ℓ : Loc Cert.PreIdeal.nD Cert.PreIdeal.τ Cert.PreIdeal.sig) → Buf (Elt Ideal) ℓ) : Prop :=
  True

def Pre_PreRefIdeal (m : (ℓ : Loc Cert.PreRefIdeal.nD Cert.PreRefIdeal.τ Cert.PreRefIdeal.sig) → Buf (Elt Ideal) ℓ) : Prop :=
  True

def quiescent_FwdA [hFwdA : Cert.FwdA.Facts] : Prop :=
  ∀ (m : (ℓ : Loc Cert.FwdA.nD Cert.FwdA.τ Cert.FwdA.sig) → Buf (Elt Bits) ℓ) (g : Dev Cert.FwdA.nD → PrngReg), Pre_FwdA m →
    θ_run (Cert.FwdA.defs (F := Bits)) (onTc (τ := Cert.FwdA.τ) (Cert.FwdA.main (F := Bits))) ⟨m, fun _ => 0, g⟩ (fun r => (∀ c : Dev Cert.FwdA.nD,
      r.2.mem ((c.tc : Thread Cert.FwdA.nD Cert.FwdA.τ).loc Cert.FwdA.main_arg0) = m ((c.tc : Thread Cert.FwdA.nD Cert.FwdA.τ).loc Cert.FwdA.main_arg0)
      ∧ r.2.mem ((c.tc : Thread Cert.FwdA.nD Cert.FwdA.τ).loc Cert.FwdA.main_arg1) = m ((c.tc : Thread Cert.FwdA.nD Cert.FwdA.τ).loc Cert.FwdA.main_arg1)
      ∧ r.2.mem ((c.tc : Thread Cert.FwdA.nD Cert.FwdA.τ).loc Cert.FwdA.main_arg2) = m ((c.tc : Thread Cert.FwdA.nD Cert.FwdA.τ).loc Cert.FwdA.main_arg2))
      ∧ r.2.sem = fun _ => 0)

def quiescent_FwdAIdeal [hFwdAIdeal : Cert.FwdAIdeal.Facts] : Prop :=
  ∀ (m : (ℓ : Loc Cert.FwdAIdeal.nD Cert.FwdAIdeal.τ Cert.FwdAIdeal.sig) → Buf (Elt Ideal) ℓ) (g : Dev Cert.FwdAIdeal.nD → PrngReg), Pre_FwdAIdeal m →
    θ_run (Cert.FwdAIdeal.defs (F := Ideal)) (onTc (τ := Cert.FwdAIdeal.τ) (Cert.FwdAIdeal.main (F := Ideal))) ⟨m, fun _ => 0, g⟩ (fun r => (∀ c : Dev Cert.FwdAIdeal.nD,
      r.2.mem ((c.tc : Thread Cert.FwdAIdeal.nD Cert.FwdAIdeal.τ).loc Cert.FwdAIdeal.main_arg0) = m ((c.tc : Thread Cert.FwdAIdeal.nD Cert.FwdAIdeal.τ).loc Cert.FwdAIdeal.main_arg0)
      ∧ r.2.mem ((c.tc : Thread Cert.FwdAIdeal.nD Cert.FwdAIdeal.τ).loc Cert.FwdAIdeal.main_arg1) = m ((c.tc : Thread Cert.FwdAIdeal.nD Cert.FwdAIdeal.τ).loc Cert.FwdAIdeal.main_arg1)
      ∧ r.2.mem ((c.tc : Thread Cert.FwdAIdeal.nD Cert.FwdAIdeal.τ).loc Cert.FwdAIdeal.main_arg2) = m ((c.tc : Thread Cert.FwdAIdeal.nD Cert.FwdAIdeal.τ).loc Cert.FwdAIdeal.main_arg2))
      ∧ r.2.sem = fun _ => 0)

def quiescent_FwdAIdeal_pre_finite_a [hFwdAIdeal : Cert.FwdAIdeal.Facts] [hPre_finite_a : Cert.Pre_finite_a.Facts] : Prop :=
  ∀ (m : (ℓ : Loc Cert.FwdAIdeal.nD Cert.FwdAIdeal.τ Cert.FwdAIdeal.sig) → Buf (Elt Ideal) ℓ) (g : Dev Cert.FwdAIdeal.nD → PrngReg), Pre_FwdAIdeal_finite_a m →
    θ_run (Cert.FwdAIdeal.defs (F := Ideal)) (onTc (τ := Cert.FwdAIdeal.τ) (Cert.FwdAIdeal.main (F := Ideal))) ⟨m, fun _ => 0, g⟩ (fun r => (∀ c : Dev Cert.FwdAIdeal.nD,
      r.2.mem ((c.tc : Thread Cert.FwdAIdeal.nD Cert.FwdAIdeal.τ).loc Cert.FwdAIdeal.main_arg0) = m ((c.tc : Thread Cert.FwdAIdeal.nD Cert.FwdAIdeal.τ).loc Cert.FwdAIdeal.main_arg0)
      ∧ r.2.mem ((c.tc : Thread Cert.FwdAIdeal.nD Cert.FwdAIdeal.τ).loc Cert.FwdAIdeal.main_arg1) = m ((c.tc : Thread Cert.FwdAIdeal.nD Cert.FwdAIdeal.τ).loc Cert.FwdAIdeal.main_arg1)
      ∧ r.2.mem ((c.tc : Thread Cert.FwdAIdeal.nD Cert.FwdAIdeal.τ).loc Cert.FwdAIdeal.main_arg2) = m ((c.tc : Thread Cert.FwdAIdeal.nD Cert.FwdAIdeal.τ).loc Cert.FwdAIdeal.main_arg2))
      ∧ r.2.sem = fun _ => 0)

def quiescent_FwdARefIdeal [hFwdARefIdeal : Cert.FwdARefIdeal.Facts] : Prop :=
  ∀ (m : (ℓ : Loc Cert.FwdARefIdeal.nD Cert.FwdARefIdeal.τ Cert.FwdARefIdeal.sig) → Buf (Elt Ideal) ℓ) (g : Dev Cert.FwdARefIdeal.nD → PrngReg), Pre_FwdARefIdeal m →
    θ_run (Cert.FwdARefIdeal.defs (F := Ideal)) (onTc (τ := Cert.FwdARefIdeal.τ) (Cert.FwdARefIdeal.main (F := Ideal))) ⟨m, fun _ => 0, g⟩ (fun r => (∀ c : Dev Cert.FwdARefIdeal.nD,
      r.2.mem ((c.tc : Thread Cert.FwdARefIdeal.nD Cert.FwdARefIdeal.τ).loc Cert.FwdARefIdeal.main_arg0) = m ((c.tc : Thread Cert.FwdARefIdeal.nD Cert.FwdARefIdeal.τ).loc Cert.FwdARefIdeal.main_arg0)
      ∧ r.2.mem ((c.tc : Thread Cert.FwdARefIdeal.nD Cert.FwdARefIdeal.τ).loc Cert.FwdARefIdeal.main_arg1) = m ((c.tc : Thread Cert.FwdARefIdeal.nD Cert.FwdARefIdeal.τ).loc Cert.FwdARefIdeal.main_arg1)
      ∧ r.2.mem ((c.tc : Thread Cert.FwdARefIdeal.nD Cert.FwdARefIdeal.τ).loc Cert.FwdARefIdeal.main_arg2) = m ((c.tc : Thread Cert.FwdARefIdeal.nD Cert.FwdARefIdeal.τ).loc Cert.FwdARefIdeal.main_arg2))
      ∧ r.2.sem = fun _ => 0)

def quiescent_FwdARefIdeal_pre_finite_a [hFwdARefIdeal : Cert.FwdARefIdeal.Facts] [hPre_finite_a : Cert.Pre_finite_a.Facts] : Prop :=
  ∀ (m : (ℓ : Loc Cert.FwdARefIdeal.nD Cert.FwdARefIdeal.τ Cert.FwdARefIdeal.sig) → Buf (Elt Ideal) ℓ) (g : Dev Cert.FwdARefIdeal.nD → PrngReg), Pre_FwdARefIdeal_finite_a m →
    θ_run (Cert.FwdARefIdeal.defs (F := Ideal)) (onTc (τ := Cert.FwdARefIdeal.τ) (Cert.FwdARefIdeal.main (F := Ideal))) ⟨m, fun _ => 0, g⟩ (fun r => (∀ c : Dev Cert.FwdARefIdeal.nD,
      r.2.mem ((c.tc : Thread Cert.FwdARefIdeal.nD Cert.FwdARefIdeal.τ).loc Cert.FwdARefIdeal.main_arg0) = m ((c.tc : Thread Cert.FwdARefIdeal.nD Cert.FwdARefIdeal.τ).loc Cert.FwdARefIdeal.main_arg0)
      ∧ r.2.mem ((c.tc : Thread Cert.FwdARefIdeal.nD Cert.FwdARefIdeal.τ).loc Cert.FwdARefIdeal.main_arg1) = m ((c.tc : Thread Cert.FwdARefIdeal.nD Cert.FwdARefIdeal.τ).loc Cert.FwdARefIdeal.main_arg1)
      ∧ r.2.mem ((c.tc : Thread Cert.FwdARefIdeal.nD Cert.FwdARefIdeal.τ).loc Cert.FwdARefIdeal.main_arg2) = m ((c.tc : Thread Cert.FwdARefIdeal.nD Cert.FwdARefIdeal.τ).loc Cert.FwdARefIdeal.main_arg2))
      ∧ r.2.sem = fun _ => 0)

def quiescent_FwdB [hFwdB : Cert.FwdB.Facts] : Prop :=
  ∀ (m : (ℓ : Loc Cert.FwdB.nD Cert.FwdB.τ Cert.FwdB.sig) → Buf (Elt Bits) ℓ) (g : Dev Cert.FwdB.nD → PrngReg), Pre_FwdB m →
    θ_run (Cert.FwdB.defs (F := Bits)) (onTc (τ := Cert.FwdB.τ) (Cert.FwdB.main (F := Bits))) ⟨m, fun _ => 0, g⟩ (fun r => (∀ c : Dev Cert.FwdB.nD,
      r.2.mem ((c.tc : Thread Cert.FwdB.nD Cert.FwdB.τ).loc Cert.FwdB.main_arg0) = m ((c.tc : Thread Cert.FwdB.nD Cert.FwdB.τ).loc Cert.FwdB.main_arg0)
      ∧ r.2.mem ((c.tc : Thread Cert.FwdB.nD Cert.FwdB.τ).loc Cert.FwdB.main_arg1) = m ((c.tc : Thread Cert.FwdB.nD Cert.FwdB.τ).loc Cert.FwdB.main_arg1)
      ∧ r.2.mem ((c.tc : Thread Cert.FwdB.nD Cert.FwdB.τ).loc Cert.FwdB.main_arg2) = m ((c.tc : Thread Cert.FwdB.nD Cert.FwdB.τ).loc Cert.FwdB.main_arg2))
      ∧ r.2.sem = fun _ => 0)

def quiescent_FwdBIdeal [hFwdBIdeal : Cert.FwdBIdeal.Facts] : Prop :=
  ∀ (m : (ℓ : Loc Cert.FwdBIdeal.nD Cert.FwdBIdeal.τ Cert.FwdBIdeal.sig) → Buf (Elt Ideal) ℓ) (g : Dev Cert.FwdBIdeal.nD → PrngReg), Pre_FwdBIdeal m →
    θ_run (Cert.FwdBIdeal.defs (F := Ideal)) (onTc (τ := Cert.FwdBIdeal.τ) (Cert.FwdBIdeal.main (F := Ideal))) ⟨m, fun _ => 0, g⟩ (fun r => (∀ c : Dev Cert.FwdBIdeal.nD,
      r.2.mem ((c.tc : Thread Cert.FwdBIdeal.nD Cert.FwdBIdeal.τ).loc Cert.FwdBIdeal.main_arg0) = m ((c.tc : Thread Cert.FwdBIdeal.nD Cert.FwdBIdeal.τ).loc Cert.FwdBIdeal.main_arg0)
      ∧ r.2.mem ((c.tc : Thread Cert.FwdBIdeal.nD Cert.FwdBIdeal.τ).loc Cert.FwdBIdeal.main_arg1) = m ((c.tc : Thread Cert.FwdBIdeal.nD Cert.FwdBIdeal.τ).loc Cert.FwdBIdeal.main_arg1)
      ∧ r.2.mem ((c.tc : Thread Cert.FwdBIdeal.nD Cert.FwdBIdeal.τ).loc Cert.FwdBIdeal.main_arg2) = m ((c.tc : Thread Cert.FwdBIdeal.nD Cert.FwdBIdeal.τ).loc Cert.FwdBIdeal.main_arg2))
      ∧ r.2.sem = fun _ => 0)

def quiescent_FwdBIdeal_pre_finite_b [hFwdBIdeal : Cert.FwdBIdeal.Facts] [hPre_finite_b : Cert.Pre_finite_b.Facts] : Prop :=
  ∀ (m : (ℓ : Loc Cert.FwdBIdeal.nD Cert.FwdBIdeal.τ Cert.FwdBIdeal.sig) → Buf (Elt Ideal) ℓ) (g : Dev Cert.FwdBIdeal.nD → PrngReg), Pre_FwdBIdeal_finite_b m →
    θ_run (Cert.FwdBIdeal.defs (F := Ideal)) (onTc (τ := Cert.FwdBIdeal.τ) (Cert.FwdBIdeal.main (F := Ideal))) ⟨m, fun _ => 0, g⟩ (fun r => (∀ c : Dev Cert.FwdBIdeal.nD,
      r.2.mem ((c.tc : Thread Cert.FwdBIdeal.nD Cert.FwdBIdeal.τ).loc Cert.FwdBIdeal.main_arg0) = m ((c.tc : Thread Cert.FwdBIdeal.nD Cert.FwdBIdeal.τ).loc Cert.FwdBIdeal.main_arg0)
      ∧ r.2.mem ((c.tc : Thread Cert.FwdBIdeal.nD Cert.FwdBIdeal.τ).loc Cert.FwdBIdeal.main_arg1) = m ((c.tc : Thread Cert.FwdBIdeal.nD Cert.FwdBIdeal.τ).loc Cert.FwdBIdeal.main_arg1)
      ∧ r.2.mem ((c.tc : Thread Cert.FwdBIdeal.nD Cert.FwdBIdeal.τ).loc Cert.FwdBIdeal.main_arg2) = m ((c.tc : Thread Cert.FwdBIdeal.nD Cert.FwdBIdeal.τ).loc Cert.FwdBIdeal.main_arg2))
      ∧ r.2.sem = fun _ => 0)

def quiescent_FwdBRefIdeal [hFwdBRefIdeal : Cert.FwdBRefIdeal.Facts] : Prop :=
  ∀ (m : (ℓ : Loc Cert.FwdBRefIdeal.nD Cert.FwdBRefIdeal.τ Cert.FwdBRefIdeal.sig) → Buf (Elt Ideal) ℓ) (g : Dev Cert.FwdBRefIdeal.nD → PrngReg), Pre_FwdBRefIdeal m →
    θ_run (Cert.FwdBRefIdeal.defs (F := Ideal)) (onTc (τ := Cert.FwdBRefIdeal.τ) (Cert.FwdBRefIdeal.main (F := Ideal))) ⟨m, fun _ => 0, g⟩ (fun r => (∀ c : Dev Cert.FwdBRefIdeal.nD,
      r.2.mem ((c.tc : Thread Cert.FwdBRefIdeal.nD Cert.FwdBRefIdeal.τ).loc Cert.FwdBRefIdeal.main_arg0) = m ((c.tc : Thread Cert.FwdBRefIdeal.nD Cert.FwdBRefIdeal.τ).loc Cert.FwdBRefIdeal.main_arg0)
      ∧ r.2.mem ((c.tc : Thread Cert.FwdBRefIdeal.nD Cert.FwdBRefIdeal.τ).loc Cert.FwdBRefIdeal.main_arg1) = m ((c.tc : Thread Cert.FwdBRefIdeal.nD Cert.FwdBRefIdeal.τ).loc Cert.FwdBRefIdeal.main_arg1)
      ∧ r.2.mem ((c.tc : Thread Cert.FwdBRefIdeal.nD Cert.FwdBRefIdeal.τ).loc Cert.FwdBRefIdeal.main_arg2) = m ((c.tc : Thread Cert.FwdBRefIdeal.nD Cert.FwdBRefIdeal.τ).loc Cert.FwdBRefIdeal.main_arg2))
      ∧ r.2.sem = fun _ => 0)

def quiescent_FwdBRefIdeal_pre_finite_b [hFwdBRefIdeal : Cert.FwdBRefIdeal.Facts] [hPre_finite_b : Cert.Pre_finite_b.Facts] : Prop :=
  ∀ (m : (ℓ : Loc Cert.FwdBRefIdeal.nD Cert.FwdBRefIdeal.τ Cert.FwdBRefIdeal.sig) → Buf (Elt Ideal) ℓ) (g : Dev Cert.FwdBRefIdeal.nD → PrngReg), Pre_FwdBRefIdeal_finite_b m →
    θ_run (Cert.FwdBRefIdeal.defs (F := Ideal)) (onTc (τ := Cert.FwdBRefIdeal.τ) (Cert.FwdBRefIdeal.main (F := Ideal))) ⟨m, fun _ => 0, g⟩ (fun r => (∀ c : Dev Cert.FwdBRefIdeal.nD,
      r.2.mem ((c.tc : Thread Cert.FwdBRefIdeal.nD Cert.FwdBRefIdeal.τ).loc Cert.FwdBRefIdeal.main_arg0) = m ((c.tc : Thread Cert.FwdBRefIdeal.nD Cert.FwdBRefIdeal.τ).loc Cert.FwdBRefIdeal.main_arg0)
      ∧ r.2.mem ((c.tc : Thread Cert.FwdBRefIdeal.nD Cert.FwdBRefIdeal.τ).loc Cert.FwdBRefIdeal.main_arg1) = m ((c.tc : Thread Cert.FwdBRefIdeal.nD Cert.FwdBRefIdeal.τ).loc Cert.FwdBRefIdeal.main_arg1)
      ∧ r.2.mem ((c.tc : Thread Cert.FwdBRefIdeal.nD Cert.FwdBRefIdeal.τ).loc Cert.FwdBRefIdeal.main_arg2) = m ((c.tc : Thread Cert.FwdBRefIdeal.nD Cert.FwdBRefIdeal.τ).loc Cert.FwdBRefIdeal.main_arg2))
      ∧ r.2.sem = fun _ => 0)

def quiescent_BwdA [hBwdA : Cert.BwdA.Facts] : Prop :=
  ∀ (m : (ℓ : Loc Cert.BwdA.nD Cert.BwdA.τ Cert.BwdA.sig) → Buf (Elt Bits) ℓ) (g : Dev Cert.BwdA.nD → PrngReg), Pre_BwdA m →
    θ_run (Cert.BwdA.defs (F := Bits)) (onTc (τ := Cert.BwdA.τ) (Cert.BwdA.main (F := Bits))) ⟨m, fun _ => 0, g⟩ (fun r => (∀ c : Dev Cert.BwdA.nD,
      r.2.mem ((c.tc : Thread Cert.BwdA.nD Cert.BwdA.τ).loc Cert.BwdA.main_arg0) = m ((c.tc : Thread Cert.BwdA.nD Cert.BwdA.τ).loc Cert.BwdA.main_arg0)
      ∧ r.2.mem ((c.tc : Thread Cert.BwdA.nD Cert.BwdA.τ).loc Cert.BwdA.main_arg1) = m ((c.tc : Thread Cert.BwdA.nD Cert.BwdA.τ).loc Cert.BwdA.main_arg1)
      ∧ r.2.mem ((c.tc : Thread Cert.BwdA.nD Cert.BwdA.τ).loc Cert.BwdA.main_arg2) = m ((c.tc : Thread Cert.BwdA.nD Cert.BwdA.τ).loc Cert.BwdA.main_arg2)
      ∧ r.2.mem ((c.tc : Thread Cert.BwdA.nD Cert.BwdA.τ).loc Cert.BwdA.main_arg3) = m ((c.tc : Thread Cert.BwdA.nD Cert.BwdA.τ).loc Cert.BwdA.main_arg3)
      ∧ r.2.mem ((c.tc : Thread Cert.BwdA.nD Cert.BwdA.τ).loc Cert.BwdA.main_arg4) = m ((c.tc : Thread Cert.BwdA.nD Cert.BwdA.τ).loc Cert.BwdA.main_arg4)
      ∧ r.2.mem ((c.tc : Thread Cert.BwdA.nD Cert.BwdA.τ).loc Cert.BwdA.main_arg5) = m ((c.tc : Thread Cert.BwdA.nD Cert.BwdA.τ).loc Cert.BwdA.main_arg5))
      ∧ r.2.sem = fun _ => 0)

def quiescent_BwdAIdeal [hBwdAIdeal : Cert.BwdAIdeal.Facts] : Prop :=
  ∀ (m : (ℓ : Loc Cert.BwdAIdeal.nD Cert.BwdAIdeal.τ Cert.BwdAIdeal.sig) → Buf (Elt Ideal) ℓ) (g : Dev Cert.BwdAIdeal.nD → PrngReg), Pre_BwdAIdeal m →
    θ_run (Cert.BwdAIdeal.defs (F := Ideal)) (onTc (τ := Cert.BwdAIdeal.τ) (Cert.BwdAIdeal.main (F := Ideal))) ⟨m, fun _ => 0, g⟩ (fun r => (∀ c : Dev Cert.BwdAIdeal.nD,
      r.2.mem ((c.tc : Thread Cert.BwdAIdeal.nD Cert.BwdAIdeal.τ).loc Cert.BwdAIdeal.main_arg0) = m ((c.tc : Thread Cert.BwdAIdeal.nD Cert.BwdAIdeal.τ).loc Cert.BwdAIdeal.main_arg0)
      ∧ r.2.mem ((c.tc : Thread Cert.BwdAIdeal.nD Cert.BwdAIdeal.τ).loc Cert.BwdAIdeal.main_arg1) = m ((c.tc : Thread Cert.BwdAIdeal.nD Cert.BwdAIdeal.τ).loc Cert.BwdAIdeal.main_arg1)
      ∧ r.2.mem ((c.tc : Thread Cert.BwdAIdeal.nD Cert.BwdAIdeal.τ).loc Cert.BwdAIdeal.main_arg2) = m ((c.tc : Thread Cert.BwdAIdeal.nD Cert.BwdAIdeal.τ).loc Cert.BwdAIdeal.main_arg2)
      ∧ r.2.mem ((c.tc : Thread Cert.BwdAIdeal.nD Cert.BwdAIdeal.τ).loc Cert.BwdAIdeal.main_arg3) = m ((c.tc : Thread Cert.BwdAIdeal.nD Cert.BwdAIdeal.τ).loc Cert.BwdAIdeal.main_arg3)
      ∧ r.2.mem ((c.tc : Thread Cert.BwdAIdeal.nD Cert.BwdAIdeal.τ).loc Cert.BwdAIdeal.main_arg4) = m ((c.tc : Thread Cert.BwdAIdeal.nD Cert.BwdAIdeal.τ).loc Cert.BwdAIdeal.main_arg4)
      ∧ r.2.mem ((c.tc : Thread Cert.BwdAIdeal.nD Cert.BwdAIdeal.τ).loc Cert.BwdAIdeal.main_arg5) = m ((c.tc : Thread Cert.BwdAIdeal.nD Cert.BwdAIdeal.τ).loc Cert.BwdAIdeal.main_arg5))
      ∧ r.2.sem = fun _ => 0)

def quiescent_BwdARefIdeal [hBwdARefIdeal : Cert.BwdARefIdeal.Facts] : Prop :=
  ∀ (m : (ℓ : Loc Cert.BwdARefIdeal.nD Cert.BwdARefIdeal.τ Cert.BwdARefIdeal.sig) → Buf (Elt Ideal) ℓ) (g : Dev Cert.BwdARefIdeal.nD → PrngReg), Pre_BwdARefIdeal m →
    θ_run (Cert.BwdARefIdeal.defs (F := Ideal)) (onTc (τ := Cert.BwdARefIdeal.τ) (Cert.BwdARefIdeal.main (F := Ideal))) ⟨m, fun _ => 0, g⟩ (fun r => (∀ c : Dev Cert.BwdARefIdeal.nD,
      r.2.mem ((c.tc : Thread Cert.BwdARefIdeal.nD Cert.BwdARefIdeal.τ).loc Cert.BwdARefIdeal.main_arg0) = m ((c.tc : Thread Cert.BwdARefIdeal.nD Cert.BwdARefIdeal.τ).loc Cert.BwdARefIdeal.main_arg0)
      ∧ r.2.mem ((c.tc : Thread Cert.BwdARefIdeal.nD Cert.BwdARefIdeal.τ).loc Cert.BwdARefIdeal.main_arg1) = m ((c.tc : Thread Cert.BwdARefIdeal.nD Cert.BwdARefIdeal.τ).loc Cert.BwdARefIdeal.main_arg1)
      ∧ r.2.mem ((c.tc : Thread Cert.BwdARefIdeal.nD Cert.BwdARefIdeal.τ).loc Cert.BwdARefIdeal.main_arg2) = m ((c.tc : Thread Cert.BwdARefIdeal.nD Cert.BwdARefIdeal.τ).loc Cert.BwdARefIdeal.main_arg2)
      ∧ r.2.mem ((c.tc : Thread Cert.BwdARefIdeal.nD Cert.BwdARefIdeal.τ).loc Cert.BwdARefIdeal.main_arg3) = m ((c.tc : Thread Cert.BwdARefIdeal.nD Cert.BwdARefIdeal.τ).loc Cert.BwdARefIdeal.main_arg3)
      ∧ r.2.mem ((c.tc : Thread Cert.BwdARefIdeal.nD Cert.BwdARefIdeal.τ).loc Cert.BwdARefIdeal.main_arg4) = m ((c.tc : Thread Cert.BwdARefIdeal.nD Cert.BwdARefIdeal.τ).loc Cert.BwdARefIdeal.main_arg4)
      ∧ r.2.mem ((c.tc : Thread Cert.BwdARefIdeal.nD Cert.BwdARefIdeal.τ).loc Cert.BwdARefIdeal.main_arg5) = m ((c.tc : Thread Cert.BwdARefIdeal.nD Cert.BwdARefIdeal.τ).loc Cert.BwdARefIdeal.main_arg5))
      ∧ r.2.sem = fun _ => 0)

def quiescent_BwdB [hBwdB : Cert.BwdB.Facts] : Prop :=
  ∀ (m : (ℓ : Loc Cert.BwdB.nD Cert.BwdB.τ Cert.BwdB.sig) → Buf (Elt Bits) ℓ) (g : Dev Cert.BwdB.nD → PrngReg), Pre_BwdB m →
    θ_run (Cert.BwdB.defs (F := Bits)) (onTc (τ := Cert.BwdB.τ) (Cert.BwdB.main (F := Bits))) ⟨m, fun _ => 0, g⟩ (fun r => (∀ c : Dev Cert.BwdB.nD,
      r.2.mem ((c.tc : Thread Cert.BwdB.nD Cert.BwdB.τ).loc Cert.BwdB.main_arg0) = m ((c.tc : Thread Cert.BwdB.nD Cert.BwdB.τ).loc Cert.BwdB.main_arg0)
      ∧ r.2.mem ((c.tc : Thread Cert.BwdB.nD Cert.BwdB.τ).loc Cert.BwdB.main_arg1) = m ((c.tc : Thread Cert.BwdB.nD Cert.BwdB.τ).loc Cert.BwdB.main_arg1)
      ∧ r.2.mem ((c.tc : Thread Cert.BwdB.nD Cert.BwdB.τ).loc Cert.BwdB.main_arg2) = m ((c.tc : Thread Cert.BwdB.nD Cert.BwdB.τ).loc Cert.BwdB.main_arg2)
      ∧ r.2.mem ((c.tc : Thread Cert.BwdB.nD Cert.BwdB.τ).loc Cert.BwdB.main_arg3) = m ((c.tc : Thread Cert.BwdB.nD Cert.BwdB.τ).loc Cert.BwdB.main_arg3)
      ∧ r.2.mem ((c.tc : Thread Cert.BwdB.nD Cert.BwdB.τ).loc Cert.BwdB.main_arg4) = m ((c.tc : Thread Cert.BwdB.nD Cert.BwdB.τ).loc Cert.BwdB.main_arg4)
      ∧ r.2.mem ((c.tc : Thread Cert.BwdB.nD Cert.BwdB.τ).loc Cert.BwdB.main_arg5) = m ((c.tc : Thread Cert.BwdB.nD Cert.BwdB.τ).loc Cert.BwdB.main_arg5))
      ∧ r.2.sem = fun _ => 0)

def quiescent_BwdBIdeal [hBwdBIdeal : Cert.BwdBIdeal.Facts] : Prop :=
  ∀ (m : (ℓ : Loc Cert.BwdBIdeal.nD Cert.BwdBIdeal.τ Cert.BwdBIdeal.sig) → Buf (Elt Ideal) ℓ) (g : Dev Cert.BwdBIdeal.nD → PrngReg), Pre_BwdBIdeal m →
    θ_run (Cert.BwdBIdeal.defs (F := Ideal)) (onTc (τ := Cert.BwdBIdeal.τ) (Cert.BwdBIdeal.main (F := Ideal))) ⟨m, fun _ => 0, g⟩ (fun r => (∀ c : Dev Cert.BwdBIdeal.nD,
      r.2.mem ((c.tc : Thread Cert.BwdBIdeal.nD Cert.BwdBIdeal.τ).loc Cert.BwdBIdeal.main_arg0) = m ((c.tc : Thread Cert.BwdBIdeal.nD Cert.BwdBIdeal.τ).loc Cert.BwdBIdeal.main_arg0)
      ∧ r.2.mem ((c.tc : Thread Cert.BwdBIdeal.nD Cert.BwdBIdeal.τ).loc Cert.BwdBIdeal.main_arg1) = m ((c.tc : Thread Cert.BwdBIdeal.nD Cert.BwdBIdeal.τ).loc Cert.BwdBIdeal.main_arg1)
      ∧ r.2.mem ((c.tc : Thread Cert.BwdBIdeal.nD Cert.BwdBIdeal.τ).loc Cert.BwdBIdeal.main_arg2) = m ((c.tc : Thread Cert.BwdBIdeal.nD Cert.BwdBIdeal.τ).loc Cert.BwdBIdeal.main_arg2)
      ∧ r.2.mem ((c.tc : Thread Cert.BwdBIdeal.nD Cert.BwdBIdeal.τ).loc Cert.BwdBIdeal.main_arg3) = m ((c.tc : Thread Cert.BwdBIdeal.nD Cert.BwdBIdeal.τ).loc Cert.BwdBIdeal.main_arg3)
      ∧ r.2.mem ((c.tc : Thread Cert.BwdBIdeal.nD Cert.BwdBIdeal.τ).loc Cert.BwdBIdeal.main_arg4) = m ((c.tc : Thread Cert.BwdBIdeal.nD Cert.BwdBIdeal.τ).loc Cert.BwdBIdeal.main_arg4)
      ∧ r.2.mem ((c.tc : Thread Cert.BwdBIdeal.nD Cert.BwdBIdeal.τ).loc Cert.BwdBIdeal.main_arg5) = m ((c.tc : Thread Cert.BwdBIdeal.nD Cert.BwdBIdeal.τ).loc Cert.BwdBIdeal.main_arg5))
      ∧ r.2.sem = fun _ => 0)

def quiescent_BwdBRefIdeal [hBwdBRefIdeal : Cert.BwdBRefIdeal.Facts] : Prop :=
  ∀ (m : (ℓ : Loc Cert.BwdBRefIdeal.nD Cert.BwdBRefIdeal.τ Cert.BwdBRefIdeal.sig) → Buf (Elt Ideal) ℓ) (g : Dev Cert.BwdBRefIdeal.nD → PrngReg), Pre_BwdBRefIdeal m →
    θ_run (Cert.BwdBRefIdeal.defs (F := Ideal)) (onTc (τ := Cert.BwdBRefIdeal.τ) (Cert.BwdBRefIdeal.main (F := Ideal))) ⟨m, fun _ => 0, g⟩ (fun r => (∀ c : Dev Cert.BwdBRefIdeal.nD,
      r.2.mem ((c.tc : Thread Cert.BwdBRefIdeal.nD Cert.BwdBRefIdeal.τ).loc Cert.BwdBRefIdeal.main_arg0) = m ((c.tc : Thread Cert.BwdBRefIdeal.nD Cert.BwdBRefIdeal.τ).loc Cert.BwdBRefIdeal.main_arg0)
      ∧ r.2.mem ((c.tc : Thread Cert.BwdBRefIdeal.nD Cert.BwdBRefIdeal.τ).loc Cert.BwdBRefIdeal.main_arg1) = m ((c.tc : Thread Cert.BwdBRefIdeal.nD Cert.BwdBRefIdeal.τ).loc Cert.BwdBRefIdeal.main_arg1)
      ∧ r.2.mem ((c.tc : Thread Cert.BwdBRefIdeal.nD Cert.BwdBRefIdeal.τ).loc Cert.BwdBRefIdeal.main_arg2) = m ((c.tc : Thread Cert.BwdBRefIdeal.nD Cert.BwdBRefIdeal.τ).loc Cert.BwdBRefIdeal.main_arg2)
      ∧ r.2.mem ((c.tc : Thread Cert.BwdBRefIdeal.nD Cert.BwdBRefIdeal.τ).loc Cert.BwdBRefIdeal.main_arg3) = m ((c.tc : Thread Cert.BwdBRefIdeal.nD Cert.BwdBRefIdeal.τ).loc Cert.BwdBRefIdeal.main_arg3)
      ∧ r.2.mem ((c.tc : Thread Cert.BwdBRefIdeal.nD Cert.BwdBRefIdeal.τ).loc Cert.BwdBRefIdeal.main_arg4) = m ((c.tc : Thread Cert.BwdBRefIdeal.nD Cert.BwdBRefIdeal.τ).loc Cert.BwdBRefIdeal.main_arg4)
      ∧ r.2.mem ((c.tc : Thread Cert.BwdBRefIdeal.nD Cert.BwdBRefIdeal.τ).loc Cert.BwdBRefIdeal.main_arg5) = m ((c.tc : Thread Cert.BwdBRefIdeal.nD Cert.BwdBRefIdeal.τ).loc Cert.BwdBRefIdeal.main_arg5))
      ∧ r.2.sem = fun _ => 0)

def quiescent_GradIn [hGradIn : Cert.GradIn.Facts] : Prop :=
  ∀ (m : (ℓ : Loc Cert.GradIn.nD Cert.GradIn.τ Cert.GradIn.sig) → Buf (Elt Bits) ℓ) (g : Dev Cert.GradIn.nD → PrngReg), Pre_GradIn m →
    θ_run (Cert.GradIn.defs (F := Bits)) (onTc (τ := Cert.GradIn.τ) (Cert.GradIn.main (F := Bits))) ⟨m, fun _ => 0, g⟩ (fun r => (∀ c : Dev Cert.GradIn.nD,
      r.2.mem ((c.tc : Thread Cert.GradIn.nD Cert.GradIn.τ).loc Cert.GradIn.main_arg0) = m ((c.tc : Thread Cert.GradIn.nD Cert.GradIn.τ).loc Cert.GradIn.main_arg0)
      ∧ r.2.mem ((c.tc : Thread Cert.GradIn.nD Cert.GradIn.τ).loc Cert.GradIn.main_arg1) = m ((c.tc : Thread Cert.GradIn.nD Cert.GradIn.τ).loc Cert.GradIn.main_arg1))
      ∧ r.2.sem = fun _ => 0)

def quiescent_GradInIdeal [hGradInIdeal : Cert.GradInIdeal.Facts] : Prop :=
  ∀ (m : (ℓ : Loc Cert.GradInIdeal.nD Cert.GradInIdeal.τ Cert.GradInIdeal.sig) → Buf (Elt Ideal) ℓ) (g : Dev Cert.GradInIdeal.nD → PrngReg), Pre_GradInIdeal m →
    θ_run (Cert.GradInIdeal.defs (F := Ideal)) (onTc (τ := Cert.GradInIdeal.τ) (Cert.GradInIdeal.main (F := Ideal))) ⟨m, fun _ => 0, g⟩ (fun r => (∀ c : Dev Cert.GradInIdeal.nD,
      r.2.mem ((c.tc : Thread Cert.GradInIdeal.nD Cert.GradInIdeal.τ).loc Cert.GradInIdeal.main_arg0) = m ((c.tc : Thread Cert.GradInIdeal.nD Cert.GradInIdeal.τ).loc Cert.GradInIdeal.main_arg0)
      ∧ r.2.mem ((c.tc : Thread Cert.GradInIdeal.nD Cert.GradInIdeal.τ).loc Cert.GradInIdeal.main_arg1) = m ((c.tc : Thread Cert.GradInIdeal.nD Cert.GradInIdeal.τ).loc Cert.GradInIdeal.main_arg1))
      ∧ r.2.sem = fun _ => 0)

def quiescent_GradInRefIdeal [hGradInRefIdeal : Cert.GradInRefIdeal.Facts] : Prop :=
  ∀ (m : (ℓ : Loc Cert.GradInRefIdeal.nD Cert.GradInRefIdeal.τ Cert.GradInRefIdeal.sig) → Buf (Elt Ideal) ℓ) (g : Dev Cert.GradInRefIdeal.nD → PrngReg), Pre_GradInRefIdeal m →
    θ_run (Cert.GradInRefIdeal.defs (F := Ideal)) (onTc (τ := Cert.GradInRefIdeal.τ) (Cert.GradInRefIdeal.main (F := Ideal))) ⟨m, fun _ => 0, g⟩ (fun r => (∀ c : Dev Cert.GradInRefIdeal.nD,
      r.2.mem ((c.tc : Thread Cert.GradInRefIdeal.nD Cert.GradInRefIdeal.τ).loc Cert.GradInRefIdeal.main_arg0) = m ((c.tc : Thread Cert.GradInRefIdeal.nD Cert.GradInRefIdeal.τ).loc Cert.GradInRefIdeal.main_arg0)
      ∧ r.2.mem ((c.tc : Thread Cert.GradInRefIdeal.nD Cert.GradInRefIdeal.τ).loc Cert.GradInRefIdeal.main_arg1) = m ((c.tc : Thread Cert.GradInRefIdeal.nD Cert.GradInRefIdeal.τ).loc Cert.GradInRefIdeal.main_arg1))
      ∧ r.2.sem = fun _ => 0)

def quiescent_GradOut [hGradOut : Cert.GradOut.Facts] : Prop :=
  ∀ (m : (ℓ : Loc Cert.GradOut.nD Cert.GradOut.τ Cert.GradOut.sig) → Buf (Elt Bits) ℓ) (g : Dev Cert.GradOut.nD → PrngReg), Pre_GradOut m →
    θ_run (Cert.GradOut.defs (F := Bits)) (onTc (τ := Cert.GradOut.τ) (Cert.GradOut.main (F := Bits))) ⟨m, fun _ => 0, g⟩ (fun r => (∀ c : Dev Cert.GradOut.nD,
      r.2.mem ((c.tc : Thread Cert.GradOut.nD Cert.GradOut.τ).loc Cert.GradOut.main_arg0) = m ((c.tc : Thread Cert.GradOut.nD Cert.GradOut.τ).loc Cert.GradOut.main_arg0)
      ∧ r.2.mem ((c.tc : Thread Cert.GradOut.nD Cert.GradOut.τ).loc Cert.GradOut.main_arg1) = m ((c.tc : Thread Cert.GradOut.nD Cert.GradOut.τ).loc Cert.GradOut.main_arg1))
      ∧ r.2.sem = fun _ => 0)

def quiescent_GradOutIdeal [hGradOutIdeal : Cert.GradOutIdeal.Facts] : Prop :=
  ∀ (m : (ℓ : Loc Cert.GradOutIdeal.nD Cert.GradOutIdeal.τ Cert.GradOutIdeal.sig) → Buf (Elt Ideal) ℓ) (g : Dev Cert.GradOutIdeal.nD → PrngReg), Pre_GradOutIdeal m →
    θ_run (Cert.GradOutIdeal.defs (F := Ideal)) (onTc (τ := Cert.GradOutIdeal.τ) (Cert.GradOutIdeal.main (F := Ideal))) ⟨m, fun _ => 0, g⟩ (fun r => (∀ c : Dev Cert.GradOutIdeal.nD,
      r.2.mem ((c.tc : Thread Cert.GradOutIdeal.nD Cert.GradOutIdeal.τ).loc Cert.GradOutIdeal.main_arg0) = m ((c.tc : Thread Cert.GradOutIdeal.nD Cert.GradOutIdeal.τ).loc Cert.GradOutIdeal.main_arg0)
      ∧ r.2.mem ((c.tc : Thread Cert.GradOutIdeal.nD Cert.GradOutIdeal.τ).loc Cert.GradOutIdeal.main_arg1) = m ((c.tc : Thread Cert.GradOutIdeal.nD Cert.GradOutIdeal.τ).loc Cert.GradOutIdeal.main_arg1))
      ∧ r.2.sem = fun _ => 0)

def quiescent_GradOutRefIdeal [hGradOutRefIdeal : Cert.GradOutRefIdeal.Facts] : Prop :=
  ∀ (m : (ℓ : Loc Cert.GradOutRefIdeal.nD Cert.GradOutRefIdeal.τ Cert.GradOutRefIdeal.sig) → Buf (Elt Ideal) ℓ) (g : Dev Cert.GradOutRefIdeal.nD → PrngReg), Pre_GradOutRefIdeal m →
    θ_run (Cert.GradOutRefIdeal.defs (F := Ideal)) (onTc (τ := Cert.GradOutRefIdeal.τ) (Cert.GradOutRefIdeal.main (F := Ideal))) ⟨m, fun _ => 0, g⟩ (fun r => (∀ c : Dev Cert.GradOutRefIdeal.nD,
      r.2.mem ((c.tc : Thread Cert.GradOutRefIdeal.nD Cert.GradOutRefIdeal.τ).loc Cert.GradOutRefIdeal.main_arg0) = m ((c.tc : Thread Cert.GradOutRefIdeal.nD Cert.GradOutRefIdeal.τ).loc Cert.GradOutRefIdeal.main_arg0)
      ∧ r.2.mem ((c.tc : Thread Cert.GradOutRefIdeal.nD Cert.GradOutRefIdeal.τ).loc Cert.GradOutRefIdeal.main_arg1) = m ((c.tc : Thread Cert.GradOutRefIdeal.nD Cert.GradOutRefIdeal.τ).loc Cert.GradOutRefIdeal.main_arg1))
      ∧ r.2.sem = fun _ => 0)

def quiescent_GradUq [hGradUq : Cert.GradUq.Facts] : Prop :=
  ∀ (m : (ℓ : Loc Cert.GradUq.nD Cert.GradUq.τ Cert.GradUq.sig) → Buf (Elt Bits) ℓ) (g : Dev Cert.GradUq.nD → PrngReg), Pre_GradUq m →
    θ_run (Cert.GradUq.defs (F := Bits)) (onTc (τ := Cert.GradUq.τ) (Cert.GradUq.main (F := Bits))) ⟨m, fun _ => 0, g⟩ (fun r => (∀ c : Dev Cert.GradUq.nD,
      r.2.mem ((c.tc : Thread Cert.GradUq.nD Cert.GradUq.τ).loc Cert.GradUq.main_arg0) = m ((c.tc : Thread Cert.GradUq.nD Cert.GradUq.τ).loc Cert.GradUq.main_arg0)
      ∧ r.2.mem ((c.tc : Thread Cert.GradUq.nD Cert.GradUq.τ).loc Cert.GradUq.main_arg1) = m ((c.tc : Thread Cert.GradUq.nD Cert.GradUq.τ).loc Cert.GradUq.main_arg1))
      ∧ r.2.sem = fun _ => 0)

def quiescent_GradUqIdeal [hGradUqIdeal : Cert.GradUqIdeal.Facts] : Prop :=
  ∀ (m : (ℓ : Loc Cert.GradUqIdeal.nD Cert.GradUqIdeal.τ Cert.GradUqIdeal.sig) → Buf (Elt Ideal) ℓ) (g : Dev Cert.GradUqIdeal.nD → PrngReg), Pre_GradUqIdeal m →
    θ_run (Cert.GradUqIdeal.defs (F := Ideal)) (onTc (τ := Cert.GradUqIdeal.τ) (Cert.GradUqIdeal.main (F := Ideal))) ⟨m, fun _ => 0, g⟩ (fun r => (∀ c : Dev Cert.GradUqIdeal.nD,
      r.2.mem ((c.tc : Thread Cert.GradUqIdeal.nD Cert.GradUqIdeal.τ).loc Cert.GradUqIdeal.main_arg0) = m ((c.tc : Thread Cert.GradUqIdeal.nD Cert.GradUqIdeal.τ).loc Cert.GradUqIdeal.main_arg0)
      ∧ r.2.mem ((c.tc : Thread Cert.GradUqIdeal.nD Cert.GradUqIdeal.τ).loc Cert.GradUqIdeal.main_arg1) = m ((c.tc : Thread Cert.GradUqIdeal.nD Cert.GradUqIdeal.τ).loc Cert.GradUqIdeal.main_arg1))
      ∧ r.2.sem = fun _ => 0)

def quiescent_GradUqRefIdeal [hGradUqRefIdeal : Cert.GradUqRefIdeal.Facts] : Prop :=
  ∀ (m : (ℓ : Loc Cert.GradUqRefIdeal.nD Cert.GradUqRefIdeal.τ Cert.GradUqRefIdeal.sig) → Buf (Elt Ideal) ℓ) (g : Dev Cert.GradUqRefIdeal.nD → PrngReg), Pre_GradUqRefIdeal m →
    θ_run (Cert.GradUqRefIdeal.defs (F := Ideal)) (onTc (τ := Cert.GradUqRefIdeal.τ) (Cert.GradUqRefIdeal.main (F := Ideal))) ⟨m, fun _ => 0, g⟩ (fun r => (∀ c : Dev Cert.GradUqRefIdeal.nD,
      r.2.mem ((c.tc : Thread Cert.GradUqRefIdeal.nD Cert.GradUqRefIdeal.τ).loc Cert.GradUqRefIdeal.main_arg0) = m ((c.tc : Thread Cert.GradUqRefIdeal.nD Cert.GradUqRefIdeal.τ).loc Cert.GradUqRefIdeal.main_arg0)
      ∧ r.2.mem ((c.tc : Thread Cert.GradUqRefIdeal.nD Cert.GradUqRefIdeal.τ).loc Cert.GradUqRefIdeal.main_arg1) = m ((c.tc : Thread Cert.GradUqRefIdeal.nD Cert.GradUqRefIdeal.τ).loc Cert.GradUqRefIdeal.main_arg1))
      ∧ r.2.sem = fun _ => 0)

def quiescent_GradUkv [hGradUkv : Cert.GradUkv.Facts] : Prop :=
  ∀ (m : (ℓ : Loc Cert.GradUkv.nD Cert.GradUkv.τ Cert.GradUkv.sig) → Buf (Elt Bits) ℓ) (g : Dev Cert.GradUkv.nD → PrngReg), Pre_GradUkv m →
    θ_run (Cert.GradUkv.defs (F := Bits)) (onTc (τ := Cert.GradUkv.τ) (Cert.GradUkv.main (F := Bits))) ⟨m, fun _ => 0, g⟩ (fun r => (∀ c : Dev Cert.GradUkv.nD,
      r.2.mem ((c.tc : Thread Cert.GradUkv.nD Cert.GradUkv.τ).loc Cert.GradUkv.main_arg0) = m ((c.tc : Thread Cert.GradUkv.nD Cert.GradUkv.τ).loc Cert.GradUkv.main_arg0)
      ∧ r.2.mem ((c.tc : Thread Cert.GradUkv.nD Cert.GradUkv.τ).loc Cert.GradUkv.main_arg1) = m ((c.tc : Thread Cert.GradUkv.nD Cert.GradUkv.τ).loc Cert.GradUkv.main_arg1))
      ∧ r.2.sem = fun _ => 0)

def quiescent_GradUkvIdeal [hGradUkvIdeal : Cert.GradUkvIdeal.Facts] : Prop :=
  ∀ (m : (ℓ : Loc Cert.GradUkvIdeal.nD Cert.GradUkvIdeal.τ Cert.GradUkvIdeal.sig) → Buf (Elt Ideal) ℓ) (g : Dev Cert.GradUkvIdeal.nD → PrngReg), Pre_GradUkvIdeal m →
    θ_run (Cert.GradUkvIdeal.defs (F := Ideal)) (onTc (τ := Cert.GradUkvIdeal.τ) (Cert.GradUkvIdeal.main (F := Ideal))) ⟨m, fun _ => 0, g⟩ (fun r => (∀ c : Dev Cert.GradUkvIdeal.nD,
      r.2.mem ((c.tc : Thread Cert.GradUkvIdeal.nD Cert.GradUkvIdeal.τ).loc Cert.GradUkvIdeal.main_arg0) = m ((c.tc : Thread Cert.GradUkvIdeal.nD Cert.GradUkvIdeal.τ).loc Cert.GradUkvIdeal.main_arg0)
      ∧ r.2.mem ((c.tc : Thread Cert.GradUkvIdeal.nD Cert.GradUkvIdeal.τ).loc Cert.GradUkvIdeal.main_arg1) = m ((c.tc : Thread Cert.GradUkvIdeal.nD Cert.GradUkvIdeal.τ).loc Cert.GradUkvIdeal.main_arg1))
      ∧ r.2.sem = fun _ => 0)

def quiescent_GradUkvRefIdeal [hGradUkvRefIdeal : Cert.GradUkvRefIdeal.Facts] : Prop :=
  ∀ (m : (ℓ : Loc Cert.GradUkvRefIdeal.nD Cert.GradUkvRefIdeal.τ Cert.GradUkvRefIdeal.sig) → Buf (Elt Ideal) ℓ) (g : Dev Cert.GradUkvRefIdeal.nD → PrngReg), Pre_GradUkvRefIdeal m →
    θ_run (Cert.GradUkvRefIdeal.defs (F := Ideal)) (onTc (τ := Cert.GradUkvRefIdeal.τ) (Cert.GradUkvRefIdeal.main (F := Ideal))) ⟨m, fun _ => 0, g⟩ (fun r => (∀ c : Dev Cert.GradUkvRefIdeal.nD,
      r.2.mem ((c.tc : Thread Cert.GradUkvRefIdeal.nD Cert.GradUkvRefIdeal.τ).loc Cert.GradUkvRefIdeal.main_arg0) = m ((c.tc : Thread Cert.GradUkvRefIdeal.nD Cert.GradUkvRefIdeal.τ).loc Cert.GradUkvRefIdeal.main_arg0)
      ∧ r.2.mem ((c.tc : Thread Cert.GradUkvRefIdeal.nD Cert.GradUkvRefIdeal.τ).loc Cert.GradUkvRefIdeal.main_arg1) = m ((c.tc : Thread Cert.GradUkvRefIdeal.nD Cert.GradUkvRefIdeal.τ).loc Cert.GradUkvRefIdeal.main_arg1))
      ∧ r.2.sem = fun _ => 0)

def quiescent_Mid [hMid : Cert.Mid.Facts] : Prop :=
  ∀ (m : (ℓ : Loc Cert.Mid.nD Cert.Mid.τ Cert.Mid.sig) → Buf (Elt Bits) ℓ) (g : Dev Cert.Mid.nD → PrngReg), Pre_Mid m →
    θ_run (Cert.Mid.defs (F := Bits)) (onTc (τ := Cert.Mid.τ) (Cert.Mid.main (F := Bits))) ⟨m, fun _ => 0, g⟩ (fun r => (∀ c : Dev Cert.Mid.nD,
      r.2.mem ((c.tc : Thread Cert.Mid.nD Cert.Mid.τ).loc Cert.Mid.main_arg0) = m ((c.tc : Thread Cert.Mid.nD Cert.Mid.τ).loc Cert.Mid.main_arg0)
      ∧ r.2.mem ((c.tc : Thread Cert.Mid.nD Cert.Mid.τ).loc Cert.Mid.main_arg1) = m ((c.tc : Thread Cert.Mid.nD Cert.Mid.τ).loc Cert.Mid.main_arg1)
      ∧ r.2.mem ((c.tc : Thread Cert.Mid.nD Cert.Mid.τ).loc Cert.Mid.main_arg2) = m ((c.tc : Thread Cert.Mid.nD Cert.Mid.τ).loc Cert.Mid.main_arg2)
      ∧ r.2.mem ((c.tc : Thread Cert.Mid.nD Cert.Mid.τ).loc Cert.Mid.main_arg3) = m ((c.tc : Thread Cert.Mid.nD Cert.Mid.τ).loc Cert.Mid.main_arg3)
      ∧ r.2.mem ((c.tc : Thread Cert.Mid.nD Cert.Mid.τ).loc Cert.Mid.main_arg4) = m ((c.tc : Thread Cert.Mid.nD Cert.Mid.τ).loc Cert.Mid.main_arg4)
      ∧ r.2.mem ((c.tc : Thread Cert.Mid.nD Cert.Mid.τ).loc Cert.Mid.main_arg5) = m ((c.tc : Thread Cert.Mid.nD Cert.Mid.τ).loc Cert.Mid.main_arg5))
      ∧ r.2.sem = fun _ => 0)

def quiescent_MidIdeal [hMidIdeal : Cert.MidIdeal.Facts] : Prop :=
  ∀ (m : (ℓ : Loc Cert.MidIdeal.nD Cert.MidIdeal.τ Cert.MidIdeal.sig) → Buf (Elt Ideal) ℓ) (g : Dev Cert.MidIdeal.nD → PrngReg), Pre_MidIdeal m →
    θ_run (Cert.MidIdeal.defs (F := Ideal)) (onTc (τ := Cert.MidIdeal.τ) (Cert.MidIdeal.main (F := Ideal))) ⟨m, fun _ => 0, g⟩ (fun r => (∀ c : Dev Cert.MidIdeal.nD,
      r.2.mem ((c.tc : Thread Cert.MidIdeal.nD Cert.MidIdeal.τ).loc Cert.MidIdeal.main_arg0) = m ((c.tc : Thread Cert.MidIdeal.nD Cert.MidIdeal.τ).loc Cert.MidIdeal.main_arg0)
      ∧ r.2.mem ((c.tc : Thread Cert.MidIdeal.nD Cert.MidIdeal.τ).loc Cert.MidIdeal.main_arg1) = m ((c.tc : Thread Cert.MidIdeal.nD Cert.MidIdeal.τ).loc Cert.MidIdeal.main_arg1)
      ∧ r.2.mem ((c.tc : Thread Cert.MidIdeal.nD Cert.MidIdeal.τ).loc Cert.MidIdeal.main_arg2) = m ((c.tc : Thread Cert.MidIdeal.nD Cert.MidIdeal.τ).loc Cert.MidIdeal.main_arg2)
      ∧ r.2.mem ((c.tc : Thread Cert.MidIdeal.nD Cert.MidIdeal.τ).loc Cert.MidIdeal.main_arg3) = m ((c.tc : Thread Cert.MidIdeal.nD Cert.MidIdeal.τ).loc Cert.MidIdeal.main_arg3)
      ∧ r.2.mem ((c.tc : Thread Cert.MidIdeal.nD Cert.MidIdeal.τ).loc Cert.MidIdeal.main_arg4) = m ((c.tc : Thread Cert.MidIdeal.nD Cert.MidIdeal.τ).loc Cert.MidIdeal.main_arg4)
      ∧ r.2.mem ((c.tc : Thread Cert.MidIdeal.nD Cert.MidIdeal.τ).loc Cert.MidIdeal.main_arg5) = m ((c.tc : Thread Cert.MidIdeal.nD Cert.MidIdeal.τ).loc Cert.MidIdeal.main_arg5))
      ∧ r.2.sem = fun _ => 0)

def quiescent_MidRefIdeal [hMidRefIdeal : Cert.MidRefIdeal.Facts] : Prop :=
  ∀ (m : (ℓ : Loc Cert.MidRefIdeal.nD Cert.MidRefIdeal.τ Cert.MidRefIdeal.sig) → Buf (Elt Ideal) ℓ) (g : Dev Cert.MidRefIdeal.nD → PrngReg), Pre_MidRefIdeal m →
    θ_run (Cert.MidRefIdeal.defs (F := Ideal)) (onTc (τ := Cert.MidRefIdeal.τ) (Cert.MidRefIdeal.main (F := Ideal))) ⟨m, fun _ => 0, g⟩ (fun r => (∀ c : Dev Cert.MidRefIdeal.nD,
      r.2.mem ((c.tc : Thread Cert.MidRefIdeal.nD Cert.MidRefIdeal.τ).loc Cert.MidRefIdeal.main_arg0) = m ((c.tc : Thread Cert.MidRefIdeal.nD Cert.MidRefIdeal.τ).loc Cert.MidRefIdeal.main_arg0)
      ∧ r.2.mem ((c.tc : Thread Cert.MidRefIdeal.nD Cert.MidRefIdeal.τ).loc Cert.MidRefIdeal.main_arg1) = m ((c.tc : Thread Cert.MidRefIdeal.nD Cert.MidRefIdeal.τ).loc Cert.MidRefIdeal.main_arg1)
      ∧ r.2.mem ((c.tc : Thread Cert.MidRefIdeal.nD Cert.MidRefIdeal.τ).loc Cert.MidRefIdeal.main_arg2) = m ((c.tc : Thread Cert.MidRefIdeal.nD Cert.MidRefIdeal.τ).loc Cert.MidRefIdeal.main_arg2)
      ∧ r.2.mem ((c.tc : Thread Cert.MidRefIdeal.nD Cert.MidRefIdeal.τ).loc Cert.MidRefIdeal.main_arg3) = m ((c.tc : Thread Cert.MidRefIdeal.nD Cert.MidRefIdeal.τ).loc Cert.MidRefIdeal.main_arg3)
      ∧ r.2.mem ((c.tc : Thread Cert.MidRefIdeal.nD Cert.MidRefIdeal.τ).loc Cert.MidRefIdeal.main_arg4) = m ((c.tc : Thread Cert.MidRefIdeal.nD Cert.MidRefIdeal.τ).loc Cert.MidRefIdeal.main_arg4)
      ∧ r.2.mem ((c.tc : Thread Cert.MidRefIdeal.nD Cert.MidRefIdeal.τ).loc Cert.MidRefIdeal.main_arg5) = m ((c.tc : Thread Cert.MidRefIdeal.nD Cert.MidRefIdeal.τ).loc Cert.MidRefIdeal.main_arg5))
      ∧ r.2.sem = fun _ => 0)

def quiescent_Adam [hAdam : Cert.Adam.Facts] : Prop :=
  ∀ (m : (ℓ : Loc Cert.Adam.nD Cert.Adam.τ Cert.Adam.sig) → Buf (Elt Bits) ℓ) (g : Dev Cert.Adam.nD → PrngReg), Pre_Adam m →
    θ_run (Cert.Adam.defs (F := Bits)) (onTc (τ := Cert.Adam.τ) (Cert.Adam.main (F := Bits))) ⟨m, fun _ => 0, g⟩ (fun r => (∀ c : Dev Cert.Adam.nD,
      r.2.mem ((c.tc : Thread Cert.Adam.nD Cert.Adam.τ).loc Cert.Adam.main_arg0) = m ((c.tc : Thread Cert.Adam.nD Cert.Adam.τ).loc Cert.Adam.main_arg0)
      ∧ r.2.mem ((c.tc : Thread Cert.Adam.nD Cert.Adam.τ).loc Cert.Adam.main_arg1) = m ((c.tc : Thread Cert.Adam.nD Cert.Adam.τ).loc Cert.Adam.main_arg1)
      ∧ r.2.mem ((c.tc : Thread Cert.Adam.nD Cert.Adam.τ).loc Cert.Adam.main_arg2) = m ((c.tc : Thread Cert.Adam.nD Cert.Adam.τ).loc Cert.Adam.main_arg2)
      ∧ r.2.mem ((c.tc : Thread Cert.Adam.nD Cert.Adam.τ).loc Cert.Adam.main_arg3) = m ((c.tc : Thread Cert.Adam.nD Cert.Adam.τ).loc Cert.Adam.main_arg3)
      ∧ r.2.mem ((c.tc : Thread Cert.Adam.nD Cert.Adam.τ).loc Cert.Adam.main_arg4) = m ((c.tc : Thread Cert.Adam.nD Cert.Adam.τ).loc Cert.Adam.main_arg4)
      ∧ r.2.mem ((c.tc : Thread Cert.Adam.nD Cert.Adam.τ).loc Cert.Adam.main_arg5) = m ((c.tc : Thread Cert.Adam.nD Cert.Adam.τ).loc Cert.Adam.main_arg5)
      ∧ r.2.mem ((c.tc : Thread Cert.Adam.nD Cert.Adam.τ).loc Cert.Adam.main_arg6) = m ((c.tc : Thread Cert.Adam.nD Cert.Adam.τ).loc Cert.Adam.main_arg6)
      ∧ r.2.mem ((c.tc : Thread Cert.Adam.nD Cert.Adam.τ).loc Cert.Adam.main_arg7) = m ((c.tc : Thread Cert.Adam.nD Cert.Adam.τ).loc Cert.Adam.main_arg7)
      ∧ r.2.mem ((c.tc : Thread Cert.Adam.nD Cert.Adam.τ).loc Cert.Adam.main_arg8) = m ((c.tc : Thread Cert.Adam.nD Cert.Adam.τ).loc Cert.Adam.main_arg8)
      ∧ r.2.mem ((c.tc : Thread Cert.Adam.nD Cert.Adam.τ).loc Cert.Adam.main_arg9) = m ((c.tc : Thread Cert.Adam.nD Cert.Adam.τ).loc Cert.Adam.main_arg9)
      ∧ r.2.mem ((c.tc : Thread Cert.Adam.nD Cert.Adam.τ).loc Cert.Adam.main_arg10) = m ((c.tc : Thread Cert.Adam.nD Cert.Adam.τ).loc Cert.Adam.main_arg10)
      ∧ r.2.mem ((c.tc : Thread Cert.Adam.nD Cert.Adam.τ).loc Cert.Adam.main_arg11) = m ((c.tc : Thread Cert.Adam.nD Cert.Adam.τ).loc Cert.Adam.main_arg11)
      ∧ r.2.mem ((c.tc : Thread Cert.Adam.nD Cert.Adam.τ).loc Cert.Adam.main_arg12) = m ((c.tc : Thread Cert.Adam.nD Cert.Adam.τ).loc Cert.Adam.main_arg12)
      ∧ r.2.mem ((c.tc : Thread Cert.Adam.nD Cert.Adam.τ).loc Cert.Adam.main_arg13) = m ((c.tc : Thread Cert.Adam.nD Cert.Adam.τ).loc Cert.Adam.main_arg13)
      ∧ r.2.mem ((c.tc : Thread Cert.Adam.nD Cert.Adam.τ).loc Cert.Adam.main_arg14) = m ((c.tc : Thread Cert.Adam.nD Cert.Adam.τ).loc Cert.Adam.main_arg14)
      ∧ r.2.mem ((c.tc : Thread Cert.Adam.nD Cert.Adam.τ).loc Cert.Adam.main_arg15) = m ((c.tc : Thread Cert.Adam.nD Cert.Adam.τ).loc Cert.Adam.main_arg15)
      ∧ r.2.mem ((c.tc : Thread Cert.Adam.nD Cert.Adam.τ).loc Cert.Adam.main_arg16) = m ((c.tc : Thread Cert.Adam.nD Cert.Adam.τ).loc Cert.Adam.main_arg16)
      ∧ r.2.mem ((c.tc : Thread Cert.Adam.nD Cert.Adam.τ).loc Cert.Adam.main_arg17) = m ((c.tc : Thread Cert.Adam.nD Cert.Adam.τ).loc Cert.Adam.main_arg17)
      ∧ r.2.mem ((c.tc : Thread Cert.Adam.nD Cert.Adam.τ).loc Cert.Adam.main_arg18) = m ((c.tc : Thread Cert.Adam.nD Cert.Adam.τ).loc Cert.Adam.main_arg18)
      ∧ r.2.mem ((c.tc : Thread Cert.Adam.nD Cert.Adam.τ).loc Cert.Adam.main_arg19) = m ((c.tc : Thread Cert.Adam.nD Cert.Adam.τ).loc Cert.Adam.main_arg19)
      ∧ r.2.mem ((c.tc : Thread Cert.Adam.nD Cert.Adam.τ).loc Cert.Adam.main_arg20) = m ((c.tc : Thread Cert.Adam.nD Cert.Adam.τ).loc Cert.Adam.main_arg20)
      ∧ r.2.mem ((c.tc : Thread Cert.Adam.nD Cert.Adam.τ).loc Cert.Adam.main_arg21) = m ((c.tc : Thread Cert.Adam.nD Cert.Adam.τ).loc Cert.Adam.main_arg21)
      ∧ r.2.mem ((c.tc : Thread Cert.Adam.nD Cert.Adam.τ).loc Cert.Adam.main_arg22) = m ((c.tc : Thread Cert.Adam.nD Cert.Adam.τ).loc Cert.Adam.main_arg22)
      ∧ r.2.mem ((c.tc : Thread Cert.Adam.nD Cert.Adam.τ).loc Cert.Adam.main_arg23) = m ((c.tc : Thread Cert.Adam.nD Cert.Adam.τ).loc Cert.Adam.main_arg23)
      ∧ r.2.mem ((c.tc : Thread Cert.Adam.nD Cert.Adam.τ).loc Cert.Adam.main_arg24) = m ((c.tc : Thread Cert.Adam.nD Cert.Adam.τ).loc Cert.Adam.main_arg24)
      ∧ r.2.mem ((c.tc : Thread Cert.Adam.nD Cert.Adam.τ).loc Cert.Adam.main_arg25) = m ((c.tc : Thread Cert.Adam.nD Cert.Adam.τ).loc Cert.Adam.main_arg25)
      ∧ r.2.mem ((c.tc : Thread Cert.Adam.nD Cert.Adam.τ).loc Cert.Adam.main_arg26) = m ((c.tc : Thread Cert.Adam.nD Cert.Adam.τ).loc Cert.Adam.main_arg26)
      ∧ r.2.mem ((c.tc : Thread Cert.Adam.nD Cert.Adam.τ).loc Cert.Adam.main_arg27) = m ((c.tc : Thread Cert.Adam.nD Cert.Adam.τ).loc Cert.Adam.main_arg27)
      ∧ r.2.mem ((c.tc : Thread Cert.Adam.nD Cert.Adam.τ).loc Cert.Adam.main_arg28) = m ((c.tc : Thread Cert.Adam.nD Cert.Adam.τ).loc Cert.Adam.main_arg28)
      ∧ r.2.mem ((c.tc : Thread Cert.Adam.nD Cert.Adam.τ).loc Cert.Adam.main_arg29) = m ((c.tc : Thread Cert.Adam.nD Cert.Adam.τ).loc Cert.Adam.main_arg29)
      ∧ r.2.mem ((c.tc : Thread Cert.Adam.nD Cert.Adam.τ).loc Cert.Adam.main_arg30) = m ((c.tc : Thread Cert.Adam.nD Cert.Adam.τ).loc Cert.Adam.main_arg30)
      ∧ r.2.mem ((c.tc : Thread Cert.Adam.nD Cert.Adam.τ).loc Cert.Adam.main_arg31) = m ((c.tc : Thread Cert.Adam.nD Cert.Adam.τ).loc Cert.Adam.main_arg31)
      ∧ r.2.mem ((c.tc : Thread Cert.Adam.nD Cert.Adam.τ).loc Cert.Adam.main_arg32) = m ((c.tc : Thread Cert.Adam.nD Cert.Adam.τ).loc Cert.Adam.main_arg32)
      ∧ r.2.mem ((c.tc : Thread Cert.Adam.nD Cert.Adam.τ).loc Cert.Adam.main_arg33) = m ((c.tc : Thread Cert.Adam.nD Cert.Adam.τ).loc Cert.Adam.main_arg33)
      ∧ r.2.mem ((c.tc : Thread Cert.Adam.nD Cert.Adam.τ).loc Cert.Adam.main_arg34) = m ((c.tc : Thread Cert.Adam.nD Cert.Adam.τ).loc Cert.Adam.main_arg34)
      ∧ r.2.mem ((c.tc : Thread Cert.Adam.nD Cert.Adam.τ).loc Cert.Adam.main_arg35) = m ((c.tc : Thread Cert.Adam.nD Cert.Adam.τ).loc Cert.Adam.main_arg35)
      ∧ r.2.mem ((c.tc : Thread Cert.Adam.nD Cert.Adam.τ).loc Cert.Adam.main_arg36) = m ((c.tc : Thread Cert.Adam.nD Cert.Adam.τ).loc Cert.Adam.main_arg36)
      ∧ r.2.mem ((c.tc : Thread Cert.Adam.nD Cert.Adam.τ).loc Cert.Adam.main_arg37) = m ((c.tc : Thread Cert.Adam.nD Cert.Adam.τ).loc Cert.Adam.main_arg37)
      ∧ r.2.mem ((c.tc : Thread Cert.Adam.nD Cert.Adam.τ).loc Cert.Adam.main_arg38) = m ((c.tc : Thread Cert.Adam.nD Cert.Adam.τ).loc Cert.Adam.main_arg38)
      ∧ r.2.mem ((c.tc : Thread Cert.Adam.nD Cert.Adam.τ).loc Cert.Adam.main_arg39) = m ((c.tc : Thread Cert.Adam.nD Cert.Adam.τ).loc Cert.Adam.main_arg39)
      ∧ r.2.mem ((c.tc : Thread Cert.Adam.nD Cert.Adam.τ).loc Cert.Adam.main_arg40) = m ((c.tc : Thread Cert.Adam.nD Cert.Adam.τ).loc Cert.Adam.main_arg40)
      ∧ r.2.mem ((c.tc : Thread Cert.Adam.nD Cert.Adam.τ).loc Cert.Adam.main_arg41) = m ((c.tc : Thread Cert.Adam.nD Cert.Adam.τ).loc Cert.Adam.main_arg41)
      ∧ r.2.mem ((c.tc : Thread Cert.Adam.nD Cert.Adam.τ).loc Cert.Adam.main_arg42) = m ((c.tc : Thread Cert.Adam.nD Cert.Adam.τ).loc Cert.Adam.main_arg42)
      ∧ r.2.mem ((c.tc : Thread Cert.Adam.nD Cert.Adam.τ).loc Cert.Adam.main_arg43) = m ((c.tc : Thread Cert.Adam.nD Cert.Adam.τ).loc Cert.Adam.main_arg43))
      ∧ r.2.sem = fun _ => 0)

def quiescent_AdamIdeal [hAdamIdeal : Cert.AdamIdeal.Facts] : Prop :=
  ∀ (m : (ℓ : Loc Cert.AdamIdeal.nD Cert.AdamIdeal.τ Cert.AdamIdeal.sig) → Buf (Elt Ideal) ℓ) (g : Dev Cert.AdamIdeal.nD → PrngReg), Pre_AdamIdeal m →
    θ_run (Cert.AdamIdeal.defs (F := Ideal)) (onTc (τ := Cert.AdamIdeal.τ) (Cert.AdamIdeal.main (F := Ideal))) ⟨m, fun _ => 0, g⟩ (fun r => (∀ c : Dev Cert.AdamIdeal.nD,
      r.2.mem ((c.tc : Thread Cert.AdamIdeal.nD Cert.AdamIdeal.τ).loc Cert.AdamIdeal.main_arg0) = m ((c.tc : Thread Cert.AdamIdeal.nD Cert.AdamIdeal.τ).loc Cert.AdamIdeal.main_arg0)
      ∧ r.2.mem ((c.tc : Thread Cert.AdamIdeal.nD Cert.AdamIdeal.τ).loc Cert.AdamIdeal.main_arg1) = m ((c.tc : Thread Cert.AdamIdeal.nD Cert.AdamIdeal.τ).loc Cert.AdamIdeal.main_arg1)
      ∧ r.2.mem ((c.tc : Thread Cert.AdamIdeal.nD Cert.AdamIdeal.τ).loc Cert.AdamIdeal.main_arg2) = m ((c.tc : Thread Cert.AdamIdeal.nD Cert.AdamIdeal.τ).loc Cert.AdamIdeal.main_arg2)
      ∧ r.2.mem ((c.tc : Thread Cert.AdamIdeal.nD Cert.AdamIdeal.τ).loc Cert.AdamIdeal.main_arg3) = m ((c.tc : Thread Cert.AdamIdeal.nD Cert.AdamIdeal.τ).loc Cert.AdamIdeal.main_arg3)
      ∧ r.2.mem ((c.tc : Thread Cert.AdamIdeal.nD Cert.AdamIdeal.τ).loc Cert.AdamIdeal.main_arg4) = m ((c.tc : Thread Cert.AdamIdeal.nD Cert.AdamIdeal.τ).loc Cert.AdamIdeal.main_arg4)
      ∧ r.2.mem ((c.tc : Thread Cert.AdamIdeal.nD Cert.AdamIdeal.τ).loc Cert.AdamIdeal.main_arg5) = m ((c.tc : Thread Cert.AdamIdeal.nD Cert.AdamIdeal.τ).loc Cert.AdamIdeal.main_arg5)
      ∧ r.2.mem ((c.tc : Thread Cert.AdamIdeal.nD Cert.AdamIdeal.τ).loc Cert.AdamIdeal.main_arg6) = m ((c.tc : Thread Cert.AdamIdeal.nD Cert.AdamIdeal.τ).loc Cert.AdamIdeal.main_arg6)
      ∧ r.2.mem ((c.tc : Thread Cert.AdamIdeal.nD Cert.AdamIdeal.τ).loc Cert.AdamIdeal.main_arg7) = m ((c.tc : Thread Cert.AdamIdeal.nD Cert.AdamIdeal.τ).loc Cert.AdamIdeal.main_arg7)
      ∧ r.2.mem ((c.tc : Thread Cert.AdamIdeal.nD Cert.AdamIdeal.τ).loc Cert.AdamIdeal.main_arg8) = m ((c.tc : Thread Cert.AdamIdeal.nD Cert.AdamIdeal.τ).loc Cert.AdamIdeal.main_arg8)
      ∧ r.2.mem ((c.tc : Thread Cert.AdamIdeal.nD Cert.AdamIdeal.τ).loc Cert.AdamIdeal.main_arg9) = m ((c.tc : Thread Cert.AdamIdeal.nD Cert.AdamIdeal.τ).loc Cert.AdamIdeal.main_arg9)
      ∧ r.2.mem ((c.tc : Thread Cert.AdamIdeal.nD Cert.AdamIdeal.τ).loc Cert.AdamIdeal.main_arg10) = m ((c.tc : Thread Cert.AdamIdeal.nD Cert.AdamIdeal.τ).loc Cert.AdamIdeal.main_arg10)
      ∧ r.2.mem ((c.tc : Thread Cert.AdamIdeal.nD Cert.AdamIdeal.τ).loc Cert.AdamIdeal.main_arg11) = m ((c.tc : Thread Cert.AdamIdeal.nD Cert.AdamIdeal.τ).loc Cert.AdamIdeal.main_arg11)
      ∧ r.2.mem ((c.tc : Thread Cert.AdamIdeal.nD Cert.AdamIdeal.τ).loc Cert.AdamIdeal.main_arg12) = m ((c.tc : Thread Cert.AdamIdeal.nD Cert.AdamIdeal.τ).loc Cert.AdamIdeal.main_arg12)
      ∧ r.2.mem ((c.tc : Thread Cert.AdamIdeal.nD Cert.AdamIdeal.τ).loc Cert.AdamIdeal.main_arg13) = m ((c.tc : Thread Cert.AdamIdeal.nD Cert.AdamIdeal.τ).loc Cert.AdamIdeal.main_arg13)
      ∧ r.2.mem ((c.tc : Thread Cert.AdamIdeal.nD Cert.AdamIdeal.τ).loc Cert.AdamIdeal.main_arg14) = m ((c.tc : Thread Cert.AdamIdeal.nD Cert.AdamIdeal.τ).loc Cert.AdamIdeal.main_arg14)
      ∧ r.2.mem ((c.tc : Thread Cert.AdamIdeal.nD Cert.AdamIdeal.τ).loc Cert.AdamIdeal.main_arg15) = m ((c.tc : Thread Cert.AdamIdeal.nD Cert.AdamIdeal.τ).loc Cert.AdamIdeal.main_arg15)
      ∧ r.2.mem ((c.tc : Thread Cert.AdamIdeal.nD Cert.AdamIdeal.τ).loc Cert.AdamIdeal.main_arg16) = m ((c.tc : Thread Cert.AdamIdeal.nD Cert.AdamIdeal.τ).loc Cert.AdamIdeal.main_arg16)
      ∧ r.2.mem ((c.tc : Thread Cert.AdamIdeal.nD Cert.AdamIdeal.τ).loc Cert.AdamIdeal.main_arg17) = m ((c.tc : Thread Cert.AdamIdeal.nD Cert.AdamIdeal.τ).loc Cert.AdamIdeal.main_arg17)
      ∧ r.2.mem ((c.tc : Thread Cert.AdamIdeal.nD Cert.AdamIdeal.τ).loc Cert.AdamIdeal.main_arg18) = m ((c.tc : Thread Cert.AdamIdeal.nD Cert.AdamIdeal.τ).loc Cert.AdamIdeal.main_arg18)
      ∧ r.2.mem ((c.tc : Thread Cert.AdamIdeal.nD Cert.AdamIdeal.τ).loc Cert.AdamIdeal.main_arg19) = m ((c.tc : Thread Cert.AdamIdeal.nD Cert.AdamIdeal.τ).loc Cert.AdamIdeal.main_arg19)
      ∧ r.2.mem ((c.tc : Thread Cert.AdamIdeal.nD Cert.AdamIdeal.τ).loc Cert.AdamIdeal.main_arg20) = m ((c.tc : Thread Cert.AdamIdeal.nD Cert.AdamIdeal.τ).loc Cert.AdamIdeal.main_arg20)
      ∧ r.2.mem ((c.tc : Thread Cert.AdamIdeal.nD Cert.AdamIdeal.τ).loc Cert.AdamIdeal.main_arg21) = m ((c.tc : Thread Cert.AdamIdeal.nD Cert.AdamIdeal.τ).loc Cert.AdamIdeal.main_arg21)
      ∧ r.2.mem ((c.tc : Thread Cert.AdamIdeal.nD Cert.AdamIdeal.τ).loc Cert.AdamIdeal.main_arg22) = m ((c.tc : Thread Cert.AdamIdeal.nD Cert.AdamIdeal.τ).loc Cert.AdamIdeal.main_arg22)
      ∧ r.2.mem ((c.tc : Thread Cert.AdamIdeal.nD Cert.AdamIdeal.τ).loc Cert.AdamIdeal.main_arg23) = m ((c.tc : Thread Cert.AdamIdeal.nD Cert.AdamIdeal.τ).loc Cert.AdamIdeal.main_arg23)
      ∧ r.2.mem ((c.tc : Thread Cert.AdamIdeal.nD Cert.AdamIdeal.τ).loc Cert.AdamIdeal.main_arg24) = m ((c.tc : Thread Cert.AdamIdeal.nD Cert.AdamIdeal.τ).loc Cert.AdamIdeal.main_arg24)
      ∧ r.2.mem ((c.tc : Thread Cert.AdamIdeal.nD Cert.AdamIdeal.τ).loc Cert.AdamIdeal.main_arg25) = m ((c.tc : Thread Cert.AdamIdeal.nD Cert.AdamIdeal.τ).loc Cert.AdamIdeal.main_arg25)
      ∧ r.2.mem ((c.tc : Thread Cert.AdamIdeal.nD Cert.AdamIdeal.τ).loc Cert.AdamIdeal.main_arg26) = m ((c.tc : Thread Cert.AdamIdeal.nD Cert.AdamIdeal.τ).loc Cert.AdamIdeal.main_arg26)
      ∧ r.2.mem ((c.tc : Thread Cert.AdamIdeal.nD Cert.AdamIdeal.τ).loc Cert.AdamIdeal.main_arg27) = m ((c.tc : Thread Cert.AdamIdeal.nD Cert.AdamIdeal.τ).loc Cert.AdamIdeal.main_arg27)
      ∧ r.2.mem ((c.tc : Thread Cert.AdamIdeal.nD Cert.AdamIdeal.τ).loc Cert.AdamIdeal.main_arg28) = m ((c.tc : Thread Cert.AdamIdeal.nD Cert.AdamIdeal.τ).loc Cert.AdamIdeal.main_arg28)
      ∧ r.2.mem ((c.tc : Thread Cert.AdamIdeal.nD Cert.AdamIdeal.τ).loc Cert.AdamIdeal.main_arg29) = m ((c.tc : Thread Cert.AdamIdeal.nD Cert.AdamIdeal.τ).loc Cert.AdamIdeal.main_arg29)
      ∧ r.2.mem ((c.tc : Thread Cert.AdamIdeal.nD Cert.AdamIdeal.τ).loc Cert.AdamIdeal.main_arg30) = m ((c.tc : Thread Cert.AdamIdeal.nD Cert.AdamIdeal.τ).loc Cert.AdamIdeal.main_arg30)
      ∧ r.2.mem ((c.tc : Thread Cert.AdamIdeal.nD Cert.AdamIdeal.τ).loc Cert.AdamIdeal.main_arg31) = m ((c.tc : Thread Cert.AdamIdeal.nD Cert.AdamIdeal.τ).loc Cert.AdamIdeal.main_arg31)
      ∧ r.2.mem ((c.tc : Thread Cert.AdamIdeal.nD Cert.AdamIdeal.τ).loc Cert.AdamIdeal.main_arg32) = m ((c.tc : Thread Cert.AdamIdeal.nD Cert.AdamIdeal.τ).loc Cert.AdamIdeal.main_arg32)
      ∧ r.2.mem ((c.tc : Thread Cert.AdamIdeal.nD Cert.AdamIdeal.τ).loc Cert.AdamIdeal.main_arg33) = m ((c.tc : Thread Cert.AdamIdeal.nD Cert.AdamIdeal.τ).loc Cert.AdamIdeal.main_arg33)
      ∧ r.2.mem ((c.tc : Thread Cert.AdamIdeal.nD Cert.AdamIdeal.τ).loc Cert.AdamIdeal.main_arg34) = m ((c.tc : Thread Cert.AdamIdeal.nD Cert.AdamIdeal.τ).loc Cert.AdamIdeal.main_arg34)
      ∧ r.2.mem ((c.tc : Thread Cert.AdamIdeal.nD Cert.AdamIdeal.τ).loc Cert.AdamIdeal.main_arg35) = m ((c.tc : Thread Cert.AdamIdeal.nD Cert.AdamIdeal.τ).loc Cert.AdamIdeal.main_arg35)
      ∧ r.2.mem ((c.tc : Thread Cert.AdamIdeal.nD Cert.AdamIdeal.τ).loc Cert.AdamIdeal.main_arg36) = m ((c.tc : Thread Cert.AdamIdeal.nD Cert.AdamIdeal.τ).loc Cert.AdamIdeal.main_arg36)
      ∧ r.2.mem ((c.tc : Thread Cert.AdamIdeal.nD Cert.AdamIdeal.τ).loc Cert.AdamIdeal.main_arg37) = m ((c.tc : Thread Cert.AdamIdeal.nD Cert.AdamIdeal.τ).loc Cert.AdamIdeal.main_arg37)
      ∧ r.2.mem ((c.tc : Thread Cert.AdamIdeal.nD Cert.AdamIdeal.τ).loc Cert.AdamIdeal.main_arg38) = m ((c.tc : Thread Cert.AdamIdeal.nD Cert.AdamIdeal.τ).loc Cert.AdamIdeal.main_arg38)
      ∧ r.2.mem ((c.tc : Thread Cert.AdamIdeal.nD Cert.AdamIdeal.τ).loc Cert.AdamIdeal.main_arg39) = m ((c.tc : Thread Cert.AdamIdeal.nD Cert.AdamIdeal.τ).loc Cert.AdamIdeal.main_arg39)
      ∧ r.2.mem ((c.tc : Thread Cert.AdamIdeal.nD Cert.AdamIdeal.τ).loc Cert.AdamIdeal.main_arg40) = m ((c.tc : Thread Cert.AdamIdeal.nD Cert.AdamIdeal.τ).loc Cert.AdamIdeal.main_arg40)
      ∧ r.2.mem ((c.tc : Thread Cert.AdamIdeal.nD Cert.AdamIdeal.τ).loc Cert.AdamIdeal.main_arg41) = m ((c.tc : Thread Cert.AdamIdeal.nD Cert.AdamIdeal.τ).loc Cert.AdamIdeal.main_arg41)
      ∧ r.2.mem ((c.tc : Thread Cert.AdamIdeal.nD Cert.AdamIdeal.τ).loc Cert.AdamIdeal.main_arg42) = m ((c.tc : Thread Cert.AdamIdeal.nD Cert.AdamIdeal.τ).loc Cert.AdamIdeal.main_arg42)
      ∧ r.2.mem ((c.tc : Thread Cert.AdamIdeal.nD Cert.AdamIdeal.τ).loc Cert.AdamIdeal.main_arg43) = m ((c.tc : Thread Cert.AdamIdeal.nD Cert.AdamIdeal.τ).loc Cert.AdamIdeal.main_arg43))
      ∧ r.2.sem = fun _ => 0)

def quiescent_AdamRefIdeal [hAdamRefIdeal : Cert.AdamRefIdeal.Facts] : Prop :=
  ∀ (m : (ℓ : Loc Cert.AdamRefIdeal.nD Cert.AdamRefIdeal.τ Cert.AdamRefIdeal.sig) → Buf (Elt Ideal) ℓ) (g : Dev Cert.AdamRefIdeal.nD → PrngReg), Pre_AdamRefIdeal m →
    θ_run (Cert.AdamRefIdeal.defs (F := Ideal)) (onTc (τ := Cert.AdamRefIdeal.τ) (Cert.AdamRefIdeal.main (F := Ideal))) ⟨m, fun _ => 0, g⟩ (fun r => (∀ c : Dev Cert.AdamRefIdeal.nD,
      r.2.mem ((c.tc : Thread Cert.AdamRefIdeal.nD Cert.AdamRefIdeal.τ).loc Cert.AdamRefIdeal.main_arg0) = m ((c.tc : Thread Cert.AdamRefIdeal.nD Cert.AdamRefIdeal.τ).loc Cert.AdamRefIdeal.main_arg0)
      ∧ r.2.mem ((c.tc : Thread Cert.AdamRefIdeal.nD Cert.AdamRefIdeal.τ).loc Cert.AdamRefIdeal.main_arg1) = m ((c.tc : Thread Cert.AdamRefIdeal.nD Cert.AdamRefIdeal.τ).loc Cert.AdamRefIdeal.main_arg1)
      ∧ r.2.mem ((c.tc : Thread Cert.AdamRefIdeal.nD Cert.AdamRefIdeal.τ).loc Cert.AdamRefIdeal.main_arg2) = m ((c.tc : Thread Cert.AdamRefIdeal.nD Cert.AdamRefIdeal.τ).loc Cert.AdamRefIdeal.main_arg2)
      ∧ r.2.mem ((c.tc : Thread Cert.AdamRefIdeal.nD Cert.AdamRefIdeal.τ).loc Cert.AdamRefIdeal.main_arg3) = m ((c.tc : Thread Cert.AdamRefIdeal.nD Cert.AdamRefIdeal.τ).loc Cert.AdamRefIdeal.main_arg3)
      ∧ r.2.mem ((c.tc : Thread Cert.AdamRefIdeal.nD Cert.AdamRefIdeal.τ).loc Cert.AdamRefIdeal.main_arg4) = m ((c.tc : Thread Cert.AdamRefIdeal.nD Cert.AdamRefIdeal.τ).loc Cert.AdamRefIdeal.main_arg4)
      ∧ r.2.mem ((c.tc : Thread Cert.AdamRefIdeal.nD Cert.AdamRefIdeal.τ).loc Cert.AdamRefIdeal.main_arg5) = m ((c.tc : Thread Cert.AdamRefIdeal.nD Cert.AdamRefIdeal.τ).loc Cert.AdamRefIdeal.main_arg5)
      ∧ r.2.mem ((c.tc : Thread Cert.AdamRefIdeal.nD Cert.AdamRefIdeal.τ).loc Cert.AdamRefIdeal.main_arg6) = m ((c.tc : Thread Cert.AdamRefIdeal.nD Cert.AdamRefIdeal.τ).loc Cert.AdamRefIdeal.main_arg6)
      ∧ r.2.mem ((c.tc : Thread Cert.AdamRefIdeal.nD Cert.AdamRefIdeal.τ).loc Cert.AdamRefIdeal.main_arg7) = m ((c.tc : Thread Cert.AdamRefIdeal.nD Cert.AdamRefIdeal.τ).loc Cert.AdamRefIdeal.main_arg7)
      ∧ r.2.mem ((c.tc : Thread Cert.AdamRefIdeal.nD Cert.AdamRefIdeal.τ).loc Cert.AdamRefIdeal.main_arg8) = m ((c.tc : Thread Cert.AdamRefIdeal.nD Cert.AdamRefIdeal.τ).loc Cert.AdamRefIdeal.main_arg8)
      ∧ r.2.mem ((c.tc : Thread Cert.AdamRefIdeal.nD Cert.AdamRefIdeal.τ).loc Cert.AdamRefIdeal.main_arg9) = m ((c.tc : Thread Cert.AdamRefIdeal.nD Cert.AdamRefIdeal.τ).loc Cert.AdamRefIdeal.main_arg9)
      ∧ r.2.mem ((c.tc : Thread Cert.AdamRefIdeal.nD Cert.AdamRefIdeal.τ).loc Cert.AdamRefIdeal.main_arg10) = m ((c.tc : Thread Cert.AdamRefIdeal.nD Cert.AdamRefIdeal.τ).loc Cert.AdamRefIdeal.main_arg10)
      ∧ r.2.mem ((c.tc : Thread Cert.AdamRefIdeal.nD Cert.AdamRefIdeal.τ).loc Cert.AdamRefIdeal.main_arg11) = m ((c.tc : Thread Cert.AdamRefIdeal.nD Cert.AdamRefIdeal.τ).loc Cert.AdamRefIdeal.main_arg11)
      ∧ r.2.mem ((c.tc : Thread Cert.AdamRefIdeal.nD Cert.AdamRefIdeal.τ).loc Cert.AdamRefIdeal.main_arg12) = m ((c.tc : Thread Cert.AdamRefIdeal.nD Cert.AdamRefIdeal.τ).loc Cert.AdamRefIdeal.main_arg12)
      ∧ r.2.mem ((c.tc : Thread Cert.AdamRefIdeal.nD Cert.AdamRefIdeal.τ).loc Cert.AdamRefIdeal.main_arg13) = m ((c.tc : Thread Cert.AdamRefIdeal.nD Cert.AdamRefIdeal.τ).loc Cert.AdamRefIdeal.main_arg13)
      ∧ r.2.mem ((c.tc : Thread Cert.AdamRefIdeal.nD Cert.AdamRefIdeal.τ).loc Cert.AdamRefIdeal.main_arg14) = m ((c.tc : Thread Cert.AdamRefIdeal.nD Cert.AdamRefIdeal.τ).loc Cert.AdamRefIdeal.main_arg14)
      ∧ r.2.mem ((c.tc : Thread Cert.AdamRefIdeal.nD Cert.AdamRefIdeal.τ).loc Cert.AdamRefIdeal.main_arg15) = m ((c.tc : Thread Cert.AdamRefIdeal.nD Cert.AdamRefIdeal.τ).loc Cert.AdamRefIdeal.main_arg15)
      ∧ r.2.mem ((c.tc : Thread Cert.AdamRefIdeal.nD Cert.AdamRefIdeal.τ).loc Cert.AdamRefIdeal.main_arg16) = m ((c.tc : Thread Cert.AdamRefIdeal.nD Cert.AdamRefIdeal.τ).loc Cert.AdamRefIdeal.main_arg16)
      ∧ r.2.mem ((c.tc : Thread Cert.AdamRefIdeal.nD Cert.AdamRefIdeal.τ).loc Cert.AdamRefIdeal.main_arg17) = m ((c.tc : Thread Cert.AdamRefIdeal.nD Cert.AdamRefIdeal.τ).loc Cert.AdamRefIdeal.main_arg17)
      ∧ r.2.mem ((c.tc : Thread Cert.AdamRefIdeal.nD Cert.AdamRefIdeal.τ).loc Cert.AdamRefIdeal.main_arg18) = m ((c.tc : Thread Cert.AdamRefIdeal.nD Cert.AdamRefIdeal.τ).loc Cert.AdamRefIdeal.main_arg18)
      ∧ r.2.mem ((c.tc : Thread Cert.AdamRefIdeal.nD Cert.AdamRefIdeal.τ).loc Cert.AdamRefIdeal.main_arg19) = m ((c.tc : Thread Cert.AdamRefIdeal.nD Cert.AdamRefIdeal.τ).loc Cert.AdamRefIdeal.main_arg19)
      ∧ r.2.mem ((c.tc : Thread Cert.AdamRefIdeal.nD Cert.AdamRefIdeal.τ).loc Cert.AdamRefIdeal.main_arg20) = m ((c.tc : Thread Cert.AdamRefIdeal.nD Cert.AdamRefIdeal.τ).loc Cert.AdamRefIdeal.main_arg20)
      ∧ r.2.mem ((c.tc : Thread Cert.AdamRefIdeal.nD Cert.AdamRefIdeal.τ).loc Cert.AdamRefIdeal.main_arg21) = m ((c.tc : Thread Cert.AdamRefIdeal.nD Cert.AdamRefIdeal.τ).loc Cert.AdamRefIdeal.main_arg21)
      ∧ r.2.mem ((c.tc : Thread Cert.AdamRefIdeal.nD Cert.AdamRefIdeal.τ).loc Cert.AdamRefIdeal.main_arg22) = m ((c.tc : Thread Cert.AdamRefIdeal.nD Cert.AdamRefIdeal.τ).loc Cert.AdamRefIdeal.main_arg22)
      ∧ r.2.mem ((c.tc : Thread Cert.AdamRefIdeal.nD Cert.AdamRefIdeal.τ).loc Cert.AdamRefIdeal.main_arg23) = m ((c.tc : Thread Cert.AdamRefIdeal.nD Cert.AdamRefIdeal.τ).loc Cert.AdamRefIdeal.main_arg23)
      ∧ r.2.mem ((c.tc : Thread Cert.AdamRefIdeal.nD Cert.AdamRefIdeal.τ).loc Cert.AdamRefIdeal.main_arg24) = m ((c.tc : Thread Cert.AdamRefIdeal.nD Cert.AdamRefIdeal.τ).loc Cert.AdamRefIdeal.main_arg24)
      ∧ r.2.mem ((c.tc : Thread Cert.AdamRefIdeal.nD Cert.AdamRefIdeal.τ).loc Cert.AdamRefIdeal.main_arg25) = m ((c.tc : Thread Cert.AdamRefIdeal.nD Cert.AdamRefIdeal.τ).loc Cert.AdamRefIdeal.main_arg25)
      ∧ r.2.mem ((c.tc : Thread Cert.AdamRefIdeal.nD Cert.AdamRefIdeal.τ).loc Cert.AdamRefIdeal.main_arg26) = m ((c.tc : Thread Cert.AdamRefIdeal.nD Cert.AdamRefIdeal.τ).loc Cert.AdamRefIdeal.main_arg26)
      ∧ r.2.mem ((c.tc : Thread Cert.AdamRefIdeal.nD Cert.AdamRefIdeal.τ).loc Cert.AdamRefIdeal.main_arg27) = m ((c.tc : Thread Cert.AdamRefIdeal.nD Cert.AdamRefIdeal.τ).loc Cert.AdamRefIdeal.main_arg27)
      ∧ r.2.mem ((c.tc : Thread Cert.AdamRefIdeal.nD Cert.AdamRefIdeal.τ).loc Cert.AdamRefIdeal.main_arg28) = m ((c.tc : Thread Cert.AdamRefIdeal.nD Cert.AdamRefIdeal.τ).loc Cert.AdamRefIdeal.main_arg28)
      ∧ r.2.mem ((c.tc : Thread Cert.AdamRefIdeal.nD Cert.AdamRefIdeal.τ).loc Cert.AdamRefIdeal.main_arg29) = m ((c.tc : Thread Cert.AdamRefIdeal.nD Cert.AdamRefIdeal.τ).loc Cert.AdamRefIdeal.main_arg29)
      ∧ r.2.mem ((c.tc : Thread Cert.AdamRefIdeal.nD Cert.AdamRefIdeal.τ).loc Cert.AdamRefIdeal.main_arg30) = m ((c.tc : Thread Cert.AdamRefIdeal.nD Cert.AdamRefIdeal.τ).loc Cert.AdamRefIdeal.main_arg30)
      ∧ r.2.mem ((c.tc : Thread Cert.AdamRefIdeal.nD Cert.AdamRefIdeal.τ).loc Cert.AdamRefIdeal.main_arg31) = m ((c.tc : Thread Cert.AdamRefIdeal.nD Cert.AdamRefIdeal.τ).loc Cert.AdamRefIdeal.main_arg31)
      ∧ r.2.mem ((c.tc : Thread Cert.AdamRefIdeal.nD Cert.AdamRefIdeal.τ).loc Cert.AdamRefIdeal.main_arg32) = m ((c.tc : Thread Cert.AdamRefIdeal.nD Cert.AdamRefIdeal.τ).loc Cert.AdamRefIdeal.main_arg32)
      ∧ r.2.mem ((c.tc : Thread Cert.AdamRefIdeal.nD Cert.AdamRefIdeal.τ).loc Cert.AdamRefIdeal.main_arg33) = m ((c.tc : Thread Cert.AdamRefIdeal.nD Cert.AdamRefIdeal.τ).loc Cert.AdamRefIdeal.main_arg33)
      ∧ r.2.mem ((c.tc : Thread Cert.AdamRefIdeal.nD Cert.AdamRefIdeal.τ).loc Cert.AdamRefIdeal.main_arg34) = m ((c.tc : Thread Cert.AdamRefIdeal.nD Cert.AdamRefIdeal.τ).loc Cert.AdamRefIdeal.main_arg34)
      ∧ r.2.mem ((c.tc : Thread Cert.AdamRefIdeal.nD Cert.AdamRefIdeal.τ).loc Cert.AdamRefIdeal.main_arg35) = m ((c.tc : Thread Cert.AdamRefIdeal.nD Cert.AdamRefIdeal.τ).loc Cert.AdamRefIdeal.main_arg35)
      ∧ r.2.mem ((c.tc : Thread Cert.AdamRefIdeal.nD Cert.AdamRefIdeal.τ).loc Cert.AdamRefIdeal.main_arg36) = m ((c.tc : Thread Cert.AdamRefIdeal.nD Cert.AdamRefIdeal.τ).loc Cert.AdamRefIdeal.main_arg36)
      ∧ r.2.mem ((c.tc : Thread Cert.AdamRefIdeal.nD Cert.AdamRefIdeal.τ).loc Cert.AdamRefIdeal.main_arg37) = m ((c.tc : Thread Cert.AdamRefIdeal.nD Cert.AdamRefIdeal.τ).loc Cert.AdamRefIdeal.main_arg37)
      ∧ r.2.mem ((c.tc : Thread Cert.AdamRefIdeal.nD Cert.AdamRefIdeal.τ).loc Cert.AdamRefIdeal.main_arg38) = m ((c.tc : Thread Cert.AdamRefIdeal.nD Cert.AdamRefIdeal.τ).loc Cert.AdamRefIdeal.main_arg38)
      ∧ r.2.mem ((c.tc : Thread Cert.AdamRefIdeal.nD Cert.AdamRefIdeal.τ).loc Cert.AdamRefIdeal.main_arg39) = m ((c.tc : Thread Cert.AdamRefIdeal.nD Cert.AdamRefIdeal.τ).loc Cert.AdamRefIdeal.main_arg39)
      ∧ r.2.mem ((c.tc : Thread Cert.AdamRefIdeal.nD Cert.AdamRefIdeal.τ).loc Cert.AdamRefIdeal.main_arg40) = m ((c.tc : Thread Cert.AdamRefIdeal.nD Cert.AdamRefIdeal.τ).loc Cert.AdamRefIdeal.main_arg40)
      ∧ r.2.mem ((c.tc : Thread Cert.AdamRefIdeal.nD Cert.AdamRefIdeal.τ).loc Cert.AdamRefIdeal.main_arg41) = m ((c.tc : Thread Cert.AdamRefIdeal.nD Cert.AdamRefIdeal.τ).loc Cert.AdamRefIdeal.main_arg41)
      ∧ r.2.mem ((c.tc : Thread Cert.AdamRefIdeal.nD Cert.AdamRefIdeal.τ).loc Cert.AdamRefIdeal.main_arg42) = m ((c.tc : Thread Cert.AdamRefIdeal.nD Cert.AdamRefIdeal.τ).loc Cert.AdamRefIdeal.main_arg42)
      ∧ r.2.mem ((c.tc : Thread Cert.AdamRefIdeal.nD Cert.AdamRefIdeal.τ).loc Cert.AdamRefIdeal.main_arg43) = m ((c.tc : Thread Cert.AdamRefIdeal.nD Cert.AdamRefIdeal.τ).loc Cert.AdamRefIdeal.main_arg43))
      ∧ r.2.sem = fun _ => 0)

def quiescent_Pre [hPre : Cert.Pre.Facts] : Prop :=
  ∀ (m : (ℓ : Loc Cert.Pre.nD Cert.Pre.τ Cert.Pre.sig) → Buf (Elt Bits) ℓ) (g : Dev Cert.Pre.nD → PrngReg), Pre_Pre m →
    θ_run (Cert.Pre.defs (F := Bits)) (onTc (τ := Cert.Pre.τ) (Cert.Pre.main (F := Bits))) ⟨m, fun _ => 0, g⟩ (fun r => (∀ c : Dev Cert.Pre.nD,
      r.2.mem ((c.tc : Thread Cert.Pre.nD Cert.Pre.τ).loc Cert.Pre.main_arg0) = m ((c.tc : Thread Cert.Pre.nD Cert.Pre.τ).loc Cert.Pre.main_arg0)
      ∧ r.2.mem ((c.tc : Thread Cert.Pre.nD Cert.Pre.τ).loc Cert.Pre.main_arg1) = m ((c.tc : Thread Cert.Pre.nD Cert.Pre.τ).loc Cert.Pre.main_arg1)
      ∧ r.2.mem ((c.tc : Thread Cert.Pre.nD Cert.Pre.τ).loc Cert.Pre.main_arg2) = m ((c.tc : Thread Cert.Pre.nD Cert.Pre.τ).loc Cert.Pre.main_arg2)
      ∧ r.2.mem ((c.tc : Thread Cert.Pre.nD Cert.Pre.τ).loc Cert.Pre.main_arg3) = m ((c.tc : Thread Cert.Pre.nD Cert.Pre.τ).loc Cert.Pre.main_arg3)
      ∧ r.2.mem ((c.tc : Thread Cert.Pre.nD Cert.Pre.τ).loc Cert.Pre.main_arg4) = m ((c.tc : Thread Cert.Pre.nD Cert.Pre.τ).loc Cert.Pre.main_arg4)
      ∧ r.2.mem ((c.tc : Thread Cert.Pre.nD Cert.Pre.τ).loc Cert.Pre.main_arg5) = m ((c.tc : Thread Cert.Pre.nD Cert.Pre.τ).loc Cert.Pre.main_arg5)
      ∧ r.2.mem ((c.tc : Thread Cert.Pre.nD Cert.Pre.τ).loc Cert.Pre.main_arg6) = m ((c.tc : Thread Cert.Pre.nD Cert.Pre.τ).loc Cert.Pre.main_arg6)
      ∧ r.2.mem ((c.tc : Thread Cert.Pre.nD Cert.Pre.τ).loc Cert.Pre.main_arg7) = m ((c.tc : Thread Cert.Pre.nD Cert.Pre.τ).loc Cert.Pre.main_arg7)
      ∧ r.2.mem ((c.tc : Thread Cert.Pre.nD Cert.Pre.τ).loc Cert.Pre.main_arg8) = m ((c.tc : Thread Cert.Pre.nD Cert.Pre.τ).loc Cert.Pre.main_arg8)
      ∧ r.2.mem ((c.tc : Thread Cert.Pre.nD Cert.Pre.τ).loc Cert.Pre.main_arg9) = m ((c.tc : Thread Cert.Pre.nD Cert.Pre.τ).loc Cert.Pre.main_arg9)
      ∧ r.2.mem ((c.tc : Thread Cert.Pre.nD Cert.Pre.τ).loc Cert.Pre.main_arg10) = m ((c.tc : Thread Cert.Pre.nD Cert.Pre.τ).loc Cert.Pre.main_arg10)
      ∧ r.2.mem ((c.tc : Thread Cert.Pre.nD Cert.Pre.τ).loc Cert.Pre.main_arg11) = m ((c.tc : Thread Cert.Pre.nD Cert.Pre.τ).loc Cert.Pre.main_arg11)
      ∧ r.2.mem ((c.tc : Thread Cert.Pre.nD Cert.Pre.τ).loc Cert.Pre.main_arg12) = m ((c.tc : Thread Cert.Pre.nD Cert.Pre.τ).loc Cert.Pre.main_arg12)
      ∧ r.2.mem ((c.tc : Thread Cert.Pre.nD Cert.Pre.τ).loc Cert.Pre.main_arg13) = m ((c.tc : Thread Cert.Pre.nD Cert.Pre.τ).loc Cert.Pre.main_arg13)
      ∧ r.2.mem ((c.tc : Thread Cert.Pre.nD Cert.Pre.τ).loc Cert.Pre.main_arg14) = m ((c.tc : Thread Cert.Pre.nD Cert.Pre.τ).loc Cert.Pre.main_arg14)
      ∧ r.2.mem ((c.tc : Thread Cert.Pre.nD Cert.Pre.τ).loc Cert.Pre.main_arg15) = m ((c.tc : Thread Cert.Pre.nD Cert.Pre.τ).loc Cert.Pre.main_arg15)
      ∧ r.2.mem ((c.tc : Thread Cert.Pre.nD Cert.Pre.τ).loc Cert.Pre.main_arg16) = m ((c.tc : Thread Cert.Pre.nD Cert.Pre.τ).loc Cert.Pre.main_arg16)
      ∧ r.2.mem ((c.tc : Thread Cert.Pre.nD Cert.Pre.τ).loc Cert.Pre.main_arg17) = m ((c.tc : Thread Cert.Pre.nD Cert.Pre.τ).loc Cert.Pre.main_arg17)
      ∧ r.2.mem ((c.tc : Thread Cert.Pre.nD Cert.Pre.τ).loc Cert.Pre.main_arg18) = m ((c.tc : Thread Cert.Pre.nD Cert.Pre.τ).loc Cert.Pre.main_arg18))
      ∧ r.2.sem = fun _ => 0)

def quiescent_PreIdeal [hPreIdeal : Cert.PreIdeal.Facts] : Prop :=
  ∀ (m : (ℓ : Loc Cert.PreIdeal.nD Cert.PreIdeal.τ Cert.PreIdeal.sig) → Buf (Elt Ideal) ℓ) (g : Dev Cert.PreIdeal.nD → PrngReg), Pre_PreIdeal m →
    θ_run (Cert.PreIdeal.defs (F := Ideal)) (onTc (τ := Cert.PreIdeal.τ) (Cert.PreIdeal.main (F := Ideal))) ⟨m, fun _ => 0, g⟩ (fun r => (∀ c : Dev Cert.PreIdeal.nD,
      r.2.mem ((c.tc : Thread Cert.PreIdeal.nD Cert.PreIdeal.τ).loc Cert.PreIdeal.main_arg0) = m ((c.tc : Thread Cert.PreIdeal.nD Cert.PreIdeal.τ).loc Cert.PreIdeal.main_arg0)
      ∧ r.2.mem ((c.tc : Thread Cert.PreIdeal.nD Cert.PreIdeal.τ).loc Cert.PreIdeal.main_arg1) = m ((c.tc : Thread Cert.PreIdeal.nD Cert.PreIdeal.τ).loc Cert.PreIdeal.main_arg1)
      ∧ r.2.mem ((c.tc : Thread Cert.PreIdeal.nD Cert.PreIdeal.τ).loc Cert.PreIdeal.main_arg2) = m ((c.tc : Thread Cert.PreIdeal.nD Cert.PreIdeal.τ).loc Cert.PreIdeal.main_arg2)
      ∧ r.2.mem ((c.tc : Thread Cert.PreIdeal.nD Cert.PreIdeal.τ).loc Cert.PreIdeal.main_arg3) = m ((c.tc : Thread Cert.PreIdeal.nD Cert.PreIdeal.τ).loc Cert.PreIdeal.main_arg3)
      ∧ r.2.mem ((c.tc : Thread Cert.PreIdeal.nD Cert.PreIdeal.τ).loc Cert.PreIdeal.main_arg4) = m ((c.tc : Thread Cert.PreIdeal.nD Cert.PreIdeal.τ).loc Cert.PreIdeal.main_arg4)
      ∧ r.2.mem ((c.tc : Thread Cert.PreIdeal.nD Cert.PreIdeal.τ).loc Cert.PreIdeal.main_arg5) = m ((c.tc : Thread Cert.PreIdeal.nD Cert.PreIdeal.τ).loc Cert.PreIdeal.main_arg5)
      ∧ r.2.mem ((c.tc : Thread Cert.PreIdeal.nD Cert.PreIdeal.τ).loc Cert.PreIdeal.main_arg6) = m ((c.tc : Thread Cert.PreIdeal.nD Cert.PreIdeal.τ).loc Cert.PreIdeal.main_arg6)
      ∧ r.2.mem ((c.tc : Thread Cert.PreIdeal.nD Cert.PreIdeal.τ).loc Cert.PreIdeal.main_arg7) = m ((c.tc : Thread Cert.PreIdeal.nD Cert.PreIdeal.τ).loc Cert.PreIdeal.main_arg7)
      ∧ r.2.mem ((c.tc : Thread Cert.PreIdeal.nD Cert.PreIdeal.τ).loc Cert.PreIdeal.main_arg8) = m ((c.tc : Thread Cert.PreIdeal.nD Cert.PreIdeal.τ).loc Cert.PreIdeal.main_arg8)
      ∧ r.2.mem ((c.tc : Thread Cert.PreIdeal.nD Cert.PreIdeal.τ).loc Cert.PreIdeal.main_arg9) = m ((c.tc : Thread Cert.PreIdeal.nD Cert.PreIdeal.τ).loc Cert.PreIdeal.main_arg9)
      ∧ r.2.mem ((c.tc : Thread Cert.PreIdeal.nD Cert.PreIdeal.τ).loc Cert.PreIdeal.main_arg10) = m ((c.tc : Thread Cert.PreIdeal.nD Cert.PreIdeal.τ).loc Cert.PreIdeal.main_arg10)
      ∧ r.2.mem ((c.tc : Thread Cert.PreIdeal.nD Cert.PreIdeal.τ).loc Cert.PreIdeal.main_arg11) = m ((c.tc : Thread Cert.PreIdeal.nD Cert.PreIdeal.τ).loc Cert.PreIdeal.main_arg11)
      ∧ r.2.mem ((c.tc : Thread Cert.PreIdeal.nD Cert.PreIdeal.τ).loc Cert.PreIdeal.main_arg12) = m ((c.tc : Thread Cert.PreIdeal.nD Cert.PreIdeal.τ).loc Cert.PreIdeal.main_arg12)
      ∧ r.2.mem ((c.tc : Thread Cert.PreIdeal.nD Cert.PreIdeal.τ).loc Cert.PreIdeal.main_arg13) = m ((c.tc : Thread Cert.PreIdeal.nD Cert.PreIdeal.τ).loc Cert.PreIdeal.main_arg13)
      ∧ r.2.mem ((c.tc : Thread Cert.PreIdeal.nD Cert.PreIdeal.τ).loc Cert.PreIdeal.main_arg14) = m ((c.tc : Thread Cert.PreIdeal.nD Cert.PreIdeal.τ).loc Cert.PreIdeal.main_arg14)
      ∧ r.2.mem ((c.tc : Thread Cert.PreIdeal.nD Cert.PreIdeal.τ).loc Cert.PreIdeal.main_arg15) = m ((c.tc : Thread Cert.PreIdeal.nD Cert.PreIdeal.τ).loc Cert.PreIdeal.main_arg15)
      ∧ r.2.mem ((c.tc : Thread Cert.PreIdeal.nD Cert.PreIdeal.τ).loc Cert.PreIdeal.main_arg16) = m ((c.tc : Thread Cert.PreIdeal.nD Cert.PreIdeal.τ).loc Cert.PreIdeal.main_arg16)
      ∧ r.2.mem ((c.tc : Thread Cert.PreIdeal.nD Cert.PreIdeal.τ).loc Cert.PreIdeal.main_arg17) = m ((c.tc : Thread Cert.PreIdeal.nD Cert.PreIdeal.τ).loc Cert.PreIdeal.main_arg17)
      ∧ r.2.mem ((c.tc : Thread Cert.PreIdeal.nD Cert.PreIdeal.τ).loc Cert.PreIdeal.main_arg18) = m ((c.tc : Thread Cert.PreIdeal.nD Cert.PreIdeal.τ).loc Cert.PreIdeal.main_arg18))
      ∧ r.2.sem = fun _ => 0)

def quiescent_PreRefIdeal [hPreRefIdeal : Cert.PreRefIdeal.Facts] : Prop :=
  ∀ (m : (ℓ : Loc Cert.PreRefIdeal.nD Cert.PreRefIdeal.τ Cert.PreRefIdeal.sig) → Buf (Elt Ideal) ℓ) (g : Dev Cert.PreRefIdeal.nD → PrngReg), Pre_PreRefIdeal m →
    θ_run (Cert.PreRefIdeal.defs (F := Ideal)) (onTc (τ := Cert.PreRefIdeal.τ) (Cert.PreRefIdeal.main (F := Ideal))) ⟨m, fun _ => 0, g⟩ (fun r => (∀ c : Dev Cert.PreRefIdeal.nD,
      r.2.mem ((c.tc : Thread Cert.PreRefIdeal.nD Cert.PreRefIdeal.τ).loc Cert.PreRefIdeal.main_arg0) = m ((c.tc : Thread Cert.PreRefIdeal.nD Cert.PreRefIdeal.τ).loc Cert.PreRefIdeal.main_arg0)
      ∧ r.2.mem ((c.tc : Thread Cert.PreRefIdeal.nD Cert.PreRefIdeal.τ).loc Cert.PreRefIdeal.main_arg1) = m ((c.tc : Thread Cert.PreRefIdeal.nD Cert.PreRefIdeal.τ).loc Cert.PreRefIdeal.main_arg1)
      ∧ r.2.mem ((c.tc : Thread Cert.PreRefIdeal.nD Cert.PreRefIdeal.τ).loc Cert.PreRefIdeal.main_arg2) = m ((c.tc : Thread Cert.PreRefIdeal.nD Cert.PreRefIdeal.τ).loc Cert.PreRefIdeal.main_arg2)
      ∧ r.2.mem ((c.tc : Thread Cert.PreRefIdeal.nD Cert.PreRefIdeal.τ).loc Cert.PreRefIdeal.main_arg3) = m ((c.tc : Thread Cert.PreRefIdeal.nD Cert.PreRefIdeal.τ).loc Cert.PreRefIdeal.main_arg3)
      ∧ r.2.mem ((c.tc : Thread Cert.PreRefIdeal.nD Cert.PreRefIdeal.τ).loc Cert.PreRefIdeal.main_arg4) = m ((c.tc : Thread Cert.PreRefIdeal.nD Cert.PreRefIdeal.τ).loc Cert.PreRefIdeal.main_arg4)
      ∧ r.2.mem ((c.tc : Thread Cert.PreRefIdeal.nD Cert.PreRefIdeal.τ).loc Cert.PreRefIdeal.main_arg5) = m ((c.tc : Thread Cert.PreRefIdeal.nD Cert.PreRefIdeal.τ).loc Cert.PreRefIdeal.main_arg5)
      ∧ r.2.mem ((c.tc : Thread Cert.PreRefIdeal.nD Cert.PreRefIdeal.τ).loc Cert.PreRefIdeal.main_arg6) = m ((c.tc : Thread Cert.PreRefIdeal.nD Cert.PreRefIdeal.τ).loc Cert.PreRefIdeal.main_arg6)
      ∧ r.2.mem ((c.tc : Thread Cert.PreRefIdeal.nD Cert.PreRefIdeal.τ).loc Cert.PreRefIdeal.main_arg7) = m ((c.tc : Thread Cert.PreRefIdeal.nD Cert.PreRefIdeal.τ).loc Cert.PreRefIdeal.main_arg7)
      ∧ r.2.mem ((c.tc : Thread Cert.PreRefIdeal.nD Cert.PreRefIdeal.τ).loc Cert.PreRefIdeal.main_arg8) = m ((c.tc : Thread Cert.PreRefIdeal.nD Cert.PreRefIdeal.τ).loc Cert.PreRefIdeal.main_arg8)
      ∧ r.2.mem ((c.tc : Thread Cert.PreRefIdeal.nD Cert.PreRefIdeal.τ).loc Cert.PreRefIdeal.main_arg9) = m ((c.tc : Thread Cert.PreRefIdeal.nD Cert.PreRefIdeal.τ).loc Cert.PreRefIdeal.main_arg9)
      ∧ r.2.mem ((c.tc : Thread Cert.PreRefIdeal.nD Cert.PreRefIdeal.τ).loc Cert.PreRefIdeal.main_arg10) = m ((c.tc : Thread Cert.PreRefIdeal.nD Cert.PreRefIdeal.τ).loc Cert.PreRefIdeal.main_arg10)
      ∧ r.2.mem ((c.tc : Thread Cert.PreRefIdeal.nD Cert.PreRefIdeal.τ).loc Cert.PreRefIdeal.main_arg11) = m ((c.tc : Thread Cert.PreRefIdeal.nD Cert.PreRefIdeal.τ).loc Cert.PreRefIdeal.main_arg11)
      ∧ r.2.mem ((c.tc : Thread Cert.PreRefIdeal.nD Cert.PreRefIdeal.τ).loc Cert.PreRefIdeal.main_arg12) = m ((c.tc : Thread Cert.PreRefIdeal.nD Cert.PreRefIdeal.τ).loc Cert.PreRefIdeal.main_arg12)
      ∧ r.2.mem ((c.tc : Thread Cert.PreRefIdeal.nD Cert.PreRefIdeal.τ).loc Cert.PreRefIdeal.main_arg13) = m ((c.tc : Thread Cert.PreRefIdeal.nD Cert.PreRefIdeal.τ).loc Cert.PreRefIdeal.main_arg13)
      ∧ r.2.mem ((c.tc : Thread Cert.PreRefIdeal.nD Cert.PreRefIdeal.τ).loc Cert.PreRefIdeal.main_arg14) = m ((c.tc : Thread Cert.PreRefIdeal.nD Cert.PreRefIdeal.τ).loc Cert.PreRefIdeal.main_arg14)
      ∧ r.2.mem ((c.tc : Thread Cert.PreRefIdeal.nD Cert.PreRefIdeal.τ).loc Cert.PreRefIdeal.main_arg15) = m ((c.tc : Thread Cert.PreRefIdeal.nD Cert.PreRefIdeal.τ).loc Cert.PreRefIdeal.main_arg15)
      ∧ r.2.mem ((c.tc : Thread Cert.PreRefIdeal.nD Cert.PreRefIdeal.τ).loc Cert.PreRefIdeal.main_arg16) = m ((c.tc : Thread Cert.PreRefIdeal.nD Cert.PreRefIdeal.τ).loc Cert.PreRefIdeal.main_arg16)
      ∧ r.2.mem ((c.tc : Thread Cert.PreRefIdeal.nD Cert.PreRefIdeal.τ).loc Cert.PreRefIdeal.main_arg17) = m ((c.tc : Thread Cert.PreRefIdeal.nD Cert.PreRefIdeal.τ).loc Cert.PreRefIdeal.main_arg17)
      ∧ r.2.mem ((c.tc : Thread Cert.PreRefIdeal.nD Cert.PreRefIdeal.τ).loc Cert.PreRefIdeal.main_arg18) = m ((c.tc : Thread Cert.PreRefIdeal.nD Cert.PreRefIdeal.τ).loc Cert.PreRefIdeal.main_arg18))
      ∧ r.2.sem = fun _ => 0)

def preserves_FwdA_FwdAIdeal : Prop :=
  True

def algebraic_FwdAIdeal_FwdARefIdeal_pre_finite_a [hFwdAIdeal : Cert.FwdAIdeal.Facts] [hFwdARefIdeal : Cert.FwdARefIdeal.Facts] [hPre_finite_a : Cert.Pre_finite_a.Facts] : Prop :=
  ∀ (m : (ℓ : Loc Cert.FwdAIdeal.nD Cert.FwdAIdeal.τ Cert.FwdAIdeal.sig) → Buf (Elt Ideal) ℓ) (g : Dev Cert.FwdAIdeal.nD → PrngReg)
    (m' : (ℓ : Loc Cert.FwdARefIdeal.nD Cert.FwdARefIdeal.τ Cert.FwdARefIdeal.sig) → Buf (Elt Ideal) ℓ) (g' : Dev Cert.FwdARefIdeal.nD → PrngReg), Pre_FwdAIdeal_finite_a m →
    (∀ c : Dev Cert.FwdAIdeal.nD,
      m' ((c.tc : Thread Cert.FwdARefIdeal.nD Cert.FwdARefIdeal.τ).loc Cert.FwdARefIdeal.main_arg0) = m ((c.tc : Thread Cert.FwdAIdeal.nD Cert.FwdAIdeal.τ).loc Cert.FwdAIdeal.main_arg0)
      ∧ m' ((c.tc : Thread Cert.FwdARefIdeal.nD Cert.FwdARefIdeal.τ).loc Cert.FwdARefIdeal.main_arg1) = m ((c.tc : Thread Cert.FwdAIdeal.nD Cert.FwdAIdeal.τ).loc Cert.FwdAIdeal.main_arg1)
      ∧ m' ((c.tc : Thread Cert.FwdARefIdeal.nD Cert.FwdARefIdeal.τ).loc Cert.FwdARefIdeal.main_arg2) = m ((c.tc : Thread Cert.FwdAIdeal.nD Cert.FwdAIdeal.τ).loc Cert.FwdAIdeal.main_arg2)) →
    ∃ (v0 : (c : Dev Cert.FwdAIdeal.nD) → Buf (Elt Ideal) ((c.tc : Thread Cert.FwdAIdeal.nD Cert.FwdAIdeal.τ).loc Cert.FwdAIdeal.main_v0_0)) (v1 : (c : Dev Cert.FwdAIdeal.nD) → Buf (Elt Ideal) ((c.tc : Thread Cert.FwdAIdeal.nD Cert.FwdAIdeal.τ).loc Cert.FwdAIdeal.main_v0_1)),
      θ_run (Cert.FwdAIdeal.defs (F := Ideal)) (onTc (τ := Cert.FwdAIdeal.τ) (Cert.FwdAIdeal.main (F := Ideal))) ⟨m, fun _ => 0, g⟩ (fun r => ∀ c : Dev Cert.FwdAIdeal.nD,
          r.2.mem ((c.tc : Thread Cert.FwdAIdeal.nD Cert.FwdAIdeal.τ).loc Cert.FwdAIdeal.main_v0_0) = v0 c
          ∧ r.2.mem ((c.tc : Thread Cert.FwdAIdeal.nD Cert.FwdAIdeal.τ).loc Cert.FwdAIdeal.main_v0_1) = v1 c
          ∧ r.2.mem ((c.tc : Thread Cert.FwdAIdeal.nD Cert.FwdAIdeal.τ).loc Cert.FwdAIdeal.main_arg0) = m ((c.tc : Thread Cert.FwdAIdeal.nD Cert.FwdAIdeal.τ).loc Cert.FwdAIdeal.main_arg0)
          ∧ r.2.mem ((c.tc : Thread Cert.FwdAIdeal.nD Cert.FwdAIdeal.τ).loc Cert.FwdAIdeal.main_arg1) = m ((c.tc : Thread Cert.FwdAIdeal.nD Cert.FwdAIdeal.τ).loc Cert.FwdAIdeal.main_arg1)
          ∧ r.2.mem ((c.tc : Thread Cert.FwdAIdeal.nD Cert.FwdAIdeal.τ).loc Cert.FwdAIdeal.main_arg2) = m ((c.tc : Thread Cert.FwdAIdeal.nD Cert.FwdAIdeal.τ).loc Cert.FwdAIdeal.main_arg2))
      ∧ θ_run (Cert.FwdARefIdeal.defs (F := Ideal)) (onTc (τ := Cert.FwdARefIdeal.τ) (Cert.FwdARefIdeal.main (F := Ideal))) ⟨m', fun _ => 0, g'⟩ (fun r => ∀ c : Dev Cert.FwdARefIdeal.nD,
          r.2.mem ((c.tc : Thread Cert.FwdARefIdeal.nD Cert.FwdARefIdeal.τ).loc Cert.FwdARefIdeal.main_v20) = v0 c
          ∧ r.2.mem ((c.tc : Thread Cert.FwdARefIdeal.nD Cert.FwdARefIdeal.τ).loc Cert.FwdARefIdeal.main_v21) = v1 c
          ∧ r.2.mem ((c.tc : Thread Cert.FwdARefIdeal.nD Cert.FwdARefIdeal.τ).loc Cert.FwdARefIdeal.main_arg0) = m' ((c.tc : Thread Cert.FwdARefIdeal.nD Cert.FwdARefIdeal.τ).loc Cert.FwdARefIdeal.main_arg0)
          ∧ r.2.mem ((c.tc : Thread Cert.FwdARefIdeal.nD Cert.FwdARefIdeal.τ).loc Cert.FwdARefIdeal.main_arg1) = m' ((c.tc : Thread Cert.FwdARefIdeal.nD Cert.FwdARefIdeal.τ).loc Cert.FwdARefIdeal.main_arg1)
          ∧ r.2.mem ((c.tc : Thread Cert.FwdARefIdeal.nD Cert.FwdARefIdeal.τ).loc Cert.FwdARefIdeal.main_arg2) = m' ((c.tc : Thread Cert.FwdARefIdeal.nD Cert.FwdARefIdeal.τ).loc Cert.FwdARefIdeal.main_arg2))

def preserves_FwdB_FwdBIdeal : Prop :=
  True

def algebraic_FwdBIdeal_FwdBRefIdeal_pre_finite_b [hFwdBIdeal : Cert.FwdBIdeal.Facts] [hFwdBRefIdeal : Cert.FwdBRefIdeal.Facts] [hPre_finite_b : Cert.Pre_finite_b.Facts] : Prop :=
  ∀ (m : (ℓ : Loc Cert.FwdBIdeal.nD Cert.FwdBIdeal.τ Cert.FwdBIdeal.sig) → Buf (Elt Ideal) ℓ) (g : Dev Cert.FwdBIdeal.nD → PrngReg)
    (m' : (ℓ : Loc Cert.FwdBRefIdeal.nD Cert.FwdBRefIdeal.τ Cert.FwdBRefIdeal.sig) → Buf (Elt Ideal) ℓ) (g' : Dev Cert.FwdBRefIdeal.nD → PrngReg), Pre_FwdBIdeal_finite_b m →
    (∀ c : Dev Cert.FwdBIdeal.nD,
      m' ((c.tc : Thread Cert.FwdBRefIdeal.nD Cert.FwdBRefIdeal.τ).loc Cert.FwdBRefIdeal.main_arg0) = m ((c.tc : Thread Cert.FwdBIdeal.nD Cert.FwdBIdeal.τ).loc Cert.FwdBIdeal.main_arg0)
      ∧ m' ((c.tc : Thread Cert.FwdBRefIdeal.nD Cert.FwdBRefIdeal.τ).loc Cert.FwdBRefIdeal.main_arg1) = m ((c.tc : Thread Cert.FwdBIdeal.nD Cert.FwdBIdeal.τ).loc Cert.FwdBIdeal.main_arg1)
      ∧ m' ((c.tc : Thread Cert.FwdBRefIdeal.nD Cert.FwdBRefIdeal.τ).loc Cert.FwdBRefIdeal.main_arg2) = m ((c.tc : Thread Cert.FwdBIdeal.nD Cert.FwdBIdeal.τ).loc Cert.FwdBIdeal.main_arg2)) →
    ∃ (v0 : (c : Dev Cert.FwdBIdeal.nD) → Buf (Elt Ideal) ((c.tc : Thread Cert.FwdBIdeal.nD Cert.FwdBIdeal.τ).loc Cert.FwdBIdeal.main_v0_0)) (v1 : (c : Dev Cert.FwdBIdeal.nD) → Buf (Elt Ideal) ((c.tc : Thread Cert.FwdBIdeal.nD Cert.FwdBIdeal.τ).loc Cert.FwdBIdeal.main_v0_1)),
      θ_run (Cert.FwdBIdeal.defs (F := Ideal)) (onTc (τ := Cert.FwdBIdeal.τ) (Cert.FwdBIdeal.main (F := Ideal))) ⟨m, fun _ => 0, g⟩ (fun r => ∀ c : Dev Cert.FwdBIdeal.nD,
          r.2.mem ((c.tc : Thread Cert.FwdBIdeal.nD Cert.FwdBIdeal.τ).loc Cert.FwdBIdeal.main_v0_0) = v0 c
          ∧ r.2.mem ((c.tc : Thread Cert.FwdBIdeal.nD Cert.FwdBIdeal.τ).loc Cert.FwdBIdeal.main_v0_1) = v1 c
          ∧ r.2.mem ((c.tc : Thread Cert.FwdBIdeal.nD Cert.FwdBIdeal.τ).loc Cert.FwdBIdeal.main_arg0) = m ((c.tc : Thread Cert.FwdBIdeal.nD Cert.FwdBIdeal.τ).loc Cert.FwdBIdeal.main_arg0)
          ∧ r.2.mem ((c.tc : Thread Cert.FwdBIdeal.nD Cert.FwdBIdeal.τ).loc Cert.FwdBIdeal.main_arg1) = m ((c.tc : Thread Cert.FwdBIdeal.nD Cert.FwdBIdeal.τ).loc Cert.FwdBIdeal.main_arg1)
          ∧ r.2.mem ((c.tc : Thread Cert.FwdBIdeal.nD Cert.FwdBIdeal.τ).loc Cert.FwdBIdeal.main_arg2) = m ((c.tc : Thread Cert.FwdBIdeal.nD Cert.FwdBIdeal.τ).loc Cert.FwdBIdeal.main_arg2))
      ∧ θ_run (Cert.FwdBRefIdeal.defs (F := Ideal)) (onTc (τ := Cert.FwdBRefIdeal.τ) (Cert.FwdBRefIdeal.main (F := Ideal))) ⟨m', fun _ => 0, g'⟩ (fun r => ∀ c : Dev Cert.FwdBRefIdeal.nD,
          r.2.mem ((c.tc : Thread Cert.FwdBRefIdeal.nD Cert.FwdBRefIdeal.τ).loc Cert.FwdBRefIdeal.main_v15) = v0 c
          ∧ r.2.mem ((c.tc : Thread Cert.FwdBRefIdeal.nD Cert.FwdBRefIdeal.τ).loc Cert.FwdBRefIdeal.main_v19) = v1 c
          ∧ r.2.mem ((c.tc : Thread Cert.FwdBRefIdeal.nD Cert.FwdBRefIdeal.τ).loc Cert.FwdBRefIdeal.main_arg0) = m' ((c.tc : Thread Cert.FwdBRefIdeal.nD Cert.FwdBRefIdeal.τ).loc Cert.FwdBRefIdeal.main_arg0)
          ∧ r.2.mem ((c.tc : Thread Cert.FwdBRefIdeal.nD Cert.FwdBRefIdeal.τ).loc Cert.FwdBRefIdeal.main_arg1) = m' ((c.tc : Thread Cert.FwdBRefIdeal.nD Cert.FwdBRefIdeal.τ).loc Cert.FwdBRefIdeal.main_arg1)
          ∧ r.2.mem ((c.tc : Thread Cert.FwdBRefIdeal.nD Cert.FwdBRefIdeal.τ).loc Cert.FwdBRefIdeal.main_arg2) = m' ((c.tc : Thread Cert.FwdBRefIdeal.nD Cert.FwdBRefIdeal.τ).loc Cert.FwdBRefIdeal.main_arg2))

def preserves_BwdA_BwdAIdeal : Prop :=
  True

def algebraic_BwdAIdeal_BwdARefIdeal [hBwdAIdeal : Cert.BwdAIdeal.Facts] [hBwdARefIdeal : Cert.BwdARefIdeal.Facts] : Prop :=
  ∀ (m : (ℓ : Loc Cert.BwdAIdeal.nD Cert.BwdAIdeal.τ Cert.BwdAIdeal.sig) → Buf (Elt Ideal) ℓ) (g : Dev Cert.BwdAIdeal.nD → PrngReg)
    (m' : (ℓ : Loc Cert.BwdARefIdeal.nD Cert.BwdARefIdeal.τ Cert.BwdARefIdeal.sig) → Buf (Elt Ideal) ℓ) (g' : Dev Cert.BwdARefIdeal.nD → PrngReg), Pre_BwdAIdeal m →
    (∀ c : Dev Cert.BwdAIdeal.nD,
      m' ((c.tc : Thread Cert.BwdARefIdeal.nD Cert.BwdARefIdeal.τ).loc Cert.BwdARefIdeal.main_arg0) = m ((c.tc : Thread Cert.BwdAIdeal.nD Cert.BwdAIdeal.τ).loc Cert.BwdAIdeal.main_arg0)
      ∧ m' ((c.tc : Thread Cert.BwdARefIdeal.nD Cert.BwdARefIdeal.τ).loc Cert.BwdARefIdeal.main_arg1) = m ((c.tc : Thread Cert.BwdAIdeal.nD Cert.BwdAIdeal.τ).loc Cert.BwdAIdeal.main_arg1)
      ∧ m' ((c.tc : Thread Cert.BwdARefIdeal.nD Cert.BwdARefIdeal.τ).loc Cert.BwdARefIdeal.main_arg2) = m ((c.tc : Thread Cert.BwdAIdeal.nD Cert.BwdAIdeal.τ).loc Cert.BwdAIdeal.main_arg2)
      ∧ m' ((c.tc : Thread Cert.BwdARefIdeal.nD Cert.BwdARefIdeal.τ).loc Cert.BwdARefIdeal.main_arg3) = m ((c.tc : Thread Cert.BwdAIdeal.nD Cert.BwdAIdeal.τ).loc Cert.BwdAIdeal.main_arg3)
      ∧ m' ((c.tc : Thread Cert.BwdARefIdeal.nD Cert.BwdARefIdeal.τ).loc Cert.BwdARefIdeal.main_arg4) = m ((c.tc : Thread Cert.BwdAIdeal.nD Cert.BwdAIdeal.τ).loc Cert.BwdAIdeal.main_arg4)
      ∧ m' ((c.tc : Thread Cert.BwdARefIdeal.nD Cert.BwdARefIdeal.τ).loc Cert.BwdARefIdeal.main_arg5) = m ((c.tc : Thread Cert.BwdAIdeal.nD Cert.BwdAIdeal.τ).loc Cert.BwdAIdeal.main_arg5)) →
    ∃ (v0 : (c : Dev Cert.BwdAIdeal.nD) → Buf (Elt Ideal) ((c.tc : Thread Cert.BwdAIdeal.nD Cert.BwdAIdeal.τ).loc Cert.BwdAIdeal.main_v0_0)) (v1 : (c : Dev Cert.BwdAIdeal.nD) → Buf (Elt Ideal) ((c.tc : Thread Cert.BwdAIdeal.nD Cert.BwdAIdeal.τ).loc Cert.BwdAIdeal.main_v0_1)) (v2 : (c : Dev Cert.BwdAIdeal.nD) → Buf (Elt Ideal) ((c.tc : Thread Cert.BwdAIdeal.nD Cert.BwdAIdeal.τ).loc Cert.BwdAIdeal.main_v0_2)),
      θ_run (Cert.BwdAIdeal.defs (F := Ideal)) (onTc (τ := Cert.BwdAIdeal.τ) (Cert.BwdAIdeal.main (F := Ideal))) ⟨m, fun _ => 0, g⟩ (fun r => ∀ c : Dev Cert.BwdAIdeal.nD,
          r.2.mem ((c.tc : Thread Cert.BwdAIdeal.nD Cert.BwdAIdeal.τ).loc Cert.BwdAIdeal.main_v0_0) = v0 c
          ∧ r.2.mem ((c.tc : Thread Cert.BwdAIdeal.nD Cert.BwdAIdeal.τ).loc Cert.BwdAIdeal.main_v0_1) = v1 c
          ∧ r.2.mem ((c.tc : Thread Cert.BwdAIdeal.nD Cert.BwdAIdeal.τ).loc Cert.BwdAIdeal.main_v0_2) = v2 c
          ∧ r.2.mem ((c.tc : Thread Cert.BwdAIdeal.nD Cert.BwdAIdeal.τ).loc Cert.BwdAIdeal.main_arg0) = m ((c.tc : Thread Cert.BwdAIdeal.nD Cert.BwdAIdeal.τ).loc Cert.BwdAIdeal.main_arg0)
          ∧ r.2.mem ((c.tc : Thread Cert.BwdAIdeal.nD Cert.BwdAIdeal.τ).loc Cert.BwdAIdeal.main_arg1) = m ((c.tc : Thread Cert.BwdAIdeal.nD Cert.BwdAIdeal.τ).loc Cert.BwdAIdeal.main_arg1)
          ∧ r.2.mem ((c.tc : Thread Cert.BwdAIdeal.nD Cert.BwdAIdeal.τ).loc Cert.BwdAIdeal.main_arg2) = m ((c.tc : Thread Cert.BwdAIdeal.nD Cert.BwdAIdeal.τ).loc Cert.BwdAIdeal.main_arg2)
          ∧ r.2.mem ((c.tc : Thread Cert.BwdAIdeal.nD Cert.BwdAIdeal.τ).loc Cert.BwdAIdeal.main_arg3) = m ((c.tc : Thread Cert.BwdAIdeal.nD Cert.BwdAIdeal.τ).loc Cert.BwdAIdeal.main_arg3)
          ∧ r.2.mem ((c.tc : Thread Cert.BwdAIdeal.nD Cert.BwdAIdeal.τ).loc Cert.BwdAIdeal.main_arg4) = m ((c.tc : Thread Cert.BwdAIdeal.nD Cert.BwdAIdeal.τ).loc Cert.BwdAIdeal.main_arg4)
          ∧ r.2.mem ((c.tc : Thread Cert.BwdAIdeal.nD Cert.BwdAIdeal.τ).loc Cert.BwdAIdeal.main_arg5) = m ((c.tc : Thread Cert.BwdAIdeal.nD Cert.BwdAIdeal.τ).loc Cert.BwdAIdeal.main_arg5))
      ∧ θ_run (Cert.BwdARefIdeal.defs (F := Ideal)) (onTc (τ := Cert.BwdARefIdeal.τ) (Cert.BwdARefIdeal.main (F := Ideal))) ⟨m', fun _ => 0, g'⟩ (fun r => ∀ c : Dev Cert.BwdARefIdeal.nD,
          r.2.mem ((c.tc : Thread Cert.BwdARefIdeal.nD Cert.BwdARefIdeal.τ).loc Cert.BwdARefIdeal.main_v21) = v0 c
          ∧ r.2.mem ((c.tc : Thread Cert.BwdARefIdeal.nD Cert.BwdARefIdeal.τ).loc Cert.BwdARefIdeal.main_v22) = v1 c
          ∧ r.2.mem ((c.tc : Thread Cert.BwdARefIdeal.nD Cert.BwdARefIdeal.τ).loc Cert.BwdARefIdeal.main_v23) = v2 c
          ∧ r.2.mem ((c.tc : Thread Cert.BwdARefIdeal.nD Cert.BwdARefIdeal.τ).loc Cert.BwdARefIdeal.main_arg0) = m' ((c.tc : Thread Cert.BwdARefIdeal.nD Cert.BwdARefIdeal.τ).loc Cert.BwdARefIdeal.main_arg0)
          ∧ r.2.mem ((c.tc : Thread Cert.BwdARefIdeal.nD Cert.BwdARefIdeal.τ).loc Cert.BwdARefIdeal.main_arg1) = m' ((c.tc : Thread Cert.BwdARefIdeal.nD Cert.BwdARefIdeal.τ).loc Cert.BwdARefIdeal.main_arg1)
          ∧ r.2.mem ((c.tc : Thread Cert.BwdARefIdeal.nD Cert.BwdARefIdeal.τ).loc Cert.BwdARefIdeal.main_arg2) = m' ((c.tc : Thread Cert.BwdARefIdeal.nD Cert.BwdARefIdeal.τ).loc Cert.BwdARefIdeal.main_arg2)
          ∧ r.2.mem ((c.tc : Thread Cert.BwdARefIdeal.nD Cert.BwdARefIdeal.τ).loc Cert.BwdARefIdeal.main_arg3) = m' ((c.tc : Thread Cert.BwdARefIdeal.nD Cert.BwdARefIdeal.τ).loc Cert.BwdARefIdeal.main_arg3)
          ∧ r.2.mem ((c.tc : Thread Cert.BwdARefIdeal.nD Cert.BwdARefIdeal.τ).loc Cert.BwdARefIdeal.main_arg4) = m' ((c.tc : Thread Cert.BwdARefIdeal.nD Cert.BwdARefIdeal.τ).loc Cert.BwdARefIdeal.main_arg4)
          ∧ r.2.mem ((c.tc : Thread Cert.BwdARefIdeal.nD Cert.BwdARefIdeal.τ).loc Cert.BwdARefIdeal.main_arg5) = m' ((c.tc : Thread Cert.BwdARefIdeal.nD Cert.BwdARefIdeal.τ).loc Cert.BwdARefIdeal.main_arg5))

def preserves_BwdB_BwdBIdeal : Prop :=
  True

def algebraic_BwdBIdeal_BwdBRefIdeal [hBwdBIdeal : Cert.BwdBIdeal.Facts] [hBwdBRefIdeal : Cert.BwdBRefIdeal.Facts] : Prop :=
  ∀ (m : (ℓ : Loc Cert.BwdBIdeal.nD Cert.BwdBIdeal.τ Cert.BwdBIdeal.sig) → Buf (Elt Ideal) ℓ) (g : Dev Cert.BwdBIdeal.nD → PrngReg)
    (m' : (ℓ : Loc Cert.BwdBRefIdeal.nD Cert.BwdBRefIdeal.τ Cert.BwdBRefIdeal.sig) → Buf (Elt Ideal) ℓ) (g' : Dev Cert.BwdBRefIdeal.nD → PrngReg), Pre_BwdBIdeal m →
    (∀ c : Dev Cert.BwdBIdeal.nD,
      m' ((c.tc : Thread Cert.BwdBRefIdeal.nD Cert.BwdBRefIdeal.τ).loc Cert.BwdBRefIdeal.main_arg0) = m ((c.tc : Thread Cert.BwdBIdeal.nD Cert.BwdBIdeal.τ).loc Cert.BwdBIdeal.main_arg0)
      ∧ m' ((c.tc : Thread Cert.BwdBRefIdeal.nD Cert.BwdBRefIdeal.τ).loc Cert.BwdBRefIdeal.main_arg1) = m ((c.tc : Thread Cert.BwdBIdeal.nD Cert.BwdBIdeal.τ).loc Cert.BwdBIdeal.main_arg1)
      ∧ m' ((c.tc : Thread Cert.BwdBRefIdeal.nD Cert.BwdBRefIdeal.τ).loc Cert.BwdBRefIdeal.main_arg2) = m ((c.tc : Thread Cert.BwdBIdeal.nD Cert.BwdBIdeal.τ).loc Cert.BwdBIdeal.main_arg2)
      ∧ m' ((c.tc : Thread Cert.BwdBRefIdeal.nD Cert.BwdBRefIdeal.τ).loc Cert.BwdBRefIdeal.main_arg3) = m ((c.tc : Thread Cert.BwdBIdeal.nD Cert.BwdBIdeal.τ).loc Cert.BwdBIdeal.main_arg3)
      ∧ m' ((c.tc : Thread Cert.BwdBRefIdeal.nD Cert.BwdBRefIdeal.τ).loc Cert.BwdBRefIdeal.main_arg4) = m ((c.tc : Thread Cert.BwdBIdeal.nD Cert.BwdBIdeal.τ).loc Cert.BwdBIdeal.main_arg4)
      ∧ m' ((c.tc : Thread Cert.BwdBRefIdeal.nD Cert.BwdBRefIdeal.τ).loc Cert.BwdBRefIdeal.main_arg5) = m ((c.tc : Thread Cert.BwdBIdeal.nD Cert.BwdBIdeal.τ).loc Cert.BwdBIdeal.main_arg5)) →
    ∃ (v0 : (c : Dev Cert.BwdBIdeal.nD) → Buf (Elt Ideal) ((c.tc : Thread Cert.BwdBIdeal.nD Cert.BwdBIdeal.τ).loc Cert.BwdBIdeal.main_v0_0)) (v1 : (c : Dev Cert.BwdBIdeal.nD) → Buf (Elt Ideal) ((c.tc : Thread Cert.BwdBIdeal.nD Cert.BwdBIdeal.τ).loc Cert.BwdBIdeal.main_v0_1)) (v2 : (c : Dev Cert.BwdBIdeal.nD) → Buf (Elt Ideal) ((c.tc : Thread Cert.BwdBIdeal.nD Cert.BwdBIdeal.τ).loc Cert.BwdBIdeal.main_v0_2)),
      θ_run (Cert.BwdBIdeal.defs (F := Ideal)) (onTc (τ := Cert.BwdBIdeal.τ) (Cert.BwdBIdeal.main (F := Ideal))) ⟨m, fun _ => 0, g⟩ (fun r => ∀ c : Dev Cert.BwdBIdeal.nD,
          r.2.mem ((c.tc : Thread Cert.BwdBIdeal.nD Cert.BwdBIdeal.τ).loc Cert.BwdBIdeal.main_v0_0) = v0 c
          ∧ r.2.mem ((c.tc : Thread Cert.BwdBIdeal.nD Cert.BwdBIdeal.τ).loc Cert.BwdBIdeal.main_v0_1) = v1 c
          ∧ r.2.mem ((c.tc : Thread Cert.BwdBIdeal.nD Cert.BwdBIdeal.τ).loc Cert.BwdBIdeal.main_v0_2) = v2 c
          ∧ r.2.mem ((c.tc : Thread Cert.BwdBIdeal.nD Cert.BwdBIdeal.τ).loc Cert.BwdBIdeal.main_arg0) = m ((c.tc : Thread Cert.BwdBIdeal.nD Cert.BwdBIdeal.τ).loc Cert.BwdBIdeal.main_arg0)
          ∧ r.2.mem ((c.tc : Thread Cert.BwdBIdeal.nD Cert.BwdBIdeal.τ).loc Cert.BwdBIdeal.main_arg1) = m ((c.tc : Thread Cert.BwdBIdeal.nD Cert.BwdBIdeal.τ).loc Cert.BwdBIdeal.main_arg1)
          ∧ r.2.mem ((c.tc : Thread Cert.BwdBIdeal.nD Cert.BwdBIdeal.τ).loc Cert.BwdBIdeal.main_arg2) = m ((c.tc : Thread Cert.BwdBIdeal.nD Cert.BwdBIdeal.τ).loc Cert.BwdBIdeal.main_arg2)
          ∧ r.2.mem ((c.tc : Thread Cert.BwdBIdeal.nD Cert.BwdBIdeal.τ).loc Cert.BwdBIdeal.main_arg3) = m ((c.tc : Thread Cert.BwdBIdeal.nD Cert.BwdBIdeal.τ).loc Cert.BwdBIdeal.main_arg3)
          ∧ r.2.mem ((c.tc : Thread Cert.BwdBIdeal.nD Cert.BwdBIdeal.τ).loc Cert.BwdBIdeal.main_arg4) = m ((c.tc : Thread Cert.BwdBIdeal.nD Cert.BwdBIdeal.τ).loc Cert.BwdBIdeal.main_arg4)
          ∧ r.2.mem ((c.tc : Thread Cert.BwdBIdeal.nD Cert.BwdBIdeal.τ).loc Cert.BwdBIdeal.main_arg5) = m ((c.tc : Thread Cert.BwdBIdeal.nD Cert.BwdBIdeal.τ).loc Cert.BwdBIdeal.main_arg5))
      ∧ θ_run (Cert.BwdBRefIdeal.defs (F := Ideal)) (onTc (τ := Cert.BwdBRefIdeal.τ) (Cert.BwdBRefIdeal.main (F := Ideal))) ⟨m', fun _ => 0, g'⟩ (fun r => ∀ c : Dev Cert.BwdBRefIdeal.nD,
          r.2.mem ((c.tc : Thread Cert.BwdBRefIdeal.nD Cert.BwdBRefIdeal.τ).loc Cert.BwdBRefIdeal.main_v16) = v0 c
          ∧ r.2.mem ((c.tc : Thread Cert.BwdBRefIdeal.nD Cert.BwdBRefIdeal.τ).loc Cert.BwdBRefIdeal.main_v17) = v1 c
          ∧ r.2.mem ((c.tc : Thread Cert.BwdBRefIdeal.nD Cert.BwdBRefIdeal.τ).loc Cert.BwdBRefIdeal.main_v18) = v2 c
          ∧ r.2.mem ((c.tc : Thread Cert.BwdBRefIdeal.nD Cert.BwdBRefIdeal.τ).loc Cert.BwdBRefIdeal.main_arg0) = m' ((c.tc : Thread Cert.BwdBRefIdeal.nD Cert.BwdBRefIdeal.τ).loc Cert.BwdBRefIdeal.main_arg0)
          ∧ r.2.mem ((c.tc : Thread Cert.BwdBRefIdeal.nD Cert.BwdBRefIdeal.τ).loc Cert.BwdBRefIdeal.main_arg1) = m' ((c.tc : Thread Cert.BwdBRefIdeal.nD Cert.BwdBRefIdeal.τ).loc Cert.BwdBRefIdeal.main_arg1)
          ∧ r.2.mem ((c.tc : Thread Cert.BwdBRefIdeal.nD Cert.BwdBRefIdeal.τ).loc Cert.BwdBRefIdeal.main_arg2) = m' ((c.tc : Thread Cert.BwdBRefIdeal.nD Cert.BwdBRefIdeal.τ).loc Cert.BwdBRefIdeal.main_arg2)
          ∧ r.2.mem ((c.tc : Thread Cert.BwdBRefIdeal.nD Cert.BwdBRefIdeal.τ).loc Cert.BwdBRefIdeal.main_arg3) = m' ((c.tc : Thread Cert.BwdBRefIdeal.nD Cert.BwdBRefIdeal.τ).loc Cert.BwdBRefIdeal.main_arg3)
          ∧ r.2.mem ((c.tc : Thread Cert.BwdBRefIdeal.nD Cert.BwdBRefIdeal.τ).loc Cert.BwdBRefIdeal.main_arg4) = m' ((c.tc : Thread Cert.BwdBRefIdeal.nD Cert.BwdBRefIdeal.τ).loc Cert.BwdBRefIdeal.main_arg4)
          ∧ r.2.mem ((c.tc : Thread Cert.BwdBRefIdeal.nD Cert.BwdBRefIdeal.τ).loc Cert.BwdBRefIdeal.main_arg5) = m' ((c.tc : Thread Cert.BwdBRefIdeal.nD Cert.BwdBRefIdeal.τ).loc Cert.BwdBRefIdeal.main_arg5))

def preserves_GradIn_GradInIdeal : Prop :=
  True

def algebraic_GradInIdeal_GradInRefIdeal [hGradInIdeal : Cert.GradInIdeal.Facts] [hGradInRefIdeal : Cert.GradInRefIdeal.Facts] : Prop :=
  ∀ (m : (ℓ : Loc Cert.GradInIdeal.nD Cert.GradInIdeal.τ Cert.GradInIdeal.sig) → Buf (Elt Ideal) ℓ) (g : Dev Cert.GradInIdeal.nD → PrngReg)
    (m' : (ℓ : Loc Cert.GradInRefIdeal.nD Cert.GradInRefIdeal.τ Cert.GradInRefIdeal.sig) → Buf (Elt Ideal) ℓ) (g' : Dev Cert.GradInRefIdeal.nD → PrngReg), Pre_GradInIdeal m →
    (∀ c : Dev Cert.GradInIdeal.nD,
      m' ((c.tc : Thread Cert.GradInRefIdeal.nD Cert.GradInRefIdeal.τ).loc Cert.GradInRefIdeal.main_arg0) = m ((c.tc : Thread Cert.GradInIdeal.nD Cert.GradInIdeal.τ).loc Cert.GradInIdeal.main_arg0)
      ∧ m' ((c.tc : Thread Cert.GradInRefIdeal.nD Cert.GradInRefIdeal.τ).loc Cert.GradInRefIdeal.main_arg1) = m ((c.tc : Thread Cert.GradInIdeal.nD Cert.GradInIdeal.τ).loc Cert.GradInIdeal.main_arg1)) →
    ∃ (v0 : (c : Dev Cert.GradInIdeal.nD) → Buf (Elt Ideal) ((c.tc : Thread Cert.GradInIdeal.nD Cert.GradInIdeal.τ).loc Cert.GradInIdeal.main_v0)),
      θ_run (Cert.GradInIdeal.defs (F := Ideal)) (onTc (τ := Cert.GradInIdeal.τ) (Cert.GradInIdeal.main (F := Ideal))) ⟨m, fun _ => 0, g⟩ (fun r => ∀ c : Dev Cert.GradInIdeal.nD,
          r.2.mem ((c.tc : Thread Cert.GradInIdeal.nD Cert.GradInIdeal.τ).loc Cert.GradInIdeal.main_v0) = v0 c
          ∧ r.2.mem ((c.tc : Thread Cert.GradInIdeal.nD Cert.GradInIdeal.τ).loc Cert.GradInIdeal.main_arg0) = m ((c.tc : Thread Cert.GradInIdeal.nD Cert.GradInIdeal.τ).loc Cert.GradInIdeal.main_arg0)
          ∧ r.2.mem ((c.tc : Thread Cert.GradInIdeal.nD Cert.GradInIdeal.τ).loc Cert.GradInIdeal.main_arg1) = m ((c.tc : Thread Cert.GradInIdeal.nD Cert.GradInIdeal.τ).loc Cert.GradInIdeal.main_arg1))
      ∧ θ_run (Cert.GradInRefIdeal.defs (F := Ideal)) (onTc (τ := Cert.GradInRefIdeal.τ) (Cert.GradInRefIdeal.main (F := Ideal))) ⟨m', fun _ => 0, g'⟩ (fun r => ∀ c : Dev Cert.GradInRefIdeal.nD,
          r.2.mem ((c.tc : Thread Cert.GradInRefIdeal.nD Cert.GradInRefIdeal.τ).loc Cert.GradInRefIdeal.main_v2) = v0 c
          ∧ r.2.mem ((c.tc : Thread Cert.GradInRefIdeal.nD Cert.GradInRefIdeal.τ).loc Cert.GradInRefIdeal.main_arg0) = m' ((c.tc : Thread Cert.GradInRefIdeal.nD Cert.GradInRefIdeal.τ).loc Cert.GradInRefIdeal.main_arg0)
          ∧ r.2.mem ((c.tc : Thread Cert.GradInRefIdeal.nD Cert.GradInRefIdeal.τ).loc Cert.GradInRefIdeal.main_arg1) = m' ((c.tc : Thread Cert.GradInRefIdeal.nD Cert.GradInRefIdeal.τ).loc Cert.GradInRefIdeal.main_arg1))

def preserves_GradOut_GradOutIdeal : Prop :=
  True

def algebraic_GradOutIdeal_GradOutRefIdeal [hGradOutIdeal : Cert.GradOutIdeal.Facts] [hGradOutRefIdeal : Cert.GradOutRefIdeal.Facts] : Prop :=
  ∀ (m : (ℓ : Loc Cert.GradOutIdeal.nD Cert.GradOutIdeal.τ Cert.GradOutIdeal.sig) → Buf (Elt Ideal) ℓ) (g : Dev Cert.GradOutIdeal.nD → PrngReg)
    (m' : (ℓ : Loc Cert.GradOutRefIdeal.nD Cert.GradOutRefIdeal.τ Cert.GradOutRefIdeal.sig) → Buf (Elt Ideal) ℓ) (g' : Dev Cert.GradOutRefIdeal.nD → PrngReg), Pre_GradOutIdeal m →
    (∀ c : Dev Cert.GradOutIdeal.nD,
      m' ((c.tc : Thread Cert.GradOutRefIdeal.nD Cert.GradOutRefIdeal.τ).loc Cert.GradOutRefIdeal.main_arg0) = m ((c.tc : Thread Cert.GradOutIdeal.nD Cert.GradOutIdeal.τ).loc Cert.GradOutIdeal.main_arg0)
      ∧ m' ((c.tc : Thread Cert.GradOutRefIdeal.nD Cert.GradOutRefIdeal.τ).loc Cert.GradOutRefIdeal.main_arg1) = m ((c.tc : Thread Cert.GradOutIdeal.nD Cert.GradOutIdeal.τ).loc Cert.GradOutIdeal.main_arg1)) →
    ∃ (v0 : (c : Dev Cert.GradOutIdeal.nD) → Buf (Elt Ideal) ((c.tc : Thread Cert.GradOutIdeal.nD Cert.GradOutIdeal.τ).loc Cert.GradOutIdeal.main_v0)),
      θ_run (Cert.GradOutIdeal.defs (F := Ideal)) (onTc (τ := Cert.GradOutIdeal.τ) (Cert.GradOutIdeal.main (F := Ideal))) ⟨m, fun _ => 0, g⟩ (fun r => ∀ c : Dev Cert.GradOutIdeal.nD,
          r.2.mem ((c.tc : Thread Cert.GradOutIdeal.nD Cert.GradOutIdeal.τ).loc Cert.GradOutIdeal.main_v0) = v0 c
          ∧ r.2.mem ((c.tc : Thread Cert.GradOutIdeal.nD Cert.GradOutIdeal.τ).loc Cert.GradOutIdeal.main_arg0) = m ((c.tc : Thread Cert.GradOutIdeal.nD Cert.GradOutIdeal.τ).loc Cert.GradOutIdeal.main_arg0)
          ∧ r.2.mem ((c.tc : Thread Cert.GradOutIdeal.nD Cert.GradOutIdeal.τ).loc Cert.GradOutIdeal.main_arg1) = m ((c.tc : Thread Cert.GradOutIdeal.nD Cert.GradOutIdeal.τ).loc Cert.GradOutIdeal.main_arg1))
      ∧ θ_run (Cert.GradOutRefIdeal.defs (F := Ideal)) (onTc (τ := Cert.GradOutRefIdeal.τ) (Cert.GradOutRefIdeal.main (F := Ideal))) ⟨m', fun _ => 0, g'⟩ (fun r => ∀ c : Dev Cert.GradOutRefIdeal.nD,
          r.2.mem ((c.tc : Thread Cert.GradOutRefIdeal.nD Cert.GradOutRefIdeal.τ).loc Cert.GradOutRefIdeal.main_v1) = v0 c
          ∧ r.2.mem ((c.tc : Thread Cert.GradOutRefIdeal.nD Cert.GradOutRefIdeal.τ).loc Cert.GradOutRefIdeal.main_arg0) = m' ((c.tc : Thread Cert.GradOutRefIdeal.nD Cert.GradOutRefIdeal.τ).loc Cert.GradOutRefIdeal.main_arg0)
          ∧ r.2.mem ((c.tc : Thread Cert.GradOutRefIdeal.nD Cert.GradOutRefIdeal.τ).loc Cert.GradOutRefIdeal.main_arg1) = m' ((c.tc : Thread Cert.GradOutRefIdeal.nD Cert.GradOutRefIdeal.τ).loc Cert.GradOutRefIdeal.main_arg1))

def preserves_GradUq_GradUqIdeal : Prop :=
  True

def algebraic_GradUqIdeal_GradUqRefIdeal [hGradUqIdeal : Cert.GradUqIdeal.Facts] [hGradUqRefIdeal : Cert.GradUqRefIdeal.Facts] : Prop :=
  ∀ (m : (ℓ : Loc Cert.GradUqIdeal.nD Cert.GradUqIdeal.τ Cert.GradUqIdeal.sig) → Buf (Elt Ideal) ℓ) (g : Dev Cert.GradUqIdeal.nD → PrngReg)
    (m' : (ℓ : Loc Cert.GradUqRefIdeal.nD Cert.GradUqRefIdeal.τ Cert.GradUqRefIdeal.sig) → Buf (Elt Ideal) ℓ) (g' : Dev Cert.GradUqRefIdeal.nD → PrngReg), Pre_GradUqIdeal m →
    (∀ c : Dev Cert.GradUqIdeal.nD,
      m' ((c.tc : Thread Cert.GradUqRefIdeal.nD Cert.GradUqRefIdeal.τ).loc Cert.GradUqRefIdeal.main_arg0) = m ((c.tc : Thread Cert.GradUqIdeal.nD Cert.GradUqIdeal.τ).loc Cert.GradUqIdeal.main_arg0)
      ∧ m' ((c.tc : Thread Cert.GradUqRefIdeal.nD Cert.GradUqRefIdeal.τ).loc Cert.GradUqRefIdeal.main_arg1) = m ((c.tc : Thread Cert.GradUqIdeal.nD Cert.GradUqIdeal.τ).loc Cert.GradUqIdeal.main_arg1)) →
    ∃ (v0 : (c : Dev Cert.GradUqIdeal.nD) → Buf (Elt Ideal) ((c.tc : Thread Cert.GradUqIdeal.nD Cert.GradUqIdeal.τ).loc Cert.GradUqIdeal.main_v0)),
      θ_run (Cert.GradUqIdeal.defs (F := Ideal)) (onTc (τ := Cert.GradUqIdeal.τ) (Cert.GradUqIdeal.main (F := Ideal))) ⟨m, fun _ => 0, g⟩ (fun r => ∀ c : Dev Cert.GradUqIdeal.nD,
          r.2.mem ((c.tc : Thread Cert.GradUqIdeal.nD Cert.GradUqIdeal.τ).loc Cert.GradUqIdeal.main_v0) = v0 c
          ∧ r.2.mem ((c.tc : Thread Cert.GradUqIdeal.nD Cert.GradUqIdeal.τ).loc Cert.GradUqIdeal.main_arg0) = m ((c.tc : Thread Cert.GradUqIdeal.nD Cert.GradUqIdeal.τ).loc Cert.GradUqIdeal.main_arg0)
          ∧ r.2.mem ((c.tc : Thread Cert.GradUqIdeal.nD Cert.GradUqIdeal.τ).loc Cert.GradUqIdeal.main_arg1) = m ((c.tc : Thread Cert.GradUqIdeal.nD Cert.GradUqIdeal.τ).loc Cert.GradUqIdeal.main_arg1))
      ∧ θ_run (Cert.GradUqRefIdeal.defs (F := Ideal)) (onTc (τ := Cert.GradUqRefIdeal.τ) (Cert.GradUqRefIdeal.main (F := Ideal))) ⟨m', fun _ => 0, g'⟩ (fun r => ∀ c : Dev Cert.GradUqRefIdeal.nD,
          r.2.mem ((c.tc : Thread Cert.GradUqRefIdeal.nD Cert.GradUqRefIdeal.τ).loc Cert.GradUqRefIdeal.main_v2) = v0 c
          ∧ r.2.mem ((c.tc : Thread Cert.GradUqRefIdeal.nD Cert.GradUqRefIdeal.τ).loc Cert.GradUqRefIdeal.main_arg0) = m' ((c.tc : Thread Cert.GradUqRefIdeal.nD Cert.GradUqRefIdeal.τ).loc Cert.GradUqRefIdeal.main_arg0)
          ∧ r.2.mem ((c.tc : Thread Cert.GradUqRefIdeal.nD Cert.GradUqRefIdeal.τ).loc Cert.GradUqRefIdeal.main_arg1) = m' ((c.tc : Thread Cert.GradUqRefIdeal.nD Cert.GradUqRefIdeal.τ).loc Cert.GradUqRefIdeal.main_arg1))

def preserves_GradUkv_GradUkvIdeal : Prop :=
  True

def algebraic_GradUkvIdeal_GradUkvRefIdeal [hGradUkvIdeal : Cert.GradUkvIdeal.Facts] [hGradUkvRefIdeal : Cert.GradUkvRefIdeal.Facts] : Prop :=
  ∀ (m : (ℓ : Loc Cert.GradUkvIdeal.nD Cert.GradUkvIdeal.τ Cert.GradUkvIdeal.sig) → Buf (Elt Ideal) ℓ) (g : Dev Cert.GradUkvIdeal.nD → PrngReg)
    (m' : (ℓ : Loc Cert.GradUkvRefIdeal.nD Cert.GradUkvRefIdeal.τ Cert.GradUkvRefIdeal.sig) → Buf (Elt Ideal) ℓ) (g' : Dev Cert.GradUkvRefIdeal.nD → PrngReg), Pre_GradUkvIdeal m →
    (∀ c : Dev Cert.GradUkvIdeal.nD,
      m' ((c.tc : Thread Cert.GradUkvRefIdeal.nD Cert.GradUkvRefIdeal.τ).loc Cert.GradUkvRefIdeal.main_arg0) = m ((c.tc : Thread Cert.GradUkvIdeal.nD Cert.GradUkvIdeal.τ).loc Cert.GradUkvIdeal.main_arg0)
      ∧ m' ((c.tc : Thread Cert.GradUkvRefIdeal.nD Cert.GradUkvRefIdeal.τ).loc Cert.GradUkvRefIdeal.main_arg1) = m ((c.tc : Thread Cert.GradUkvIdeal.nD Cert.GradUkvIdeal.τ).loc Cert.GradUkvIdeal.main_arg1)) →
    ∃ (v0 : (c : Dev Cert.GradUkvIdeal.nD) → Buf (Elt Ideal) ((c.tc : Thread Cert.GradUkvIdeal.nD Cert.GradUkvIdeal.τ).loc Cert.GradUkvIdeal.main_v0)),
      θ_run (Cert.GradUkvIdeal.defs (F := Ideal)) (onTc (τ := Cert.GradUkvIdeal.τ) (Cert.GradUkvIdeal.main (F := Ideal))) ⟨m, fun _ => 0, g⟩ (fun r => ∀ c : Dev Cert.GradUkvIdeal.nD,
          r.2.mem ((c.tc : Thread Cert.GradUkvIdeal.nD Cert.GradUkvIdeal.τ).loc Cert.GradUkvIdeal.main_v0) = v0 c
          ∧ r.2.mem ((c.tc : Thread Cert.GradUkvIdeal.nD Cert.GradUkvIdeal.τ).loc Cert.GradUkvIdeal.main_arg0) = m ((c.tc : Thread Cert.GradUkvIdeal.nD Cert.GradUkvIdeal.τ).loc Cert.GradUkvIdeal.main_arg0)
          ∧ r.2.mem ((c.tc : Thread Cert.GradUkvIdeal.nD Cert.GradUkvIdeal.τ).loc Cert.GradUkvIdeal.main_arg1) = m ((c.tc : Thread Cert.GradUkvIdeal.nD Cert.GradUkvIdeal.τ).loc Cert.GradUkvIdeal.main_arg1))
      ∧ θ_run (Cert.GradUkvRefIdeal.defs (F := Ideal)) (onTc (τ := Cert.GradUkvRefIdeal.τ) (Cert.GradUkvRefIdeal.main (F := Ideal))) ⟨m', fun _ => 0, g'⟩ (fun r => ∀ c : Dev Cert.GradUkvRefIdeal.nD,
          r.2.mem ((c.tc : Thread Cert.GradUkvRefIdeal.nD Cert.GradUkvRefIdeal.τ).loc Cert.GradUkvRefIdeal.main_v2) = v0 c
          ∧ r.2.mem ((c.tc : Thread Cert.GradUkvRefIdeal.nD Cert.GradUkvRefIdeal.τ).loc Cert.GradUkvRefIdeal.main_arg0) = m' ((c.tc : Thread Cert.GradUkvRefIdeal.nD Cert.GradUkvRefIdeal.τ).loc Cert.GradUkvRefIdeal.main_arg0)
          ∧ r.2.mem ((c.tc : Thread Cert.GradUkvRefIdeal.nD Cert.GradUkvRefIdeal.τ).loc Cert.GradUkvRefIdeal.main_arg1) = m' ((c.tc : Thread Cert.GradUkvRefIdeal.nD Cert.GradUkvRefIdeal.τ).loc Cert.GradUkvRefIdeal.main_arg1))

def preserves_Mid_MidIdeal : Prop :=
  True

def algebraic_MidIdeal_MidRefIdeal [hMidIdeal : Cert.MidIdeal.Facts] [hMidRefIdeal : Cert.MidRefIdeal.Facts] : Prop :=
  ∀ (m : (ℓ : Loc Cert.MidIdeal.nD Cert.MidIdeal.τ Cert.MidIdeal.sig) → Buf (Elt Ideal) ℓ) (g : Dev Cert.MidIdeal.nD → PrngReg)
    (m' : (ℓ : Loc Cert.MidRefIdeal.nD Cert.MidRefIdeal.τ Cert.MidRefIdeal.sig) → Buf (Elt Ideal) ℓ) (g' : Dev Cert.MidRefIdeal.nD → PrngReg), Pre_MidIdeal m →
    (∀ c : Dev Cert.MidIdeal.nD,
      m' ((c.tc : Thread Cert.MidRefIdeal.nD Cert.MidRefIdeal.τ).loc Cert.MidRefIdeal.main_arg0) = m ((c.tc : Thread Cert.MidIdeal.nD Cert.MidIdeal.τ).loc Cert.MidIdeal.main_arg0)
      ∧ m' ((c.tc : Thread Cert.MidRefIdeal.nD Cert.MidRefIdeal.τ).loc Cert.MidRefIdeal.main_arg1) = m ((c.tc : Thread Cert.MidIdeal.nD Cert.MidIdeal.τ).loc Cert.MidIdeal.main_arg1)
      ∧ m' ((c.tc : Thread Cert.MidRefIdeal.nD Cert.MidRefIdeal.τ).loc Cert.MidRefIdeal.main_arg2) = m ((c.tc : Thread Cert.MidIdeal.nD Cert.MidIdeal.τ).loc Cert.MidIdeal.main_arg2)
      ∧ m' ((c.tc : Thread Cert.MidRefIdeal.nD Cert.MidRefIdeal.τ).loc Cert.MidRefIdeal.main_arg3) = m ((c.tc : Thread Cert.MidIdeal.nD Cert.MidIdeal.τ).loc Cert.MidIdeal.main_arg3)
      ∧ m' ((c.tc : Thread Cert.MidRefIdeal.nD Cert.MidRefIdeal.τ).loc Cert.MidRefIdeal.main_arg4) = m ((c.tc : Thread Cert.MidIdeal.nD Cert.MidIdeal.τ).loc Cert.MidIdeal.main_arg4)
      ∧ m' ((c.tc : Thread Cert.MidRefIdeal.nD Cert.MidRefIdeal.τ).loc Cert.MidRefIdeal.main_arg5) = m ((c.tc : Thread Cert.MidIdeal.nD Cert.MidIdeal.τ).loc Cert.MidIdeal.main_arg5)) →
    ∃ (v0 : (c : Dev Cert.MidIdeal.nD) → Buf (Elt Ideal) ((c.tc : Thread Cert.MidIdeal.nD Cert.MidIdeal.τ).loc Cert.MidIdeal.main_v0_0)) (v1 : (c : Dev Cert.MidIdeal.nD) → Buf (Elt Ideal) ((c.tc : Thread Cert.MidIdeal.nD Cert.MidIdeal.τ).loc Cert.MidIdeal.main_v0_1)) (v2 : (c : Dev Cert.MidIdeal.nD) → Buf (Elt Ideal) ((c.tc : Thread Cert.MidIdeal.nD Cert.MidIdeal.τ).loc Cert.MidIdeal.main_v0_2)) (v3 : (c : Dev Cert.MidIdeal.nD) → Buf (Elt Ideal) ((c.tc : Thread Cert.MidIdeal.nD Cert.MidIdeal.τ).loc Cert.MidIdeal.main_v0_3)) (v4 : (c : Dev Cert.MidIdeal.nD) → Buf (Elt Ideal) ((c.tc : Thread Cert.MidIdeal.nD Cert.MidIdeal.τ).loc Cert.MidIdeal.main_v0_4)) (v5 : (c : Dev Cert.MidIdeal.nD) → Buf (Elt Ideal) ((c.tc : Thread Cert.MidIdeal.nD Cert.MidIdeal.τ).loc Cert.MidIdeal.main_v0_5)) (v6 : (c : Dev Cert.MidIdeal.nD) → Buf (Elt Ideal) ((c.tc : Thread Cert.MidIdeal.nD Cert.MidIdeal.τ).loc Cert.MidIdeal.main_v0_6)),
      θ_run (Cert.MidIdeal.defs (F := Ideal)) (onTc (τ := Cert.MidIdeal.τ) (Cert.MidIdeal.main (F := Ideal))) ⟨m, fun _ => 0, g⟩ (fun r => ∀ c : Dev Cert.MidIdeal.nD,
          r.2.mem ((c.tc : Thread Cert.MidIdeal.nD Cert.MidIdeal.τ).loc Cert.MidIdeal.main_v0_0) = v0 c
          ∧ r.2.mem ((c.tc : Thread Cert.MidIdeal.nD Cert.MidIdeal.τ).loc Cert.MidIdeal.main_v0_1) = v1 c
          ∧ r.2.mem ((c.tc : Thread Cert.MidIdeal.nD Cert.MidIdeal.τ).loc Cert.MidIdeal.main_v0_2) = v2 c
          ∧ r.2.mem ((c.tc : Thread Cert.MidIdeal.nD Cert.MidIdeal.τ).loc Cert.MidIdeal.main_v0_3) = v3 c
          ∧ r.2.mem ((c.tc : Thread Cert.MidIdeal.nD Cert.MidIdeal.τ).loc Cert.MidIdeal.main_v0_4) = v4 c
          ∧ r.2.mem ((c.tc : Thread Cert.MidIdeal.nD Cert.MidIdeal.τ).loc Cert.MidIdeal.main_v0_5) = v5 c
          ∧ r.2.mem ((c.tc : Thread Cert.MidIdeal.nD Cert.MidIdeal.τ).loc Cert.MidIdeal.main_v0_6) = v6 c
          ∧ r.2.mem ((c.tc : Thread Cert.MidIdeal.nD Cert.MidIdeal.τ).loc Cert.MidIdeal.main_arg0) = m ((c.tc : Thread Cert.MidIdeal.nD Cert.MidIdeal.τ).loc Cert.MidIdeal.main_arg0)
          ∧ r.2.mem ((c.tc : Thread Cert.MidIdeal.nD Cert.MidIdeal.τ).loc Cert.MidIdeal.main_arg1) = m ((c.tc : Thread Cert.MidIdeal.nD Cert.MidIdeal.τ).loc Cert.MidIdeal.main_arg1)
          ∧ r.2.mem ((c.tc : Thread Cert.MidIdeal.nD Cert.MidIdeal.τ).loc Cert.MidIdeal.main_arg2) = m ((c.tc : Thread Cert.MidIdeal.nD Cert.MidIdeal.τ).loc Cert.MidIdeal.main_arg2)
          ∧ r.2.mem ((c.tc : Thread Cert.MidIdeal.nD Cert.MidIdeal.τ).loc Cert.MidIdeal.main_arg3) = m ((c.tc : Thread Cert.MidIdeal.nD Cert.MidIdeal.τ).loc Cert.MidIdeal.main_arg3)
          ∧ r.2.mem ((c.tc : Thread Cert.MidIdeal.nD Cert.MidIdeal.τ).loc Cert.MidIdeal.main_arg4) = m ((c.tc : Thread Cert.MidIdeal.nD Cert.MidIdeal.τ).loc Cert.MidIdeal.main_arg4)
          ∧ r.2.mem ((c.tc : Thread Cert.MidIdeal.nD Cert.MidIdeal.τ).loc Cert.MidIdeal.main_arg5) = m ((c.tc : Thread Cert.MidIdeal.nD Cert.MidIdeal.τ).loc Cert.MidIdeal.main_arg5))
      ∧ θ_run (Cert.MidRefIdeal.defs (F := Ideal)) (onTc (τ := Cert.MidRefIdeal.τ) (Cert.MidRefIdeal.main (F := Ideal))) ⟨m', fun _ => 0, g'⟩ (fun r => ∀ c : Dev Cert.MidRefIdeal.nD,
          r.2.mem ((c.tc : Thread Cert.MidRefIdeal.nD Cert.MidRefIdeal.τ).loc Cert.MidRefIdeal.main_v41) = v0 c
          ∧ r.2.mem ((c.tc : Thread Cert.MidRefIdeal.nD Cert.MidRefIdeal.τ).loc Cert.MidRefIdeal.main_v22) = v1 c
          ∧ r.2.mem ((c.tc : Thread Cert.MidRefIdeal.nD Cert.MidRefIdeal.τ).loc Cert.MidRefIdeal.main_v42) = v2 c
          ∧ r.2.mem ((c.tc : Thread Cert.MidRefIdeal.nD Cert.MidRefIdeal.τ).loc Cert.MidRefIdeal.main_v43) = v3 c
          ∧ r.2.mem ((c.tc : Thread Cert.MidRefIdeal.nD Cert.MidRefIdeal.τ).loc Cert.MidRefIdeal.main_v44) = v4 c
          ∧ r.2.mem ((c.tc : Thread Cert.MidRefIdeal.nD Cert.MidRefIdeal.τ).loc Cert.MidRefIdeal.main_v37) = v5 c
          ∧ r.2.mem ((c.tc : Thread Cert.MidRefIdeal.nD Cert.MidRefIdeal.τ).loc Cert.MidRefIdeal.main_v45) = v6 c
          ∧ r.2.mem ((c.tc : Thread Cert.MidRefIdeal.nD Cert.MidRefIdeal.τ).loc Cert.MidRefIdeal.main_arg0) = m' ((c.tc : Thread Cert.MidRefIdeal.nD Cert.MidRefIdeal.τ).loc Cert.MidRefIdeal.main_arg0)
          ∧ r.2.mem ((c.tc : Thread Cert.MidRefIdeal.nD Cert.MidRefIdeal.τ).loc Cert.MidRefIdeal.main_arg1) = m' ((c.tc : Thread Cert.MidRefIdeal.nD Cert.MidRefIdeal.τ).loc Cert.MidRefIdeal.main_arg1)
          ∧ r.2.mem ((c.tc : Thread Cert.MidRefIdeal.nD Cert.MidRefIdeal.τ).loc Cert.MidRefIdeal.main_arg2) = m' ((c.tc : Thread Cert.MidRefIdeal.nD Cert.MidRefIdeal.τ).loc Cert.MidRefIdeal.main_arg2)
          ∧ r.2.mem ((c.tc : Thread Cert.MidRefIdeal.nD Cert.MidRefIdeal.τ).loc Cert.MidRefIdeal.main_arg3) = m' ((c.tc : Thread Cert.MidRefIdeal.nD Cert.MidRefIdeal.τ).loc Cert.MidRefIdeal.main_arg3)
          ∧ r.2.mem ((c.tc : Thread Cert.MidRefIdeal.nD Cert.MidRefIdeal.τ).loc Cert.MidRefIdeal.main_arg4) = m' ((c.tc : Thread Cert.MidRefIdeal.nD Cert.MidRefIdeal.τ).loc Cert.MidRefIdeal.main_arg4)
          ∧ r.2.mem ((c.tc : Thread Cert.MidRefIdeal.nD Cert.MidRefIdeal.τ).loc Cert.MidRefIdeal.main_arg5) = m' ((c.tc : Thread Cert.MidRefIdeal.nD Cert.MidRefIdeal.τ).loc Cert.MidRefIdeal.main_arg5))

def preserves_Adam_AdamIdeal : Prop :=
  True

def algebraic_AdamIdeal_AdamRefIdeal [hAdamIdeal : Cert.AdamIdeal.Facts] [hAdamRefIdeal : Cert.AdamRefIdeal.Facts] : Prop :=
  ∀ (m : (ℓ : Loc Cert.AdamIdeal.nD Cert.AdamIdeal.τ Cert.AdamIdeal.sig) → Buf (Elt Ideal) ℓ) (g : Dev Cert.AdamIdeal.nD → PrngReg)
    (m' : (ℓ : Loc Cert.AdamRefIdeal.nD Cert.AdamRefIdeal.τ Cert.AdamRefIdeal.sig) → Buf (Elt Ideal) ℓ) (g' : Dev Cert.AdamRefIdeal.nD → PrngReg), Pre_AdamIdeal m →
    (∀ c : Dev Cert.AdamIdeal.nD,
      m' ((c.tc : Thread Cert.AdamRefIdeal.nD Cert.AdamRefIdeal.τ).loc Cert.AdamRefIdeal.main_arg0) = m ((c.tc : Thread Cert.AdamIdeal.nD Cert.AdamIdeal.τ).loc Cert.AdamIdeal.main_arg0)
      ∧ m' ((c.tc : Thread Cert.AdamRefIdeal.nD Cert.AdamRefIdeal.τ).loc Cert.AdamRefIdeal.main_arg1) = m ((c.tc : Thread Cert.AdamIdeal.nD Cert.AdamIdeal.τ).loc Cert.AdamIdeal.main_arg1)
      ∧ m' ((c.tc : Thread Cert.AdamRefIdeal.nD Cert.AdamRefIdeal.τ).loc Cert.AdamRefIdeal.main_arg2) = m ((c.tc : Thread Cert.AdamIdeal.nD Cert.AdamIdeal.τ).loc Cert.AdamIdeal.main_arg2)
      ∧ m' ((c.tc : Thread Cert.AdamRefIdeal.nD Cert.AdamRefIdeal.τ).loc Cert.AdamRefIdeal.main_arg3) = m ((c.tc : Thread Cert.AdamIdeal.nD Cert.AdamIdeal.τ).loc Cert.AdamIdeal.main_arg3)
      ∧ m' ((c.tc : Thread Cert.AdamRefIdeal.nD Cert.AdamRefIdeal.τ).loc Cert.AdamRefIdeal.main_arg4) = m ((c.tc : Thread Cert.AdamIdeal.nD Cert.AdamIdeal.τ).loc Cert.AdamIdeal.main_arg4)
      ∧ m' ((c.tc : Thread Cert.AdamRefIdeal.nD Cert.AdamRefIdeal.τ).loc Cert.AdamRefIdeal.main_arg5) = m ((c.tc : Thread Cert.AdamIdeal.nD Cert.AdamIdeal.τ).loc Cert.AdamIdeal.main_arg5)
      ∧ m' ((c.tc : Thread Cert.AdamRefIdeal.nD Cert.AdamRefIdeal.τ).loc Cert.AdamRefIdeal.main_arg6) = m ((c.tc : Thread Cert.AdamIdeal.nD Cert.AdamIdeal.τ).loc Cert.AdamIdeal.main_arg6)
      ∧ m' ((c.tc : Thread Cert.AdamRefIdeal.nD Cert.AdamRefIdeal.τ).loc Cert.AdamRefIdeal.main_arg7) = m ((c.tc : Thread Cert.AdamIdeal.nD Cert.AdamIdeal.τ).loc Cert.AdamIdeal.main_arg7)
      ∧ m' ((c.tc : Thread Cert.AdamRefIdeal.nD Cert.AdamRefIdeal.τ).loc Cert.AdamRefIdeal.main_arg8) = m ((c.tc : Thread Cert.AdamIdeal.nD Cert.AdamIdeal.τ).loc Cert.AdamIdeal.main_arg8)
      ∧ m' ((c.tc : Thread Cert.AdamRefIdeal.nD Cert.AdamRefIdeal.τ).loc Cert.AdamRefIdeal.main_arg9) = m ((c.tc : Thread Cert.AdamIdeal.nD Cert.AdamIdeal.τ).loc Cert.AdamIdeal.main_arg9)
      ∧ m' ((c.tc : Thread Cert.AdamRefIdeal.nD Cert.AdamRefIdeal.τ).loc Cert.AdamRefIdeal.main_arg10) = m ((c.tc : Thread Cert.AdamIdeal.nD Cert.AdamIdeal.τ).loc Cert.AdamIdeal.main_arg10)
      ∧ m' ((c.tc : Thread Cert.AdamRefIdeal.nD Cert.AdamRefIdeal.τ).loc Cert.AdamRefIdeal.main_arg11) = m ((c.tc : Thread Cert.AdamIdeal.nD Cert.AdamIdeal.τ).loc Cert.AdamIdeal.main_arg11)
      ∧ m' ((c.tc : Thread Cert.AdamRefIdeal.nD Cert.AdamRefIdeal.τ).loc Cert.AdamRefIdeal.main_arg12) = m ((c.tc : Thread Cert.AdamIdeal.nD Cert.AdamIdeal.τ).loc Cert.AdamIdeal.main_arg12)
      ∧ m' ((c.tc : Thread Cert.AdamRefIdeal.nD Cert.AdamRefIdeal.τ).loc Cert.AdamRefIdeal.main_arg13) = m ((c.tc : Thread Cert.AdamIdeal.nD Cert.AdamIdeal.τ).loc Cert.AdamIdeal.main_arg13)
      ∧ m' ((c.tc : Thread Cert.AdamRefIdeal.nD Cert.AdamRefIdeal.τ).loc Cert.AdamRefIdeal.main_arg14) = m ((c.tc : Thread Cert.AdamIdeal.nD Cert.AdamIdeal.τ).loc Cert.AdamIdeal.main_arg14)
      ∧ m' ((c.tc : Thread Cert.AdamRefIdeal.nD Cert.AdamRefIdeal.τ).loc Cert.AdamRefIdeal.main_arg15) = m ((c.tc : Thread Cert.AdamIdeal.nD Cert.AdamIdeal.τ).loc Cert.AdamIdeal.main_arg15)
      ∧ m' ((c.tc : Thread Cert.AdamRefIdeal.nD Cert.AdamRefIdeal.τ).loc Cert.AdamRefIdeal.main_arg16) = m ((c.tc : Thread Cert.AdamIdeal.nD Cert.AdamIdeal.τ).loc Cert.AdamIdeal.main_arg16)
      ∧ m' ((c.tc : Thread Cert.AdamRefIdeal.nD Cert.AdamRefIdeal.τ).loc Cert.AdamRefIdeal.main_arg17) = m ((c.tc : Thread Cert.AdamIdeal.nD Cert.AdamIdeal.τ).loc Cert.AdamIdeal.main_arg17)
      ∧ m' ((c.tc : Thread Cert.AdamRefIdeal.nD Cert.AdamRefIdeal.τ).loc Cert.AdamRefIdeal.main_arg18) = m ((c.tc : Thread Cert.AdamIdeal.nD Cert.AdamIdeal.τ).loc Cert.AdamIdeal.main_arg18)
      ∧ m' ((c.tc : Thread Cert.AdamRefIdeal.nD Cert.AdamRefIdeal.τ).loc Cert.AdamRefIdeal.main_arg19) = m ((c.tc : Thread Cert.AdamIdeal.nD Cert.AdamIdeal.τ).loc Cert.AdamIdeal.main_arg19)
      ∧ m' ((c.tc : Thread Cert.AdamRefIdeal.nD Cert.AdamRefIdeal.τ).loc Cert.AdamRefIdeal.main_arg20) = m ((c.tc : Thread Cert.AdamIdeal.nD Cert.AdamIdeal.τ).loc Cert.AdamIdeal.main_arg20)
      ∧ m' ((c.tc : Thread Cert.AdamRefIdeal.nD Cert.AdamRefIdeal.τ).loc Cert.AdamRefIdeal.main_arg21) = m ((c.tc : Thread Cert.AdamIdeal.nD Cert.AdamIdeal.τ).loc Cert.AdamIdeal.main_arg21)
      ∧ m' ((c.tc : Thread Cert.AdamRefIdeal.nD Cert.AdamRefIdeal.τ).loc Cert.AdamRefIdeal.main_arg22) = m ((c.tc : Thread Cert.AdamIdeal.nD Cert.AdamIdeal.τ).loc Cert.AdamIdeal.main_arg22)
      ∧ m' ((c.tc : Thread Cert.AdamRefIdeal.nD Cert.AdamRefIdeal.τ).loc Cert.AdamRefIdeal.main_arg23) = m ((c.tc : Thread Cert.AdamIdeal.nD Cert.AdamIdeal.τ).loc Cert.AdamIdeal.main_arg23)
      ∧ m' ((c.tc : Thread Cert.AdamRefIdeal.nD Cert.AdamRefIdeal.τ).loc Cert.AdamRefIdeal.main_arg24) = m ((c.tc : Thread Cert.AdamIdeal.nD Cert.AdamIdeal.τ).loc Cert.AdamIdeal.main_arg24)
      ∧ m' ((c.tc : Thread Cert.AdamRefIdeal.nD Cert.AdamRefIdeal.τ).loc Cert.AdamRefIdeal.main_arg25) = m ((c.tc : Thread Cert.AdamIdeal.nD Cert.AdamIdeal.τ).loc Cert.AdamIdeal.main_arg25)
      ∧ m' ((c.tc : Thread Cert.AdamRefIdeal.nD Cert.AdamRefIdeal.τ).loc Cert.AdamRefIdeal.main_arg26) = m ((c.tc : Thread Cert.AdamIdeal.nD Cert.AdamIdeal.τ).loc Cert.AdamIdeal.main_arg26)
      ∧ m' ((c.tc : Thread Cert.AdamRefIdeal.nD Cert.AdamRefIdeal.τ).loc Cert.AdamRefIdeal.main_arg27) = m ((c.tc : Thread Cert.AdamIdeal.nD Cert.AdamIdeal.τ).loc Cert.AdamIdeal.main_arg27)
      ∧ m' ((c.tc : Thread Cert.AdamRefIdeal.nD Cert.AdamRefIdeal.τ).loc Cert.AdamRefIdeal.main_arg28) = m ((c.tc : Thread Cert.AdamIdeal.nD Cert.AdamIdeal.τ).loc Cert.AdamIdeal.main_arg28)
      ∧ m' ((c.tc : Thread Cert.AdamRefIdeal.nD Cert.AdamRefIdeal.τ).loc Cert.AdamRefIdeal.main_arg29) = m ((c.tc : Thread Cert.AdamIdeal.nD Cert.AdamIdeal.τ).loc Cert.AdamIdeal.main_arg29)
      ∧ m' ((c.tc : Thread Cert.AdamRefIdeal.nD Cert.AdamRefIdeal.τ).loc Cert.AdamRefIdeal.main_arg30) = m ((c.tc : Thread Cert.AdamIdeal.nD Cert.AdamIdeal.τ).loc Cert.AdamIdeal.main_arg30)
      ∧ m' ((c.tc : Thread Cert.AdamRefIdeal.nD Cert.AdamRefIdeal.τ).loc Cert.AdamRefIdeal.main_arg31) = m ((c.tc : Thread Cert.AdamIdeal.nD Cert.AdamIdeal.τ).loc Cert.AdamIdeal.main_arg31)
      ∧ m' ((c.tc : Thread Cert.AdamRefIdeal.nD Cert.AdamRefIdeal.τ).loc Cert.AdamRefIdeal.main_arg32) = m ((c.tc : Thread Cert.AdamIdeal.nD Cert.AdamIdeal.τ).loc Cert.AdamIdeal.main_arg32)
      ∧ m' ((c.tc : Thread Cert.AdamRefIdeal.nD Cert.AdamRefIdeal.τ).loc Cert.AdamRefIdeal.main_arg33) = m ((c.tc : Thread Cert.AdamIdeal.nD Cert.AdamIdeal.τ).loc Cert.AdamIdeal.main_arg33)
      ∧ m' ((c.tc : Thread Cert.AdamRefIdeal.nD Cert.AdamRefIdeal.τ).loc Cert.AdamRefIdeal.main_arg34) = m ((c.tc : Thread Cert.AdamIdeal.nD Cert.AdamIdeal.τ).loc Cert.AdamIdeal.main_arg34)
      ∧ m' ((c.tc : Thread Cert.AdamRefIdeal.nD Cert.AdamRefIdeal.τ).loc Cert.AdamRefIdeal.main_arg35) = m ((c.tc : Thread Cert.AdamIdeal.nD Cert.AdamIdeal.τ).loc Cert.AdamIdeal.main_arg35)
      ∧ m' ((c.tc : Thread Cert.AdamRefIdeal.nD Cert.AdamRefIdeal.τ).loc Cert.AdamRefIdeal.main_arg36) = m ((c.tc : Thread Cert.AdamIdeal.nD Cert.AdamIdeal.τ).loc Cert.AdamIdeal.main_arg36)
      ∧ m' ((c.tc : Thread Cert.AdamRefIdeal.nD Cert.AdamRefIdeal.τ).loc Cert.AdamRefIdeal.main_arg37) = m ((c.tc : Thread Cert.AdamIdeal.nD Cert.AdamIdeal.τ).loc Cert.AdamIdeal.main_arg37)
      ∧ m' ((c.tc : Thread Cert.AdamRefIdeal.nD Cert.AdamRefIdeal.τ).loc Cert.AdamRefIdeal.main_arg38) = m ((c.tc : Thread Cert.AdamIdeal.nD Cert.AdamIdeal.τ).loc Cert.AdamIdeal.main_arg38)
      ∧ m' ((c.tc : Thread Cert.AdamRefIdeal.nD Cert.AdamRefIdeal.τ).loc Cert.AdamRefIdeal.main_arg39) = m ((c.tc : Thread Cert.AdamIdeal.nD Cert.AdamIdeal.τ).loc Cert.AdamIdeal.main_arg39)
      ∧ m' ((c.tc : Thread Cert.AdamRefIdeal.nD Cert.AdamRefIdeal.τ).loc Cert.AdamRefIdeal.main_arg40) = m ((c.tc : Thread Cert.AdamIdeal.nD Cert.AdamIdeal.τ).loc Cert.AdamIdeal.main_arg40)
      ∧ m' ((c.tc : Thread Cert.AdamRefIdeal.nD Cert.AdamRefIdeal.τ).loc Cert.AdamRefIdeal.main_arg41) = m ((c.tc : Thread Cert.AdamIdeal.nD Cert.AdamIdeal.τ).loc Cert.AdamIdeal.main_arg41)
      ∧ m' ((c.tc : Thread Cert.AdamRefIdeal.nD Cert.AdamRefIdeal.τ).loc Cert.AdamRefIdeal.main_arg42) = m ((c.tc : Thread Cert.AdamIdeal.nD Cert.AdamIdeal.τ).loc Cert.AdamIdeal.main_arg42)
      ∧ m' ((c.tc : Thread Cert.AdamRefIdeal.nD Cert.AdamRefIdeal.τ).loc Cert.AdamRefIdeal.main_arg43) = m ((c.tc : Thread Cert.AdamIdeal.nD Cert.AdamIdeal.τ).loc Cert.AdamIdeal.main_arg43)) →
    ∃ (v0 : (c : Dev Cert.AdamIdeal.nD) → Buf (Elt Ideal) ((c.tc : Thread Cert.AdamIdeal.nD Cert.AdamIdeal.τ).loc Cert.AdamIdeal.main_v84_0)) (v1 : (c : Dev Cert.AdamIdeal.nD) → Buf (Elt Ideal) ((c.tc : Thread Cert.AdamIdeal.nD Cert.AdamIdeal.τ).loc Cert.AdamIdeal.main_v84_1)) (v2 : (c : Dev Cert.AdamIdeal.nD) → Buf (Elt Ideal) ((c.tc : Thread Cert.AdamIdeal.nD Cert.AdamIdeal.τ).loc Cert.AdamIdeal.main_v84_2)),
      θ_run (Cert.AdamIdeal.defs (F := Ideal)) (onTc (τ := Cert.AdamIdeal.τ) (Cert.AdamIdeal.main (F := Ideal))) ⟨m, fun _ => 0, g⟩ (fun r => ∀ c : Dev Cert.AdamIdeal.nD,
          r.2.mem ((c.tc : Thread Cert.AdamIdeal.nD Cert.AdamIdeal.τ).loc Cert.AdamIdeal.main_v84_0) = v0 c
          ∧ r.2.mem ((c.tc : Thread Cert.AdamIdeal.nD Cert.AdamIdeal.τ).loc Cert.AdamIdeal.main_v84_1) = v1 c
          ∧ r.2.mem ((c.tc : Thread Cert.AdamIdeal.nD Cert.AdamIdeal.τ).loc Cert.AdamIdeal.main_v84_2) = v2 c
          ∧ r.2.mem ((c.tc : Thread Cert.AdamIdeal.nD Cert.AdamIdeal.τ).loc Cert.AdamIdeal.main_arg0) = m ((c.tc : Thread Cert.AdamIdeal.nD Cert.AdamIdeal.τ).loc Cert.AdamIdeal.main_arg0)
          ∧ r.2.mem ((c.tc : Thread Cert.AdamIdeal.nD Cert.AdamIdeal.τ).loc Cert.AdamIdeal.main_arg1) = m ((c.tc : Thread Cert.AdamIdeal.nD Cert.AdamIdeal.τ).loc Cert.AdamIdeal.main_arg1)
          ∧ r.2.mem ((c.tc : Thread Cert.AdamIdeal.nD Cert.AdamIdeal.τ).loc Cert.AdamIdeal.main_arg2) = m ((c.tc : Thread Cert.AdamIdeal.nD Cert.AdamIdeal.τ).loc Cert.AdamIdeal.main_arg2)
          ∧ r.2.mem ((c.tc : Thread Cert.AdamIdeal.nD Cert.AdamIdeal.τ).loc Cert.AdamIdeal.main_arg3) = m ((c.tc : Thread Cert.AdamIdeal.nD Cert.AdamIdeal.τ).loc Cert.AdamIdeal.main_arg3)
          ∧ r.2.mem ((c.tc : Thread Cert.AdamIdeal.nD Cert.AdamIdeal.τ).loc Cert.AdamIdeal.main_arg4) = m ((c.tc : Thread Cert.AdamIdeal.nD Cert.AdamIdeal.τ).loc Cert.AdamIdeal.main_arg4)
          ∧ r.2.mem ((c.tc : Thread Cert.AdamIdeal.nD Cert.AdamIdeal.τ).loc Cert.AdamIdeal.main_arg5) = m ((c.tc : Thread Cert.AdamIdeal.nD Cert.AdamIdeal.τ).loc Cert.AdamIdeal.main_arg5)
          ∧ r.2.mem ((c.tc : Thread Cert.AdamIdeal.nD Cert.AdamIdeal.τ).loc Cert.AdamIdeal.main_arg6) = m ((c.tc : Thread Cert.AdamIdeal.nD Cert.AdamIdeal.τ).loc Cert.AdamIdeal.main_arg6)
          ∧ r.2.mem ((c.tc : Thread Cert.AdamIdeal.nD Cert.AdamIdeal.τ).loc Cert.AdamIdeal.main_arg7) = m ((c.tc : Thread Cert.AdamIdeal.nD Cert.AdamIdeal.τ).loc Cert.AdamIdeal.main_arg7)
          ∧ r.2.mem ((c.tc : Thread Cert.AdamIdeal.nD Cert.AdamIdeal.τ).loc Cert.AdamIdeal.main_arg8) = m ((c.tc : Thread Cert.AdamIdeal.nD Cert.AdamIdeal.τ).loc Cert.AdamIdeal.main_arg8)
          ∧ r.2.mem ((c.tc : Thread Cert.AdamIdeal.nD Cert.AdamIdeal.τ).loc Cert.AdamIdeal.main_arg9) = m ((c.tc : Thread Cert.AdamIdeal.nD Cert.AdamIdeal.τ).loc Cert.AdamIdeal.main_arg9)
          ∧ r.2.mem ((c.tc : Thread Cert.AdamIdeal.nD Cert.AdamIdeal.τ).loc Cert.AdamIdeal.main_arg10) = m ((c.tc : Thread Cert.AdamIdeal.nD Cert.AdamIdeal.τ).loc Cert.AdamIdeal.main_arg10)
          ∧ r.2.mem ((c.tc : Thread Cert.AdamIdeal.nD Cert.AdamIdeal.τ).loc Cert.AdamIdeal.main_arg11) = m ((c.tc : Thread Cert.AdamIdeal.nD Cert.AdamIdeal.τ).loc Cert.AdamIdeal.main_arg11)
          ∧ r.2.mem ((c.tc : Thread Cert.AdamIdeal.nD Cert.AdamIdeal.τ).loc Cert.AdamIdeal.main_arg12) = m ((c.tc : Thread Cert.AdamIdeal.nD Cert.AdamIdeal.τ).loc Cert.AdamIdeal.main_arg12)
          ∧ r.2.mem ((c.tc : Thread Cert.AdamIdeal.nD Cert.AdamIdeal.τ).loc Cert.AdamIdeal.main_arg13) = m ((c.tc : Thread Cert.AdamIdeal.nD Cert.AdamIdeal.τ).loc Cert.AdamIdeal.main_arg13)
          ∧ r.2.mem ((c.tc : Thread Cert.AdamIdeal.nD Cert.AdamIdeal.τ).loc Cert.AdamIdeal.main_arg14) = m ((c.tc : Thread Cert.AdamIdeal.nD Cert.AdamIdeal.τ).loc Cert.AdamIdeal.main_arg14)
          ∧ r.2.mem ((c.tc : Thread Cert.AdamIdeal.nD Cert.AdamIdeal.τ).loc Cert.AdamIdeal.main_arg15) = m ((c.tc : Thread Cert.AdamIdeal.nD Cert.AdamIdeal.τ).loc Cert.AdamIdeal.main_arg15)
          ∧ r.2.mem ((c.tc : Thread Cert.AdamIdeal.nD Cert.AdamIdeal.τ).loc Cert.AdamIdeal.main_arg16) = m ((c.tc : Thread Cert.AdamIdeal.nD Cert.AdamIdeal.τ).loc Cert.AdamIdeal.main_arg16)
          ∧ r.2.mem ((c.tc : Thread Cert.AdamIdeal.nD Cert.AdamIdeal.τ).loc Cert.AdamIdeal.main_arg17) = m ((c.tc : Thread Cert.AdamIdeal.nD Cert.AdamIdeal.τ).loc Cert.AdamIdeal.main_arg17)
          ∧ r.2.mem ((c.tc : Thread Cert.AdamIdeal.nD Cert.AdamIdeal.τ).loc Cert.AdamIdeal.main_arg18) = m ((c.tc : Thread Cert.AdamIdeal.nD Cert.AdamIdeal.τ).loc Cert.AdamIdeal.main_arg18)
          ∧ r.2.mem ((c.tc : Thread Cert.AdamIdeal.nD Cert.AdamIdeal.τ).loc Cert.AdamIdeal.main_arg19) = m ((c.tc : Thread Cert.AdamIdeal.nD Cert.AdamIdeal.τ).loc Cert.AdamIdeal.main_arg19)
          ∧ r.2.mem ((c.tc : Thread Cert.AdamIdeal.nD Cert.AdamIdeal.τ).loc Cert.AdamIdeal.main_arg20) = m ((c.tc : Thread Cert.AdamIdeal.nD Cert.AdamIdeal.τ).loc Cert.AdamIdeal.main_arg20)
          ∧ r.2.mem ((c.tc : Thread Cert.AdamIdeal.nD Cert.AdamIdeal.τ).loc Cert.AdamIdeal.main_arg21) = m ((c.tc : Thread Cert.AdamIdeal.nD Cert.AdamIdeal.τ).loc Cert.AdamIdeal.main_arg21)
          ∧ r.2.mem ((c.tc : Thread Cert.AdamIdeal.nD Cert.AdamIdeal.τ).loc Cert.AdamIdeal.main_arg22) = m ((c.tc : Thread Cert.AdamIdeal.nD Cert.AdamIdeal.τ).loc Cert.AdamIdeal.main_arg22)
          ∧ r.2.mem ((c.tc : Thread Cert.AdamIdeal.nD Cert.AdamIdeal.τ).loc Cert.AdamIdeal.main_arg23) = m ((c.tc : Thread Cert.AdamIdeal.nD Cert.AdamIdeal.τ).loc Cert.AdamIdeal.main_arg23)
          ∧ r.2.mem ((c.tc : Thread Cert.AdamIdeal.nD Cert.AdamIdeal.τ).loc Cert.AdamIdeal.main_arg24) = m ((c.tc : Thread Cert.AdamIdeal.nD Cert.AdamIdeal.τ).loc Cert.AdamIdeal.main_arg24)
          ∧ r.2.mem ((c.tc : Thread Cert.AdamIdeal.nD Cert.AdamIdeal.τ).loc Cert.AdamIdeal.main_arg25) = m ((c.tc : Thread Cert.AdamIdeal.nD Cert.AdamIdeal.τ).loc Cert.AdamIdeal.main_arg25)
          ∧ r.2.mem ((c.tc : Thread Cert.AdamIdeal.nD Cert.AdamIdeal.τ).loc Cert.AdamIdeal.main_arg26) = m ((c.tc : Thread Cert.AdamIdeal.nD Cert.AdamIdeal.τ).loc Cert.AdamIdeal.main_arg26)
          ∧ r.2.mem ((c.tc : Thread Cert.AdamIdeal.nD Cert.AdamIdeal.τ).loc Cert.AdamIdeal.main_arg27) = m ((c.tc : Thread Cert.AdamIdeal.nD Cert.AdamIdeal.τ).loc Cert.AdamIdeal.main_arg27)
          ∧ r.2.mem ((c.tc : Thread Cert.AdamIdeal.nD Cert.AdamIdeal.τ).loc Cert.AdamIdeal.main_arg28) = m ((c.tc : Thread Cert.AdamIdeal.nD Cert.AdamIdeal.τ).loc Cert.AdamIdeal.main_arg28)
          ∧ r.2.mem ((c.tc : Thread Cert.AdamIdeal.nD Cert.AdamIdeal.τ).loc Cert.AdamIdeal.main_arg29) = m ((c.tc : Thread Cert.AdamIdeal.nD Cert.AdamIdeal.τ).loc Cert.AdamIdeal.main_arg29)
          ∧ r.2.mem ((c.tc : Thread Cert.AdamIdeal.nD Cert.AdamIdeal.τ).loc Cert.AdamIdeal.main_arg30) = m ((c.tc : Thread Cert.AdamIdeal.nD Cert.AdamIdeal.τ).loc Cert.AdamIdeal.main_arg30)
          ∧ r.2.mem ((c.tc : Thread Cert.AdamIdeal.nD Cert.AdamIdeal.τ).loc Cert.AdamIdeal.main_arg31) = m ((c.tc : Thread Cert.AdamIdeal.nD Cert.AdamIdeal.τ).loc Cert.AdamIdeal.main_arg31)
          ∧ r.2.mem ((c.tc : Thread Cert.AdamIdeal.nD Cert.AdamIdeal.τ).loc Cert.AdamIdeal.main_arg32) = m ((c.tc : Thread Cert.AdamIdeal.nD Cert.AdamIdeal.τ).loc Cert.AdamIdeal.main_arg32)
          ∧ r.2.mem ((c.tc : Thread Cert.AdamIdeal.nD Cert.AdamIdeal.τ).loc Cert.AdamIdeal.main_arg33) = m ((c.tc : Thread Cert.AdamIdeal.nD Cert.AdamIdeal.τ).loc Cert.AdamIdeal.main_arg33)
          ∧ r.2.mem ((c.tc : Thread Cert.AdamIdeal.nD Cert.AdamIdeal.τ).loc Cert.AdamIdeal.main_arg34) = m ((c.tc : Thread Cert.AdamIdeal.nD Cert.AdamIdeal.τ).loc Cert.AdamIdeal.main_arg34)
          ∧ r.2.mem ((c.tc : Thread Cert.AdamIdeal.nD Cert.AdamIdeal.τ).loc Cert.AdamIdeal.main_arg35) = m ((c.tc : Thread Cert.AdamIdeal.nD Cert.AdamIdeal.τ).loc Cert.AdamIdeal.main_arg35)
          ∧ r.2.mem ((c.tc : Thread Cert.AdamIdeal.nD Cert.AdamIdeal.τ).loc Cert.AdamIdeal.main_arg36) = m ((c.tc : Thread Cert.AdamIdeal.nD Cert.AdamIdeal.τ).loc Cert.AdamIdeal.main_arg36)
          ∧ r.2.mem ((c.tc : Thread Cert.AdamIdeal.nD Cert.AdamIdeal.τ).loc Cert.AdamIdeal.main_arg37) = m ((c.tc : Thread Cert.AdamIdeal.nD Cert.AdamIdeal.τ).loc Cert.AdamIdeal.main_arg37)
          ∧ r.2.mem ((c.tc : Thread Cert.AdamIdeal.nD Cert.AdamIdeal.τ).loc Cert.AdamIdeal.main_arg38) = m ((c.tc : Thread Cert.AdamIdeal.nD Cert.AdamIdeal.τ).loc Cert.AdamIdeal.main_arg38)
          ∧ r.2.mem ((c.tc : Thread Cert.AdamIdeal.nD Cert.AdamIdeal.τ).loc Cert.AdamIdeal.main_arg39) = m ((c.tc : Thread Cert.AdamIdeal.nD Cert.AdamIdeal.τ).loc Cert.AdamIdeal.main_arg39)
          ∧ r.2.mem ((c.tc : Thread Cert.AdamIdeal.nD Cert.AdamIdeal.τ).loc Cert.AdamIdeal.main_arg40) = m ((c.tc : Thread Cert.AdamIdeal.nD Cert.AdamIdeal.τ).loc Cert.AdamIdeal.main_arg40)
          ∧ r.2.mem ((c.tc : Thread Cert.AdamIdeal.nD Cert.AdamIdeal.τ).loc Cert.AdamIdeal.main_arg41) = m ((c.tc : Thread Cert.AdamIdeal.nD Cert.AdamIdeal.τ).loc Cert.AdamIdeal.main_arg41)
          ∧ r.2.mem ((c.tc : Thread Cert.AdamIdeal.nD Cert.AdamIdeal.τ).loc Cert.AdamIdeal.main_arg42) = m ((c.tc : Thread Cert.AdamIdeal.nD Cert.AdamIdeal.τ).loc Cert.AdamIdeal.main_arg42)
          ∧ r.2.mem ((c.tc : Thread Cert.AdamIdeal.nD Cert.AdamIdeal.τ).loc Cert.AdamIdeal.main_arg43) = m ((c.tc : Thread Cert.AdamIdeal.nD Cert.AdamIdeal.τ).loc Cert.AdamIdeal.main_arg43))
      ∧ θ_run (Cert.AdamRefIdeal.defs (F := Ideal)) (onTc (τ := Cert.AdamRefIdeal.τ) (Cert.AdamRefIdeal.main (F := Ideal))) ⟨m', fun _ => 0, g'⟩ (fun r => ∀ c : Dev Cert.AdamRefIdeal.nD,
          r.2.mem ((c.tc : Thread Cert.AdamRefIdeal.nD Cert.AdamRefIdeal.τ).loc Cert.AdamRefIdeal.main_v284) = v0 c
          ∧ r.2.mem ((c.tc : Thread Cert.AdamRefIdeal.nD Cert.AdamRefIdeal.τ).loc Cert.AdamRefIdeal.main_v305) = v1 c
          ∧ r.2.mem ((c.tc : Thread Cert.AdamRefIdeal.nD Cert.AdamRefIdeal.τ).loc Cert.AdamRefIdeal.main_v326) = v2 c
          ∧ r.2.mem ((c.tc : Thread Cert.AdamRefIdeal.nD Cert.AdamRefIdeal.τ).loc Cert.AdamRefIdeal.main_arg0) = m' ((c.tc : Thread Cert.AdamRefIdeal.nD Cert.AdamRefIdeal.τ).loc Cert.AdamRefIdeal.main_arg0)
          ∧ r.2.mem ((c.tc : Thread Cert.AdamRefIdeal.nD Cert.AdamRefIdeal.τ).loc Cert.AdamRefIdeal.main_arg1) = m' ((c.tc : Thread Cert.AdamRefIdeal.nD Cert.AdamRefIdeal.τ).loc Cert.AdamRefIdeal.main_arg1)
          ∧ r.2.mem ((c.tc : Thread Cert.AdamRefIdeal.nD Cert.AdamRefIdeal.τ).loc Cert.AdamRefIdeal.main_arg2) = m' ((c.tc : Thread Cert.AdamRefIdeal.nD Cert.AdamRefIdeal.τ).loc Cert.AdamRefIdeal.main_arg2)
          ∧ r.2.mem ((c.tc : Thread Cert.AdamRefIdeal.nD Cert.AdamRefIdeal.τ).loc Cert.AdamRefIdeal.main_arg3) = m' ((c.tc : Thread Cert.AdamRefIdeal.nD Cert.AdamRefIdeal.τ).loc Cert.AdamRefIdeal.main_arg3)
          ∧ r.2.mem ((c.tc : Thread Cert.AdamRefIdeal.nD Cert.AdamRefIdeal.τ).loc Cert.AdamRefIdeal.main_arg4) = m' ((c.tc : Thread Cert.AdamRefIdeal.nD Cert.AdamRefIdeal.τ).loc Cert.AdamRefIdeal.main_arg4)
          ∧ r.2.mem ((c.tc : Thread Cert.AdamRefIdeal.nD Cert.AdamRefIdeal.τ).loc Cert.AdamRefIdeal.main_arg5) = m' ((c.tc : Thread Cert.AdamRefIdeal.nD Cert.AdamRefIdeal.τ).loc Cert.AdamRefIdeal.main_arg5)
          ∧ r.2.mem ((c.tc : Thread Cert.AdamRefIdeal.nD Cert.AdamRefIdeal.τ).loc Cert.AdamRefIdeal.main_arg6) = m' ((c.tc : Thread Cert.AdamRefIdeal.nD Cert.AdamRefIdeal.τ).loc Cert.AdamRefIdeal.main_arg6)
          ∧ r.2.mem ((c.tc : Thread Cert.AdamRefIdeal.nD Cert.AdamRefIdeal.τ).loc Cert.AdamRefIdeal.main_arg7) = m' ((c.tc : Thread Cert.AdamRefIdeal.nD Cert.AdamRefIdeal.τ).loc Cert.AdamRefIdeal.main_arg7)
          ∧ r.2.mem ((c.tc : Thread Cert.AdamRefIdeal.nD Cert.AdamRefIdeal.τ).loc Cert.AdamRefIdeal.main_arg8) = m' ((c.tc : Thread Cert.AdamRefIdeal.nD Cert.AdamRefIdeal.τ).loc Cert.AdamRefIdeal.main_arg8)
          ∧ r.2.mem ((c.tc : Thread Cert.AdamRefIdeal.nD Cert.AdamRefIdeal.τ).loc Cert.AdamRefIdeal.main_arg9) = m' ((c.tc : Thread Cert.AdamRefIdeal.nD Cert.AdamRefIdeal.τ).loc Cert.AdamRefIdeal.main_arg9)
          ∧ r.2.mem ((c.tc : Thread Cert.AdamRefIdeal.nD Cert.AdamRefIdeal.τ).loc Cert.AdamRefIdeal.main_arg10) = m' ((c.tc : Thread Cert.AdamRefIdeal.nD Cert.AdamRefIdeal.τ).loc Cert.AdamRefIdeal.main_arg10)
          ∧ r.2.mem ((c.tc : Thread Cert.AdamRefIdeal.nD Cert.AdamRefIdeal.τ).loc Cert.AdamRefIdeal.main_arg11) = m' ((c.tc : Thread Cert.AdamRefIdeal.nD Cert.AdamRefIdeal.τ).loc Cert.AdamRefIdeal.main_arg11)
          ∧ r.2.mem ((c.tc : Thread Cert.AdamRefIdeal.nD Cert.AdamRefIdeal.τ).loc Cert.AdamRefIdeal.main_arg12) = m' ((c.tc : Thread Cert.AdamRefIdeal.nD Cert.AdamRefIdeal.τ).loc Cert.AdamRefIdeal.main_arg12)
          ∧ r.2.mem ((c.tc : Thread Cert.AdamRefIdeal.nD Cert.AdamRefIdeal.τ).loc Cert.AdamRefIdeal.main_arg13) = m' ((c.tc : Thread Cert.AdamRefIdeal.nD Cert.AdamRefIdeal.τ).loc Cert.AdamRefIdeal.main_arg13)
          ∧ r.2.mem ((c.tc : Thread Cert.AdamRefIdeal.nD Cert.AdamRefIdeal.τ).loc Cert.AdamRefIdeal.main_arg14) = m' ((c.tc : Thread Cert.AdamRefIdeal.nD Cert.AdamRefIdeal.τ).loc Cert.AdamRefIdeal.main_arg14)
          ∧ r.2.mem ((c.tc : Thread Cert.AdamRefIdeal.nD Cert.AdamRefIdeal.τ).loc Cert.AdamRefIdeal.main_arg15) = m' ((c.tc : Thread Cert.AdamRefIdeal.nD Cert.AdamRefIdeal.τ).loc Cert.AdamRefIdeal.main_arg15)
          ∧ r.2.mem ((c.tc : Thread Cert.AdamRefIdeal.nD Cert.AdamRefIdeal.τ).loc Cert.AdamRefIdeal.main_arg16) = m' ((c.tc : Thread Cert.AdamRefIdeal.nD Cert.AdamRefIdeal.τ).loc Cert.AdamRefIdeal.main_arg16)
          ∧ r.2.mem ((c.tc : Thread Cert.AdamRefIdeal.nD Cert.AdamRefIdeal.τ).loc Cert.AdamRefIdeal.main_arg17) = m' ((c.tc : Thread Cert.AdamRefIdeal.nD Cert.AdamRefIdeal.τ).loc Cert.AdamRefIdeal.main_arg17)
          ∧ r.2.mem ((c.tc : Thread Cert.AdamRefIdeal.nD Cert.AdamRefIdeal.τ).loc Cert.AdamRefIdeal.main_arg18) = m' ((c.tc : Thread Cert.AdamRefIdeal.nD Cert.AdamRefIdeal.τ).loc Cert.AdamRefIdeal.main_arg18)
          ∧ r.2.mem ((c.tc : Thread Cert.AdamRefIdeal.nD Cert.AdamRefIdeal.τ).loc Cert.AdamRefIdeal.main_arg19) = m' ((c.tc : Thread Cert.AdamRefIdeal.nD Cert.AdamRefIdeal.τ).loc Cert.AdamRefIdeal.main_arg19)
          ∧ r.2.mem ((c.tc : Thread Cert.AdamRefIdeal.nD Cert.AdamRefIdeal.τ).loc Cert.AdamRefIdeal.main_arg20) = m' ((c.tc : Thread Cert.AdamRefIdeal.nD Cert.AdamRefIdeal.τ).loc Cert.AdamRefIdeal.main_arg20)
          ∧ r.2.mem ((c.tc : Thread Cert.AdamRefIdeal.nD Cert.AdamRefIdeal.τ).loc Cert.AdamRefIdeal.main_arg21) = m' ((c.tc : Thread Cert.AdamRefIdeal.nD Cert.AdamRefIdeal.τ).loc Cert.AdamRefIdeal.main_arg21)
          ∧ r.2.mem ((c.tc : Thread Cert.AdamRefIdeal.nD Cert.AdamRefIdeal.τ).loc Cert.AdamRefIdeal.main_arg22) = m' ((c.tc : Thread Cert.AdamRefIdeal.nD Cert.AdamRefIdeal.τ).loc Cert.AdamRefIdeal.main_arg22)
          ∧ r.2.mem ((c.tc : Thread Cert.AdamRefIdeal.nD Cert.AdamRefIdeal.τ).loc Cert.AdamRefIdeal.main_arg23) = m' ((c.tc : Thread Cert.AdamRefIdeal.nD Cert.AdamRefIdeal.τ).loc Cert.AdamRefIdeal.main_arg23)
          ∧ r.2.mem ((c.tc : Thread Cert.AdamRefIdeal.nD Cert.AdamRefIdeal.τ).loc Cert.AdamRefIdeal.main_arg24) = m' ((c.tc : Thread Cert.AdamRefIdeal.nD Cert.AdamRefIdeal.τ).loc Cert.AdamRefIdeal.main_arg24)
          ∧ r.2.mem ((c.tc : Thread Cert.AdamRefIdeal.nD Cert.AdamRefIdeal.τ).loc Cert.AdamRefIdeal.main_arg25) = m' ((c.tc : Thread Cert.AdamRefIdeal.nD Cert.AdamRefIdeal.τ).loc Cert.AdamRefIdeal.main_arg25)
          ∧ r.2.mem ((c.tc : Thread Cert.AdamRefIdeal.nD Cert.AdamRefIdeal.τ).loc Cert.AdamRefIdeal.main_arg26) = m' ((c.tc : Thread Cert.AdamRefIdeal.nD Cert.AdamRefIdeal.τ).loc Cert.AdamRefIdeal.main_arg26)
          ∧ r.2.mem ((c.tc : Thread Cert.AdamRefIdeal.nD Cert.AdamRefIdeal.τ).loc Cert.AdamRefIdeal.main_arg27) = m' ((c.tc : Thread Cert.AdamRefIdeal.nD Cert.AdamRefIdeal.τ).loc Cert.AdamRefIdeal.main_arg27)
          ∧ r.2.mem ((c.tc : Thread Cert.AdamRefIdeal.nD Cert.AdamRefIdeal.τ).loc Cert.AdamRefIdeal.main_arg28) = m' ((c.tc : Thread Cert.AdamRefIdeal.nD Cert.AdamRefIdeal.τ).loc Cert.AdamRefIdeal.main_arg28)
          ∧ r.2.mem ((c.tc : Thread Cert.AdamRefIdeal.nD Cert.AdamRefIdeal.τ).loc Cert.AdamRefIdeal.main_arg29) = m' ((c.tc : Thread Cert.AdamRefIdeal.nD Cert.AdamRefIdeal.τ).loc Cert.AdamRefIdeal.main_arg29)
          ∧ r.2.mem ((c.tc : Thread Cert.AdamRefIdeal.nD Cert.AdamRefIdeal.τ).loc Cert.AdamRefIdeal.main_arg30) = m' ((c.tc : Thread Cert.AdamRefIdeal.nD Cert.AdamRefIdeal.τ).loc Cert.AdamRefIdeal.main_arg30)
          ∧ r.2.mem ((c.tc : Thread Cert.AdamRefIdeal.nD Cert.AdamRefIdeal.τ).loc Cert.AdamRefIdeal.main_arg31) = m' ((c.tc : Thread Cert.AdamRefIdeal.nD Cert.AdamRefIdeal.τ).loc Cert.AdamRefIdeal.main_arg31)
          ∧ r.2.mem ((c.tc : Thread Cert.AdamRefIdeal.nD Cert.AdamRefIdeal.τ).loc Cert.AdamRefIdeal.main_arg32) = m' ((c.tc : Thread Cert.AdamRefIdeal.nD Cert.AdamRefIdeal.τ).loc Cert.AdamRefIdeal.main_arg32)
          ∧ r.2.mem ((c.tc : Thread Cert.AdamRefIdeal.nD Cert.AdamRefIdeal.τ).loc Cert.AdamRefIdeal.main_arg33) = m' ((c.tc : Thread Cert.AdamRefIdeal.nD Cert.AdamRefIdeal.τ).loc Cert.AdamRefIdeal.main_arg33)
          ∧ r.2.mem ((c.tc : Thread Cert.AdamRefIdeal.nD Cert.AdamRefIdeal.τ).loc Cert.AdamRefIdeal.main_arg34) = m' ((c.tc : Thread Cert.AdamRefIdeal.nD Cert.AdamRefIdeal.τ).loc Cert.AdamRefIdeal.main_arg34)
          ∧ r.2.mem ((c.tc : Thread Cert.AdamRefIdeal.nD Cert.AdamRefIdeal.τ).loc Cert.AdamRefIdeal.main_arg35) = m' ((c.tc : Thread Cert.AdamRefIdeal.nD Cert.AdamRefIdeal.τ).loc Cert.AdamRefIdeal.main_arg35)
          ∧ r.2.mem ((c.tc : Thread Cert.AdamRefIdeal.nD Cert.AdamRefIdeal.τ).loc Cert.AdamRefIdeal.main_arg36) = m' ((c.tc : Thread Cert.AdamRefIdeal.nD Cert.AdamRefIdeal.τ).loc Cert.AdamRefIdeal.main_arg36)
          ∧ r.2.mem ((c.tc : Thread Cert.AdamRefIdeal.nD Cert.AdamRefIdeal.τ).loc Cert.AdamRefIdeal.main_arg37) = m' ((c.tc : Thread Cert.AdamRefIdeal.nD Cert.AdamRefIdeal.τ).loc Cert.AdamRefIdeal.main_arg37)
          ∧ r.2.mem ((c.tc : Thread Cert.AdamRefIdeal.nD Cert.AdamRefIdeal.τ).loc Cert.AdamRefIdeal.main_arg38) = m' ((c.tc : Thread Cert.AdamRefIdeal.nD Cert.AdamRefIdeal.τ).loc Cert.AdamRefIdeal.main_arg38)
          ∧ r.2.mem ((c.tc : Thread Cert.AdamRefIdeal.nD Cert.AdamRefIdeal.τ).loc Cert.AdamRefIdeal.main_arg39) = m' ((c.tc : Thread Cert.AdamRefIdeal.nD Cert.AdamRefIdeal.τ).loc Cert.AdamRefIdeal.main_arg39)
          ∧ r.2.mem ((c.tc : Thread Cert.AdamRefIdeal.nD Cert.AdamRefIdeal.τ).loc Cert.AdamRefIdeal.main_arg40) = m' ((c.tc : Thread Cert.AdamRefIdeal.nD Cert.AdamRefIdeal.τ).loc Cert.AdamRefIdeal.main_arg40)
          ∧ r.2.mem ((c.tc : Thread Cert.AdamRefIdeal.nD Cert.AdamRefIdeal.τ).loc Cert.AdamRefIdeal.main_arg41) = m' ((c.tc : Thread Cert.AdamRefIdeal.nD Cert.AdamRefIdeal.τ).loc Cert.AdamRefIdeal.main_arg41)
          ∧ r.2.mem ((c.tc : Thread Cert.AdamRefIdeal.nD Cert.AdamRefIdeal.τ).loc Cert.AdamRefIdeal.main_arg42) = m' ((c.tc : Thread Cert.AdamRefIdeal.nD Cert.AdamRefIdeal.τ).loc Cert.AdamRefIdeal.main_arg42)
          ∧ r.2.mem ((c.tc : Thread Cert.AdamRefIdeal.nD Cert.AdamRefIdeal.τ).loc Cert.AdamRefIdeal.main_arg43) = m' ((c.tc : Thread Cert.AdamRefIdeal.nD Cert.AdamRefIdeal.τ).loc Cert.AdamRefIdeal.main_arg43))

def preserves_Pre_PreIdeal : Prop :=
  IdealRules.named_const.Statement Cert.PreIdeal.κ "mean384" .f32 0x3B2AAAAB#32 ((1 / 384 : ℝ) : EReal)
  ∧ IdealRules.named_const.Statement Cert.PreIdeal.κ "mean96" .f32 0x3C2AAAAB#32 ((1 / 96 : ℝ) : EReal)

def algebraic_PreIdeal_PreRefIdeal [hPreIdeal : Cert.PreIdeal.Facts] [hPreRefIdeal : Cert.PreRefIdeal.Facts] : Prop :=
  ∀ (m : (ℓ : Loc Cert.PreIdeal.nD Cert.PreIdeal.τ Cert.PreIdeal.sig) → Buf (Elt Ideal) ℓ) (g : Dev Cert.PreIdeal.nD → PrngReg)
    (m' : (ℓ : Loc Cert.PreRefIdeal.nD Cert.PreRefIdeal.τ Cert.PreRefIdeal.sig) → Buf (Elt Ideal) ℓ) (g' : Dev Cert.PreRefIdeal.nD → PrngReg), Pre_PreIdeal m →
    (∀ c : Dev Cert.PreIdeal.nD,
      m' ((c.tc : Thread Cert.PreRefIdeal.nD Cert.PreRefIdeal.τ).loc Cert.PreRefIdeal.main_arg0) = m ((c.tc : Thread Cert.PreIdeal.nD Cert.PreIdeal.τ).loc Cert.PreIdeal.main_arg0)
      ∧ m' ((c.tc : Thread Cert.PreRefIdeal.nD Cert.PreRefIdeal.τ).loc Cert.PreRefIdeal.main_arg1) = m ((c.tc : Thread Cert.PreIdeal.nD Cert.PreIdeal.τ).loc Cert.PreIdeal.main_arg1)
      ∧ m' ((c.tc : Thread Cert.PreRefIdeal.nD Cert.PreRefIdeal.τ).loc Cert.PreRefIdeal.main_arg2) = m ((c.tc : Thread Cert.PreIdeal.nD Cert.PreIdeal.τ).loc Cert.PreIdeal.main_arg2)
      ∧ m' ((c.tc : Thread Cert.PreRefIdeal.nD Cert.PreRefIdeal.τ).loc Cert.PreRefIdeal.main_arg3) = m ((c.tc : Thread Cert.PreIdeal.nD Cert.PreIdeal.τ).loc Cert.PreIdeal.main_arg3)
      ∧ m' ((c.tc : Thread Cert.PreRefIdeal.nD Cert.PreRefIdeal.τ).loc Cert.PreRefIdeal.main_arg4) = m ((c.tc : Thread Cert.PreIdeal.nD Cert.PreIdeal.τ).loc Cert.PreIdeal.main_arg4)
      ∧ m' ((c.tc : Thread Cert.PreRefIdeal.nD Cert.PreRefIdeal.τ).loc Cert.PreRefIdeal.main_arg5) = m ((c.tc : Thread Cert.PreIdeal.nD Cert.PreIdeal.τ).loc Cert.PreIdeal.main_arg5)
      ∧ m' ((c.tc : Thread Cert.PreRefIdeal.nD Cert.PreRefIdeal.τ).loc Cert.PreRefIdeal.main_arg6) = m ((c.tc : Thread Cert.PreIdeal.nD Cert.PreIdeal.τ).loc Cert.PreIdeal.main_arg6)
      ∧ m' ((c.tc : Thread Cert.PreRefIdeal.nD Cert.PreRefIdeal.τ).loc Cert.PreRefIdeal.main_arg7) = m ((c.tc : Thread Cert.PreIdeal.nD Cert.PreIdeal.τ).loc Cert.PreIdeal.main_arg7)
      ∧ m' ((c.tc : Thread Cert.PreRefIdeal.nD Cert.PreRefIdeal.τ).loc Cert.PreRefIdeal.main_arg8) = m ((c.tc : Thread Cert.PreIdeal.nD Cert.PreIdeal.τ).loc Cert.PreIdeal.main_arg8)
      ∧ m' ((c.tc : Thread Cert.PreRefIdeal.nD Cert.PreRefIdeal.τ).loc Cert.PreRefIdeal.main_arg9) = m ((c.tc : Thread Cert.PreIdeal.nD Cert.PreIdeal.τ).loc Cert.PreIdeal.main_arg9)
      ∧ m' ((c.tc : Thread Cert.PreRefIdeal.nD Cert.PreRefIdeal.τ).loc Cert.PreRefIdeal.main_arg10) = m ((c.tc : Thread Cert.PreIdeal.nD Cert.PreIdeal.τ).loc Cert.PreIdeal.main_arg10)
      ∧ m' ((c.tc : Thread Cert.PreRefIdeal.nD Cert.PreRefIdeal.τ).loc Cert.PreRefIdeal.main_arg11) = m ((c.tc : Thread Cert.PreIdeal.nD Cert.PreIdeal.τ).loc Cert.PreIdeal.main_arg11)
      ∧ m' ((c.tc : Thread Cert.PreRefIdeal.nD Cert.PreRefIdeal.τ).loc Cert.PreRefIdeal.main_arg12) = m ((c.tc : Thread Cert.PreIdeal.nD Cert.PreIdeal.τ).loc Cert.PreIdeal.main_arg12)
      ∧ m' ((c.tc : Thread Cert.PreRefIdeal.nD Cert.PreRefIdeal.τ).loc Cert.PreRefIdeal.main_arg13) = m ((c.tc : Thread Cert.PreIdeal.nD Cert.PreIdeal.τ).loc Cert.PreIdeal.main_arg13)
      ∧ m' ((c.tc : Thread Cert.PreRefIdeal.nD Cert.PreRefIdeal.τ).loc Cert.PreRefIdeal.main_arg14) = m ((c.tc : Thread Cert.PreIdeal.nD Cert.PreIdeal.τ).loc Cert.PreIdeal.main_arg14)
      ∧ m' ((c.tc : Thread Cert.PreRefIdeal.nD Cert.PreRefIdeal.τ).loc Cert.PreRefIdeal.main_arg15) = m ((c.tc : Thread Cert.PreIdeal.nD Cert.PreIdeal.τ).loc Cert.PreIdeal.main_arg15)
      ∧ m' ((c.tc : Thread Cert.PreRefIdeal.nD Cert.PreRefIdeal.τ).loc Cert.PreRefIdeal.main_arg16) = m ((c.tc : Thread Cert.PreIdeal.nD Cert.PreIdeal.τ).loc Cert.PreIdeal.main_arg16)
      ∧ m' ((c.tc : Thread Cert.PreRefIdeal.nD Cert.PreRefIdeal.τ).loc Cert.PreRefIdeal.main_arg17) = m ((c.tc : Thread Cert.PreIdeal.nD Cert.PreIdeal.τ).loc Cert.PreIdeal.main_arg17)
      ∧ m' ((c.tc : Thread Cert.PreRefIdeal.nD Cert.PreRefIdeal.τ).loc Cert.PreRefIdeal.main_arg18) = m ((c.tc : Thread Cert.PreIdeal.nD Cert.PreIdeal.τ).loc Cert.PreIdeal.main_arg18)) →
    ∃ (v0 : (c : Dev Cert.PreIdeal.nD) → Buf (Elt Ideal) ((c.tc : Thread Cert.PreIdeal.nD Cert.PreIdeal.τ).loc Cert.PreIdeal.main_v54_0)) (v1 : (c : Dev Cert.PreIdeal.nD) → Buf (Elt Ideal) ((c.tc : Thread Cert.PreIdeal.nD Cert.PreIdeal.τ).loc Cert.PreIdeal.main_v54_1)) (v2 : (c : Dev Cert.PreIdeal.nD) → Buf (Elt Ideal) ((c.tc : Thread Cert.PreIdeal.nD Cert.PreIdeal.τ).loc Cert.PreIdeal.main_v54_2)) (v3 : (c : Dev Cert.PreIdeal.nD) → Buf (Elt Ideal) ((c.tc : Thread Cert.PreIdeal.nD Cert.PreIdeal.τ).loc Cert.PreIdeal.main_v54_3)) (v4 : (c : Dev Cert.PreIdeal.nD) → Buf (Elt Ideal) ((c.tc : Thread Cert.PreIdeal.nD Cert.PreIdeal.τ).loc Cert.PreIdeal.main_v54_4)) (v5 : (c : Dev Cert.PreIdeal.nD) → Buf (Elt Ideal) ((c.tc : Thread Cert.PreIdeal.nD Cert.PreIdeal.τ).loc Cert.PreIdeal.main_v54_5)) (v6 : (c : Dev Cert.PreIdeal.nD) → Buf (Elt Ideal) ((c.tc : Thread Cert.PreIdeal.nD Cert.PreIdeal.τ).loc Cert.PreIdeal.main_v54_6)) (v7 : (c : Dev Cert.PreIdeal.nD) → Buf (Elt Ideal) ((c.tc : Thread Cert.PreIdeal.nD Cert.PreIdeal.τ).loc Cert.PreIdeal.main_v54_7)) (v8 : (c : Dev Cert.PreIdeal.nD) → Buf (Elt Ideal) ((c.tc : Thread Cert.PreIdeal.nD Cert.PreIdeal.τ).loc Cert.PreIdeal.main_v54_8)) (v9 : (c : Dev Cert.PreIdeal.nD) → Buf (Elt Ideal) ((c.tc : Thread Cert.PreIdeal.nD Cert.PreIdeal.τ).loc Cert.PreIdeal.main_v54_9)) (v10 : (c : Dev Cert.PreIdeal.nD) → Buf (Elt Ideal) ((c.tc : Thread Cert.PreIdeal.nD Cert.PreIdeal.τ).loc Cert.PreIdeal.main_v54_10)) (v11 : (c : Dev Cert.PreIdeal.nD) → Buf (Elt Ideal) ((c.tc : Thread Cert.PreIdeal.nD Cert.PreIdeal.τ).loc Cert.PreIdeal.main_v54_11)) (v12 : (c : Dev Cert.PreIdeal.nD) → Buf (Elt Ideal) ((c.tc : Thread Cert.PreIdeal.nD Cert.PreIdeal.τ).loc Cert.PreIdeal.main_v54_12)),
      θ_run (Cert.PreIdeal.defs (F := Ideal)) (onTc (τ := Cert.PreIdeal.τ) (Cert.PreIdeal.main (F := Ideal))) ⟨m, fun _ => 0, g⟩ (fun r => ∀ c : Dev Cert.PreIdeal.nD,
          r.2.mem ((c.tc : Thread Cert.PreIdeal.nD Cert.PreIdeal.τ).loc Cert.PreIdeal.main_v54_0) = v0 c
          ∧ r.2.mem ((c.tc : Thread Cert.PreIdeal.nD Cert.PreIdeal.τ).loc Cert.PreIdeal.main_v54_1) = v1 c
          ∧ r.2.mem ((c.tc : Thread Cert.PreIdeal.nD Cert.PreIdeal.τ).loc Cert.PreIdeal.main_v54_2) = v2 c
          ∧ r.2.mem ((c.tc : Thread Cert.PreIdeal.nD Cert.PreIdeal.τ).loc Cert.PreIdeal.main_v54_3) = v3 c
          ∧ r.2.mem ((c.tc : Thread Cert.PreIdeal.nD Cert.PreIdeal.τ).loc Cert.PreIdeal.main_v54_4) = v4 c
          ∧ r.2.mem ((c.tc : Thread Cert.PreIdeal.nD Cert.PreIdeal.τ).loc Cert.PreIdeal.main_v54_5) = v5 c
          ∧ r.2.mem ((c.tc : Thread Cert.PreIdeal.nD Cert.PreIdeal.τ).loc Cert.PreIdeal.main_v54_6) = v6 c
          ∧ r.2.mem ((c.tc : Thread Cert.PreIdeal.nD Cert.PreIdeal.τ).loc Cert.PreIdeal.main_v54_7) = v7 c
          ∧ r.2.mem ((c.tc : Thread Cert.PreIdeal.nD Cert.PreIdeal.τ).loc Cert.PreIdeal.main_v54_8) = v8 c
          ∧ r.2.mem ((c.tc : Thread Cert.PreIdeal.nD Cert.PreIdeal.τ).loc Cert.PreIdeal.main_v54_9) = v9 c
          ∧ r.2.mem ((c.tc : Thread Cert.PreIdeal.nD Cert.PreIdeal.τ).loc Cert.PreIdeal.main_v54_10) = v10 c
          ∧ r.2.mem ((c.tc : Thread Cert.PreIdeal.nD Cert.PreIdeal.τ).loc Cert.PreIdeal.main_v54_11) = v11 c
          ∧ r.2.mem ((c.tc : Thread Cert.PreIdeal.nD Cert.PreIdeal.τ).loc Cert.PreIdeal.main_v54_12) = v12 c
          ∧ r.2.mem ((c.tc : Thread Cert.PreIdeal.nD Cert.PreIdeal.τ).loc Cert.PreIdeal.main_arg0) = m ((c.tc : Thread Cert.PreIdeal.nD Cert.PreIdeal.τ).loc Cert.PreIdeal.main_arg0)
          ∧ r.2.mem ((c.tc : Thread Cert.PreIdeal.nD Cert.PreIdeal.τ).loc Cert.PreIdeal.main_arg1) = m ((c.tc : Thread Cert.PreIdeal.nD Cert.PreIdeal.τ).loc Cert.PreIdeal.main_arg1)
          ∧ r.2.mem ((c.tc : Thread Cert.PreIdeal.nD Cert.PreIdeal.τ).loc Cert.PreIdeal.main_arg2) = m ((c.tc : Thread Cert.PreIdeal.nD Cert.PreIdeal.τ).loc Cert.PreIdeal.main_arg2)
          ∧ r.2.mem ((c.tc : Thread Cert.PreIdeal.nD Cert.PreIdeal.τ).loc Cert.PreIdeal.main_arg3) = m ((c.tc : Thread Cert.PreIdeal.nD Cert.PreIdeal.τ).loc Cert.PreIdeal.main_arg3)
          ∧ r.2.mem ((c.tc : Thread Cert.PreIdeal.nD Cert.PreIdeal.τ).loc Cert.PreIdeal.main_arg4) = m ((c.tc : Thread Cert.PreIdeal.nD Cert.PreIdeal.τ).loc Cert.PreIdeal.main_arg4)
          ∧ r.2.mem ((c.tc : Thread Cert.PreIdeal.nD Cert.PreIdeal.τ).loc Cert.PreIdeal.main_arg5) = m ((c.tc : Thread Cert.PreIdeal.nD Cert.PreIdeal.τ).loc Cert.PreIdeal.main_arg5)
          ∧ r.2.mem ((c.tc : Thread Cert.PreIdeal.nD Cert.PreIdeal.τ).loc Cert.PreIdeal.main_arg6) = m ((c.tc : Thread Cert.PreIdeal.nD Cert.PreIdeal.τ).loc Cert.PreIdeal.main_arg6)
          ∧ r.2.mem ((c.tc : Thread Cert.PreIdeal.nD Cert.PreIdeal.τ).loc Cert.PreIdeal.main_arg7) = m ((c.tc : Thread Cert.PreIdeal.nD Cert.PreIdeal.τ).loc Cert.PreIdeal.main_arg7)
          ∧ r.2.mem ((c.tc : Thread Cert.PreIdeal.nD Cert.PreIdeal.τ).loc Cert.PreIdeal.main_arg8) = m ((c.tc : Thread Cert.PreIdeal.nD Cert.PreIdeal.τ).loc Cert.PreIdeal.main_arg8)
          ∧ r.2.mem ((c.tc : Thread Cert.PreIdeal.nD Cert.PreIdeal.τ).loc Cert.PreIdeal.main_arg9) = m ((c.tc : Thread Cert.PreIdeal.nD Cert.PreIdeal.τ).loc Cert.PreIdeal.main_arg9)
          ∧ r.2.mem ((c.tc : Thread Cert.PreIdeal.nD Cert.PreIdeal.τ).loc Cert.PreIdeal.main_arg10) = m ((c.tc : Thread Cert.PreIdeal.nD Cert.PreIdeal.τ).loc Cert.PreIdeal.main_arg10)
          ∧ r.2.mem ((c.tc : Thread Cert.PreIdeal.nD Cert.PreIdeal.τ).loc Cert.PreIdeal.main_arg11) = m ((c.tc : Thread Cert.PreIdeal.nD Cert.PreIdeal.τ).loc Cert.PreIdeal.main_arg11)
          ∧ r.2.mem ((c.tc : Thread Cert.PreIdeal.nD Cert.PreIdeal.τ).loc Cert.PreIdeal.main_arg12) = m ((c.tc : Thread Cert.PreIdeal.nD Cert.PreIdeal.τ).loc Cert.PreIdeal.main_arg12)
          ∧ r.2.mem ((c.tc : Thread Cert.PreIdeal.nD Cert.PreIdeal.τ).loc Cert.PreIdeal.main_arg13) = m ((c.tc : Thread Cert.PreIdeal.nD Cert.PreIdeal.τ).loc Cert.PreIdeal.main_arg13)
          ∧ r.2.mem ((c.tc : Thread Cert.PreIdeal.nD Cert.PreIdeal.τ).loc Cert.PreIdeal.main_arg14) = m ((c.tc : Thread Cert.PreIdeal.nD Cert.PreIdeal.τ).loc Cert.PreIdeal.main_arg14)
          ∧ r.2.mem ((c.tc : Thread Cert.PreIdeal.nD Cert.PreIdeal.τ).loc Cert.PreIdeal.main_arg15) = m ((c.tc : Thread Cert.PreIdeal.nD Cert.PreIdeal.τ).loc Cert.PreIdeal.main_arg15)
          ∧ r.2.mem ((c.tc : Thread Cert.PreIdeal.nD Cert.PreIdeal.τ).loc Cert.PreIdeal.main_arg16) = m ((c.tc : Thread Cert.PreIdeal.nD Cert.PreIdeal.τ).loc Cert.PreIdeal.main_arg16)
          ∧ r.2.mem ((c.tc : Thread Cert.PreIdeal.nD Cert.PreIdeal.τ).loc Cert.PreIdeal.main_arg17) = m ((c.tc : Thread Cert.PreIdeal.nD Cert.PreIdeal.τ).loc Cert.PreIdeal.main_arg17)
          ∧ r.2.mem ((c.tc : Thread Cert.PreIdeal.nD Cert.PreIdeal.τ).loc Cert.PreIdeal.main_arg18) = m ((c.tc : Thread Cert.PreIdeal.nD Cert.PreIdeal.τ).loc Cert.PreIdeal.main_arg18))
      ∧ θ_run (Cert.PreRefIdeal.defs (F := Ideal)) (onTc (τ := Cert.PreRefIdeal.τ) (Cert.PreRefIdeal.main (F := Ideal))) ⟨m', fun _ => 0, g'⟩ (fun r => ∀ c : Dev Cert.PreRefIdeal.nD,
          r.2.mem ((c.tc : Thread Cert.PreRefIdeal.nD Cert.PreRefIdeal.τ).loc Cert.PreRefIdeal.main_v286) = v0 c
          ∧ r.2.mem ((c.tc : Thread Cert.PreRefIdeal.nD Cert.PreRefIdeal.τ).loc Cert.PreRefIdeal.main_v290) = v1 c
          ∧ r.2.mem ((c.tc : Thread Cert.PreRefIdeal.nD Cert.PreRefIdeal.τ).loc Cert.PreRefIdeal.main_v297) = v2 c
          ∧ r.2.mem ((c.tc : Thread Cert.PreRefIdeal.nD Cert.PreRefIdeal.τ).loc Cert.PreRefIdeal.main_v300) = v3 c
          ∧ r.2.mem ((c.tc : Thread Cert.PreRefIdeal.nD Cert.PreRefIdeal.τ).loc Cert.PreRefIdeal.main_v303) = v4 c
          ∧ r.2.mem ((c.tc : Thread Cert.PreRefIdeal.nD Cert.PreRefIdeal.τ).loc Cert.PreRefIdeal.main_v304) = v5 c
          ∧ r.2.mem ((c.tc : Thread Cert.PreRefIdeal.nD Cert.PreRefIdeal.τ).loc Cert.PreRefIdeal.main_v305) = v6 c
          ∧ r.2.mem ((c.tc : Thread Cert.PreRefIdeal.nD Cert.PreRefIdeal.τ).loc Cert.PreRefIdeal.main_v307) = v7 c
          ∧ r.2.mem ((c.tc : Thread Cert.PreRefIdeal.nD Cert.PreRefIdeal.τ).loc Cert.PreRefIdeal.main_v309) = v8 c
          ∧ r.2.mem ((c.tc : Thread Cert.PreRefIdeal.nD Cert.PreRefIdeal.τ).loc Cert.PreRefIdeal.main_v311) = v9 c
          ∧ r.2.mem ((c.tc : Thread Cert.PreRefIdeal.nD Cert.PreRefIdeal.τ).loc Cert.PreRefIdeal.main_v313) = v10 c
          ∧ r.2.mem ((c.tc : Thread Cert.PreRefIdeal.nD Cert.PreRefIdeal.τ).loc Cert.PreRefIdeal.main_v315) = v11 c
          ∧ r.2.mem ((c.tc : Thread Cert.PreRefIdeal.nD Cert.PreRefIdeal.τ).loc Cert.PreRefIdeal.main_v316) = v12 c
          ∧ r.2.mem ((c.tc : Thread Cert.PreRefIdeal.nD Cert.PreRefIdeal.τ).loc Cert.PreRefIdeal.main_arg0) = m' ((c.tc : Thread Cert.PreRefIdeal.nD Cert.PreRefIdeal.τ).loc Cert.PreRefIdeal.main_arg0)
          ∧ r.2.mem ((c.tc : Thread Cert.PreRefIdeal.nD Cert.PreRefIdeal.τ).loc Cert.PreRefIdeal.main_arg1) = m' ((c.tc : Thread Cert.PreRefIdeal.nD Cert.PreRefIdeal.τ).loc Cert.PreRefIdeal.main_arg1)
          ∧ r.2.mem ((c.tc : Thread Cert.PreRefIdeal.nD Cert.PreRefIdeal.τ).loc Cert.PreRefIdeal.main_arg2) = m' ((c.tc : Thread Cert.PreRefIdeal.nD Cert.PreRefIdeal.τ).loc Cert.PreRefIdeal.main_arg2)
          ∧ r.2.mem ((c.tc : Thread Cert.PreRefIdeal.nD Cert.PreRefIdeal.τ).loc Cert.PreRefIdeal.main_arg3) = m' ((c.tc : Thread Cert.PreRefIdeal.nD Cert.PreRefIdeal.τ).loc Cert.PreRefIdeal.main_arg3)
          ∧ r.2.mem ((c.tc : Thread Cert.PreRefIdeal.nD Cert.PreRefIdeal.τ).loc Cert.PreRefIdeal.main_arg4) = m' ((c.tc : Thread Cert.PreRefIdeal.nD Cert.PreRefIdeal.τ).loc Cert.PreRefIdeal.main_arg4)
          ∧ r.2.mem ((c.tc : Thread Cert.PreRefIdeal.nD Cert.PreRefIdeal.τ).loc Cert.PreRefIdeal.main_arg5) = m' ((c.tc : Thread Cert.PreRefIdeal.nD Cert.PreRefIdeal.τ).loc Cert.PreRefIdeal.main_arg5)
          ∧ r.2.mem ((c.tc : Thread Cert.PreRefIdeal.nD Cert.PreRefIdeal.τ).loc Cert.PreRefIdeal.main_arg6) = m' ((c.tc : Thread Cert.PreRefIdeal.nD Cert.PreRefIdeal.τ).loc Cert.PreRefIdeal.main_arg6)
          ∧ r.2.mem ((c.tc : Thread Cert.PreRefIdeal.nD Cert.PreRefIdeal.τ).loc Cert.PreRefIdeal.main_arg7) = m' ((c.tc : Thread Cert.PreRefIdeal.nD Cert.PreRefIdeal.τ).loc Cert.PreRefIdeal.main_arg7)
          ∧ r.2.mem ((c.tc : Thread Cert.PreRefIdeal.nD Cert.PreRefIdeal.τ).loc Cert.PreRefIdeal.main_arg8) = m' ((c.tc : Thread Cert.PreRefIdeal.nD Cert.PreRefIdeal.τ).loc Cert.PreRefIdeal.main_arg8)
          ∧ r.2.mem ((c.tc : Thread Cert.PreRefIdeal.nD Cert.PreRefIdeal.τ).loc Cert.PreRefIdeal.main_arg9) = m' ((c.tc : Thread Cert.PreRefIdeal.nD Cert.PreRefIdeal.τ).loc Cert.PreRefIdeal.main_arg9)
          ∧ r.2.mem ((c.tc : Thread Cert.PreRefIdeal.nD Cert.PreRefIdeal.τ).loc Cert.PreRefIdeal.main_arg10) = m' ((c.tc : Thread Cert.PreRefIdeal.nD Cert.PreRefIdeal.τ).loc Cert.PreRefIdeal.main_arg10)
          ∧ r.2.mem ((c.tc : Thread Cert.PreRefIdeal.nD Cert.PreRefIdeal.τ).loc Cert.PreRefIdeal.main_arg11) = m' ((c.tc : Thread Cert.PreRefIdeal.nD Cert.PreRefIdeal.τ).loc Cert.PreRefIdeal.main_arg11)
          ∧ r.2.mem ((c.tc : Thread Cert.PreRefIdeal.nD Cert.PreRefIdeal.τ).loc Cert.PreRefIdeal.main_arg12) = m' ((c.tc : Thread Cert.PreRefIdeal.nD Cert.PreRefIdeal.τ).loc Cert.PreRefIdeal.main_arg12)
          ∧ r.2.mem ((c.tc : Thread Cert.PreRefIdeal.nD Cert.PreRefIdeal.τ).loc Cert.PreRefIdeal.main_arg13) = m' ((c.tc : Thread Cert.PreRefIdeal.nD Cert.PreRefIdeal.τ).loc Cert.PreRefIdeal.main_arg13)
          ∧ r.2.mem ((c.tc : Thread Cert.PreRefIdeal.nD Cert.PreRefIdeal.τ).loc Cert.PreRefIdeal.main_arg14) = m' ((c.tc : Thread Cert.PreRefIdeal.nD Cert.PreRefIdeal.τ).loc Cert.PreRefIdeal.main_arg14)
          ∧ r.2.mem ((c.tc : Thread Cert.PreRefIdeal.nD Cert.PreRefIdeal.τ).loc Cert.PreRefIdeal.main_arg15) = m' ((c.tc : Thread Cert.PreRefIdeal.nD Cert.PreRefIdeal.τ).loc Cert.PreRefIdeal.main_arg15)
          ∧ r.2.mem ((c.tc : Thread Cert.PreRefIdeal.nD Cert.PreRefIdeal.τ).loc Cert.PreRefIdeal.main_arg16) = m' ((c.tc : Thread Cert.PreRefIdeal.nD Cert.PreRefIdeal.τ).loc Cert.PreRefIdeal.main_arg16)
          ∧ r.2.mem ((c.tc : Thread Cert.PreRefIdeal.nD Cert.PreRefIdeal.τ).loc Cert.PreRefIdeal.main_arg17) = m' ((c.tc : Thread Cert.PreRefIdeal.nD Cert.PreRefIdeal.τ).loc Cert.PreRefIdeal.main_arg17)
          ∧ r.2.mem ((c.tc : Thread Cert.PreRefIdeal.nD Cert.PreRefIdeal.τ).loc Cert.PreRefIdeal.main_arg18) = m' ((c.tc : Thread Cert.PreRefIdeal.nD Cert.PreRefIdeal.τ).loc Cert.PreRefIdeal.main_arg18))

def Claim : Prop :=
  ∃ (hFwdA : Cert.FwdA.Facts) (hFwdAIdeal : Cert.FwdAIdeal.Facts) (hFwdARefIdeal : Cert.FwdARefIdeal.Facts) (hFwdB : Cert.FwdB.Facts) (hFwdBIdeal : Cert.FwdBIdeal.Facts) (hFwdBRefIdeal : Cert.FwdBRefIdeal.Facts) (hBwdA : Cert.BwdA.Facts) (hBwdAIdeal : Cert.BwdAIdeal.Facts) (hBwdARefIdeal : Cert.BwdARefIdeal.Facts) (hBwdB : Cert.BwdB.Facts) (hBwdBIdeal : Cert.BwdBIdeal.Facts) (hBwdBRefIdeal : Cert.BwdBRefIdeal.Facts) (hGradIn : Cert.GradIn.Facts) (hGradInIdeal : Cert.GradInIdeal.Facts) (hGradInRefIdeal : Cert.GradInRefIdeal.Facts) (hGradOut : Cert.GradOut.Facts) (hGradOutIdeal : Cert.GradOutIdeal.Facts) (hGradOutRefIdeal : Cert.GradOutRefIdeal.Facts) (hGradUq : Cert.GradUq.Facts) (hGradUqIdeal : Cert.GradUqIdeal.Facts) (hGradUqRefIdeal : Cert.GradUqRefIdeal.Facts) (hGradUkv : Cert.GradUkv.Facts) (hGradUkvIdeal : Cert.GradUkvIdeal.Facts) (hGradUkvRefIdeal : Cert.GradUkvRefIdeal.Facts) (hMid : Cert.Mid.Facts) (hMidIdeal : Cert.MidIdeal.Facts) (hMidRefIdeal : Cert.MidRefIdeal.Facts) (hAdam : Cert.Adam.Facts) (hAdamIdeal : Cert.AdamIdeal.Facts) (hAdamRefIdeal : Cert.AdamRefIdeal.Facts) (hPre : Cert.Pre.Facts) (hPreIdeal : Cert.PreIdeal.Facts) (hPreRefIdeal : Cert.PreRefIdeal.Facts) (hPre_finite_a : Cert.Pre_finite_a.Facts) (hPre_finite_b : Cert.Pre_finite_b.Facts),
    quiescent_FwdA (hFwdA := hFwdA)
    ∧ quiescent_FwdAIdeal (hFwdAIdeal := hFwdAIdeal)
    ∧ quiescent_FwdAIdeal_pre_finite_a (hFwdAIdeal := hFwdAIdeal) (hPre_finite_a := hPre_finite_a)
    ∧ quiescent_FwdARefIdeal (hFwdARefIdeal := hFwdARefIdeal)
    ∧ quiescent_FwdARefIdeal_pre_finite_a (hFwdARefIdeal := hFwdARefIdeal) (hPre_finite_a := hPre_finite_a)
    ∧ quiescent_FwdB (hFwdB := hFwdB)
    ∧ quiescent_FwdBIdeal (hFwdBIdeal := hFwdBIdeal)
    ∧ quiescent_FwdBIdeal_pre_finite_b (hFwdBIdeal := hFwdBIdeal) (hPre_finite_b := hPre_finite_b)
    ∧ quiescent_FwdBRefIdeal (hFwdBRefIdeal := hFwdBRefIdeal)
    ∧ quiescent_FwdBRefIdeal_pre_finite_b (hFwdBRefIdeal := hFwdBRefIdeal) (hPre_finite_b := hPre_finite_b)
    ∧ quiescent_BwdA (hBwdA := hBwdA)
    ∧ quiescent_BwdAIdeal (hBwdAIdeal := hBwdAIdeal)
    ∧ quiescent_BwdARefIdeal (hBwdARefIdeal := hBwdARefIdeal)
    ∧ quiescent_BwdB (hBwdB := hBwdB)
    ∧ quiescent_BwdBIdeal (hBwdBIdeal := hBwdBIdeal)
    ∧ quiescent_BwdBRefIdeal (hBwdBRefIdeal := hBwdBRefIdeal)
    ∧ quiescent_GradIn (hGradIn := hGradIn)
    ∧ quiescent_GradInIdeal (hGradInIdeal := hGradInIdeal)
    ∧ quiescent_GradInRefIdeal (hGradInRefIdeal := hGradInRefIdeal)
    ∧ quiescent_GradOut (hGradOut := hGradOut)
    ∧ quiescent_GradOutIdeal (hGradOutIdeal := hGradOutIdeal)
    ∧ quiescent_GradOutRefIdeal (hGradOutRefIdeal := hGradOutRefIdeal)
    ∧ quiescent_GradUq (hGradUq := hGradUq)
    ∧ quiescent_GradUqIdeal (hGradUqIdeal := hGradUqIdeal)
    ∧ quiescent_GradUqRefIdeal (hGradUqRefIdeal := hGradUqRefIdeal)
    ∧ quiescent_GradUkv (hGradUkv := hGradUkv)
    ∧ quiescent_GradUkvIdeal (hGradUkvIdeal := hGradUkvIdeal)
    ∧ quiescent_GradUkvRefIdeal (hGradUkvRefIdeal := hGradUkvRefIdeal)
    ∧ quiescent_Mid (hMid := hMid)
    ∧ quiescent_MidIdeal (hMidIdeal := hMidIdeal)
    ∧ quiescent_MidRefIdeal (hMidRefIdeal := hMidRefIdeal)
    ∧ quiescent_Adam (hAdam := hAdam)
    ∧ quiescent_AdamIdeal (hAdamIdeal := hAdamIdeal)
    ∧ quiescent_AdamRefIdeal (hAdamRefIdeal := hAdamRefIdeal)
    ∧ quiescent_Pre (hPre := hPre)
    ∧ quiescent_PreIdeal (hPreIdeal := hPreIdeal)
    ∧ quiescent_PreRefIdeal (hPreRefIdeal := hPreRefIdeal)
    ∧ preserves_FwdA_FwdAIdeal
    ∧ algebraic_FwdAIdeal_FwdARefIdeal_pre_finite_a (hFwdAIdeal := hFwdAIdeal) (hFwdARefIdeal := hFwdARefIdeal) (hPre_finite_a := hPre_finite_a)
    ∧ preserves_FwdB_FwdBIdeal
    ∧ algebraic_FwdBIdeal_FwdBRefIdeal_pre_finite_b (hFwdBIdeal := hFwdBIdeal) (hFwdBRefIdeal := hFwdBRefIdeal) (hPre_finite_b := hPre_finite_b)
    ∧ preserves_BwdA_BwdAIdeal
    ∧ algebraic_BwdAIdeal_BwdARefIdeal (hBwdAIdeal := hBwdAIdeal) (hBwdARefIdeal := hBwdARefIdeal)
    ∧ preserves_BwdB_BwdBIdeal
    ∧ algebraic_BwdBIdeal_BwdBRefIdeal (hBwdBIdeal := hBwdBIdeal) (hBwdBRefIdeal := hBwdBRefIdeal)
    ∧ preserves_GradIn_GradInIdeal
    ∧ algebraic_GradInIdeal_GradInRefIdeal (hGradInIdeal := hGradInIdeal) (hGradInRefIdeal := hGradInRefIdeal)
    ∧ preserves_GradOut_GradOutIdeal
    ∧ algebraic_GradOutIdeal_GradOutRefIdeal (hGradOutIdeal := hGradOutIdeal) (hGradOutRefIdeal := hGradOutRefIdeal)
    ∧ preserves_GradUq_GradUqIdeal
    ∧ algebraic_GradUqIdeal_GradUqRefIdeal (hGradUqIdeal := hGradUqIdeal) (hGradUqRefIdeal := hGradUqRefIdeal)
    ∧ preserves_GradUkv_GradUkvIdeal
    ∧ algebraic_GradUkvIdeal_GradUkvRefIdeal (hGradUkvIdeal := hGradUkvIdeal) (hGradUkvRefIdeal := hGradUkvRefIdeal)
    ∧ preserves_Mid_MidIdeal
    ∧ algebraic_MidIdeal_MidRefIdeal (hMidIdeal := hMidIdeal) (hMidRefIdeal := hMidRefIdeal)
    ∧ preserves_Adam_AdamIdeal
    ∧ algebraic_AdamIdeal_AdamRefIdeal (hAdamIdeal := hAdamIdeal) (hAdamRefIdeal := hAdamRefIdeal)
    ∧ preserves_Pre_PreIdeal
    ∧ algebraic_PreIdeal_PreRefIdeal (hPreIdeal := hPreIdeal) (hPreRefIdeal := hPreRefIdeal)
-- ==== Pre_finite_a.lean ====
abbrev S8x8192x128 : Shape := ⟨3, ![8, 8192, 128]⟩
abbrev S2x8192x128 : Shape := ⟨3, ![2, 8192, 128]⟩
abbrev S_ : Shape := ⟨0, ![]⟩

class Facts : Prop where
  bitsLt_bf16_f32 : FTy.bits .bf16 < FTy.bits .f32
  bcast_S_S8x8192x128 : S_.BroadcastsInDim S8x8192x128 (![] : Fin 0 → Fin S8x8192x128.rank)
  reducesTo_S8x8192x128_S_d0_1_2 : S8x8192x128.ReducesTo [0, 1, 2] S_
  h_S_ : 0 < S_.numel
  bcast_S_S2x8192x128 : S_.BroadcastsInDim S2x8192x128 (![] : Fin 0 → Fin S2x8192x128.rank)
  reducesTo_S2x8192x128_S_d0_1_2 : S2x8192x128.ReducesTo [0, 1, 2] S_

variable [Facts]

def fn {F : FTy → Type} [FloatOps F] (main_arg0 : FVec F S8x8192x128 .bf16) (main_arg1 : FVec F S2x8192x128 .bf16) (main_arg2 : FVec F S2x8192x128 .bf16) : IVec S_ 1 :=
  let main_v0 : FVec F S8x8192x128 .f32 := (extf .f32 · bitsLt_bf16_f32) main_arg0
  let main_v1 : FVec F S8x8192x128 .f32 := Host.absf main_v0
  let main_cst : FVec F S_ .f32 := constant S_ .f32 0x7F800000#32
  let main_v2 : FVec F S8x8192x128 .f32 := broadcastInDim S8x8192x128 ![] bcast_S_S8x8192x128 main_cst
  let main_v3 : IVec S8x8192x128 1 := cmpf .olt main_v1 main_v2
  let main_c : IVec S_ 1 := constantI S_ 1 1#1
  let main_v4 : IVec S_ 1 := (fun x v => Host.reduce IntOp.andi x v reducesTo_S8x8192x128_S_d0_1_2 h_S_) main_v3 main_c
  let main_v5 : FVec F S2x8192x128 .f32 := (extf .f32 · bitsLt_bf16_f32) main_arg1
  let main_v6 : FVec F S2x8192x128 .f32 := Host.absf main_v5
  let main_cst_0 : FVec F S_ .f32 := constant S_ .f32 0x7F800000#32
  let main_v7 : FVec F S2x8192x128 .f32 := broadcastInDim S2x8192x128 ![] bcast_S_S2x8192x128 main_cst_0
  let main_v8 : IVec S2x8192x128 1 := cmpf .olt main_v6 main_v7
  let main_c_1 : IVec S_ 1 := constantI S_ 1 1#1
  let main_v9 : IVec S_ 1 := (fun x v => Host.reduce IntOp.andi x v reducesTo_S2x8192x128_S_d0_1_2 h_S_) main_v8 main_c_1
  let main_v10 : IVec S_ 1 := andi main_v4 main_v9
  main_v10
-- ==== Pre_finite_b.lean ====
abbrev S4x8192x128 : Shape := ⟨3, ![4, 8192, 128]⟩
abbrev S_ : Shape := ⟨0, ![]⟩

class Facts : Prop where
  bitsLt_bf16_f32 : FTy.bits .bf16 < FTy.bits .f32
  bcast_S_S4x8192x128 : S_.BroadcastsInDim S4x8192x128 (![] : Fin 0 → Fin S4x8192x128.rank)
  reducesTo_S4x8192x128_S_d0_1_2 : S4x8192x128.ReducesTo [0, 1, 2] S_
  h_S_ : 0 < S_.numel

variable [Facts]

def fn {F : FTy → Type} [FloatOps F] (main_arg0 : FVec F S4x8192x128 .bf16) (main_arg1 : FVec F S4x8192x128 .bf16) (main_arg2 : FVec F S4x8192x128 .bf16) : IVec S_ 1 :=
  let main_v0 : FVec F S4x8192x128 .f32 := (extf .f32 · bitsLt_bf16_f32) main_arg0
  let main_v1 : FVec F S4x8192x128 .f32 := Host.absf main_v0
  let main_cst : FVec F S_ .f32 := constant S_ .f32 0x7F800000#32
  let main_v2 : FVec F S4x8192x128 .f32 := broadcastInDim S4x8192x128 ![] bcast_S_S4x8192x128 main_cst
  let main_v3 : IVec S4x8192x128 1 := cmpf .olt main_v1 main_v2
  let main_c : IVec S_ 1 := constantI S_ 1 1#1
  let main_v4 : IVec S_ 1 := (fun x v => Host.reduce IntOp.andi x v reducesTo_S4x8192x128_S_d0_1_2 h_S_) main_v3 main_c
  let main_v5 : FVec F S4x8192x128 .f32 := (extf .f32 · bitsLt_bf16_f32) main_arg1
  let main_v6 : FVec F S4x8192x128 .f32 := Host.absf main_v5
  let main_cst_0 : FVec F S_ .f32 := constant S_ .f32 0x7F800000#32
  let main_v7 : FVec F S4x8192x128 .f32 := broadcastInDim S4x8192x128 ![] bcast_S_S4x8192x128 main_cst_0
  let main_v8 : IVec S4x8192x128 1 := cmpf .olt main_v6 main_v7
  let main_c_1 : IVec S_ 1 := constantI S_ 1 1#1
  let main_v9 : IVec S_ 1 := (fun x v => Host.reduce IntOp.andi x v reducesTo_S4x8192x128_S_d0_1_2 h_S_) main_v8 main_c_1
  let main_v10 : IVec S_ 1 := andi main_v4 main_v9
  main_v10
-- ==== FwdA.lean ====
abbrev S8x8192x128 : Shape := ⟨3, ![8, 8192, 128]⟩
abbrev S2x8192x128 : Shape := ⟨3, ![2, 8192, 128]⟩
abbrev S8x8192x1 : Shape := ⟨3, ![8, 8192, 1]⟩
abbrev S1x512x128 : Shape := ⟨3, ![1, 512, 128]⟩
abbrev S1x8192x128 : Shape := ⟨3, ![1, 8192, 128]⟩
abbrev S1x512x1 : Shape := ⟨3, ![1, 512, 1]⟩
abbrev S512x128 : Shape := ⟨2, ![512, 128]⟩
abbrev S512x1 : Shape := ⟨2, ![512, 1]⟩
abbrev S512x512 : Shape := ⟨2, ![512, 512]⟩
abbrev S512 : Shape := ⟨1, ![512]⟩

abbrev nBuf : Space → Nat
  | .hbm => 5
  | .vmem => 10
  | .smem => 0
  | _ => 0

abbrev bufTy : (tb : Table) → Fin (tcTables nBuf tb) → BufTy
  | .hbm, ⟨0, _⟩ => ⟨S8x8192x128, .bf16⟩
  | .hbm, ⟨1, _⟩ => ⟨S2x8192x128, .bf16⟩
  | .hbm, ⟨2, _⟩ => ⟨S2x8192x128, .bf16⟩
  | .hbm, ⟨3, _⟩ => ⟨S8x8192x128, .f32⟩
  | .hbm, ⟨4, _⟩ => ⟨S8x8192x1, .f32⟩
  | .local _ .vmem, ⟨0, _⟩ => ⟨S1x512x128, .bf16⟩
  | .local _ .vmem, ⟨1, _⟩ => ⟨S1x512x128, .bf16⟩
  | .local _ .vmem, ⟨2, _⟩ => ⟨S1x8192x128, .bf16⟩
  | .local _ .vmem, ⟨3, _⟩ => ⟨S1x8192x128, .bf16⟩
  | .local _ .vmem, ⟨4, _⟩ => ⟨S1x8192x128, .bf16⟩
  | .local _ .vmem, ⟨5, _⟩ => ⟨S1x8192x128, .bf16⟩
  | .local _ .vmem, ⟨6, _⟩ => ⟨S1x512x128, .f32⟩
  | .local _ .vmem, ⟨7, _⟩ => ⟨S1x512x128, .f32⟩
  | .local _ .vmem, ⟨8, _⟩ => ⟨S1x512x1, .f32⟩
  | .local _ .vmem, ⟨9, _⟩ => ⟨S1x512x1, .f32⟩
  | _, _ => ⟨S8x8192x128, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0_0 : Ref sig .tc := ⟨.hbm, 3, rfl⟩
abbrev main_v0_1 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨2, ![8, 16], ![false, false]⟩

@[reducible] def k0_t1_loop : Scf.Loop 32 :=
  let c0_i32 : BitVec 32 := 0#32
  let c16_i32 : BitVec 32 := 16#32
  let v5 : BitVec 32 := Scalar.addi c0_i32 c16_i32
  let c1_i32 : BitVec 32 := 1#32
  ⟨c0_i32, v5, c1_i32⟩
def k0_mult1 (k0_t1 : Fin k0_t1_loop.trips) : BitVec 32 :=
  let c0_i32 : BitVec 32 := 0#32
  let c1_i32 : BitVec 32 := 1#32
  let arg7 : BitVec 32 := Scf.iv c0_i32 c1_i32 k0_t1
  let c512_i32 : BitVec 32 := 512#32
  let v19 : BitVec 32 := Scalar.muli arg7 c512_i32
  v19
def k0_off1 (k0_t1 : Fin k0_t1_loop.trips) : Fin 3 → Nat :=
  let c0_12 : Index := 0#32
  let c0_i32 : BitVec 32 := 0#32
  let c1_i32 : BitVec 32 := 1#32
  let arg7 : BitVec 32 := Scf.iv c0_i32 c1_i32 k0_t1
  let c512_i32 : BitVec 32 := 512#32
  let v19 : BitVec 32 := Scalar.muli arg7 c512_i32
  let v20 : BitVec 32 := v19
  let v21 : Index := Scalar.indexCast v20
  let c0_13 : Index := 0#32
  ![0, v21.toNat, 0]
def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c4_i32 : BitVec 32 := 4#32
  let v0 : BitVec 32 := Scalar.divsi arg0 c4_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg0 c4_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  let c0_i32_6 : BitVec 32 := 0#32
  ![v16.toNat, c0_i32_4.toNat, c0_i32_5.toNat]

def cc0_transform_2 (i : grid0.Coords) : Fin 3 → Nat :=
  let arg0 : BitVec 32 := BitVec.ofNat 32 (i 0).val
  let arg1 : BitVec 32 := BitVec.ofNat 32 (i 1).val
  let c4_i32 : BitVec 32 := 4#32
  let v0 : BitVec 32 := Scalar.divsi arg0 c4_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg0 c4_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  let c0_i32_6 : BitVec 32 := 0#32
  ![v16.toNat, c0_i32_4.toNat, c0_i32_5.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x512x128 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x8192x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x8192x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1x512x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x512x1 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]
-- ==== FwdARefIdeal.lean ====
abbrev S8x8192x128 : Shape := ⟨3, ![8, 8192, 128]⟩
abbrev S2x8192x128 : Shape := ⟨3, ![2, 8192, 128]⟩
abbrev S2x4x8192x128 : Shape := ⟨4, ![2, 4, 8192, 128]⟩
abbrev S2x4x8192x8192 : Shape := ⟨4, ![2, 4, 8192, 8192]⟩
abbrev S_ : Shape := ⟨0, ![]⟩
abbrev S2x4x8192 : Shape := ⟨3, ![2, 4, 8192]⟩
abbrev S2x4x8192x1 : Shape := ⟨4, ![2, 4, 8192, 1]⟩
abbrev S8x8192x1 : Shape := ⟨3, ![8, 8192, 1]⟩

abbrev nBuf : Space → Nat
  | .hbm => 29
  | .vmem => 0
  | .smem => 0
  | _ => 0

abbrev bufTy : (tb : Table) → Fin (tcTables nBuf tb) → BufTy
  | .hbm, ⟨0, _⟩ => ⟨S8x8192x128, .bf16⟩
  | .hbm, ⟨1, _⟩ => ⟨S2x8192x128, .bf16⟩
  | .hbm, ⟨2, _⟩ => ⟨S2x8192x128, .bf16⟩
  | .hbm, ⟨3, _⟩ => ⟨S8x8192x128, .f32⟩
  | .hbm, ⟨4, _⟩ => ⟨S2x8192x128, .f32⟩
  | .hbm, ⟨5, _⟩ => ⟨S2x8192x128, .f32⟩
  | .hbm, ⟨6, _⟩ => ⟨S2x4x8192x128, .f32⟩
  | .hbm, ⟨7, _⟩ => ⟨S2x4x8192x8192, .f32⟩
  | .hbm, ⟨8, _⟩ => ⟨S_, .f32⟩
  | .hbm, ⟨9, _⟩ => ⟨S2x4x8192, .f32⟩
  | .hbm, ⟨10, _⟩ => ⟨S_, .f32⟩
  | .hbm, ⟨11, _⟩ => ⟨S2x4x8192, .f32⟩
  | .hbm, ⟨12, _⟩ => ⟨S2x4x8192, .f32⟩
  | .hbm, ⟨13, _⟩ => ⟨S2x4x8192x1, .f32⟩
  | .hbm, ⟨14, _⟩ => ⟨S2x4x8192x8192, .f32⟩
  | .hbm, ⟨15, _⟩ => ⟨S2x4x8192x8192, .f32⟩
  | .hbm, ⟨16, _⟩ => ⟨S2x4x8192x8192, .f32⟩
  | .hbm, ⟨17, _⟩ => ⟨S_, .f32⟩
  | .hbm, ⟨18, _⟩ => ⟨S2x4x8192, .f32⟩
  | .hbm, ⟨19, _⟩ => ⟨S2x4x8192x1, .f32⟩
  | .hbm, ⟨20, _⟩ => ⟨S2x4x8192x8192, .f32⟩
  | .hbm, ⟨21, _⟩ => ⟨S2x4x8192x8192, .f32⟩
  | .hbm, ⟨22, _⟩ => ⟨S2x4x8192x128, .f32⟩
  | .hbm, ⟨23, _⟩ => ⟨S2x4x8192x8192, .f32⟩
  | .hbm, ⟨24, _⟩ => ⟨S_, .f32⟩
  | .hbm, ⟨25, _⟩ => ⟨S2x4x8192, .f32⟩
  | .hbm, ⟨26, _⟩ => ⟨S2x4x8192, .f32⟩
  | .hbm, ⟨27, _⟩ => ⟨S8x8192x128, .f32⟩
  | .hbm, ⟨28, _⟩ => ⟨S8x8192x1, .f32⟩
  | _, _ => ⟨S8x8192x128, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_cst : Ref sig .tc := ⟨.hbm, 8, rfl⟩
abbrev main_v5 : Ref sig .tc := ⟨.hbm, 9, rfl⟩
abbrev main_cst_0 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_cst_1 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_cst_2 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩

abbrev nD : Nat := 1
abbrev τ : Topo := Topo.v7x

variable {F : FTy → Type} [FloatOps F]
-- ==== FwdB.lean ====
abbrev S4x8192x128 : Shape := ⟨3, ![4, 8192, 128]⟩
abbrev S4x8192x1 : Shape := ⟨3, ![4, 8192, 1]⟩
abbrev S1x512x128 : Shape := ⟨3, ![1, 512, 128]⟩
abbrev S1x8192x128 : Shape := ⟨3, ![1, 8192, 128]⟩
abbrev S1x512x1 : Shape := ⟨3, ![1, 512, 1]⟩
abbrev S512x128 : Shape := ⟨2, ![512, 128]⟩
abbrev S512x1 : Shape := ⟨2, ![512, 1]⟩
abbrev S512x512 : Shape := ⟨2, ![512, 512]⟩
abbrev S512 : Shape := ⟨1, ![512]⟩

abbrev nBuf : Space → Nat
  | .hbm => 5
  | .vmem => 10
  | .smem => 0
  | _ => 0

abbrev bufTy : (tb : Table) → Fin (tcTables nBuf tb) → BufTy
  | .hbm, ⟨0, _⟩ => ⟨S4x8192x128, .bf16⟩
  | .hbm, ⟨1, _⟩ => ⟨S4x8192x128, .bf16⟩
  | .hbm, ⟨2, _⟩ => ⟨S4x8192x128, .bf16⟩
  | .hbm, ⟨3, _⟩ => ⟨S4x8192x128, .f32⟩
  | .hbm, ⟨4, _⟩ => ⟨S4x8192x1, .f32⟩
  | .local _ .vmem, ⟨0, _⟩ => ⟨S1x512x128, .bf16⟩
  | .local _ .vmem, ⟨1, _⟩ => ⟨S1x512x128, .bf16⟩
  | .local _ .vmem, ⟨2, _⟩ => ⟨S1x8192x128, .bf16⟩
  | .local _ .vmem, ⟨3, _⟩ => ⟨S1x8192x128, .bf16⟩
  | .local _ .vmem, ⟨4, _⟩ => ⟨S1x8192x128, .bf16⟩
  | .local _ .vmem, ⟨5, _⟩ => ⟨S1x8192x128, .bf16⟩
  | .local _ .vmem, ⟨6, _⟩ => ⟨S1x512x128, .f32⟩
  | .local _ .vmem, ⟨7, _⟩ => ⟨S1x512x128, .f32⟩
  | .local _ .vmem, ⟨8, _⟩ => ⟨S1x512x1, .f32⟩
  | .local _ .vmem, ⟨9, _⟩ => ⟨S1x512x1, .f32⟩
  | _, _ => ⟨S4x8192x128, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0_0 : Ref sig .tc := ⟨.hbm, 3, rfl⟩
abbrev main_v0_1 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨2, ![4, 16], ![false, false]⟩

@[reducible] def k0_t1_loop : Scf.Loop 32 :=
  let c0_i32 : BitVec 32 := 0#32
  let c16_i32 : BitVec 32 := 16#32
  let v5 : BitVec 32 := Scalar.addi c0_i32 c16_i32
  let c1_i32 : BitVec 32 := 1#32
  ⟨c0_i32, v5, c1_i32⟩
def k0_mult1 (k0_t1 : Fin k0_t1_loop.trips) : BitVec 32 :=
  let c0_i32 : BitVec 32 := 0#32
  let c1_i32 : BitVec 32 := 1#32
  let arg7 : BitVec 32 := Scf.iv c0_i32 c1_i32 k0_t1
  let c512_i32 : BitVec 32 := 512#32
  let v19 : BitVec 32 := Scalar.muli arg7 c512_i32
  v19
def k0_off1 (k0_t1 : Fin k0_t1_loop.trips) : Fin 3 → Nat :=
  let c0_12 : Index := 0#32
  let c0_i32 : BitVec 32 := 0#32
  let c1_i32 : BitVec 32 := 1#32
  let arg7 : BitVec 32 := Scf.iv c0_i32 c1_i32 k0_t1
  let c512_i32 : BitVec 32 := 512#32
  let v19 : BitVec 32 := Scalar.muli arg7 c512_i32
  let v20 : BitVec 32 := v19
  let v21 : Index := Scalar.indexCast v20
  let c0_13 : Index := 0#32
  ![0, v21.toNat, 0]
def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c1_i32 : BitVec 32 := 1#32
  let v0 : BitVec 32 := Scalar.divsi arg0 c1_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg0 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c0_i32_5 : BitVec 32 := 0#32
  let c0_i32_6 : BitVec 32 := 0#32
  let c0_i32_7 : BitVec 32 := 0#32
  ![v16.toNat, c0_i32_5.toNat, c0_i32_6.toNat]

def cc0_transform_2 (i : grid0.Coords) : Fin 3 → Nat :=
  let arg0 : BitVec 32 := BitVec.ofNat 32 (i 0).val
  let arg1 : BitVec 32 := BitVec.ofNat 32 (i 1).val
  let c1_i32 : BitVec 32 := 1#32
  let v0 : BitVec 32 := Scalar.divsi arg0 c1_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg0 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c0_i32_5 : BitVec 32 := 0#32
  let c0_i32_6 : BitVec 32 := 0#32
  let c0_i32_7 : BitVec 32 := 0#32
  ![v16.toNat, c0_i32_5.toNat, c0_i32_6.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x512x128 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x8192x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x8192x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1x512x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x512x1 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]
-- ==== FwdBRefIdeal.lean ====
abbrev S4x8192x128 : Shape := ⟨3, ![4, 8192, 128]⟩
abbrev S4x8192x8192 : Shape := ⟨3, ![4, 8192, 8192]⟩
abbrev S_ : Shape := ⟨0, ![]⟩
abbrev S4x8192 : Shape := ⟨2, ![4, 8192]⟩
abbrev S4x8192x1 : Shape := ⟨3, ![4, 8192, 1]⟩

abbrev nBuf : Space → Nat
  | .hbm => 27
  | .vmem => 0
  | .smem => 0
  | _ => 0

abbrev bufTy : (tb : Table) → Fin (tcTables nBuf tb) → BufTy
  | .hbm, ⟨0, _⟩ => ⟨S4x8192x128, .bf16⟩
  | .hbm, ⟨1, _⟩ => ⟨S4x8192x128, .bf16⟩
  | .hbm, ⟨2, _⟩ => ⟨S4x8192x128, .bf16⟩
  | .hbm, ⟨3, _⟩ => ⟨S4x8192x128, .f32⟩
  | .hbm, ⟨4, _⟩ => ⟨S4x8192x128, .f32⟩
  | .hbm, ⟨5, _⟩ => ⟨S4x8192x128, .f32⟩
  | .hbm, ⟨6, _⟩ => ⟨S4x8192x8192, .f32⟩
  | .hbm, ⟨7, _⟩ => ⟨S_, .f32⟩
  | .hbm, ⟨8, _⟩ => ⟨S4x8192, .f32⟩
  | .hbm, ⟨9, _⟩ => ⟨S_, .f32⟩
  | .hbm, ⟨10, _⟩ => ⟨S4x8192, .f32⟩
  | .hbm, ⟨11, _⟩ => ⟨S4x8192, .f32⟩
  | .hbm, ⟨12, _⟩ => ⟨S4x8192x1, .f32⟩
  | .hbm, ⟨13, _⟩ => ⟨S4x8192x8192, .f32⟩
  | .hbm, ⟨14, _⟩ => ⟨S4x8192x8192, .f32⟩
  | .hbm, ⟨15, _⟩ => ⟨S4x8192x8192, .f32⟩
  | .hbm, ⟨16, _⟩ => ⟨S_, .f32⟩
  | .hbm, ⟨17, _⟩ => ⟨S4x8192, .f32⟩
  | .hbm, ⟨18, _⟩ => ⟨S4x8192x1, .f32⟩
  | .hbm, ⟨19, _⟩ => ⟨S4x8192x8192, .f32⟩
  | .hbm, ⟨20, _⟩ => ⟨S4x8192x8192, .f32⟩
  | .hbm, ⟨21, _⟩ => ⟨S4x8192x128, .f32⟩
  | .hbm, ⟨22, _⟩ => ⟨S4x8192x8192, .f32⟩
  | .hbm, ⟨23, _⟩ => ⟨S_, .f32⟩
  | .hbm, ⟨24, _⟩ => ⟨S4x8192, .f32⟩
  | .hbm, ⟨25, _⟩ => ⟨S4x8192, .f32⟩
  | .hbm, ⟨26, _⟩ => ⟨S4x8192x1, .f32⟩
  | _, _ => ⟨S4x8192x128, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_cst : Ref sig .tc := ⟨.hbm, 7, rfl⟩
abbrev main_v4 : Ref sig .tc := ⟨.hbm, 8, rfl⟩
abbrev main_cst_0 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_cst_1 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_cst_2 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩

abbrev nD : Nat := 1
abbrev τ : Topo := Topo.v7x

variable {F : FTy → Type} [FloatOps F]
-- ==== BwdA.lean ====
abbrev S8x8192x128 : Shape := ⟨3, ![8, 8192, 128]⟩
abbrev S2x8192x128 : Shape := ⟨3, ![2, 8192, 128]⟩
abbrev S8x16x1x512 : Shape := ⟨4, ![8, 16, 1, 512]⟩
abbrev S1x8192x128 : Shape := ⟨3, ![1, 8192, 128]⟩
abbrev S1x16x1x512 : Shape := ⟨4, ![1, 16, 1, 512]⟩
abbrev S1x512x128 : Shape := ⟨3, ![1, 512, 128]⟩
abbrev S8192x128 : Shape := ⟨2, ![8192, 128]⟩
abbrev S512x128 : Shape := ⟨2, ![512, 128]⟩
abbrev S512x512 : Shape := ⟨2, ![512, 512]⟩
abbrev S1x1x1x512 : Shape := ⟨4, ![1, 1, 1, 512]⟩
abbrev S1x512 : Shape := ⟨2, ![1, 512]⟩

abbrev nBuf : Space → Nat
  | .hbm => 9
  | .vmem => 18
  | .smem => 0
  | _ => 0

abbrev bufTy : (tb : Table) → Fin (tcTables nBuf tb) → BufTy
  | .hbm, ⟨0, _⟩ => ⟨S8x8192x128, .bf16⟩
  | .hbm, ⟨1, _⟩ => ⟨S2x8192x128, .bf16⟩
  | .hbm, ⟨2, _⟩ => ⟨S2x8192x128, .bf16⟩
  | .hbm, ⟨3, _⟩ => ⟨S8x8192x128, .bf16⟩
  | .hbm, ⟨4, _⟩ => ⟨S8x16x1x512, .f32⟩
  | .hbm, ⟨5, _⟩ => ⟨S8x16x1x512, .f32⟩
  | .hbm, ⟨6, _⟩ => ⟨S8x8192x128, .f32⟩
  | .hbm, ⟨7, _⟩ => ⟨S8x8192x128, .f32⟩
  | .hbm, ⟨8, _⟩ => ⟨S8x8192x128, .f32⟩
  | .local _ .vmem, ⟨0, _⟩ => ⟨S1x8192x128, .bf16⟩
  | .local _ .vmem, ⟨1, _⟩ => ⟨S1x8192x128, .bf16⟩
  | .local _ .vmem, ⟨2, _⟩ => ⟨S1x8192x128, .bf16⟩
  | .local _ .vmem, ⟨3, _⟩ => ⟨S1x8192x128, .bf16⟩
  | .local _ .vmem, ⟨4, _⟩ => ⟨S1x16x1x512, .f32⟩
  | .local _ .vmem, ⟨5, _⟩ => ⟨S1x16x1x512, .f32⟩
  | .local _ .vmem, ⟨6, _⟩ => ⟨S1x16x1x512, .f32⟩
  | .local _ .vmem, ⟨7, _⟩ => ⟨S1x16x1x512, .f32⟩
  | .local _ .vmem, ⟨8, _⟩ => ⟨S1x512x128, .bf16⟩
  | .local _ .vmem, ⟨9, _⟩ => ⟨S1x512x128, .bf16⟩
  | .local _ .vmem, ⟨10, _⟩ => ⟨S1x512x128, .bf16⟩
  | .local _ .vmem, ⟨11, _⟩ => ⟨S1x512x128, .bf16⟩
  | .local _ .vmem, ⟨12, _⟩ => ⟨S1x8192x128, .f32⟩
  | .local _ .vmem, ⟨13, _⟩ => ⟨S1x8192x128, .f32⟩
  | .local _ .vmem, ⟨14, _⟩ => ⟨S1x512x128, .f32⟩
  | .local _ .vmem, ⟨15, _⟩ => ⟨S1x512x128, .f32⟩
  | .local _ .vmem, ⟨16, _⟩ => ⟨S1x512x128, .f32⟩
  | .local _ .vmem, ⟨17, _⟩ => ⟨S1x512x128, .f32⟩
  | _, _ => ⟨S8x8192x128, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0_0 : Ref sig .tc := ⟨.hbm, 6, rfl⟩
abbrev main_v0_1 : Ref sig .tc := ⟨.hbm, 7, rfl⟩
abbrev main_v0_2 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17

abbrev nD : Nat := 1
abbrev τ : Topo := Topo.v7x

variable {F : FTy → Type} [FloatOps F]

abbrev grid0 : Pipeline.Grid := ⟨2, ![8, 16], ![false, false]⟩

@[reducible] def k0_t1_loop : Scf.Loop 32 :=
  let c0_i32_6 : BitVec 32 := 0#32
  let c16_i32 : BitVec 32 := 16#32
  let v8 : BitVec 32 := Scalar.addi c0_i32_6 c16_i32
  let c1_i32 : BitVec 32 := 1#32
  ⟨c0_i32_6, v8, c1_i32⟩
def k0_mult1 (k0_t1 : Fin k0_t1_loop.trips) : BitVec 32 :=
  let c0_i32_6 : BitVec 32 := 0#32
  let c1_i32 : BitVec 32 := 1#32
  let arg11 : BitVec 32 := Scf.iv c0_i32_6 c1_i32 k0_t1
  let c512_i32 : BitVec 32 := 512#32
  let v16 : BitVec 32 := Scalar.muli arg11 c512_i32
  v16
def k0_off1 (k0_t1 : Fin k0_t1_loop.trips) : Fin 3 → Nat :=
  let c0_14 : Index := 0#32
  let c0_i32_6 : BitVec 32 := 0#32
  let c1_i32 : BitVec 32 := 1#32
  let arg11 : BitVec 32 := Scf.iv c0_i32_6 c1_i32 k0_t1
  let c512_i32 : BitVec 32 := 512#32
  let v16 : BitVec 32 := Scalar.muli arg11 c512_i32
  let v17 : BitVec 32 := v16
  let v18 : Index := Scalar.indexCast v17
  let c0_15 : Index := 0#32
  ![0, v18.toNat, 0]
def k0_off2 (k0_t1 : Fin k0_t1_loop.trips) : Fin 4 → Nat :=
  let c0_19 : Index := 0#32
  let c0_i32_6 : BitVec 32 := 0#32
  let c1_i32 : BitVec 32 := 1#32
  let arg11 : BitVec 32 := Scf.iv c0_i32_6 c1_i32 k0_t1
  let v25 : Index := Scalar.indexCast arg11
  let c0_20 : Index := 0#32
  let c0_21 : Index := 0#32
  ![0, v25.toNat, 0, 0]
def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_3 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_4 (i : grid0.Coords) : Fin 3 → Nat :=
  let arg0 : BitVec 32 := BitVec.ofNat 32 (i 0).val
  let arg1 : BitVec 32 := BitVec.ofNat 32 (i 1).val
  let c4_i32 : BitVec 32 := 4#32
  let v0 : BitVec 32 := Scalar.divsi arg0 c4_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg0 c4_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  ![v16.toNat, arg1.toNat, c0_i32_4.toNat]

def cc0_transform_5 (i : grid0.Coords) : Fin 3 → Nat :=
  let arg0 : BitVec 32 := BitVec.ofNat 32 (i 0).val
  let arg1 : BitVec 32 := BitVec.ofNat 32 (i 1).val
  let c4_i32 : BitVec 32 := 4#32
  let v0 : BitVec 32 := Scalar.divsi arg0 c4_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg0 c4_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  ![v16.toNat, arg1.toNat, c0_i32_4.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_8 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x8192x128 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1x8192x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x16x1x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1x16x1x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S1x512x128 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x512x128 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x8192x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]

abbrev stage0_7 : Fin 2 → Memref sig .tc .vmem S1x512x128 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S1x512x128 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]
-- ==== BwdARefIdeal.lean ====
abbrev S8x8192x128 : Shape := ⟨3, ![8, 8192, 128]⟩
abbrev S2x8192x128 : Shape := ⟨3, ![2, 8192, 128]⟩
abbrev S8x16x1x512 : Shape := ⟨4, ![8, 16, 1, 512]⟩
abbrev S2x4x8192x128 : Shape := ⟨4, ![2, 4, 8192, 128]⟩
abbrev S2x4x8192 : Shape := ⟨3, ![2, 4, 8192]⟩
abbrev S2x4x8192x8192 : Shape := ⟨4, ![2, 4, 8192, 8192]⟩
abbrev S2x4x8192x1 : Shape := ⟨4, ![2, 4, 8192, 1]⟩

abbrev nBuf : Space → Nat
  | .hbm => 30
  | .vmem => 0
  | .smem => 0
  | _ => 0

abbrev bufTy : (tb : Table) → Fin (tcTables nBuf tb) → BufTy
  | .hbm, ⟨0, _⟩ => ⟨S8x8192x128, .bf16⟩
  | .hbm, ⟨1, _⟩ => ⟨S2x8192x128, .bf16⟩
  | .hbm, ⟨2, _⟩ => ⟨S2x8192x128, .bf16⟩
  | .hbm, ⟨3, _⟩ => ⟨S8x8192x128, .bf16⟩
  | .hbm, ⟨4, _⟩ => ⟨S8x16x1x512, .f32⟩
  | .hbm, ⟨5, _⟩ => ⟨S8x16x1x512, .f32⟩
  | .hbm, ⟨6, _⟩ => ⟨S8x8192x128, .f32⟩
  | .hbm, ⟨7, _⟩ => ⟨S2x8192x128, .f32⟩
  | .hbm, ⟨8, _⟩ => ⟨S2x8192x128, .f32⟩
  | .hbm, ⟨9, _⟩ => ⟨S8x8192x128, .f32⟩
  | .hbm, ⟨10, _⟩ => ⟨S2x4x8192x128, .f32⟩
  | .hbm, ⟨11, _⟩ => ⟨S2x4x8192x128, .f32⟩
  | .hbm, ⟨12, _⟩ => ⟨S2x4x8192, .f32⟩
  | .hbm, ⟨13, _⟩ => ⟨S2x4x8192, .f32⟩
  | .hbm, ⟨14, _⟩ => ⟨S2x4x8192x8192, .f32⟩
  | .hbm, ⟨15, _⟩ => ⟨S2x4x8192x1, .f32⟩
  | .hbm, ⟨16, _⟩ => ⟨S2x4x8192x8192, .f32⟩
  | .hbm, ⟨17, _⟩ => ⟨S2x4x8192x8192, .f32⟩
  | .hbm, ⟨18, _⟩ => ⟨S2x4x8192x8192, .f32⟩
  | .hbm, ⟨19, _⟩ => ⟨S2x4x8192x8192, .f32⟩
  | .hbm, ⟨20, _⟩ => ⟨S2x4x8192x1, .f32⟩
  | .hbm, ⟨21, _⟩ => ⟨S2x4x8192x8192, .f32⟩
  | .hbm, ⟨22, _⟩ => ⟨S2x4x8192x8192, .f32⟩
  | .hbm, ⟨23, _⟩ => ⟨S2x4x8192x8192, .f32⟩
  | .hbm, ⟨24, _⟩ => ⟨S2x4x8192x128, .f32⟩
  | .hbm, ⟨25, _⟩ => ⟨S2x4x8192x128, .f32⟩
  | .hbm, ⟨26, _⟩ => ⟨S2x4x8192x128, .f32⟩
  | .hbm, ⟨27, _⟩ => ⟨S8x8192x128, .f32⟩
  | .hbm, ⟨28, _⟩ => ⟨S8x8192x128, .f32⟩
  | .hbm, ⟨29, _⟩ => ⟨S8x8192x128, .f32⟩
  | _, _ => ⟨S8x8192x128, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_v22 : Ref sig .tc := ⟨.hbm, 28, rfl⟩
abbrev main_v23 : Ref sig .tc := ⟨.hbm, 29, rfl⟩

abbrev nD : Nat := 1
abbrev τ : Topo := Topo.v7x

variable {F : FTy → Type} [FloatOps F]
-- ==== BwdB.lean ====
abbrev S4x8192x128 : Shape := ⟨3, ![4, 8192, 128]⟩
abbrev S4x16x1x512 : Shape := ⟨4, ![4, 16, 1, 512]⟩
abbrev S1x8192x128 : Shape := ⟨3, ![1, 8192, 128]⟩
abbrev S1x16x1x512 : Shape := ⟨4, ![1, 16, 1, 512]⟩
abbrev S1x512x128 : Shape := ⟨3, ![1, 512, 128]⟩
abbrev S8192x128 : Shape := ⟨2, ![8192, 128]⟩
abbrev S512x128 : Shape := ⟨2, ![512, 128]⟩
abbrev S512x512 : Shape := ⟨2, ![512, 512]⟩
abbrev S1x1x1x512 : Shape := ⟨4, ![1, 1, 1, 512]⟩
abbrev S1x512 : Shape := ⟨2, ![1, 512]⟩

abbrev nBuf : Space → Nat
  | .hbm => 9
  | .vmem => 18
  | .smem => 0
  | _ => 0

abbrev bufTy : (tb : Table) → Fin (tcTables nBuf tb) → BufTy
  | .hbm, ⟨0, _⟩ => ⟨S4x8192x128, .bf16⟩
  | .hbm, ⟨1, _⟩ => ⟨S4x8192x128, .bf16⟩
  | .hbm, ⟨2, _⟩ => ⟨S4x8192x128, .bf16⟩
  | .hbm, ⟨3, _⟩ => ⟨S4x8192x128, .bf16⟩
  | .hbm, ⟨4, _⟩ => ⟨S4x16x1x512, .f32⟩
  | .hbm, ⟨5, _⟩ => ⟨S4x16x1x512, .f32⟩
  | .hbm, ⟨6, _⟩ => ⟨S4x8192x128, .f32⟩
  | .hbm, ⟨7, _⟩ => ⟨S4x8192x128, .f32⟩
  | .hbm, ⟨8, _⟩ => ⟨S4x8192x128, .f32⟩
  | .local _ .vmem, ⟨0, _⟩ => ⟨S1x8192x128, .bf16⟩
  | .local _ .vmem, ⟨1, _⟩ => ⟨S1x8192x128, .bf16⟩
  | .local _ .vmem, ⟨2, _⟩ => ⟨S1x8192x128, .bf16⟩
  | .local _ .vmem, ⟨3, _⟩ => ⟨S1x8192x128, .bf16⟩
  | .local _ .vmem, ⟨4, _⟩ => ⟨S1x16x1x512, .f32⟩
  | .local _ .vmem, ⟨5, _⟩ => ⟨S1x16x1x512, .f32⟩
  | .local _ .vmem, ⟨6, _⟩ => ⟨S1x16x1x512, .f32⟩
  | .local _ .vmem, ⟨7, _⟩ => ⟨S1x16x1x512, .f32⟩
  | .local _ .vmem, ⟨8, _⟩ => ⟨S1x512x128, .bf16⟩
  | .local _ .vmem, ⟨9, _⟩ => ⟨S1x512x128, .bf16⟩
  | .local _ .vmem, ⟨10, _⟩ => ⟨S1x512x128, .bf16⟩
  | .local _ .vmem, ⟨11, _⟩ => ⟨S1x512x128, .bf16⟩
  | .local _ .vmem, ⟨12, _⟩ => ⟨S1x8192x128, .f32⟩
  | .local _ .vmem, ⟨13, _⟩ => ⟨S1x8192x128, .f32⟩
  | .local _ .vmem, ⟨14, _⟩ => ⟨S1x512x128, .f32⟩
  | .local _ .vmem, ⟨15, _⟩ => ⟨S1x512x128, .f32⟩
  | .local _ .vmem, ⟨16, _⟩ => ⟨S1x512x128, .f32⟩
  | .local _ .vmem, ⟨17, _⟩ => ⟨S1x512x128, .f32⟩
  | _, _ => ⟨S4x8192x128, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0_0 : Ref sig .tc := ⟨.hbm, 6, rfl⟩
abbrev main_v0_1 : Ref sig .tc := ⟨.hbm, 7, rfl⟩
abbrev main_v0_2 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17

abbrev nD : Nat := 1
abbrev τ : Topo := Topo.v7x

variable {F : FTy → Type} [FloatOps F]

abbrev grid0 : Pipeline.Grid := ⟨2, ![4, 16], ![false, false]⟩

@[reducible] def k0_t1_loop : Scf.Loop 32 :=
  let c0_i32_6 : BitVec 32 := 0#32
  let c16_i32 : BitVec 32 := 16#32
  let v8 : BitVec 32 := Scalar.addi c0_i32_6 c16_i32
  let c1_i32 : BitVec 32 := 1#32
  ⟨c0_i32_6, v8, c1_i32⟩
def k0_mult1 (k0_t1 : Fin k0_t1_loop.trips) : BitVec 32 :=
  let c0_i32_6 : BitVec 32 := 0#32
  let c1_i32 : BitVec 32 := 1#32
  let arg11 : BitVec 32 := Scf.iv c0_i32_6 c1_i32 k0_t1
  let c512_i32 : BitVec 32 := 512#32
  let v16 : BitVec 32 := Scalar.muli arg11 c512_i32
  v16
def k0_off1 (k0_t1 : Fin k0_t1_loop.trips) : Fin 3 → Nat :=
  let c0_14 : Index := 0#32
  let c0_i32_6 : BitVec 32 := 0#32
  let c1_i32 : BitVec 32 := 1#32
  let arg11 : BitVec 32 := Scf.iv c0_i32_6 c1_i32 k0_t1
  let c512_i32 : BitVec 32 := 512#32
  let v16 : BitVec 32 := Scalar.muli arg11 c512_i32
  let v17 : BitVec 32 := v16
  let v18 : Index := Scalar.indexCast v17
  let c0_15 : Index := 0#32
  ![0, v18.toNat, 0]
def k0_off2 (k0_t1 : Fin k0_t1_loop.trips) : Fin 4 → Nat :=
  let c0_19 : Index := 0#32
  let c0_i32_6 : BitVec 32 := 0#32
  let c1_i32 : BitVec 32 := 1#32
  let arg11 : BitVec 32 := Scf.iv c0_i32_6 c1_i32 k0_t1
  let v25 : Index := Scalar.indexCast arg11
  let c0_20 : Index := 0#32
  let c0_21 : Index := 0#32
  ![0, v25.toNat, 0, 0]
def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_3 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_4 (i : grid0.Coords) : Fin 3 → Nat :=
  let arg0 : BitVec 32 := BitVec.ofNat 32 (i 0).val
  let arg1 : BitVec 32 := BitVec.ofNat 32 (i 1).val
  let c1_i32 : BitVec 32 := 1#32
  let v0 : BitVec 32 := Scalar.divsi arg0 c1_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg0 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c0_i32_5 : BitVec 32 := 0#32
  let c0_i32_6 : BitVec 32 := 0#32
  ![v16.toNat, arg1.toNat, c0_i32_5.toNat]

def cc0_transform_5 (i : grid0.Coords) : Fin 3 → Nat :=
  let arg0 : BitVec 32 := BitVec.ofNat 32 (i 0).val
  let arg1 : BitVec 32 := BitVec.ofNat 32 (i 1).val
  let c1_i32 : BitVec 32 := 1#32
  let v0 : BitVec 32 := Scalar.divsi arg0 c1_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg0 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c0_i32_5 : BitVec 32 := 0#32
  let c0_i32_6 : BitVec 32 := 0#32
  ![v16.toNat, arg1.toNat, c0_i32_5.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_8 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x8192x128 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1x8192x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x16x1x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1x16x1x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S1x512x128 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x512x128 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x8192x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]

abbrev stage0_7 : Fin 2 → Memref sig .tc .vmem S1x512x128 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S1x512x128 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]
-- ==== BwdBRefIdeal.lean ====
abbrev S4x8192x128 : Shape := ⟨3, ![4, 8192, 128]⟩
abbrev S4x16x1x512 : Shape := ⟨4, ![4, 16, 1, 512]⟩
abbrev S4x8192 : Shape := ⟨2, ![4, 8192]⟩
abbrev S4x8192x8192 : Shape := ⟨3, ![4, 8192, 8192]⟩
abbrev S4x8192x1 : Shape := ⟨3, ![4, 8192, 1]⟩

abbrev nBuf : Space → Nat
  | .hbm => 25
  | .vmem => 0
  | .smem => 0
  | _ => 0

abbrev bufTy : (tb : Table) → Fin (tcTables nBuf tb) → BufTy
  | .hbm, ⟨0, _⟩ => ⟨S4x8192x128, .bf16⟩
  | .hbm, ⟨1, _⟩ => ⟨S4x8192x128, .bf16⟩
  | .hbm, ⟨2, _⟩ => ⟨S4x8192x128, .bf16⟩
  | .hbm, ⟨3, _⟩ => ⟨S4x8192x128, .bf16⟩
  | .hbm, ⟨4, _⟩ => ⟨S4x16x1x512, .f32⟩
  | .hbm, ⟨5, _⟩ => ⟨S4x16x1x512, .f32⟩
  | .hbm, ⟨6, _⟩ => ⟨S4x8192x128, .f32⟩
  | .hbm, ⟨7, _⟩ => ⟨S4x8192x128, .f32⟩
  | .hbm, ⟨8, _⟩ => ⟨S4x8192x128, .f32⟩
  | .hbm, ⟨9, _⟩ => ⟨S4x8192x128, .f32⟩
  | .hbm, ⟨10, _⟩ => ⟨S4x8192, .f32⟩
  | .hbm, ⟨11, _⟩ => ⟨S4x8192, .f32⟩
  | .hbm, ⟨12, _⟩ => ⟨S4x8192x8192, .f32⟩
  | .hbm, ⟨13, _⟩ => ⟨S4x8192x1, .f32⟩
  | .hbm, ⟨14, _⟩ => ⟨S4x8192x8192, .f32⟩
  | .hbm, ⟨15, _⟩ => ⟨S4x8192x8192, .f32⟩
  | .hbm, ⟨16, _⟩ => ⟨S4x8192x8192, .f32⟩
  | .hbm, ⟨17, _⟩ => ⟨S4x8192x8192, .f32⟩
  | .hbm, ⟨18, _⟩ => ⟨S4x8192x1, .f32⟩
  | .hbm, ⟨19, _⟩ => ⟨S4x8192x8192, .f32⟩
  | .hbm, ⟨20, _⟩ => ⟨S4x8192x8192, .f32⟩
  | .hbm, ⟨21, _⟩ => ⟨S4x8192x8192, .f32⟩
  | .hbm, ⟨22, _⟩ => ⟨S4x8192x128, .f32⟩
  | .hbm, ⟨23, _⟩ => ⟨S4x8192x128, .f32⟩
  | .hbm, ⟨24, _⟩ => ⟨S4x8192x128, .f32⟩
  | _, _ => ⟨S4x8192x128, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩

abbrev nD : Nat := 1
abbrev τ : Topo := Topo.v7x

variable {F : FTy → Type} [FloatOps F]
-- ==== GradIn.lean ====
abbrev S8192x1024 : Shape := ⟨2, ![8192, 1024]⟩
abbrev S8192x3840 : Shape := ⟨2, ![8192, 3840]⟩
abbrev S1024x3840 : Shape := ⟨2, ![1024, 3840]⟩
abbrev S512x1024 : Shape := ⟨2, ![512, 1024]⟩
abbrev S512x768 : Shape := ⟨2, ![512, 768]⟩
abbrev S1024x768 : Shape := ⟨2, ![1024, 768]⟩

abbrev nBuf : Space → Nat
  | .hbm => 3
  | .vmem => 6
  | .smem => 0
  | _ => 0

abbrev bufTy : (tb : Table) → Fin (tcTables nBuf tb) → BufTy
  | .hbm, ⟨0, _⟩ => ⟨S8192x1024, .bf16⟩
  | .hbm, ⟨1, _⟩ => ⟨S8192x3840, .bf16⟩
  | .hbm, ⟨2, _⟩ => ⟨S1024x3840, .f32⟩
  | .local _ .vmem, ⟨0, _⟩ => ⟨S512x1024, .bf16⟩
  | .local _ .vmem, ⟨1, _⟩ => ⟨S512x1024, .bf16⟩
  | .local _ .vmem, ⟨2, _⟩ => ⟨S512x768, .bf16⟩
  | .local _ .vmem, ⟨3, _⟩ => ⟨S512x768, .bf16⟩
  | .local _ .vmem, ⟨4, _⟩ => ⟨S1024x768, .f32⟩
  | .local _ .vmem, ⟨5, _⟩ => ⟨S1024x768, .f32⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![5, 16], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S512x768 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1024x768 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]
-- ==== GradInRefIdeal.lean ====
abbrev S8192x1024 : Shape := ⟨2, ![8192, 1024]⟩
abbrev S8192x3840 : Shape := ⟨2, ![8192, 3840]⟩
abbrev S1024x3840 : Shape := ⟨2, ![1024, 3840]⟩

abbrev nBuf : Space → Nat
  | .hbm => 5
  | .vmem => 0
  | .smem => 0
  | _ => 0

abbrev bufTy : (tb : Table) → Fin (tcTables nBuf tb) → BufTy
  | .hbm, ⟨0, _⟩ => ⟨S8192x1024, .bf16⟩
  | .hbm, ⟨1, _⟩ => ⟨S8192x3840, .bf16⟩
  | .hbm, ⟨2, _⟩ => ⟨S8192x1024, .f32⟩
  | .hbm, ⟨3, _⟩ => ⟨S8192x3840, .f32⟩
  | .hbm, ⟨4, _⟩ => ⟨S1024x3840, .f32⟩
  | _, _ => ⟨S8192x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩

abbrev nD : Nat := 1
abbrev τ : Topo := Topo.v7x

variable {F : FTy → Type} [FloatOps F]
-- ==== GradOut.lean ====
abbrev S8192x1536 : Shape := ⟨2, ![8192, 1536]⟩
abbrev S8192x1024 : Shape := ⟨2, ![8192, 1024]⟩
abbrev S1536x1024 : Shape := ⟨2, ![1536, 1024]⟩
abbrev S512x1536 : Shape := ⟨2, ![512, 1536]⟩
abbrev S512x512 : Shape := ⟨2, ![512, 512]⟩
abbrev S1536x512 : Shape := ⟨2, ![1536, 512]⟩

abbrev nBuf : Space → Nat
  | .hbm => 3
  | .vmem => 6
  | .smem => 0
  | _ => 0

abbrev bufTy : (tb : Table) → Fin (tcTables nBuf tb) → BufTy
  | .hbm, ⟨0, _⟩ => ⟨S8192x1536, .bf16⟩
  | .hbm, ⟨1, _⟩ => ⟨S8192x1024, .f32⟩
  | .hbm, ⟨2, _⟩ => ⟨S1536x1024, .f32⟩
  | .local _ .vmem, ⟨0, _⟩ => ⟨S512x1536, .bf16⟩
  | .local _ .vmem, ⟨1, _⟩ => ⟨S512x1536, .bf16⟩
  | .local _ .vmem, ⟨2, _⟩ => ⟨S512x512, .f32⟩
  | .local _ .vmem, ⟨3, _⟩ => ⟨S512x512, .f32⟩
  | .local _ .vmem, ⟨4, _⟩ => ⟨S1536x512, .f32⟩
  | .local _ .vmem, ⟨5, _⟩ => ⟨S1536x512, .f32⟩
  | _, _ => ⟨S8192x1536, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![2, 16], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

abbrev stage0_0 : Fin 2 → Memref sig .tc .vmem S512x1536 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S512x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1536x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]
-- ==== GradOutRefIdeal.lean ====
abbrev S8192x1536 : Shape := ⟨2, ![8192, 1536]⟩
abbrev S8192x1024 : Shape := ⟨2, ![8192, 1024]⟩
abbrev S1536x1024 : Shape := ⟨2, ![1536, 1024]⟩

abbrev nBuf : Space → Nat
  | .hbm => 4
  | .vmem => 0
  | .smem => 0
  | _ => 0

abbrev bufTy : (tb : Table) → Fin (tcTables nBuf tb) → BufTy
  | .hbm, ⟨0, _⟩ => ⟨S8192x1536, .bf16⟩
  | .hbm, ⟨1, _⟩ => ⟨S8192x1024, .f32⟩
  | .hbm, ⟨2, _⟩ => ⟨S8192x1536, .f32⟩
  | .hbm, ⟨3, _⟩ => ⟨S1536x1024, .f32⟩
  | _, _ => ⟨S8192x1536, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩

abbrev nD : Nat := 1
abbrev τ : Topo := Topo.v7x

variable {F : FTy → Type} [FloatOps F]
-- ==== GradUq.lean ====
abbrev S8192x384 : Shape := ⟨2, ![8192, 384]⟩
abbrev S8192x512 : Shape := ⟨2, ![8192, 512]⟩
abbrev S384x512 : Shape := ⟨2, ![384, 512]⟩
abbrev S512x384 : Shape := ⟨2, ![512, 384]⟩
abbrev S512x512 : Shape := ⟨2, ![512, 512]⟩

abbrev nBuf : Space → Nat
  | .hbm => 3
  | .vmem => 5
  | .smem => 0
  | _ => 0

abbrev bufTy : (tb : Table) → Fin (tcTables nBuf tb) → BufTy
  | .hbm, ⟨0, _⟩ => ⟨S8192x384, .bf16⟩
  | .hbm, ⟨1, _⟩ => ⟨S8192x512, .bf16⟩
  | .hbm, ⟨2, _⟩ => ⟨S384x512, .f32⟩
  | .local _ .vmem, ⟨0, _⟩ => ⟨S512x384, .bf16⟩
  | .local _ .vmem, ⟨1, _⟩ => ⟨S512x384, .bf16⟩
  | .local _ .vmem, ⟨2, _⟩ => ⟨S512x512, .bf16⟩
  | .local _ .vmem, ⟨3, _⟩ => ⟨S512x512, .bf16⟩
  | .local _ .vmem, ⟨4, _⟩ => ⟨S384x512, .f32⟩
  | _, _ => ⟨S8192x384, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4

abbrev nD : Nat := 1
abbrev τ : Topo := Topo.v7x

variable {F : FTy → Type} [FloatOps F]

abbrev grid0 : Pipeline.Grid := ⟨2, ![1, 16], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

abbrev stage0_0 : Fin 2 → Memref sig .tc .vmem S512x384 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S512x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 1 → Memref sig .tc .vmem S384x512 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, false]
-- ==== GradUqRefIdeal.lean ====
abbrev S8192x384 : Shape := ⟨2, ![8192, 384]⟩
abbrev S8192x512 : Shape := ⟨2, ![8192, 512]⟩
abbrev S384x512 : Shape := ⟨2, ![384, 512]⟩

abbrev nBuf : Space → Nat
  | .hbm => 5
  | .vmem => 0
  | .smem => 0
  | _ => 0

abbrev bufTy : (tb : Table) → Fin (tcTables nBuf tb) → BufTy
  | .hbm, ⟨0, _⟩ => ⟨S8192x384, .bf16⟩
  | .hbm, ⟨1, _⟩ => ⟨S8192x512, .bf16⟩
  | .hbm, ⟨2, _⟩ => ⟨S8192x384, .f32⟩
  | .hbm, ⟨3, _⟩ => ⟨S8192x512, .f32⟩
  | .hbm, ⟨4, _⟩ => ⟨S384x512, .f32⟩
  | _, _ => ⟨S8192x384, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩

abbrev nD : Nat := 1
abbrev τ : Topo := Topo.v7x

variable {F : FTy → Type} [FloatOps F]
-- ==== GradUkv.lean ====
abbrev S8192x256 : Shape := ⟨2, ![8192, 256]⟩
abbrev S8192x1024 : Shape := ⟨2, ![8192, 1024]⟩
abbrev S256x1024 : Shape := ⟨2, ![256, 1024]⟩
abbrev S512x256 : Shape := ⟨2, ![512, 256]⟩
abbrev S512x1024 : Shape := ⟨2, ![512, 1024]⟩

abbrev nBuf : Space → Nat
  | .hbm => 3
  | .vmem => 5
  | .smem => 0
  | _ => 0

abbrev bufTy : (tb : Table) → Fin (tcTables nBuf tb) → BufTy
  | .hbm, ⟨0, _⟩ => ⟨S8192x256, .bf16⟩
  | .hbm, ⟨1, _⟩ => ⟨S8192x1024, .bf16⟩
  | .hbm, ⟨2, _⟩ => ⟨S256x1024, .f32⟩
  | .local _ .vmem, ⟨0, _⟩ => ⟨S512x256, .bf16⟩
  | .local _ .vmem, ⟨1, _⟩ => ⟨S512x256, .bf16⟩
  | .local _ .vmem, ⟨2, _⟩ => ⟨S512x1024, .bf16⟩
  | .local _ .vmem, ⟨3, _⟩ => ⟨S512x1024, .bf16⟩
  | .local _ .vmem, ⟨4, _⟩ => ⟨S256x1024, .f32⟩
  | _, _ => ⟨S8192x256, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4

abbrev nD : Nat := 1
abbrev τ : Topo := Topo.v7x

variable {F : FTy → Type} [FloatOps F]

abbrev grid0 : Pipeline.Grid := ⟨2, ![1, 16], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

abbrev stage0_0 : Fin 2 → Memref sig .tc .vmem S512x256 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S512x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 1 → Memref sig .tc .vmem S256x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, false]
-- ==== GradUkvRefIdeal.lean ====
abbrev S8192x256 : Shape := ⟨2, ![8192, 256]⟩
abbrev S8192x1024 : Shape := ⟨2, ![8192, 1024]⟩
abbrev S256x1024 : Shape := ⟨2, ![256, 1024]⟩

abbrev nBuf : Space → Nat
  | .hbm => 5
  | .vmem => 0
  | .smem => 0
  | _ => 0

abbrev bufTy : (tb : Table) → Fin (tcTables nBuf tb) → BufTy
  | .hbm, ⟨0, _⟩ => ⟨S8192x256, .bf16⟩
  | .hbm, ⟨1, _⟩ => ⟨S8192x1024, .bf16⟩
  | .hbm, ⟨2, _⟩ => ⟨S8192x256, .f32⟩
  | .hbm, ⟨3, _⟩ => ⟨S8192x1024, .f32⟩
  | .hbm, ⟨4, _⟩ => ⟨S256x1024, .f32⟩
  | _, _ => ⟨S8192x256, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩

abbrev nD : Nat := 1
abbrev τ : Topo := Topo.v7x

variable {F : FTy → Type} [FloatOps F]
-- ==== Mid.lean ====
abbrev S8192x1024 : Shape := ⟨2, ![8192, 1024]⟩
abbrev S8x8192x128 : Shape := ⟨3, ![8, 8192, 128]⟩
abbrev S4x8192x128 : Shape := ⟨3, ![4, 8192, 128]⟩
abbrev S8192x1536 : Shape := ⟨2, ![8192, 1536]⟩
abbrev S1536x1024 : Shape := ⟨2, ![1536, 1024]⟩
abbrev S12x8192x1 : Shape := ⟨3, ![12, 8192, 1]⟩
abbrev S8x128 : Shape := ⟨2, ![8, 128]⟩
abbrev S256x1024 : Shape := ⟨2, ![256, 1024]⟩
abbrev S8x256x128 : Shape := ⟨3, ![8, 256, 128]⟩
abbrev S4x256x128 : Shape := ⟨3, ![4, 256, 128]⟩
abbrev S256x1536 : Shape := ⟨2, ![256, 1536]⟩
abbrev S12x256x1 : Shape := ⟨3, ![12, 256, 1]⟩
abbrev S256x128 : Shape := ⟨2, ![256, 128]⟩
abbrev S1x256x128 : Shape := ⟨3, ![1, 256, 128]⟩
abbrev S256 : Shape := ⟨1, ![256]⟩
abbrev S256x1 : Shape := ⟨2, ![256, 1]⟩
abbrev S1 : Shape := ⟨1, ![1]⟩
abbrev S1x1 : Shape := ⟨2, ![1, 1]⟩
abbrev S1x256x1 : Shape := ⟨3, ![1, 256, 1]⟩

abbrev nBuf : Space → Nat
  | .hbm => 13
  | .vmem => 26
  | .smem => 0
  | _ => 0

abbrev bufTy : (tb : Table) → Fin (tcTables nBuf tb) → BufTy
  | .hbm, ⟨0, _⟩ => ⟨S8192x1024, .f32⟩
  | .hbm, ⟨1, _⟩ => ⟨S8192x1024, .f32⟩
  | .hbm, ⟨2, _⟩ => ⟨S8x8192x128, .f32⟩
  | .hbm, ⟨3, _⟩ => ⟨S4x8192x128, .f32⟩
  | .hbm, ⟨4, _⟩ => ⟨S8192x1536, .f32⟩
  | .hbm, ⟨5, _⟩ => ⟨S1536x1024, .bf16⟩
  | .hbm, ⟨6, _⟩ => ⟨S8192x1536, .bf16⟩
  | .hbm, ⟨7, _⟩ => ⟨S8192x1024, .f32⟩
  | .hbm, ⟨8, _⟩ => ⟨S8192x1536, .bf16⟩
  | .hbm, ⟨9, _⟩ => ⟨S8x8192x128, .bf16⟩
  | .hbm, ⟨10, _⟩ => ⟨S4x8192x128, .bf16⟩
  | .hbm, ⟨11, _⟩ => ⟨S12x8192x1, .f32⟩
  | .hbm, ⟨12, _⟩ => ⟨S8x128, .f32⟩
  | .local _ .vmem, ⟨0, _⟩ => ⟨S256x1024, .f32⟩
  | .local _ .vmem, ⟨1, _⟩ => ⟨S256x1024, .f32⟩
  | .local _ .vmem, ⟨2, _⟩ => ⟨S256x1024, .f32⟩
  | .local _ .vmem, ⟨3, _⟩ => ⟨S256x1024, .f32⟩
  | .local _ .vmem, ⟨4, _⟩ => ⟨S8x256x128, .f32⟩
  | .local _ .vmem, ⟨5, _⟩ => ⟨S8x256x128, .f32⟩
  | .local _ .vmem, ⟨6, _⟩ => ⟨S4x256x128, .f32⟩
  | .local _ .vmem, ⟨7, _⟩ => ⟨S4x256x128, .f32⟩
  | .local _ .vmem, ⟨8, _⟩ => ⟨S256x1536, .f32⟩
  | .local _ .vmem, ⟨9, _⟩ => ⟨S256x1536, .f32⟩
  | .local _ .vmem, ⟨10, _⟩ => ⟨S1536x1024, .bf16⟩
  | .local _ .vmem, ⟨11, _⟩ => ⟨S256x1536, .bf16⟩
  | .local _ .vmem, ⟨12, _⟩ => ⟨S256x1536, .bf16⟩
  | .local _ .vmem, ⟨13, _⟩ => ⟨S256x1024, .f32⟩
  | .local _ .vmem, ⟨14, _⟩ => ⟨S256x1024, .f32⟩
  | .local _ .vmem, ⟨15, _⟩ => ⟨S256x1536, .bf16⟩
  | .local _ .vmem, ⟨16, _⟩ => ⟨S256x1536, .bf16⟩
  | .local _ .vmem, ⟨17, _⟩ => ⟨S8x256x128, .bf16⟩
  | .local _ .vmem, ⟨18, _⟩ => ⟨S8x256x128, .bf16⟩
  | .local _ .vmem, ⟨19, _⟩ => ⟨S4x256x128, .bf16⟩
  | .local _ .vmem, ⟨20, _⟩ => ⟨S4x256x128, .bf16⟩
  | .local _ .vmem, ⟨21, _⟩ => ⟨S12x256x1, .f32⟩
  | .local _ .vmem, ⟨22, _⟩ => ⟨S12x256x1, .f32⟩
  | .local _ .vmem, ⟨23, _⟩ => ⟨S8x128, .f32⟩
  | .local _ .vmem, ⟨24, _⟩ => ⟨S256x1536, .f32⟩
  | .local _ .vmem, ⟨25, _⟩ => ⟨S256x1536, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | _, _ => false

abbrev semScoped : Fin 0 → Bool
  | ⟨_, h⟩ => absurd h (Nat.not_lt_zero _)

abbrev dmaSemScoped : Fin 24 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | _ => false

abbrev sig : RefSig :=
  ofTc nBuf bufTy 0 24 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0_0 : Ref sig .tc := ⟨.hbm, 6, rfl⟩
abbrev main_v0_1 : Ref sig .tc := ⟨.hbm, 7, rfl⟩
abbrev main_v0_2 : Ref sig .tc := ⟨.hbm, 8, rfl⟩
abbrev main_v0_3 : Ref sig .tc := ⟨.hbm, 9, rfl⟩
abbrev main_v0_4 : Ref sig .tc := ⟨.hbm, 10, rfl⟩
abbrev main_v0_5 : Ref sig .tc := ⟨.hbm, 11, rfl⟩
abbrev main_v0_6 : Ref sig .tc := ⟨.hbm, 12, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg6_0 : Ref sig .tc := ⟨.vmem, 11, rfl⟩
abbrev cc0_stg6_1 : Ref sig .tc := ⟨.vmem, 12, rfl⟩
abbrev cc0_stg7_0 : Ref sig .tc := ⟨.vmem, 13, rfl⟩
abbrev cc0_stg7_1 : Ref sig .tc := ⟨.vmem, 14, rfl⟩
abbrev cc0_stg8_0 : Ref sig .tc := ⟨.vmem, 15, rfl⟩
abbrev cc0_stg8_1 : Ref sig .tc := ⟨.vmem, 16, rfl⟩
abbrev cc0_stg9_0 : Ref sig .tc := ⟨.vmem, 17, rfl⟩
abbrev cc0_stg9_1 : Ref sig .tc := ⟨.vmem, 18, rfl⟩
abbrev cc0_stg10_0 : Ref sig .tc := ⟨.vmem, 19, rfl⟩
abbrev cc0_stg10_1 : Ref sig .tc := ⟨.vmem, 20, rfl⟩
abbrev cc0_stg11_0 : Ref sig .tc := ⟨.vmem, 21, rfl⟩
abbrev cc0_stg11_1 : Ref sig .tc := ⟨.vmem, 22, rfl⟩
abbrev cc0_stg12_0 : Ref sig .tc := ⟨.vmem, 23, rfl⟩
abbrev cc0_scratch0 : Ref sig .tc := ⟨.vmem, 24, rfl⟩
abbrev cc0_scratch1 : Ref sig .tc := ⟨.vmem, 25, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem6_0 : DmaSem sig := 11
abbrev cc0_sem6_1 : DmaSem sig := 12
abbrev cc0_sem7_0 : DmaSem sig := 13
abbrev cc0_sem7_1 : DmaSem sig := 14
abbrev cc0_sem8_0 : DmaSem sig := 15
abbrev cc0_sem8_1 : DmaSem sig := 16
abbrev cc0_sem9_0 : DmaSem sig := 17
abbrev cc0_sem9_1 : DmaSem sig := 18
abbrev cc0_sem10_0 : DmaSem sig := 19
abbrev cc0_sem10_1 : DmaSem sig := 20
abbrev cc0_sem11_0 : DmaSem sig := 21
abbrev cc0_sem11_1 : DmaSem sig := 22
abbrev cc0_sem12_0 : DmaSem sig := 23

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_10 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_11 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S8x256x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S4x256x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x1536 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S1536x1024 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S256x1536 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S256x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S256x1536 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S8x256x128 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S4x256x128 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S12x256x1 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 1 → Memref sig .tc .vmem S8x128 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]
-- ==== MidRefIdeal.lean ====
abbrev S8192x1024 : Shape := ⟨2, ![8192, 1024]⟩
abbrev S8x8192x128 : Shape := ⟨3, ![8, 8192, 128]⟩
abbrev S4x8192x128 : Shape := ⟨3, ![4, 8192, 128]⟩
abbrev S8192x1536 : Shape := ⟨2, ![8192, 1536]⟩
abbrev S1536x1024 : Shape := ⟨2, ![1536, 1024]⟩
abbrev S12x8192x128 : Shape := ⟨3, ![12, 8192, 128]⟩
abbrev S8192x12x128 : Shape := ⟨3, ![8192, 12, 128]⟩
abbrev S_ : Shape := ⟨0, ![]⟩
abbrev S8192 : Shape := ⟨1, ![8192]⟩
abbrev S12x8192 : Shape := ⟨2, ![12, 8192]⟩
abbrev S12x8192x1 : Shape := ⟨3, ![12, 8192, 1]⟩
abbrev S8x128 : Shape := ⟨2, ![8, 128]⟩

abbrev nBuf : Space → Nat
  | .hbm => 62
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S8192x1024, .f32⟩
  | .hbm, ⟨2, _⟩ => ⟨S8x8192x128, .f32⟩
  | .hbm, ⟨3, _⟩ => ⟨S4x8192x128, .f32⟩
  | .hbm, ⟨4, _⟩ => ⟨S8192x1536, .f32⟩
  | .hbm, ⟨5, _⟩ => ⟨S1536x1024, .bf16⟩
  | .hbm, ⟨6, _⟩ => ⟨S1536x1024, .f32⟩
  | .hbm, ⟨7, _⟩ => ⟨S12x8192x128, .f32⟩
  | .hbm, ⟨8, _⟩ => ⟨S8192x12x128, .f32⟩
  | .hbm, ⟨9, _⟩ => ⟨S8192x1536, .f32⟩
  | .hbm, ⟨10, _⟩ => ⟨S8192x1536, .f32⟩
  | .hbm, ⟨11, _⟩ => ⟨S8192x1536, .f32⟩
  | .hbm, ⟨12, _⟩ => ⟨S_, .f32⟩
  | .hbm, ⟨13, _⟩ => ⟨S8192x1536, .f32⟩
  | .hbm, ⟨14, _⟩ => ⟨S8192x1536, .f32⟩
  | .hbm, ⟨15, _⟩ => ⟨S_, .f32⟩
  | .hbm, ⟨16, _⟩ => ⟨S8192x1536, .f32⟩
  | .hbm, ⟨17, _⟩ => ⟨S8192x1536, .f32⟩
  | .hbm, ⟨18, _⟩ => ⟨S8192x1536, .f32⟩
  | .hbm, ⟨19, _⟩ => ⟨S8192x1536, .f32⟩
  | .hbm, ⟨20, _⟩ => ⟨S8192x1024, .f32⟩
  | .hbm, ⟨21, _⟩ => ⟨S8192x1024, .f32⟩
  | .hbm, ⟨22, _⟩ => ⟨S8192x1024, .f32⟩
  | .hbm, ⟨23, _⟩ => ⟨S8192x1024, .f32⟩
  | .hbm, ⟨24, _⟩ => ⟨S_, .f32⟩
  | .hbm, ⟨25, _⟩ => ⟨S8192, .f32⟩
  | .hbm, ⟨26, _⟩ => ⟨S_, .f32⟩
  | .hbm, ⟨27, _⟩ => ⟨S8192, .f32⟩
  | .hbm, ⟨28, _⟩ => ⟨S8192, .f32⟩
  | .hbm, ⟨29, _⟩ => ⟨S_, .f32⟩
  | .hbm, ⟨30, _⟩ => ⟨S_, .f32⟩
  | .hbm, ⟨31, _⟩ => ⟨S_, .f32⟩
  | .hbm, ⟨32, _⟩ => ⟨S_, .f32⟩
  | .hbm, ⟨33, _⟩ => ⟨S_, .f32⟩
  | .hbm, ⟨34, _⟩ => ⟨S8192x1024, .f32⟩
  | .hbm, ⟨35, _⟩ => ⟨S8192x1024, .f32⟩
  | .hbm, ⟨36, _⟩ => ⟨S8192x1536, .f32⟩
  | .hbm, ⟨37, _⟩ => ⟨S8192x1536, .f32⟩
  | .hbm, ⟨38, _⟩ => ⟨S8192x1536, .f32⟩
  | .hbm, ⟨39, _⟩ => ⟨S_, .f32⟩
  | .hbm, ⟨40, _⟩ => ⟨S8192x1536, .f32⟩
  | .hbm, ⟨41, _⟩ => ⟨S8192x1536, .f32⟩
  | .hbm, ⟨42, _⟩ => ⟨S8192x1536, .f32⟩
  | .hbm, ⟨43, _⟩ => ⟨S_, .f32⟩
  | .hbm, ⟨44, _⟩ => ⟨S8192x1536, .f32⟩
  | .hbm, ⟨45, _⟩ => ⟨S8192x1536, .f32⟩
  | .hbm, ⟨46, _⟩ => ⟨S8192x1536, .f32⟩
  | .hbm, ⟨47, _⟩ => ⟨S8192x1536, .f32⟩
  | .hbm, ⟨48, _⟩ => ⟨S8192x1536, .f32⟩
  | .hbm, ⟨49, _⟩ => ⟨S8192x12x128, .f32⟩
  | .hbm, ⟨50, _⟩ => ⟨S12x8192x128, .f32⟩
  | .hbm, ⟨51, _⟩ => ⟨S_, .f32⟩
  | .hbm, ⟨52, _⟩ => ⟨S12x8192, .f32⟩
  | .hbm, ⟨53, _⟩ => ⟨S12x8192x1, .f32⟩
  | .hbm, ⟨54, _⟩ => ⟨S8192x12x128, .f32⟩
  | .hbm, ⟨55, _⟩ => ⟨S12x8192x128, .f32⟩
  | .hbm, ⟨56, _⟩ => ⟨S12x8192x128, .bf16⟩
  | .hbm, ⟨57, _⟩ => ⟨S8192x1536, .bf16⟩
  | .hbm, ⟨58, _⟩ => ⟨S8192x1536, .bf16⟩
  | .hbm, ⟨59, _⟩ => ⟨S8x8192x128, .bf16⟩
  | .hbm, ⟨60, _⟩ => ⟨S4x8192x128, .bf16⟩
  | .hbm, ⟨61, _⟩ => ⟨S8x128, .f32⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_cst : Ref sig .tc := ⟨.hbm, 12, rfl⟩
abbrev main_v6 : Ref sig .tc := ⟨.hbm, 13, rfl⟩
abbrev main_v7 : Ref sig .tc := ⟨.hbm, 14, rfl⟩
abbrev main_cst_0 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_cst_1 : Ref sig .tc := ⟨.hbm, 24, rfl⟩
abbrev main_v16 : Ref sig .tc := ⟨.hbm, 25, rfl⟩
abbrev main_cst_2 : Ref sig .tc := ⟨.hbm, 26, rfl⟩
abbrev main_v17 : Ref sig .tc := ⟨.hbm, 27, rfl⟩
abbrev main_v18 : Ref sig .tc := ⟨.hbm, 28, rfl⟩
abbrev main_cst_3 : Ref sig .tc := ⟨.hbm, 29, rfl⟩
abbrev main_v19 : Ref sig .tc := ⟨.hbm, 30, rfl⟩
abbrev main_cst_4 : Ref sig .tc := ⟨.hbm, 31, rfl⟩
abbrev main_v20 : Ref sig .tc := ⟨.hbm, 32, rfl⟩
abbrev main_cst_5 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_cst_6 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_cst_7 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_v32 : Ref sig .tc := ⟨.hbm, 47, rfl⟩
abbrev main_v33 : Ref sig .tc := ⟨.hbm, 48, rfl⟩
abbrev main_v34 : Ref sig .tc := ⟨.hbm, 49, rfl⟩
abbrev main_v35 : Ref sig .tc := ⟨.hbm, 50, rfl⟩
abbrev main_cst_8 : Ref sig .tc := ⟨.hbm, 51, rfl⟩
abbrev main_v36 : Ref sig .tc := ⟨.hbm, 52, rfl⟩
abbrev main_v37 : Ref sig .tc := ⟨.hbm, 53, rfl⟩
abbrev main_v38 : Ref sig .tc := ⟨.hbm, 54, rfl⟩
abbrev main_v39 : Ref sig .tc := ⟨.hbm, 55, rfl⟩
abbrev main_v40 : Ref sig .tc := ⟨.hbm, 56, rfl⟩
abbrev main_v41 : Ref sig .tc := ⟨.hbm, 57, rfl⟩
abbrev main_v42 : Ref sig .tc := ⟨.hbm, 58, rfl⟩
abbrev main_v43 : Ref sig .tc := ⟨.hbm, 59, rfl⟩
abbrev main_v44 : Ref sig .tc := ⟨.hbm, 60, rfl⟩
abbrev main_v45 : Ref sig .tc := ⟨.hbm, 61, rfl⟩

abbrev nD : Nat := 1
abbrev τ : Topo := Topo.v7x

variable {F : FTy → Type} [FloatOps F]
-- ==== Adam.lean ====
abbrev S1x1024 : Shape := ⟨2, ![1, 1024]⟩
abbrev S1x1024x616 : Shape := ⟨3, ![1, 1024, 616]⟩
abbrev S1x64 : Shape := ⟨2, ![1, 64]⟩
abbrev S1x384 : Shape := ⟨2, ![1, 384]⟩
abbrev S1x256 : Shape := ⟨2, ![1, 256]⟩
abbrev S1x96x384 : Shape := ⟨3, ![1, 96, 384]⟩
abbrev S1x256x192 : Shape := ⟨3, ![1, 256, 192]⟩
abbrev S1x96 : Shape := ⟨2, ![1, 96]⟩
abbrev S1x256x1024 : Shape := ⟨3, ![1, 256, 1024]⟩
abbrev S1024x616 : Shape := ⟨2, ![1024, 616]⟩
abbrev S96x384 : Shape := ⟨2, ![96, 384]⟩
abbrev S256x192 : Shape := ⟨2, ![256, 192]⟩
abbrev S256x1024 : Shape := ⟨2, ![256, 1024]⟩
abbrev S1024 : Shape := ⟨1, ![1024]⟩
abbrev S64 : Shape := ⟨1, ![64]⟩
abbrev S384 : Shape := ⟨1, ![384]⟩
abbrev S256 : Shape := ⟨1, ![256]⟩
abbrev S96 : Shape := ⟨1, ![96]⟩
abbrev S1984 : Shape := ⟨1, ![1984]⟩
abbrev S_ : Shape := ⟨0, ![]⟩
abbrev S2048 : Shape := ⟨1, ![2048]⟩
abbrev S4928x128 : Shape := ⟨2, ![4928, 128]⟩
abbrev S288x128 : Shape := ⟨2, ![288, 128]⟩
abbrev S384x128 : Shape := ⟨2, ![384, 128]⟩
abbrev S2048x128 : Shape := ⟨2, ![2048, 128]⟩
abbrev S16x128 : Shape := ⟨2, ![16, 128]⟩
abbrev S7680x128 : Shape := ⟨2, ![7680, 128]⟩
abbrev S1536x128 : Shape := ⟨2, ![1536, 128]⟩

abbrev nBuf : Space → Nat
  | .hbm => 139
  | .vmem => 14
  | .smem => 0
  | _ => 0

abbrev hbmTy0_0 (i : Nat) : BufTy := match i % 128 with
  | 0 => ⟨S1x1024, .f32⟩
  | 1 => ⟨S1x1024x616, .f32⟩
  | 2 => ⟨S1x64, .f32⟩
  | 3 => ⟨S1x64, .f32⟩
  | 4 => ⟨S1x384, .f32⟩
  | 5 => ⟨S1x256, .f32⟩
  | 6 => ⟨S1x96x384, .f32⟩
  | 7 => ⟨S1x256x192, .f32⟩
  | 8 => ⟨S1x96, .f32⟩
  | 9 => ⟨S1x96, .f32⟩
  | 10 => ⟨S1x256x1024, .f32⟩
  | 11 => ⟨S1x1024, .f32⟩
  | 12 => ⟨S1x1024x616, .f32⟩
  | 13 => ⟨S1x64, .f32⟩
  | 14 => ⟨S1x64, .f32⟩
  | 15 => ⟨S1x384, .f32⟩
  | 16 => ⟨S1x256, .f32⟩
  | 17 => ⟨S1x96x384, .f32⟩
  | 18 => ⟨S1x256x192, .f32⟩
  | 19 => ⟨S1x96, .f32⟩
  | 20 => ⟨S1x96, .f32⟩
  | 21 => ⟨S1x256x1024, .f32⟩
  | 22 => ⟨S1x1024, .f32⟩
  | 23 => ⟨S1x1024x616, .f32⟩
  | 24 => ⟨S1x64, .f32⟩
  | 25 => ⟨S1x64, .f32⟩
  | 26 => ⟨S1x384, .f32⟩
  | 27 => ⟨S1x256, .f32⟩
  | 28 => ⟨S1x96x384, .f32⟩
  | 29 => ⟨S1x256x192, .f32⟩
  | 30 => ⟨S1x96, .f32⟩
  | 31 => ⟨S1x96, .f32⟩
  | 32 => ⟨S1x256x1024, .f32⟩
  | 33 => ⟨S1x1024, .f32⟩
  | 34 => ⟨S1x1024x616, .f32⟩
  | 35 => ⟨S1x64, .f32⟩
  | 36 => ⟨S1x64, .f32⟩
  | 37 => ⟨S1x384, .f32⟩
  | 38 => ⟨S1x256, .f32⟩
  | 39 => ⟨S1x96x384, .f32⟩
  | 40 => ⟨S1x256x192, .f32⟩
  | 41 => ⟨S1x96, .f32⟩
  | 42 => ⟨S1x96, .f32⟩
  | 43 => ⟨S1x256x1024, .f32⟩
  | 44 => ⟨S1024x616, .f32⟩
  | 45 => ⟨S96x384, .f32⟩
  | 46 => ⟨S256x192, .f32⟩
  | 47 => ⟨S256x1024, .f32⟩
  | 48 => ⟨S1024, .f32⟩
  | 49 => ⟨S64, .f32⟩
  | 50 => ⟨S64, .f32⟩
  | 51 => ⟨S384, .f32⟩
  | 52 => ⟨S256, .f32⟩
  | 53 => ⟨S96, .f32⟩
  | 54 => ⟨S96, .f32⟩
  | 55 => ⟨S1984, .f32⟩
  | 56 => ⟨S_, .f32⟩
  | 57 => ⟨S64, .f32⟩
  | 58 => ⟨S2048, .f32⟩
  | 59 => ⟨S4928x128, .f32⟩
  | 60 => ⟨S288x128, .f32⟩
  | 61 => ⟨S384x128, .f32⟩
  | 62 => ⟨S2048x128, .f32⟩
  | 63 => ⟨S16x128, .f32⟩
  | 64 => ⟨S_, .f32⟩
  | 65 => ⟨S16x128, .f32⟩
  | 66 => ⟨S7680x128, .f32⟩
  | 67 => ⟨S1024x616, .f32⟩
  | 68 => ⟨S96x384, .f32⟩
  | 69 => ⟨S256x192, .f32⟩
  | 70 => ⟨S256x1024, .f32⟩
  | 71 => ⟨S1024, .f32⟩
  | 72 => ⟨S64, .f32⟩
  | 73 => ⟨S64, .f32⟩
  | 74 => ⟨S384, .f32⟩
  | 75 => ⟨S256, .f32⟩
  | 76 => ⟨S96, .f32⟩
  | 77 => ⟨S96, .f32⟩
  | 78 => ⟨S1984, .f32⟩
  | 79 => ⟨S_, .f32⟩
  | 80 => ⟨S64, .f32⟩
  | 81 => ⟨S2048, .f32⟩
  | 82 => ⟨S4928x128, .f32⟩
  | 83 => ⟨S288x128, .f32⟩
  | 84 => ⟨S384x128, .f32⟩
  | 85 => ⟨S2048x128, .f32⟩
  | 86 => ⟨S16x128, .f32⟩
  | 87 => ⟨S_, .f32⟩
  | 88 => ⟨S16x128, .f32⟩
  | 89 => ⟨S7680x128, .f32⟩
  | 90 => ⟨S1024x616, .f32⟩
  | 91 => ⟨S96x384, .f32⟩
  | 92 => ⟨S256x192, .f32⟩
  | 93 => ⟨S256x1024, .f32⟩
  | 94 => ⟨S1024, .f32⟩
  | 95 => ⟨S64, .f32⟩
  | 96 => ⟨S64, .f32⟩
  | 97 => ⟨S384, .f32⟩
  | 98 => ⟨S256, .f32⟩
  | 99 => ⟨S96, .f32⟩
  | 100 => ⟨S96, .f32⟩
  | 101 => ⟨S1984, .f32⟩
  | 102 => ⟨S_, .f32⟩
  | 103 => ⟨S64, .f32⟩
  | 104 => ⟨S2048, .f32⟩
  | 105 => ⟨S4928x128, .f32⟩
  | 106 => ⟨S288x128, .f32⟩
  | 107 => ⟨S384x128, .f32⟩
  | 108 => ⟨S2048x128, .f32⟩
  | 109 => ⟨S16x128, .f32⟩
  | 110 => ⟨S_, .f32⟩
  | 111 => ⟨S16x128, .f32⟩
  | 112 => ⟨S7680x128, .f32⟩
  | 113 => ⟨S1024x616, .f32⟩
  | 114 => ⟨S96x384, .f32⟩
  | 115 => ⟨S256x192, .f32⟩
  | 116 => ⟨S256x1024, .f32⟩
  | 117 => ⟨S1024, .f32⟩
  | 118 => ⟨S64, .f32⟩
  | 119 => ⟨S64, .f32⟩
  | 120 => ⟨S384, .f32⟩
  | 121 => ⟨S256, .f32⟩
  | 122 => ⟨S96, .f32⟩
  | 123 => ⟨S96, .f32⟩
  | 124 => ⟨S1984, .f32⟩
  | 125 => ⟨S_, .f32⟩
  | 126 => ⟨S64, .f32⟩
  | 127 => ⟨S2048, .f32⟩
  | _ => ⟨S1x1024, .f32⟩

abbrev hbmTy0_1 (i : Nat) : BufTy := match i % 128 with
  | 0 => ⟨S4928x128, .f32⟩
  | 1 => ⟨S288x128, .f32⟩
  | 2 => ⟨S384x128, .f32⟩
  | 3 => ⟨S2048x128, .f32⟩
  | 4 => ⟨S16x128, .f32⟩
  | 5 => ⟨S_, .f32⟩
  | 6 => ⟨S16x128, .f32⟩
  | 7 => ⟨S7680x128, .f32⟩
  | 8 => ⟨S7680x128, .f32⟩
  | 9 => ⟨S7680x128, .f32⟩
  | 10 => ⟨S7680x128, .f32⟩
  | _ => ⟨S1x1024, .f32⟩

abbrev hbmTy (i : Nat) : BufTy := match i / 128 with
  | 0 => hbmTy0_0 i
  | 1 => hbmTy0_1 i
  | _ => ⟨S1x1024, .f32⟩

abbrev bufTy : (tb : Table) → Fin (tcTables nBuf tb) → BufTy
  | .hbm, ⟨i, _⟩ => hbmTy i
  | .local _ .vmem, ⟨0, _⟩ => ⟨S1536x128, .f32⟩
  | .local _ .vmem, ⟨1, _⟩ => ⟨S1536x128, .f32⟩
  | .local _ .vmem, ⟨2, _⟩ => ⟨S1536x128, .f32⟩
  | .local _ .vmem, ⟨3, _⟩ => ⟨S1536x128, .f32⟩
  | .local _ .vmem, ⟨4, _⟩ => ⟨S1536x128, .f32⟩
  | .local _ .vmem, ⟨5, _⟩ => ⟨S1536x128, .f32⟩
  | .local _ .vmem, ⟨6, _⟩ => ⟨S1536x128, .f32⟩
  | .local _ .vmem, ⟨7, _⟩ => ⟨S1536x128, .f32⟩
  | .local _ .vmem, ⟨8, _⟩ => ⟨S1536x128, .f32⟩
  | .local _ .vmem, ⟨9, _⟩ => ⟨S1536x128, .f32⟩
  | .local _ .vmem, ⟨10, _⟩ => ⟨S1536x128, .f32⟩
  | .local _ .vmem, ⟨11, _⟩ => ⟨S1536x128, .f32⟩
  | .local _ .vmem, ⟨12, _⟩ => ⟨S1536x128, .f32⟩
  | .local _ .vmem, ⟨13, _⟩ => ⟨S1536x128, .f32⟩
  | _, _ => ⟨S1x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_arg21 : Ref sig .tc := ⟨.hbm, 21, rfl⟩
abbrev main_arg22 : Ref sig .tc := ⟨.hbm, 22, rfl⟩
abbrev main_arg23 : Ref sig .tc := ⟨.hbm, 23, rfl⟩
abbrev main_arg24 : Ref sig .tc := ⟨.hbm, 24, rfl⟩
abbrev main_arg25 : Ref sig .tc := ⟨.hbm, 25, rfl⟩
abbrev main_arg26 : Ref sig .tc := ⟨.hbm, 26, rfl⟩
abbrev main_arg27 : Ref sig .tc := ⟨.hbm, 27, rfl⟩
abbrev main_arg28 : Ref sig .tc := ⟨.hbm, 28, rfl⟩
abbrev main_arg29 : Ref sig .tc := ⟨.hbm, 29, rfl⟩
abbrev main_arg30 : Ref sig .tc := ⟨.hbm, 30, rfl⟩
abbrev main_arg31 : Ref sig .tc := ⟨.hbm, 31, rfl⟩
abbrev main_arg32 : Ref sig .tc := ⟨.hbm, 32, rfl⟩
abbrev main_arg33 : Ref sig .tc := ⟨.hbm, 33, rfl⟩
abbrev main_arg34 : Ref sig .tc := ⟨.hbm, 34, rfl⟩
abbrev main_arg35 : Ref sig .tc := ⟨.hbm, 35, rfl⟩
abbrev main_arg36 : Ref sig .tc := ⟨.hbm, 36, rfl⟩
abbrev main_arg37 : Ref sig .tc := ⟨.hbm, 37, rfl⟩
abbrev main_arg38 : Ref sig .tc := ⟨.hbm, 38, rfl⟩
abbrev main_arg39 : Ref sig .tc := ⟨.hbm, 39, rfl⟩
abbrev main_arg40 : Ref sig .tc := ⟨.hbm, 40, rfl⟩
abbrev main_arg41 : Ref sig .tc := ⟨.hbm, 41, rfl⟩
abbrev main_arg42 : Ref sig .tc := ⟨.hbm, 42, rfl⟩
abbrev main_arg43 : Ref sig .tc := ⟨.hbm, 43, rfl⟩
abbrev main_v0 : Ref sig .tc := ⟨.hbm, 44, rfl⟩
abbrev main_v1 : Ref sig .tc := ⟨.hbm, 45, rfl⟩
abbrev main_v2 : Ref sig .tc := ⟨.hbm, 46, rfl⟩
abbrev main_v3 : Ref sig .tc := ⟨.hbm, 47, rfl⟩
abbrev main_v4 : Ref sig .tc := ⟨.hbm, 48, rfl⟩
abbrev main_v5 : Ref sig .tc := ⟨.hbm, 49, rfl⟩
abbrev main_v6 : Ref sig .tc := ⟨.hbm, 50, rfl⟩
abbrev main_v7 : Ref sig .tc := ⟨.hbm, 51, rfl⟩
abbrev main_v8 : Ref sig .tc := ⟨.hbm, 52, rfl⟩
abbrev main_v9 : Ref sig .tc := ⟨.hbm, 53, rfl⟩
abbrev main_v10 : Ref sig .tc := ⟨.hbm, 54, rfl⟩
abbrev main_v11 : Ref sig .tc := ⟨.hbm, 55, rfl⟩
abbrev main_cst : Ref sig .tc := ⟨.hbm, 56, rfl⟩
abbrev main_v12 : Ref sig .tc := ⟨.hbm, 57, rfl⟩
abbrev main_v13 : Ref sig .tc := ⟨.hbm, 58, rfl⟩
abbrev main_v14 : Ref sig .tc := ⟨.hbm, 59, rfl⟩
abbrev main_v15 : Ref sig .tc := ⟨.hbm, 60, rfl⟩
abbrev main_v16 : Ref sig .tc := ⟨.hbm, 61, rfl⟩
abbrev main_v17 : Ref sig .tc := ⟨.hbm, 62, rfl⟩
abbrev main_v18 : Ref sig .tc := ⟨.hbm, 63, rfl⟩
abbrev main_cst_0 : Ref sig .tc := ⟨.hbm, 64, rfl⟩
abbrev main_v19 : Ref sig .tc := ⟨.hbm, 65, rfl⟩
abbrev main_v20 : Ref sig .tc := ⟨.hbm, 66, rfl⟩
abbrev main_v21 : Ref sig .tc := ⟨.hbm, 67, rfl⟩
abbrev main_v22 : Ref sig .tc := ⟨.hbm, 68, rfl⟩
abbrev main_v23 : Ref sig .tc := ⟨.hbm, 69, rfl⟩
abbrev main_v24 : Ref sig .tc := ⟨.hbm, 70, rfl⟩
abbrev main_v25 : Ref sig .tc := ⟨.hbm, 71, rfl⟩
abbrev main_v26 : Ref sig .tc := ⟨.hbm, 72, rfl⟩
abbrev main_v27 : Ref sig .tc := ⟨.hbm, 73, rfl⟩
abbrev main_v28 : Ref sig .tc := ⟨.hbm, 74, rfl⟩
abbrev main_v29 : Ref sig .tc := ⟨.hbm, 75, rfl⟩
abbrev main_v30 : Ref sig .tc := ⟨.hbm, 76, rfl⟩
abbrev main_v31 : Ref sig .tc := ⟨.hbm, 77, rfl⟩
abbrev main_v32 : Ref sig .tc := ⟨.hbm, 78, rfl⟩
abbrev main_cst_1 : Ref sig .tc := ⟨.hbm, 79, rfl⟩
abbrev main_v33 : Ref sig .tc := ⟨.hbm, 80, rfl⟩
abbrev main_v34 : Ref sig .tc := ⟨.hbm, 81, rfl⟩
abbrev main_v35 : Ref sig .tc := ⟨.hbm, 82, rfl⟩
abbrev main_v36 : Ref sig .tc := ⟨.hbm, 83, rfl⟩
abbrev main_v37 : Ref sig .tc := ⟨.hbm, 84, rfl⟩
abbrev main_v38 : Ref sig .tc := ⟨.hbm, 85, rfl⟩
abbrev main_v39 : Ref sig .tc := ⟨.hbm, 86, rfl⟩
abbrev main_cst_2 : Ref sig .tc := ⟨.hbm, 87, rfl⟩
abbrev main_v40 : Ref sig .tc := ⟨.hbm, 88, rfl⟩
abbrev main_v41 : Ref sig .tc := ⟨.hbm, 89, rfl⟩
abbrev main_v42 : Ref sig .tc := ⟨.hbm, 90, rfl⟩
abbrev main_v43 : Ref sig .tc := ⟨.hbm, 91, rfl⟩
abbrev main_v44 : Ref sig .tc := ⟨.hbm, 92, rfl⟩
abbrev main_v45 : Ref sig .tc := ⟨.hbm, 93, rfl⟩
abbrev main_v46 : Ref sig .tc := ⟨.hbm, 94, rfl⟩
abbrev main_v47 : Ref sig .tc := ⟨.hbm, 95, rfl⟩
abbrev main_v48 : Ref sig .tc := ⟨.hbm, 96, rfl⟩
abbrev main_v49 : Ref sig .tc := ⟨.hbm, 97, rfl⟩
abbrev main_v50 : Ref sig .tc := ⟨.hbm, 98, rfl⟩
abbrev main_v51 : Ref sig .tc := ⟨.hbm, 99, rfl⟩
abbrev main_v52 : Ref sig .tc := ⟨.hbm, 100, rfl⟩
abbrev main_v53 : Ref sig .tc := ⟨.hbm, 101, rfl⟩
abbrev main_cst_3 : Ref sig .tc := ⟨.hbm, 102, rfl⟩
abbrev main_v54 : Ref sig .tc := ⟨.hbm, 103, rfl⟩
abbrev main_v55 : Ref sig .tc := ⟨.hbm, 104, rfl⟩
abbrev main_v56 : Ref sig .tc := ⟨.hbm, 105, rfl⟩
abbrev main_v57 : Ref sig .tc := ⟨.hbm, 106, rfl⟩
abbrev main_v58 : Ref sig .tc := ⟨.hbm, 107, rfl⟩
abbrev main_v59 : Ref sig .tc := ⟨.hbm, 108, rfl⟩
abbrev main_v60 : Ref sig .tc := ⟨.hbm, 109, rfl⟩
abbrev main_cst_4 : Ref sig .tc := ⟨.hbm, 110, rfl⟩
abbrev main_v61 : Ref sig .tc := ⟨.hbm, 111, rfl⟩
abbrev main_v62 : Ref sig .tc := ⟨.hbm, 112, rfl⟩
abbrev main_v63 : Ref sig .tc := ⟨.hbm, 113, rfl⟩
abbrev main_v64 : Ref sig .tc := ⟨.hbm, 114, rfl⟩
abbrev main_v65 : Ref sig .tc := ⟨.hbm, 115, rfl⟩
abbrev main_v66 : Ref sig .tc := ⟨.hbm, 116, rfl⟩
abbrev main_v67 : Ref sig .tc := ⟨.hbm, 117, rfl⟩
abbrev main_v68 : Ref sig .tc := ⟨.hbm, 118, rfl⟩
abbrev main_v69 : Ref sig .tc := ⟨.hbm, 119, rfl⟩
abbrev main_v70 : Ref sig .tc := ⟨.hbm, 120, rfl⟩
abbrev main_v71 : Ref sig .tc := ⟨.hbm, 121, rfl⟩
abbrev main_v72 : Ref sig .tc := ⟨.hbm, 122, rfl⟩
abbrev main_v73 : Ref sig .tc := ⟨.hbm, 123, rfl⟩
abbrev main_v74 : Ref sig .tc := ⟨.hbm, 124, rfl⟩
abbrev main_cst_5 : Ref sig .tc := ⟨.hbm, 125, rfl⟩
abbrev main_v75 : Ref sig .tc := ⟨.hbm, 126, rfl⟩
abbrev main_v76 : Ref sig .tc := ⟨.hbm, 127, rfl⟩
abbrev main_v77 : Ref sig .tc := ⟨.hbm, 128, rfl⟩
abbrev main_v78 : Ref sig .tc := ⟨.hbm, 129, rfl⟩
abbrev main_v79 : Ref sig .tc := ⟨.hbm, 130, rfl⟩
abbrev main_v80 : Ref sig .tc := ⟨.hbm, 131, rfl⟩
abbrev main_v81 : Ref sig .tc := ⟨.hbm, 132, rfl⟩
abbrev main_cst_6 : Ref sig .tc := ⟨.hbm, 133, rfl⟩
abbrev main_v82 : Ref sig .tc := ⟨.hbm, 134, rfl⟩
abbrev main_v83 : Ref sig .tc := ⟨.hbm, 135, rfl⟩
abbrev main_v84_0 : Ref sig .tc := ⟨.hbm, 136, rfl⟩
abbrev main_v84_1 : Ref sig .tc := ⟨.hbm, 137, rfl⟩
abbrev main_v84_2 : Ref sig .tc := ⟨.hbm, 138, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨1, ![5], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1536x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1536x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1536x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1536x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1536x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1536x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S1536x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== AdamRefIdeal.lean ====
abbrev S1x1024 : Shape := ⟨2, ![1, 1024]⟩
abbrev S1x1024x616 : Shape := ⟨3, ![1, 1024, 616]⟩
abbrev S1x64 : Shape := ⟨2, ![1, 64]⟩
abbrev S1x384 : Shape := ⟨2, ![1, 384]⟩
abbrev S1x256 : Shape := ⟨2, ![1, 256]⟩
abbrev S1x96x384 : Shape := ⟨3, ![1, 96, 384]⟩
abbrev S1x256x192 : Shape := ⟨3, ![1, 256, 192]⟩
abbrev S1x96 : Shape := ⟨2, ![1, 96]⟩
abbrev S1x256x1024 : Shape := ⟨3, ![1, 256, 1024]⟩
abbrev S_ : Shape := ⟨0, ![]⟩
abbrev S1024 : Shape := ⟨1, ![1024]⟩
abbrev S64 : Shape := ⟨1, ![64]⟩
abbrev S384 : Shape := ⟨1, ![384]⟩
abbrev S256 : Shape := ⟨1, ![256]⟩
abbrev S96 : Shape := ⟨1, ![96]⟩
abbrev S1984 : Shape := ⟨1, ![1984]⟩
abbrev S2048 : Shape := ⟨1, ![2048]⟩
abbrev S1024x616 : Shape := ⟨2, ![1024, 616]⟩
abbrev S4928x128 : Shape := ⟨2, ![4928, 128]⟩
abbrev S96x384 : Shape := ⟨2, ![96, 384]⟩
abbrev S288x128 : Shape := ⟨2, ![288, 128]⟩
abbrev S256x192 : Shape := ⟨2, ![256, 192]⟩
abbrev S384x128 : Shape := ⟨2, ![384, 128]⟩
abbrev S256x1024 : Shape := ⟨2, ![256, 1024]⟩
abbrev S2048x128 : Shape := ⟨2, ![2048, 128]⟩
abbrev S16x128 : Shape := ⟨2, ![16, 128]⟩
abbrev S7680x128 : Shape := ⟨2, ![7680, 128]⟩

abbrev nBuf : Space → Nat
  | .hbm => 476
  | .vmem => 0
  | .smem => 0
  | _ => 0

abbrev hbmTy0_0 (i : Nat) : BufTy := match i % 128 with
  | 0 => ⟨S1x1024, .f32⟩
  | 1 => ⟨S1x1024x616, .f32⟩
  | 2 => ⟨S1x64, .f32⟩
  | 3 => ⟨S1x64, .f32⟩
  | 4 => ⟨S1x384, .f32⟩
  | 5 => ⟨S1x256, .f32⟩
  | 6 => ⟨S1x96x384, .f32⟩
  | 7 => ⟨S1x256x192, .f32⟩
  | 8 => ⟨S1x96, .f32⟩
  | 9 => ⟨S1x96, .f32⟩
  | 10 => ⟨S1x256x1024, .f32⟩
  | 11 => ⟨S1x1024, .f32⟩
  | 12 => ⟨S1x1024x616, .f32⟩
  | 13 => ⟨S1x64, .f32⟩
  | 14 => ⟨S1x64, .f32⟩
  | 15 => ⟨S1x384, .f32⟩
  | 16 => ⟨S1x256, .f32⟩
  | 17 => ⟨S1x96x384, .f32⟩
  | 18 => ⟨S1x256x192, .f32⟩
  | 19 => ⟨S1x96, .f32⟩
  | 20 => ⟨S1x96, .f32⟩
  | 21 => ⟨S1x256x1024, .f32⟩
  | 22 => ⟨S1x1024, .f32⟩
  | 23 => ⟨S1x1024x616, .f32⟩
  | 24 => ⟨S1x64, .f32⟩
  | 25 => ⟨S1x64, .f32⟩
  | 26 => ⟨S1x384, .f32⟩
  | 27 => ⟨S1x256, .f32⟩
  | 28 => ⟨S1x96x384, .f32⟩
  | 29 => ⟨S1x256x192, .f32⟩
  | 30 => ⟨S1x96, .f32⟩
  | 31 => ⟨S1x96, .f32⟩
  | 32 => ⟨S1x256x1024, .f32⟩
  | 33 => ⟨S1x1024, .f32⟩
  | 34 => ⟨S1x1024x616, .f32⟩
  | 35 => ⟨S1x64, .f32⟩
  | 36 => ⟨S1x64, .f32⟩
  | 37 => ⟨S1x384, .f32⟩
  | 38 => ⟨S1x256, .f32⟩
  | 39 => ⟨S1x96x384, .f32⟩
  | 40 => ⟨S1x256x192, .f32⟩
  | 41 => ⟨S1x96, .f32⟩
  | 42 => ⟨S1x96, .f32⟩
  | 43 => ⟨S1x256x1024, .f32⟩
  | 44 => ⟨S_, .f32⟩
  | 45 => ⟨S1x1024, .f32⟩
  | 46 => ⟨S1x1024, .f32⟩
  | 47 => ⟨S_, .f32⟩
  | 48 => ⟨S1x1024, .f32⟩
  | 49 => ⟨S1x1024, .f32⟩
  | 50 => ⟨S1x1024, .f32⟩
  | 51 => ⟨S_, .f32⟩
  | 52 => ⟨S1x1024, .f32⟩
  | 53 => ⟨S1x1024, .f32⟩
  | 54 => ⟨S1x1024, .f32⟩
  | 55 => ⟨S_, .f32⟩
  | 56 => ⟨S1x1024, .f32⟩
  | 57 => ⟨S1x1024, .f32⟩
  | 58 => ⟨S1x1024, .f32⟩
  | 59 => ⟨S_, .f32⟩
  | 60 => ⟨S1x1024, .f32⟩
  | 61 => ⟨S1x1024, .f32⟩
  | 62 => ⟨S_, .f32⟩
  | 63 => ⟨S1x1024, .f32⟩
  | 64 => ⟨S1x1024, .f32⟩
  | 65 => ⟨S1x1024, .f32⟩
  | 66 => ⟨S_, .f32⟩
  | 67 => ⟨S1x1024, .f32⟩
  | 68 => ⟨S1x1024, .f32⟩
  | 69 => ⟨S1x1024, .f32⟩
  | 70 => ⟨S_, .f32⟩
  | 71 => ⟨S1x1024, .f32⟩
  | 72 => ⟨S1x1024, .f32⟩
  | 73 => ⟨S1x1024, .f32⟩
  | 74 => ⟨S_, .f32⟩
  | 75 => ⟨S1x1024, .f32⟩
  | 76 => ⟨S1x1024, .f32⟩
  | 77 => ⟨S_, .f32⟩
  | 78 => ⟨S1x1024x616, .f32⟩
  | 79 => ⟨S1x1024x616, .f32⟩
  | 80 => ⟨S_, .f32⟩
  | 81 => ⟨S1x1024x616, .f32⟩
  | 82 => ⟨S1x1024x616, .f32⟩
  | 83 => ⟨S1x1024x616, .f32⟩
  | 84 => ⟨S_, .f32⟩
  | 85 => ⟨S1x1024x616, .f32⟩
  | 86 => ⟨S1x1024x616, .f32⟩
  | 87 => ⟨S1x1024x616, .f32⟩
  | 88 => ⟨S_, .f32⟩
  | 89 => ⟨S1x1024x616, .f32⟩
  | 90 => ⟨S1x1024x616, .f32⟩
  | 91 => ⟨S1x1024x616, .f32⟩
  | 92 => ⟨S_, .f32⟩
  | 93 => ⟨S1x1024x616, .f32⟩
  | 94 => ⟨S1x1024x616, .f32⟩
  | 95 => ⟨S_, .f32⟩
  | 96 => ⟨S1x1024x616, .f32⟩
  | 97 => ⟨S1x1024x616, .f32⟩
  | 98 => ⟨S1x1024x616, .f32⟩
  | 99 => ⟨S_, .f32⟩
  | 100 => ⟨S1x1024x616, .f32⟩
  | 101 => ⟨S1x1024x616, .f32⟩
  | 102 => ⟨S1x1024x616, .f32⟩
  | 103 => ⟨S_, .f32⟩
  | 104 => ⟨S1x1024x616, .f32⟩
  | 105 => ⟨S1x1024x616, .f32⟩
  | 106 => ⟨S1x1024x616, .f32⟩
  | 107 => ⟨S_, .f32⟩
  | 108 => ⟨S1x1024x616, .f32⟩
  | 109 => ⟨S1x1024x616, .f32⟩
  | 110 => ⟨S_, .f32⟩
  | 111 => ⟨S1x64, .f32⟩
  | 112 => ⟨S1x64, .f32⟩
  | 113 => ⟨S_, .f32⟩
  | 114 => ⟨S1x64, .f32⟩
  | 115 => ⟨S1x64, .f32⟩
  | 116 => ⟨S1x64, .f32⟩
  | 117 => ⟨S_, .f32⟩
  | 118 => ⟨S1x64, .f32⟩
  | 119 => ⟨S1x64, .f32⟩
  | 120 => ⟨S1x64, .f32⟩
  | 121 => ⟨S_, .f32⟩
  | 122 => ⟨S1x64, .f32⟩
  | 123 => ⟨S1x64, .f32⟩
  | 124 => ⟨S1x64, .f32⟩
  | 125 => ⟨S_, .f32⟩
  | 126 => ⟨S1x64, .f32⟩
  | 127 => ⟨S1x64, .f32⟩
  | _ => ⟨S1x1024, .f32⟩

abbrev hbmTy0_1 (i : Nat) : BufTy := match i % 128 with
  | 0 => ⟨S_, .f32⟩
  | 1 => ⟨S1x64, .f32⟩
  | 2 => ⟨S1x64, .f32⟩
  | 3 => ⟨S1x64, .f32⟩
  | 4 => ⟨S_, .f32⟩
  | 5 => ⟨S1x64, .f32⟩
  | 6 => ⟨S1x64, .f32⟩
  | 7 => ⟨S1x64, .f32⟩
  | 8 => ⟨S_, .f32⟩
  | 9 => ⟨S1x64, .f32⟩
  | 10 => ⟨S1x64, .f32⟩
  | 11 => ⟨S1x64, .f32⟩
  | 12 => ⟨S_, .f32⟩
  | 13 => ⟨S1x64, .f32⟩
  | 14 => ⟨S1x64, .f32⟩
  | 15 => ⟨S_, .f32⟩
  | 16 => ⟨S1x64, .f32⟩
  | 17 => ⟨S1x64, .f32⟩
  | 18 => ⟨S_, .f32⟩
  | 19 => ⟨S1x64, .f32⟩
  | 20 => ⟨S1x64, .f32⟩
  | 21 => ⟨S1x64, .f32⟩
  | 22 => ⟨S_, .f32⟩
  | 23 => ⟨S1x64, .f32⟩
  | 24 => ⟨S1x64, .f32⟩
  | 25 => ⟨S1x64, .f32⟩
  | 26 => ⟨S_, .f32⟩
  | 27 => ⟨S1x64, .f32⟩
  | 28 => ⟨S1x64, .f32⟩
  | 29 => ⟨S1x64, .f32⟩
  | 30 => ⟨S_, .f32⟩
  | 31 => ⟨S1x64, .f32⟩
  | 32 => ⟨S1x64, .f32⟩
  | 33 => ⟨S_, .f32⟩
  | 34 => ⟨S1x64, .f32⟩
  | 35 => ⟨S1x64, .f32⟩
  | 36 => ⟨S1x64, .f32⟩
  | 37 => ⟨S_, .f32⟩
  | 38 => ⟨S1x64, .f32⟩
  | 39 => ⟨S1x64, .f32⟩
  | 40 => ⟨S1x64, .f32⟩
  | 41 => ⟨S_, .f32⟩
  | 42 => ⟨S1x64, .f32⟩
  | 43 => ⟨S1x64, .f32⟩
  | 44 => ⟨S1x64, .f32⟩
  | 45 => ⟨S_, .f32⟩
  | 46 => ⟨S1x64, .f32⟩
  | 47 => ⟨S1x64, .f32⟩
  | 48 => ⟨S_, .f32⟩
  | 49 => ⟨S1x384, .f32⟩
  | 50 => ⟨S1x384, .f32⟩
  | 51 => ⟨S_, .f32⟩
  | 52 => ⟨S1x384, .f32⟩
  | 53 => ⟨S1x384, .f32⟩
  | 54 => ⟨S1x384, .f32⟩
  | 55 => ⟨S_, .f32⟩
  | 56 => ⟨S1x384, .f32⟩
  | 57 => ⟨S1x384, .f32⟩
  | 58 => ⟨S1x384, .f32⟩
  | 59 => ⟨S_, .f32⟩
  | 60 => ⟨S1x384, .f32⟩
  | 61 => ⟨S1x384, .f32⟩
  | 62 => ⟨S1x384, .f32⟩
  | 63 => ⟨S_, .f32⟩
  | 64 => ⟨S1x384, .f32⟩
  | 65 => ⟨S1x384, .f32⟩
  | 66 => ⟨S_, .f32⟩
  | 67 => ⟨S1x384, .f32⟩
  | 68 => ⟨S1x384, .f32⟩
  | 69 => ⟨S1x384, .f32⟩
  | 70 => ⟨S_, .f32⟩
  | 71 => ⟨S1x384, .f32⟩
  | 72 => ⟨S1x384, .f32⟩
  | 73 => ⟨S1x384, .f32⟩
  | 74 => ⟨S_, .f32⟩
  | 75 => ⟨S1x384, .f32⟩
  | 76 => ⟨S1x384, .f32⟩
  | 77 => ⟨S1x384, .f32⟩
  | 78 => ⟨S_, .f32⟩
  | 79 => ⟨S1x384, .f32⟩
  | 80 => ⟨S1x384, .f32⟩
  | 81 => ⟨S_, .f32⟩
  | 82 => ⟨S1x256, .f32⟩
  | 83 => ⟨S1x256, .f32⟩
  | 84 => ⟨S_, .f32⟩
  | 85 => ⟨S1x256, .f32⟩
  | 86 => ⟨S1x256, .f32⟩
  | 87 => ⟨S1x256, .f32⟩
  | 88 => ⟨S_, .f32⟩
  | 89 => ⟨S1x256, .f32⟩
  | 90 => ⟨S1x256, .f32⟩
  | 91 => ⟨S1x256, .f32⟩
  | 92 => ⟨S_, .f32⟩
  | 93 => ⟨S1x256, .f32⟩
  | 94 => ⟨S1x256, .f32⟩
  | 95 => ⟨S1x256, .f32⟩
  | 96 => ⟨S_, .f32⟩
  | 97 => ⟨S1x256, .f32⟩
  | 98 => ⟨S1x256, .f32⟩
  | 99 => ⟨S_, .f32⟩
  | 100 => ⟨S1x256, .f32⟩
  | 101 => ⟨S1x256, .f32⟩
  | 102 => ⟨S1x256, .f32⟩
  | 103 => ⟨S_, .f32⟩
  | 104 => ⟨S1x256, .f32⟩
  | 105 => ⟨S1x256, .f32⟩
  | 106 => ⟨S1x256, .f32⟩
  | 107 => ⟨S_, .f32⟩
  | 108 => ⟨S1x256, .f32⟩
  | 109 => ⟨S1x256, .f32⟩
  | 110 => ⟨S1x256, .f32⟩
  | 111 => ⟨S_, .f32⟩
  | 112 => ⟨S1x256, .f32⟩
  | 113 => ⟨S1x256, .f32⟩
  | 114 => ⟨S_, .f32⟩
  | 115 => ⟨S1x96x384, .f32⟩
  | 116 => ⟨S1x96x384, .f32⟩
  | 117 => ⟨S_, .f32⟩
  | 118 => ⟨S1x96x384, .f32⟩
  | 119 => ⟨S1x96x384, .f32⟩
  | 120 => ⟨S1x96x384, .f32⟩
  | 121 => ⟨S_, .f32⟩
  | 122 => ⟨S1x96x384, .f32⟩
  | 123 => ⟨S1x96x384, .f32⟩
  | 124 => ⟨S1x96x384, .f32⟩
  | 125 => ⟨S_, .f32⟩
  | 126 => ⟨S1x96x384, .f32⟩
  | 127 => ⟨S1x96x384, .f32⟩
  | _ => ⟨S1x1024, .f32⟩

abbrev hbmTy0_2 (i : Nat) : BufTy := match i % 128 with
  | 0 => ⟨S1x96x384, .f32⟩
  | 1 => ⟨S_, .f32⟩
  | 2 => ⟨S1x96x384, .f32⟩
  | 3 => ⟨S1x96x384, .f32⟩
  | 4 => ⟨S_, .f32⟩
  | 5 => ⟨S1x96x384, .f32⟩
  | 6 => ⟨S1x96x384, .f32⟩
  | 7 => ⟨S1x96x384, .f32⟩
  | 8 => ⟨S_, .f32⟩
  | 9 => ⟨S1x96x384, .f32⟩
  | 10 => ⟨S1x96x384, .f32⟩
  | 11 => ⟨S1x96x384, .f32⟩
  | 12 => ⟨S_, .f32⟩
  | 13 => ⟨S1x96x384, .f32⟩
  | 14 => ⟨S1x96x384, .f32⟩
  | 15 => ⟨S1x96x384, .f32⟩
  | 16 => ⟨S_, .f32⟩
  | 17 => ⟨S1x96x384, .f32⟩
  | 18 => ⟨S1x96x384, .f32⟩
  | 19 => ⟨S_, .f32⟩
  | 20 => ⟨S1x256x192, .f32⟩
  | 21 => ⟨S1x256x192, .f32⟩
  | 22 => ⟨S_, .f32⟩
  | 23 => ⟨S1x256x192, .f32⟩
  | 24 => ⟨S1x256x192, .f32⟩
  | 25 => ⟨S1x256x192, .f32⟩
  | 26 => ⟨S_, .f32⟩
  | 27 => ⟨S1x256x192, .f32⟩
  | 28 => ⟨S1x256x192, .f32⟩
  | 29 => ⟨S1x256x192, .f32⟩
  | 30 => ⟨S_, .f32⟩
  | 31 => ⟨S1x256x192, .f32⟩
  | 32 => ⟨S1x256x192, .f32⟩
  | 33 => ⟨S1x256x192, .f32⟩
  | 34 => ⟨S_, .f32⟩
  | 35 => ⟨S1x256x192, .f32⟩
  | 36 => ⟨S1x256x192, .f32⟩
  | 37 => ⟨S_, .f32⟩
  | 38 => ⟨S1x256x192, .f32⟩
  | 39 => ⟨S1x256x192, .f32⟩
  | 40 => ⟨S1x256x192, .f32⟩
  | 41 => ⟨S_, .f32⟩
  | 42 => ⟨S1x256x192, .f32⟩
  | 43 => ⟨S1x256x192, .f32⟩
  | 44 => ⟨S1x256x192, .f32⟩
  | 45 => ⟨S_, .f32⟩
  | 46 => ⟨S1x256x192, .f32⟩
  | 47 => ⟨S1x256x192, .f32⟩
  | 48 => ⟨S1x256x192, .f32⟩
  | 49 => ⟨S_, .f32⟩
  | 50 => ⟨S1x256x192, .f32⟩
  | 51 => ⟨S1x256x192, .f32⟩
  | 52 => ⟨S_, .f32⟩
  | 53 => ⟨S1x96, .f32⟩
  | 54 => ⟨S1x96, .f32⟩
  | 55 => ⟨S_, .f32⟩
  | 56 => ⟨S1x96, .f32⟩
  | 57 => ⟨S1x96, .f32⟩
  | 58 => ⟨S1x96, .f32⟩
  | 59 => ⟨S_, .f32⟩
  | 60 => ⟨S1x96, .f32⟩
  | 61 => ⟨S1x96, .f32⟩
  | 62 => ⟨S1x96, .f32⟩
  | 63 => ⟨S_, .f32⟩
  | 64 => ⟨S1x96, .f32⟩
  | 65 => ⟨S1x96, .f32⟩
  | 66 => ⟨S1x96, .f32⟩
  | 67 => ⟨S_, .f32⟩
  | 68 => ⟨S1x96, .f32⟩
  | 69 => ⟨S1x96, .f32⟩
  | 70 => ⟨S_, .f32⟩
  | 71 => ⟨S1x96, .f32⟩
  | 72 => ⟨S1x96, .f32⟩
  | 73 => ⟨S1x96, .f32⟩
  | 74 => ⟨S_, .f32⟩
  | 75 => ⟨S1x96, .f32⟩
  | 76 => ⟨S1x96, .f32⟩
  | 77 => ⟨S1x96, .f32⟩
  | 78 => ⟨S_, .f32⟩
  | 79 => ⟨S1x96, .f32⟩
  | 80 => ⟨S1x96, .f32⟩
  | 81 => ⟨S1x96, .f32⟩
  | 82 => ⟨S_, .f32⟩
  | 83 => ⟨S1x96, .f32⟩
  | 84 => ⟨S1x96, .f32⟩
  | 85 => ⟨S_, .f32⟩
  | 86 => ⟨S1x96, .f32⟩
  | 87 => ⟨S1x96, .f32⟩
  | 88 => ⟨S_, .f32⟩
  | 89 => ⟨S1x96, .f32⟩
  | 90 => ⟨S1x96, .f32⟩
  | 91 => ⟨S1x96, .f32⟩
  | 92 => ⟨S_, .f32⟩
  | 93 => ⟨S1x96, .f32⟩
  | 94 => ⟨S1x96, .f32⟩
  | 95 => ⟨S1x96, .f32⟩
  | 96 => ⟨S_, .f32⟩
  | 97 => ⟨S1x96, .f32⟩
  | 98 => ⟨S1x96, .f32⟩
  | 99 => ⟨S1x96, .f32⟩
  | 100 => ⟨S_, .f32⟩
  | 101 => ⟨S1x96, .f32⟩
  | 102 => ⟨S1x96, .f32⟩
  | 103 => ⟨S_, .f32⟩
  | 104 => ⟨S1x96, .f32⟩
  | 105 => ⟨S1x96, .f32⟩
  | 106 => ⟨S1x96, .f32⟩
  | 107 => ⟨S_, .f32⟩
  | 108 => ⟨S1x96, .f32⟩
  | 109 => ⟨S1x96, .f32⟩
  | 110 => ⟨S1x96, .f32⟩
  | 111 => ⟨S_, .f32⟩
  | 112 => ⟨S1x96, .f32⟩
  | 113 => ⟨S1x96, .f32⟩
  | 114 => ⟨S1x96, .f32⟩
  | 115 => ⟨S_, .f32⟩
  | 116 => ⟨S1x96, .f32⟩
  | 117 => ⟨S1x96, .f32⟩
  | 118 => ⟨S_, .f32⟩
  | 119 => ⟨S1x256x1024, .f32⟩
  | 120 => ⟨S1x256x1024, .f32⟩
  | 121 => ⟨S_, .f32⟩
  | 122 => ⟨S1x256x1024, .f32⟩
  | 123 => ⟨S1x256x1024, .f32⟩
  | 124 => ⟨S1x256x1024, .f32⟩
  | 125 => ⟨S_, .f32⟩
  | 126 => ⟨S1x256x1024, .f32⟩
  | 127 => ⟨S1x256x1024, .f32⟩
  | _ => ⟨S1x1024, .f32⟩

abbrev hbmTy0_3 (i : Nat) : BufTy := match i % 128 with
  | 0 => ⟨S1x256x1024, .f32⟩
  | 1 => ⟨S_, .f32⟩
  | 2 => ⟨S1x256x1024, .f32⟩
  | 3 => ⟨S1x256x1024, .f32⟩
  | 4 => ⟨S1x256x1024, .f32⟩
  | 5 => ⟨S_, .f32⟩
  | 6 => ⟨S1x256x1024, .f32⟩
  | 7 => ⟨S1x256x1024, .f32⟩
  | 8 => ⟨S_, .f32⟩
  | 9 => ⟨S1x256x1024, .f32⟩
  | 10 => ⟨S1x256x1024, .f32⟩
  | 11 => ⟨S1x256x1024, .f32⟩
  | 12 => ⟨S_, .f32⟩
  | 13 => ⟨S1x256x1024, .f32⟩
  | 14 => ⟨S1x256x1024, .f32⟩
  | 15 => ⟨S1x256x1024, .f32⟩
  | 16 => ⟨S_, .f32⟩
  | 17 => ⟨S1x256x1024, .f32⟩
  | 18 => ⟨S1x256x1024, .f32⟩
  | 19 => ⟨S1x256x1024, .f32⟩
  | 20 => ⟨S_, .f32⟩
  | 21 => ⟨S1x256x1024, .f32⟩
  | 22 => ⟨S1x256x1024, .f32⟩
  | 23 => ⟨S1024, .f32⟩
  | 24 => ⟨S64, .f32⟩
  | 25 => ⟨S64, .f32⟩
  | 26 => ⟨S384, .f32⟩
  | 27 => ⟨S256, .f32⟩
  | 28 => ⟨S96, .f32⟩
  | 29 => ⟨S96, .f32⟩
  | 30 => ⟨S1984, .f32⟩
  | 31 => ⟨S_, .f32⟩
  | 32 => ⟨S64, .f32⟩
  | 33 => ⟨S2048, .f32⟩
  | 34 => ⟨S1024x616, .f32⟩
  | 35 => ⟨S4928x128, .f32⟩
  | 36 => ⟨S96x384, .f32⟩
  | 37 => ⟨S288x128, .f32⟩
  | 38 => ⟨S256x192, .f32⟩
  | 39 => ⟨S384x128, .f32⟩
  | 40 => ⟨S256x1024, .f32⟩
  | 41 => ⟨S2048x128, .f32⟩
  | 42 => ⟨S16x128, .f32⟩
  | 43 => ⟨S_, .f32⟩
  | 44 => ⟨S16x128, .f32⟩
  | 45 => ⟨S7680x128, .f32⟩
  | 46 => ⟨S1024, .f32⟩
  | 47 => ⟨S64, .f32⟩
  | 48 => ⟨S64, .f32⟩
  | 49 => ⟨S384, .f32⟩
  | 50 => ⟨S256, .f32⟩
  | 51 => ⟨S96, .f32⟩
  | 52 => ⟨S96, .f32⟩
  | 53 => ⟨S1984, .f32⟩
  | 54 => ⟨S_, .f32⟩
  | 55 => ⟨S64, .f32⟩
  | 56 => ⟨S2048, .f32⟩
  | 57 => ⟨S1024x616, .f32⟩
  | 58 => ⟨S4928x128, .f32⟩
  | 59 => ⟨S96x384, .f32⟩
  | 60 => ⟨S288x128, .f32⟩
  | 61 => ⟨S256x192, .f32⟩
  | 62 => ⟨S384x128, .f32⟩
  | 63 => ⟨S256x1024, .f32⟩
  | 64 => ⟨S2048x128, .f32⟩
  | 65 => ⟨S16x128, .f32⟩
  | 66 => ⟨S_, .f32⟩
  | 67 => ⟨S16x128, .f32⟩
  | 68 => ⟨S7680x128, .f32⟩
  | 69 => ⟨S1024, .f32⟩
  | 70 => ⟨S64, .f32⟩
  | 71 => ⟨S64, .f32⟩
  | 72 => ⟨S384, .f32⟩
  | 73 => ⟨S256, .f32⟩
  | 74 => ⟨S96, .f32⟩
  | 75 => ⟨S96, .f32⟩
  | 76 => ⟨S1984, .f32⟩
  | 77 => ⟨S_, .f32⟩
  | 78 => ⟨S64, .f32⟩
  | 79 => ⟨S2048, .f32⟩
  | 80 => ⟨S1024x616, .f32⟩
  | 81 => ⟨S4928x128, .f32⟩
  | 82 => ⟨S96x384, .f32⟩
  | 83 => ⟨S288x128, .f32⟩
  | 84 => ⟨S256x192, .f32⟩
  | 85 => ⟨S384x128, .f32⟩
  | 86 => ⟨S256x1024, .f32⟩
  | 87 => ⟨S2048x128, .f32⟩
  | 88 => ⟨S16x128, .f32⟩
  | 89 => ⟨S_, .f32⟩
  | 90 => ⟨S16x128, .f32⟩
  | 91 => ⟨S7680x128, .f32⟩
  | _ => ⟨S1x1024, .f32⟩

abbrev hbmTy (i : Nat) : BufTy := match i / 128 with
  | 0 => hbmTy0_0 i
  | 1 => hbmTy0_1 i
  | 2 => hbmTy0_2 i
  | 3 => hbmTy0_3 i
  | _ => ⟨S1x1024, .f32⟩

abbrev bufTy : (tb : Table) → Fin (tcTables nBuf tb) → BufTy
  | .hbm, ⟨i, _⟩ => hbmTy i
  | _, _ => ⟨S1x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_arg21 : Ref sig .tc := ⟨.hbm, 21, rfl⟩
abbrev main_arg22 : Ref sig .tc := ⟨.hbm, 22, rfl⟩
abbrev main_arg23 : Ref sig .tc := ⟨.hbm, 23, rfl⟩
abbrev main_arg24 : Ref sig .tc := ⟨.hbm, 24, rfl⟩
abbrev main_arg25 : Ref sig .tc := ⟨.hbm, 25, rfl⟩
abbrev main_arg26 : Ref sig .tc := ⟨.hbm, 26, rfl⟩
abbrev main_arg27 : Ref sig .tc := ⟨.hbm, 27, rfl⟩
abbrev main_arg28 : Ref sig .tc := ⟨.hbm, 28, rfl⟩
abbrev main_arg29 : Ref sig .tc := ⟨.hbm, 29, rfl⟩
abbrev main_arg30 : Ref sig .tc := ⟨.hbm, 30, rfl⟩
abbrev main_arg31 : Ref sig .tc := ⟨.hbm, 31, rfl⟩
abbrev main_arg32 : Ref sig .tc := ⟨.hbm, 32, rfl⟩
abbrev main_arg33 : Ref sig .tc := ⟨.hbm, 33, rfl⟩
abbrev main_arg34 : Ref sig .tc := ⟨.hbm, 34, rfl⟩
abbrev main_arg35 : Ref sig .tc := ⟨.hbm, 35, rfl⟩
abbrev main_arg36 : Ref sig .tc := ⟨.hbm, 36, rfl⟩
abbrev main_arg37 : Ref sig .tc := ⟨.hbm, 37, rfl⟩
abbrev main_arg38 : Ref sig .tc := ⟨.hbm, 38, rfl⟩
abbrev main_arg39 : Ref sig .tc := ⟨.hbm, 39, rfl⟩
abbrev main_arg40 : Ref sig .tc := ⟨.hbm, 40, rfl⟩
abbrev main_arg41 : Ref sig .tc := ⟨.hbm, 41, rfl⟩
abbrev main_arg42 : Ref sig .tc := ⟨.hbm, 42, rfl⟩
abbrev main_arg43 : Ref sig .tc := ⟨.hbm, 43, rfl⟩
abbrev main_cst : Ref sig .tc := ⟨.hbm, 44, rfl⟩
abbrev main_v0 : Ref sig .tc := ⟨.hbm, 45, rfl⟩
abbrev main_v1 : Ref sig .tc := ⟨.hbm, 46, rfl⟩
abbrev main_cst_0 : Ref sig .tc := ⟨.hbm, 47, rfl⟩
abbrev main_v2 : Ref sig .tc := ⟨.hbm, 48, rfl⟩
abbrev main_v3 : Ref sig .tc := ⟨.hbm, 49, rfl⟩
abbrev main_v4 : Ref sig .tc := ⟨.hbm, 50, rfl⟩
abbrev main_cst_1 : Ref sig .tc := ⟨.hbm, 51, rfl⟩
abbrev main_v5 : Ref sig .tc := ⟨.hbm, 52, rfl⟩
abbrev main_v6 : Ref sig .tc := ⟨.hbm, 53, rfl⟩
abbrev main_v7 : Ref sig .tc := ⟨.hbm, 54, rfl⟩
abbrev main_cst_2 : Ref sig .tc := ⟨.hbm, 55, rfl⟩
abbrev main_v8 : Ref sig .tc := ⟨.hbm, 56, rfl⟩
abbrev main_v9 : Ref sig .tc := ⟨.hbm, 57, rfl⟩
abbrev main_v10 : Ref sig .tc := ⟨.hbm, 58, rfl⟩
abbrev main_cst_3 : Ref sig .tc := ⟨.hbm, 59, rfl⟩
abbrev main_v11 : Ref sig .tc := ⟨.hbm, 60, rfl⟩
abbrev main_v12 : Ref sig .tc := ⟨.hbm, 61, rfl⟩
abbrev main_cst_4 : Ref sig .tc := ⟨.hbm, 62, rfl⟩
abbrev main_v13 : Ref sig .tc := ⟨.hbm, 63, rfl⟩
abbrev main_v14 : Ref sig .tc := ⟨.hbm, 64, rfl⟩
abbrev main_v15 : Ref sig .tc := ⟨.hbm, 65, rfl⟩
abbrev main_cst_5 : Ref sig .tc := ⟨.hbm, 66, rfl⟩
abbrev main_v16 : Ref sig .tc := ⟨.hbm, 67, rfl⟩
abbrev main_v17 : Ref sig .tc := ⟨.hbm, 68, rfl⟩
abbrev main_v18 : Ref sig .tc := ⟨.hbm, 69, rfl⟩
abbrev main_cst_6 : Ref sig .tc := ⟨.hbm, 70, rfl⟩
abbrev main_v19 : Ref sig .tc := ⟨.hbm, 71, rfl⟩
abbrev main_v20 : Ref sig .tc := ⟨.hbm, 72, rfl⟩
abbrev main_v21 : Ref sig .tc := ⟨.hbm, 73, rfl⟩
abbrev main_cst_7 : Ref sig .tc := ⟨.hbm, 74, rfl⟩
abbrev main_v22 : Ref sig .tc := ⟨.hbm, 75, rfl⟩
abbrev main_v23 : Ref sig .tc := ⟨.hbm, 76, rfl⟩
abbrev main_cst_8 : Ref sig .tc := ⟨.hbm, 77, rfl⟩
abbrev main_v24 : Ref sig .tc := ⟨.hbm, 78, rfl⟩
abbrev main_v25 : Ref sig .tc := ⟨.hbm, 79, rfl⟩
abbrev main_cst_9 : Ref sig .tc := ⟨.hbm, 80, rfl⟩
abbrev main_v26 : Ref sig .tc := ⟨.hbm, 81, rfl⟩
abbrev main_v27 : Ref sig .tc := ⟨.hbm, 82, rfl⟩
abbrev main_v28 : Ref sig .tc := ⟨.hbm, 83, rfl⟩
abbrev main_cst_10 : Ref sig .tc := ⟨.hbm, 84, rfl⟩
abbrev main_v29 : Ref sig .tc := ⟨.hbm, 85, rfl⟩
abbrev main_v30 : Ref sig .tc := ⟨.hbm, 86, rfl⟩
abbrev main_v31 : Ref sig .tc := ⟨.hbm, 87, rfl⟩
abbrev main_cst_11 : Ref sig .tc := ⟨.hbm, 88, rfl⟩
abbrev main_v32 : Ref sig .tc := ⟨.hbm, 89, rfl⟩
abbrev main_v33 : Ref sig .tc := ⟨.hbm, 90, rfl⟩
abbrev main_v34 : Ref sig .tc := ⟨.hbm, 91, rfl⟩
abbrev main_cst_12 : Ref sig .tc := ⟨.hbm, 92, rfl⟩
abbrev main_v35 : Ref sig .tc := ⟨.hbm, 93, rfl⟩
abbrev main_v36 : Ref sig .tc := ⟨.hbm, 94, rfl⟩
abbrev main_cst_13 : Ref sig .tc := ⟨.hbm, 95, rfl⟩
abbrev main_v37 : Ref sig .tc := ⟨.hbm, 96, rfl⟩
abbrev main_v38 : Ref sig .tc := ⟨.hbm, 97, rfl⟩
abbrev main_v39 : Ref sig .tc := ⟨.hbm, 98, rfl⟩
abbrev main_cst_14 : Ref sig .tc := ⟨.hbm, 99, rfl⟩
abbrev main_v40 : Ref sig .tc := ⟨.hbm, 100, rfl⟩
abbrev main_v41 : Ref sig .tc := ⟨.hbm, 101, rfl⟩
abbrev main_v42 : Ref sig .tc := ⟨.hbm, 102, rfl⟩
abbrev main_cst_15 : Ref sig .tc := ⟨.hbm, 103, rfl⟩
abbrev main_v43 : Ref sig .tc := ⟨.hbm, 104, rfl⟩
abbrev main_v44 : Ref sig .tc := ⟨.hbm, 105, rfl⟩
abbrev main_v45 : Ref sig .tc := ⟨.hbm, 106, rfl⟩
abbrev main_cst_16 : Ref sig .tc := ⟨.hbm, 107, rfl⟩
abbrev main_v46 : Ref sig .tc := ⟨.hbm, 108, rfl⟩
abbrev main_v47 : Ref sig .tc := ⟨.hbm, 109, rfl⟩
abbrev main_cst_17 : Ref sig .tc := ⟨.hbm, 110, rfl⟩
abbrev main_v48 : Ref sig .tc := ⟨.hbm, 111, rfl⟩
abbrev main_v49 : Ref sig .tc := ⟨.hbm, 112, rfl⟩
abbrev main_cst_18 : Ref sig .tc := ⟨.hbm, 113, rfl⟩
abbrev main_v50 : Ref sig .tc := ⟨.hbm, 114, rfl⟩
abbrev main_v51 : Ref sig .tc := ⟨.hbm, 115, rfl⟩
abbrev main_v52 : Ref sig .tc := ⟨.hbm, 116, rfl⟩
abbrev main_cst_19 : Ref sig .tc := ⟨.hbm, 117, rfl⟩
abbrev main_v53 : Ref sig .tc := ⟨.hbm, 118, rfl⟩
abbrev main_v54 : Ref sig .tc := ⟨.hbm, 119, rfl⟩
abbrev main_v55 : Ref sig .tc := ⟨.hbm, 120, rfl⟩
abbrev main_cst_20 : Ref sig .tc := ⟨.hbm, 121, rfl⟩
abbrev main_v56 : Ref sig .tc := ⟨.hbm, 122, rfl⟩
abbrev main_v57 : Ref sig .tc := ⟨.hbm, 123, rfl⟩
abbrev main_v58 : Ref sig .tc := ⟨.hbm, 124, rfl⟩
abbrev main_cst_21 : Ref sig .tc := ⟨.hbm, 125, rfl⟩
abbrev main_v59 : Ref sig .tc := ⟨.hbm, 126, rfl⟩
abbrev main_v60 : Ref sig .tc := ⟨.hbm, 127, rfl⟩
abbrev main_cst_22 : Ref sig .tc := ⟨.hbm, 128, rfl⟩
abbrev main_v61 : Ref sig .tc := ⟨.hbm, 129, rfl⟩
abbrev main_v62 : Ref sig .tc := ⟨.hbm, 130, rfl⟩
abbrev main_v63 : Ref sig .tc := ⟨.hbm, 131, rfl⟩
abbrev main_cst_23 : Ref sig .tc := ⟨.hbm, 132, rfl⟩
abbrev main_v64 : Ref sig .tc := ⟨.hbm, 133, rfl⟩
abbrev main_v65 : Ref sig .tc := ⟨.hbm, 134, rfl⟩
abbrev main_v66 : Ref sig .tc := ⟨.hbm, 135, rfl⟩
abbrev main_cst_24 : Ref sig .tc := ⟨.hbm, 136, rfl⟩
abbrev main_v67 : Ref sig .tc := ⟨.hbm, 137, rfl⟩
abbrev main_v68 : Ref sig .tc := ⟨.hbm, 138, rfl⟩
abbrev main_v69 : Ref sig .tc := ⟨.hbm, 139, rfl⟩
abbrev main_cst_25 : Ref sig .tc := ⟨.hbm, 140, rfl⟩
abbrev main_v70 : Ref sig .tc := ⟨.hbm, 141, rfl⟩
abbrev main_v71 : Ref sig .tc := ⟨.hbm, 142, rfl⟩
abbrev main_cst_26 : Ref sig .tc := ⟨.hbm, 143, rfl⟩
abbrev main_v72 : Ref sig .tc := ⟨.hbm, 144, rfl⟩
abbrev main_v73 : Ref sig .tc := ⟨.hbm, 145, rfl⟩
abbrev main_cst_27 : Ref sig .tc := ⟨.hbm, 146, rfl⟩
abbrev main_v74 : Ref sig .tc := ⟨.hbm, 147, rfl⟩
abbrev main_v75 : Ref sig .tc := ⟨.hbm, 148, rfl⟩
abbrev main_v76 : Ref sig .tc := ⟨.hbm, 149, rfl⟩
abbrev main_cst_28 : Ref sig .tc := ⟨.hbm, 150, rfl⟩
abbrev main_v77 : Ref sig .tc := ⟨.hbm, 151, rfl⟩
abbrev main_v78 : Ref sig .tc := ⟨.hbm, 152, rfl⟩
abbrev main_v79 : Ref sig .tc := ⟨.hbm, 153, rfl⟩
abbrev main_cst_29 : Ref sig .tc := ⟨.hbm, 154, rfl⟩
abbrev main_v80 : Ref sig .tc := ⟨.hbm, 155, rfl⟩
abbrev main_v81 : Ref sig .tc := ⟨.hbm, 156, rfl⟩
abbrev main_v82 : Ref sig .tc := ⟨.hbm, 157, rfl⟩
abbrev main_cst_30 : Ref sig .tc := ⟨.hbm, 158, rfl⟩
abbrev main_v83 : Ref sig .tc := ⟨.hbm, 159, rfl⟩
abbrev main_v84 : Ref sig .tc := ⟨.hbm, 160, rfl⟩
abbrev main_cst_31 : Ref sig .tc := ⟨.hbm, 161, rfl⟩
abbrev main_v85 : Ref sig .tc := ⟨.hbm, 162, rfl⟩
abbrev main_v86 : Ref sig .tc := ⟨.hbm, 163, rfl⟩
abbrev main_v87 : Ref sig .tc := ⟨.hbm, 164, rfl⟩
abbrev main_cst_32 : Ref sig .tc := ⟨.hbm, 165, rfl⟩
abbrev main_v88 : Ref sig .tc := ⟨.hbm, 166, rfl⟩
abbrev main_v89 : Ref sig .tc := ⟨.hbm, 167, rfl⟩
abbrev main_v90 : Ref sig .tc := ⟨.hbm, 168, rfl⟩
abbrev main_cst_33 : Ref sig .tc := ⟨.hbm, 169, rfl⟩
abbrev main_v91 : Ref sig .tc := ⟨.hbm, 170, rfl⟩
abbrev main_v92 : Ref sig .tc := ⟨.hbm, 171, rfl⟩
abbrev main_v93 : Ref sig .tc := ⟨.hbm, 172, rfl⟩
abbrev main_cst_34 : Ref sig .tc := ⟨.hbm, 173, rfl⟩
abbrev main_v94 : Ref sig .tc := ⟨.hbm, 174, rfl⟩
abbrev main_v95 : Ref sig .tc := ⟨.hbm, 175, rfl⟩
abbrev main_cst_35 : Ref sig .tc := ⟨.hbm, 176, rfl⟩
abbrev main_v96 : Ref sig .tc := ⟨.hbm, 177, rfl⟩
abbrev main_v97 : Ref sig .tc := ⟨.hbm, 178, rfl⟩
abbrev main_cst_36 : Ref sig .tc := ⟨.hbm, 179, rfl⟩
abbrev main_v98 : Ref sig .tc := ⟨.hbm, 180, rfl⟩
abbrev main_v99 : Ref sig .tc := ⟨.hbm, 181, rfl⟩
abbrev main_v100 : Ref sig .tc := ⟨.hbm, 182, rfl⟩
abbrev main_cst_37 : Ref sig .tc := ⟨.hbm, 183, rfl⟩
abbrev main_v101 : Ref sig .tc := ⟨.hbm, 184, rfl⟩
abbrev main_v102 : Ref sig .tc := ⟨.hbm, 185, rfl⟩
abbrev main_v103 : Ref sig .tc := ⟨.hbm, 186, rfl⟩
abbrev main_cst_38 : Ref sig .tc := ⟨.hbm, 187, rfl⟩
abbrev main_v104 : Ref sig .tc := ⟨.hbm, 188, rfl⟩
abbrev main_v105 : Ref sig .tc := ⟨.hbm, 189, rfl⟩
abbrev main_v106 : Ref sig .tc := ⟨.hbm, 190, rfl⟩
abbrev main_cst_39 : Ref sig .tc := ⟨.hbm, 191, rfl⟩
abbrev main_v107 : Ref sig .tc := ⟨.hbm, 192, rfl⟩
abbrev main_v108 : Ref sig .tc := ⟨.hbm, 193, rfl⟩
abbrev main_cst_40 : Ref sig .tc := ⟨.hbm, 194, rfl⟩
abbrev main_v109 : Ref sig .tc := ⟨.hbm, 195, rfl⟩
abbrev main_v110 : Ref sig .tc := ⟨.hbm, 196, rfl⟩
abbrev main_v111 : Ref sig .tc := ⟨.hbm, 197, rfl⟩
abbrev main_cst_41 : Ref sig .tc := ⟨.hbm, 198, rfl⟩
abbrev main_v112 : Ref sig .tc := ⟨.hbm, 199, rfl⟩
abbrev main_v113 : Ref sig .tc := ⟨.hbm, 200, rfl⟩
abbrev main_v114 : Ref sig .tc := ⟨.hbm, 201, rfl⟩
abbrev main_cst_42 : Ref sig .tc := ⟨.hbm, 202, rfl⟩
abbrev main_v115 : Ref sig .tc := ⟨.hbm, 203, rfl⟩
abbrev main_v116 : Ref sig .tc := ⟨.hbm, 204, rfl⟩
abbrev main_v117 : Ref sig .tc := ⟨.hbm, 205, rfl⟩
abbrev main_cst_43 : Ref sig .tc := ⟨.hbm, 206, rfl⟩
abbrev main_v118 : Ref sig .tc := ⟨.hbm, 207, rfl⟩
abbrev main_v119 : Ref sig .tc := ⟨.hbm, 208, rfl⟩
abbrev main_cst_44 : Ref sig .tc := ⟨.hbm, 209, rfl⟩
abbrev main_v120 : Ref sig .tc := ⟨.hbm, 210, rfl⟩
abbrev main_v121 : Ref sig .tc := ⟨.hbm, 211, rfl⟩
abbrev main_cst_45 : Ref sig .tc := ⟨.hbm, 212, rfl⟩
abbrev main_v122 : Ref sig .tc := ⟨.hbm, 213, rfl⟩
abbrev main_v123 : Ref sig .tc := ⟨.hbm, 214, rfl⟩
abbrev main_v124 : Ref sig .tc := ⟨.hbm, 215, rfl⟩
abbrev main_cst_46 : Ref sig .tc := ⟨.hbm, 216, rfl⟩
abbrev main_v125 : Ref sig .tc := ⟨.hbm, 217, rfl⟩
abbrev main_v126 : Ref sig .tc := ⟨.hbm, 218, rfl⟩
abbrev main_v127 : Ref sig .tc := ⟨.hbm, 219, rfl⟩
abbrev main_cst_47 : Ref sig .tc := ⟨.hbm, 220, rfl⟩
abbrev main_v128 : Ref sig .tc := ⟨.hbm, 221, rfl⟩
abbrev main_v129 : Ref sig .tc := ⟨.hbm, 222, rfl⟩
abbrev main_v130 : Ref sig .tc := ⟨.hbm, 223, rfl⟩
abbrev main_cst_48 : Ref sig .tc := ⟨.hbm, 224, rfl⟩
abbrev main_v131 : Ref sig .tc := ⟨.hbm, 225, rfl⟩
abbrev main_v132 : Ref sig .tc := ⟨.hbm, 226, rfl⟩
abbrev main_cst_49 : Ref sig .tc := ⟨.hbm, 227, rfl⟩
abbrev main_v133 : Ref sig .tc := ⟨.hbm, 228, rfl⟩
abbrev main_v134 : Ref sig .tc := ⟨.hbm, 229, rfl⟩
abbrev main_v135 : Ref sig .tc := ⟨.hbm, 230, rfl⟩
abbrev main_cst_50 : Ref sig .tc := ⟨.hbm, 231, rfl⟩
abbrev main_v136 : Ref sig .tc := ⟨.hbm, 232, rfl⟩
abbrev main_v137 : Ref sig .tc := ⟨.hbm, 233, rfl⟩
abbrev main_v138 : Ref sig .tc := ⟨.hbm, 234, rfl⟩
abbrev main_cst_51 : Ref sig .tc := ⟨.hbm, 235, rfl⟩
abbrev main_v139 : Ref sig .tc := ⟨.hbm, 236, rfl⟩
abbrev main_v140 : Ref sig .tc := ⟨.hbm, 237, rfl⟩
abbrev main_v141 : Ref sig .tc := ⟨.hbm, 238, rfl⟩
abbrev main_cst_52 : Ref sig .tc := ⟨.hbm, 239, rfl⟩
abbrev main_v142 : Ref sig .tc := ⟨.hbm, 240, rfl⟩
abbrev main_v143 : Ref sig .tc := ⟨.hbm, 241, rfl⟩
abbrev main_cst_53 : Ref sig .tc := ⟨.hbm, 242, rfl⟩
abbrev main_v144 : Ref sig .tc := ⟨.hbm, 243, rfl⟩
abbrev main_v145 : Ref sig .tc := ⟨.hbm, 244, rfl⟩
abbrev main_cst_54 : Ref sig .tc := ⟨.hbm, 245, rfl⟩
abbrev main_v146 : Ref sig .tc := ⟨.hbm, 246, rfl⟩
abbrev main_v147 : Ref sig .tc := ⟨.hbm, 247, rfl⟩
abbrev main_v148 : Ref sig .tc := ⟨.hbm, 248, rfl⟩
abbrev main_cst_55 : Ref sig .tc := ⟨.hbm, 249, rfl⟩
abbrev main_v149 : Ref sig .tc := ⟨.hbm, 250, rfl⟩
abbrev main_v150 : Ref sig .tc := ⟨.hbm, 251, rfl⟩
abbrev main_v151 : Ref sig .tc := ⟨.hbm, 252, rfl⟩
abbrev main_cst_56 : Ref sig .tc := ⟨.hbm, 253, rfl⟩
abbrev main_v152 : Ref sig .tc := ⟨.hbm, 254, rfl⟩
abbrev main_v153 : Ref sig .tc := ⟨.hbm, 255, rfl⟩
abbrev main_v154 : Ref sig .tc := ⟨.hbm, 256, rfl⟩
abbrev main_cst_57 : Ref sig .tc := ⟨.hbm, 257, rfl⟩
abbrev main_v155 : Ref sig .tc := ⟨.hbm, 258, rfl⟩
abbrev main_v156 : Ref sig .tc := ⟨.hbm, 259, rfl⟩
abbrev main_cst_58 : Ref sig .tc := ⟨.hbm, 260, rfl⟩
abbrev main_v157 : Ref sig .tc := ⟨.hbm, 261, rfl⟩
abbrev main_v158 : Ref sig .tc := ⟨.hbm, 262, rfl⟩
abbrev main_v159 : Ref sig .tc := ⟨.hbm, 263, rfl⟩
abbrev main_cst_59 : Ref sig .tc := ⟨.hbm, 264, rfl⟩
abbrev main_v160 : Ref sig .tc := ⟨.hbm, 265, rfl⟩
abbrev main_v161 : Ref sig .tc := ⟨.hbm, 266, rfl⟩
abbrev main_v162 : Ref sig .tc := ⟨.hbm, 267, rfl⟩
abbrev main_cst_60 : Ref sig .tc := ⟨.hbm, 268, rfl⟩
abbrev main_v163 : Ref sig .tc := ⟨.hbm, 269, rfl⟩
abbrev main_v164 : Ref sig .tc := ⟨.hbm, 270, rfl⟩
abbrev main_v165 : Ref sig .tc := ⟨.hbm, 271, rfl⟩
abbrev main_cst_61 : Ref sig .tc := ⟨.hbm, 272, rfl⟩
abbrev main_v166 : Ref sig .tc := ⟨.hbm, 273, rfl⟩
abbrev main_v167 : Ref sig .tc := ⟨.hbm, 274, rfl⟩
abbrev main_cst_62 : Ref sig .tc := ⟨.hbm, 275, rfl⟩
abbrev main_v168 : Ref sig .tc := ⟨.hbm, 276, rfl⟩
abbrev main_v169 : Ref sig .tc := ⟨.hbm, 277, rfl⟩
abbrev main_cst_63 : Ref sig .tc := ⟨.hbm, 278, rfl⟩
abbrev main_v170 : Ref sig .tc := ⟨.hbm, 279, rfl⟩
abbrev main_v171 : Ref sig .tc := ⟨.hbm, 280, rfl⟩
abbrev main_v172 : Ref sig .tc := ⟨.hbm, 281, rfl⟩
abbrev main_cst_64 : Ref sig .tc := ⟨.hbm, 282, rfl⟩
abbrev main_v173 : Ref sig .tc := ⟨.hbm, 283, rfl⟩
abbrev main_v174 : Ref sig .tc := ⟨.hbm, 284, rfl⟩
abbrev main_v175 : Ref sig .tc := ⟨.hbm, 285, rfl⟩
abbrev main_cst_65 : Ref sig .tc := ⟨.hbm, 286, rfl⟩
abbrev main_v176 : Ref sig .tc := ⟨.hbm, 287, rfl⟩
abbrev main_v177 : Ref sig .tc := ⟨.hbm, 288, rfl⟩
abbrev main_v178 : Ref sig .tc := ⟨.hbm, 289, rfl⟩
abbrev main_cst_66 : Ref sig .tc := ⟨.hbm, 290, rfl⟩
abbrev main_v179 : Ref sig .tc := ⟨.hbm, 291, rfl⟩
abbrev main_v180 : Ref sig .tc := ⟨.hbm, 292, rfl⟩
abbrev main_cst_67 : Ref sig .tc := ⟨.hbm, 293, rfl⟩
abbrev main_v181 : Ref sig .tc := ⟨.hbm, 294, rfl⟩
abbrev main_v182 : Ref sig .tc := ⟨.hbm, 295, rfl⟩
abbrev main_v183 : Ref sig .tc := ⟨.hbm, 296, rfl⟩
abbrev main_cst_68 : Ref sig .tc := ⟨.hbm, 297, rfl⟩
abbrev main_v184 : Ref sig .tc := ⟨.hbm, 298, rfl⟩
abbrev main_v185 : Ref sig .tc := ⟨.hbm, 299, rfl⟩
abbrev main_v186 : Ref sig .tc := ⟨.hbm, 300, rfl⟩
abbrev main_cst_69 : Ref sig .tc := ⟨.hbm, 301, rfl⟩
abbrev main_v187 : Ref sig .tc := ⟨.hbm, 302, rfl⟩
abbrev main_v188 : Ref sig .tc := ⟨.hbm, 303, rfl⟩
abbrev main_v189 : Ref sig .tc := ⟨.hbm, 304, rfl⟩
abbrev main_cst_70 : Ref sig .tc := ⟨.hbm, 305, rfl⟩
abbrev main_v190 : Ref sig .tc := ⟨.hbm, 306, rfl⟩
abbrev main_v191 : Ref sig .tc := ⟨.hbm, 307, rfl⟩
abbrev main_cst_71 : Ref sig .tc := ⟨.hbm, 308, rfl⟩
abbrev main_v192 : Ref sig .tc := ⟨.hbm, 309, rfl⟩
abbrev main_v193 : Ref sig .tc := ⟨.hbm, 310, rfl⟩
abbrev main_cst_72 : Ref sig .tc := ⟨.hbm, 311, rfl⟩
abbrev main_v194 : Ref sig .tc := ⟨.hbm, 312, rfl⟩
abbrev main_v195 : Ref sig .tc := ⟨.hbm, 313, rfl⟩
abbrev main_v196 : Ref sig .tc := ⟨.hbm, 314, rfl⟩
abbrev main_cst_73 : Ref sig .tc := ⟨.hbm, 315, rfl⟩
abbrev main_v197 : Ref sig .tc := ⟨.hbm, 316, rfl⟩
abbrev main_v198 : Ref sig .tc := ⟨.hbm, 317, rfl⟩
abbrev main_v199 : Ref sig .tc := ⟨.hbm, 318, rfl⟩
abbrev main_cst_74 : Ref sig .tc := ⟨.hbm, 319, rfl⟩
abbrev main_v200 : Ref sig .tc := ⟨.hbm, 320, rfl⟩
abbrev main_v201 : Ref sig .tc := ⟨.hbm, 321, rfl⟩
abbrev main_v202 : Ref sig .tc := ⟨.hbm, 322, rfl⟩
abbrev main_cst_75 : Ref sig .tc := ⟨.hbm, 323, rfl⟩
abbrev main_v203 : Ref sig .tc := ⟨.hbm, 324, rfl⟩
abbrev main_v204 : Ref sig .tc := ⟨.hbm, 325, rfl⟩
abbrev main_cst_76 : Ref sig .tc := ⟨.hbm, 326, rfl⟩
abbrev main_v205 : Ref sig .tc := ⟨.hbm, 327, rfl⟩
abbrev main_v206 : Ref sig .tc := ⟨.hbm, 328, rfl⟩
abbrev main_v207 : Ref sig .tc := ⟨.hbm, 329, rfl⟩
abbrev main_cst_77 : Ref sig .tc := ⟨.hbm, 330, rfl⟩
abbrev main_v208 : Ref sig .tc := ⟨.hbm, 331, rfl⟩
abbrev main_v209 : Ref sig .tc := ⟨.hbm, 332, rfl⟩
abbrev main_v210 : Ref sig .tc := ⟨.hbm, 333, rfl⟩
abbrev main_cst_78 : Ref sig .tc := ⟨.hbm, 334, rfl⟩
abbrev main_v211 : Ref sig .tc := ⟨.hbm, 335, rfl⟩
abbrev main_v212 : Ref sig .tc := ⟨.hbm, 336, rfl⟩
abbrev main_v213 : Ref sig .tc := ⟨.hbm, 337, rfl⟩
abbrev main_cst_79 : Ref sig .tc := ⟨.hbm, 338, rfl⟩
abbrev main_v214 : Ref sig .tc := ⟨.hbm, 339, rfl⟩
abbrev main_v215 : Ref sig .tc := ⟨.hbm, 340, rfl⟩
abbrev main_cst_80 : Ref sig .tc := ⟨.hbm, 341, rfl⟩
abbrev main_v216 : Ref sig .tc := ⟨.hbm, 342, rfl⟩
abbrev main_v217 : Ref sig .tc := ⟨.hbm, 343, rfl⟩
abbrev main_cst_81 : Ref sig .tc := ⟨.hbm, 344, rfl⟩
abbrev main_v218 : Ref sig .tc := ⟨.hbm, 345, rfl⟩
abbrev main_v219 : Ref sig .tc := ⟨.hbm, 346, rfl⟩
abbrev main_v220 : Ref sig .tc := ⟨.hbm, 347, rfl⟩
abbrev main_cst_82 : Ref sig .tc := ⟨.hbm, 348, rfl⟩
abbrev main_v221 : Ref sig .tc := ⟨.hbm, 349, rfl⟩
abbrev main_v222 : Ref sig .tc := ⟨.hbm, 350, rfl⟩
abbrev main_v223 : Ref sig .tc := ⟨.hbm, 351, rfl⟩
abbrev main_cst_83 : Ref sig .tc := ⟨.hbm, 352, rfl⟩
abbrev main_v224 : Ref sig .tc := ⟨.hbm, 353, rfl⟩
abbrev main_v225 : Ref sig .tc := ⟨.hbm, 354, rfl⟩
abbrev main_v226 : Ref sig .tc := ⟨.hbm, 355, rfl⟩
abbrev main_cst_84 : Ref sig .tc := ⟨.hbm, 356, rfl⟩
abbrev main_v227 : Ref sig .tc := ⟨.hbm, 357, rfl⟩
abbrev main_v228 : Ref sig .tc := ⟨.hbm, 358, rfl⟩
abbrev main_cst_85 : Ref sig .tc := ⟨.hbm, 359, rfl⟩
abbrev main_v229 : Ref sig .tc := ⟨.hbm, 360, rfl⟩
abbrev main_v230 : Ref sig .tc := ⟨.hbm, 361, rfl⟩
abbrev main_v231 : Ref sig .tc := ⟨.hbm, 362, rfl⟩
abbrev main_cst_86 : Ref sig .tc := ⟨.hbm, 363, rfl⟩
abbrev main_v232 : Ref sig .tc := ⟨.hbm, 364, rfl⟩
abbrev main_v233 : Ref sig .tc := ⟨.hbm, 365, rfl⟩
abbrev main_v234 : Ref sig .tc := ⟨.hbm, 366, rfl⟩
abbrev main_cst_87 : Ref sig .tc := ⟨.hbm, 367, rfl⟩
abbrev main_v235 : Ref sig .tc := ⟨.hbm, 368, rfl⟩
abbrev main_v236 : Ref sig .tc := ⟨.hbm, 369, rfl⟩
abbrev main_v237 : Ref sig .tc := ⟨.hbm, 370, rfl⟩
abbrev main_cst_88 : Ref sig .tc := ⟨.hbm, 371, rfl⟩
abbrev main_v238 : Ref sig .tc := ⟨.hbm, 372, rfl⟩
abbrev main_v239 : Ref sig .tc := ⟨.hbm, 373, rfl⟩
abbrev main_cst_89 : Ref sig .tc := ⟨.hbm, 374, rfl⟩
abbrev main_v240 : Ref sig .tc := ⟨.hbm, 375, rfl⟩
abbrev main_v241 : Ref sig .tc := ⟨.hbm, 376, rfl⟩
abbrev main_cst_90 : Ref sig .tc := ⟨.hbm, 377, rfl⟩
abbrev main_v242 : Ref sig .tc := ⟨.hbm, 378, rfl⟩
abbrev main_v243 : Ref sig .tc := ⟨.hbm, 379, rfl⟩
abbrev main_v244 : Ref sig .tc := ⟨.hbm, 380, rfl⟩
abbrev main_cst_91 : Ref sig .tc := ⟨.hbm, 381, rfl⟩
abbrev main_v245 : Ref sig .tc := ⟨.hbm, 382, rfl⟩
abbrev main_v246 : Ref sig .tc := ⟨.hbm, 383, rfl⟩
abbrev main_v247 : Ref sig .tc := ⟨.hbm, 384, rfl⟩
abbrev main_cst_92 : Ref sig .tc := ⟨.hbm, 385, rfl⟩
abbrev main_v248 : Ref sig .tc := ⟨.hbm, 386, rfl⟩
abbrev main_v249 : Ref sig .tc := ⟨.hbm, 387, rfl⟩
abbrev main_v250 : Ref sig .tc := ⟨.hbm, 388, rfl⟩
abbrev main_cst_93 : Ref sig .tc := ⟨.hbm, 389, rfl⟩
abbrev main_v251 : Ref sig .tc := ⟨.hbm, 390, rfl⟩
abbrev main_v252 : Ref sig .tc := ⟨.hbm, 391, rfl⟩
abbrev main_cst_94 : Ref sig .tc := ⟨.hbm, 392, rfl⟩
abbrev main_v253 : Ref sig .tc := ⟨.hbm, 393, rfl⟩
abbrev main_v254 : Ref sig .tc := ⟨.hbm, 394, rfl⟩
abbrev main_v255 : Ref sig .tc := ⟨.hbm, 395, rfl⟩
abbrev main_cst_95 : Ref sig .tc := ⟨.hbm, 396, rfl⟩
abbrev main_v256 : Ref sig .tc := ⟨.hbm, 397, rfl⟩
abbrev main_v257 : Ref sig .tc := ⟨.hbm, 398, rfl⟩
abbrev main_v258 : Ref sig .tc := ⟨.hbm, 399, rfl⟩
abbrev main_cst_96 : Ref sig .tc := ⟨.hbm, 400, rfl⟩
abbrev main_v259 : Ref sig .tc := ⟨.hbm, 401, rfl⟩
abbrev main_v260 : Ref sig .tc := ⟨.hbm, 402, rfl⟩
abbrev main_v261 : Ref sig .tc := ⟨.hbm, 403, rfl⟩
abbrev main_cst_97 : Ref sig .tc := ⟨.hbm, 404, rfl⟩
abbrev main_v262 : Ref sig .tc := ⟨.hbm, 405, rfl⟩
abbrev main_v263 : Ref sig .tc := ⟨.hbm, 406, rfl⟩
abbrev main_v264 : Ref sig .tc := ⟨.hbm, 407, rfl⟩
abbrev main_v265 : Ref sig .tc := ⟨.hbm, 408, rfl⟩
abbrev main_v266 : Ref sig .tc := ⟨.hbm, 409, rfl⟩
abbrev main_v267 : Ref sig .tc := ⟨.hbm, 410, rfl⟩
abbrev main_v268 : Ref sig .tc := ⟨.hbm, 411, rfl⟩
abbrev main_v269 : Ref sig .tc := ⟨.hbm, 412, rfl⟩
abbrev main_v270 : Ref sig .tc := ⟨.hbm, 413, rfl⟩
abbrev main_v271 : Ref sig .tc := ⟨.hbm, 414, rfl⟩
abbrev main_cst_98 : Ref sig .tc := ⟨.hbm, 415, rfl⟩
abbrev main_v272 : Ref sig .tc := ⟨.hbm, 416, rfl⟩
abbrev main_v273 : Ref sig .tc := ⟨.hbm, 417, rfl⟩
abbrev main_v274 : Ref sig .tc := ⟨.hbm, 418, rfl⟩
abbrev main_v275 : Ref sig .tc := ⟨.hbm, 419, rfl⟩
abbrev main_v276 : Ref sig .tc := ⟨.hbm, 420, rfl⟩
abbrev main_v277 : Ref sig .tc := ⟨.hbm, 421, rfl⟩
abbrev main_v278 : Ref sig .tc := ⟨.hbm, 422, rfl⟩
abbrev main_v279 : Ref sig .tc := ⟨.hbm, 423, rfl⟩
abbrev main_v280 : Ref sig .tc := ⟨.hbm, 424, rfl⟩
abbrev main_v281 : Ref sig .tc := ⟨.hbm, 425, rfl⟩
abbrev main_v282 : Ref sig .tc := ⟨.hbm, 426, rfl⟩
abbrev main_cst_99 : Ref sig .tc := ⟨.hbm, 427, rfl⟩
abbrev main_v283 : Ref sig .tc := ⟨.hbm, 428, rfl⟩
abbrev main_v284 : Ref sig .tc := ⟨.hbm, 429, rfl⟩
abbrev main_v285 : Ref sig .tc := ⟨.hbm, 430, rfl⟩
abbrev main_v286 : Ref sig .tc := ⟨.hbm, 431, rfl⟩
abbrev main_v287 : Ref sig .tc := ⟨.hbm, 432, rfl⟩
abbrev main_v288 : Ref sig .tc := ⟨.hbm, 433, rfl⟩
abbrev main_v289 : Ref sig .tc := ⟨.hbm, 434, rfl⟩
abbrev main_v290 : Ref sig .tc := ⟨.hbm, 435, rfl⟩
abbrev main_v291 : Ref sig .tc := ⟨.hbm, 436, rfl⟩
abbrev main_v292 : Ref sig .tc := ⟨.hbm, 437, rfl⟩
abbrev main_cst_100 : Ref sig .tc := ⟨.hbm, 438, rfl⟩
abbrev main_v293 : Ref sig .tc := ⟨.hbm, 439, rfl⟩
abbrev main_v294 : Ref sig .tc := ⟨.hbm, 440, rfl⟩
abbrev main_v295 : Ref sig .tc := ⟨.hbm, 441, rfl⟩
abbrev main_v296 : Ref sig .tc := ⟨.hbm, 442, rfl⟩
abbrev main_v297 : Ref sig .tc := ⟨.hbm, 443, rfl⟩
abbrev main_v298 : Ref sig .tc := ⟨.hbm, 444, rfl⟩
abbrev main_v299 : Ref sig .tc := ⟨.hbm, 445, rfl⟩
abbrev main_v300 : Ref sig .tc := ⟨.hbm, 446, rfl⟩
abbrev main_v301 : Ref sig .tc := ⟨.hbm, 447, rfl⟩
abbrev main_v302 : Ref sig .tc := ⟨.hbm, 448, rfl⟩
abbrev main_v303 : Ref sig .tc := ⟨.hbm, 449, rfl⟩
abbrev main_cst_101 : Ref sig .tc := ⟨.hbm, 450, rfl⟩
abbrev main_v304 : Ref sig .tc := ⟨.hbm, 451, rfl⟩
abbrev main_v305 : Ref sig .tc := ⟨.hbm, 452, rfl⟩
abbrev main_v306 : Ref sig .tc := ⟨.hbm, 453, rfl⟩
abbrev main_v307 : Ref sig .tc := ⟨.hbm, 454, rfl⟩
abbrev main_v308 : Ref sig .tc := ⟨.hbm, 455, rfl⟩
abbrev main_v309 : Ref sig .tc := ⟨.hbm, 456, rfl⟩
abbrev main_v310 : Ref sig .tc := ⟨.hbm, 457, rfl⟩
abbrev main_v311 : Ref sig .tc := ⟨.hbm, 458, rfl⟩
abbrev main_v312 : Ref sig .tc := ⟨.hbm, 459, rfl⟩
abbrev main_v313 : Ref sig .tc := ⟨.hbm, 460, rfl⟩
abbrev main_cst_102 : Ref sig .tc := ⟨.hbm, 461, rfl⟩
abbrev main_v314 : Ref sig .tc := ⟨.hbm, 462, rfl⟩
abbrev main_v315 : Ref sig .tc := ⟨.hbm, 463, rfl⟩
abbrev main_v316 : Ref sig .tc := ⟨.hbm, 464, rfl⟩
abbrev main_v317 : Ref sig .tc := ⟨.hbm, 465, rfl⟩
abbrev main_v318 : Ref sig .tc := ⟨.hbm, 466, rfl⟩
abbrev main_v319 : Ref sig .tc := ⟨.hbm, 467, rfl⟩
abbrev main_v320 : Ref sig .tc := ⟨.hbm, 468, rfl⟩
abbrev main_v321 : Ref sig .tc := ⟨.hbm, 469, rfl⟩
abbrev main_v322 : Ref sig .tc := ⟨.hbm, 470, rfl⟩
abbrev main_v323 : Ref sig .tc := ⟨.hbm, 471, rfl⟩
abbrev main_v324 : Ref sig .tc := ⟨.hbm, 472, rfl⟩
abbrev main_cst_103 : Ref sig .tc := ⟨.hbm, 473, rfl⟩
abbrev main_v325 : Ref sig .tc := ⟨.hbm, 474, rfl⟩
abbrev main_v326 : Ref sig .tc := ⟨.hbm, 475, rfl⟩

abbrev nD : Nat := 1
abbrev τ : Topo := Topo.v7x

variable {F : FTy → Type} [FloatOps F]
-- ==== Pre.lean ====
abbrev S8192x1024 : Shape := ⟨2, ![8192, 1024]⟩
abbrev S8192x16 : Shape := ⟨2, ![8192, 16]⟩
abbrev S8192x8 : Shape := ⟨2, ![8192, 8]⟩
abbrev S1024x2464 : Shape := ⟨2, ![1024, 2464]⟩
abbrev S384x384 : Shape := ⟨2, ![384, 384]⟩
abbrev S256x768 : Shape := ⟨2, ![256, 768]⟩
abbrev S1x1024 : Shape := ⟨2, ![1, 1024]⟩
abbrev S1x64 : Shape := ⟨2, ![1, 64]⟩
abbrev S1x384 : Shape := ⟨2, ![1, 384]⟩
abbrev S1x256 : Shape := ⟨2, ![1, 256]⟩
abbrev S1x96 : Shape := ⟨2, ![1, 96]⟩
abbrev S_ : Shape := ⟨0, ![]⟩
abbrev S8192x0 : Shape := ⟨2, ![8192, 0]⟩
abbrev S8192x64 : Shape := ⟨2, ![8192, 64]⟩
abbrev S8192x128 : Shape := ⟨2, ![8192, 128]⟩
abbrev S8192x96 : Shape := ⟨2, ![8192, 96]⟩
abbrev S1024x512 : Shape := ⟨2, ![1024, 512]⟩
abbrev S1024x8x64 : Shape := ⟨3, ![1024, 8, 64]⟩
abbrev S1024x8x128 : Shape := ⟨3, ![1024, 8, 128]⟩
abbrev S1024x1024 : Shape := ⟨2, ![1024, 1024]⟩
abbrev S1024x128 : Shape := ⟨2, ![1024, 128]⟩
abbrev S1024x2x64 : Shape := ⟨3, ![1024, 2, 64]⟩
abbrev S1024x2x128 : Shape := ⟨3, ![1024, 2, 128]⟩
abbrev S1024x256 : Shape := ⟨2, ![1024, 256]⟩
abbrev S1024x384 : Shape := ⟨2, ![1024, 384]⟩
abbrev S1024x32 : Shape := ⟨2, ![1024, 32]⟩
abbrev S1024x3840 : Shape := ⟨2, ![1024, 3840]⟩
abbrev S384x4x96 : Shape := ⟨3, ![384, 4, 96]⟩
abbrev S384x4x128 : Shape := ⟨3, ![384, 4, 128]⟩
abbrev S384x512 : Shape := ⟨2, ![384, 512]⟩
abbrev S256x4x192 : Shape := ⟨3, ![256, 4, 192]⟩
abbrev S256x4x64 : Shape := ⟨3, ![256, 4, 64]⟩
abbrev S256x256 : Shape := ⟨2, ![256, 256]⟩
abbrev S256x4x128 : Shape := ⟨3, ![256, 4, 128]⟩
abbrev S256x512 : Shape := ⟨2, ![256, 512]⟩
abbrev S256x1024 : Shape := ⟨2, ![256, 1024]⟩
abbrev S1x128 : Shape := ⟨2, ![1, 128]⟩
abbrev S8192x1536 : Shape := ⟨2, ![8192, 1536]⟩
abbrev S8192x1920 : Shape := ⟨2, ![8192, 1920]⟩
abbrev S8192x512 : Shape := ⟨2, ![8192, 512]⟩
abbrev S8192x384 : Shape := ⟨2, ![8192, 384]⟩
abbrev S8192x256 : Shape := ⟨2, ![8192, 256]⟩
abbrev S8x8192x128 : Shape := ⟨3, ![8, 8192, 128]⟩
abbrev S2x8192x128 : Shape := ⟨3, ![2, 8192, 128]⟩
abbrev S4x8192x128 : Shape := ⟨3, ![4, 8192, 128]⟩
abbrev S256x128 : Shape := ⟨2, ![256, 128]⟩
abbrev S256x1536 : Shape := ⟨2, ![256, 1536]⟩
abbrev S256x1920 : Shape := ⟨2, ![256, 1920]⟩
abbrev S256x384 : Shape := ⟨2, ![256, 384]⟩
abbrev S8x256x128 : Shape := ⟨3, ![8, 256, 128]⟩
abbrev S2x256x128 : Shape := ⟨3, ![2, 256, 128]⟩
abbrev S4x256x128 : Shape := ⟨3, ![4, 256, 128]⟩
abbrev S256x3840 : Shape := ⟨2, ![256, 3840]⟩
abbrev S256 : Shape := ⟨1, ![256]⟩
abbrev S256x1 : Shape := ⟨2, ![256, 1]⟩
abbrev S256x1280 : Shape := ⟨2, ![256, 1280]⟩
abbrev S256x640 : Shape := ⟨2, ![256, 640]⟩
abbrev S1x256x128 : Shape := ⟨3, ![1, 256, 128]⟩

abbrev nBuf : Space → Nat
  | .hbm => 120
  | .vmem => 47
  | .smem => 0
  | _ => 0

abbrev bufTy : (tb : Table) → Fin (tcTables nBuf tb) → BufTy
  | .hbm, ⟨0, _⟩ => ⟨S8192x1024, .f32⟩
  | .hbm, ⟨1, _⟩ => ⟨S8192x16, .f32⟩
  | .hbm, ⟨2, _⟩ => ⟨S8192x16, .f32⟩
  | .hbm, ⟨3, _⟩ => ⟨S8192x16, .f32⟩
  | .hbm, ⟨4, _⟩ => ⟨S8192x16, .f32⟩
  | .hbm, ⟨5, _⟩ => ⟨S8192x8, .f32⟩
  | .hbm, ⟨6, _⟩ => ⟨S8192x8, .f32⟩
  | .hbm, ⟨7, _⟩ => ⟨S8192x8, .f32⟩
  | .hbm, ⟨8, _⟩ => ⟨S8192x8, .f32⟩
  | .hbm, ⟨9, _⟩ => ⟨S1024x2464, .bf16⟩
  | .hbm, ⟨10, _⟩ => ⟨S384x384, .bf16⟩
  | .hbm, ⟨11, _⟩ => ⟨S256x768, .bf16⟩
  | .hbm, ⟨12, _⟩ => ⟨S1x1024, .f32⟩
  | .hbm, ⟨13, _⟩ => ⟨S1x64, .f32⟩
  | .hbm, ⟨14, _⟩ => ⟨S1x64, .f32⟩
  | .hbm, ⟨15, _⟩ => ⟨S1x384, .f32⟩
  | .hbm, ⟨16, _⟩ => ⟨S1x256, .f32⟩
  | .hbm, ⟨17, _⟩ => ⟨S1x96, .f32⟩
  | .hbm, ⟨18, _⟩ => ⟨S1x96, .f32⟩
  | .hbm, ⟨19, _⟩ => ⟨S_, .f32⟩
  | .hbm, ⟨20, _⟩ => ⟨S8192x0, .f32⟩
  | .hbm, ⟨21, _⟩ => ⟨S_, .f32⟩
  | .hbm, ⟨22, _⟩ => ⟨S8192x0, .f32⟩
  | .hbm, ⟨23, _⟩ => ⟨S8192x64, .f32⟩
  | .hbm, ⟨24, _⟩ => ⟨S8192x16, .f32⟩
  | .hbm, ⟨25, _⟩ => ⟨S8192x16, .f32⟩
  | .hbm, ⟨26, _⟩ => ⟨S8192x64, .f32⟩
  | .hbm, ⟨27, _⟩ => ⟨S_, .i32⟩
  | .hbm, ⟨28, _⟩ => ⟨S_, .f32⟩
  | .hbm, ⟨29, _⟩ => ⟨S8192x128, .f32⟩
  | .hbm, ⟨30, _⟩ => ⟨S_, .i32⟩
  | .hbm, ⟨31, _⟩ => ⟨S_, .f32⟩
  | .hbm, ⟨32, _⟩ => ⟨S8192x128, .f32⟩
  | .hbm, ⟨33, _⟩ => ⟨S_, .f32⟩
  | .hbm, ⟨34, _⟩ => ⟨S8192x64, .f32⟩
  | .hbm, ⟨35, _⟩ => ⟨S_, .f32⟩
  | .hbm, ⟨36, _⟩ => ⟨S8192x64, .f32⟩
  | .hbm, ⟨37, _⟩ => ⟨S8192x96, .f32⟩
  | .hbm, ⟨38, _⟩ => ⟨S8192x8, .f32⟩
  | .hbm, ⟨39, _⟩ => ⟨S8192x8, .f32⟩
  | .hbm, ⟨40, _⟩ => ⟨S8192x96, .f32⟩
  | .hbm, ⟨41, _⟩ => ⟨S_, .i32⟩
  | .hbm, ⟨42, _⟩ => ⟨S_, .f32⟩
  | .hbm, ⟨43, _⟩ => ⟨S8192x128, .f32⟩
  | .hbm, ⟨44, _⟩ => ⟨S_, .i32⟩
  | .hbm, ⟨45, _⟩ => ⟨S_, .f32⟩
  | .hbm, ⟨46, _⟩ => ⟨S8192x128, .f32⟩
  | .hbm, ⟨47, _⟩ => ⟨S1024x512, .bf16⟩
  | .hbm, ⟨48, _⟩ => ⟨S1024x8x64, .bf16⟩
  | .hbm, ⟨49, _⟩ => ⟨S_, .i32⟩
  | .hbm, ⟨50, _⟩ => ⟨S_, .bf16⟩
  | .hbm, ⟨51, _⟩ => ⟨S1024x8x128, .bf16⟩
  | .hbm, ⟨52, _⟩ => ⟨S1024x1024, .bf16⟩
  | .hbm, ⟨53, _⟩ => ⟨S1024x128, .bf16⟩
  | .hbm, ⟨54, _⟩ => ⟨S1024x2x64, .bf16⟩
  | .hbm, ⟨55, _⟩ => ⟨S_, .i32⟩
  | .hbm, ⟨56, _⟩ => ⟨S_, .bf16⟩
  | .hbm, ⟨57, _⟩ => ⟨S1024x2x128, .bf16⟩
  | .hbm, ⟨58, _⟩ => ⟨S1024x256, .bf16⟩
  | .hbm, ⟨59, _⟩ => ⟨S1024x128, .bf16⟩
  | .hbm, ⟨60, _⟩ => ⟨S1024x2x64, .bf16⟩
  | .hbm, ⟨61, _⟩ => ⟨S_, .i32⟩
  | .hbm, ⟨62, _⟩ => ⟨S_, .bf16⟩
  | .hbm, ⟨63, _⟩ => ⟨S1024x2x128, .bf16⟩
  | .hbm, ⟨64, _⟩ => ⟨S1024x256, .bf16⟩
  | .hbm, ⟨65, _⟩ => ⟨S1024x512, .bf16⟩
  | .hbm, ⟨66, _⟩ => ⟨S1024x8x64, .bf16⟩
  | .hbm, ⟨67, _⟩ => ⟨S_, .i32⟩
  | .hbm, ⟨68, _⟩ => ⟨S_, .bf16⟩
  | .hbm, ⟨69, _⟩ => ⟨S1024x8x128, .bf16⟩
  | .hbm, ⟨70, _⟩ => ⟨S1024x1024, .bf16⟩
  | .hbm, ⟨71, _⟩ => ⟨S1024x384, .bf16⟩
  | .hbm, ⟨72, _⟩ => ⟨S1024x256, .bf16⟩
  | .hbm, ⟨73, _⟩ => ⟨S1024x32, .bf16⟩
  | .hbm, ⟨74, _⟩ => ⟨S_, .i32⟩
  | .hbm, ⟨75, _⟩ => ⟨S_, .bf16⟩
  | .hbm, ⟨76, _⟩ => ⟨S1024x128, .bf16⟩
  | .hbm, ⟨77, _⟩ => ⟨S1024x512, .bf16⟩
  | .hbm, ⟨78, _⟩ => ⟨S1024x3840, .bf16⟩
  | .hbm, ⟨79, _⟩ => ⟨S384x4x96, .bf16⟩
  | .hbm, ⟨80, _⟩ => ⟨S_, .i32⟩
  | .hbm, ⟨81, _⟩ => ⟨S_, .bf16⟩
  | .hbm, ⟨82, _⟩ => ⟨S384x4x128, .bf16⟩
  | .hbm, ⟨83, _⟩ => ⟨S384x512, .bf16⟩
  | .hbm, ⟨84, _⟩ => ⟨S256x4x192, .bf16⟩
  | .hbm, ⟨85, _⟩ => ⟨S256x4x64, .bf16⟩
  | .hbm, ⟨86, _⟩ => ⟨S256x256, .bf16⟩
  | .hbm, ⟨87, _⟩ => ⟨S256x4x64, .bf16⟩
  | .hbm, ⟨88, _⟩ => ⟨S_, .i32⟩
  | .hbm, ⟨89, _⟩ => ⟨S_, .bf16⟩
  | .hbm, ⟨90, _⟩ => ⟨S256x4x128, .bf16⟩
  | .hbm, ⟨91, _⟩ => ⟨S256x512, .bf16⟩
  | .hbm, ⟨92, _⟩ => ⟨S256x4x128, .bf16⟩
  | .hbm, ⟨93, _⟩ => ⟨S256x512, .bf16⟩
  | .hbm, ⟨94, _⟩ => ⟨S256x1024, .bf16⟩
  | .hbm, ⟨95, _⟩ => ⟨S_, .i32⟩
  | .hbm, ⟨96, _⟩ => ⟨S_, .f32⟩
  | .hbm, ⟨97, _⟩ => ⟨S1x128, .f32⟩
  | .hbm, ⟨98, _⟩ => ⟨S_, .i32⟩
  | .hbm, ⟨99, _⟩ => ⟨S_, .f32⟩
  | .hbm, ⟨100, _⟩ => ⟨S1x128, .f32⟩
  | .hbm, ⟨101, _⟩ => ⟨S_, .i32⟩
  | .hbm, ⟨102, _⟩ => ⟨S_, .f32⟩
  | .hbm, ⟨103, _⟩ => ⟨S1x128, .f32⟩
  | .hbm, ⟨104, _⟩ => ⟨S_, .i32⟩
  | .hbm, ⟨105, _⟩ => ⟨S_, .f32⟩
  | .hbm, ⟨106, _⟩ => ⟨S1x128, .f32⟩
  | .hbm, ⟨107, _⟩ => ⟨S8192x1024, .bf16⟩
  | .hbm, ⟨108, _⟩ => ⟨S8192x1536, .f32⟩
  | .hbm, ⟨109, _⟩ => ⟨S8192x1920, .f32⟩
  | .hbm, ⟨110, _⟩ => ⟨S8192x512, .f32⟩
  | .hbm, ⟨111, _⟩ => ⟨S8192x512, .f32⟩
  | .hbm, ⟨112, _⟩ => ⟨S8192x384, .bf16⟩
  | .hbm, ⟨113, _⟩ => ⟨S8192x256, .bf16⟩
  | .hbm, ⟨114, _⟩ => ⟨S8x8192x128, .bf16⟩
  | .hbm, ⟨115, _⟩ => ⟨S2x8192x128, .bf16⟩
  | .hbm, ⟨116, _⟩ => ⟨S2x8192x128, .bf16⟩
  | .hbm, ⟨117, _⟩ => ⟨S4x8192x128, .bf16⟩
  | .hbm, ⟨118, _⟩ => ⟨S4x8192x128, .bf16⟩
  | .hbm, ⟨119, _⟩ => ⟨S4x8192x128, .bf16⟩
  | .local _ .vmem, ⟨0, _⟩ => ⟨S256x1024, .f32⟩
  | .local _ .vmem, ⟨1, _⟩ => ⟨S256x1024, .f32⟩
  | .local _ .vmem, ⟨2, _⟩ => ⟨S256x128, .f32⟩
  | .local _ .vmem, ⟨3, _⟩ => ⟨S256x128, .f32⟩
  | .local _ .vmem, ⟨4, _⟩ => ⟨S256x128, .f32⟩
  | .local _ .vmem, ⟨5, _⟩ => ⟨S256x128, .f32⟩
  | .local _ .vmem, ⟨6, _⟩ => ⟨S256x128, .f32⟩
  | .local _ .vmem, ⟨7, _⟩ => ⟨S256x128, .f32⟩
  | .local _ .vmem, ⟨8, _⟩ => ⟨S256x128, .f32⟩
  | .local _ .vmem, ⟨9, _⟩ => ⟨S256x128, .f32⟩
  | .local _ .vmem, ⟨10, _⟩ => ⟨S1024x3840, .bf16⟩
  | .local _ .vmem, ⟨11, _⟩ => ⟨S384x512, .bf16⟩
  | .local _ .vmem, ⟨12, _⟩ => ⟨S256x1024, .bf16⟩
  | .local _ .vmem, ⟨13, _⟩ => ⟨S1x1024, .f32⟩
  | .local _ .vmem, ⟨14, _⟩ => ⟨S1x128, .f32⟩
  | .local _ .vmem, ⟨15, _⟩ => ⟨S1x128, .f32⟩
  | .local _ .vmem, ⟨16, _⟩ => ⟨S1x384, .f32⟩
  | .local _ .vmem, ⟨17, _⟩ => ⟨S1x256, .f32⟩
  | .local _ .vmem, ⟨18, _⟩ => ⟨S1x128, .f32⟩
  | .local _ .vmem, ⟨19, _⟩ => ⟨S1x128, .f32⟩
  | .local _ .vmem, ⟨20, _⟩ => ⟨S256x1024, .bf16⟩
  | .local _ .vmem, ⟨21, _⟩ => ⟨S256x1024, .bf16⟩
  | .local _ .vmem, ⟨22, _⟩ => ⟨S256x1536, .f32⟩
  | .local _ .vmem, ⟨23, _⟩ => ⟨S256x1536, .f32⟩
  | .local _ .vmem, ⟨24, _⟩ => ⟨S256x1920, .f32⟩
  | .local _ .vmem, ⟨25, _⟩ => ⟨S256x1920, .f32⟩
  | .local _ .vmem, ⟨26, _⟩ => ⟨S256x512, .f32⟩
  | .local _ .vmem, ⟨27, _⟩ => ⟨S256x512, .f32⟩
  | .local _ .vmem, ⟨28, _⟩ => ⟨S256x512, .f32⟩
  | .local _ .vmem, ⟨29, _⟩ => ⟨S256x512, .f32⟩
  | .local _ .vmem, ⟨30, _⟩ => ⟨S256x384, .bf16⟩
  | .local _ .vmem, ⟨31, _⟩ => ⟨S256x384, .bf16⟩
  | .local _ .vmem, ⟨32, _⟩ => ⟨S256x256, .bf16⟩
  | .local _ .vmem, ⟨33, _⟩ => ⟨S256x256, .bf16⟩
  | .local _ .vmem, ⟨34, _⟩ => ⟨S8x256x128, .bf16⟩
  | .local _ .vmem, ⟨35, _⟩ => ⟨S8x256x128, .bf16⟩
  | .local _ .vmem, ⟨36, _⟩ => ⟨S2x256x128, .bf16⟩
  | .local _ .vmem, ⟨37, _⟩ => ⟨S2x256x128, .bf16⟩
  | .local _ .vmem, ⟨38, _⟩ => ⟨S2x256x128, .bf16⟩
  | .local _ .vmem, ⟨39, _⟩ => ⟨S2x256x128, .bf16⟩
  | .local _ .vmem, ⟨40, _⟩ => ⟨S4x256x128, .bf16⟩
  | .local _ .vmem, ⟨41, _⟩ => ⟨S4x256x128, .bf16⟩
  | .local _ .vmem, ⟨42, _⟩ => ⟨S4x256x128, .bf16⟩
  | .local _ .vmem, ⟨43, _⟩ => ⟨S4x256x128, .bf16⟩
  | .local _ .vmem, ⟨44, _⟩ => ⟨S4x256x128, .bf16⟩
  | .local _ .vmem, ⟨45, _⟩ => ⟨S4x256x128, .bf16⟩
  | .local _ .vmem, ⟨46, _⟩ => ⟨S256x3840, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | .vmem, ⟨46, _⟩ => true
  | _, _ => false

abbrev semScoped : Fin 0 → Bool
  | ⟨_, h⟩ => absurd h (Nat.not_lt_zero _)

abbrev dmaSemScoped : Fin 46 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | _ => false

abbrev sig : RefSig :=
  ofTc nBuf bufTy 0 46 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_cst : Ref sig .tc := ⟨.hbm, 19, rfl⟩
abbrev main_v0 : Ref sig .tc := ⟨.hbm, 20, rfl⟩
abbrev main_cst_0 : Ref sig .tc := ⟨.hbm, 21, rfl⟩
abbrev main_v1 : Ref sig .tc := ⟨.hbm, 22, rfl⟩
abbrev main_v2 : Ref sig .tc := ⟨.hbm, 23, rfl⟩
abbrev main_v3 : Ref sig .tc := ⟨.hbm, 24, rfl⟩
abbrev main_v4 : Ref sig .tc := ⟨.hbm, 25, rfl⟩
abbrev main_v5 : Ref sig .tc := ⟨.hbm, 26, rfl⟩
abbrev main_c : Ref sig .tc := ⟨.hbm, 27, rfl⟩
abbrev main_call0_v0 : Ref sig .tc := ⟨.hbm, 28, rfl⟩
abbrev main_v6 : Ref sig .tc := ⟨.hbm, 29, rfl⟩
abbrev main_c_1 : Ref sig .tc := ⟨.hbm, 30, rfl⟩
abbrev main_call1_v0 : Ref sig .tc := ⟨.hbm, 31, rfl⟩
abbrev main_v7 : Ref sig .tc := ⟨.hbm, 32, rfl⟩
abbrev main_cst_2 : Ref sig .tc := ⟨.hbm, 33, rfl⟩
abbrev main_v8 : Ref sig .tc := ⟨.hbm, 34, rfl⟩
abbrev main_cst_3 : Ref sig .tc := ⟨.hbm, 35, rfl⟩
abbrev main_v9 : Ref sig .tc := ⟨.hbm, 36, rfl⟩
abbrev main_v10 : Ref sig .tc := ⟨.hbm, 37, rfl⟩
abbrev main_v11 : Ref sig .tc := ⟨.hbm, 38, rfl⟩
abbrev main_v12 : Ref sig .tc := ⟨.hbm, 39, rfl⟩
abbrev main_v13 : Ref sig .tc := ⟨.hbm, 40, rfl⟩
abbrev main_c_4 : Ref sig .tc := ⟨.hbm, 41, rfl⟩
abbrev main_call2_v0 : Ref sig .tc := ⟨.hbm, 42, rfl⟩
abbrev main_v14 : Ref sig .tc := ⟨.hbm, 43, rfl⟩
abbrev main_c_5 : Ref sig .tc := ⟨.hbm, 44, rfl⟩
abbrev main_call3_v0 : Ref sig .tc := ⟨.hbm, 45, rfl⟩
abbrev main_v15 : Ref sig .tc := ⟨.hbm, 46, rfl⟩
abbrev main_v16 : Ref sig .tc := ⟨.hbm, 47, rfl⟩
abbrev main_v17 : Ref sig .tc := ⟨.hbm, 48, rfl⟩
abbrev main_c_6 : Ref sig .tc := ⟨.hbm, 49, rfl⟩
abbrev main_call4_v0 : Ref sig .tc := ⟨.hbm, 50, rfl⟩
abbrev main_v18 : Ref sig .tc := ⟨.hbm, 51, rfl⟩
abbrev main_v19 : Ref sig .tc := ⟨.hbm, 52, rfl⟩
abbrev main_v20 : Ref sig .tc := ⟨.hbm, 53, rfl⟩
abbrev main_v21 : Ref sig .tc := ⟨.hbm, 54, rfl⟩
abbrev main_c_7 : Ref sig .tc := ⟨.hbm, 55, rfl⟩
abbrev main_call5_v0 : Ref sig .tc := ⟨.hbm, 56, rfl⟩
abbrev main_v22 : Ref sig .tc := ⟨.hbm, 57, rfl⟩
abbrev main_v23 : Ref sig .tc := ⟨.hbm, 58, rfl⟩
abbrev main_v24 : Ref sig .tc := ⟨.hbm, 59, rfl⟩
abbrev main_v25 : Ref sig .tc := ⟨.hbm, 60, rfl⟩
abbrev main_c_8 : Ref sig .tc := ⟨.hbm, 61, rfl⟩
abbrev main_call6_v0 : Ref sig .tc := ⟨.hbm, 62, rfl⟩
abbrev main_v26 : Ref sig .tc := ⟨.hbm, 63, rfl⟩
abbrev main_v27 : Ref sig .tc := ⟨.hbm, 64, rfl⟩
abbrev main_v28 : Ref sig .tc := ⟨.hbm, 65, rfl⟩
abbrev main_v29 : Ref sig .tc := ⟨.hbm, 66, rfl⟩
abbrev main_c_9 : Ref sig .tc := ⟨.hbm, 67, rfl⟩
abbrev main_call7_v0 : Ref sig .tc := ⟨.hbm, 68, rfl⟩
abbrev main_v30 : Ref sig .tc := ⟨.hbm, 69, rfl⟩
abbrev main_v31 : Ref sig .tc := ⟨.hbm, 70, rfl⟩
abbrev main_v32 : Ref sig .tc := ⟨.hbm, 71, rfl⟩
abbrev main_v33 : Ref sig .tc := ⟨.hbm, 72, rfl⟩
abbrev main_v34 : Ref sig .tc := ⟨.hbm, 73, rfl⟩
abbrev main_c_10 : Ref sig .tc := ⟨.hbm, 74, rfl⟩
abbrev main_call8_v0 : Ref sig .tc := ⟨.hbm, 75, rfl⟩
abbrev main_v35 : Ref sig .tc := ⟨.hbm, 76, rfl⟩
abbrev main_v36 : Ref sig .tc := ⟨.hbm, 77, rfl⟩
abbrev main_v37 : Ref sig .tc := ⟨.hbm, 78, rfl⟩
abbrev main_v38 : Ref sig .tc := ⟨.hbm, 79, rfl⟩
abbrev main_c_11 : Ref sig .tc := ⟨.hbm, 80, rfl⟩
abbrev main_call9_v0 : Ref sig .tc := ⟨.hbm, 81, rfl⟩
abbrev main_v39 : Ref sig .tc := ⟨.hbm, 82, rfl⟩
abbrev main_v40 : Ref sig .tc := ⟨.hbm, 83, rfl⟩
abbrev main_v41 : Ref sig .tc := ⟨.hbm, 84, rfl⟩
abbrev main_v42 : Ref sig .tc := ⟨.hbm, 85, rfl⟩
abbrev main_v43 : Ref sig .tc := ⟨.hbm, 86, rfl⟩
abbrev main_v44 : Ref sig .tc := ⟨.hbm, 87, rfl⟩
abbrev main_c_12 : Ref sig .tc := ⟨.hbm, 88, rfl⟩
abbrev main_call10_v0 : Ref sig .tc := ⟨.hbm, 89, rfl⟩
abbrev main_v45 : Ref sig .tc := ⟨.hbm, 90, rfl⟩
abbrev main_v46 : Ref sig .tc := ⟨.hbm, 91, rfl⟩
abbrev main_v47 : Ref sig .tc := ⟨.hbm, 92, rfl⟩
abbrev main_v48 : Ref sig .tc := ⟨.hbm, 93, rfl⟩
abbrev main_v49 : Ref sig .tc := ⟨.hbm, 94, rfl⟩
abbrev main_c_13 : Ref sig .tc := ⟨.hbm, 95, rfl⟩
abbrev main_call11_v0 : Ref sig .tc := ⟨.hbm, 96, rfl⟩
abbrev main_v50 : Ref sig .tc := ⟨.hbm, 97, rfl⟩
abbrev main_c_14 : Ref sig .tc := ⟨.hbm, 98, rfl⟩
abbrev main_call12_v0 : Ref sig .tc := ⟨.hbm, 99, rfl⟩
abbrev main_v51 : Ref sig .tc := ⟨.hbm, 100, rfl⟩
abbrev main_c_15 : Ref sig .tc := ⟨.hbm, 101, rfl⟩
abbrev main_call13_v0 : Ref sig .tc := ⟨.hbm, 102, rfl⟩
abbrev main_v52 : Ref sig .tc := ⟨.hbm, 103, rfl⟩
abbrev main_c_16 : Ref sig .tc := ⟨.hbm, 104, rfl⟩
abbrev main_call14_v0 : Ref sig .tc := ⟨.hbm, 105, rfl⟩
abbrev main_v53 : Ref sig .tc := ⟨.hbm, 106, rfl⟩
abbrev main_v54_0 : Ref sig .tc := ⟨.hbm, 107, rfl⟩
abbrev main_v54_1 : Ref sig .tc := ⟨.hbm, 108, rfl⟩
abbrev main_v54_2 : Ref sig .tc := ⟨.hbm, 109, rfl⟩
abbrev main_v54_3 : Ref sig .tc := ⟨.hbm, 110, rfl⟩
abbrev main_v54_4 : Ref sig .tc := ⟨.hbm, 111, rfl⟩
abbrev main_v54_5 : Ref sig .tc := ⟨.hbm, 112, rfl⟩
abbrev main_v54_6 : Ref sig .tc := ⟨.hbm, 113, rfl⟩
abbrev main_v54_7 : Ref sig .tc := ⟨.hbm, 114, rfl⟩
abbrev main_v54_8 : Ref sig .tc := ⟨.hbm, 115, rfl⟩
abbrev main_v54_9 : Ref sig .tc := ⟨.hbm, 116, rfl⟩
abbrev main_v54_10 : Ref sig .tc := ⟨.hbm, 117, rfl⟩
abbrev main_v54_11 : Ref sig .tc := ⟨.hbm, 118, rfl⟩
abbrev main_v54_12 : Ref sig .tc := ⟨.hbm, 119, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg6_0 : Ref sig .tc := ⟨.vmem, 11, rfl⟩
abbrev cc0_stg7_0 : Ref sig .tc := ⟨.vmem, 12, rfl⟩
abbrev cc0_stg8_0 : Ref sig .tc := ⟨.vmem, 13, rfl⟩
abbrev cc0_stg9_0 : Ref sig .tc := ⟨.vmem, 14, rfl⟩
abbrev cc0_stg10_0 : Ref sig .tc := ⟨.vmem, 15, rfl⟩
abbrev cc0_stg11_0 : Ref sig .tc := ⟨.vmem, 16, rfl⟩
abbrev cc0_stg12_0 : Ref sig .tc := ⟨.vmem, 17, rfl⟩
abbrev cc0_stg13_0 : Ref sig .tc := ⟨.vmem, 18, rfl⟩
abbrev cc0_stg14_0 : Ref sig .tc := ⟨.vmem, 19, rfl⟩
abbrev cc0_stg15_0 : Ref sig .tc := ⟨.vmem, 20, rfl⟩
abbrev cc0_stg15_1 : Ref sig .tc := ⟨.vmem, 21, rfl⟩
abbrev cc0_stg16_0 : Ref sig .tc := ⟨.vmem, 22, rfl⟩
abbrev cc0_stg16_1 : Ref sig .tc := ⟨.vmem, 23, rfl⟩
abbrev cc0_stg17_0 : Ref sig .tc := ⟨.vmem, 24, rfl⟩
abbrev cc0_stg17_1 : Ref sig .tc := ⟨.vmem, 25, rfl⟩
abbrev cc0_stg18_0 : Ref sig .tc := ⟨.vmem, 26, rfl⟩
abbrev cc0_stg18_1 : Ref sig .tc := ⟨.vmem, 27, rfl⟩
abbrev cc0_stg19_0 : Ref sig .tc := ⟨.vmem, 28, rfl⟩
abbrev cc0_stg19_1 : Ref sig .tc := ⟨.vmem, 29, rfl⟩
abbrev cc0_stg20_0 : Ref sig .tc := ⟨.vmem, 30, rfl⟩
abbrev cc0_stg20_1 : Ref sig .tc := ⟨.vmem, 31, rfl⟩
abbrev cc0_stg21_0 : Ref sig .tc := ⟨.vmem, 32, rfl⟩
abbrev cc0_stg21_1 : Ref sig .tc := ⟨.vmem, 33, rfl⟩
abbrev cc0_stg22_0 : Ref sig .tc := ⟨.vmem, 34, rfl⟩
abbrev cc0_stg22_1 : Ref sig .tc := ⟨.vmem, 35, rfl⟩
abbrev cc0_stg23_0 : Ref sig .tc := ⟨.vmem, 36, rfl⟩
abbrev cc0_stg23_1 : Ref sig .tc := ⟨.vmem, 37, rfl⟩
abbrev cc0_stg24_0 : Ref sig .tc := ⟨.vmem, 38, rfl⟩
abbrev cc0_stg24_1 : Ref sig .tc := ⟨.vmem, 39, rfl⟩
abbrev cc0_stg25_0 : Ref sig .tc := ⟨.vmem, 40, rfl⟩
abbrev cc0_stg25_1 : Ref sig .tc := ⟨.vmem, 41, rfl⟩
abbrev cc0_stg26_0 : Ref sig .tc := ⟨.vmem, 42, rfl⟩
abbrev cc0_stg26_1 : Ref sig .tc := ⟨.vmem, 43, rfl⟩
abbrev cc0_stg27_0 : Ref sig .tc := ⟨.vmem, 44, rfl⟩
abbrev cc0_stg27_1 : Ref sig .tc := ⟨.vmem, 45, rfl⟩
abbrev cc0_scratch0 : Ref sig .tc := ⟨.vmem, 46, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem6_0 : DmaSem sig := 11
abbrev cc0_sem7_0 : DmaSem sig := 12
abbrev cc0_sem8_0 : DmaSem sig := 13
abbrev cc0_sem9_0 : DmaSem sig := 14
abbrev cc0_sem10_0 : DmaSem sig := 15
abbrev cc0_sem11_0 : DmaSem sig := 16
abbrev cc0_sem12_0 : DmaSem sig := 17
abbrev cc0_sem13_0 : DmaSem sig := 18
abbrev cc0_sem14_0 : DmaSem sig := 19
abbrev cc0_sem15_0 : DmaSem sig := 20
abbrev cc0_sem15_1 : DmaSem sig := 21
abbrev cc0_sem16_0 : DmaSem sig := 22
abbrev cc0_sem16_1 : DmaSem sig := 23
abbrev cc0_sem17_0 : DmaSem sig := 24
abbrev cc0_sem17_1 : DmaSem sig := 25
abbrev cc0_sem18_0 : DmaSem sig := 26
abbrev cc0_sem18_1 : DmaSem sig := 27
abbrev cc0_sem19_0 : DmaSem sig := 28
abbrev cc0_sem19_1 : DmaSem sig := 29
abbrev cc0_sem20_0 : DmaSem sig := 30
abbrev cc0_sem20_1 : DmaSem sig := 31
abbrev cc0_sem21_0 : DmaSem sig := 32
abbrev cc0_sem21_1 : DmaSem sig := 33
abbrev cc0_sem22_0 : DmaSem sig := 34
abbrev cc0_sem22_1 : DmaSem sig := 35
abbrev cc0_sem23_0 : DmaSem sig := 36
abbrev cc0_sem23_1 : DmaSem sig := 37
abbrev cc0_sem24_0 : DmaSem sig := 38
abbrev cc0_sem24_1 : DmaSem sig := 39
abbrev cc0_sem25_0 : DmaSem sig := 40
abbrev cc0_sem25_1 : DmaSem sig := 41
abbrev cc0_sem26_0 : DmaSem sig := 42
abbrev cc0_sem26_1 : DmaSem sig := 43
abbrev cc0_sem27_0 : DmaSem sig := 44
abbrev cc0_sem27_1 : DmaSem sig := 45

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_14 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_15 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_16 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_17 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_18 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_19 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_20 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_21 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_22 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_23 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_24 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_25 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_26 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_27 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S1024x3840 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S384x512 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S256x1024 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1x128 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S1x128 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S1x384 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S1x256 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 1 → Memref sig .tc .vmem S1x128 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false]

abbrev stage0_14 : Fin 1 → Memref sig .tc .vmem S1x128 .f32 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![false]

abbrev stage0_15 : Fin 2 → Memref sig .tc .vmem S256x1024 .bf16 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true]

abbrev stage0_16 : Fin 2 → Memref sig .tc .vmem S256x1536 .f32 := fun | 0 => Memref.whole cc0_stg16_0 | 1 => Memref.whole cc0_stg16_1 | ⟨_ + 2, h⟩ => absurd h (Nat.not_lt.2 (Nat.le_add_left _ _))
abbrev sem0_16 : Fin 2 → DmaSem sig := fun | 0 => cc0_sem16_0 | 1 => cc0_sem16_1 | ⟨_ + 2, h⟩ => absurd h (Nat.not_lt.2 (Nat.le_add_left _ _))
abbrev reads0_16 : Fin grid0.rank → Bool := ![true]

abbrev stage0_17 : Fin 2 → Memref sig .tc .vmem S256x1920 .f32 := fun | 0 => Memref.whole cc0_stg17_0 | 1 => Memref.whole cc0_stg17_1 | ⟨_ + 2, h⟩ => absurd h (Nat.not_lt.2 (Nat.le_add_left _ _))
abbrev sem0_17 : Fin 2 → DmaSem sig := fun | 0 => cc0_sem17_0 | 1 => cc0_sem17_1 | ⟨_ + 2, h⟩ => absurd h (Nat.not_lt.2 (Nat.le_add_left _ _))
abbrev reads0_17 : Fin grid0.rank → Bool := ![true]

abbrev stage0_18 : Fin 2 → Memref sig .tc .vmem S256x512 .f32 := fun | 0 => Memref.whole cc0_stg18_0 | 1 => Memref.whole cc0_stg18_1 | ⟨_ + 2, h⟩ => absurd h (Nat.not_lt.2 (Nat.le_add_left _ _))
abbrev sem0_18 : Fin 2 → DmaSem sig := fun | 0 => cc0_sem18_0 | 1 => cc0_sem18_1 | ⟨_ + 2, h⟩ => absurd h (Nat.not_lt.2 (Nat.le_add_left _ _))
abbrev reads0_18 : Fin grid0.rank → Bool := ![true]

abbrev stage0_19 : Fin 2 → Memref sig .tc .vmem S256x512 .f32 := fun | 0 => Memref.whole cc0_stg19_0 | 1 => Memref.whole cc0_stg19_1 | ⟨_ + 2, h⟩ => absurd h (Nat.not_lt.2 (Nat.le_add_left _ _))
abbrev sem0_19 : Fin 2 → DmaSem sig := fun | 0 => cc0_sem19_0 | 1 => cc0_sem19_1 | ⟨_ + 2, h⟩ => absurd h (Nat.not_lt.2 (Nat.le_add_left _ _))
abbrev reads0_19 : Fin grid0.rank → Bool := ![true]

abbrev stage0_20 : Fin 2 → Memref sig .tc .vmem S256x384 .bf16 := fun | 0 => Memref.whole cc0_stg20_0 | 1 => Memref.whole cc0_stg20_1 | ⟨_ + 2, h⟩ => absurd h (Nat.not_lt.2 (Nat.le_add_left _ _))
abbrev sem0_20 : Fin 2 → DmaSem sig := fun | 0 => cc0_sem20_0 | 1 => cc0_sem20_1 | ⟨_ + 2, h⟩ => absurd h (Nat.not_lt.2 (Nat.le_add_left _ _))
abbrev reads0_20 : Fin grid0.rank → Bool := ![true]

abbrev stage0_21 : Fin 2 → Memref sig .tc .vmem S256x256 .bf16 := fun | 0 => Memref.whole cc0_stg21_0 | 1 => Memref.whole cc0_stg21_1 | ⟨_ + 2, h⟩ => absurd h (Nat.not_lt.2 (Nat.le_add_left _ _))
abbrev sem0_21 : Fin 2 → DmaSem sig := fun | 0 => cc0_sem21_0 | 1 => cc0_sem21_1 | ⟨_ + 2, h⟩ => absurd h (Nat.not_lt.2 (Nat.le_add_left _ _))
abbrev reads0_21 : Fin grid0.rank → Bool := ![true]

abbrev stage0_22 : Fin 2 → Memref sig .tc .vmem S8x256x128 .bf16 := fun | 0 => Memref.whole cc0_stg22_0 | 1 => Memref.whole cc0_stg22_1 | ⟨_ + 2, h⟩ => absurd h (Nat.not_lt.2 (Nat.le_add_left _ _))
abbrev sem0_22 : Fin 2 → DmaSem sig := fun | 0 => cc0_sem22_0 | 1 => cc0_sem22_1 | ⟨_ + 2, h⟩ => absurd h (Nat.not_lt.2 (Nat.le_add_left _ _))
abbrev reads0_22 : Fin grid0.rank → Bool := ![true]

abbrev stage0_23 : Fin 2 → Memref sig .tc .vmem S2x256x128 .bf16 := fun | 0 => Memref.whole cc0_stg23_0 | 1 => Memref.whole cc0_stg23_1 | ⟨_ + 2, h⟩ => absurd h (Nat.not_lt.2 (Nat.le_add_left _ _))
abbrev sem0_23 : Fin 2 → DmaSem sig := fun | 0 => cc0_sem23_0 | 1 => cc0_sem23_1 | ⟨_ + 2, h⟩ => absurd h (Nat.not_lt.2 (Nat.le_add_left _ _))
abbrev reads0_23 : Fin grid0.rank → Bool := ![true]

abbrev stage0_24 : Fin 2 → Memref sig .tc .vmem S2x256x128 .bf16 := fun | 0 => Memref.whole cc0_stg24_0 | 1 => Memref.whole cc0_stg24_1 | ⟨_ + 2, h⟩ => absurd h (Nat.not_lt.2 (Nat.le_add_left _ _))
abbrev sem0_24 : Fin 2 → DmaSem sig := fun | 0 => cc0_sem24_0 | 1 => cc0_sem24_1 | ⟨_ + 2, h⟩ => absurd h (Nat.not_lt.2 (Nat.le_add_left _ _))
abbrev reads0_24 : Fin grid0.rank → Bool := ![true]

abbrev stage0_25 : Fin 2 → Memref sig .tc .vmem S4x256x128 .bf16 := fun | 0 => Memref.whole cc0_stg25_0 | 1 => Memref.whole cc0_stg25_1 | ⟨_ + 2, h⟩ => absurd h (Nat.not_lt.2 (Nat.le_add_left _ _))
abbrev sem0_25 : Fin 2 → DmaSem sig := fun | 0 => cc0_sem25_0 | 1 => cc0_sem25_1 | ⟨_ + 2, h⟩ => absurd h (Nat.not_lt.2 (Nat.le_add_left _ _))
abbrev reads0_25 : Fin grid0.rank → Bool := ![true]

abbrev stage0_26 : Fin 2 → Memref sig .tc .vmem S4x256x128 .bf16 := fun | 0 => Memref.whole cc0_stg26_0 | 1 => Memref.whole cc0_stg26_1 | ⟨_ + 2, h⟩ => absurd h (Nat.not_lt.2 (Nat.le_add_left _ _))
abbrev sem0_26 : Fin 2 → DmaSem sig := fun | 0 => cc0_sem26_0 | 1 => cc0_sem26_1 | ⟨_ + 2, h⟩ => absurd h (Nat.not_lt.2 (Nat.le_add_left _ _))
abbrev reads0_26 : Fin grid0.rank → Bool := ![true]

abbrev stage0_27 : Fin 2 → Memref sig .tc .vmem S4x256x128 .bf16 := fun | 0 => Memref.whole cc0_stg27_0 | 1 => Memref.whole cc0_stg27_1 | ⟨_ + 2, h⟩ => absurd h (Nat.not_lt.2 (Nat.le_add_left _ _))
abbrev sem0_27 : Fin 2 → DmaSem sig := fun | 0 => cc0_sem27_0 | 1 => cc0_sem27_1 | ⟨_ + 2, h⟩ => absurd h (Nat.not_lt.2 (Nat.le_add_left _ _))
abbrev reads0_27 : Fin grid0.rank → Bool := ![true]
-- ==== PreIdeal.lean ====
variable {F : FTy → Type} [FloatOps F] [Named F]
def κ : String → Option EReal := fun
  | "mean384" => some ((1 / 384 : ℝ) : EReal)
  | "mean96" => some ((1 / 96 : ℝ) : EReal)
  | _ => none
-- ==== PreRefIdeal.lean ====
abbrev S8192x1024 : Shape := ⟨2, ![8192, 1024]⟩
abbrev S8192x16 : Shape := ⟨2, ![8192, 16]⟩
abbrev S8192x8 : Shape := ⟨2, ![8192, 8]⟩
abbrev S1024x2464 : Shape := ⟨2, ![1024, 2464]⟩
abbrev S384x384 : Shape := ⟨2, ![384, 384]⟩
abbrev S256x768 : Shape := ⟨2, ![256, 768]⟩
abbrev S1x1024 : Shape := ⟨2, ![1, 1024]⟩
abbrev S1x64 : Shape := ⟨2, ![1, 64]⟩
abbrev S1x384 : Shape := ⟨2, ![1, 384]⟩
abbrev S1x256 : Shape := ⟨2, ![1, 256]⟩
abbrev S1x96 : Shape := ⟨2, ![1, 96]⟩
abbrev S_ : Shape := ⟨0, ![]⟩
abbrev S8192 : Shape := ⟨1, ![8192]⟩
abbrev S8192x1 : Shape := ⟨2, ![8192, 1]⟩
abbrev S1024 : Shape := ⟨1, ![1024]⟩
abbrev S8192x2464 : Shape := ⟨2, ![8192, 2464]⟩
abbrev S8192x512 : Shape := ⟨2, ![8192, 512]⟩
abbrev S8192x8x64 : Shape := ⟨3, ![8192, 8, 64]⟩
abbrev S8x8192x64 : Shape := ⟨3, ![8, 8192, 64]⟩
abbrev S8192x128 : Shape := ⟨2, ![8192, 128]⟩
abbrev S8192x2x64 : Shape := ⟨3, ![8192, 2, 64]⟩
abbrev S2x8192x64 : Shape := ⟨3, ![2, 8192, 64]⟩
abbrev S8192x384 : Shape := ⟨2, ![8192, 384]⟩
abbrev S8192x256 : Shape := ⟨2, ![8192, 256]⟩
abbrev S8192x32 : Shape := ⟨2, ![8192, 32]⟩
abbrev S8x8192 : Shape := ⟨2, ![8, 8192]⟩
abbrev S8x8192x1 : Shape := ⟨3, ![8, 8192, 1]⟩
abbrev S64 : Shape := ⟨1, ![64]⟩
abbrev S1x1x64 : Shape := ⟨3, ![1, 1, 64]⟩
abbrev S8x8192x32 : Shape := ⟨3, ![8, 8192, 32]⟩
abbrev S8x8192x16 : Shape := ⟨3, ![8, 8192, 16]⟩
abbrev S1x8192x16 : Shape := ⟨3, ![1, 8192, 16]⟩
abbrev S2x8192 : Shape := ⟨2, ![2, 8192]⟩
abbrev S2x8192x1 : Shape := ⟨3, ![2, 8192, 1]⟩
abbrev S2x8192x32 : Shape := ⟨3, ![2, 8192, 32]⟩
abbrev S2x8192x16 : Shape := ⟨3, ![2, 8192, 16]⟩
abbrev S384 : Shape := ⟨1, ![384]⟩
abbrev S256 : Shape := ⟨1, ![256]⟩
abbrev S8192x4x96 : Shape := ⟨3, ![8192, 4, 96]⟩
abbrev S4x8192x96 : Shape := ⟨3, ![4, 8192, 96]⟩
abbrev S8192x768 : Shape := ⟨2, ![8192, 768]⟩
abbrev S8192x4x192 : Shape := ⟨3, ![8192, 4, 192]⟩
abbrev S4x8192x192 : Shape := ⟨3, ![4, 8192, 192]⟩
abbrev S4x8192x128 : Shape := ⟨3, ![4, 8192, 128]⟩
abbrev S4x8192x64 : Shape := ⟨3, ![4, 8192, 64]⟩
abbrev S4x8192x32 : Shape := ⟨3, ![4, 8192, 32]⟩
abbrev S4x8192 : Shape := ⟨2, ![4, 8192]⟩
abbrev S4x8192x1 : Shape := ⟨3, ![4, 8192, 1]⟩
abbrev S96 : Shape := ⟨1, ![96]⟩
abbrev S1x1x96 : Shape := ⟨3, ![1, 1, 96]⟩
abbrev S4x8192x16 : Shape := ⟨3, ![4, 8192, 16]⟩
abbrev S4x8192x8 : Shape := ⟨3, ![4, 8192, 8]⟩
abbrev S1x8192x8 : Shape := ⟨3, ![1, 8192, 8]⟩
abbrev S8x8192x128 : Shape := ⟨3, ![8, 8192, 128]⟩
abbrev S8192x8x128 : Shape := ⟨3, ![8192, 8, 128]⟩
abbrev S8192x1536 : Shape := ⟨2, ![8192, 1536]⟩
abbrev S2x8192x128 : Shape := ⟨3, ![2, 8192, 128]⟩
abbrev S8192x2x128 : Shape := ⟨3, ![8192, 2, 128]⟩
abbrev S8192x1920 : Shape := ⟨2, ![8192, 1920]⟩
abbrev S8192x4x128 : Shape := ⟨3, ![8192, 4, 128]⟩

abbrev nBuf : Space → Nat
  | .hbm => 379
  | .vmem => 0
  | .smem => 0
  | _ => 0

abbrev hbmTy0_0 (i : Nat) : BufTy := match i % 128 with
  | 0 => ⟨S8192x1024, .f32⟩
  | 1 => ⟨S8192x16, .f32⟩
  | 2 => ⟨S8192x16, .f32⟩
  | 3 => ⟨S8192x16, .f32⟩
  | 4 => ⟨S8192x16, .f32⟩
  | 5 => ⟨S8192x8, .f32⟩
  | 6 => ⟨S8192x8, .f32⟩
  | 7 => ⟨S8192x8, .f32⟩
  | 8 => ⟨S8192x8, .f32⟩
  | 9 => ⟨S1024x2464, .bf16⟩
  | 10 => ⟨S384x384, .bf16⟩
  | 11 => ⟨S256x768, .bf16⟩
  | 12 => ⟨S1x1024, .f32⟩
  | 13 => ⟨S1x64, .f32⟩
  | 14 => ⟨S1x64, .f32⟩
  | 15 => ⟨S1x384, .f32⟩
  | 16 => ⟨S1x256, .f32⟩
  | 17 => ⟨S1x96, .f32⟩
  | 18 => ⟨S1x96, .f32⟩
  | 19 => ⟨S8192x1024, .f32⟩
  | 20 => ⟨S_, .f32⟩
  | 21 => ⟨S8192, .f32⟩
  | 22 => ⟨S8192x1, .f32⟩
  | 23 => ⟨S_, .f32⟩
  | 24 => ⟨S8192x1, .f32⟩
  | 25 => ⟨S8192x1, .f32⟩
  | 26 => ⟨S_, .f32⟩
  | 27 => ⟨S8192x1, .f32⟩
  | 28 => ⟨S8192x1, .f32⟩
  | 29 => ⟨S8192x1, .f32⟩
  | 30 => ⟨S8192x1024, .f32⟩
  | 31 => ⟨S8192x1024, .f32⟩
  | 32 => ⟨S1024, .f32⟩
  | 33 => ⟨S1x1024, .f32⟩
  | 34 => ⟨S8192x1024, .f32⟩
  | 35 => ⟨S8192x1024, .f32⟩
  | 36 => ⟨S1024x2464, .f32⟩
  | 37 => ⟨S8192x2464, .f32⟩
  | 38 => ⟨S8192x512, .f32⟩
  | 39 => ⟨S8192x8x64, .f32⟩
  | 40 => ⟨S8x8192x64, .f32⟩
  | 41 => ⟨S8192x128, .f32⟩
  | 42 => ⟨S8192x2x64, .f32⟩
  | 43 => ⟨S2x8192x64, .f32⟩
  | 44 => ⟨S8192x128, .f32⟩
  | 45 => ⟨S8192x2x64, .f32⟩
  | 46 => ⟨S2x8192x64, .f32⟩
  | 47 => ⟨S8192x512, .f32⟩
  | 48 => ⟨S8192x8x64, .f32⟩
  | 49 => ⟨S8x8192x64, .f32⟩
  | 50 => ⟨S8192x384, .f32⟩
  | 51 => ⟨S8192x256, .f32⟩
  | 52 => ⟨S8192x32, .f32⟩
  | 53 => ⟨S8192x512, .f32⟩
  | 54 => ⟨S8x8192x64, .f32⟩
  | 55 => ⟨S_, .f32⟩
  | 56 => ⟨S8x8192, .f32⟩
  | 57 => ⟨S8x8192x1, .f32⟩
  | 58 => ⟨S_, .f32⟩
  | 59 => ⟨S8x8192x1, .f32⟩
  | 60 => ⟨S8x8192x1, .f32⟩
  | 61 => ⟨S_, .f32⟩
  | 62 => ⟨S8x8192x1, .f32⟩
  | 63 => ⟨S8x8192x1, .f32⟩
  | 64 => ⟨S8x8192x1, .f32⟩
  | 65 => ⟨S8x8192x64, .f32⟩
  | 66 => ⟨S8x8192x64, .f32⟩
  | 67 => ⟨S64, .f32⟩
  | 68 => ⟨S1x1x64, .f32⟩
  | 69 => ⟨S8x8192x64, .f32⟩
  | 70 => ⟨S8x8192x64, .f32⟩
  | 71 => ⟨S8x8192x32, .f32⟩
  | 72 => ⟨S8x8192x16, .f32⟩
  | 73 => ⟨S8x8192x16, .f32⟩
  | 74 => ⟨S1x8192x16, .f32⟩
  | 75 => ⟨S8x8192x16, .f32⟩
  | 76 => ⟨S8x8192x16, .f32⟩
  | 77 => ⟨S1x8192x16, .f32⟩
  | 78 => ⟨S8x8192x16, .f32⟩
  | 79 => ⟨S8x8192x16, .f32⟩
  | 80 => ⟨S8x8192x16, .f32⟩
  | 81 => ⟨S1x8192x16, .f32⟩
  | 82 => ⟨S8x8192x16, .f32⟩
  | 83 => ⟨S8x8192x16, .f32⟩
  | 84 => ⟨S1x8192x16, .f32⟩
  | 85 => ⟨S8x8192x16, .f32⟩
  | 86 => ⟨S8x8192x16, .f32⟩
  | 87 => ⟨S8x8192x16, .f32⟩
  | 88 => ⟨S8x8192x32, .f32⟩
  | 89 => ⟨S8x8192x32, .f32⟩
  | 90 => ⟨S8x8192x16, .f32⟩
  | 91 => ⟨S8x8192x16, .f32⟩
  | 92 => ⟨S1x8192x16, .f32⟩
  | 93 => ⟨S8x8192x16, .f32⟩
  | 94 => ⟨S8x8192x16, .f32⟩
  | 95 => ⟨S1x8192x16, .f32⟩
  | 96 => ⟨S8x8192x16, .f32⟩
  | 97 => ⟨S8x8192x16, .f32⟩
  | 98 => ⟨S8x8192x16, .f32⟩
  | 99 => ⟨S1x8192x16, .f32⟩
  | 100 => ⟨S8x8192x16, .f32⟩
  | 101 => ⟨S8x8192x16, .f32⟩
  | 102 => ⟨S1x8192x16, .f32⟩
  | 103 => ⟨S8x8192x16, .f32⟩
  | 104 => ⟨S8x8192x16, .f32⟩
  | 105 => ⟨S8x8192x16, .f32⟩
  | 106 => ⟨S8x8192x32, .f32⟩
  | 107 => ⟨S8x8192x64, .f32⟩
  | 108 => ⟨S_, .f32⟩
  | 109 => ⟨S8x8192x64, .f32⟩
  | 110 => ⟨S8x8192x64, .f32⟩
  | 111 => ⟨S2x8192x64, .f32⟩
  | 112 => ⟨S_, .f32⟩
  | 113 => ⟨S2x8192, .f32⟩
  | 114 => ⟨S2x8192x1, .f32⟩
  | 115 => ⟨S_, .f32⟩
  | 116 => ⟨S2x8192x1, .f32⟩
  | 117 => ⟨S2x8192x1, .f32⟩
  | 118 => ⟨S_, .f32⟩
  | 119 => ⟨S2x8192x1, .f32⟩
  | 120 => ⟨S2x8192x1, .f32⟩
  | 121 => ⟨S2x8192x1, .f32⟩
  | 122 => ⟨S2x8192x64, .f32⟩
  | 123 => ⟨S2x8192x64, .f32⟩
  | 124 => ⟨S64, .f32⟩
  | 125 => ⟨S1x1x64, .f32⟩
  | 126 => ⟨S2x8192x64, .f32⟩
  | 127 => ⟨S2x8192x64, .f32⟩
  | _ => ⟨S8192x1024, .f32⟩

abbrev hbmTy0_1 (i : Nat) : BufTy := match i % 128 with
  | 0 => ⟨S2x8192x32, .f32⟩
  | 1 => ⟨S2x8192x16, .f32⟩
  | 2 => ⟨S2x8192x16, .f32⟩
  | 3 => ⟨S1x8192x16, .f32⟩
  | 4 => ⟨S2x8192x16, .f32⟩
  | 5 => ⟨S2x8192x16, .f32⟩
  | 6 => ⟨S1x8192x16, .f32⟩
  | 7 => ⟨S2x8192x16, .f32⟩
  | 8 => ⟨S2x8192x16, .f32⟩
  | 9 => ⟨S2x8192x16, .f32⟩
  | 10 => ⟨S1x8192x16, .f32⟩
  | 11 => ⟨S2x8192x16, .f32⟩
  | 12 => ⟨S2x8192x16, .f32⟩
  | 13 => ⟨S1x8192x16, .f32⟩
  | 14 => ⟨S2x8192x16, .f32⟩
  | 15 => ⟨S2x8192x16, .f32⟩
  | 16 => ⟨S2x8192x16, .f32⟩
  | 17 => ⟨S2x8192x32, .f32⟩
  | 18 => ⟨S2x8192x32, .f32⟩
  | 19 => ⟨S2x8192x16, .f32⟩
  | 20 => ⟨S2x8192x16, .f32⟩
  | 21 => ⟨S1x8192x16, .f32⟩
  | 22 => ⟨S2x8192x16, .f32⟩
  | 23 => ⟨S2x8192x16, .f32⟩
  | 24 => ⟨S1x8192x16, .f32⟩
  | 25 => ⟨S2x8192x16, .f32⟩
  | 26 => ⟨S2x8192x16, .f32⟩
  | 27 => ⟨S2x8192x16, .f32⟩
  | 28 => ⟨S1x8192x16, .f32⟩
  | 29 => ⟨S2x8192x16, .f32⟩
  | 30 => ⟨S2x8192x16, .f32⟩
  | 31 => ⟨S1x8192x16, .f32⟩
  | 32 => ⟨S2x8192x16, .f32⟩
  | 33 => ⟨S2x8192x16, .f32⟩
  | 34 => ⟨S2x8192x16, .f32⟩
  | 35 => ⟨S2x8192x32, .f32⟩
  | 36 => ⟨S2x8192x64, .f32⟩
  | 37 => ⟨S8192x384, .f32⟩
  | 38 => ⟨S_, .f32⟩
  | 39 => ⟨S8192, .f32⟩
  | 40 => ⟨S8192x1, .f32⟩
  | 41 => ⟨S_, .f32⟩
  | 42 => ⟨S8192x1, .f32⟩
  | 43 => ⟨S8192x1, .f32⟩
  | 44 => ⟨S_, .f32⟩
  | 45 => ⟨S8192x1, .f32⟩
  | 46 => ⟨S8192x1, .f32⟩
  | 47 => ⟨S8192x1, .f32⟩
  | 48 => ⟨S8192x384, .f32⟩
  | 49 => ⟨S8192x384, .f32⟩
  | 50 => ⟨S384, .f32⟩
  | 51 => ⟨S1x384, .f32⟩
  | 52 => ⟨S8192x384, .f32⟩
  | 53 => ⟨S8192x384, .f32⟩
  | 54 => ⟨S8192x256, .f32⟩
  | 55 => ⟨S_, .f32⟩
  | 56 => ⟨S8192, .f32⟩
  | 57 => ⟨S8192x1, .f32⟩
  | 58 => ⟨S_, .f32⟩
  | 59 => ⟨S8192x1, .f32⟩
  | 60 => ⟨S8192x1, .f32⟩
  | 61 => ⟨S_, .f32⟩
  | 62 => ⟨S8192x1, .f32⟩
  | 63 => ⟨S8192x1, .f32⟩
  | 64 => ⟨S8192x1, .f32⟩
  | 65 => ⟨S8192x256, .f32⟩
  | 66 => ⟨S8192x256, .f32⟩
  | 67 => ⟨S256, .f32⟩
  | 68 => ⟨S1x256, .f32⟩
  | 69 => ⟨S8192x256, .f32⟩
  | 70 => ⟨S8192x256, .f32⟩
  | 71 => ⟨S384x384, .f32⟩
  | 72 => ⟨S8192x384, .f32⟩
  | 73 => ⟨S8192x4x96, .f32⟩
  | 74 => ⟨S4x8192x96, .f32⟩
  | 75 => ⟨S256x768, .f32⟩
  | 76 => ⟨S8192x768, .f32⟩
  | 77 => ⟨S8192x4x192, .f32⟩
  | 78 => ⟨S4x8192x192, .f32⟩
  | 79 => ⟨S4x8192x128, .f32⟩
  | 80 => ⟨S4x8192x64, .f32⟩
  | 81 => ⟨S4x8192x32, .f32⟩
  | 82 => ⟨S4x8192x96, .f32⟩
  | 83 => ⟨S4x8192x96, .f32⟩
  | 84 => ⟨S_, .f32⟩
  | 85 => ⟨S4x8192, .f32⟩
  | 86 => ⟨S4x8192x1, .f32⟩
  | 87 => ⟨S_, .f32⟩
  | 88 => ⟨S4x8192x1, .f32⟩
  | 89 => ⟨S4x8192x1, .f32⟩
  | 90 => ⟨S_, .f32⟩
  | 91 => ⟨S4x8192x1, .f32⟩
  | 92 => ⟨S4x8192x1, .f32⟩
  | 93 => ⟨S4x8192x1, .f32⟩
  | 94 => ⟨S4x8192x96, .f32⟩
  | 95 => ⟨S4x8192x96, .f32⟩
  | 96 => ⟨S96, .f32⟩
  | 97 => ⟨S1x1x96, .f32⟩
  | 98 => ⟨S4x8192x96, .f32⟩
  | 99 => ⟨S4x8192x96, .f32⟩
  | 100 => ⟨S4x8192x96, .f32⟩
  | 101 => ⟨S_, .f32⟩
  | 102 => ⟨S4x8192, .f32⟩
  | 103 => ⟨S4x8192x1, .f32⟩
  | 104 => ⟨S_, .f32⟩
  | 105 => ⟨S4x8192x1, .f32⟩
  | 106 => ⟨S4x8192x1, .f32⟩
  | 107 => ⟨S_, .f32⟩
  | 108 => ⟨S4x8192x1, .f32⟩
  | 109 => ⟨S4x8192x1, .f32⟩
  | 110 => ⟨S4x8192x1, .f32⟩
  | 111 => ⟨S4x8192x96, .f32⟩
  | 112 => ⟨S4x8192x96, .f32⟩
  | 113 => ⟨S96, .f32⟩
  | 114 => ⟨S1x1x96, .f32⟩
  | 115 => ⟨S4x8192x96, .f32⟩
  | 116 => ⟨S4x8192x96, .f32⟩
  | 117 => ⟨S4x8192x64, .f32⟩
  | 118 => ⟨S4x8192x32, .f32⟩
  | 119 => ⟨S4x8192x16, .f32⟩
  | 120 => ⟨S4x8192x8, .f32⟩
  | 121 => ⟨S4x8192x8, .f32⟩
  | 122 => ⟨S1x8192x8, .f32⟩
  | 123 => ⟨S4x8192x8, .f32⟩
  | 124 => ⟨S4x8192x8, .f32⟩
  | 125 => ⟨S1x8192x8, .f32⟩
  | 126 => ⟨S4x8192x8, .f32⟩
  | 127 => ⟨S4x8192x8, .f32⟩
  | _ => ⟨S8192x1024, .f32⟩

abbrev hbmTy0_2 (i : Nat) : BufTy := match i % 128 with
  | 0 => ⟨S4x8192x8, .f32⟩
  | 1 => ⟨S1x8192x8, .f32⟩
  | 2 => ⟨S4x8192x8, .f32⟩
  | 3 => ⟨S4x8192x8, .f32⟩
  | 4 => ⟨S1x8192x8, .f32⟩
  | 5 => ⟨S4x8192x8, .f32⟩
  | 6 => ⟨S4x8192x8, .f32⟩
  | 7 => ⟨S4x8192x8, .f32⟩
  | 8 => ⟨S4x8192x16, .f32⟩
  | 9 => ⟨S4x8192x16, .f32⟩
  | 10 => ⟨S4x8192x8, .f32⟩
  | 11 => ⟨S4x8192x8, .f32⟩
  | 12 => ⟨S1x8192x8, .f32⟩
  | 13 => ⟨S4x8192x8, .f32⟩
  | 14 => ⟨S4x8192x8, .f32⟩
  | 15 => ⟨S1x8192x8, .f32⟩
  | 16 => ⟨S4x8192x8, .f32⟩
  | 17 => ⟨S4x8192x8, .f32⟩
  | 18 => ⟨S4x8192x8, .f32⟩
  | 19 => ⟨S1x8192x8, .f32⟩
  | 20 => ⟨S4x8192x8, .f32⟩
  | 21 => ⟨S4x8192x8, .f32⟩
  | 22 => ⟨S1x8192x8, .f32⟩
  | 23 => ⟨S4x8192x8, .f32⟩
  | 24 => ⟨S4x8192x8, .f32⟩
  | 25 => ⟨S4x8192x8, .f32⟩
  | 26 => ⟨S4x8192x16, .f32⟩
  | 27 => ⟨S4x8192x32, .f32⟩
  | 28 => ⟨S4x8192x96, .f32⟩
  | 29 => ⟨S_, .f32⟩
  | 30 => ⟨S4x8192x96, .f32⟩
  | 31 => ⟨S4x8192x96, .f32⟩
  | 32 => ⟨S4x8192x64, .f32⟩
  | 33 => ⟨S4x8192x32, .f32⟩
  | 34 => ⟨S4x8192x16, .f32⟩
  | 35 => ⟨S4x8192x8, .f32⟩
  | 36 => ⟨S4x8192x8, .f32⟩
  | 37 => ⟨S1x8192x8, .f32⟩
  | 38 => ⟨S4x8192x8, .f32⟩
  | 39 => ⟨S4x8192x8, .f32⟩
  | 40 => ⟨S1x8192x8, .f32⟩
  | 41 => ⟨S4x8192x8, .f32⟩
  | 42 => ⟨S4x8192x8, .f32⟩
  | 43 => ⟨S4x8192x8, .f32⟩
  | 44 => ⟨S1x8192x8, .f32⟩
  | 45 => ⟨S4x8192x8, .f32⟩
  | 46 => ⟨S4x8192x8, .f32⟩
  | 47 => ⟨S1x8192x8, .f32⟩
  | 48 => ⟨S4x8192x8, .f32⟩
  | 49 => ⟨S4x8192x8, .f32⟩
  | 50 => ⟨S4x8192x8, .f32⟩
  | 51 => ⟨S4x8192x16, .f32⟩
  | 52 => ⟨S4x8192x16, .f32⟩
  | 53 => ⟨S4x8192x8, .f32⟩
  | 54 => ⟨S4x8192x8, .f32⟩
  | 55 => ⟨S1x8192x8, .f32⟩
  | 56 => ⟨S4x8192x8, .f32⟩
  | 57 => ⟨S4x8192x8, .f32⟩
  | 58 => ⟨S1x8192x8, .f32⟩
  | 59 => ⟨S4x8192x8, .f32⟩
  | 60 => ⟨S4x8192x8, .f32⟩
  | 61 => ⟨S4x8192x8, .f32⟩
  | 62 => ⟨S1x8192x8, .f32⟩
  | 63 => ⟨S4x8192x8, .f32⟩
  | 64 => ⟨S4x8192x8, .f32⟩
  | 65 => ⟨S1x8192x8, .f32⟩
  | 66 => ⟨S4x8192x8, .f32⟩
  | 67 => ⟨S4x8192x8, .f32⟩
  | 68 => ⟨S4x8192x8, .f32⟩
  | 69 => ⟨S4x8192x16, .f32⟩
  | 70 => ⟨S4x8192x32, .f32⟩
  | 71 => ⟨S4x8192x96, .f32⟩
  | 72 => ⟨S8192x1024, .bf16⟩
  | 73 => ⟨S_, .i32⟩
  | 74 => ⟨S_, .f32⟩
  | 75 => ⟨S8x8192x128, .f32⟩
  | 76 => ⟨S8192x8x128, .f32⟩
  | 77 => ⟨S8192x1024, .f32⟩
  | 78 => ⟨S8192x1536, .f32⟩
  | 79 => ⟨S_, .i32⟩
  | 80 => ⟨S_, .f32⟩
  | 81 => ⟨S8x8192x128, .f32⟩
  | 82 => ⟨S8192x8x128, .f32⟩
  | 83 => ⟨S8192x1024, .f32⟩
  | 84 => ⟨S_, .i32⟩
  | 85 => ⟨S_, .f32⟩
  | 86 => ⟨S2x8192x128, .f32⟩
  | 87 => ⟨S8192x2x128, .f32⟩
  | 88 => ⟨S8192x256, .f32⟩
  | 89 => ⟨S8192x1920, .f32⟩
  | 90 => ⟨S_, .i32⟩
  | 91 => ⟨S_, .f32⟩
  | 92 => ⟨S4x8192x128, .f32⟩
  | 93 => ⟨S8192x4x128, .f32⟩
  | 94 => ⟨S8192x512, .f32⟩
  | 95 => ⟨S_, .i32⟩
  | 96 => ⟨S_, .f32⟩
  | 97 => ⟨S4x8192x128, .f32⟩
  | 98 => ⟨S8192x4x128, .f32⟩
  | 99 => ⟨S8192x512, .f32⟩
  | 100 => ⟨S8192x384, .bf16⟩
  | 101 => ⟨S8192x256, .bf16⟩
  | 102 => ⟨S_, .i32⟩
  | 103 => ⟨S_, .f32⟩
  | 104 => ⟨S8x8192x128, .f32⟩
  | 105 => ⟨S8x8192x128, .bf16⟩
  | 106 => ⟨S_, .i32⟩
  | 107 => ⟨S_, .f32⟩
  | 108 => ⟨S2x8192x128, .f32⟩
  | 109 => ⟨S2x8192x128, .bf16⟩
  | 110 => ⟨S_, .i32⟩
  | 111 => ⟨S_, .f32⟩
  | 112 => ⟨S2x8192x128, .f32⟩
  | 113 => ⟨S2x8192x128, .bf16⟩
  | 114 => ⟨S_, .i32⟩
  | 115 => ⟨S_, .f32⟩
  | 116 => ⟨S4x8192x128, .f32⟩
  | 117 => ⟨S4x8192x128, .bf16⟩
  | 118 => ⟨S_, .i32⟩
  | 119 => ⟨S_, .f32⟩
  | 120 => ⟨S4x8192x128, .f32⟩
  | 121 => ⟨S4x8192x128, .bf16⟩
  | 122 => ⟨S4x8192x128, .bf16⟩
  | _ => ⟨S8192x1024, .f32⟩

abbrev hbmTy (i : Nat) : BufTy := match i / 128 with
  | 0 => hbmTy0_0 i
  | 1 => hbmTy0_1 i
  | 2 => hbmTy0_2 i
  | _ => ⟨S8192x1024, .f32⟩

abbrev bufTy : (tb : Table) → Fin (tcTables nBuf tb) → BufTy
  | .hbm, ⟨i, _⟩ => hbmTy i
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_v0 : Ref sig .tc := ⟨.hbm, 19, rfl⟩
abbrev main_cst : Ref sig .tc := ⟨.hbm, 20, rfl⟩
abbrev main_v1 : Ref sig .tc := ⟨.hbm, 21, rfl⟩
abbrev main_v2 : Ref sig .tc := ⟨.hbm, 22, rfl⟩
abbrev main_cst_0 : Ref sig .tc := ⟨.hbm, 23, rfl⟩
abbrev main_v3 : Ref sig .tc := ⟨.hbm, 24, rfl⟩
abbrev main_v4 : Ref sig .tc := ⟨.hbm, 25, rfl⟩
abbrev main_cst_1 : Ref sig .tc := ⟨.hbm, 26, rfl⟩
abbrev main_v5 : Ref sig .tc := ⟨.hbm, 27, rfl⟩
abbrev main_v6 : Ref sig .tc := ⟨.hbm, 28, rfl⟩
abbrev main_v7 : Ref sig .tc := ⟨.hbm, 29, rfl⟩
abbrev main_v8 : Ref sig .tc := ⟨.hbm, 30, rfl⟩
abbrev main_v9 : Ref sig .tc := ⟨.hbm, 31, rfl⟩
abbrev main_v10 : Ref sig .tc := ⟨.hbm, 32, rfl⟩
abbrev main_v11 : Ref sig .tc := ⟨.hbm, 33, rfl⟩
abbrev main_v12 : Ref sig .tc := ⟨.hbm, 34, rfl⟩
abbrev main_v13 : Ref sig .tc := ⟨.hbm, 35, rfl⟩
abbrev main_v14 : Ref sig .tc := ⟨.hbm, 36, rfl⟩
abbrev main_v15 : Ref sig .tc := ⟨.hbm, 37, rfl⟩
abbrev main_v16 : Ref sig .tc := ⟨.hbm, 38, rfl⟩
abbrev main_v17 : Ref sig .tc := ⟨.hbm, 39, rfl⟩
abbrev main_v18 : Ref sig .tc := ⟨.hbm, 40, rfl⟩
abbrev main_v19 : Ref sig .tc := ⟨.hbm, 41, rfl⟩
abbrev main_v20 : Ref sig .tc := ⟨.hbm, 42, rfl⟩
abbrev main_v21 : Ref sig .tc := ⟨.hbm, 43, rfl⟩
abbrev main_v22 : Ref sig .tc := ⟨.hbm, 44, rfl⟩
abbrev main_v23 : Ref sig .tc := ⟨.hbm, 45, rfl⟩
abbrev main_v24 : Ref sig .tc := ⟨.hbm, 46, rfl⟩
abbrev main_v25 : Ref sig .tc := ⟨.hbm, 47, rfl⟩
abbrev main_v26 : Ref sig .tc := ⟨.hbm, 48, rfl⟩
abbrev main_v27 : Ref sig .tc := ⟨.hbm, 49, rfl⟩
abbrev main_v28 : Ref sig .tc := ⟨.hbm, 50, rfl⟩
abbrev main_v29 : Ref sig .tc := ⟨.hbm, 51, rfl⟩
abbrev main_v30 : Ref sig .tc := ⟨.hbm, 52, rfl⟩
abbrev main_v31 : Ref sig .tc := ⟨.hbm, 53, rfl⟩
abbrev main_v32 : Ref sig .tc := ⟨.hbm, 54, rfl⟩
abbrev main_cst_2 : Ref sig .tc := ⟨.hbm, 55, rfl⟩
abbrev main_v33 : Ref sig .tc := ⟨.hbm, 56, rfl⟩
abbrev main_v34 : Ref sig .tc := ⟨.hbm, 57, rfl⟩
abbrev main_cst_3 : Ref sig .tc := ⟨.hbm, 58, rfl⟩
abbrev main_v35 : Ref sig .tc := ⟨.hbm, 59, rfl⟩
abbrev main_v36 : Ref sig .tc := ⟨.hbm, 60, rfl⟩
abbrev main_cst_4 : Ref sig .tc := ⟨.hbm, 61, rfl⟩
abbrev main_v37 : Ref sig .tc := ⟨.hbm, 62, rfl⟩
abbrev main_v38 : Ref sig .tc := ⟨.hbm, 63, rfl⟩
abbrev main_v39 : Ref sig .tc := ⟨.hbm, 64, rfl⟩
abbrev main_v40 : Ref sig .tc := ⟨.hbm, 65, rfl⟩
abbrev main_v41 : Ref sig .tc := ⟨.hbm, 66, rfl⟩
abbrev main_v42 : Ref sig .tc := ⟨.hbm, 67, rfl⟩
abbrev main_v43 : Ref sig .tc := ⟨.hbm, 68, rfl⟩
abbrev main_v44 : Ref sig .tc := ⟨.hbm, 69, rfl⟩
abbrev main_v45 : Ref sig .tc := ⟨.hbm, 70, rfl⟩
abbrev main_v46 : Ref sig .tc := ⟨.hbm, 71, rfl⟩
abbrev main_v47 : Ref sig .tc := ⟨.hbm, 72, rfl⟩
abbrev main_v48 : Ref sig .tc := ⟨.hbm, 73, rfl⟩
abbrev main_v49 : Ref sig .tc := ⟨.hbm, 74, rfl⟩
abbrev main_v50 : Ref sig .tc := ⟨.hbm, 75, rfl⟩
abbrev main_v51 : Ref sig .tc := ⟨.hbm, 76, rfl⟩
abbrev main_v52 : Ref sig .tc := ⟨.hbm, 77, rfl⟩
abbrev main_v53 : Ref sig .tc := ⟨.hbm, 78, rfl⟩
abbrev main_v54 : Ref sig .tc := ⟨.hbm, 79, rfl⟩
abbrev main_v55 : Ref sig .tc := ⟨.hbm, 80, rfl⟩
abbrev main_v56 : Ref sig .tc := ⟨.hbm, 81, rfl⟩
abbrev main_v57 : Ref sig .tc := ⟨.hbm, 82, rfl⟩
abbrev main_v58 : Ref sig .tc := ⟨.hbm, 83, rfl⟩
abbrev main_v59 : Ref sig .tc := ⟨.hbm, 84, rfl⟩
abbrev main_v60 : Ref sig .tc := ⟨.hbm, 85, rfl⟩
abbrev main_v61 : Ref sig .tc := ⟨.hbm, 86, rfl⟩
abbrev main_v62 : Ref sig .tc := ⟨.hbm, 87, rfl⟩
abbrev main_v63 : Ref sig .tc := ⟨.hbm, 88, rfl⟩
abbrev main_v64 : Ref sig .tc := ⟨.hbm, 89, rfl⟩
abbrev main_v65 : Ref sig .tc := ⟨.hbm, 90, rfl⟩
abbrev main_v66 : Ref sig .tc := ⟨.hbm, 91, rfl⟩
abbrev main_v67 : Ref sig .tc := ⟨.hbm, 92, rfl⟩
abbrev main_v68 : Ref sig .tc := ⟨.hbm, 93, rfl⟩
abbrev main_v69 : Ref sig .tc := ⟨.hbm, 94, rfl⟩
abbrev main_v70 : Ref sig .tc := ⟨.hbm, 95, rfl⟩
abbrev main_v71 : Ref sig .tc := ⟨.hbm, 96, rfl⟩
abbrev main_v72 : Ref sig .tc := ⟨.hbm, 97, rfl⟩
abbrev main_v73 : Ref sig .tc := ⟨.hbm, 98, rfl⟩
abbrev main_v74 : Ref sig .tc := ⟨.hbm, 99, rfl⟩
abbrev main_v75 : Ref sig .tc := ⟨.hbm, 100, rfl⟩
abbrev main_v76 : Ref sig .tc := ⟨.hbm, 101, rfl⟩
abbrev main_v77 : Ref sig .tc := ⟨.hbm, 102, rfl⟩
abbrev main_v78 : Ref sig .tc := ⟨.hbm, 103, rfl⟩
abbrev main_v79 : Ref sig .tc := ⟨.hbm, 104, rfl⟩
abbrev main_v80 : Ref sig .tc := ⟨.hbm, 105, rfl⟩
abbrev main_v81 : Ref sig .tc := ⟨.hbm, 106, rfl⟩
abbrev main_v82 : Ref sig .tc := ⟨.hbm, 107, rfl⟩
abbrev main_cst_5 : Ref sig .tc := ⟨.hbm, 108, rfl⟩
abbrev main_v83 : Ref sig .tc := ⟨.hbm, 109, rfl⟩
abbrev main_v84 : Ref sig .tc := ⟨.hbm, 110, rfl⟩
abbrev main_v85 : Ref sig .tc := ⟨.hbm, 111, rfl⟩
abbrev main_cst_6 : Ref sig .tc := ⟨.hbm, 112, rfl⟩
abbrev main_v86 : Ref sig .tc := ⟨.hbm, 113, rfl⟩
abbrev main_v87 : Ref sig .tc := ⟨.hbm, 114, rfl⟩
abbrev main_cst_7 : Ref sig .tc := ⟨.hbm, 115, rfl⟩
abbrev main_v88 : Ref sig .tc := ⟨.hbm, 116, rfl⟩
abbrev main_v89 : Ref sig .tc := ⟨.hbm, 117, rfl⟩
abbrev main_cst_8 : Ref sig .tc := ⟨.hbm, 118, rfl⟩
abbrev main_v90 : Ref sig .tc := ⟨.hbm, 119, rfl⟩
abbrev main_v91 : Ref sig .tc := ⟨.hbm, 120, rfl⟩
abbrev main_v92 : Ref sig .tc := ⟨.hbm, 121, rfl⟩
abbrev main_v93 : Ref sig .tc := ⟨.hbm, 122, rfl⟩
abbrev main_v94 : Ref sig .tc := ⟨.hbm, 123, rfl⟩
abbrev main_v95 : Ref sig .tc := ⟨.hbm, 124, rfl⟩
abbrev main_v96 : Ref sig .tc := ⟨.hbm, 125, rfl⟩
abbrev main_v97 : Ref sig .tc := ⟨.hbm, 126, rfl⟩
abbrev main_v98 : Ref sig .tc := ⟨.hbm, 127, rfl⟩
abbrev main_v99 : Ref sig .tc := ⟨.hbm, 128, rfl⟩
abbrev main_v100 : Ref sig .tc := ⟨.hbm, 129, rfl⟩
abbrev main_v101 : Ref sig .tc := ⟨.hbm, 130, rfl⟩
abbrev main_v102 : Ref sig .tc := ⟨.hbm, 131, rfl⟩
abbrev main_v103 : Ref sig .tc := ⟨.hbm, 132, rfl⟩
abbrev main_v104 : Ref sig .tc := ⟨.hbm, 133, rfl⟩
abbrev main_v105 : Ref sig .tc := ⟨.hbm, 134, rfl⟩
abbrev main_v106 : Ref sig .tc := ⟨.hbm, 135, rfl⟩
abbrev main_v107 : Ref sig .tc := ⟨.hbm, 136, rfl⟩
abbrev main_v108 : Ref sig .tc := ⟨.hbm, 137, rfl⟩
abbrev main_v109 : Ref sig .tc := ⟨.hbm, 138, rfl⟩
abbrev main_v110 : Ref sig .tc := ⟨.hbm, 139, rfl⟩
abbrev main_v111 : Ref sig .tc := ⟨.hbm, 140, rfl⟩
abbrev main_v112 : Ref sig .tc := ⟨.hbm, 141, rfl⟩
abbrev main_v113 : Ref sig .tc := ⟨.hbm, 142, rfl⟩
abbrev main_v114 : Ref sig .tc := ⟨.hbm, 143, rfl⟩
abbrev main_v115 : Ref sig .tc := ⟨.hbm, 144, rfl⟩
abbrev main_v116 : Ref sig .tc := ⟨.hbm, 145, rfl⟩
abbrev main_v117 : Ref sig .tc := ⟨.hbm, 146, rfl⟩
abbrev main_v118 : Ref sig .tc := ⟨.hbm, 147, rfl⟩
abbrev main_v119 : Ref sig .tc := ⟨.hbm, 148, rfl⟩
abbrev main_v120 : Ref sig .tc := ⟨.hbm, 149, rfl⟩
abbrev main_v121 : Ref sig .tc := ⟨.hbm, 150, rfl⟩
abbrev main_v122 : Ref sig .tc := ⟨.hbm, 151, rfl⟩
abbrev main_v123 : Ref sig .tc := ⟨.hbm, 152, rfl⟩
abbrev main_v124 : Ref sig .tc := ⟨.hbm, 153, rfl⟩
abbrev main_v125 : Ref sig .tc := ⟨.hbm, 154, rfl⟩
abbrev main_v126 : Ref sig .tc := ⟨.hbm, 155, rfl⟩
abbrev main_v127 : Ref sig .tc := ⟨.hbm, 156, rfl⟩
abbrev main_v128 : Ref sig .tc := ⟨.hbm, 157, rfl⟩
abbrev main_v129 : Ref sig .tc := ⟨.hbm, 158, rfl⟩
abbrev main_v130 : Ref sig .tc := ⟨.hbm, 159, rfl⟩
abbrev main_v131 : Ref sig .tc := ⟨.hbm, 160, rfl⟩
abbrev main_v132 : Ref sig .tc := ⟨.hbm, 161, rfl⟩
abbrev main_v133 : Ref sig .tc := ⟨.hbm, 162, rfl⟩
abbrev main_v134 : Ref sig .tc := ⟨.hbm, 163, rfl⟩
abbrev main_v135 : Ref sig .tc := ⟨.hbm, 164, rfl⟩
abbrev main_v136 : Ref sig .tc := ⟨.hbm, 165, rfl⟩
abbrev main_cst_9 : Ref sig .tc := ⟨.hbm, 166, rfl⟩
abbrev main_v137 : Ref sig .tc := ⟨.hbm, 167, rfl⟩
abbrev main_v138 : Ref sig .tc := ⟨.hbm, 168, rfl⟩
abbrev main_cst_10 : Ref sig .tc := ⟨.hbm, 169, rfl⟩
abbrev main_v139 : Ref sig .tc := ⟨.hbm, 170, rfl⟩
abbrev main_v140 : Ref sig .tc := ⟨.hbm, 171, rfl⟩
abbrev main_cst_11 : Ref sig .tc := ⟨.hbm, 172, rfl⟩
abbrev main_v141 : Ref sig .tc := ⟨.hbm, 173, rfl⟩
abbrev main_v142 : Ref sig .tc := ⟨.hbm, 174, rfl⟩
abbrev main_v143 : Ref sig .tc := ⟨.hbm, 175, rfl⟩
abbrev main_v144 : Ref sig .tc := ⟨.hbm, 176, rfl⟩
abbrev main_v145 : Ref sig .tc := ⟨.hbm, 177, rfl⟩
abbrev main_v146 : Ref sig .tc := ⟨.hbm, 178, rfl⟩
abbrev main_v147 : Ref sig .tc := ⟨.hbm, 179, rfl⟩
abbrev main_v148 : Ref sig .tc := ⟨.hbm, 180, rfl⟩
abbrev main_v149 : Ref sig .tc := ⟨.hbm, 181, rfl⟩
abbrev main_v150 : Ref sig .tc := ⟨.hbm, 182, rfl⟩
abbrev main_cst_12 : Ref sig .tc := ⟨.hbm, 183, rfl⟩
abbrev main_v151 : Ref sig .tc := ⟨.hbm, 184, rfl⟩
abbrev main_v152 : Ref sig .tc := ⟨.hbm, 185, rfl⟩
abbrev main_cst_13 : Ref sig .tc := ⟨.hbm, 186, rfl⟩
abbrev main_v153 : Ref sig .tc := ⟨.hbm, 187, rfl⟩
abbrev main_v154 : Ref sig .tc := ⟨.hbm, 188, rfl⟩
abbrev main_cst_14 : Ref sig .tc := ⟨.hbm, 189, rfl⟩
abbrev main_v155 : Ref sig .tc := ⟨.hbm, 190, rfl⟩
abbrev main_v156 : Ref sig .tc := ⟨.hbm, 191, rfl⟩
abbrev main_v157 : Ref sig .tc := ⟨.hbm, 192, rfl⟩
abbrev main_v158 : Ref sig .tc := ⟨.hbm, 193, rfl⟩
abbrev main_v159 : Ref sig .tc := ⟨.hbm, 194, rfl⟩
abbrev main_v160 : Ref sig .tc := ⟨.hbm, 195, rfl⟩
abbrev main_v161 : Ref sig .tc := ⟨.hbm, 196, rfl⟩
abbrev main_v162 : Ref sig .tc := ⟨.hbm, 197, rfl⟩
abbrev main_v163 : Ref sig .tc := ⟨.hbm, 198, rfl⟩
abbrev main_v164 : Ref sig .tc := ⟨.hbm, 199, rfl⟩
abbrev main_v165 : Ref sig .tc := ⟨.hbm, 200, rfl⟩
abbrev main_v166 : Ref sig .tc := ⟨.hbm, 201, rfl⟩
abbrev main_v167 : Ref sig .tc := ⟨.hbm, 202, rfl⟩
abbrev main_v168 : Ref sig .tc := ⟨.hbm, 203, rfl⟩
abbrev main_v169 : Ref sig .tc := ⟨.hbm, 204, rfl⟩
abbrev main_v170 : Ref sig .tc := ⟨.hbm, 205, rfl⟩
abbrev main_v171 : Ref sig .tc := ⟨.hbm, 206, rfl⟩
abbrev main_v172 : Ref sig .tc := ⟨.hbm, 207, rfl⟩
abbrev main_v173 : Ref sig .tc := ⟨.hbm, 208, rfl⟩
abbrev main_v174 : Ref sig .tc := ⟨.hbm, 209, rfl⟩
abbrev main_v175 : Ref sig .tc := ⟨.hbm, 210, rfl⟩
abbrev main_v176 : Ref sig .tc := ⟨.hbm, 211, rfl⟩
abbrev main_cst_15 : Ref sig .tc := ⟨.hbm, 212, rfl⟩
abbrev main_v177 : Ref sig .tc := ⟨.hbm, 213, rfl⟩
abbrev main_v178 : Ref sig .tc := ⟨.hbm, 214, rfl⟩
abbrev main_cst_16 : Ref sig .tc := ⟨.hbm, 215, rfl⟩
abbrev main_v179 : Ref sig .tc := ⟨.hbm, 216, rfl⟩
abbrev main_v180 : Ref sig .tc := ⟨.hbm, 217, rfl⟩
abbrev main_cst_17 : Ref sig .tc := ⟨.hbm, 218, rfl⟩
abbrev main_v181 : Ref sig .tc := ⟨.hbm, 219, rfl⟩
abbrev main_v182 : Ref sig .tc := ⟨.hbm, 220, rfl⟩
abbrev main_v183 : Ref sig .tc := ⟨.hbm, 221, rfl⟩
abbrev main_v184 : Ref sig .tc := ⟨.hbm, 222, rfl⟩
abbrev main_v185 : Ref sig .tc := ⟨.hbm, 223, rfl⟩
abbrev main_v186 : Ref sig .tc := ⟨.hbm, 224, rfl⟩
abbrev main_v187 : Ref sig .tc := ⟨.hbm, 225, rfl⟩
abbrev main_v188 : Ref sig .tc := ⟨.hbm, 226, rfl⟩
abbrev main_v189 : Ref sig .tc := ⟨.hbm, 227, rfl⟩
abbrev main_v190 : Ref sig .tc := ⟨.hbm, 228, rfl⟩
abbrev main_cst_18 : Ref sig .tc := ⟨.hbm, 229, rfl⟩
abbrev main_v191 : Ref sig .tc := ⟨.hbm, 230, rfl⟩
abbrev main_v192 : Ref sig .tc := ⟨.hbm, 231, rfl⟩
abbrev main_cst_19 : Ref sig .tc := ⟨.hbm, 232, rfl⟩
abbrev main_v193 : Ref sig .tc := ⟨.hbm, 233, rfl⟩
abbrev main_v194 : Ref sig .tc := ⟨.hbm, 234, rfl⟩
abbrev main_cst_20 : Ref sig .tc := ⟨.hbm, 235, rfl⟩
abbrev main_v195 : Ref sig .tc := ⟨.hbm, 236, rfl⟩
abbrev main_v196 : Ref sig .tc := ⟨.hbm, 237, rfl⟩
abbrev main_v197 : Ref sig .tc := ⟨.hbm, 238, rfl⟩
abbrev main_v198 : Ref sig .tc := ⟨.hbm, 239, rfl⟩
abbrev main_v199 : Ref sig .tc := ⟨.hbm, 240, rfl⟩
abbrev main_v200 : Ref sig .tc := ⟨.hbm, 241, rfl⟩
abbrev main_v201 : Ref sig .tc := ⟨.hbm, 242, rfl⟩
abbrev main_v202 : Ref sig .tc := ⟨.hbm, 243, rfl⟩
abbrev main_v203 : Ref sig .tc := ⟨.hbm, 244, rfl⟩
abbrev main_v204 : Ref sig .tc := ⟨.hbm, 245, rfl⟩
abbrev main_v205 : Ref sig .tc := ⟨.hbm, 246, rfl⟩
abbrev main_v206 : Ref sig .tc := ⟨.hbm, 247, rfl⟩
abbrev main_v207 : Ref sig .tc := ⟨.hbm, 248, rfl⟩
abbrev main_v208 : Ref sig .tc := ⟨.hbm, 249, rfl⟩
abbrev main_v209 : Ref sig .tc := ⟨.hbm, 250, rfl⟩
abbrev main_v210 : Ref sig .tc := ⟨.hbm, 251, rfl⟩
abbrev main_v211 : Ref sig .tc := ⟨.hbm, 252, rfl⟩
abbrev main_v212 : Ref sig .tc := ⟨.hbm, 253, rfl⟩
abbrev main_v213 : Ref sig .tc := ⟨.hbm, 254, rfl⟩
abbrev main_v214 : Ref sig .tc := ⟨.hbm, 255, rfl⟩
abbrev main_v215 : Ref sig .tc := ⟨.hbm, 256, rfl⟩
abbrev main_v216 : Ref sig .tc := ⟨.hbm, 257, rfl⟩
abbrev main_v217 : Ref sig .tc := ⟨.hbm, 258, rfl⟩
abbrev main_v218 : Ref sig .tc := ⟨.hbm, 259, rfl⟩
abbrev main_v219 : Ref sig .tc := ⟨.hbm, 260, rfl⟩
abbrev main_v220 : Ref sig .tc := ⟨.hbm, 261, rfl⟩
abbrev main_v221 : Ref sig .tc := ⟨.hbm, 262, rfl⟩
abbrev main_v222 : Ref sig .tc := ⟨.hbm, 263, rfl⟩
abbrev main_v223 : Ref sig .tc := ⟨.hbm, 264, rfl⟩
abbrev main_v224 : Ref sig .tc := ⟨.hbm, 265, rfl⟩
abbrev main_v225 : Ref sig .tc := ⟨.hbm, 266, rfl⟩
abbrev main_v226 : Ref sig .tc := ⟨.hbm, 267, rfl⟩
abbrev main_v227 : Ref sig .tc := ⟨.hbm, 268, rfl⟩
abbrev main_v228 : Ref sig .tc := ⟨.hbm, 269, rfl⟩
abbrev main_v229 : Ref sig .tc := ⟨.hbm, 270, rfl⟩
abbrev main_v230 : Ref sig .tc := ⟨.hbm, 271, rfl⟩
abbrev main_v231 : Ref sig .tc := ⟨.hbm, 272, rfl⟩
abbrev main_v232 : Ref sig .tc := ⟨.hbm, 273, rfl⟩
abbrev main_v233 : Ref sig .tc := ⟨.hbm, 274, rfl⟩
abbrev main_v234 : Ref sig .tc := ⟨.hbm, 275, rfl⟩
abbrev main_v235 : Ref sig .tc := ⟨.hbm, 276, rfl⟩
abbrev main_v236 : Ref sig .tc := ⟨.hbm, 277, rfl⟩
abbrev main_v237 : Ref sig .tc := ⟨.hbm, 278, rfl⟩
abbrev main_v238 : Ref sig .tc := ⟨.hbm, 279, rfl⟩
abbrev main_v239 : Ref sig .tc := ⟨.hbm, 280, rfl⟩
abbrev main_v240 : Ref sig .tc := ⟨.hbm, 281, rfl⟩
abbrev main_v241 : Ref sig .tc := ⟨.hbm, 282, rfl⟩
abbrev main_v242 : Ref sig .tc := ⟨.hbm, 283, rfl⟩
abbrev main_v243 : Ref sig .tc := ⟨.hbm, 284, rfl⟩
abbrev main_cst_21 : Ref sig .tc := ⟨.hbm, 285, rfl⟩
abbrev main_v244 : Ref sig .tc := ⟨.hbm, 286, rfl⟩
abbrev main_v245 : Ref sig .tc := ⟨.hbm, 287, rfl⟩
abbrev main_v246 : Ref sig .tc := ⟨.hbm, 288, rfl⟩
abbrev main_v247 : Ref sig .tc := ⟨.hbm, 289, rfl⟩
abbrev main_v248 : Ref sig .tc := ⟨.hbm, 290, rfl⟩
abbrev main_v249 : Ref sig .tc := ⟨.hbm, 291, rfl⟩
abbrev main_v250 : Ref sig .tc := ⟨.hbm, 292, rfl⟩
abbrev main_v251 : Ref sig .tc := ⟨.hbm, 293, rfl⟩
abbrev main_v252 : Ref sig .tc := ⟨.hbm, 294, rfl⟩
abbrev main_v253 : Ref sig .tc := ⟨.hbm, 295, rfl⟩
abbrev main_v254 : Ref sig .tc := ⟨.hbm, 296, rfl⟩
abbrev main_v255 : Ref sig .tc := ⟨.hbm, 297, rfl⟩
abbrev main_v256 : Ref sig .tc := ⟨.hbm, 298, rfl⟩
abbrev main_v257 : Ref sig .tc := ⟨.hbm, 299, rfl⟩
abbrev main_v258 : Ref sig .tc := ⟨.hbm, 300, rfl⟩
abbrev main_v259 : Ref sig .tc := ⟨.hbm, 301, rfl⟩
abbrev main_v260 : Ref sig .tc := ⟨.hbm, 302, rfl⟩
abbrev main_v261 : Ref sig .tc := ⟨.hbm, 303, rfl⟩
abbrev main_v262 : Ref sig .tc := ⟨.hbm, 304, rfl⟩
abbrev main_v263 : Ref sig .tc := ⟨.hbm, 305, rfl⟩
abbrev main_v264 : Ref sig .tc := ⟨.hbm, 306, rfl⟩
abbrev main_v265 : Ref sig .tc := ⟨.hbm, 307, rfl⟩
abbrev main_v266 : Ref sig .tc := ⟨.hbm, 308, rfl⟩
abbrev main_v267 : Ref sig .tc := ⟨.hbm, 309, rfl⟩
abbrev main_v268 : Ref sig .tc := ⟨.hbm, 310, rfl⟩
abbrev main_v269 : Ref sig .tc := ⟨.hbm, 311, rfl⟩
abbrev main_v270 : Ref sig .tc := ⟨.hbm, 312, rfl⟩
abbrev main_v271 : Ref sig .tc := ⟨.hbm, 313, rfl⟩
abbrev main_v272 : Ref sig .tc := ⟨.hbm, 314, rfl⟩
abbrev main_v273 : Ref sig .tc := ⟨.hbm, 315, rfl⟩
abbrev main_v274 : Ref sig .tc := ⟨.hbm, 316, rfl⟩
abbrev main_v275 : Ref sig .tc := ⟨.hbm, 317, rfl⟩
abbrev main_v276 : Ref sig .tc := ⟨.hbm, 318, rfl⟩
abbrev main_v277 : Ref sig .tc := ⟨.hbm, 319, rfl⟩
abbrev main_v278 : Ref sig .tc := ⟨.hbm, 320, rfl⟩
abbrev main_v279 : Ref sig .tc := ⟨.hbm, 321, rfl⟩
abbrev main_v280 : Ref sig .tc := ⟨.hbm, 322, rfl⟩
abbrev main_v281 : Ref sig .tc := ⟨.hbm, 323, rfl⟩
abbrev main_v282 : Ref sig .tc := ⟨.hbm, 324, rfl⟩
abbrev main_v283 : Ref sig .tc := ⟨.hbm, 325, rfl⟩
abbrev main_v284 : Ref sig .tc := ⟨.hbm, 326, rfl⟩
abbrev main_v285 : Ref sig .tc := ⟨.hbm, 327, rfl⟩
abbrev main_v286 : Ref sig .tc := ⟨.hbm, 328, rfl⟩
abbrev main_c : Ref sig .tc := ⟨.hbm, 329, rfl⟩
abbrev main_call0_v0 : Ref sig .tc := ⟨.hbm, 330, rfl⟩
abbrev main_v287 : Ref sig .tc := ⟨.hbm, 331, rfl⟩
abbrev main_v288 : Ref sig .tc := ⟨.hbm, 332, rfl⟩
abbrev main_v289 : Ref sig .tc := ⟨.hbm, 333, rfl⟩
abbrev main_v290 : Ref sig .tc := ⟨.hbm, 334, rfl⟩
abbrev main_c_22 : Ref sig .tc := ⟨.hbm, 335, rfl⟩
abbrev main_call1_v0 : Ref sig .tc := ⟨.hbm, 336, rfl⟩
abbrev main_v291 : Ref sig .tc := ⟨.hbm, 337, rfl⟩
abbrev main_v292 : Ref sig .tc := ⟨.hbm, 338, rfl⟩
abbrev main_v293 : Ref sig .tc := ⟨.hbm, 339, rfl⟩
abbrev main_c_23 : Ref sig .tc := ⟨.hbm, 340, rfl⟩
abbrev main_call2_v0 : Ref sig .tc := ⟨.hbm, 341, rfl⟩
abbrev main_v294 : Ref sig .tc := ⟨.hbm, 342, rfl⟩
abbrev main_v295 : Ref sig .tc := ⟨.hbm, 343, rfl⟩
abbrev main_v296 : Ref sig .tc := ⟨.hbm, 344, rfl⟩
abbrev main_v297 : Ref sig .tc := ⟨.hbm, 345, rfl⟩
abbrev main_c_24 : Ref sig .tc := ⟨.hbm, 346, rfl⟩
abbrev main_call3_v0 : Ref sig .tc := ⟨.hbm, 347, rfl⟩
abbrev main_v298 : Ref sig .tc := ⟨.hbm, 348, rfl⟩
abbrev main_v299 : Ref sig .tc := ⟨.hbm, 349, rfl⟩
abbrev main_v300 : Ref sig .tc := ⟨.hbm, 350, rfl⟩
abbrev main_c_25 : Ref sig .tc := ⟨.hbm, 351, rfl⟩
abbrev main_call4_v0 : Ref sig .tc := ⟨.hbm, 352, rfl⟩
abbrev main_v301 : Ref sig .tc := ⟨.hbm, 353, rfl⟩
abbrev main_v302 : Ref sig .tc := ⟨.hbm, 354, rfl⟩
abbrev main_v303 : Ref sig .tc := ⟨.hbm, 355, rfl⟩
abbrev main_v304 : Ref sig .tc := ⟨.hbm, 356, rfl⟩
abbrev main_v305 : Ref sig .tc := ⟨.hbm, 357, rfl⟩
abbrev main_c_26 : Ref sig .tc := ⟨.hbm, 358, rfl⟩
abbrev main_call5_v0 : Ref sig .tc := ⟨.hbm, 359, rfl⟩
abbrev main_v306 : Ref sig .tc := ⟨.hbm, 360, rfl⟩
abbrev main_v307 : Ref sig .tc := ⟨.hbm, 361, rfl⟩
abbrev main_c_27 : Ref sig .tc := ⟨.hbm, 362, rfl⟩
abbrev main_call6_v0 : Ref sig .tc := ⟨.hbm, 363, rfl⟩
abbrev main_v308 : Ref sig .tc := ⟨.hbm, 364, rfl⟩
abbrev main_v309 : Ref sig .tc := ⟨.hbm, 365, rfl⟩
abbrev main_c_28 : Ref sig .tc := ⟨.hbm, 366, rfl⟩
abbrev main_call7_v0 : Ref sig .tc := ⟨.hbm, 367, rfl⟩
abbrev main_v310 : Ref sig .tc := ⟨.hbm, 368, rfl⟩
abbrev main_v311 : Ref sig .tc := ⟨.hbm, 369, rfl⟩
abbrev main_c_29 : Ref sig .tc := ⟨.hbm, 370, rfl⟩
abbrev main_call8_v0 : Ref sig .tc := ⟨.hbm, 371, rfl⟩
abbrev main_v312 : Ref sig .tc := ⟨.hbm, 372, rfl⟩
abbrev main_v313 : Ref sig .tc := ⟨.hbm, 373, rfl⟩
abbrev main_c_30 : Ref sig .tc := ⟨.hbm, 374, rfl⟩
abbrev main_call9_v0 : Ref sig .tc := ⟨.hbm, 375, rfl⟩
abbrev main_v314 : Ref sig .tc := ⟨.hbm, 376, rfl⟩
abbrev main_v315 : Ref sig .tc := ⟨.hbm, 377, rfl⟩
abbrev main_v316 : Ref sig .tc := ⟨.hbm, 378, rfl⟩

abbrev nD : Nat := 1
abbrev τ : Topo := Topo.v7x

variable {F : FTy → Type} [FloatOps F]
-- ==== Proof.Pos.lean ====
/- Where an element of a block lies in its array: one coordinate at a time, from the block's index. -/
module

public import Idealize.ShloMosaic.Lib.Pointwise

@[expose] public section

namespace Cert.Online

open Idealize.ShloMosaic

theorem pos2 {n0 n1 : ℕ} {p q : (⟨2, ![n0, n1]⟩ : Shape).Idx} {f : Fin 2 → ℕ} {g : Fin 2 → ℕ} (hf : f = g)
    (x0 x1 a0 a1 u0 u1 r0 r1 : ℕ)
    (h0 : (p 0).val = f 0 * a0 + 1 * u0 := by rfl) (h1 : (p 1).val = f 1 * a1 + 1 * u1 := by rfl)
    (g0 : (q 0).val = r0 := by rfl) (g1 : (q 1).val = r1 := by rfl) (e0 : x0 * a0 + 1 * u0 = r0 := by omega) (e1 : x1 * a1 + 1 * u1 = r1 := by omega)
    (hg : g = ![x0, x1] := by rfl) : p = q := by
  subst hf
  subst hg
  funext k
  apply Fin.ext
  match k with
  | ⟨0, _⟩ => exact h0.trans (e0.trans g0.symm)
  | ⟨1, _⟩ => exact h1.trans (e1.trans g1.symm)

theorem pos3 {n0 n1 n2 : ℕ} {p q : (⟨3, ![n0, n1, n2]⟩ : Shape).Idx} {f : Fin 3 → ℕ} {g : Fin 3 → ℕ} (hf : f = g)
    (x0 x1 x2 a0 a1 a2 u0 u1 u2 r0 r1 r2 : ℕ)
    (h0 : (p 0).val = f 0 * a0 + 1 * u0 := by rfl) (h1 : (p 1).val = f 1 * a1 + 1 * u1 := by rfl) (h2 : (p 2).val = f 2 * a2 + 1 * u2 := by rfl)
    (g0 : (q 0).val = r0 := by rfl) (g1 : (q 1).val = r1 := by rfl) (g2 : (q 2).val = r2 := by rfl) (e0 : x0 * a0 + 1 * u0 = r0 := by omega) (e1 : x1 * a1 + 1 * u1 = r1 := by omega) (e2 : x2 * a2 + 1 * u2 = r2 := by omega)
    (hg : g = ![x0, x1, x2] := by rfl) : p = q := by
  subst hf
  subst hg
  funext k
  apply Fin.ext
  match k with
  | ⟨0, _⟩ => exact h0.trans (e0.trans g0.symm)
  | ⟨1, _⟩ => exact h1.trans (e1.trans g1.symm)
  | ⟨2, _⟩ => exact h2.trans (e2.trans g2.symm)

theorem pos4 {n0 n1 n2 n3 : ℕ} {p q : (⟨4, ![n0, n1, n2, n3]⟩ : Shape).Idx} {f : Fin 4 → ℕ} {g : Fin 4 → ℕ} (hf : f = g)
    (x0 x1 x2 x3 a0 a1 a2 a3 u0 u1 u2 u3 r0 r1 r2 r3 : ℕ)
    (h0 : (p 0).val = f 0 * a0 + 1 * u0 := by rfl) (h1 : (p 1).val = f 1 * a1 + 1 * u1 := by rfl) (h2 : (p 2).val = f 2 * a2 + 1 * u2 := by rfl) (h3 : (p 3).val = f 3 * a3 + 1 * u3 := by rfl)
    (g0 : (q 0).val = r0 := by rfl) (g1 : (q 1).val = r1 := by rfl) (g2 : (q 2).val = r2 := by rfl) (g3 : (q 3).val = r3 := by rfl) (e0 : x0 * a0 + 1 * u0 = r0 := by omega) (e1 : x1 * a1 + 1 * u1 = r1 := by omega) (e2 : x2 * a2 + 1 * u2 = r2 := by omega) (e3 : x3 * a3 + 1 * u3 = r3 := by omega)
    (hg : g = ![x0, x1, x2, x3] := by rfl) : p = q := by
  subst hf
  subst hg
  funext k
  apply Fin.ext
  match k with
  | ⟨0, _⟩ => exact h0.trans (e0.trans g0.symm)
  | ⟨1, _⟩ => exact h1.trans (e1.trans g1.symm)
  | ⟨2, _⟩ => exact h2.trans (e2.trans g2.symm)
  | ⟨3, _⟩ => exact h3.trans (e3.trans g3.symm)

end Cert.Online

end
-- ==== Proof.Online.lean ====
/- Softmax over a row of real scores, computed block by block with a running maximum: the running sums, rescaled at
   each block, are the sums over the row, so their quotient and logarithm are the plain ones. The scores are real
   numbers; the values they weigh are extended reals. -/
module

public import Idealize.ShloMosaic.Lib.Pointwise

@[expose] public section

noncomputable section

namespace Cert.Online

open Idealize.ShloMosaic

/-- A positive real factor goes into a finite sum of extended reals. -/
theorem coe_mul_sum {ι : Type} (s : Finset ι) (r : ℝ) (hr : 0 ≤ r) (f : ι → EReal) :
    (r : EReal) * ∑ i ∈ s, f i = ∑ i ∈ s, (r : EReal) * f i := by
  classical
  induction s using Finset.induction_on with
  | empty => simp
  | insert a s ha ih =>
    rw [Finset.sum_insert ha, Finset.sum_insert ha,
      EReal.left_distrib_of_nonneg_of_ne_top (EReal.coe_nonneg.mpr hr) (EReal.coe_ne_top r), ih]

theorem coe_sum {ι : Type} (s : Finset ι) (f : ι → ℝ) : ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- The maximum of a nonempty finite family of reals, folded from `-∞`, is a real. -/
theorem fold_max_real {ι : Type} (s : Finset ι) (hs : s.Nonempty) (f : ι → ℝ) :
    ∃ M : ℝ, s.fold max (⊥ : EReal) (fun i => (f i : EReal)) = (M : EReal) := by
  classical
  induction hs using Finset.Nonempty.cons_induction with
  | singleton a => exact ⟨f a, by simp⟩
  | cons a s ha hs ih =>
    obtain ⟨M, hM⟩ := ih
    exact ⟨max (f a) M, by rw [Finset.fold_cons, hM]; exact (EReal.coe_strictMono.monotone.map_max).symm⟩

/-- The pattern of `-∞`. -/
theorem ofBits_ninf : Ideal.ofBits .f32 0xFF800000#32 = ⊥ := by
  unfold Ideal.ofBits Ideal.ieee; simp

/-- The starting maximum, `-1e30`: only that it is a real number is used. -/
def m₀ : EReal := Ideal.ofBits .f32 0xF149F2CA#32
theorem m₀_real : ∃ x : ℝ, m₀ = (x : EReal) := by
  unfold m₀ Ideal.ofBits Ideal.ieee
  dsimp only
  rw [if_neg (by decide), if_neg (by decide)]
  exact ⟨_, rfl⟩

/-- One block's new maximum. -/
def mNew {n : ℕ} (m : EReal) (s : Fin n → EReal) : EReal := max m (Finset.univ.fold max ⊥ s)
/-- One block's new normaliser. -/
def lNew {n : ℕ} (m l : EReal) (s : Fin n → EReal) : EReal :=
  Ideal.exp (m - mNew m s) * l + ∑ k, Ideal.exp (s k - mNew m s)
/-- One block's new weighted sum. -/
def aNew {n : ℕ} (m a : EReal) (s v : Fin n → EReal) : EReal :=
  Ideal.exp (m - mNew m s) * a + ∑ k, Ideal.exp (s k - mNew m s) * v k

/-- The running maximum, normaliser and weighted sum after `j` blocks. -/
def run {n : ℕ} (m₀ : EReal) (s v : ℕ → Fin n → EReal) : ℕ → EReal × EReal × EReal
  | 0 => (m₀, 0, 0)
  | j + 1 => (mNew (run m₀ s v j).1 (s j), lNew (run m₀ s v j).1 (run m₀ s v j).2.1 (s j),
      aNew (run m₀ s v j).1 (run m₀ s v j).2.2 (s j) (v j))

/-- The invariant: the sums over the blocks seen, relative to the running maximum. -/
theorem run_eq {n : ℕ} (hn : 0 < n) (m₀ : ℝ) (s : ℕ → Fin n → ℝ) (v : ℕ → Fin n → EReal) (j : ℕ) :
    ∃ M : ℝ, run (m₀ : EReal) (fun j k => (s j k : EReal)) v j
      = ((M : EReal), ((∑ i ∈ Finset.range j, ∑ k, Real.exp (s i k - M) : ℝ) : EReal),
          ∑ i ∈ Finset.range j, ∑ k, ((Real.exp (s i k - M) : ℝ) : EReal) * v i k) := by
  induction j with
  | zero => exact ⟨m₀, by simp [run]⟩
  | succ j ih =>
    obtain ⟨M, hM⟩ := ih
    obtain ⟨B, hB⟩ := fold_max_real (Finset.univ : Finset (Fin n)) ⟨⟨0, hn⟩, Finset.mem_univ _⟩ (s j)
    have hm : mNew (M : EReal) (fun k => (s j k : EReal)) = ((max M B : ℝ) : EReal) := by
      unfold mNew; rw [hB]; exact (EReal.coe_strictMono.monotone.map_max).symm
    refine ⟨max M B, ?_⟩
    simp only [run, hM]
    unfold lNew aNew
    rw [hm]
    generalize max M B = N
    have he : ∀ x : ℝ, Ideal.exp ((x : EReal) - (N : EReal)) = ((Real.exp (x - N) : ℝ) : EReal) := fun x => by
      rw [← EReal.coe_sub, Ideal.exp_coe]
    have hx : ∀ x : ℝ, Real.exp (M - N) * Real.exp (x - M) = Real.exp (x - N) := fun x => by
      rw [← Real.exp_add]; congr 1; ring
    simp only [he]
    refine Prod.ext rfl (Prod.ext ?_ ?_)
    · dsimp only
      rw [← coe_sum, ← EReal.coe_mul, ← EReal.coe_add, Finset.sum_range_succ, Finset.mul_sum]
      simp only [Finset.mul_sum, hx]
    · dsimp only
      rw [Finset.sum_range_succ, coe_mul_sum _ _ (Real.exp_pos _).le]
      simp only [coe_mul_sum _ _ (Real.exp_pos _).le, ← mul_assoc, ← EReal.coe_mul, hx]

/-- The plain normaliser of `j` blocks of scores. -/
def Z {n : ℕ} (s : ℕ → Fin n → ℝ) (j : ℕ) : ℝ := ∑ i ∈ Finset.range j, ∑ k, Real.exp (s i k)

theorem Z_pos {n : ℕ} (hn : 0 < n) (s : ℕ → Fin n → ℝ) (j : ℕ) (hj : 0 < j) : 0 < Z s j := by
  haveI : Nonempty (Fin n) := ⟨⟨0, hn⟩⟩
  exact Finset.sum_pos (fun i _ => Finset.sum_pos (fun k _ => Real.exp_pos _) Finset.univ_nonempty)
    ⟨0, Finset.mem_range.mpr hj⟩

/-- What the kernel stores after the last block: the weights' quotients and the normaliser's logarithm are the plain
    ones, whatever the maximum was. -/
theorem run_out {n : ℕ} (hn : 0 < n) (m₀ : ℝ) (s : ℕ → Fin n → ℝ) (v : ℕ → Fin n → EReal) (j : ℕ) (hj : 0 < j) :
    (run (m₀ : EReal) (fun j k => (s j k : EReal)) v j).2.2
        * Ideal.div 1 (run (m₀ : EReal) (fun j k => (s j k : EReal)) v j).2.1
      = ∑ i ∈ Finset.range j, ∑ k, ((Real.exp (s i k) / Z s j : ℝ) : EReal) * v i k := by
  obtain ⟨M, hM⟩ := run_eq hn m₀ s v j
  have hp := Z_pos hn s j hj
  have hL : (∑ i ∈ Finset.range j, ∑ k, Real.exp (s i k - M)) = Z s j * Real.exp (-M) := by
    unfold Z; simp only [Finset.sum_mul, ← Real.exp_add, sub_eq_add_neg]
  have h0 : Z s j * Real.exp (-M) ≠ 0 := mul_ne_zero hp.ne' (Real.exp_pos _).ne'
  rw [hM]
  simp only
  rw [hL, Ideal.div_coe h0, one_mul, mul_comm, coe_mul_sum _ _ (by positivity)]
  simp only [coe_mul_sum _ _ (show (0 : ℝ) ≤ 1 / (Z s j * Real.exp (-M)) by positivity), ← mul_assoc, ← EReal.coe_mul]
  refine Finset.sum_congr rfl fun i _ => Finset.sum_congr rfl fun k _ => ?_
  congr 2
  rw [sub_eq_add_neg, Real.exp_add]
  field_simp

theorem run_lse {n : ℕ} (hn : 0 < n) (m₀ : ℝ) (s : ℕ → Fin n → ℝ) (v : ℕ → Fin n → EReal) (j : ℕ) (hj : 0 < j) :
    (run (m₀ : EReal) (fun j k => (s j k : EReal)) v j).1
        + Ideal.log (run (m₀ : EReal) (fun j k => (s j k : EReal)) v j).2.1
      = ((Real.log (Z s j) : ℝ) : EReal) := by
  obtain ⟨M, hM⟩ := run_eq hn m₀ s v j
  have hp := Z_pos hn s j hj
  have hL : (∑ i ∈ Finset.range j, ∑ k, Real.exp (s i k - M)) = Z s j * Real.exp (-M) := by
    unfold Z; simp only [Finset.sum_mul, ← Real.exp_add, sub_eq_add_neg]
  rw [hM]
  simp only
  rw [hL, Ideal.log_coe, if_neg (not_le.mpr (by positivity)), ← EReal.coe_add,
    Real.log_mul hp.ne' (Real.exp_pos _).ne', Real.log_exp]
  congr 1; ring

/-- The plain softmax of a row of real scores, the row's maximum subtracted first. -/
theorem softmax_eq {n : ℕ} (hn : 0 < n) (s : Fin n → ℝ) (k : Fin n) :
    Ideal.div (Ideal.exp ((s k : EReal) - max ⊥ (Finset.univ.fold max ⊥ fun i => (s i : EReal))))
        (∑ i, Ideal.exp ((s i : EReal) - max ⊥ (Finset.univ.fold max ⊥ fun i => (s i : EReal))))
      = ((Real.exp (s k) / ∑ i, Real.exp (s i) : ℝ) : EReal) := by
  haveI : Nonempty (Fin n) := ⟨⟨0, hn⟩⟩
  obtain ⟨B, hB⟩ := fold_max_real (Finset.univ : Finset (Fin n)) Finset.univ_nonempty s
  rw [hB, max_eq_right bot_le]
  have he : ∀ x : ℝ, Ideal.exp ((x : EReal) - (B : EReal)) = ((Real.exp (x - B) : ℝ) : EReal) := fun x => by
    rw [← EReal.coe_sub, Ideal.exp_coe]
  simp only [he]
  have hp : 0 < ∑ i, Real.exp (s i) := Finset.sum_pos (fun i _ => Real.exp_pos _) Finset.univ_nonempty
  have hL : (∑ i, Real.exp (s i - B)) = (∑ i, Real.exp (s i)) * Real.exp (-B) := by
    simp only [Finset.sum_mul, ← Real.exp_add, sub_eq_add_neg]
  have h0 : (∑ i, Real.exp (s i)) * Real.exp (-B) ≠ 0 := mul_ne_zero hp.ne' (Real.exp_pos _).ne'
  rw [← coe_sum, hL, Ideal.div_coe h0, ← EReal.coe_mul]
  congr 1
  rw [sub_eq_add_neg, Real.exp_add]
  field_simp

/-- The logarithm of the sum of the exponentials of a row of real scores. -/
theorem lse_eq {n : ℕ} (hn : 0 < n) (s : Fin n → ℝ) :
    Ideal.log (∑ i, Ideal.exp (s i : EReal)) = ((Real.log (∑ i, Real.exp (s i)) : ℝ) : EReal) := by
  haveI : Nonempty (Fin n) := ⟨⟨0, hn⟩⟩
  have hp : 0 < ∑ i, Real.exp (s i) := Finset.sum_pos (fun i _ => Real.exp_pos _) Finset.univ_nonempty
  simp only [Ideal.exp_coe]
  rw [← coe_sum, Ideal.log_coe, if_neg (not_le.mpr hp)]

/-- Position `k` of block `j`, of 16 blocks of 512. -/
abbrev at512 (j : ℕ) (hj : j < 16) (k : Fin 512) : Fin 8192 := ⟨512 * j + k.val, by have := k.isLt; omega⟩

/-- A sum over 8192 positions is the sum over the 16 blocks of the sums over their 512. -/
theorem sum_blocks {M : Type} [AddCommMonoid M] (f : Fin 8192 → M) :
    ∑ t, f t = ∑ j : Fin 16, ∑ k : Fin 512, f (at512 j.val j.isLt k) := by
  rw [← Fintype.sum_prod_type', ← (finProdFinEquiv (m := 16) (n := 512)).sum_comp]
  refine Finset.sum_congr rfl fun p _ => congrArg f (Fin.ext ?_)
  show p.2.val + 512 * p.1.val = 512 * p.1.val + p.2.val
  omega

/-- … the blocks numbered by naturals, whatever stands past the last. -/
theorem sum_blocks_range {M : Type} [AddCommMonoid M] (f : Fin 8192 → M) (g : ℕ → Fin 512 → M)
    (h : ∀ (j : ℕ) (hj : j < 16) (k : Fin 512), g j k = f (at512 j hj k)) :
    ∑ t, f t = ∑ j ∈ Finset.range 16, ∑ k : Fin 512, g j k := by
  rw [sum_blocks, Finset.sum_range]
  exact Finset.sum_congr rfl fun j _ => Finset.sum_congr rfl fun k _ => (h j.val j.isLt k).symm

end Cert.Online

end
-- ==== Proof.FwdABlock.lean ====
/- What one grid point of the forward attention kernel leaves in its two output blocks, element by element. -/
module

public import proofs.«01_k».proof.Proof.Online
public import proofs.«01_k».proof.Proof.Gen.FwdAIdeal.Frame
public import Idealize.ShloMosaic.Lib.Pointwise

@[expose] public section

set_option maxRecDepth 16384

noncomputable section

namespace Cert.FwdAIdeal.Block

open Cert.FwdAIdeal Cert.FwdAIdeal.Gen Idealize.ShloMosaic Idealize.ShloMosaic.TcCoe Cert.Online

/-- The scores of a block of queries against a block of 512 keys. -/
def scb (q k : Vec Ideal S1x512x128 .bf16) (r : Fin 512) (c : Fin 512) : EReal :=
  ∑ d : Fin 128, (q (ix3 0 r d) : EReal) * (k (ix3 0 c d) : EReal)

theorem pay5_apply (q k : Vec Ideal S1x512x128 .bf16) (m : FVec Ideal S512x1 .f32) (r : Fin 512) :
    k0_pay5 q m k (ix2 r 0) = mNew (m (ix2 r 0)) (scb q k r) := by
  pointwise [k0_pay5, k0_pay4, mNew, scb]
  rw [ofBits_ninf]

theorem pay8_apply (q k : Vec Ideal S1x512x128 .bf16) (m l : FVec Ideal S512x1 .f32) (r : Fin 512) :
    k0_pay8 q m l k (ix2 r 0) = lNew (m (ix2 r 0)) (l (ix2 r 0)) (scb q k r) := by
  pointwise [k0_pay8, k0_pay7, k0_pay6, k0_pay5, k0_pay4, lNew, mNew, scb]
  rw [ofBits_ninf]

theorem pay9_apply (q k v : Vec Ideal S1x512x128 .bf16) (m : FVec Ideal S512x1 .f32) (a : FVec Ideal S512x128 .f32)
    (r : Fin 512) (d : Fin 128) :
    k0_pay9 q m a k v (ix2 r d)
      = aNew (m (ix2 r 0)) (a (ix2 r d)) (scb q k r) (fun c => v (ix3 0 c d)) := by
  pointwise [k0_pay9, k0_pay7, k0_pay6, k0_pay5, k0_pay4, aNew, mNew, scb]
  rw [ofBits_ninf]

theorem pay10_apply (l : FVec Ideal S512x1 .f32) (a : FVec Ideal S512x128 .f32) (r : Fin 512) (d : Fin 128) :
    k0_pay10 l a (ix3 0 r d) = a (ix2 r d) * Ideal.div 1 (l (ix2 r 0)) := by
  pointwise [k0_pay10]

theorem pay11_apply (m l : FVec Ideal S512x1 .f32) (r : Fin 512) :
    k0_pay11 m l (ix3 0 r 0) = m (ix2 r 0) + Ideal.log (l (ix2 r 0)) := by
  pointwise [k0_pay11]

theorem pay1_apply (r : Fin 512) : k0_pay1 (F := Ideal) (ix2 r 0) = m₀ := by
  pointwise [k0_pay1]
  rfl

theorem pay2_apply (r : Fin 512) : k0_pay2 (F := Ideal) (ix2 r 0) = 0 := by
  pointwise [k0_pay2]

theorem pay3_apply (r : Fin 512) (d : Fin 128) : k0_pay3 (F := Ideal) (ix2 r d) = 0 := by
  pointwise [k0_pay3]

theorem hz : (![0, 0, 0] : Fin 3 → Nat) = fun _ => 0 := funext fun a => by fin_cases a <;> rfl

/-- The scores of query row `r` against key block `j` (zero past the last block). -/
def sc (q : Vec Ideal S1x512x128 .bf16) (k : Vec Ideal S1x8192x128 .bf16) (r : Fin 512) (j : ℕ) (x : Fin 512) : EReal :=
  if h : j < 16 then ∑ d : Fin 128, (q (ix3 0 r d) : EReal) * (k (ix3 0 (at512 j h x) d) : EReal) else 0
/-- Column `d` of value block `j` (zero past the last block). -/
def vc (v : Vec Ideal S1x8192x128 .bf16) (d : Fin 128) (j : ℕ) (x : Fin 512) : EReal :=
  if h : j < 16 then v (ix3 0 (at512 j h x) d) else 0

variable (c : Dev nD) (i : grid0.Coords) (arg2 : Memref sig .tc .vmem S1x512x128 .bf16) (h2 : arg2.IsWhole)
  (arg3 : Memref sig .tc .vmem S1x8192x128 .bf16) (h3 : arg3.IsWhole) (arg4 : Memref sig .tc .vmem S1x8192x128 .bf16) (h4 : arg4.IsWhole)
  (arg5 : Memref sig .tc .vmem S1x512x128 .f32) (h5 : arg5.IsWhole) (arg6 : Memref sig .tc .vmem S1x512x1 .f32) (h6 : arg6.IsWhole)
  (q : Vec Ideal S1x512x128 .bf16) (k v : Vec Ideal S1x8192x128 .bf16)

theorem trips_eq : k0_t1_loop.trips = 16 := by decide +kernel

/-- The 512 rows a trip loads. -/
theorem ld_apply (k' : Fin k0_t1_loop.trips) (h : ∀ a, k0_off1 k' a + (![1, 512, 128] : Fin 3 → ℕ) a ≤ S1x8192x128.size a)
    (hk : k'.val < 16) (x : Fin 512) (d : Fin 128) :
    (View.ld k (Rect.unit (s := S1x8192x128) (k0_off1 k') ![1, 512, 128] h) : Vec Ideal S1x512x128 .bf16) (ix3 0 x d)
      = k (ix3 0 (at512 k'.val hk x) d) := by
  have e := k0_off1_eq k'
  unfold View.ld
  congr 1
  funext a
  apply Fin.ext
  match a with
  | ⟨0, _⟩ => show k0_off1 k' 0 + 1 * 0 = 0
              rw [e]; rfl
  | ⟨1, _⟩ => show k0_off1 k' 1 + 1 * x.val = 512 * k'.val + x.val
              rw [e]; show 512 * k'.val + 1 * x.val = 512 * k'.val + x.val; omega
  | ⟨2, _⟩ => show k0_off1 k' 2 + 1 * d.val = d.val
              rw [e]; show 0 + 1 * d.val = d.val; omega

theorem trip_eq (k' : Fin k0_t1_loop.trips) (acc : FVec Ideal S512x1 .f32 × FVec Ideal S512x1 .f32 × FVec Ideal S512x128 .f32) :
    tripR_k0_t1 (F := Ideal) Variants.none c none i arg2 h2 arg3 h3 arg4 h4 arg5 h5 arg6 h6 q (h3.unread k) (h4.unread v) k' acc
      = (k0_pay5 q acc.1 (View.ld k (Rect.unit (s := S1x8192x128) (k0_off1 k') S1x512x128.size (k0_off1_inb k'))),
        k0_pay8 q acc.1 acc.2.1 (View.ld k (Rect.unit (s := S1x8192x128) (k0_off1 k') S1x512x128.size (k0_off1_inb k'))),
        k0_pay9 q acc.1 acc.2.2 (View.ld k (Rect.unit (s := S1x8192x128) (k0_off1 k') S1x512x128.size (k0_off1_inb k')))
          (View.ld v (Rect.unit (s := S1x8192x128) (k0_off1 k') S1x512x128.size (k0_off1_inb k')))) := by
  unfold tripR_k0_t1 trip_k0_t1
  dsimp only
  simp only [View.readAt_eq_ld, h3.read_unread, h4.read_unread]

/-- The state after `n` trips. -/
abbrev stn (n : ℕ) := st_k0_t1 (F := Ideal) Variants.none c none i arg2 h2 arg3 h3 arg4 h4 arg5 h5 arg6 h6 q (h3.unread k) (h4.unread v)
  (k0_pay1, k0_pay2, k0_pay3) n

/-- After `n` trips the carried vectors are, row by row, the running state of the row. -/
theorem st_eq (n : ℕ) (hn : n ≤ 16) (r : Fin 512) (d : Fin 128) :
    (stn c i arg2 h2 arg3 h3 arg4 h4 arg5 h5 arg6 h6 q k v n).1 (ix2 r 0) = (run m₀ (sc q k r) (vc v d) n).1
    ∧ (stn c i arg2 h2 arg3 h3 arg4 h4 arg5 h5 arg6 h6 q k v n).2.1 (ix2 r 0) = (run m₀ (sc q k r) (vc v d) n).2.1
    ∧ (stn c i arg2 h2 arg3 h3 arg4 h4 arg5 h5 arg6 h6 q k v n).2.2 (ix2 r d) = (run m₀ (sc q k r) (vc v d) n).2.2 := by
  induction n with
  | zero => exact ⟨pay1_apply r, pay2_apply r, pay3_apply r d⟩
  | succ n ih =>
    have hn' : n < 16 := hn
    obtain ⟨e1, e2, e3⟩ := ih hn'.le
    have ht : n < k0_t1_loop.trips := by rw [trips_eq]; exact hn'
    have hs := st_k0_t1_succ (F := Ideal) Variants.none c none i arg2 h2 arg3 h3 arg4 h4 arg5 h5 arg6 h6 q (h3.unread k) (h4.unread v)
      (k0_pay1, k0_pay2, k0_pay3) ⟨n, ht⟩
    rw [trip_eq] at hs
    have hsc : scb q (View.ld k (Rect.unit (s := S1x8192x128) (k0_off1 ⟨n, ht⟩) S1x512x128.size (k0_off1_inb ⟨n, ht⟩))) r = sc q k r n := by
      funext x
      unfold scb sc
      rw [dif_pos hn']
      exact Finset.sum_congr rfl fun d _ => congrArg _ (ld_apply k ⟨n, ht⟩ _ hn' x d)
    have hvc : (fun x => View.ld v (Rect.unit (s := S1x8192x128) (k0_off1 ⟨n, ht⟩) S1x512x128.size (k0_off1_inb ⟨n, ht⟩)) (ix3 0 x d)) = vc v d n := by
      funext x
      unfold vc
      rw [dif_pos hn']
      exact ld_apply v ⟨n, ht⟩ _ hn' x d
    unfold stn
    rw [show n + 1 = (⟨n, ht⟩ : Fin k0_t1_loop.trips).val + 1 from rfl, hs]
    refine ⟨?_, ?_, ?_⟩
    · dsimp only; rw [pay5_apply, hsc, e1]; rfl
    · dsimp only; rw [pay8_apply, hsc, e1, e2]; rfl
    · dsimp only; rw [pay9_apply, hsc, hvc, e1, e3]; rfl

/-- The output block, element by element. -/
theorem out3_apply (r : Fin 512) (d : Fin 128) :
    out0_A_3 c i arg2 h2 arg3 h3 arg4 h4 arg5 h5 arg6 h6 q k v (ix3 0 r d)
      = (run m₀ (sc q k r) (vc v d) 16).2.2 * Ideal.div 1 (run m₀ (sc q k r) (vc v d) 16).2.1 := by
  unfold out0_A_3
  rw [View.read_writes_eq_canon _ _ _ (cover0_A_3 c i arg2 h2 arg3 h3 arg4 h4 arg5 h5 arg6 h6 q k v)]
  unfold kernelRun0_A
  dsimp only
  rw [View.canon_unit_zero hz, pay10_apply]
  simp only [View.readAt_eq_ld, h2.read_unread, View.ld_unit_zero (S := S1x512x128) hz]
  have h := st_eq c i arg2 h2 arg3 h3 arg4 h4 arg5 h5 arg6 h6 q k v 16 le_rfl r d
  rw [show Scf.trips (0#32) (Scalar.addi 0#32 16#32) 1#32 = 16 from trips_eq]
  exact congrArg₂ (fun a b => a * Ideal.div 1 b) h.2.2 h.2.1

/-- The block of logarithms, row by row (whatever the column of values). -/
theorem out4_apply (r : Fin 512) (d : Fin 128) :
    out0_A_4 c i arg2 h2 arg3 h3 arg4 h4 arg5 h5 arg6 h6 q k v (ix3 0 r 0)
      = (run m₀ (sc q k r) (vc v d) 16).1 + Ideal.log (run m₀ (sc q k r) (vc v d) 16).2.1 := by
  unfold out0_A_4
  rw [View.read_writes_eq_canon _ _ _ (cover0_A_4 c i arg2 h2 arg3 h3 arg4 h4 arg5 h5 arg6 h6 q k v)]
  unfold kernelRun0_A
  dsimp only
  rw [View.canon_unit_zero hz, pay11_apply]
  simp only [View.readAt_eq_ld, h2.read_unread, View.ld_unit_zero (S := S1x512x128) hz]
  have h := st_eq c i arg2 h2 arg3 h3 arg4 h4 arg5 h5 arg6 h6 q k v 16 le_rfl r d
  rw [show Scf.trips (0#32) (Scalar.addi 0#32 16#32) 1#32 = 16 from trips_eq]
  exact congrArg₂ (fun a b => a + Ideal.log b) h.1 h.2.1

end Cert.FwdAIdeal.Block

end
-- ==== Proof.FwdAArray.lean ====
/- The result arrays of the forward attention kernel, element by element, from the arrays it is given. -/
module

public import proofs.«01_k».proof.Proof.Pos
public import proofs.«01_k».proof.Proof.FwdABlock
public import proofs.«01_k».proof.Proof.Gen.FwdAIdeal.Value

@[expose] public section

set_option maxRecDepth 16384

noncomputable section

namespace Cert.FwdAIdeal.Block

open Cert.FwdAIdeal Cert.FwdAIdeal.Gen Idealize.ShloMosaic Idealize.ShloMosaic.TcCoe Cert.Online

variable (m : (ℓ : Loc nD τ sig) → Buf (Elt Ideal) ℓ) (c : Dev nD)

/-- The three arguments as arrays. -/
abbrev argQ : FVec Ideal S8x8192x128 .bf16 := m (c.tc.loc main_arg0)
abbrev argK : FVec Ideal S2x8192x128 .bf16 := m (c.tc.loc main_arg1)
abbrev argV : FVec Ideal S2x8192x128 .bf16 := m (c.tc.loc main_arg2)

theorem idx0 : ∀ t : Fin cfg0.N, win0_0.index t = ![t.val / 16, t.val % 16, 0] := by decide +kernel
theorem idx1 : ∀ t : Fin cfg0.N, win0_1.index t = ![t.val / 16 / 4, 0, 0] := by decide +kernel
theorem idx2 : ∀ t : Fin cfg0.N, win0_2.index t = ![t.val / 16 / 4, 0, 0] := by decide +kernel
theorem idx3 : ∀ t : Fin cfg0.N, win0_3.index t = ![t.val / 16, t.val % 16, 0] := by decide +kernel
theorem idx4 : ∀ t : Fin cfg0.N, win0_4.index t = ![t.val / 16, t.val % 16, 0] := by decide +kernel

/-- The grid point of head `h` and row `s`. -/
abbrev pt (h : Fin 8) (s : Fin 8192) : Fin cfg0.N :=
  ⟨16 * h.val + s.val / 512, by rw [show cfg0.N = 128 from N_0]; have := h.isLt; have := s.isLt; omega⟩
/-- A row's place in its block. -/
abbrev row (s : Fin 8192) : Fin 512 := ⟨s.val % 512, Nat.mod_lt _ (by decide)⟩
/-- A query head's key head. -/
abbrev kvh (h : Fin 8) : Fin 2 := ⟨h.val / 4, by have := h.isLt; omega⟩

theorem iblk0_apply (h : Fin 8) (s : Fin 8192) (d : Fin 128) :
    (iblk m c 0 (pt h s) : Vec Ideal S1x512x128 .bf16) (ix3 0 (row s) d) = argQ m c (ix3 h s d) := by
  unfold iblk
  rw [View.read_apply]
  show V m c main_arg0 _ = m (c.tc.loc main_arg0) _
  unfold V
  congr 1
  have h1 := h.isLt
  have h2 := s.isLt
  exact pos3 (idx0 (pt h s)) ((16 * h.val + s.val / 512) / 16) ((16 * h.val + s.val / 512) % 16) 0 1 512 128 0 (s.val % 512) d.val h.val s.val d.val rfl rfl rfl rfl rfl rfl (by omega) (by omega) (by omega)

theorem iblk1_apply (h : Fin 8) (s x : Fin 8192) (d : Fin 128) :
    (iblk m c 1 (pt h s) : Vec Ideal S1x8192x128 .bf16) (ix3 0 x d) = argK m c (ix3 (kvh h) x d) := by
  unfold iblk
  rw [View.read_apply]
  show V m c main_arg1 _ = m (c.tc.loc main_arg1) _
  unfold V
  congr 1
  have h1 := h.isLt
  have h2 := s.isLt
  exact pos3 (idx1 (pt h s)) ((16 * h.val + s.val / 512) / 16 / 4) 0 0 1 8192 128 0 x.val d.val (h.val / 4) x.val d.val rfl rfl rfl rfl rfl rfl (by omega) (by omega) (by omega)

theorem iblk2_apply (h : Fin 8) (s x : Fin 8192) (d : Fin 128) :
    (iblk m c 2 (pt h s) : Vec Ideal S1x8192x128 .bf16) (ix3 0 x d) = argV m c (ix3 (kvh h) x d) := by
  unfold iblk
  rw [View.read_apply]
  show V m c main_arg2 _ = m (c.tc.loc main_arg2) _
  unfold V
  congr 1
  have h1 := h.isLt
  have h2 := s.isLt
  exact pos3 (idx2 (pt h s)) ((16 * h.val + s.val / 512) / 16 / 4) 0 0 1 8192 128 0 x.val d.val (h.val / 4) x.val d.val rfl rfl rfl rfl rfl rfl (by omega) (by omega) (by omega)

/-- The score of query row `s` of head `h` against key `x`. -/
def score (h : Fin 8) (s x : Fin 8192) : EReal :=
  ∑ d : Fin 128, (argQ m c (ix3 h s d) : EReal) * (argK m c (ix3 (kvh h) x d) : EReal)
/-- The scores by blocks of 512 keys, zero past the last. -/
def scoreB (h : Fin 8) (s : Fin 8192) (j : ℕ) (x : Fin 512) : EReal :=
  if hj : j < 16 then score m c h s (at512 j hj x) else 0
/-- The values of column `d` by blocks of 512 keys, zero past the last. -/
def valB (h : Fin 8) (d : Fin 128) (j : ℕ) (x : Fin 512) : EReal :=
  if hj : j < 16 then argV m c (ix3 (kvh h) (at512 j hj x) d) else 0

theorem sc_eq (h : Fin 8) (s : Fin 8192) :
    sc (iblk m c 0 (pt h s)) (iblk m c 1 (pt h s)) (row s) = scoreB m c h s := by
  funext j x
  unfold sc scoreB score
  by_cases hj : j < 16
  · rw [dif_pos hj, dif_pos hj]
    exact Finset.sum_congr rfl fun d _ => congrArg₂ _ (iblk0_apply m c h s d) (iblk1_apply m c h s _ d)
  · rw [dif_neg hj, dif_neg hj]

theorem vc_eq (h : Fin 8) (s : Fin 8192) (d : Fin 128) : vc (iblk m c 2 (pt h s)) d = valB m c h d := by
  funext j x
  unfold vc valB
  by_cases hj : j < 16
  · rw [dif_pos hj, dif_pos hj]; exact iblk2_apply m c h s _ d
  · rw [dif_neg hj, dif_neg hj]

/-- The first result array. -/
theorem final3 (h : Fin 8) (s : Fin 8192) (d : Fin 128) :
    ((dats m 0 c).arrAt 3 cfg0.N : FVec Ideal S8x8192x128 .f32) (ix3 h s d)
      = (run m₀ (scoreB m c h s) (valB m c h d) 16).2.2 * Ideal.div 1 (run m₀ (scoreB m c h s) (valB m c h d) 16).2.1 := by
  have hb := congrFun (Value.blocks3 m c (pt h s) (flush0_3 _)) (ix3 0 (row s) d)
  rw [Value.flushed3_A] at hb
  refine Eq.trans ?_ (hb.trans ?_)
  · rw [View.read_apply]
    congr 1
    have h1 := h.isLt
    have h2 := s.isLt
    exact (pos3 (idx3 (pt h s)) ((16 * h.val + s.val / 512) / 16) ((16 * h.val + s.val / 512) % 16) 0 1 512 128 0 (s.val % 512) d.val h.val s.val d.val rfl rfl rfl rfl rfl rfl (by omega) (by omega) (by omega)).symm
  · rw [← sc_eq m c h s, ← vc_eq m c h s d]
    exact out3_apply c (grid0.coords (pt h s)) _ _ _ _ _ _ _ _ _ _ _ _ _ (row s) d

/-- The second result array. -/
theorem final4 (h : Fin 8) (s : Fin 8192) (d : Fin 128) :
    ((dats m 0 c).arrAt 4 cfg0.N : FVec Ideal S8x8192x1 .f32) (ix3 h s 0)
      = (run m₀ (scoreB m c h s) (valB m c h d) 16).1 + Ideal.log (run m₀ (scoreB m c h s) (valB m c h d) 16).2.1 := by
  have hb := congrFun (Value.blocks4 m c (pt h s) (flush0_4 _)) (ix3 0 (row s) 0)
  rw [Value.flushed4_A] at hb
  refine Eq.trans ?_ (hb.trans ?_)
  · rw [View.read_apply]
    congr 1
    have h1 := h.isLt
    have h2 := s.isLt
    exact (pos3 (idx4 (pt h s)) ((16 * h.val + s.val / 512) / 16) ((16 * h.val + s.val / 512) % 16) 0 1 512 1 0 (s.val % 512) 0 h.val s.val 0 rfl rfl rfl rfl rfl rfl (by omega) (by omega) (by omega)).symm
  · rw [← sc_eq m c h s, ← vc_eq m c h s d]
    exact out4_apply c (grid0.coords (pt h s)) _ _ _ _ _ _ _ _ _ _ _ _ _ (row s) d

end Cert.FwdAIdeal.Block

end
-- ==== Proof.FwdARefVal.lean ====
/- The forward attention reference, element by element. -/
module

public import proofs.«01_k».proof.Proof.Online
public import proofs.«01_k».proof.Proof.Gen.FwdARefIdeal.Run
public import Idealize.ShloMosaic.Lib.Pointwise

@[expose] public section

set_option maxRecDepth 16384

noncomputable section

namespace Cert.FwdARefIdeal.Val

open Cert.FwdARefIdeal Cert.FwdARefIdeal.Gen Idealize.ShloMosaic Idealize.ShloMosaic.TcCoe Cert.Online

variable (q : FVec Ideal S8x8192x128 .bf16) (k v : FVec Ideal S2x8192x128 .bf16)

/-- The scores. -/
def sArr : FVec Ideal S2x4x8192x8192 .f32 :=
  Host.dotGeneral dot_S2x4x8192x128_S2x8192x128_S2x4x8192x8192_3_2_12_1_0_0 none (shapeCast _ (extf .f32 q bitsLt_bf16_f32) shapeCasts_S8x8192x128_S2x4x8192x128) (extf .f32 k bitsLt_bf16_f32)

theorem sArr_apply (b : Fin 2) (g : Fin 4) (s x : Fin 8192) :
    sArr q k (ix4 b g s x) = ∑ d : Fin 128, (q (ix3 ⟨4 * b.val + g.val, by omega⟩ s d) : EReal) * (k (ix3 b x d) : EReal) := by
  pointwise [sArr]
  simp only [mul_comm b.val 4]

/-- The row maxima. -/
def mxArr (s : FVec Ideal S2x4x8192x8192 .f32) : FVec Ideal S2x4x8192 .f32 :=
  Host.reduce FloatOps.maximumf s (constant S_ .f32 0xFF800000#32) reducesTo_S2x4x8192x8192_S2x4x8192_d3 h_S_

theorem mxArr_apply (s : FVec Ideal S2x4x8192x8192 .f32) (b : Fin 2) (g : Fin 4) (r : Fin 8192) :
    mxArr s (ix3 b g r) = Finset.univ.fold max ⊥ fun x : Fin 8192 => s (ix4 b g r x) := by
  have hr : S2x4x8192x8192.Reduces [3] S2x4x8192 := by decide
  unfold mxArr
  rw [Host.reduce_eq_fold_single _ _ _ _ hr]
  rw [← ofBits_ninf]
  refine congrArg (Finset.univ.fold max _) ?_
  funext x
  show s (hr.lift (ix3 b g r) x) = _
  congr 1
  funext a
  match a with
  | ⟨0, _⟩ => rfl
  | ⟨1, _⟩ => rfl
  | ⟨2, _⟩ => rfl
  | ⟨3, _⟩ => rfl

/-- The exponentials, a value of each row subtracted. -/
def eArr (s : FVec Ideal S2x4x8192x8192 .f32) (mx : FVec Ideal S2x4x8192 .f32) : FVec Ideal S2x4x8192x8192 .f32 :=
  Host.exp (subf s (broadcastInDim S2x4x8192x8192 ![0, 1, 2, 3] bcast_S2x4x8192x1_S2x4x8192x8192_0_1_2_3 (broadcastInDim S2x4x8192x1 ![0, 1, 2] bcast_S2x4x8192_S2x4x8192x1_0_1_2 (maximumf (broadcastInDim S2x4x8192 ![] bcast_S_S2x4x8192 (constant S_ .f32 0xFF800000#32)) mx))))

theorem eArr_apply (s : FVec Ideal S2x4x8192x8192 .f32) (mx : FVec Ideal S2x4x8192 .f32) (b : Fin 2) (g : Fin 4) (r x : Fin 8192) :
    eArr s mx (ix4 b g r x) = Ideal.exp (s (ix4 b g r x) - max ⊥ (mx (ix3 b g r))) := by
  pointwise [eArr]
  rw [ofBits_ninf]

/-- The attention output. -/
def oArr (e : FVec Ideal S2x4x8192x8192 .f32) (v : FVec Ideal S2x8192x128 .bf16) : FVec Ideal S8x8192x128 .f32 :=
  shapeCast _ (Host.dotGeneral dot_S2x4x8192x8192_S2x8192x128_S2x4x8192x128_3_1_12_2_0_0 none (Host.divf e (broadcastInDim S2x4x8192x8192 ![0, 1, 2, 3] bcast_S2x4x8192x1_S2x4x8192x8192_0_1_2_3 (broadcastInDim S2x4x8192x1 ![0, 1, 2] bcast_S2x4x8192_S2x4x8192x1_0_1_2 (Host.reduceAdd e (constant S_ .f32 0x00000000#32) reducesTo_S2x4x8192x8192_S2x4x8192_d3 h_S_)))) (extf .f32 v bitsLt_bf16_f32)) shapeCasts_S2x4x8192x128_S8x8192x128

theorem oArr_apply (e : FVec Ideal S2x4x8192x8192 .f32) (h : Fin 8) (s : Fin 8192) (d : Fin 128) :
    oArr e v (ix3 h s d) = ∑ x : Fin 8192, Ideal.div (e (ix4 ⟨h.val / 4, by omega⟩ ⟨h.val % 4, by omega⟩ s x))
      (∑ y : Fin 8192, e (ix4 ⟨h.val / 4, by omega⟩ ⟨h.val % 4, by omega⟩ s y)) * v (ix3 ⟨h.val / 4, by omega⟩ x d) := by
  pointwise [oArr]

/-- The logarithms of the normalisers. -/
def lArr (s : FVec Ideal S2x4x8192x8192 .f32) : FVec Ideal S8x8192x1 .f32 :=
  shapeCast _ (Host.log (Host.reduceAdd (Host.exp s) (constant S_ .f32 0x00000000#32) reducesTo_S2x4x8192x8192_S2x4x8192_d3 h_S_)) shapeCasts_S2x4x8192_S8x8192x1

theorem lArr_apply (s : FVec Ideal S2x4x8192x8192 .f32) (h : Fin 8) (r : Fin 8192) :
    lArr s (ix3 h r 0) = Ideal.log (∑ y : Fin 8192, Ideal.exp (s (ix4 ⟨h.val / 4, by omega⟩ ⟨h.val % 4, by omega⟩ r y))) := by
  pointwise [lArr]

end Cert.FwdARefIdeal.Val

end
-- ==== Proof.Rows.lean ====
/- One row of softmax attention: the blockwise running sums against the plain quotients. -/
module

public import proofs.«01_k».proof.Proof.Online
public import Idealize.ShloMosaic.Lib.ReduceAll
public import Idealize.ShloMosaic.Lib.Pointwise

@[expose] public section

noncomputable section

namespace Cert.Online

open Idealize.ShloMosaic

/-- A row of 8192 values by blocks of 512, zero past the last. -/
def blk (f : Fin 8192 → EReal) (j : ℕ) (x : Fin 512) : EReal := if hj : j < 16 then f (at512 j hj x) else 0

/-- A row of reals by blocks. -/
def blkR (f : Fin 8192 → ℝ) (j : ℕ) (x : Fin 512) : ℝ := if hj : j < 16 then f (at512 j hj x) else 0

theorem blk_coe (f : Fin 8192 → ℝ) : blk (fun x => (f x : EReal)) = fun j x => (blkR f j x : EReal) := by
  funext j x
  unfold blk blkR
  by_cases hj : j < 16
  · rw [dif_pos hj, dif_pos hj]
  · rw [dif_neg hj, dif_neg hj]; rfl

theorem Z_blk (f : Fin 8192 → ℝ) : Z (blkR f) 16 = ∑ x, Real.exp (f x) := by
  refine (sum_blocks_range (fun x => Real.exp (f x)) (fun j x => Real.exp (blkR f j x)) ?_).symm
  intro j hj k
  simp only [blkR, dif_pos hj]

/-- The stored output of a row whose scores are real is the softmax-weighted sum. -/
theorem row_out (S V : Fin 8192 → EReal) (hS : ∀ x, ∃ r : ℝ, S x = (r : EReal)) :
    (run m₀ (blk S) (blk V) 16).2.2 * Ideal.div 1 (run m₀ (blk S) (blk V) 16).2.1
      = ∑ x, Ideal.div (Ideal.exp (S x - max ⊥ (Finset.univ.fold max ⊥ S)))
          (∑ y, Ideal.exp (S y - max ⊥ (Finset.univ.fold max ⊥ S))) * V x := by
  choose s hs using hS
  obtain rfl : S = fun x => (s x : EReal) := funext hs
  obtain ⟨a, ha⟩ := m₀_real
  rw [ha, blk_coe, run_out (by decide) a (blkR s) (blk V) 16 (by decide), Z_blk]
  refine Eq.trans (sum_blocks_range (fun x => ((Real.exp (s x) / ∑ i, Real.exp (s i) : ℝ) : EReal) * V x) _ ?_).symm ?_
  · intro j hj k
    simp only [blkR, blk, dif_pos hj]
  · exact Finset.sum_congr rfl fun x _ => congrArg (· * V x) (softmax_eq (by decide) s x).symm

/-- The stored normaliser of a row whose scores are real is the logarithm of the sum of the exponentials. -/
theorem row_lse (S V : Fin 8192 → EReal) (hS : ∀ x, ∃ r : ℝ, S x = (r : EReal)) :
    (run m₀ (blk S) (blk V) 16).1 + Ideal.log (run m₀ (blk S) (blk V) 16).2.1 = Ideal.log (∑ y, Ideal.exp (S y)) := by
  choose s hs using hS
  obtain rfl : S = fun x => (s x : EReal) := funext hs
  obtain ⟨a, ha⟩ := m₀_real
  rw [ha, blk_coe, run_lse (by decide) a (blkR s) (blk V) 16 (by decide), Z_blk]
  exact (lse_eq (by decide) s).symm

/-- A value whose absolute value is below infinity is a real. -/
theorem real_of_abs_lt (a : EReal)
    (h : (FloatOps.cmpf (F := Ideal) .olt (FloatOps.hostAbsf (F := Ideal) (φ := .f32) a) (FloatOps.ofBits (F := Ideal) .f32 0x7F800000#32)) = 1#1) :
    ∃ r : ℝ, a = (r : EReal) := by
  have ht : FloatOps.ofBits (F := Ideal) .f32 0x7F800000#32 = (⊤ : EReal) := by
    show Ideal.ofBits .f32 0x7F800000#32 = ⊤
    unfold Ideal.ofBits Ideal.ieee; simp
  rw [ht] at h
  induction a with
  | bot => exact absurd h (by simp [FloatOps.cmpf, FloatOps.hostAbsf, Ideal.cmp])
  | top => exact absurd h (by simp [FloatOps.cmpf, FloatOps.hostAbsf, Ideal.cmp])
  | coe r => exact ⟨r, rfl⟩

/-- Two rank-three arrays that agree at every triple of coordinates are equal. -/
theorem ext3 {α : Type} {a b c : ℕ} (f g : (⟨3, ![a, b, c]⟩ : Shape).Idx → α)
    (h : ∀ (x : Fin a) (y : Fin b) (z : Fin c), f (ix3 x y z) = g (ix3 x y z)) : f = g := by
  funext i
  have e : i = ix3 (i 0) (i 1) (i 2) := by
    funext x
    match x with
    | ⟨0, _⟩ => rfl
    | ⟨1, _⟩ => rfl
    | ⟨2, _⟩ => rfl
  rw [e]
  exact h _ _ _

/-- Two matrices that agree at every pair of coordinates are equal. -/
theorem ext2 {α : Type} {a b : ℕ} (f g : (⟨2, ![a, b]⟩ : Shape).Idx → α)
    (h : ∀ (x : Fin a) (y : Fin b), f (ix2 x y) = g (ix2 x y)) : f = g := by
  funext i
  have e : i = ix2 (i 0) (i 1) := by
    funext x
    match x with
    | ⟨0, _⟩ => rfl
    | ⟨1, _⟩ => rfl
  rw [e]
  exact h _ _

/-- A sum of products of reals is a real. -/
theorem real_dot {n : ℕ} (a b : Fin n → EReal) (ha : ∀ i, ∃ r : ℝ, a i = (r : EReal)) (hb : ∀ i, ∃ r : ℝ, b i = (r : EReal)) :
    ∃ r : ℝ, ∑ i, a i * b i = (r : EReal) := by
  choose x hx using ha
  choose y hy using hb
  refine ⟨∑ i, x i * y i, ?_⟩
  rw [coe_sum]
  exact Finset.sum_congr rfl fun i _ => by rw [hx, hy, EReal.coe_mul]

end Cert.Online

end
-- ==== Proof.FwdAClaim.lean ====
/- The forward attention of the first mixer: the kernel's two result arrays are the reference's. -/
module

public import proofs.«01_k».proof.Proof.FwdAArray
public import proofs.«01_k».proof.Proof.FwdARefVal
public import proofs.«01_k».proof.Proof.Rows
public import proofs.«01_k».proof.Proof.Gen.Pre_finite_a
public import proofs.«01_k».proof.Defs

@[expose] public section

set_option maxRecDepth 16384

noncomputable section

namespace Cert.FwdAProof

open Idealize.ShloMosaic Idealize.ShloMosaic.TcCoe Idealize.SL.Sem Cert.Online Cert.FwdAIdeal.Block

/-- The precondition, element by element. -/
theorem pre_real (q : FVec Ideal Cert.Pre_finite_a.S8x8192x128 .bf16) (k v : FVec Ideal Cert.Pre_finite_a.S2x8192x128 .bf16)
    (h : Cert.Pre_finite_a.fn (F := Ideal) q k v = fun _ => 1#1) :
    (∀ i, ∃ r : ℝ, (q i : EReal) = (r : EReal)) ∧ (∀ i, ∃ r : ℝ, (k i : EReal) = (r : EReal)) := by
  have h0 := IntOp.andi_eq_one.1 (congrFun h (Shape.Idx.first (by decide)))
  haveI : Subsingleton Cert.Pre_finite_a.S_.Idx := ⟨fun a b => funext fun x => x.elim0⟩
  exact ⟨fun i => real_of_abs_lt _ (Host.reduce_andi_all _ _ _ _ _ h0.1 i),
    fun i => real_of_abs_lt _ (Host.reduce_andi_all _ _ _ _ _ h0.2 i)⟩

section
variable (m : (ℓ : Loc Cert.FwdAIdeal.nD Cert.FwdAIdeal.τ Cert.FwdAIdeal.sig) → Buf (Elt Ideal) ℓ) (c : Dev Cert.FwdAIdeal.nD)
  (hq : ∀ i, ∃ r : ℝ, (argQ m c i : EReal) = (r : EReal)) (hk : ∀ i, ∃ r : ℝ, (argK m c i : EReal) = (r : EReal))
include hq hk

theorem score_eq (h : Fin 8) (s x : Fin 8192) :
    Cert.FwdARefIdeal.Val.sArr (argQ m c) (argK m c) (ix4 ⟨h.val / 4, by omega⟩ ⟨h.val % 4, by omega⟩ s x) = score m c h s x := by
  rw [Cert.FwdARefIdeal.Val.sArr_apply]
  have e : (⟨4 * (h.val / 4) + h.val % 4, by omega⟩ : Fin 8) = h := Fin.ext (by dsimp only; omega)
  simp only [e]
  rfl

theorem score_real (h : Fin 8) (s x : Fin 8192) : ∃ r : ℝ, score m c h s x = (r : EReal) :=
  real_dot _ _ (fun d => hq _) (fun d => hk _)

theorem out_eq : ((Cert.FwdAIdeal.Gen.dats m 0 c).arrAt 3 Cert.FwdAIdeal.cfg0.N : FVec Ideal Cert.FwdAIdeal.S8x8192x128 .f32)
    = Cert.FwdARefIdeal.Val.oArr (Cert.FwdARefIdeal.Val.eArr (Cert.FwdARefIdeal.Val.sArr (argQ m c) (argK m c))
        (Cert.FwdARefIdeal.Val.mxArr (Cert.FwdARefIdeal.Val.sArr (argQ m c) (argK m c)))) (argV m c) := by
  refine ext3 _ _ fun h s d => ?_
  rw [final3, Cert.FwdARefIdeal.Val.oArr_apply]
  refine (row_out (score m c h s) (fun x => argV m c (ix3 (kvh h) x d)) (score_real m c hq hk h s)).trans ?_
  simp only [Cert.FwdARefIdeal.Val.eArr_apply, Cert.FwdARefIdeal.Val.mxArr_apply, score_eq m c hq hk]

theorem lse_eq : ((Cert.FwdAIdeal.Gen.dats m 0 c).arrAt 4 Cert.FwdAIdeal.cfg0.N : FVec Ideal Cert.FwdAIdeal.S8x8192x1 .f32)
    = Cert.FwdARefIdeal.Val.lArr (Cert.FwdARefIdeal.Val.sArr (argQ m c) (argK m c)) := by
  refine ext3 _ _ fun h s z => ?_
  obtain rfl : z = 0 := Subsingleton.elim _ _
  rw [final4 m c h s 0, Cert.FwdARefIdeal.Val.lArr_apply]
  refine (row_lse (score m c h s) (fun x => argV m c (ix3 (kvh h) x 0)) (score_real m c hq hk h s)).trans ?_
  simp only [score_eq m c hq hk]
end

theorem algebraic : Cert.algebraic_FwdAIdeal_FwdARefIdeal_pre_finite_a (hFwdAIdeal := Cert.FwdAIdeal.Gen.facts)
    (hFwdARefIdeal := Cert.FwdARefIdeal.Gen.facts) (hPre_finite_a := Cert.Pre_finite_a.Gen.facts) := by
  intro m g m' g' hpre hargs
  refine ⟨_, _, Cert.FwdAIdeal.Value.run_blocks m g, ?_⟩
  refine (θ_run _ _ _).mono ?_ (Cert.FwdARefIdeal.Value.run m' g')
  intro r hr c
  obtain ⟨hq, hk⟩ := pre_real _ _ _ (hpre c)
  obtain ⟨h20, h21, h0, h1, h2⟩ := hr c
  refine ⟨h20.trans ?_, h21.trans ?_, h0, h1, h2⟩
  · rw [(hargs c).1, (hargs c).2.1, (hargs c).2.2]
    exact (out_eq m c hq hk).symm
  · rw [(hargs c).1, (hargs c).2.1]
    exact (lse_eq m c hq hk).symm

end Cert.FwdAProof

end
-- ==== Proof.FwdBBlock.lean ====
/- What one grid point of the forward attention kernel leaves in its two output blocks, element by element. -/
module

public import proofs.«01_k».proof.Proof.Online
public import proofs.«01_k».proof.Proof.Gen.FwdBIdeal.Frame
public import Idealize.ShloMosaic.Lib.Pointwise

@[expose] public section

set_option maxRecDepth 16384

noncomputable section

namespace Cert.FwdBIdeal.Block

open Cert.FwdBIdeal Cert.FwdBIdeal.Gen Idealize.ShloMosaic Idealize.ShloMosaic.TcCoe Cert.Online

/-- The scores of a block of queries against a block of 512 keys. -/
def scb (q k : Vec Ideal S1x512x128 .bf16) (r : Fin 512) (c : Fin 512) : EReal :=
  ∑ d : Fin 128, (q (ix3 0 r d) : EReal) * (k (ix3 0 c d) : EReal)

theorem pay5_apply (q k : Vec Ideal S1x512x128 .bf16) (m : FVec Ideal S512x1 .f32) (r : Fin 512) :
    k0_pay5 q m k (ix2 r 0) = mNew (m (ix2 r 0)) (scb q k r) := by
  pointwise [k0_pay5, k0_pay4, mNew, scb]
  rw [ofBits_ninf]

theorem pay8_apply (q k : Vec Ideal S1x512x128 .bf16) (m l : FVec Ideal S512x1 .f32) (r : Fin 512) :
    k0_pay8 q m l k (ix2 r 0) = lNew (m (ix2 r 0)) (l (ix2 r 0)) (scb q k r) := by
  pointwise [k0_pay8, k0_pay7, k0_pay6, k0_pay5, k0_pay4, lNew, mNew, scb]
  rw [ofBits_ninf]

theorem pay9_apply (q k v : Vec Ideal S1x512x128 .bf16) (m : FVec Ideal S512x1 .f32) (a : FVec Ideal S512x128 .f32)
    (r : Fin 512) (d : Fin 128) :
    k0_pay9 q m a k v (ix2 r d)
      = aNew (m (ix2 r 0)) (a (ix2 r d)) (scb q k r) (fun c => v (ix3 0 c d)) := by
  pointwise [k0_pay9, k0_pay7, k0_pay6, k0_pay5, k0_pay4, aNew, mNew, scb]
  rw [ofBits_ninf]

theorem pay10_apply (l : FVec Ideal S512x1 .f32) (a : FVec Ideal S512x128 .f32) (r : Fin 512) (d : Fin 128) :
    k0_pay10 l a (ix3 0 r d) = a (ix2 r d) * Ideal.div 1 (l (ix2 r 0)) := by
  pointwise [k0_pay10]

theorem pay11_apply (m l : FVec Ideal S512x1 .f32) (r : Fin 512) :
    k0_pay11 m l (ix3 0 r 0) = m (ix2 r 0) + Ideal.log (l (ix2 r 0)) := by
  pointwise [k0_pay11]

theorem pay1_apply (r : Fin 512) : k0_pay1 (F := Ideal) (ix2 r 0) = m₀ := by
  pointwise [k0_pay1]
  rfl

theorem pay2_apply (r : Fin 512) : k0_pay2 (F := Ideal) (ix2 r 0) = 0 := by
  pointwise [k0_pay2]

theorem pay3_apply (r : Fin 512) (d : Fin 128) : k0_pay3 (F := Ideal) (ix2 r d) = 0 := by
  pointwise [k0_pay3]

theorem hz : (![0, 0, 0] : Fin 3 → Nat) = fun _ => 0 := funext fun a => by fin_cases a <;> rfl

/-- The scores of query row `r` against key block `j` (zero past the last block). -/
def sc (q : Vec Ideal S1x512x128 .bf16) (k : Vec Ideal S1x8192x128 .bf16) (r : Fin 512) (j : ℕ) (x : Fin 512) : EReal :=
  if h : j < 16 then ∑ d : Fin 128, (q (ix3 0 r d) : EReal) * (k (ix3 0 (at512 j h x) d) : EReal) else 0
/-- Column `d` of value block `j` (zero past the last block). -/
def vc (v : Vec Ideal S1x8192x128 .bf16) (d : Fin 128) (j : ℕ) (x : Fin 512) : EReal :=
  if h : j < 16 then v (ix3 0 (at512 j h x) d) else 0

variable (c : Dev nD) (i : grid0.Coords) (arg2 : Memref sig .tc .vmem S1x512x128 .bf16) (h2 : arg2.IsWhole)
  (arg3 : Memref sig .tc .vmem S1x8192x128 .bf16) (h3 : arg3.IsWhole) (arg4 : Memref sig .tc .vmem S1x8192x128 .bf16) (h4 : arg4.IsWhole)
  (arg5 : Memref sig .tc .vmem S1x512x128 .f32) (h5 : arg5.IsWhole) (arg6 : Memref sig .tc .vmem S1x512x1 .f32) (h6 : arg6.IsWhole)
  (q : Vec Ideal S1x512x128 .bf16) (k v : Vec Ideal S1x8192x128 .bf16)

theorem trips_eq : k0_t1_loop.trips = 16 := by decide +kernel

/-- The 512 rows a trip loads. -/
theorem ld_apply (k' : Fin k0_t1_loop.trips) (h : ∀ a, k0_off1 k' a + (![1, 512, 128] : Fin 3 → ℕ) a ≤ S1x8192x128.size a)
    (hk : k'.val < 16) (x : Fin 512) (d : Fin 128) :
    (View.ld k (Rect.unit (s := S1x8192x128) (k0_off1 k') ![1, 512, 128] h) : Vec Ideal S1x512x128 .bf16) (ix3 0 x d)
      = k (ix3 0 (at512 k'.val hk x) d) := by
  have e := k0_off1_eq k'
  unfold View.ld
  congr 1
  funext a
  apply Fin.ext
  match a with
  | ⟨0, _⟩ => show k0_off1 k' 0 + 1 * 0 = 0
              rw [e]; rfl
  | ⟨1, _⟩ => show k0_off1 k' 1 + 1 * x.val = 512 * k'.val + x.val
              rw [e]; show 512 * k'.val + 1 * x.val = 512 * k'.val + x.val; omega
  | ⟨2, _⟩ => show k0_off1 k' 2 + 1 * d.val = d.val
              rw [e]; show 0 + 1 * d.val = d.val; omega

theorem trip_eq (k' : Fin k0_t1_loop.trips) (acc : FVec Ideal S512x1 .f32 × FVec Ideal S512x1 .f32 × FVec Ideal S512x128 .f32) :
    tripR_k0_t1 (F := Ideal) Variants.none c none i arg2 h2 arg3 h3 arg4 h4 arg5 h5 arg6 h6 q (h3.unread k) (h4.unread v) k' acc
      = (k0_pay5 q acc.1 (View.ld k (Rect.unit (s := S1x8192x128) (k0_off1 k') S1x512x128.size (k0_off1_inb k'))),
        k0_pay8 q acc.1 acc.2.1 (View.ld k (Rect.unit (s := S1x8192x128) (k0_off1 k') S1x512x128.size (k0_off1_inb k'))),
        k0_pay9 q acc.1 acc.2.2 (View.ld k (Rect.unit (s := S1x8192x128) (k0_off1 k') S1x512x128.size (k0_off1_inb k')))
          (View.ld v (Rect.unit (s := S1x8192x128) (k0_off1 k') S1x512x128.size (k0_off1_inb k')))) := by
  unfold tripR_k0_t1 trip_k0_t1
  dsimp only
  simp only [View.readAt_eq_ld, h3.read_unread, h4.read_unread]

/-- The state after `n` trips. -/
abbrev stn (n : ℕ) := st_k0_t1 (F := Ideal) Variants.none c none i arg2 h2 arg3 h3 arg4 h4 arg5 h5 arg6 h6 q (h3.unread k) (h4.unread v)
  (k0_pay1, k0_pay2, k0_pay3) n

/-- After `n` trips the carried vectors are, row by row, the running state of the row. -/
theorem st_eq (n : ℕ) (hn : n ≤ 16) (r : Fin 512) (d : Fin 128) :
    (stn c i arg2 h2 arg3 h3 arg4 h4 arg5 h5 arg6 h6 q k v n).1 (ix2 r 0) = (run m₀ (sc q k r) (vc v d) n).1
    ∧ (stn c i arg2 h2 arg3 h3 arg4 h4 arg5 h5 arg6 h6 q k v n).2.1 (ix2 r 0) = (run m₀ (sc q k r) (vc v d) n).2.1
    ∧ (stn c i arg2 h2 arg3 h3 arg4 h4 arg5 h5 arg6 h6 q k v n).2.2 (ix2 r d) = (run m₀ (sc q k r) (vc v d) n).2.2 := by
  induction n with
  | zero => exact ⟨pay1_apply r, pay2_apply r, pay3_apply r d⟩
  | succ n ih =>
    have hn' : n < 16 := hn
    obtain ⟨e1, e2, e3⟩ := ih hn'.le
    have ht : n < k0_t1_loop.trips := by rw [trips_eq]; exact hn'
    have hs := st_k0_t1_succ (F := Ideal) Variants.none c none i arg2 h2 arg3 h3 arg4 h4 arg5 h5 arg6 h6 q (h3.unread k) (h4.unread v)
      (k0_pay1, k0_pay2, k0_pay3) ⟨n, ht⟩
    rw [trip_eq] at hs
    have hsc : scb q (View.ld k (Rect.unit (s := S1x8192x128) (k0_off1 ⟨n, ht⟩) S1x512x128.size (k0_off1_inb ⟨n, ht⟩))) r = sc q k r n := by
      funext x
      unfold scb sc
      rw [dif_pos hn']
      exact Finset.sum_congr rfl fun d _ => congrArg _ (ld_apply k ⟨n, ht⟩ _ hn' x d)
    have hvc : (fun x => View.ld v (Rect.unit (s := S1x8192x128) (k0_off1 ⟨n, ht⟩) S1x512x128.size (k0_off1_inb ⟨n, ht⟩)) (ix3 0 x d)) = vc v d n := by
      funext x
      unfold vc
      rw [dif_pos hn']
      exact ld_apply v ⟨n, ht⟩ _ hn' x d
    unfold stn
    rw [show n + 1 = (⟨n, ht⟩ : Fin k0_t1_loop.trips).val + 1 from rfl, hs]
    refine ⟨?_, ?_, ?_⟩
    · dsimp only; rw [pay5_apply, hsc, e1]; rfl
    · dsimp only; rw [pay8_apply, hsc, e1, e2]; rfl
    · dsimp only; rw [pay9_apply, hsc, hvc, e1, e3]; rfl

/-- The output block, element by element. -/
theorem out3_apply (r : Fin 512) (d : Fin 128) :
    out0_A_3 c i arg2 h2 arg3 h3 arg4 h4 arg5 h5 arg6 h6 q k v (ix3 0 r d)
      = (run m₀ (sc q k r) (vc v d) 16).2.2 * Ideal.div 1 (run m₀ (sc q k r) (vc v d) 16).2.1 := by
  unfold out0_A_3
  rw [View.read_writes_eq_canon _ _ _ (cover0_A_3 c i arg2 h2 arg3 h3 arg4 h4 arg5 h5 arg6 h6 q k v)]
  unfold kernelRun0_A
  dsimp only
  rw [View.canon_unit_zero hz, pay10_apply]
  simp only [View.readAt_eq_ld, h2.read_unread, View.ld_unit_zero (S := S1x512x128) hz]
  have h := st_eq c i arg2 h2 arg3 h3 arg4 h4 arg5 h5 arg6 h6 q k v 16 le_rfl r d
  rw [show Scf.trips (0#32) (Scalar.addi 0#32 16#32) 1#32 = 16 from trips_eq]
  exact congrArg₂ (fun a b => a * Ideal.div 1 b) h.2.2 h.2.1

/-- The block of logarithms, row by row (whatever the column of values). -/
theorem out4_apply (r : Fin 512) (d : Fin 128) :
    out0_A_4 c i arg2 h2 arg3 h3 arg4 h4 arg5 h5 arg6 h6 q k v (ix3 0 r 0)
      = (run m₀ (sc q k r) (vc v d) 16).1 + Ideal.log (run m₀ (sc q k r) (vc v d) 16).2.1 := by
  unfold out0_A_4
  rw [View.read_writes_eq_canon _ _ _ (cover0_A_4 c i arg2 h2 arg3 h3 arg4 h4 arg5 h5 arg6 h6 q k v)]
  unfold kernelRun0_A
  dsimp only
  rw [View.canon_unit_zero hz, pay11_apply]
  simp only [View.readAt_eq_ld, h2.read_unread, View.ld_unit_zero (S := S1x512x128) hz]
  have h := st_eq c i arg2 h2 arg3 h3 arg4 h4 arg5 h5 arg6 h6 q k v 16 le_rfl r d
  rw [show Scf.trips (0#32) (Scalar.addi 0#32 16#32) 1#32 = 16 from trips_eq]
  exact congrArg₂ (fun a b => a + Ideal.log b) h.1 h.2.1

end Cert.FwdBIdeal.Block

end
-- ==== Proof.FwdBArray.lean ====
/- The result arrays of the forward attention kernel, element by element, from the arrays it is given. -/
module

public import proofs.«01_k».proof.Proof.Pos
public import proofs.«01_k».proof.Proof.FwdBBlock
public import proofs.«01_k».proof.Proof.Gen.FwdBIdeal.Value

@[expose] public section

set_option maxRecDepth 16384

noncomputable section

namespace Cert.FwdBIdeal.Block

open Cert.FwdBIdeal Cert.FwdBIdeal.Gen Idealize.ShloMosaic Idealize.ShloMosaic.TcCoe Cert.Online

variable (m : (ℓ : Loc nD τ sig) → Buf (Elt Ideal) ℓ) (c : Dev nD)

/-- The three arguments as arrays. -/
abbrev argQ : FVec Ideal S4x8192x128 .bf16 := m (c.tc.loc main_arg0)
abbrev argK : FVec Ideal S4x8192x128 .bf16 := m (c.tc.loc main_arg1)
abbrev argV : FVec Ideal S4x8192x128 .bf16 := m (c.tc.loc main_arg2)

theorem idx0 : ∀ t : Fin cfg0.N, win0_0.index t = ![t.val / 16, t.val % 16, 0] := by decide +kernel
theorem idx1 : ∀ t : Fin cfg0.N, win0_1.index t = ![t.val / 16, 0, 0] := by decide +kernel
theorem idx2 : ∀ t : Fin cfg0.N, win0_2.index t = ![t.val / 16, 0, 0] := by decide +kernel
theorem idx3 : ∀ t : Fin cfg0.N, win0_3.index t = ![t.val / 16, t.val % 16, 0] := by decide +kernel
theorem idx4 : ∀ t : Fin cfg0.N, win0_4.index t = ![t.val / 16, t.val % 16, 0] := by decide +kernel

/-- The grid point of head `h` and row `s`. -/
abbrev pt (h : Fin 4) (s : Fin 8192) : Fin cfg0.N :=
  ⟨16 * h.val + s.val / 512, by rw [show cfg0.N = 64 from N_0]; have := h.isLt; have := s.isLt; omega⟩
/-- A row's place in its block. -/
abbrev row (s : Fin 8192) : Fin 512 := ⟨s.val % 512, Nat.mod_lt _ (by decide)⟩
/-- A query head's key head. -/
abbrev kvh (h : Fin 4) : Fin 4 := h

theorem iblk0_apply (h : Fin 4) (s : Fin 8192) (d : Fin 128) :
    (iblk m c 0 (pt h s) : Vec Ideal S1x512x128 .bf16) (ix3 0 (row s) d) = argQ m c (ix3 h s d) := by
  unfold iblk
  rw [View.read_apply]
  show V m c main_arg0 _ = m (c.tc.loc main_arg0) _
  unfold V
  congr 1
  have h1 := h.isLt
  have h2 := s.isLt
  exact pos3 (idx0 (pt h s)) ((16 * h.val + s.val / 512) / 16) ((16 * h.val + s.val / 512) % 16) 0 1 512 128 0 (s.val % 512) d.val h.val s.val d.val rfl rfl rfl rfl rfl rfl (by omega) (by omega) (by omega)

theorem iblk1_apply (h : Fin 4) (s x : Fin 8192) (d : Fin 128) :
    (iblk m c 1 (pt h s) : Vec Ideal S1x8192x128 .bf16) (ix3 0 x d) = argK m c (ix3 (kvh h) x d) := by
  unfold iblk
  rw [View.read_apply]
  show V m c main_arg1 _ = m (c.tc.loc main_arg1) _
  unfold V
  congr 1
  have h1 := h.isLt
  have h2 := s.isLt
  exact pos3 (idx1 (pt h s)) ((16 * h.val + s.val / 512) / 16) 0 0 1 8192 128 0 x.val d.val h.val x.val d.val rfl rfl rfl rfl rfl rfl (by omega) (by omega) (by omega)

theorem iblk2_apply (h : Fin 4) (s x : Fin 8192) (d : Fin 128) :
    (iblk m c 2 (pt h s) : Vec Ideal S1x8192x128 .bf16) (ix3 0 x d) = argV m c (ix3 (kvh h) x d) := by
  unfold iblk
  rw [View.read_apply]
  show V m c main_arg2 _ = m (c.tc.loc main_arg2) _
  unfold V
  congr 1
  have h1 := h.isLt
  have h2 := s.isLt
  exact pos3 (idx2 (pt h s)) ((16 * h.val + s.val / 512) / 16) 0 0 1 8192 128 0 x.val d.val h.val x.val d.val rfl rfl rfl rfl rfl rfl (by omega) (by omega) (by omega)

/-- The score of query row `s` of head `h` against key `x`. -/
def score (h : Fin 4) (s x : Fin 8192) : EReal :=
  ∑ d : Fin 128, (argQ m c (ix3 h s d) : EReal) * (argK m c (ix3 (kvh h) x d) : EReal)
/-- The scores by blocks of 512 keys, zero past the last. -/
def scoreB (h : Fin 4) (s : Fin 8192) (j : ℕ) (x : Fin 512) : EReal :=
  if hj : j < 16 then score m c h s (at512 j hj x) else 0
/-- The values of column `d` by blocks of 512 keys, zero past the last. -/
def valB (h : Fin 4) (d : Fin 128) (j : ℕ) (x : Fin 512) : EReal :=
  if hj : j < 16 then argV m c (ix3 (kvh h) (at512 j hj x) d) else 0

theorem sc_eq (h : Fin 4) (s : Fin 8192) :
    sc (iblk m c 0 (pt h s)) (iblk m c 1 (pt h s)) (row s) = scoreB m c h s := by
  funext j x
  unfold sc scoreB score
  by_cases hj : j < 16
  · rw [dif_pos hj, dif_pos hj]
    exact Finset.sum_congr rfl fun d _ => congrArg₂ _ (iblk0_apply m c h s d) (iblk1_apply m c h s _ d)
  · rw [dif_neg hj, dif_neg hj]

theorem vc_eq (h : Fin 4) (s : Fin 8192) (d : Fin 128) : vc (iblk m c 2 (pt h s)) d = valB m c h d := by
  funext j x
  unfold vc valB
  by_cases hj : j < 16
  · rw [dif_pos hj, dif_pos hj]; exact iblk2_apply m c h s _ d
  · rw [dif_neg hj, dif_neg hj]

/-- The first result array. -/
theorem final3 (h : Fin 4) (s : Fin 8192) (d : Fin 128) :
    ((dats m 0 c).arrAt 3 cfg0.N : FVec Ideal S4x8192x128 .f32) (ix3 h s d)
      = (run m₀ (scoreB m c h s) (valB m c h d) 16).2.2 * Ideal.div 1 (run m₀ (scoreB m c h s) (valB m c h d) 16).2.1 := by
  have hb := congrFun (Value.blocks3 m c (pt h s) (flush0_3 _)) (ix3 0 (row s) d)
  rw [Value.flushed3_A] at hb
  refine Eq.trans ?_ (hb.trans ?_)
  · rw [View.read_apply]
    congr 1
    have h1 := h.isLt
    have h2 := s.isLt
    exact (pos3 (idx3 (pt h s)) ((16 * h.val + s.val / 512) / 16) ((16 * h.val + s.val / 512) % 16) 0 1 512 128 0 (s.val % 512) d.val h.val s.val d.val rfl rfl rfl rfl rfl rfl (by omega) (by omega) (by omega)).symm
  · rw [← sc_eq m c h s, ← vc_eq m c h s d]
    exact out3_apply c (grid0.coords (pt h s)) _ _ _ _ _ _ _ _ _ _ _ _ _ (row s) d

/-- The second result array. -/
theorem final4 (h : Fin 4) (s : Fin 8192) (d : Fin 128) :
    ((dats m 0 c).arrAt 4 cfg0.N : FVec Ideal S4x8192x1 .f32) (ix3 h s 0)
      = (run m₀ (scoreB m c h s) (valB m c h d) 16).1 + Ideal.log (run m₀ (scoreB m c h s) (valB m c h d) 16).2.1 := by
  have hb := congrFun (Value.blocks4 m c (pt h s) (flush0_4 _)) (ix3 0 (row s) 0)
  rw [Value.flushed4_A] at hb
  refine Eq.trans ?_ (hb.trans ?_)
  · rw [View.read_apply]
    congr 1
    have h1 := h.isLt
    have h2 := s.isLt
    exact (pos3 (idx4 (pt h s)) ((16 * h.val + s.val / 512) / 16) ((16 * h.val + s.val / 512) % 16) 0 1 512 1 0 (s.val % 512) 0 h.val s.val 0 rfl rfl rfl rfl rfl rfl (by omega) (by omega) (by omega)).symm
  · rw [← sc_eq m c h s, ← vc_eq m c h s d]
    exact out4_apply c (grid0.coords (pt h s)) _ _ _ _ _ _ _ _ _ _ _ _ _ (row s) d

end Cert.FwdBIdeal.Block

end
-- ==== Proof.FwdBRefVal.lean ====
/- The forward attention reference, element by element. -/
module

public import proofs.«01_k».proof.Proof.Online
public import proofs.«01_k».proof.Proof.Gen.FwdBRefIdeal.Run
public import Idealize.ShloMosaic.Lib.Pointwise

@[expose] public section

set_option maxRecDepth 16384

noncomputable section

namespace Cert.FwdBRefIdeal.Val

open Cert.FwdBRefIdeal Cert.FwdBRefIdeal.Gen Idealize.ShloMosaic Idealize.ShloMosaic.TcCoe Cert.Online

variable (q : FVec Ideal S4x8192x128 .bf16) (k v : FVec Ideal S4x8192x128 .bf16)

/-- The scores. -/
def sArr : FVec Ideal S4x8192x8192 .f32 :=
  Host.dotGeneral dot_S4x8192x128_S4x8192x128_S4x8192x8192_2_2_1_1_0_0 none (extf .f32 q bitsLt_bf16_f32) (extf .f32 k bitsLt_bf16_f32)

theorem sArr_apply (b : Fin 4) (s x : Fin 8192) :
    sArr q k (ix3 b s x) = ∑ d : Fin 128, (q (ix3 b s d) : EReal) * (k (ix3 b x d) : EReal) := by
  pointwise [sArr]

/-- The row maxima. -/
def mxArr (s : FVec Ideal S4x8192x8192 .f32) : FVec Ideal S4x8192 .f32 :=
  Host.reduce FloatOps.maximumf s (constant S_ .f32 0xFF800000#32) reducesTo_S4x8192x8192_S4x8192_d2 h_S_

theorem mxArr_apply (s : FVec Ideal S4x8192x8192 .f32) (b : Fin 4) (r : Fin 8192) :
    mxArr s (ix2 b r) = Finset.univ.fold max ⊥ fun x : Fin 8192 => s (ix3 b r x) := by
  have hr : S4x8192x8192.Reduces [2] S4x8192 := by decide
  unfold mxArr
  rw [Host.reduce_eq_fold_single _ _ _ _ hr]
  rw [← ofBits_ninf]
  refine congrArg (Finset.univ.fold max _) ?_
  funext x
  show s (hr.lift (ix2 b r) x) = _
  congr 1
  funext a
  match a with
  | ⟨0, _⟩ => rfl
  | ⟨1, _⟩ => rfl
  | ⟨2, _⟩ => rfl

/-- The exponentials, a value of each row subtracted. -/
def eArr (s : FVec Ideal S4x8192x8192 .f32) (mx : FVec Ideal S4x8192 .f32) : FVec Ideal S4x8192x8192 .f32 :=
  Host.exp (subf s (broadcastInDim S4x8192x8192 ![0, 1, 2] bcast_S4x8192x1_S4x8192x8192_0_1_2 (broadcastInDim S4x8192x1 ![0, 1] bcast_S4x8192_S4x8192x1_0_1 (maximumf (broadcastInDim S4x8192 ![] bcast_S_S4x8192 (constant S_ .f32 0xFF800000#32)) mx))))

theorem eArr_apply (s : FVec Ideal S4x8192x8192 .f32) (mx : FVec Ideal S4x8192 .f32) (b : Fin 4) (r x : Fin 8192) :
    eArr s mx (ix3 b r x) = Ideal.exp (s (ix3 b r x) - max ⊥ (mx (ix2 b r))) := by
  pointwise [eArr]
  rw [ofBits_ninf]

/-- The attention output. -/
def oArr (e : FVec Ideal S4x8192x8192 .f32) (v : FVec Ideal S4x8192x128 .bf16) : FVec Ideal S4x8192x128 .f32 :=
  Host.dotGeneral dot_S4x8192x8192_S4x8192x128_S4x8192x128_2_1_1_2_0_0 none (Host.divf e (broadcastInDim S4x8192x8192 ![0, 1, 2] bcast_S4x8192x1_S4x8192x8192_0_1_2 (broadcastInDim S4x8192x1 ![0, 1] bcast_S4x8192_S4x8192x1_0_1 (Host.reduceAdd e (constant S_ .f32 0x00000000#32) reducesTo_S4x8192x8192_S4x8192_d2 h_S_)))) (extf .f32 v bitsLt_bf16_f32)

theorem oArr_apply (e : FVec Ideal S4x8192x8192 .f32) (h : Fin 4) (s : Fin 8192) (d : Fin 128) :
    oArr e v (ix3 h s d) = ∑ x : Fin 8192, Ideal.div (e (ix3 h s x))
      (∑ y : Fin 8192, e (ix3 h s y)) * v (ix3 h x d) := by
  pointwise [oArr]

/-- The logarithms of the normalisers. -/
def lArr (s : FVec Ideal S4x8192x8192 .f32) : FVec Ideal S4x8192x1 .f32 :=
  shapeCast _ (Host.log (Host.reduceAdd (Host.exp s) (constant S_ .f32 0x00000000#32) reducesTo_S4x8192x8192_S4x8192_d2 h_S_)) shapeCasts_S4x8192_S4x8192x1

theorem lArr_apply (s : FVec Ideal S4x8192x8192 .f32) (h : Fin 4) (r : Fin 8192) :
    lArr s (ix3 h r 0) = Ideal.log (∑ y : Fin 8192, Ideal.exp (s (ix3 h r y))) := by
  pointwise [lArr]

end Cert.FwdBRefIdeal.Val

end
-- ==== Proof.FwdBClaim.lean ====
/- The forward attention of the second mixer: the kernel's two result arrays are the reference's. -/
module

public import proofs.«01_k».proof.Proof.FwdBArray
public import proofs.«01_k».proof.Proof.FwdBRefVal
public import proofs.«01_k».proof.Proof.Rows
public import proofs.«01_k».proof.Proof.Gen.Pre_finite_b
public import proofs.«01_k».proof.Defs

@[expose] public section

set_option maxRecDepth 16384

noncomputable section

namespace Cert.FwdBProof

open Idealize.ShloMosaic Idealize.ShloMosaic.TcCoe Idealize.SL.Sem Cert.Online Cert.FwdBIdeal.Block

/-- The precondition, element by element. -/
theorem pre_real (q : FVec Ideal Cert.Pre_finite_b.S4x8192x128 .bf16) (k v : FVec Ideal Cert.Pre_finite_b.S4x8192x128 .bf16)
    (h : Cert.Pre_finite_b.fn (F := Ideal) q k v = fun _ => 1#1) :
    (∀ i, ∃ r : ℝ, (q i : EReal) = (r : EReal)) ∧ (∀ i, ∃ r : ℝ, (k i : EReal) = (r : EReal)) := by
  have h0 := IntOp.andi_eq_one.1 (congrFun h (Shape.Idx.first (by decide)))
  haveI : Subsingleton Cert.Pre_finite_b.S_.Idx := ⟨fun a b => funext fun x => x.elim0⟩
  exact ⟨fun i => real_of_abs_lt _ (Host.reduce_andi_all _ _ _ _ _ h0.1 i),
    fun i => real_of_abs_lt _ (Host.reduce_andi_all _ _ _ _ _ h0.2 i)⟩

section
variable (m : (ℓ : Loc Cert.FwdBIdeal.nD Cert.FwdBIdeal.τ Cert.FwdBIdeal.sig) → Buf (Elt Ideal) ℓ) (c : Dev Cert.FwdBIdeal.nD)
  (hq : ∀ i, ∃ r : ℝ, (argQ m c i : EReal) = (r : EReal)) (hk : ∀ i, ∃ r : ℝ, (argK m c i : EReal) = (r : EReal))
include hq hk

theorem score_eq (h : Fin 4) (s x : Fin 8192) :
    Cert.FwdBRefIdeal.Val.sArr (argQ m c) (argK m c) (ix3 h s x) = score m c h s x := by
  rw [Cert.FwdBRefIdeal.Val.sArr_apply]
  rfl

theorem score_real (h : Fin 4) (s x : Fin 8192) : ∃ r : ℝ, score m c h s x = (r : EReal) :=
  real_dot _ _ (fun d => hq _) (fun d => hk _)

theorem out_eq : ((Cert.FwdBIdeal.Gen.dats m 0 c).arrAt 3 Cert.FwdBIdeal.cfg0.N : FVec Ideal Cert.FwdBIdeal.S4x8192x128 .f32)
    = Cert.FwdBRefIdeal.Val.oArr (Cert.FwdBRefIdeal.Val.eArr (Cert.FwdBRefIdeal.Val.sArr (argQ m c) (argK m c))
        (Cert.FwdBRefIdeal.Val.mxArr (Cert.FwdBRefIdeal.Val.sArr (argQ m c) (argK m c)))) (argV m c) := by
  refine ext3 _ _ fun h s d => ?_
  rw [final3, Cert.FwdBRefIdeal.Val.oArr_apply]
  refine (row_out (score m c h s) (fun x => argV m c (ix3 (kvh h) x d)) (score_real m c hq hk h s)).trans ?_
  simp only [Cert.FwdBRefIdeal.Val.eArr_apply, Cert.FwdBRefIdeal.Val.mxArr_apply, score_eq m c hq hk]

theorem lse_eq : ((Cert.FwdBIdeal.Gen.dats m 0 c).arrAt 4 Cert.FwdBIdeal.cfg0.N : FVec Ideal Cert.FwdBIdeal.S4x8192x1 .f32)
    = Cert.FwdBRefIdeal.Val.lArr (Cert.FwdBRefIdeal.Val.sArr (argQ m c) (argK m c)) := by
  refine ext3 _ _ fun h s z => ?_
  obtain rfl : z = 0 := Subsingleton.elim _ _
  rw [final4 m c h s 0, Cert.FwdBRefIdeal.Val.lArr_apply]
  refine (row_lse (score m c h s) (fun x => argV m c (ix3 (kvh h) x 0)) (score_real m c hq hk h s)).trans ?_
  simp only [score_eq m c hq hk]
end

theorem algebraic : Cert.algebraic_FwdBIdeal_FwdBRefIdeal_pre_finite_b (hFwdBIdeal := Cert.FwdBIdeal.Gen.facts)
    (hFwdBRefIdeal := Cert.FwdBRefIdeal.Gen.facts) (hPre_finite_b := Cert.Pre_finite_b.Gen.facts) := by
  intro m g m' g' hpre hargs
  refine ⟨_, _, Cert.FwdBIdeal.Value.run_blocks m g, ?_⟩
  refine (θ_run _ _ _).mono ?_ (Cert.FwdBRefIdeal.Value.run m' g')
  intro r hr c
  obtain ⟨hq, hk⟩ := pre_real _ _ _ (hpre c)
  obtain ⟨h20, h21, h0, h1, h2⟩ := hr c
  refine ⟨h20.trans ?_, h21.trans ?_, h0, h1, h2⟩
  · rw [(hargs c).1, (hargs c).2.1, (hargs c).2.2]
    exact (out_eq m c hq hk).symm
  · rw [(hargs c).1, (hargs c).2.1]
    exact (lse_eq m c hq hk).symm

end Cert.FwdBProof

end
-- ==== Proof.BwdABlock.lean ====
/- What one grid point of the backward attention kernel leaves in its three output blocks, element by element. -/
module

public import proofs.«01_k».proof.Proof.Online
public import proofs.«01_k».proof.Proof.Gen.BwdAIdeal.Frame
public import Idealize.ShloMosaic.Lib.Pointwise
public import Idealize.ShloMosaic.Lib.WritesUnit

@[expose] public section

set_option maxRecDepth 16384

noncomputable section

namespace Cert.BwdAIdeal.Block

open Cert.BwdAIdeal Cert.BwdAIdeal.Gen Idealize.ShloMosaic Idealize.ShloMosaic.TcCoe Cert.Online

/-! ## The payloads -/

/-- The probability of key `x` for query `r`, from the saved logarithm `l` of the row's sum. -/
def pb (k q : Vec Ideal S1x512x128 .bf16) (l : Vec Ideal S1x1x1x512 .f32) (x r : Fin 512) : EReal :=
  Ideal.exp ((∑ d : Fin 128, (k (ix3 0 x d) : EReal) * (q (ix3 0 r d) : EReal)) - l (ix4 0 0 0 r))
/-- The gradient of the score of key `x` for query `r`. -/
def dsb (k v q g : Vec Ideal S1x512x128 .bf16) (l e : Vec Ideal S1x1x1x512 .f32) (x r : Fin 512) : EReal :=
  pb k q l x r * ((∑ d : Fin 128, (v (ix3 0 x d) : EReal) * (g (ix3 0 r d) : EReal)) - e (ix4 0 0 0 r))

theorem pay6_apply (k q : Vec Ideal S1x512x128 .bf16) (l : Vec Ideal S1x1x1x512 .f32) (x r : Fin 512) :
    k0_pay6 k q l (ix2 x r) = pb k q l x r := by
  pointwise [k0_pay6, k0_pay2, k0_pay4, pb]

theorem pay7_apply (k v q g : Vec Ideal S1x512x128 .bf16) (l e : Vec Ideal S1x1x1x512 .f32) (x r : Fin 512) :
    k0_pay7 k v q g l e (ix2 x r) = dsb k v q g l e x r := by
  pointwise [k0_pay7, k0_pay6, k0_pay5, k0_pay2, k0_pay4, pb, dsb]

theorem pay8_apply (k : Vec Ideal S1x512x128 .bf16) (a : FVec Ideal S512x128 .f32) (q g : Vec Ideal S1x512x128 .bf16)
    (l : Vec Ideal S1x1x1x512 .f32) (x : Fin 512) (d : Fin 128) :
    k0_pay8 k a q g l (ix2 x d) = a (ix2 x d) + ∑ r : Fin 512, pb k q l x r * (g (ix3 0 r d) : EReal) := by
  pointwise [k0_pay8, k0_pay6, k0_pay5, k0_pay2, k0_pay4, pb]

theorem pay9_apply (k v : Vec Ideal S1x512x128 .bf16) (a : FVec Ideal S512x128 .f32) (q g : Vec Ideal S1x512x128 .bf16)
    (l e : Vec Ideal S1x1x1x512 .f32) (x : Fin 512) (d : Fin 128) :
    k0_pay9 k v a q g l e (ix2 x d) = a (ix2 x d) + ∑ r : Fin 512, dsb k v q g l e x r * (q (ix3 0 r d) : EReal) := by
  pointwise [k0_pay9, k0_pay7, k0_pay6, k0_pay5, k0_pay2, k0_pay4, pb, dsb]

theorem pay10_apply (k v q g : Vec Ideal S1x512x128 .bf16) (l e : Vec Ideal S1x1x1x512 .f32) (o : Vec Ideal S1x512x128 .f32)
    (r : Fin 512) (d : Fin 128) :
    k0_pay10 k v q g l e o (ix3 0 r d) = o (ix3 0 r d) + ∑ x : Fin 512, dsb k v q g l e x r * (k (ix3 0 x d) : EReal) := by
  pointwise [k0_pay10, k0_pay7, k0_pay6, k0_pay5, k0_pay2, k0_pay4, pb, dsb]

theorem pay11_apply (a : FVec Ideal S512x128 .f32) (x : Fin 512) (d : Fin 128) : k0_pay11 a (ix3 0 x d) = a (ix2 x d) := by
  pointwise [k0_pay11]

theorem pay12_apply (a : FVec Ideal S512x128 .f32) (x : Fin 512) (d : Fin 128) : k0_pay12 a (ix3 0 x d) = a (ix2 x d) := by
  pointwise [k0_pay12]

theorem pay1_apply (s : Fin 8192) (d : Fin 128) : k0_pay1 (F := Ideal) (ix3 0 s d) = 0 := by
  pointwise [k0_pay1]

theorem pay3_apply (r : Fin 512) (d : Fin 128) : k0_pay3 (F := Ideal) (ix2 r d) = 0 := by
  pointwise [k0_pay3]

theorem hz : (![0, 0, 0] : Fin 3 → Nat) = fun _ => 0 := funext fun a => by fin_cases a <;> rfl

/-! ## The loads of a trip -/

theorem trips_eq : k0_t1_loop.trips = 16 := by decide +kernel

variable {e : EltTy}

/-- The 512 rows a trip loads of an array of 8192 rows. -/
theorem ld_apply (k : Vec Ideal S1x8192x128 e) (k' : Fin k0_t1_loop.trips)
    (h : ∀ a, k0_off1 k' a + (![1, 512, 128] : Fin 3 → ℕ) a ≤ S1x8192x128.size a)
    (hk : k'.val < 16) (x : Fin 512) (d : Fin 128) :
    (View.ld k (Rect.unit (s := S1x8192x128) (k0_off1 k') ![1, 512, 128] h) : Vec Ideal S1x512x128 e) (ix3 0 x d)
      = k (ix3 0 (at512 k'.val hk x) d) := by
  have e := k0_off1_eq k'
  unfold View.ld
  congr 1
  funext a
  apply Fin.ext
  match a with
  | ⟨0, _⟩ => show k0_off1 k' 0 + 1 * 0 = 0
              rw [e]; rfl
  | ⟨1, _⟩ => show k0_off1 k' 1 + 1 * x.val = 512 * k'.val + x.val
              rw [e]; show 512 * k'.val + 1 * x.val = 512 * k'.val + x.val; omega
  | ⟨2, _⟩ => show k0_off1 k' 2 + 1 * d.val = d.val
              rw [e]; show 0 + 1 * d.val = d.val; omega

/-- The row of 512 numbers a trip loads. -/
theorem ld_row (l : Vec Ideal S1x16x1x512 e) (k' : Fin k0_t1_loop.trips)
    (h : ∀ a, k0_off2 k' a + (![1, 1, 1, 512] : Fin 4 → ℕ) a ≤ S1x16x1x512.size a)
    (hk : k'.val < 16) (r : Fin 512) :
    (View.ld l (Rect.unit (s := S1x16x1x512) (k0_off2 k') ![1, 1, 1, 512] h) : Vec Ideal S1x1x1x512 e) (ix4 0 0 0 r)
      = l (ix4 0 ⟨k'.val, hk⟩ 0 r) := by
  have e := k0_off2_eq k'
  unfold View.ld
  congr 1
  funext a
  apply Fin.ext
  match a with
  | ⟨0, _⟩ => show k0_off2 k' 0 + 1 * 0 = 0
              rw [e]; rfl
  | ⟨1, _⟩ => show k0_off2 k' 1 + 1 * 0 = k'.val
              rw [e]; show k'.val + 1 * 0 = k'.val; omega
  | ⟨2, _⟩ => show k0_off2 k' 2 + 1 * 0 = 0
              rw [e]; rfl
  | ⟨3, _⟩ => show k0_off2 k' 3 + 1 * r.val = r.val
              rw [e]; show 0 + 1 * r.val = r.val; omega

variable (c : Dev nD) (i : grid0.Coords) (arg2 : Memref sig .tc .vmem S1x8192x128 .bf16) (h2 : arg2.IsWhole)
  (arg3 : Memref sig .tc .vmem S1x8192x128 .bf16) (h3 : arg3.IsWhole) (arg4 : Memref sig .tc .vmem S1x16x1x512 .f32) (h4 : arg4.IsWhole)
  (arg5 : Memref sig .tc .vmem S1x16x1x512 .f32) (h5 : arg5.IsWhole) (arg6 : Memref sig .tc .vmem S1x512x128 .bf16) (h6 : arg6.IsWhole)
  (arg7 : Memref sig .tc .vmem S1x512x128 .bf16) (h7 : arg7.IsWhole) (arg8 : Memref sig .tc .vmem S1x8192x128 .f32) (h8 : arg8.IsWhole)
  (arg9 : Memref sig .tc .vmem S1x512x128 .f32) (h9 : arg9.IsWhole) (arg10 : Memref sig .tc .vmem S1x512x128 .f32) (h10 : arg10.IsWhole)
  (q g : Vec Ideal S1x8192x128 .bf16) (l dl : Vec Ideal S1x16x1x512 .f32) (k v : Vec Ideal S1x512x128 .bf16)

/-- The rows a trip loads, named. -/
abbrev rows {e : EltTy} (a : Vec Ideal S1x8192x128 e) (k' : Fin k0_t1_loop.trips) : Vec Ideal S1x512x128 e :=
  View.ld a (Rect.unit (s := S1x8192x128) (k0_off1 k') S1x512x128.size (k0_off1_inb k'))
/-- The row of numbers a trip loads, named. -/
abbrev row {e : EltTy} (a : Vec Ideal S1x16x1x512 e) (k' : Fin k0_t1_loop.trips) : Vec Ideal S1x1x1x512 e :=
  View.ld a (Rect.unit (s := S1x16x1x512) (k0_off2 k') S1x1x1x512.size (k0_off2_inb k'))

theorem tripR_eq (k' : Fin k0_t1_loop.trips) (acc : FVec Ideal S512x128 .f32 × FVec Ideal S512x128 .f32) (f : BufTy.Contents (Elt Ideal) arg8.view.ty) :
    tripR_k0_t1 (F := Ideal) Variants.none c none i arg2 h2 arg3 h3 arg4 h4 arg5 h5 arg6 h6 arg7 h7 arg8 h8 arg9 h9 arg10 h10 k v
        (h2.unread q) (h3.unread g) (h4.unread l) (h5.unread dl) k' acc f
      = (k0_pay9 k v acc.1 (rows q k') (rows g k') (row l k') (row dl k'), k0_pay8 k acc.2 (rows q k') (rows g k') (row l k')) := by
  unfold tripR_k0_t1 trip_k0_t1
  dsimp only
  simp only [View.readAt_eq_ld, h2.read_unread, h3.read_unread, h4.read_unread, h5.read_unread]

theorem tripL_eq (k' : Fin k0_t1_loop.trips) (acc : FVec Ideal S512x128 .f32 × FVec Ideal S512x128 .f32) (f : BufTy.Contents (Elt Ideal) arg8.view.ty) :
    tripL_k0_t1 (F := Ideal) Variants.none c none i arg2 h2 arg3 h3 arg4 h4 arg5 h5 arg6 h6 arg7 h7 arg8 h8 arg9 h9 arg10 h10 k v
        (h2.unread q) (h3.unread g) (h4.unread l) (h5.unread dl) k' acc f
      = [⟨Rect.unit (s := S1x8192x128) (k0_off1 k') S1x512x128.size (k0_off1_inb k'),
          k0_pay10 k v (rows q k') (rows g k') (row l k') (row dl k') (rows (arg8.view.read (Elt Ideal) f) k')⟩] := by
  unfold tripL_k0_t1 trip_k0_t1
  dsimp only
  simp only [View.readAt_eq_ld, h2.read_unread, h3.read_unread, h4.read_unread, h5.read_unread]

/-! ## What the trips add up -/

/-- The probability of key `x` of the block for query `r` of query block `j` (zero past the last block). -/
def pj (x : Fin 512) (j : ℕ) (r : Fin 512) : EReal :=
  if h : j < 16 then
    Ideal.exp ((∑ d : Fin 128, (k (ix3 0 x d) : EReal) * (q (ix3 0 (at512 j h r) d) : EReal)) - l (ix4 0 ⟨j, h⟩ 0 r)) else 0
/-- The gradient of the score of key `x` of the block for query `r` of query block `j` (zero past the last block). -/
def dsj (x : Fin 512) (j : ℕ) (r : Fin 512) : EReal :=
  if h : j < 16 then
    pj q l k x j r * ((∑ d : Fin 128, (v (ix3 0 x d) : EReal) * (g (ix3 0 (at512 j h r) d) : EReal)) - dl (ix4 0 ⟨j, h⟩ 0 r)) else 0
/-- Column `d` of block `j` of an array of 8192 rows (zero past the last block). -/
def cj (a : Vec Ideal S1x8192x128 .bf16) (d : Fin 128) (j : ℕ) (r : Fin 512) : EReal :=
  if h : j < 16 then a (ix3 0 (at512 j h r) d) else 0

theorem pb_eq (n : ℕ) (hn : n < 16) (ht : n < k0_t1_loop.trips) (x r : Fin 512) :
    pb k (rows q ⟨n, ht⟩) (row l ⟨n, ht⟩) x r = pj q l k x n r := by
  unfold pb pj
  rw [dif_pos hn, show row l ⟨n, ht⟩ (ix4 0 0 0 r) = l (ix4 0 ⟨n, hn⟩ 0 r) from ld_row l ⟨n, ht⟩ _ hn r]
  exact congrArg (fun z => Ideal.exp (z - _)) (Finset.sum_congr rfl fun d _ => congrArg _ (ld_apply q ⟨n, ht⟩ _ hn r d))

theorem dsb_eq (n : ℕ) (hn : n < 16) (ht : n < k0_t1_loop.trips) (x r : Fin 512) :
    dsb k v (rows q ⟨n, ht⟩) (rows g ⟨n, ht⟩) (row l ⟨n, ht⟩) (row dl ⟨n, ht⟩) x r = dsj q g l dl k v x n r := by
  unfold dsb dsj
  rw [dif_pos hn, pb_eq q l k n hn ht, show row dl ⟨n, ht⟩ (ix4 0 0 0 r) = dl (ix4 0 ⟨n, hn⟩ 0 r) from ld_row dl ⟨n, ht⟩ _ hn r]
  exact congrArg (fun z => _ * (z - _)) (Finset.sum_congr rfl fun d _ => congrArg _ (ld_apply g ⟨n, ht⟩ _ hn r d))

theorem rows_eq (a : Vec Ideal S1x8192x128 .bf16) (n : ℕ) (hn : n < 16) (ht : n < k0_t1_loop.trips) (r : Fin 512) (d : Fin 128) :
    rows a ⟨n, ht⟩ (ix3 0 r d) = cj a d n r := by
  unfold cj
  rw [dif_pos hn]
  exact ld_apply a ⟨n, ht⟩ _ hn r d

/-- The state after `n` trips, from the contents `G` of the query gradient's block. -/
abbrev stn (G : BufTy.Contents (Elt Ideal) arg8.view.ty) (n : ℕ) :=
  st_k0_t1 (F := Ideal) Variants.none c none i arg2 h2 arg3 h3 arg4 h4 arg5 h5 arg6 h6 arg7 h7 arg8 h8 arg9 h9 arg10 h10 k v
    (h2.unread q) (h3.unread g) (h4.unread l) (h5.unread dl) G (k0_pay3, k0_pay3) n

/-- After `n` trips: the carried sums of the key and value gradients, and the query gradient of the rows passed. -/
theorem st_eq (G : BufTy.Contents (Elt Ideal) arg8.view.ty) (n : ℕ) (hn : n ≤ 16) :
    (∀ (x : Fin 512) (d : Fin 128), (stn c i arg2 h2 arg3 h3 arg4 h4 arg5 h5 arg6 h6 arg7 h7 arg8 h8 arg9 h9 arg10 h10 q g l dl k v G n).1.1 (ix2 x d)
        = ∑ j ∈ Finset.range n, ∑ r : Fin 512, dsj q g l dl k v x j r * cj q d j r)
    ∧ (∀ (x : Fin 512) (d : Fin 128), (stn c i arg2 h2 arg3 h3 arg4 h4 arg5 h5 arg6 h6 arg7 h7 arg8 h8 arg9 h9 arg10 h10 q g l dl k v G n).1.2 (ix2 x d)
        = ∑ j ∈ Finset.range n, ∑ r : Fin 512, pj q l k x j r * cj g d j r)
    ∧ (∀ (j : ℕ) (hj : j < 16) (r : Fin 512) (d : Fin 128), arg8.view.read (Elt Ideal) (arg8.view.writes (Elt Ideal) G
          (stn c i arg2 h2 arg3 h3 arg4 h4 arg5 h5 arg6 h6 arg7 h7 arg8 h8 arg9 h9 arg10 h10 q g l dl k v G n).2) (ix3 0 (at512 j hj r) d)
        = if j < n then (arg8.view.read (Elt Ideal) G (ix3 0 (at512 j hj r) d) : EReal)
              + ∑ x : Fin 512, dsj q g l dl k v x j r * (k (ix3 0 x d) : EReal)
            else arg8.view.read (Elt Ideal) G (ix3 0 (at512 j hj r) d)) := by
  induction n with
  | zero =>
    refine ⟨fun x d => ?_, fun x d => ?_, fun j hj r d => ?_⟩
    · rw [Finset.sum_range_zero]; exact pay3_apply x d
    · rw [Finset.sum_range_zero]; exact pay3_apply x d
    · rw [if_neg (Nat.not_lt_zero _)]; rfl
  | succ n ih =>
    have hn' : n < 16 := hn
    obtain ⟨e1, e2, e3⟩ := ih hn'.le
    have ht : n < k0_t1_loop.trips := by rw [trips_eq]; exact hn'
    have hs := st_k0_t1_succ (F := Ideal) Variants.none c none i arg2 h2 arg3 h3 arg4 h4 arg5 h5 arg6 h6 arg7 h7 arg8 h8 arg9 h9 arg10 h10 k v
      (h2.unread q) (h3.unread g) (h4.unread l) (h5.unread dl) G (k0_pay3, k0_pay3) ⟨n, ht⟩
    rw [tripR_eq, tripL_eq] at hs
    unfold stn
    rw [show n + 1 = (⟨n, ht⟩ : Fin k0_t1_loop.trips).val + 1 from rfl, hs]
    refine ⟨fun x d => ?_, fun x d => ?_, fun j hj r d => ?_⟩
    · dsimp only
      rw [pay9_apply, e1, Finset.sum_range_succ]
      exact congrArg _ (Finset.sum_congr rfl fun r _ => congrArg₂ _ (dsb_eq q g l dl k v n hn' ht x r) (rows_eq q n hn' ht r d))
    · dsimp only
      rw [pay8_apply, e2, Finset.sum_range_succ]
      exact congrArg _ (Finset.sum_congr rfl fun r _ => congrArg₂ _ (pb_eq q l k n hn' ht x r) (rows_eq g n hn' ht r d))
    · dsimp only
      rw [List.singleton_append]
      by_cases hjn : j = n
      · subst hjn
        rw [View.read_writes_cons_unit_of_mem arg8.view G (k0_off1_inb ⟨j, ht⟩) _ _ _ (ix3 0 r d) (k0_off1_eq ⟨j, ht⟩) (fun a => by
          match a with
          | ⟨0, _⟩ => rfl
          | ⟨1, _⟩ => rfl
          | ⟨2, _⟩ => show d.val = 0 + d.val; omega)]
        rw [if_pos (Nat.lt_succ_self j), pay10_apply]
        refine congrArg₂ (α := EReal) (β := EReal) (· + ·) ?_ (Finset.sum_congr rfl fun x _ => congrArg (· * _) (dsb_eq q g l dl k v j hn' ht x r))
        have h3 := e3 j hj r d
        rw [if_neg (lt_irrefl j)] at h3
        exact (ld_apply _ ⟨j, ht⟩ _ hn' r d).trans h3
      · rw [View.read_writes_cons_unit_of_not_mem arg8.view G (k0_off1_inb ⟨n, ht⟩) _ _ _ (k0_off1_eq ⟨n, ht⟩) (1 : Fin 3) (by
          have hr := r.isLt
          show 512 * j + r.val < 512 * n ∨ 512 * n + 512 ≤ 512 * j + r.val
          omega)]
        rw [e3 j hj r d]
        by_cases hlt : j < n
        · rw [if_pos hlt, if_pos (Nat.lt_succ_of_lt hlt)]
        · rw [if_neg hlt, if_neg (by show ¬ j < n + 1; omega)]

/-! ## The output blocks -/

theorem out7_A (hc0 : cond0_0 i) (x : Fin 512) (d : Fin 128) :
    out0_A_7 c i arg2 h2 arg3 h3 arg4 h4 arg5 h5 arg6 h6 arg7 h7 arg8 h8 arg9 h9 arg10 h10 hc0 q g l dl k v (ix3 0 x d)
      = ∑ j ∈ Finset.range 16, ∑ r : Fin 512, dsj q g l dl k v x j r * cj q d j r := by
  unfold out0_A_7
  rw [View.read_writes_eq_canon _ _ _ (cover0_A_7 c i arg2 h2 arg3 h3 arg4 h4 arg5 h5 arg6 h6 arg7 h7 arg8 h8 arg9 h9 arg10 h10 hc0 q g l dl k v)]
  unfold kernelRun0_A
  dsimp only
  rw [View.canon_unit_zero hz, pay11_apply]
  simp only [View.readAt_eq_ld, h6.read_unread, h7.read_unread, View.ld_unit_zero (S := S1x512x128) hz]
  rw [show Scf.trips (0#32) (Scalar.addi 0#32 16#32) 1#32 = 16 from trips_eq]
  exact (st_eq c i arg2 h2 arg3 h3 arg4 h4 arg5 h5 arg6 h6 arg7 h7 arg8 h8 arg9 h9 arg10 h10 q g l dl k v _ 16 le_rfl).1 x d

theorem out8_A (hc0 : cond0_0 i) (x : Fin 512) (d : Fin 128) :
    out0_A_8 c i arg2 h2 arg3 h3 arg4 h4 arg5 h5 arg6 h6 arg7 h7 arg8 h8 arg9 h9 arg10 h10 hc0 q g l dl k v (ix3 0 x d)
      = ∑ j ∈ Finset.range 16, ∑ r : Fin 512, pj q l k x j r * cj g d j r := by
  unfold out0_A_8
  rw [View.read_writes_eq_canon _ _ _ (cover0_A_8 c i arg2 h2 arg3 h3 arg4 h4 arg5 h5 arg6 h6 arg7 h7 arg8 h8 arg9 h9 arg10 h10 hc0 q g l dl k v)]
  unfold kernelRun0_A
  dsimp only
  rw [View.canon_unit_zero hz, pay12_apply]
  simp only [View.readAt_eq_ld, h6.read_unread, h7.read_unread, View.ld_unit_zero (S := S1x512x128) hz]
  rw [show Scf.trips (0#32) (Scalar.addi 0#32 16#32) 1#32 = 16 from trips_eq]
  exact (st_eq c i arg2 h2 arg3 h3 arg4 h4 arg5 h5 arg6 h6 arg7 h7 arg8 h8 arg9 h9 arg10 h10 q g l dl k v _ 16 le_rfl).2.1 x d

theorem out7_B (hc0 : ¬cond0_0 i) (o : Vec Ideal S1x8192x128 .f32) (x : Fin 512) (d : Fin 128) :
    out0_B_7 c i arg2 h2 arg3 h3 arg4 h4 arg5 h5 arg6 h6 arg7 h7 arg8 h8 arg9 h9 arg10 h10 hc0 q g l dl k v o (ix3 0 x d)
      = ∑ j ∈ Finset.range 16, ∑ r : Fin 512, dsj q g l dl k v x j r * cj q d j r := by
  unfold out0_B_7
  rw [View.read_writes_eq_canon _ _ _ (cover0_B_7 c i arg2 h2 arg3 h3 arg4 h4 arg5 h5 arg6 h6 arg7 h7 arg8 h8 arg9 h9 arg10 h10 hc0 q g l dl k v o)]
  unfold kernelRun0_B
  dsimp only
  rw [View.canon_unit_zero hz, pay11_apply]
  simp only [View.readAt_eq_ld, h6.read_unread, h7.read_unread, View.ld_unit_zero (S := S1x512x128) hz]
  rw [show Scf.trips (0#32) (Scalar.addi 0#32 16#32) 1#32 = 16 from trips_eq]
  exact (st_eq c i arg2 h2 arg3 h3 arg4 h4 arg5 h5 arg6 h6 arg7 h7 arg8 h8 arg9 h9 arg10 h10 q g l dl k v _ 16 le_rfl).1 x d

theorem out8_B (hc0 : ¬cond0_0 i) (o : Vec Ideal S1x8192x128 .f32) (x : Fin 512) (d : Fin 128) :
    out0_B_8 c i arg2 h2 arg3 h3 arg4 h4 arg5 h5 arg6 h6 arg7 h7 arg8 h8 arg9 h9 arg10 h10 hc0 q g l dl k v o (ix3 0 x d)
      = ∑ j ∈ Finset.range 16, ∑ r : Fin 512, pj q l k x j r * cj g d j r := by
  unfold out0_B_8
  rw [View.read_writes_eq_canon _ _ _ (cover0_B_8 c i arg2 h2 arg3 h3 arg4 h4 arg5 h5 arg6 h6 arg7 h7 arg8 h8 arg9 h9 arg10 h10 hc0 q g l dl k v o)]
  unfold kernelRun0_B
  dsimp only
  rw [View.canon_unit_zero hz, pay12_apply]
  simp only [View.readAt_eq_ld, h6.read_unread, h7.read_unread, View.ld_unit_zero (S := S1x512x128) hz]
  rw [show Scf.trips (0#32) (Scalar.addi 0#32 16#32) 1#32 = 16 from trips_eq]
  exact (st_eq c i arg2 h2 arg3 h3 arg4 h4 arg5 h5 arg6 h6 arg7 h7 arg8 h8 arg9 h9 arg10 h10 q g l dl k v _ 16 le_rfl).2.1 x d

/-- One write over the whole block is what the block then holds. -/
theorem read_full (w : View sig .tc .vmem S1x8192x128 .f32) (f : BufTy.Contents (Elt Ideal) w.ty) (a : Vec Ideal S1x8192x128 .f32)
    (y : S1x8192x128.Idx) :
    w.read (Elt Ideal) (w.writes (Elt Ideal) f
      [(⟨Rect.unit (s := S1x8192x128) ![0, 0, 0] S1x8192x128.size inb_S1x8192x128_S1x8192x128_0_0_0, a⟩ : View.Piece (Elt Ideal) S1x8192x128 .f32)]) y = a y :=
  View.read_writes_cons_unit_of_mem (s := S1x8192x128) w f inb_S1x8192x128_S1x8192x128_0_0_0 a [] y y hz (fun a => (Nat.zero_add _).symm)

/-- The first point of a head starts the query gradient at zero. -/
theorem out6_A (hc0 : cond0_0 i) (j : ℕ) (hj : j < 16) (r : Fin 512) (d : Fin 128) :
    out0_A_6 c i arg2 h2 arg3 h3 arg4 h4 arg5 h5 arg6 h6 arg7 h7 arg8 h8 arg9 h9 arg10 h10 hc0 q g l dl k v (ix3 0 (at512 j hj r) d)
      = ∑ x : Fin 512, dsj q g l dl k v x j r * (k (ix3 0 x d) : EReal) := by
  unfold out0_A_6
  rw [View.read_writes_of_cover _ _ arg8.view arg8.view.junk _ (cover0_A_6 c i arg2 h2 arg3 h3 arg4 h4 arg5 h5 arg6 h6 arg7 h7 arg8 h8 arg9 h9 arg10 h10 hc0 q g l dl k v)]
  unfold kernelRun0_A
  dsimp only
  simp only [View.readAt_eq_ld, h6.read_unread, h7.read_unread, View.ld_unit_zero (S := S1x512x128) hz]
  rw [View.writes_append]
  have h := (st_eq c i arg2 h2 arg3 h3 arg4 h4 arg5 h5 arg6 h6 arg7 h7 arg8 h8 arg9 h9 arg10 h10 q g l dl k v
    (arg8.view.writes (Elt Ideal) arg8.view.junk kernelRun0_A.sl.H6_1) 16 le_rfl).2.2 j hj r d
  rw [if_pos hj] at h
  rw [show Scf.trips (0#32) (Scalar.addi 0#32 16#32) 1#32 = 16 from trips_eq]
  refine h.trans ?_
  unfold kernelRun0_A.sl.H6_1
  rw [read_full, pay1_apply, zero_add]

/-- A later point adds to what the point before left. -/
theorem out6_B (hc0 : ¬cond0_0 i) (o : Vec Ideal S1x8192x128 .f32) (j : ℕ) (hj : j < 16) (r : Fin 512) (d : Fin 128) :
    out0_B_6 c i arg2 h2 arg3 h3 arg4 h4 arg5 h5 arg6 h6 arg7 h7 arg8 h8 arg9 h9 arg10 h10 hc0 q g l dl k v o (ix3 0 (at512 j hj r) d)
      = (o (ix3 0 (at512 j hj r) d) : EReal) + ∑ x : Fin 512, dsj q g l dl k v x j r * (k (ix3 0 x d) : EReal) := by
  unfold out0_B_6
  rw [View.read_writes_of_cover _ _ arg8.view (h8.unread o) _ (cover0_B_6 c i arg2 h2 arg3 h3 arg4 h4 arg5 h5 arg6 h6 arg7 h7 arg8 h8 arg9 h9 arg10 h10 hc0 q g l dl k v o)]
  unfold kernelRun0_B
  dsimp only
  simp only [View.readAt_eq_ld, h6.read_unread, h7.read_unread, View.ld_unit_zero (S := S1x512x128) hz]
  rw [show Scf.trips (0#32) (Scalar.addi 0#32 16#32) 1#32 = 16 from trips_eq]
  have h := (st_eq c i arg2 h2 arg3 h3 arg4 h4 arg5 h5 arg6 h6 arg7 h7 arg8 h8 arg9 h9 arg10 h10 q g l dl k v
    (h8.unread o) 16 le_rfl).2.2 j hj r d
  rw [if_pos hj, h8.read_unread] at h
  exact h

end Cert.BwdAIdeal.Block

end
-- ==== Proof.BwdAArray.lean ====
/- The result arrays of the backward attention kernel, element by element, from the arrays it is given. -/
module

public import proofs.«01_k».proof.Proof.Pos
public import proofs.«01_k».proof.Proof.BwdABlock
public import proofs.«01_k».proof.Proof.Gen.BwdAIdeal.Value

@[expose] public section

set_option maxRecDepth 16384

noncomputable section

namespace Cert.BwdAIdeal.Block

open Cert.BwdAIdeal Cert.BwdAIdeal.Gen Idealize.ShloMosaic Idealize.ShloMosaic.TcCoe Cert.Online

variable (m : (ℓ : Loc nD τ sig) → Buf (Elt Ideal) ℓ) (c : Dev nD)

/-- The six arguments as arrays. -/
abbrev argQ : FVec Ideal S8x8192x128 .bf16 := m (c.tc.loc main_arg0)
abbrev argK : FVec Ideal S2x8192x128 .bf16 := m (c.tc.loc main_arg1)
abbrev argV : FVec Ideal S2x8192x128 .bf16 := m (c.tc.loc main_arg2)
abbrev argG : FVec Ideal S8x8192x128 .bf16 := m (c.tc.loc main_arg3)
abbrev argL : FVec Ideal S8x16x1x512 .f32 := m (c.tc.loc main_arg4)
abbrev argD : FVec Ideal S8x16x1x512 .f32 := m (c.tc.loc main_arg5)

/-- The grid point of head `h` and key block `j`. -/
abbrev pt (h : Fin 8) (j : ℕ) (hj : j < 16) : Fin cfg0.N :=
  ⟨16 * h.val + j, by rw [show cfg0.N = 128 from N_0]; have := h.isLt; omega⟩
/-- A query head's key head. -/
abbrev kvh (h : Fin 8) : Fin 2 := ⟨h.val / 4, by have := h.isLt; omega⟩

theorem idx0 : ∀ t : Fin cfg0.N, win0_0.index t = ![t.val / 16, 0, 0] := by decide +kernel
theorem idx1 : ∀ t : Fin cfg0.N, win0_1.index t = ![t.val / 16, 0, 0] := by decide +kernel
theorem idx2 : ∀ t : Fin cfg0.N, win0_2.index t = ![t.val / 16, 0, 0, 0] := by decide +kernel
theorem idx3 : ∀ t : Fin cfg0.N, win0_3.index t = ![t.val / 16, 0, 0, 0] := by decide +kernel
theorem idx4 : ∀ t : Fin cfg0.N, win0_4.index t = ![t.val / 16 / 4, t.val % 16, 0] := by decide +kernel
theorem idx5 : ∀ t : Fin cfg0.N, win0_5.index t = ![t.val / 16 / 4, t.val % 16, 0] := by decide +kernel
theorem idx6 : ∀ t : Fin cfg0.N, win0_6.index t = ![t.val / 16, 0, 0] := by decide +kernel
theorem idx7 : ∀ t : Fin cfg0.N, win0_7.index t = ![t.val / 16, t.val % 16, 0] := by decide +kernel
theorem idx8 : ∀ t : Fin cfg0.N, win0_8.index t = ![t.val / 16, t.val % 16, 0] := by decide +kernel

theorem iblk0_apply (h : Fin 8) (j : ℕ) (hj : j < 16) (s : Fin 8192) (d : Fin 128) :
    (iblk m c 0 (pt h j hj) : Vec Ideal S1x8192x128 .bf16) (ix3 0 s d) = argQ m c (ix3 h s d) := by
  unfold iblk
  rw [View.read_apply]
  show V m c main_arg0 _ = m (c.tc.loc main_arg0) _
  unfold V
  congr 1
  have h1 := h.isLt
  exact pos3 (idx0 (pt h j hj)) ((16 * h.val + j) / 16) 0 0 1 8192 128 0 s.val d.val h.val s.val d.val rfl rfl rfl rfl rfl rfl (by omega) (by omega) (by omega)

theorem iblk1_apply (h : Fin 8) (j : ℕ) (hj : j < 16) (s : Fin 8192) (d : Fin 128) :
    (iblk m c 1 (pt h j hj) : Vec Ideal S1x8192x128 .bf16) (ix3 0 s d) = argG m c (ix3 h s d) := by
  unfold iblk
  rw [View.read_apply]
  show V m c main_arg3 _ = m (c.tc.loc main_arg3) _
  unfold V
  congr 1
  have h1 := h.isLt
  exact pos3 (idx1 (pt h j hj)) ((16 * h.val + j) / 16) 0 0 1 8192 128 0 s.val d.val h.val s.val d.val rfl rfl rfl rfl rfl rfl (by omega) (by omega) (by omega)

theorem iblk2_apply (h : Fin 8) (j : ℕ) (hj : j < 16) (i : Fin 16) (r : Fin 512) :
    (iblk m c 2 (pt h j hj) : Vec Ideal S1x16x1x512 .f32) (ix4 0 i 0 r) = argL m c (ix4 h i 0 r) := by
  unfold iblk
  rw [View.read_apply]
  show V m c main_arg4 _ = m (c.tc.loc main_arg4) _
  unfold V
  congr 1
  have h1 := h.isLt
  exact pos4 (idx2 (pt h j hj)) ((16 * h.val + j) / 16) 0 0 0 1 16 1 512 0 i.val 0 r.val h.val i.val 0 r.val rfl rfl rfl rfl rfl rfl rfl rfl (by omega) (by omega) (by omega) (by omega)

theorem iblk3_apply (h : Fin 8) (j : ℕ) (hj : j < 16) (i : Fin 16) (r : Fin 512) :
    (iblk m c 3 (pt h j hj) : Vec Ideal S1x16x1x512 .f32) (ix4 0 i 0 r) = argD m c (ix4 h i 0 r) := by
  unfold iblk
  rw [View.read_apply]
  show V m c main_arg5 _ = m (c.tc.loc main_arg5) _
  unfold V
  congr 1
  have h1 := h.isLt
  exact pos4 (idx3 (pt h j hj)) ((16 * h.val + j) / 16) 0 0 0 1 16 1 512 0 i.val 0 r.val h.val i.val 0 r.val rfl rfl rfl rfl rfl rfl rfl rfl (by omega) (by omega) (by omega) (by omega)

theorem iblk4_apply (h : Fin 8) (j : ℕ) (hj : j < 16) (x : Fin 512) (d : Fin 128) :
    (iblk m c 4 (pt h j hj) : Vec Ideal S1x512x128 .bf16) (ix3 0 x d) = argK m c (ix3 (kvh h) (at512 j hj x) d) := by
  unfold iblk
  rw [View.read_apply]
  show V m c main_arg1 _ = m (c.tc.loc main_arg1) _
  unfold V
  congr 1
  have h1 := h.isLt
  exact pos3 (idx4 (pt h j hj)) ((16 * h.val + j) / 16 / 4) ((16 * h.val + j) % 16) 0 1 512 128 0 x.val d.val (h.val / 4) (512 * j + x.val) d.val rfl rfl rfl rfl rfl rfl (by omega) (by omega) (by omega)

theorem iblk5_apply (h : Fin 8) (j : ℕ) (hj : j < 16) (x : Fin 512) (d : Fin 128) :
    (iblk m c 5 (pt h j hj) : Vec Ideal S1x512x128 .bf16) (ix3 0 x d) = argV m c (ix3 (kvh h) (at512 j hj x) d) := by
  unfold iblk
  rw [View.read_apply]
  show V m c main_arg2 _ = m (c.tc.loc main_arg2) _
  unfold V
  congr 1
  have h1 := h.isLt
  exact pos3 (idx5 (pt h j hj)) ((16 * h.val + j) / 16 / 4) ((16 * h.val + j) % 16) 0 1 512 128 0 x.val d.val (h.val / 4) (512 * j + x.val) d.val rfl rfl rfl rfl rfl rfl (by omega) (by omega) (by omega)

/-- The probability of key `x` for query `s` of head `h`. -/
def prob (h : Fin 8) (s x : Fin 8192) : EReal :=
  Ideal.exp ((∑ d : Fin 128, (argK m c (ix3 (kvh h) x d) : EReal) * (argQ m c (ix3 h s d) : EReal))
    - argL m c (ix4 h ⟨s.val / 512, by have := s.isLt; omega⟩ 0 ⟨s.val % 512, Nat.mod_lt _ (by decide)⟩))
/-- The gradient of the score of key `x` for query `s` of head `h`. -/
def dscore (h : Fin 8) (s x : Fin 8192) : EReal :=
  prob m c h s x * ((∑ d : Fin 128, (argV m c (ix3 (kvh h) x d) : EReal) * (argG m c (ix3 h s d) : EReal))
    - argD m c (ix4 h ⟨s.val / 512, by have := s.isLt; omega⟩ 0 ⟨s.val % 512, Nat.mod_lt _ (by decide)⟩))

/-- A sum's terms by blocks of 512, zero past the last. -/
def byBlock (f : Fin 8192 → EReal) (i : ℕ) (r : Fin 512) : EReal := if hi : i < 16 then f (at512 i hi r) else 0

theorem div_at512 (i : ℕ) (hi : i < 16) (r : Fin 512) (h : (at512 i hi r).val / 512 < 16) :
    (⟨(at512 i hi r).val / 512, h⟩ : Fin 16) = ⟨i, hi⟩ :=
  Fin.ext (by show (512 * i + r.val) / 512 = i; have := r.isLt; omega)
theorem mod_at512 (i : ℕ) (hi : i < 16) (r : Fin 512) (h : (at512 i hi r).val % 512 < 512) :
    (⟨(at512 i hi r).val % 512, h⟩ : Fin 512) = r :=
  Fin.ext (by show (512 * i + r.val) % 512 = r.val; have := r.isLt; omega)

theorem pj_eq (h : Fin 8) (j : ℕ) (hj : j < 16) (x : Fin 512) (i : ℕ) (r : Fin 512) :
    pj (iblk m c 0 (pt h j hj)) (iblk m c 2 (pt h j hj)) (iblk m c 4 (pt h j hj)) x i r
      = byBlock (fun s => prob m c h s (at512 j hj x)) i r := by
  unfold pj byBlock
  by_cases hi : i < 16
  · rw [dif_pos hi, dif_pos hi]
    unfold prob
    beta_reduce
    rw [div_at512, mod_at512]
    exact congrArg₂ (fun a b => Ideal.exp (a - b))
      (Finset.sum_congr rfl fun d _ => congrArg₂ _ (iblk4_apply m c h j hj x d) (iblk0_apply m c h j hj _ d)) (iblk2_apply m c h j hj ⟨i, hi⟩ r)
  · rw [dif_neg hi, dif_neg hi]

theorem dsj_eq (h : Fin 8) (j : ℕ) (hj : j < 16) (x : Fin 512) (i : ℕ) (r : Fin 512) :
    dsj (iblk m c 0 (pt h j hj)) (iblk m c 1 (pt h j hj)) (iblk m c 2 (pt h j hj)) (iblk m c 3 (pt h j hj))
        (iblk m c 4 (pt h j hj)) (iblk m c 5 (pt h j hj)) x i r
      = byBlock (fun s => dscore m c h s (at512 j hj x)) i r := by
  unfold dsj
  rw [pj_eq]
  unfold byBlock
  by_cases hi : i < 16
  · rw [dif_pos hi, dif_pos hi, dif_pos hi]
    unfold dscore
    beta_reduce
    rw [div_at512, mod_at512]
    exact congrArg₂ (fun a b => _ * (a - b))
      (Finset.sum_congr rfl fun d _ => congrArg₂ _ (iblk5_apply m c h j hj x d) (iblk1_apply m c h j hj _ d)) (iblk3_apply m c h j hj ⟨i, hi⟩ r)
  · rw [dif_neg hi, dif_neg hi]

theorem cj_q (h : Fin 8) (j : ℕ) (hj : j < 16) (d : Fin 128) (i : ℕ) (r : Fin 512) :
    cj (iblk m c 0 (pt h j hj)) d i r = byBlock (fun s => argQ m c (ix3 h s d)) i r := by
  unfold cj byBlock
  by_cases hi : i < 16
  · rw [dif_pos hi, dif_pos hi]; exact iblk0_apply m c h j hj _ d
  · rw [dif_neg hi, dif_neg hi]

theorem cj_g (h : Fin 8) (j : ℕ) (hj : j < 16) (d : Fin 128) (i : ℕ) (r : Fin 512) :
    cj (iblk m c 1 (pt h j hj)) d i r = byBlock (fun s => argG m c (ix3 h s d)) i r := by
  unfold cj byBlock
  by_cases hi : i < 16
  · rw [dif_pos hi, dif_pos hi]; exact iblk1_apply m c h j hj _ d
  · rw [dif_neg hi, dif_neg hi]

/-- The gradient of the keys at row `x`, column `d` of one query head. -/
def dk (h : Fin 8) (x : Fin 8192) (d : Fin 128) : EReal := ∑ s : Fin 8192, dscore m c h s x * (argQ m c (ix3 h s d) : EReal)
/-- The gradient of the values at row `x`, column `d` of one query head. -/
def dv (h : Fin 8) (x : Fin 8192) (d : Fin 128) : EReal := ∑ s : Fin 8192, prob m c h s x * (argG m c (ix3 h s d) : EReal)
/-- The gradient of the queries at row `s`, column `d`. -/
def dq (h : Fin 8) (s : Fin 8192) (d : Fin 128) : EReal := ∑ x : Fin 8192, dscore m c h s x * (argK m c (ix3 (kvh h) x d) : EReal)

theorem sum_mul_byBlock (f g : Fin 8192 → EReal) :
    ∑ i ∈ Finset.range 16, ∑ r : Fin 512, byBlock f i r * byBlock g i r = ∑ s : Fin 8192, f s * g s := by
  refine (sum_blocks_range _ _ fun i hi r => ?_).symm
  unfold byBlock
  rw [dif_pos hi, dif_pos hi]

/-- What point `(h, j)` leaves in the key gradient's block. -/
theorem pt_dk (h : Fin 8) (j : ℕ) (hj : j < 16) (x : Fin 512) (d : Fin 128) :
    (outsAt0 m c (pt h j hj).val (pt h j hj).isLt).2.1 (ix3 0 x d) = dk m c h (at512 j hj x) d := by
  have hs : ∑ i ∈ Finset.range 16, ∑ r : Fin 512,
      dsj (iblk m c 0 (pt h j hj)) (iblk m c 1 (pt h j hj)) (iblk m c 2 (pt h j hj)) (iblk m c 3 (pt h j hj))
        (iblk m c 4 (pt h j hj)) (iblk m c 5 (pt h j hj)) x i r * cj (iblk m c 0 (pt h j hj)) d i r = dk m c h (at512 j hj x) d := by
    unfold dk
    rw [← sum_mul_byBlock]
    exact Finset.sum_congr rfl fun i _ => Finset.sum_congr rfl fun r _ => congrArg₂ _ (dsj_eq m c h j hj x i r) (cj_q m c h j hj d i r)
  by_cases h0 : (pt h j hj).val % 16 = 0
  · rw [outsAt0_A m c (pt h j hj) h0]
    dsimp only
    exact (out7_A c _ _ _ _ _ _ _ _ _ _ _ _ _ _ _ _ _ _ _ _ _ _ _ _ _ _ x d).trans hs
  · rw [outsAt0_B m c (pt h j hj) h0]
    dsimp only
    exact (out7_B c _ _ _ _ _ _ _ _ _ _ _ _ _ _ _ _ _ _ _ _ _ _ _ _ _ _ _ x d).trans hs

/-- What point `(h, j)` leaves in the value gradient's block. -/
theorem pt_dv (h : Fin 8) (j : ℕ) (hj : j < 16) (x : Fin 512) (d : Fin 128) :
    (outsAt0 m c (pt h j hj).val (pt h j hj).isLt).2.2 (ix3 0 x d) = dv m c h (at512 j hj x) d := by
  have hs : ∑ i ∈ Finset.range 16, ∑ r : Fin 512,
      pj (iblk m c 0 (pt h j hj)) (iblk m c 2 (pt h j hj)) (iblk m c 4 (pt h j hj)) x i r * cj (iblk m c 1 (pt h j hj)) d i r
        = dv m c h (at512 j hj x) d := by
    unfold dv
    rw [← sum_mul_byBlock]
    exact Finset.sum_congr rfl fun i _ => Finset.sum_congr rfl fun r _ => congrArg₂ _ (pj_eq m c h j hj x i r) (cj_g m c h j hj d i r)
  by_cases h0 : (pt h j hj).val % 16 = 0
  · rw [outsAt0_A m c (pt h j hj) h0]
    dsimp only
    exact (out8_A c _ _ _ _ _ _ _ _ _ _ _ _ _ _ _ _ _ _ _ _ _ _ _ _ _ _ x d).trans hs
  · rw [outsAt0_B m c (pt h j hj) h0]
    dsimp only
    exact (out8_B c _ _ _ _ _ _ _ _ _ _ _ _ _ _ _ _ _ _ _ _ _ _ _ _ _ _ _ x d).trans hs

/-- What one point adds to the query gradient. -/
theorem pt_add (h : Fin 8) (j : ℕ) (hj : j < 16) (i : ℕ) (hi : i < 16) (r : Fin 512) (d : Fin 128) :
    ∑ x : Fin 512, dsj (iblk m c 0 (pt h j hj)) (iblk m c 1 (pt h j hj)) (iblk m c 2 (pt h j hj)) (iblk m c 3 (pt h j hj))
        (iblk m c 4 (pt h j hj)) (iblk m c 5 (pt h j hj)) x i r * ((iblk m c 4 (pt h j hj) : Vec Ideal S1x512x128 .bf16) (ix3 0 x d) : EReal)
      = ∑ x : Fin 512, byBlock (dscore m c h (at512 i hi r)) j x * byBlock (fun x => argK m c (ix3 (kvh h) x d)) j x := by
  refine Finset.sum_congr rfl fun x _ => congrArg₂ _ ?_ ?_
  · rw [dsj_eq]; unfold byBlock; rw [dif_pos hi, dif_pos hj]
  · unfold byBlock; rw [dif_pos hj]; exact iblk4_apply m c h j hj x d

/-- The query gradient's block after the points `0, …, n` of head `h`: the sum over the key blocks passed. -/
theorem pt_dq (h : Fin 8) (i : ℕ) (hi : i < 16) (r : Fin 512) (d : Fin 128) : ∀ (n : ℕ) (hn : n < 16),
    ((outsAt0 m c (pt h n hn).val (pt h n hn).isLt).1 (ix3 0 (at512 i hi r) d) : EReal)
      = ∑ j ∈ Finset.range (n + 1), ∑ x : Fin 512,
          byBlock (dscore m c h (at512 i hi r)) j x * byBlock (fun x => argK m c (ix3 (kvh h) x d)) j x := by
  intro n
  induction n with
  | zero =>
    intro hn
    have h0 : (pt h 0 hn).val % 16 = 0 := by show (16 * h.val + 0) % 16 = 0; omega
    rw [outsAt0_A m c (pt h 0 hn) h0, Finset.sum_range_one]
    exact (out6_A c _ _ _ _ _ _ _ _ _ _ _ _ _ _ _ _ _ _ _ _ _ _ _ _ _ _ i hi r d).trans (pt_add m c h 0 hn i hi r d)
  | succ n ih =>
    intro hn
    have h0 : ¬(pt h (n + 1) hn).val % 16 = 0 := by show ¬(16 * h.val + (n + 1)) % 16 = 0; omega
    rw [outsAt0_B m c (pt h (n + 1) hn) h0, Finset.sum_range_succ, ← ih (by omega)]
    exact (out6_B c _ _ _ _ _ _ _ _ _ _ _ _ _ _ _ _ _ _ _ _ _ _ _ _ _ _ _ i hi r d).trans
      (congrArg₂ (α := EReal) (β := EReal) (· + ·) rfl (pt_add m c h (n + 1) hn i hi r d))

/-! ## The three arrays -/

theorem at512_div (s : Fin 8192) : at512 (s.val / 512) (by have := s.isLt; omega) ⟨s.val % 512, Nat.mod_lt _ (by decide)⟩ = s :=
  Fin.ext (Nat.div_add_mod s.val 512)

/-- The points that write the query gradient back are the last ones of the heads, and their blocks share nothing. -/
theorem disjoint6 : ∀ t t' : Fin cfg0.N, (cfg0.win 6).flush t = true → (cfg0.win 6).flush t' = true → t ≠ t' →
    Disjoint ((cfg0.win 6).blk t).view.set ((cfg0.win 6).blk t').view.set := by
  intro t t' hf hf' hne
  refine (cfg0.win 6).disjoint_blk fun h => hne ?_
  have e : t.val / 16 = t'.val / 16 := by
    have h0 : (![t.val / 16, 0, 0] : Fin 3 → ℕ) 0 = (![t'.val / 16, 0, 0] : Fin 3 → ℕ) 0 := by
      rw [← idx6 t, ← idx6 t']; exact congrFun h 0
    exact h0
  have h1 := (flush0_6 t).mp hf
  have h2 := (flush0_6 t').mp hf'
  apply Fin.ext
  omega

theorem final6 (h : Fin 8) (s : Fin 8192) (d : Fin 128) :
    ((dats m 0 c).arrAt 6 cfg0.N : FVec Ideal S8x8192x128 .f32) (ix3 h s d) = dq m c h s d := by
  have hf : (cfg0.win 6).flush (pt h 15 (by decide)) = true :=
    (flush0_6 _).mpr (by dsimp only; have := h.isLt; omega)
  have hb := congrFun ((dats m 0 c).read_blk_arrAt_eq_flushed 6 disjoint6 cfg0.N (pt h 15 (by decide)) (pt h 15 (by decide)).isLt hf) (ix3 0 s d)
  rw [Value.flushed6] at hb
  refine Eq.trans ?_ (hb.trans ?_)
  · rw [View.read_apply]
    congr 1
    have h1 := h.isLt
    exact (pos3 (idx6 (pt h 15 (by decide))) ((16 * h.val + 15) / 16) 0 0 1 8192 128 0 s.val d.val h.val s.val d.val rfl rfl rfl rfl rfl rfl (by omega) (by omega) (by omega)).symm
  · have e := pt_dq m c h (s.val / 512) (by have := s.isLt; omega) ⟨s.val % 512, Nat.mod_lt _ (by decide)⟩ d 15 (by decide)
    rw [at512_div, sum_mul_byBlock] at e
    exact e

theorem final7 (h : Fin 8) (x : Fin 8192) (d : Fin 128) :
    ((dats m 0 c).arrAt 7 cfg0.N : FVec Ideal S8x8192x128 .f32) (ix3 h x d) = dk m c h x d := by
  have hj : x.val / 512 < 16 := by have := x.isLt; omega
  have hb := congrFun (Value.blocks7 m c (pt h (x.val / 512) hj) (flush0_7 _)) (ix3 0 ⟨x.val % 512, Nat.mod_lt _ (by decide)⟩ d)
  rw [Value.flushed7] at hb
  refine Eq.trans ?_ (hb.trans ?_)
  · rw [View.read_apply]
    congr 1
    have h1 := h.isLt
    have h2 := x.isLt
    exact (pos3 (idx7 (pt h (x.val / 512) hj)) ((16 * h.val + x.val / 512) / 16) ((16 * h.val + x.val / 512) % 16) 0 1 512 128 0 (x.val % 512) d.val h.val x.val d.val rfl rfl rfl rfl rfl rfl (by omega) (by omega) (by omega)).symm
  · have e := pt_dk m c h (x.val / 512) hj ⟨x.val % 512, Nat.mod_lt _ (by decide)⟩ d
    rw [at512_div] at e
    exact e

theorem final8 (h : Fin 8) (x : Fin 8192) (d : Fin 128) :
    ((dats m 0 c).arrAt 8 cfg0.N : FVec Ideal S8x8192x128 .f32) (ix3 h x d) = dv m c h x d := by
  have hj : x.val / 512 < 16 := by have := x.isLt; omega
  have hb := congrFun (Value.blocks8 m c (pt h (x.val / 512) hj) (flush0_8 _)) (ix3 0 ⟨x.val % 512, Nat.mod_lt _ (by decide)⟩ d)
  rw [Value.flushed8] at hb
  refine Eq.trans ?_ (hb.trans ?_)
  · rw [View.read_apply]
    congr 1
    have h1 := h.isLt
    have h2 := x.isLt
    exact (pos3 (idx8 (pt h (x.val / 512) hj)) ((16 * h.val + x.val / 512) / 16) ((16 * h.val + x.val / 512) % 16) 0 1 512 128 0 (x.val % 512) d.val h.val x.val d.val rfl rfl rfl rfl rfl rfl (by omega) (by omega) (by omega)).symm
  · have e := pt_dv m c h (x.val / 512) hj ⟨x.val % 512, Nat.mod_lt _ (by decide)⟩ d
    rw [at512_div] at e
    exact e

end Cert.BwdAIdeal.Block

end
-- ==== Proof.BwdARefVal.lean ====
/- The backward attention reference, element by element. -/
module

public import proofs.«01_k».proof.Proof.Online
public import proofs.«01_k».proof.Proof.Gen.BwdARefIdeal.Run
public import Idealize.ShloMosaic.Lib.Pointwise

@[expose] public section

set_option maxRecDepth 16384

noncomputable section

namespace Cert.BwdARefIdeal.Val

open Cert.BwdARefIdeal Cert.BwdARefIdeal.Gen Idealize.ShloMosaic Idealize.ShloMosaic.TcCoe Cert.Online

variable (q g : FVec Ideal S8x8192x128 .bf16) (k v : FVec Ideal S2x8192x128 .bf16) (l e : FVec Ideal S8x16x1x512 .f32)

/-- Products of rows minus a number of the row. -/
def dArr : FVec Ideal S2x4x8192x8192 .f32 :=
  subf (Host.dotGeneral dot_S2x4x8192x128_S2x8192x128_S2x4x8192x8192_3_2_12_1_0_0 none (shapeCast _ (extf .f32 q bitsLt_bf16_f32) shapeCasts_S8x8192x128_S2x4x8192x128) (extf .f32 k bitsLt_bf16_f32)) (broadcastInDim S2x4x8192x8192 ![0, 1, 2, 3] bcast_S2x4x8192x1_S2x4x8192x8192_0_1_2_3 (broadcastInDim S2x4x8192x1 ![0, 1, 2] bcast_S2x4x8192_S2x4x8192x1_0_1_2 (shapeCast _ l shapeCasts_S8x16x1x512_S2x4x8192)))

theorem dArr_apply (b : Fin 2) (i : Fin 4) (s x : Fin 8192) :
    dArr q k l (ix4 b i s x) = (∑ d : Fin 128, (q (ix3 ⟨4 * b.val + i.val, by omega⟩ s d) : EReal) * (k (ix3 b x d) : EReal))
      - l (ix4 ⟨4 * b.val + i.val, by omega⟩ ⟨s.val / 512, by omega⟩ 0 ⟨s.val % 512, by omega⟩) := by
  pointwise [dArr]
  simp only [mul_comm b.val 4]

/-- The gradient of the queries from the probabilities and the differences. -/
def dqArr (p z : FVec Ideal S2x4x8192x8192 .f32) : FVec Ideal S8x8192x128 .f32 :=
  shapeCast _ (Host.dotGeneral dot_S2x4x8192x8192_S2x8192x128_S2x4x8192x128_3_1_12_2_0_0 none (mulf (Host.exp p) z) (extf .f32 k bitsLt_bf16_f32)) shapeCasts_S2x4x8192x128_S8x8192x128
/-- The gradient of the keys. -/
def dkArr (p z : FVec Ideal S2x4x8192x8192 .f32) : FVec Ideal S8x8192x128 .f32 :=
  shapeCast _ (Host.dotGeneral dot_S2x4x8192x8192_S2x4x8192x128_S2x4x8192x128_2_2_3_3_01_01 none (mulf (Host.exp p) z) (shapeCast _ (extf .f32 q bitsLt_bf16_f32) shapeCasts_S8x8192x128_S2x4x8192x128)) shapeCasts_S2x4x8192x128_S8x8192x128
/-- The gradient of the values. -/
def dvArr (p : FVec Ideal S2x4x8192x8192 .f32) : FVec Ideal S8x8192x128 .f32 :=
  shapeCast _ (Host.dotGeneral dot_S2x4x8192x8192_S2x4x8192x128_S2x4x8192x128_2_2_3_3_01_01 none (Host.exp p) (shapeCast _ (extf .f32 g bitsLt_bf16_f32) shapeCasts_S8x8192x128_S2x4x8192x128)) shapeCasts_S2x4x8192x128_S8x8192x128

theorem dqArr_apply (p z : FVec Ideal S2x4x8192x8192 .f32) (h : Fin 8) (s : Fin 8192) (d : Fin 128) :
    dqArr k p z (ix3 h s d) = ∑ x : Fin 8192, (Ideal.exp (p (ix4 ⟨h.val / 4, by omega⟩ ⟨h.val % 4, by omega⟩ s x))
      * z (ix4 ⟨h.val / 4, by omega⟩ ⟨h.val % 4, by omega⟩ s x)) * (k (ix3 ⟨h.val / 4, by omega⟩ x d) : EReal) := by
  pointwise [dqArr]

theorem dkArr_apply (p z : FVec Ideal S2x4x8192x8192 .f32) (h : Fin 8) (x : Fin 8192) (d : Fin 128) :
    dkArr q p z (ix3 h x d) = ∑ s : Fin 8192, (Ideal.exp (p (ix4 ⟨h.val / 4, by omega⟩ ⟨h.val % 4, by omega⟩ s x))
      * z (ix4 ⟨h.val / 4, by omega⟩ ⟨h.val % 4, by omega⟩ s x)) * (q (ix3 h s d) : EReal) := by
  pointwise [dkArr]

theorem dvArr_apply (p : FVec Ideal S2x4x8192x8192 .f32) (h : Fin 8) (x : Fin 8192) (d : Fin 128) :
    dvArr g p (ix3 h x d) = ∑ s : Fin 8192, (Ideal.exp (p (ix4 ⟨h.val / 4, by omega⟩ ⟨h.val % 4, by omega⟩ s x)))
      * (g (ix3 h s d) : EReal) := by
  pointwise [dvArr]

end Cert.BwdARefIdeal.Val

end
-- ==== Proof.BwdAClaim.lean ====
/- The backward attention of the first mixer: the kernel's three result arrays are the reference's. -/
module

public import proofs.«01_k».proof.Proof.BwdAArray
public import proofs.«01_k».proof.Proof.BwdARefVal
public import proofs.«01_k».proof.Proof.Rows
public import proofs.«01_k».proof.Defs

@[expose] public section

set_option maxRecDepth 16384

noncomputable section

namespace Cert.BwdAProof

open Idealize.ShloMosaic Idealize.ShloMosaic.TcCoe Idealize.SL.Sem Cert.Online Cert.BwdAIdeal.Block

section
variable (m : (ℓ : Loc Cert.BwdAIdeal.nD Cert.BwdAIdeal.τ Cert.BwdAIdeal.sig) → Buf (Elt Ideal) ℓ) (c : Dev Cert.BwdAIdeal.nD)

/-- The reference's logarithms of the probabilities. -/
abbrev refP := Cert.BwdARefIdeal.Val.dArr (argQ m c) (argK m c) (argL m c)
/-- The reference's differences of the probabilities' gradients. -/
abbrev refZ := Cert.BwdARefIdeal.Val.dArr (argG m c) (argV m c) (argD m c)

theorem prob_eq (h : Fin 8) (s x : Fin 8192) :
    Ideal.exp (refP m c (ix4 ⟨h.val / 4, by omega⟩ ⟨h.val % 4, by omega⟩ s x)) = prob m c h s x := by
  unfold refP
  rw [Cert.BwdARefIdeal.Val.dArr_apply]
  have e : (⟨4 * (h.val / 4) + h.val % 4, by omega⟩ : Fin 8) = h := Fin.ext (by dsimp only; omega)
  simp only [e]
  unfold prob
  exact congrArg (fun z => Ideal.exp (z - _)) (Finset.sum_congr rfl fun d _ => mul_comm _ _)

theorem dscore_eq (h : Fin 8) (s x : Fin 8192) :
    Ideal.exp (refP m c (ix4 ⟨h.val / 4, by omega⟩ ⟨h.val % 4, by omega⟩ s x))
      * refZ m c (ix4 ⟨h.val / 4, by omega⟩ ⟨h.val % 4, by omega⟩ s x) = dscore m c h s x := by
  rw [prob_eq]
  unfold refZ
  rw [Cert.BwdARefIdeal.Val.dArr_apply]
  have e : (⟨4 * (h.val / 4) + h.val % 4, by omega⟩ : Fin 8) = h := Fin.ext (by dsimp only; omega)
  simp only [e]
  unfold dscore
  exact congrArg (fun z => _ * (z - _)) (Finset.sum_congr rfl fun d _ => mul_comm _ _)

theorem dq_eq : ((Cert.BwdAIdeal.Gen.dats m 0 c).arrAt 6 Cert.BwdAIdeal.cfg0.N : FVec Ideal Cert.BwdAIdeal.S8x8192x128 .f32)
    = Cert.BwdARefIdeal.Val.dqArr (argK m c) (refP m c) (refZ m c) := by
  refine ext3 _ _ fun h s d => ?_
  rw [final6, Cert.BwdARefIdeal.Val.dqArr_apply]
  simp only [dscore_eq]
  rfl

theorem dk_eq : ((Cert.BwdAIdeal.Gen.dats m 0 c).arrAt 7 Cert.BwdAIdeal.cfg0.N : FVec Ideal Cert.BwdAIdeal.S8x8192x128 .f32)
    = Cert.BwdARefIdeal.Val.dkArr (argQ m c) (refP m c) (refZ m c) := by
  refine ext3 _ _ fun h s d => ?_
  rw [final7, Cert.BwdARefIdeal.Val.dkArr_apply]
  simp only [dscore_eq]
  rfl

theorem dv_eq : ((Cert.BwdAIdeal.Gen.dats m 0 c).arrAt 8 Cert.BwdAIdeal.cfg0.N : FVec Ideal Cert.BwdAIdeal.S8x8192x128 .f32)
    = Cert.BwdARefIdeal.Val.dvArr (argG m c) (refP m c) := by
  refine ext3 _ _ fun h s d => ?_
  rw [final8, Cert.BwdARefIdeal.Val.dvArr_apply]
  simp only [prob_eq]
  rfl
end

theorem algebraic : Cert.algebraic_BwdAIdeal_BwdARefIdeal (hBwdAIdeal := Cert.BwdAIdeal.Gen.facts)
    (hBwdARefIdeal := Cert.BwdARefIdeal.Gen.facts) := by
  intro m g m' g' _ hargs
  refine ⟨_, _, _, Cert.BwdAIdeal.Value.run_blocks m g, ?_⟩
  refine (θ_run _ _ _).mono ?_ (Cert.BwdARefIdeal.Value.run m' g')
  intro r hr c
  obtain ⟨h21, h22, h23, hk⟩ := hr c
  obtain ⟨a0, a1, a2, a3, a4, a5⟩ := hargs c
  refine ⟨h21.trans ?_, h22.trans ?_, h23.trans ?_, hk⟩
  · rw [a0, a1, a2, a3, a4, a5]
    exact (dq_eq m c).symm
  · rw [a0, a1, a2, a3, a4, a5]
    exact (dk_eq m c).symm
  · rw [a0, a1, a3, a4]
    exact (dv_eq m c).symm

end Cert.BwdAProof

end
-- ==== Proof.BwdBBlock.lean ====
/- What one grid point of the backward attention kernel leaves in its three output blocks, element by element. -/
module

public import proofs.«01_k».proof.Proof.Online
public import proofs.«01_k».proof.Proof.Gen.BwdBIdeal.Frame
public import Idealize.ShloMosaic.Lib.Pointwise
public import Idealize.ShloMosaic.Lib.WritesUnit

@[expose] public section

set_option maxRecDepth 16384

noncomputable section

namespace Cert.BwdBIdeal.Block

open Cert.BwdBIdeal Cert.BwdBIdeal.Gen Idealize.ShloMosaic Idealize.ShloMosaic.TcCoe Cert.Online

/-! ## The payloads -/

/-- The probability of key `x` for query `r`, from the saved logarithm `l` of the row's sum. -/
def pb (k q : Vec Ideal S1x512x128 .bf16) (l : Vec Ideal S1x1x1x512 .f32) (x r : Fin 512) : EReal :=
  Ideal.exp ((∑ d : Fin 128, (k (ix3 0 x d) : EReal) * (q (ix3 0 r d) : EReal)) - l (ix4 0 0 0 r))
/-- The gradient of the score of key `x` for query `r`. -/
def dsb (k v q g : Vec Ideal S1x512x128 .bf16) (l e : Vec Ideal S1x1x1x512 .f32) (x r : Fin 512) : EReal :=
  pb k q l x r * ((∑ d : Fin 128, (v (ix3 0 x d) : EReal) * (g (ix3 0 r d) : EReal)) - e (ix4 0 0 0 r))

theorem pay6_apply (k q : Vec Ideal S1x512x128 .bf16) (l : Vec Ideal S1x1x1x512 .f32) (x r : Fin 512) :
    k0_pay6 k q l (ix2 x r) = pb k q l x r := by
  pointwise [k0_pay6, k0_pay2, k0_pay4, pb]

theorem pay7_apply (k v q g : Vec Ideal S1x512x128 .bf16) (l e : Vec Ideal S1x1x1x512 .f32) (x r : Fin 512) :
    k0_pay7 k v q g l e (ix2 x r) = dsb k v q g l e x r := by
  pointwise [k0_pay7, k0_pay6, k0_pay5, k0_pay2, k0_pay4, pb, dsb]

theorem pay8_apply (k : Vec Ideal S1x512x128 .bf16) (a : FVec Ideal S512x128 .f32) (q g : Vec Ideal S1x512x128 .bf16)
    (l : Vec Ideal S1x1x1x512 .f32) (x : Fin 512) (d : Fin 128) :
    k0_pay8 k a q g l (ix2 x d) = a (ix2 x d) + ∑ r : Fin 512, pb k q l x r * (g (ix3 0 r d) : EReal) := by
  pointwise [k0_pay8, k0_pay6, k0_pay5, k0_pay2, k0_pay4, pb]

theorem pay9_apply (k v : Vec Ideal S1x512x128 .bf16) (a : FVec Ideal S512x128 .f32) (q g : Vec Ideal S1x512x128 .bf16)
    (l e : Vec Ideal S1x1x1x512 .f32) (x : Fin 512) (d : Fin 128) :
    k0_pay9 k v a q g l e (ix2 x d) = a (ix2 x d) + ∑ r : Fin 512, dsb k v q g l e x r * (q (ix3 0 r d) : EReal) := by
  pointwise [k0_pay9, k0_pay7, k0_pay6, k0_pay5, k0_pay2, k0_pay4, pb, dsb]

theorem pay10_apply (k v q g : Vec Ideal S1x512x128 .bf16) (l e : Vec Ideal S1x1x1x512 .f32) (o : Vec Ideal S1x512x128 .f32)
    (r : Fin 512) (d : Fin 128) :
    k0_pay10 k v q g l e o (ix3 0 r d) = o (ix3 0 r d) + ∑ x : Fin 512, dsb k v q g l e x r * (k (ix3 0 x d) : EReal) := by
  pointwise [k0_pay10, k0_pay7, k0_pay6, k0_pay5, k0_pay2, k0_pay4, pb, dsb]

theorem pay11_apply (a : FVec Ideal S512x128 .f32) (x : Fin 512) (d : Fin 128) : k0_pay11 a (ix3 0 x d) = a (ix2 x d) := by
  pointwise [k0_pay11]

theorem pay12_apply (a : FVec Ideal S512x128 .f32) (x : Fin 512) (d : Fin 128) : k0_pay12 a (ix3 0 x d) = a (ix2 x d) := by
  pointwise [k0_pay12]

theorem pay1_apply (s : Fin 8192) (d : Fin 128) : k0_pay1 (F := Ideal) (ix3 0 s d) = 0 := by
  pointwise [k0_pay1]

theorem pay3_apply (r : Fin 512) (d : Fin 128) : k0_pay3 (F := Ideal) (ix2 r d) = 0 := by
  pointwise [k0_pay3]

theorem hz : (![0, 0, 0] : Fin 3 → Nat) = fun _ => 0 := funext fun a => by fin_cases a <;> rfl

/-! ## The loads of a trip -/

theorem trips_eq : k0_t1_loop.trips = 16 := by decide +kernel

variable {e : EltTy}

/-- The 512 rows a trip loads of an array of 8192 rows. -/
theorem ld_apply (k : Vec Ideal S1x8192x128 e) (k' : Fin k0_t1_loop.trips)
    (h : ∀ a, k0_off1 k' a + (![1, 512, 128] : Fin 3 → ℕ) a ≤ S1x8192x128.size a)
    (hk : k'.val < 16) (x : Fin 512) (d : Fin 128) :
    (View.ld k (Rect.unit (s := S1x8192x128) (k0_off1 k') ![1, 512, 128] h) : Vec Ideal S1x512x128 e) (ix3 0 x d)
      = k (ix3 0 (at512 k'.val hk x) d) := by
  have e := k0_off1_eq k'
  unfold View.ld
  congr 1
  funext a
  apply Fin.ext
  match a with
  | ⟨0, _⟩ => show k0_off1 k' 0 + 1 * 0 = 0
              rw [e]; rfl
  | ⟨1, _⟩ => show k0_off1 k' 1 + 1 * x.val = 512 * k'.val + x.val
              rw [e]; show 512 * k'.val + 1 * x.val = 512 * k'.val + x.val; omega
  | ⟨2, _⟩ => show k0_off1 k' 2 + 1 * d.val = d.val
              rw [e]; show 0 + 1 * d.val = d.val; omega

/-- The row of 512 numbers a trip loads. -/
theorem ld_row (l : Vec Ideal S1x16x1x512 e) (k' : Fin k0_t1_loop.trips)
    (h : ∀ a, k0_off2 k' a + (![1, 1, 1, 512] : Fin 4 → ℕ) a ≤ S1x16x1x512.size a)
    (hk : k'.val < 16) (r : Fin 512) :
    (View.ld l (Rect.unit (s := S1x16x1x512) (k0_off2 k') ![1, 1, 1, 512] h) : Vec Ideal S1x1x1x512 e) (ix4 0 0 0 r)
      = l (ix4 0 ⟨k'.val, hk⟩ 0 r) := by
  have e := k0_off2_eq k'
  unfold View.ld
  congr 1
  funext a
  apply Fin.ext
  match a with
  | ⟨0, _⟩ => show k0_off2 k' 0 + 1 * 0 = 0
              rw [e]; rfl
  | ⟨1, _⟩ => show k0_off2 k' 1 + 1 * 0 = k'.val
              rw [e]; show k'.val + 1 * 0 = k'.val; omega
  | ⟨2, _⟩ => show k0_off2 k' 2 + 1 * 0 = 0
              rw [e]; rfl
  | ⟨3, _⟩ => show k0_off2 k' 3 + 1 * r.val = r.val
              rw [e]; show 0 + 1 * r.val = r.val; omega

variable (c : Dev nD) (i : grid0.Coords) (arg2 : Memref sig .tc .vmem S1x8192x128 .bf16) (h2 : arg2.IsWhole)
  (arg3 : Memref sig .tc .vmem S1x8192x128 .bf16) (h3 : arg3.IsWhole) (arg4 : Memref sig .tc .vmem S1x16x1x512 .f32) (h4 : arg4.IsWhole)
  (arg5 : Memref sig .tc .vmem S1x16x1x512 .f32) (h5 : arg5.IsWhole) (arg6 : Memref sig .tc .vmem S1x512x128 .bf16) (h6 : arg6.IsWhole)
  (arg7 : Memref sig .tc .vmem S1x512x128 .bf16) (h7 : arg7.IsWhole) (arg8 : Memref sig .tc .vmem S1x8192x128 .f32) (h8 : arg8.IsWhole)
  (arg9 : Memref sig .tc .vmem S1x512x128 .f32) (h9 : arg9.IsWhole) (arg10 : Memref sig .tc .vmem S1x512x128 .f32) (h10 : arg10.IsWhole)
  (q g : Vec Ideal S1x8192x128 .bf16) (l dl : Vec Ideal S1x16x1x512 .f32) (k v : Vec Ideal S1x512x128 .bf16)

/-- The rows a trip loads, named. -/
abbrev rows {e : EltTy} (a : Vec Ideal S1x8192x128 e) (k' : Fin k0_t1_loop.trips) : Vec Ideal S1x512x128 e :=
  View.ld a (Rect.unit (s := S1x8192x128) (k0_off1 k') S1x512x128.size (k0_off1_inb k'))
/-- The row of numbers a trip loads, named. -/
abbrev row {e : EltTy} (a : Vec Ideal S1x16x1x512 e) (k' : Fin k0_t1_loop.trips) : Vec Ideal S1x1x1x512 e :=
  View.ld a (Rect.unit (s := S1x16x1x512) (k0_off2 k') S1x1x1x512.size (k0_off2_inb k'))

theorem tripR_eq (k' : Fin k0_t1_loop.trips) (acc : FVec Ideal S512x128 .f32 × FVec Ideal S512x128 .f32) (f : BufTy.Contents (Elt Ideal) arg8.view.ty) :
    tripR_k0_t1 (F := Ideal) Variants.none c none i arg2 h2 arg3 h3 arg4 h4 arg5 h5 arg6 h6 arg7 h7 arg8 h8 arg9 h9 arg10 h10 k v
        (h2.unread q) (h3.unread g) (h4.unread l) (h5.unread dl) k' acc f
      = (k0_pay9 k v acc.1 (rows q k') (rows g k') (row l k') (row dl k'), k0_pay8 k acc.2 (rows q k') (rows g k') (row l k')) := by
  unfold tripR_k0_t1 trip_k0_t1
  dsimp only
  simp only [View.readAt_eq_ld, h2.read_unread, h3.read_unread, h4.read_unread, h5.read_unread]

theorem tripL_eq (k' : Fin k0_t1_loop.trips) (acc : FVec Ideal S512x128 .f32 × FVec Ideal S512x128 .f32) (f : BufTy.Contents (Elt Ideal) arg8.view.ty) :
    tripL_k0_t1 (F := Ideal) Variants.none c none i arg2 h2 arg3 h3 arg4 h4 arg5 h5 arg6 h6 arg7 h7 arg8 h8 arg9 h9 arg10 h10 k v
        (h2.unread q) (h3.unread g) (h4.unread l) (h5.unread dl) k' acc f
      = [⟨Rect.unit (s := S1x8192x128) (k0_off1 k') S1x512x128.size (k0_off1_inb k'),
          k0_pay10 k v (rows q k') (rows g k') (row l k') (row dl k') (rows (arg8.view.read (Elt Ideal) f) k')⟩] := by
  unfold tripL_k0_t1 trip_k0_t1
  dsimp only
  simp only [View.readAt_eq_ld, h2.read_unread, h3.read_unread, h4.read_unread, h5.read_unread]

/-! ## What the trips add up -/

/-- The probability of key `x` of the block for query `r` of query block `j` (zero past the last block). -/
def pj (x : Fin 512) (j : ℕ) (r : Fin 512) : EReal :=
  if h : j < 16 then
    Ideal.exp ((∑ d : Fin 128, (k (ix3 0 x d) : EReal) * (q (ix3 0 (at512 j h r) d) : EReal)) - l (ix4 0 ⟨j, h⟩ 0 r)) else 0
/-- The gradient of the score of key `x` of the block for query `r` of query block `j` (zero past the last block). -/
def dsj (x : Fin 512) (j : ℕ) (r : Fin 512) : EReal :=
  if h : j < 16 then
    pj q l k x j r * ((∑ d : Fin 128, (v (ix3 0 x d) : EReal) * (g (ix3 0 (at512 j h r) d) : EReal)) - dl (ix4 0 ⟨j, h⟩ 0 r)) else 0
/-- Column `d` of block `j` of an array of 8192 rows (zero past the last block). -/
def cj (a : Vec Ideal S1x8192x128 .bf16) (d : Fin 128) (j : ℕ) (r : Fin 512) : EReal :=
  if h : j < 16 then a (ix3 0 (at512 j h r) d) else 0

theorem pb_eq (n : ℕ) (hn : n < 16) (ht : n < k0_t1_loop.trips) (x r : Fin 512) :
    pb k (rows q ⟨n, ht⟩) (row l ⟨n, ht⟩) x r = pj q l k x n r := by
  unfold pb pj
  rw [dif_pos hn, show row l ⟨n, ht⟩ (ix4 0 0 0 r) = l (ix4 0 ⟨n, hn⟩ 0 r) from ld_row l ⟨n, ht⟩ _ hn r]
  exact congrArg (fun z => Ideal.exp (z - _)) (Finset.sum_congr rfl fun d _ => congrArg _ (ld_apply q ⟨n, ht⟩ _ hn r d))

theorem dsb_eq (n : ℕ) (hn : n < 16) (ht : n < k0_t1_loop.trips) (x r : Fin 512) :
    dsb k v (rows q ⟨n, ht⟩) (rows g ⟨n, ht⟩) (row l ⟨n, ht⟩) (row dl ⟨n, ht⟩) x r = dsj q g l dl k v x n r := by
  unfold dsb dsj
  rw [dif_pos hn, pb_eq q l k n hn ht, show row dl ⟨n, ht⟩ (ix4 0 0 0 r) = dl (ix4 0 ⟨n, hn⟩ 0 r) from ld_row dl ⟨n, ht⟩ _ hn r]
  exact congrArg (fun z => _ * (z - _)) (Finset.sum_congr rfl fun d _ => congrArg _ (ld_apply g ⟨n, ht⟩ _ hn r d))

theorem rows_eq (a : Vec Ideal S1x8192x128 .bf16) (n : ℕ) (hn : n < 16) (ht : n < k0_t1_loop.trips) (r : Fin 512) (d : Fin 128) :
    rows a ⟨n, ht⟩ (ix3 0 r d) = cj a d n r := by
  unfold cj
  rw [dif_pos hn]
  exact ld_apply a ⟨n, ht⟩ _ hn r d

/-- The state after `n` trips, from the contents `G` of the query gradient's block. -/
abbrev stn (G : BufTy.Contents (Elt Ideal) arg8.view.ty) (n : ℕ) :=
  st_k0_t1 (F := Ideal) Variants.none c none i arg2 h2 arg3 h3 arg4 h4 arg5 h5 arg6 h6 arg7 h7 arg8 h8 arg9 h9 arg10 h10 k v
    (h2.unread q) (h3.unread g) (h4.unread l) (h5.unread dl) G (k0_pay3, k0_pay3) n

/-- After `n` trips: the carried sums of the key and value gradients, and the query gradient of the rows passed. -/
theorem st_eq (G : BufTy.Contents (Elt Ideal) arg8.view.ty) (n : ℕ) (hn : n ≤ 16) :
    (∀ (x : Fin 512) (d : Fin 128), (stn c i arg2 h2 arg3 h3 arg4 h4 arg5 h5 arg6 h6 arg7 h7 arg8 h8 arg9 h9 arg10 h10 q g l dl k v G n).1.1 (ix2 x d)
        = ∑ j ∈ Finset.range n, ∑ r : Fin 512, dsj q g l dl k v x j r * cj q d j r)
    ∧ (∀ (x : Fin 512) (d : Fin 128), (stn c i arg2 h2 arg3 h3 arg4 h4 arg5 h5 arg6 h6 arg7 h7 arg8 h8 arg9 h9 arg10 h10 q g l dl k v G n).1.2 (ix2 x d)
        = ∑ j ∈ Finset.range n, ∑ r : Fin 512, pj q l k x j r * cj g d j r)
    ∧ (∀ (j : ℕ) (hj : j < 16) (r : Fin 512) (d : Fin 128), arg8.view.read (Elt Ideal) (arg8.view.writes (Elt Ideal) G
          (stn c i arg2 h2 arg3 h3 arg4 h4 arg5 h5 arg6 h6 arg7 h7 arg8 h8 arg9 h9 arg10 h10 q g l dl k v G n).2) (ix3 0 (at512 j hj r) d)
        = if j < n then (arg8.view.read (Elt Ideal) G (ix3 0 (at512 j hj r) d) : EReal)
              + ∑ x : Fin 512, dsj q g l dl k v x j r * (k (ix3 0 x d) : EReal)
            else arg8.view.read (Elt Ideal) G (ix3 0 (at512 j hj r) d)) := by
  induction n with
  | zero =>
    refine ⟨fun x d => ?_, fun x d => ?_, fun j hj r d => ?_⟩
    · rw [Finset.sum_range_zero]; exact pay3_apply x d
    · rw [Finset.sum_range_zero]; exact pay3_apply x d
    · rw [if_neg (Nat.not_lt_zero _)]; rfl
  | succ n ih =>
    have hn' : n < 16 := hn
    obtain ⟨e1, e2, e3⟩ := ih hn'.le
    have ht : n < k0_t1_loop.trips := by rw [trips_eq]; exact hn'
    have hs := st_k0_t1_succ (F := Ideal) Variants.none c none i arg2 h2 arg3 h3 arg4 h4 arg5 h5 arg6 h6 arg7 h7 arg8 h8 arg9 h9 arg10 h10 k v
      (h2.unread q) (h3.unread g) (h4.unread l) (h5.unread dl) G (k0_pay3, k0_pay3) ⟨n, ht⟩
    rw [tripR_eq, tripL_eq] at hs
    unfold stn
    rw [show n + 1 = (⟨n, ht⟩ : Fin k0_t1_loop.trips).val + 1 from rfl, hs]
    refine ⟨fun x d => ?_, fun x d => ?_, fun j hj r d => ?_⟩
    · dsimp only
      rw [pay9_apply, e1, Finset.sum_range_succ]
      exact congrArg _ (Finset.sum_congr rfl fun r _ => congrArg₂ _ (dsb_eq q g l dl k v n hn' ht x r) (rows_eq q n hn' ht r d))
    · dsimp only
      rw [pay8_apply, e2, Finset.sum_range_succ]
      exact congrArg _ (Finset.sum_congr rfl fun r _ => congrArg₂ _ (pb_eq q l k n hn' ht x r) (rows_eq g n hn' ht r d))
    · dsimp only
      rw [List.singleton_append]
      by_cases hjn : j = n
      · subst hjn
        rw [View.read_writes_cons_unit_of_mem arg8.view G (k0_off1_inb ⟨j, ht⟩) _ _ _ (ix3 0 r d) (k0_off1_eq ⟨j, ht⟩) (fun a => by
          match a with
          | ⟨0, _⟩ => rfl
          | ⟨1, _⟩ => rfl
          | ⟨2, _⟩ => show d.val = 0 + d.val; omega)]
        rw [if_pos (Nat.lt_succ_self j), pay10_apply]
        refine congrArg₂ (α := EReal) (β := EReal) (· + ·) ?_ (Finset.sum_congr rfl fun x _ => congrArg (· * _) (dsb_eq q g l dl k v j hn' ht x r))
        have h3 := e3 j hj r d
        rw [if_neg (lt_irrefl j)] at h3
        exact (ld_apply _ ⟨j, ht⟩ _ hn' r d).trans h3
      · rw [View.read_writes_cons_unit_of_not_mem arg8.view G (k0_off1_inb ⟨n, ht⟩) _ _ _ (k0_off1_eq ⟨n, ht⟩) (1 : Fin 3) (by
          have hr := r.isLt
          show 512 * j + r.val < 512 * n ∨ 512 * n + 512 ≤ 512 * j + r.val
          omega)]
        rw [e3 j hj r d]
        by_cases hlt : j < n
        · rw [if_pos hlt, if_pos (Nat.lt_succ_of_lt hlt)]
        · rw [if_neg hlt, if_neg (by show ¬ j < n + 1; omega)]

/-! ## The output blocks -/

theorem out7_A (hc0 : cond0_0 i) (x : Fin 512) (d : Fin 128) :
    out0_A_7 c i arg2 h2 arg3 h3 arg4 h4 arg5 h5 arg6 h6 arg7 h7 arg8 h8 arg9 h9 arg10 h10 hc0 q g l dl k v (ix3 0 x d)
      = ∑ j ∈ Finset.range 16, ∑ r : Fin 512, dsj q g l dl k v x j r * cj q d j r := by
  unfold out0_A_7
  rw [View.read_writes_eq_canon _ _ _ (cover0_A_7 c i arg2 h2 arg3 h3 arg4 h4 arg5 h5 arg6 h6 arg7 h7 arg8 h8 arg9 h9 arg10 h10 hc0 q g l dl k v)]
  unfold kernelRun0_A
  dsimp only
  rw [View.canon_unit_zero hz, pay11_apply]
  simp only [View.readAt_eq_ld, h6.read_unread, h7.read_unread, View.ld_unit_zero (S := S1x512x128) hz]
  rw [show Scf.trips (0#32) (Scalar.addi 0#32 16#32) 1#32 = 16 from trips_eq]
  exact (st_eq c i arg2 h2 arg3 h3 arg4 h4 arg5 h5 arg6 h6 arg7 h7 arg8 h8 arg9 h9 arg10 h10 q g l dl k v _ 16 le_rfl).1 x d

theorem out8_A (hc0 : cond0_0 i) (x : Fin 512) (d : Fin 128) :
    out0_A_8 c i arg2 h2 arg3 h3 arg4 h4 arg5 h5 arg6 h6 arg7 h7 arg8 h8 arg9 h9 arg10 h10 hc0 q g l dl k v (ix3 0 x d)
      = ∑ j ∈ Finset.range 16, ∑ r : Fin 512, pj q l k x j r * cj g d j r := by
  unfold out0_A_8
  rw [View.read_writes_eq_canon _ _ _ (cover0_A_8 c i arg2 h2 arg3 h3 arg4 h4 arg5 h5 arg6 h6 arg7 h7 arg8 h8 arg9 h9 arg10 h10 hc0 q g l dl k v)]
  unfold kernelRun0_A
  dsimp only
  rw [View.canon_unit_zero hz, pay12_apply]
  simp only [View.readAt_eq_ld, h6.read_unread, h7.read_unread, View.ld_unit_zero (S := S1x512x128) hz]
  rw [show Scf.trips (0#32) (Scalar.addi 0#32 16#32) 1#32 = 16 from trips_eq]
  exact (st_eq c i arg2 h2 arg3 h3 arg4 h4 arg5 h5 arg6 h6 arg7 h7 arg8 h8 arg9 h9 arg10 h10 q g l dl k v _ 16 le_rfl).2.1 x d

theorem out7_B (hc0 : ¬cond0_0 i) (o : Vec Ideal S1x8192x128 .f32) (x : Fin 512) (d : Fin 128) :
    out0_B_7 c i arg2 h2 arg3 h3 arg4 h4 arg5 h5 arg6 h6 arg7 h7 arg8 h8 arg9 h9 arg10 h10 hc0 q g l dl k v o (ix3 0 x d)
      = ∑ j ∈ Finset.range 16, ∑ r : Fin 512, dsj q g l dl k v x j r * cj q d j r := by
  unfold out0_B_7
  rw [View.read_writes_eq_canon _ _ _ (cover0_B_7 c i arg2 h2 arg3 h3 arg4 h4 arg5 h5 arg6 h6 arg7 h7 arg8 h8 arg9 h9 arg10 h10 hc0 q g l dl k v o)]
  unfold kernelRun0_B
  dsimp only
  rw [View.canon_unit_zero hz, pay11_apply]
  simp only [View.readAt_eq_ld, h6.read_unread, h7.read_unread, View.ld_unit_zero (S := S1x512x128) hz]
  rw [show Scf.trips (0#32) (Scalar.addi 0#32 16#32) 1#32 = 16 from trips_eq]
  exact (st_eq c i arg2 h2 arg3 h3 arg4 h4 arg5 h5 arg6 h6 arg7 h7 arg8 h8 arg9 h9 arg10 h10 q g l dl k v _ 16 le_rfl).1 x d

theorem out8_B (hc0 : ¬cond0_0 i) (o : Vec Ideal S1x8192x128 .f32) (x : Fin 512) (d : Fin 128) :
    out0_B_8 c i arg2 h2 arg3 h3 arg4 h4 arg5 h5 arg6 h6 arg7 h7 arg8 h8 arg9 h9 arg10 h10 hc0 q g l dl k v o (ix3 0 x d)
      = ∑ j ∈ Finset.range 16, ∑ r : Fin 512, pj q l k x j r * cj g d j r := by
  unfold out0_B_8
  rw [View.read_writes_eq_canon _ _ _ (cover0_B_8 c i arg2 h2 arg3 h3 arg4 h4 arg5 h5 arg6 h6 arg7 h7 arg8 h8 arg9 h9 arg10 h10 hc0 q g l dl k v o)]
  unfold kernelRun0_B
  dsimp only
  rw [View.canon_unit_zero hz, pay12_apply]
  simp only [View.readAt_eq_ld, h6.read_unread, h7.read_unread, View.ld_unit_zero (S := S1x512x128) hz]
  rw [show Scf.trips (0#32) (Scalar.addi 0#32 16#32) 1#32 = 16 from trips_eq]
  exact (st_eq c i arg2 h2 arg3 h3 arg4 h4 arg5 h5 arg6 h6 arg7 h7 arg8 h8 arg9 h9 arg10 h10 q g l dl k v _ 16 le_rfl).2.1 x d

/-- One write over the whole block is what the block then holds. -/
theorem read_full (w : View sig .tc .vmem S1x8192x128 .f32) (f : BufTy.Contents (Elt Ideal) w.ty) (a : Vec Ideal S1x8192x128 .f32)
    (y : S1x8192x128.Idx) :
    w.read (Elt Ideal) (w.writes (Elt Ideal) f
      [(⟨Rect.unit (s := S1x8192x128) ![0, 0, 0] S1x8192x128.size inb_S1x8192x128_S1x8192x128_0_0_0, a⟩ : View.Piece (Elt Ideal) S1x8192x128 .f32)]) y = a y :=
  View.read_writes_cons_unit_of_mem (s := S1x8192x128) w f inb_S1x8192x128_S1x8192x128_0_0_0 a [] y y hz (fun a => (Nat.zero_add _).symm)

/-- The first point of a head starts the query gradient at zero. -/
theorem out6_A (hc0 : cond0_0 i) (j : ℕ) (hj : j < 16) (r : Fin 512) (d : Fin 128) :
    out0_A_6 c i arg2 h2 arg3 h3 arg4 h4 arg5 h5 arg6 h6 arg7 h7 arg8 h8 arg9 h9 arg10 h10 hc0 q g l dl k v (ix3 0 (at512 j hj r) d)
      = ∑ x : Fin 512, dsj q g l dl k v x j r * (k (ix3 0 x d) : EReal) := by
  unfold out0_A_6
  rw [View.read_writes_of_cover _ _ arg8.view arg8.view.junk _ (cover0_A_6 c i arg2 h2 arg3 h3 arg4 h4 arg5 h5 arg6 h6 arg7 h7 arg8 h8 arg9 h9 arg10 h10 hc0 q g l dl k v)]
  unfold kernelRun0_A
  dsimp only
  simp only [View.readAt_eq_ld, h6.read_unread, h7.read_unread, View.ld_unit_zero (S := S1x512x128) hz]
  rw [View.writes_append]
  have h := (st_eq c i arg2 h2 arg3 h3 arg4 h4 arg5 h5 arg6 h6 arg7 h7 arg8 h8 arg9 h9 arg10 h10 q g l dl k v
    (arg8.view.writes (Elt Ideal) arg8.view.junk kernelRun0_A.sl.H6_1) 16 le_rfl).2.2 j hj r d
  rw [if_pos hj] at h
  rw [show Scf.trips (0#32) (Scalar.addi 0#32 16#32) 1#32 = 16 from trips_eq]
  refine h.trans ?_
  unfold kernelRun0_A.sl.H6_1
  rw [read_full, pay1_apply, zero_add]

/-- A later point adds to what the point before left. -/
theorem out6_B (hc0 : ¬cond0_0 i) (o : Vec Ideal S1x8192x128 .f32) (j : ℕ) (hj : j < 16) (r : Fin 512) (d : Fin 128) :
    out0_B_6 c i arg2 h2 arg3 h3 arg4 h4 arg5 h5 arg6 h6 arg7 h7 arg8 h8 arg9 h9 arg10 h10 hc0 q g l dl k v o (ix3 0 (at512 j hj r) d)
      = (o (ix3 0 (at512 j hj r) d) : EReal) + ∑ x : Fin 512, dsj q g l dl k v x j r * (k (ix3 0 x d) : EReal) := by
  unfold out0_B_6
  rw [View.read_writes_of_cover _ _ arg8.view (h8.unread o) _ (cover0_B_6 c i arg2 h2 arg3 h3 arg4 h4 arg5 h5 arg6 h6 arg7 h7 arg8 h8 arg9 h9 arg10 h10 hc0 q g l dl k v o)]
  unfold kernelRun0_B
  dsimp only
  simp only [View.readAt_eq_ld, h6.read_unread, h7.read_unread, View.ld_unit_zero (S := S1x512x128) hz]
  rw [show Scf.trips (0#32) (Scalar.addi 0#32 16#32) 1#32 = 16 from trips_eq]
  have h := (st_eq c i arg2 h2 arg3 h3 arg4 h4 arg5 h5 arg6 h6 arg7 h7 arg8 h8 arg9 h9 arg10 h10 q g l dl k v
    (h8.unread o) 16 le_rfl).2.2 j hj r d
  rw [if_pos hj, h8.read_unread] at h
  exact h

end Cert.BwdBIdeal.Block

end
-- ==== Proof.BwdBArray.lean ====
/- The result arrays of the backward attention kernel, element by element, from the arrays it is given. -/
module

public import proofs.«01_k».proof.Proof.Pos
public import proofs.«01_k».proof.Proof.BwdBBlock
public import proofs.«01_k».proof.Proof.Gen.BwdBIdeal.Value

@[expose] public section

set_option maxRecDepth 16384

noncomputable section

namespace Cert.BwdBIdeal.Block

open Cert.BwdBIdeal Cert.BwdBIdeal.Gen Idealize.ShloMosaic Idealize.ShloMosaic.TcCoe Cert.Online

variable (m : (ℓ : Loc nD τ sig) → Buf (Elt Ideal) ℓ) (c : Dev nD)

/-- The six arguments as arrays. -/
abbrev argQ : FVec Ideal S4x8192x128 .bf16 := m (c.tc.loc main_arg0)
abbrev argK : FVec Ideal S4x8192x128 .bf16 := m (c.tc.loc main_arg1)
abbrev argV : FVec Ideal S4x8192x128 .bf16 := m (c.tc.loc main_arg2)
abbrev argG : FVec Ideal S4x8192x128 .bf16 := m (c.tc.loc main_arg3)
abbrev argL : FVec Ideal S4x16x1x512 .f32 := m (c.tc.loc main_arg4)
abbrev argD : FVec Ideal S4x16x1x512 .f32 := m (c.tc.loc main_arg5)

/-- The grid point of head `h` and key block `j`. -/
abbrev pt (h : Fin 4) (j : ℕ) (hj : j < 16) : Fin cfg0.N :=
  ⟨16 * h.val + j, by rw [show cfg0.N = 64 from N_0]; have := h.isLt; omega⟩
/-- A query head's key head. -/
abbrev kvh (h : Fin 4) : Fin 4 := h

theorem idx0 : ∀ t : Fin cfg0.N, win0_0.index t = ![t.val / 16, 0, 0] := by decide +kernel
theorem idx1 : ∀ t : Fin cfg0.N, win0_1.index t = ![t.val / 16, 0, 0] := by decide +kernel
theorem idx2 : ∀ t : Fin cfg0.N, win0_2.index t = ![t.val / 16, 0, 0, 0] := by decide +kernel
theorem idx3 : ∀ t : Fin cfg0.N, win0_3.index t = ![t.val / 16, 0, 0, 0] := by decide +kernel
theorem idx4 : ∀ t : Fin cfg0.N, win0_4.index t = ![t.val / 16, t.val % 16, 0] := by decide +kernel
theorem idx5 : ∀ t : Fin cfg0.N, win0_5.index t = ![t.val / 16, t.val % 16, 0] := by decide +kernel
theorem idx6 : ∀ t : Fin cfg0.N, win0_6.index t = ![t.val / 16, 0, 0] := by decide +kernel
theorem idx7 : ∀ t : Fin cfg0.N, win0_7.index t = ![t.val / 16, t.val % 16, 0] := by decide +kernel
theorem idx8 : ∀ t : Fin cfg0.N, win0_8.index t = ![t.val / 16, t.val % 16, 0] := by decide +kernel

theorem iblk0_apply (h : Fin 4) (j : ℕ) (hj : j < 16) (s : Fin 8192) (d : Fin 128) :
    (iblk m c 0 (pt h j hj) : Vec Ideal S1x8192x128 .bf16) (ix3 0 s d) = argQ m c (ix3 h s d) := by
  unfold iblk
  rw [View.read_apply]
  show V m c main_arg0 _ = m (c.tc.loc main_arg0) _
  unfold V
  congr 1
  have h1 := h.isLt
  exact pos3 (idx0 (pt h j hj)) ((16 * h.val + j) / 16) 0 0 1 8192 128 0 s.val d.val h.val s.val d.val rfl rfl rfl rfl rfl rfl (by omega) (by omega) (by omega)

theorem iblk1_apply (h : Fin 4) (j : ℕ) (hj : j < 16) (s : Fin 8192) (d : Fin 128) :
    (iblk m c 1 (pt h j hj) : Vec Ideal S1x8192x128 .bf16) (ix3 0 s d) = argG m c (ix3 h s d) := by
  unfold iblk
  rw [View.read_apply]
  show V m c main_arg3 _ = m (c.tc.loc main_arg3) _
  unfold V
  congr 1
  have h1 := h.isLt
  exact pos3 (idx1 (pt h j hj)) ((16 * h.val + j) / 16) 0 0 1 8192 128 0 s.val d.val h.val s.val d.val rfl rfl rfl rfl rfl rfl (by omega) (by omega) (by omega)

theorem iblk2_apply (h : Fin 4) (j : ℕ) (hj : j < 16) (i : Fin 16) (r : Fin 512) :
    (iblk m c 2 (pt h j hj) : Vec Ideal S1x16x1x512 .f32) (ix4 0 i 0 r) = argL m c (ix4 h i 0 r) := by
  unfold iblk
  rw [View.read_apply]
  show V m c main_arg4 _ = m (c.tc.loc main_arg4) _
  unfold V
  congr 1
  have h1 := h.isLt
  exact pos4 (idx2 (pt h j hj)) ((16 * h.val + j) / 16) 0 0 0 1 16 1 512 0 i.val 0 r.val h.val i.val 0 r.val rfl rfl rfl rfl rfl rfl rfl rfl (by omega) (by omega) (by omega) (by omega)

theorem iblk3_apply (h : Fin 4) (j : ℕ) (hj : j < 16) (i : Fin 16) (r : Fin 512) :
    (iblk m c 3 (pt h j hj) : Vec Ideal S1x16x1x512 .f32) (ix4 0 i 0 r) = argD m c (ix4 h i 0 r) := by
  unfold iblk
  rw [View.read_apply]
  show V m c main_arg5 _ = m (c.tc.loc main_arg5) _
  unfold V
  congr 1
  have h1 := h.isLt
  exact pos4 (idx3 (pt h j hj)) ((16 * h.val + j) / 16) 0 0 0 1 16 1 512 0 i.val 0 r.val h.val i.val 0 r.val rfl rfl rfl rfl rfl rfl rfl rfl (by omega) (by omega) (by omega) (by omega)

theorem iblk4_apply (h : Fin 4) (j : ℕ) (hj : j < 16) (x : Fin 512) (d : Fin 128) :
    (iblk m c 4 (pt h j hj) : Vec Ideal S1x512x128 .bf16) (ix3 0 x d) = argK m c (ix3 (kvh h) (at512 j hj x) d) := by
  unfold iblk
  rw [View.read_apply]
  show V m c main_arg1 _ = m (c.tc.loc main_arg1) _
  unfold V
  congr 1
  have h1 := h.isLt
  exact pos3 (idx4 (pt h j hj)) ((16 * h.val + j) / 16) ((16 * h.val + j) % 16) 0 1 512 128 0 x.val d.val h.val (512 * j + x.val) d.val rfl rfl rfl rfl rfl rfl (by omega) (by omega) (by omega)

theorem iblk5_apply (h : Fin 4) (j : ℕ) (hj : j < 16) (x : Fin 512) (d : Fin 128) :
    (iblk m c 5 (pt h j hj) : Vec Ideal S1x512x128 .bf16) (ix3 0 x d) = argV m c (ix3 (kvh h) (at512 j hj x) d) := by
  unfold iblk
  rw [View.read_apply]
  show V m c main_arg2 _ = m (c.tc.loc main_arg2) _
  unfold V
  congr 1
  have h1 := h.isLt
  exact pos3 (idx5 (pt h j hj)) ((16 * h.val + j) / 16) ((16 * h.val + j) % 16) 0 1 512 128 0 x.val d.val h.val (512 * j + x.val) d.val rfl rfl rfl rfl rfl rfl (by omega) (by omega) (by omega)

/-- The probability of key `x` for query `s` of head `h`. -/
def prob (h : Fin 4) (s x : Fin 8192) : EReal :=
  Ideal.exp ((∑ d : Fin 128, (argK m c (ix3 (kvh h) x d) : EReal) * (argQ m c (ix3 h s d) : EReal))
    - argL m c (ix4 h ⟨s.val / 512, by have := s.isLt; omega⟩ 0 ⟨s.val % 512, Nat.mod_lt _ (by decide)⟩))
/-- The gradient of the score of key `x` for query `s` of head `h`. -/
def dscore (h : Fin 4) (s x : Fin 8192) : EReal :=
  prob m c h s x * ((∑ d : Fin 128, (argV m c (ix3 (kvh h) x d) : EReal) * (argG m c (ix3 h s d) : EReal))
    - argD m c (ix4 h ⟨s.val / 512, by have := s.isLt; omega⟩ 0 ⟨s.val % 512, Nat.mod_lt _ (by decide)⟩))

/-- A sum's terms by blocks of 512, zero past the last. -/
def byBlock (f : Fin 8192 → EReal) (i : ℕ) (r : Fin 512) : EReal := if hi : i < 16 then f (at512 i hi r) else 0

theorem div_at512 (i : ℕ) (hi : i < 16) (r : Fin 512) (h : (at512 i hi r).val / 512 < 16) :
    (⟨(at512 i hi r).val / 512, h⟩ : Fin 16) = ⟨i, hi⟩ :=
  Fin.ext (by show (512 * i + r.val) / 512 = i; have := r.isLt; omega)
theorem mod_at512 (i : ℕ) (hi : i < 16) (r : Fin 512) (h : (at512 i hi r).val % 512 < 512) :
    (⟨(at512 i hi r).val % 512, h⟩ : Fin 512) = r :=
  Fin.ext (by show (512 * i + r.val) % 512 = r.val; have := r.isLt; omega)

theorem pj_eq (h : Fin 4) (j : ℕ) (hj : j < 16) (x : Fin 512) (i : ℕ) (r : Fin 512) :
    pj (iblk m c 0 (pt h j hj)) (iblk m c 2 (pt h j hj)) (iblk m c 4 (pt h j hj)) x i r
      = byBlock (fun s => prob m c h s (at512 j hj x)) i r := by
  unfold pj byBlock
  by_cases hi : i < 16
  · rw [dif_pos hi, dif_pos hi]
    unfold prob
    beta_reduce
    rw [div_at512, mod_at512]
    exact congrArg₂ (fun a b => Ideal.exp (a - b))
      (Finset.sum_congr rfl fun d _ => congrArg₂ _ (iblk4_apply m c h j hj x d) (iblk0_apply m c h j hj _ d)) (iblk2_apply m c h j hj ⟨i, hi⟩ r)
  · rw [dif_neg hi, dif_neg hi]

theorem dsj_eq (h : Fin 4) (j : ℕ) (hj : j < 16) (x : Fin 512) (i : ℕ) (r : Fin 512) :
    dsj (iblk m c 0 (pt h j hj)) (iblk m c 1 (pt h j hj)) (iblk m c 2 (pt h j hj)) (iblk m c 3 (pt h j hj))
        (iblk m c 4 (pt h j hj)) (iblk m c 5 (pt h j hj)) x i r
      = byBlock (fun s => dscore m c h s (at512 j hj x)) i r := by
  unfold dsj
  rw [pj_eq]
  unfold byBlock
  by_cases hi : i < 16
  · rw [dif_pos hi, dif_pos hi, dif_pos hi]
    unfold dscore
    beta_reduce
    rw [div_at512, mod_at512]
    exact congrArg₂ (fun a b => _ * (a - b))
      (Finset.sum_congr rfl fun d _ => congrArg₂ _ (iblk5_apply m c h j hj x d) (iblk1_apply m c h j hj _ d)) (iblk3_apply m c h j hj ⟨i, hi⟩ r)
  · rw [dif_neg hi, dif_neg hi]

theorem cj_q (h : Fin 4) (j : ℕ) (hj : j < 16) (d : Fin 128) (i : ℕ) (r : Fin 512) :
    cj (iblk m c 0 (pt h j hj)) d i r = byBlock (fun s => argQ m c (ix3 h s d)) i r := by
  unfold cj byBlock
  by_cases hi : i < 16
  · rw [dif_pos hi, dif_pos hi]; exact iblk0_apply m c h j hj _ d
  · rw [dif_neg hi, dif_neg hi]

theorem cj_g (h : Fin 4) (j : ℕ) (hj : j < 16) (d : Fin 128) (i : ℕ) (r : Fin 512) :
    cj (iblk m c 1 (pt h j hj)) d i r = byBlock (fun s => argG m c (ix3 h s d)) i r := by
  unfold cj byBlock
  by_cases hi : i < 16
  · rw [dif_pos hi, dif_pos hi]; exact iblk1_apply m c h j hj _ d
  · rw [dif_neg hi, dif_neg hi]

/-- The gradient of the keys at row `x`, column `d` of one query head. -/
def dk (h : Fin 4) (x : Fin 8192) (d : Fin 128) : EReal := ∑ s : Fin 8192, dscore m c h s x * (argQ m c (ix3 h s d) : EReal)
/-- The gradient of the values at row `x`, column `d` of one query head. -/
def dv (h : Fin 4) (x : Fin 8192) (d : Fin 128) : EReal := ∑ s : Fin 8192, prob m c h s x * (argG m c (ix3 h s d) : EReal)
/-- The gradient of the queries at row `s`, column `d`. -/
def dq (h : Fin 4) (s : Fin 8192) (d : Fin 128) : EReal := ∑ x : Fin 8192, dscore m c h s x * (argK m c (ix3 (kvh h) x d) : EReal)

theorem sum_mul_byBlock (f g : Fin 8192 → EReal) :
    ∑ i ∈ Finset.range 16, ∑ r : Fin 512, byBlock f i r * byBlock g i r = ∑ s : Fin 8192, f s * g s := by
  refine (sum_blocks_range _ _ fun i hi r => ?_).symm
  unfold byBlock
  rw [dif_pos hi, dif_pos hi]

/-- What point `(h, j)` leaves in the key gradient's block. -/
theorem pt_dk (h : Fin 4) (j : ℕ) (hj : j < 16) (x : Fin 512) (d : Fin 128) :
    (outsAt0 m c (pt h j hj).val (pt h j hj).isLt).2.1 (ix3 0 x d) = dk m c h (at512 j hj x) d := by
  have hs : ∑ i ∈ Finset.range 16, ∑ r : Fin 512,
      dsj (iblk m c 0 (pt h j hj)) (iblk m c 1 (pt h j hj)) (iblk m c 2 (pt h j hj)) (iblk m c 3 (pt h j hj))
        (iblk m c 4 (pt h j hj)) (iblk m c 5 (pt h j hj)) x i r * cj (iblk m c 0 (pt h j hj)) d i r = dk m c h (at512 j hj x) d := by
    unfold dk
    rw [← sum_mul_byBlock]
    exact Finset.sum_congr rfl fun i _ => Finset.sum_congr rfl fun r _ => congrArg₂ _ (dsj_eq m c h j hj x i r) (cj_q m c h j hj d i r)
  by_cases h0 : (pt h j hj).val % 16 = 0
  · rw [outsAt0_A m c (pt h j hj) h0]
    dsimp only
    exact (out7_A c _ _ _ _ _ _ _ _ _ _ _ _ _ _ _ _ _ _ _ _ _ _ _ _ _ _ x d).trans hs
  · rw [outsAt0_B m c (pt h j hj) h0]
    dsimp only
    exact (out7_B c _ _ _ _ _ _ _ _ _ _ _ _ _ _ _ _ _ _ _ _ _ _ _ _ _ _ _ x d).trans hs

/-- What point `(h, j)` leaves in the value gradient's block. -/
theorem pt_dv (h : Fin 4) (j : ℕ) (hj : j < 16) (x : Fin 512) (d : Fin 128) :
    (outsAt0 m c (pt h j hj).val (pt h j hj).isLt).2.2 (ix3 0 x d) = dv m c h (at512 j hj x) d := by
  have hs : ∑ i ∈ Finset.range 16, ∑ r : Fin 512,
      pj (iblk m c 0 (pt h j hj)) (iblk m c 2 (pt h j hj)) (iblk m c 4 (pt h j hj)) x i r * cj (iblk m c 1 (pt h j hj)) d i r
        = dv m c h (at512 j hj x) d := by
    unfold dv
    rw [← sum_mul_byBlock]
    exact Finset.sum_congr rfl fun i _ => Finset.sum_congr rfl fun r _ => congrArg₂ _ (pj_eq m c h j hj x i r) (cj_g m c h j hj d i r)
  by_cases h0 : (pt h j hj).val % 16 = 0
  · rw [outsAt0_A m c (pt h j hj) h0]
    dsimp only
    exact (out8_A c _ _ _ _ _ _ _ _ _ _ _ _ _ _ _ _ _ _ _ _ _ _ _ _ _ _ x d).trans hs
  · rw [outsAt0_B m c (pt h j hj) h0]
    dsimp only
    exact (out8_B c _ _ _ _ _ _ _ _ _ _ _ _ _ _ _ _ _ _ _ _ _ _ _ _ _ _ _ x d).trans hs

/-- What one point adds to the query gradient. -/
theorem pt_add (h : Fin 4) (j : ℕ) (hj : j < 16) (i : ℕ) (hi : i < 16) (r : Fin 512) (d : Fin 128) :
    ∑ x : Fin 512, dsj (iblk m c 0 (pt h j hj)) (iblk m c 1 (pt h j hj)) (iblk m c 2 (pt h j hj)) (iblk m c 3 (pt h j hj))
        (iblk m c 4 (pt h j hj)) (iblk m c 5 (pt h j hj)) x i r * ((iblk m c 4 (pt h j hj) : Vec Ideal S1x512x128 .bf16) (ix3 0 x d) : EReal)
      = ∑ x : Fin 512, byBlock (dscore m c h (at512 i hi r)) j x * byBlock (fun x => argK m c (ix3 (kvh h) x d)) j x := by
  refine Finset.sum_congr rfl fun x _ => congrArg₂ _ ?_ ?_
  · rw [dsj_eq]; unfold byBlock; rw [dif_pos hi, dif_pos hj]
  · unfold byBlock; rw [dif_pos hj]; exact iblk4_apply m c h j hj x d

/-- The query gradient's block after the points `0, …, n` of head `h`: the sum over the key blocks passed. -/
theorem pt_dq (h : Fin 4) (i : ℕ) (hi : i < 16) (r : Fin 512) (d : Fin 128) : ∀ (n : ℕ) (hn : n < 16),
    ((outsAt0 m c (pt h n hn).val (pt h n hn).isLt).1 (ix3 0 (at512 i hi r) d) : EReal)
      = ∑ j ∈ Finset.range (n + 1), ∑ x : Fin 512,
          byBlock (dscore m c h (at512 i hi r)) j x * byBlock (fun x => argK m c (ix3 (kvh h) x d)) j x := by
  intro n
  induction n with
  | zero =>
    intro hn
    have h0 : (pt h 0 hn).val % 16 = 0 := by show (16 * h.val + 0) % 16 = 0; omega
    rw [outsAt0_A m c (pt h 0 hn) h0, Finset.sum_range_one]
    exact (out6_A c _ _ _ _ _ _ _ _ _ _ _ _ _ _ _ _ _ _ _ _ _ _ _ _ _ _ i hi r d).trans (pt_add m c h 0 hn i hi r d)
  | succ n ih =>
    intro hn
    have h0 : ¬(pt h (n + 1) hn).val % 16 = 0 := by show ¬(16 * h.val + (n + 1)) % 16 = 0; omega
    rw [outsAt0_B m c (pt h (n + 1) hn) h0, Finset.sum_range_succ, ← ih (by omega)]
    exact (out6_B c _ _ _ _ _ _ _ _ _ _ _ _ _ _ _ _ _ _ _ _ _ _ _ _ _ _ _ i hi r d).trans
      (congrArg₂ (α := EReal) (β := EReal) (· + ·) rfl (pt_add m c h (n + 1) hn i hi r d))

/-! ## The three arrays -/

theorem at512_div (s : Fin 8192) : at512 (s.val / 512) (by have := s.isLt; omega) ⟨s.val % 512, Nat.mod_lt _ (by decide)⟩ = s :=
  Fin.ext (Nat.div_add_mod s.val 512)

/-- The points that write the query gradient back are the last ones of the heads, and their blocks share nothing. -/
theorem disjoint6 : ∀ t t' : Fin cfg0.N, (cfg0.win 6).flush t = true → (cfg0.win 6).flush t' = true → t ≠ t' →
    Disjoint ((cfg0.win 6).blk t).view.set ((cfg0.win 6).blk t').view.set := by
  intro t t' hf hf' hne
  refine (cfg0.win 6).disjoint_blk fun h => hne ?_
  have e : t.val / 16 = t'.val / 16 := by
    have h0 : (![t.val / 16, 0, 0] : Fin 3 → ℕ) 0 = (![t'.val / 16, 0, 0] : Fin 3 → ℕ) 0 := by
      rw [← idx6 t, ← idx6 t']; exact congrFun h 0
    exact h0
  have h1 := (flush0_6 t).mp hf
  have h2 := (flush0_6 t').mp hf'
  apply Fin.ext
  omega

theorem final6 (h : Fin 4) (s : Fin 8192) (d : Fin 128) :
    ((dats m 0 c).arrAt 6 cfg0.N : FVec Ideal S4x8192x128 .f32) (ix3 h s d) = dq m c h s d := by
  have hf : (cfg0.win 6).flush (pt h 15 (by decide)) = true :=
    (flush0_6 _).mpr (by dsimp only; have := h.isLt; omega)
  have hb := congrFun ((dats m 0 c).read_blk_arrAt_eq_flushed 6 disjoint6 cfg0.N (pt h 15 (by decide)) (pt h 15 (by decide)).isLt hf) (ix3 0 s d)
  rw [Value.flushed6] at hb
  refine Eq.trans ?_ (hb.trans ?_)
  · rw [View.read_apply]
    congr 1
    have h1 := h.isLt
    exact (pos3 (idx6 (pt h 15 (by decide))) ((16 * h.val + 15) / 16) 0 0 1 8192 128 0 s.val d.val h.val s.val d.val rfl rfl rfl rfl rfl rfl (by omega) (by omega) (by omega)).symm
  · have e := pt_dq m c h (s.val / 512) (by have := s.isLt; omega) ⟨s.val % 512, Nat.mod_lt _ (by decide)⟩ d 15 (by decide)
    rw [at512_div, sum_mul_byBlock] at e
    exact e

theorem final7 (h : Fin 4) (x : Fin 8192) (d : Fin 128) :
    ((dats m 0 c).arrAt 7 cfg0.N : FVec Ideal S4x8192x128 .f32) (ix3 h x d) = dk m c h x d := by
  have hj : x.val / 512 < 16 := by have := x.isLt; omega
  have hb := congrFun (Value.blocks7 m c (pt h (x.val / 512) hj) (flush0_7 _)) (ix3 0 ⟨x.val % 512, Nat.mod_lt _ (by decide)⟩ d)
  rw [Value.flushed7] at hb
  refine Eq.trans ?_ (hb.trans ?_)
  · rw [View.read_apply]
    congr 1
    have h1 := h.isLt
    have h2 := x.isLt
    exact (pos3 (idx7 (pt h (x.val / 512) hj)) ((16 * h.val + x.val / 512) / 16) ((16 * h.val + x.val / 512) % 16) 0 1 512 128 0 (x.val % 512) d.val h.val x.val d.val rfl rfl rfl rfl rfl rfl (by omega) (by omega) (by omega)).symm
  · have e := pt_dk m c h (x.val / 512) hj ⟨x.val % 512, Nat.mod_lt _ (by decide)⟩ d
    rw [at512_div] at e
    exact e

theorem final8 (h : Fin 4) (x : Fin 8192) (d : Fin 128) :
    ((dats m 0 c).arrAt 8 cfg0.N : FVec Ideal S4x8192x128 .f32) (ix3 h x d) = dv m c h x d := by
  have hj : x.val / 512 < 16 := by have := x.isLt; omega
  have hb := congrFun (Value.blocks8 m c (pt h (x.val / 512) hj) (flush0_8 _)) (ix3 0 ⟨x.val % 512, Nat.mod_lt _ (by decide)⟩ d)
  rw [Value.flushed8] at hb
  refine Eq.trans ?_ (hb.trans ?_)
  · rw [View.read_apply]
    congr 1
    have h1 := h.isLt
    have h2 := x.isLt
    exact (pos3 (idx8 (pt h (x.val / 512) hj)) ((16 * h.val + x.val / 512) / 16) ((16 * h.val + x.val / 512) % 16) 0 1 512 128 0 (x.val % 512) d.val h.val x.val d.val rfl rfl rfl rfl rfl rfl (by omega) (by omega) (by omega)).symm
  · have e := pt_dv m c h (x.val / 512) hj ⟨x.val % 512, Nat.mod_lt _ (by decide)⟩ d
    rw [at512_div] at e
    exact e

end Cert.BwdBIdeal.Block

end
-- ==== Proof.BwdBRefVal.lean ====
/- The backward attention reference, element by element. -/
module

public import proofs.«01_k».proof.Proof.Online
public import proofs.«01_k».proof.Proof.Gen.BwdBRefIdeal.Run
public import Idealize.ShloMosaic.Lib.Pointwise

@[expose] public section

set_option maxRecDepth 16384

noncomputable section

namespace Cert.BwdBRefIdeal.Val

open Cert.BwdBRefIdeal Cert.BwdBRefIdeal.Gen Idealize.ShloMosaic Idealize.ShloMosaic.TcCoe Cert.Online

variable (q g : FVec Ideal S4x8192x128 .bf16) (k v : FVec Ideal S4x8192x128 .bf16) (l e : FVec Ideal S4x16x1x512 .f32)

/-- Products of rows minus a number of the row. -/
def dArr : FVec Ideal S4x8192x8192 .f32 :=
  subf (Host.dotGeneral dot_S4x8192x128_S4x8192x128_S4x8192x8192_2_2_1_1_0_0 none (extf .f32 q bitsLt_bf16_f32) (extf .f32 k bitsLt_bf16_f32)) (broadcastInDim S4x8192x8192 ![0, 1, 2] bcast_S4x8192x1_S4x8192x8192_0_1_2 (broadcastInDim S4x8192x1 ![0, 1] bcast_S4x8192_S4x8192x1_0_1 (shapeCast _ l shapeCasts_S4x16x1x512_S4x8192)))

theorem dArr_apply (b : Fin 4) (s x : Fin 8192) :
    dArr q k l (ix3 b s x) = (∑ d : Fin 128, (q (ix3 b s d) : EReal) * (k (ix3 b x d) : EReal))
      - l (ix4 b ⟨s.val / 512, by omega⟩ 0 ⟨s.val % 512, by omega⟩) := by
  pointwise [dArr]

/-- The gradient of the queries from the probabilities and the differences. -/
def dqArr (p z : FVec Ideal S4x8192x8192 .f32) : FVec Ideal S4x8192x128 .f32 :=
  Host.dotGeneral dot_S4x8192x8192_S4x8192x128_S4x8192x128_2_1_1_2_0_0 none (mulf (Host.exp p) z) (extf .f32 k bitsLt_bf16_f32)
/-- The gradient of the keys. -/
def dkArr (p z : FVec Ideal S4x8192x8192 .f32) : FVec Ideal S4x8192x128 .f32 :=
  Host.dotGeneral dot_S4x8192x8192_S4x8192x128_S4x8192x128_1_1_2_2_0_0 none (mulf (Host.exp p) z) (extf .f32 q bitsLt_bf16_f32)
/-- The gradient of the values. -/
def dvArr (p : FVec Ideal S4x8192x8192 .f32) : FVec Ideal S4x8192x128 .f32 :=
  Host.dotGeneral dot_S4x8192x8192_S4x8192x128_S4x8192x128_1_1_2_2_0_0 none (Host.exp p) (extf .f32 g bitsLt_bf16_f32)

theorem dqArr_apply (p z : FVec Ideal S4x8192x8192 .f32) (h : Fin 4) (s : Fin 8192) (d : Fin 128) :
    dqArr k p z (ix3 h s d) = ∑ x : Fin 8192, (Ideal.exp (p (ix3 h s x))
      * z (ix3 h s x)) * (k (ix3 h x d) : EReal) := by
  pointwise [dqArr]

theorem dkArr_apply (p z : FVec Ideal S4x8192x8192 .f32) (h : Fin 4) (x : Fin 8192) (d : Fin 128) :
    dkArr q p z (ix3 h x d) = ∑ s : Fin 8192, (Ideal.exp (p (ix3 h s x))
      * z (ix3 h s x)) * (q (ix3 h s d) : EReal) := by
  pointwise [dkArr]

theorem dvArr_apply (p : FVec Ideal S4x8192x8192 .f32) (h : Fin 4) (x : Fin 8192) (d : Fin 128) :
    dvArr g p (ix3 h x d) = ∑ s : Fin 8192, (Ideal.exp (p (ix3 h s x)))
      * (g (ix3 h s d) : EReal) := by
  pointwise [dvArr]

end Cert.BwdBRefIdeal.Val

end
-- ==== Proof.BwdBClaim.lean ====
/- The backward attention of the second mixer: the kernel's three result arrays are the reference's. -/
module

public import proofs.«01_k».proof.Proof.BwdBArray
public import proofs.«01_k».proof.Proof.BwdBRefVal
public import proofs.«01_k».proof.Proof.Rows
public import proofs.«01_k».proof.Defs

@[expose] public section

set_option maxRecDepth 16384

noncomputable section

namespace Cert.BwdBProof

open Idealize.ShloMosaic Idealize.ShloMosaic.TcCoe Idealize.SL.Sem Cert.Online Cert.BwdBIdeal.Block

section
variable (m : (ℓ : Loc Cert.BwdBIdeal.nD Cert.BwdBIdeal.τ Cert.BwdBIdeal.sig) → Buf (Elt Ideal) ℓ) (c : Dev Cert.BwdBIdeal.nD)

/-- The reference's logarithms of the probabilities. -/
abbrev refP := Cert.BwdBRefIdeal.Val.dArr (argQ m c) (argK m c) (argL m c)
/-- The reference's differences of the probabilities' gradients. -/
abbrev refZ := Cert.BwdBRefIdeal.Val.dArr (argG m c) (argV m c) (argD m c)

theorem prob_eq (h : Fin 4) (s x : Fin 8192) :
    Ideal.exp (refP m c (ix3 h s x)) = prob m c h s x := by
  unfold refP
  rw [Cert.BwdBRefIdeal.Val.dArr_apply]
  unfold prob
  exact congrArg (fun z => Ideal.exp (z - _)) (Finset.sum_congr rfl fun d _ => mul_comm _ _)

theorem dscore_eq (h : Fin 4) (s x : Fin 8192) :
    Ideal.exp (refP m c (ix3 h s x))
      * refZ m c (ix3 h s x) = dscore m c h s x := by
  rw [prob_eq]
  unfold refZ
  rw [Cert.BwdBRefIdeal.Val.dArr_apply]
  unfold dscore
  exact congrArg (fun z => _ * (z - _)) (Finset.sum_congr rfl fun d _ => mul_comm _ _)

theorem dq_eq : ((Cert.BwdBIdeal.Gen.dats m 0 c).arrAt 6 Cert.BwdBIdeal.cfg0.N : FVec Ideal Cert.BwdBIdeal.S4x8192x128 .f32)
    = Cert.BwdBRefIdeal.Val.dqArr (argK m c) (refP m c) (refZ m c) := by
  refine ext3 _ _ fun h s d => ?_
  rw [final6, Cert.BwdBRefIdeal.Val.dqArr_apply]
  simp only [dscore_eq]
  rfl

theorem dk_eq : ((Cert.BwdBIdeal.Gen.dats m 0 c).arrAt 7 Cert.BwdBIdeal.cfg0.N : FVec Ideal Cert.BwdBIdeal.S4x8192x128 .f32)
    = Cert.BwdBRefIdeal.Val.dkArr (argQ m c) (refP m c) (refZ m c) := by
  refine ext3 _ _ fun h s d => ?_
  rw [final7, Cert.BwdBRefIdeal.Val.dkArr_apply]
  simp only [dscore_eq]
  rfl

theorem dv_eq : ((Cert.BwdBIdeal.Gen.dats m 0 c).arrAt 8 Cert.BwdBIdeal.cfg0.N : FVec Ideal Cert.BwdBIdeal.S4x8192x128 .f32)
    = Cert.BwdBRefIdeal.Val.dvArr (argG m c) (refP m c) := by
  refine ext3 _ _ fun h s d => ?_
  rw [final8, Cert.BwdBRefIdeal.Val.dvArr_apply]
  simp only [prob_eq]
  rfl
end

theorem algebraic : Cert.algebraic_BwdBIdeal_BwdBRefIdeal (hBwdBIdeal := Cert.BwdBIdeal.Gen.facts)
    (hBwdBRefIdeal := Cert.BwdBRefIdeal.Gen.facts) := by
  intro m g m' g' _ hargs
  refine ⟨_, _, _, Cert.BwdBIdeal.Value.run_blocks m g, ?_⟩
  refine (θ_run _ _ _).mono ?_ (Cert.BwdBRefIdeal.Value.run m' g')
  intro r hr c
  obtain ⟨h21, h22, h23, hk⟩ := hr c
  obtain ⟨a0, a1, a2, a3, a4, a5⟩ := hargs c
  refine ⟨h21.trans ?_, h22.trans ?_, h23.trans ?_, hk⟩
  · rw [a0, a1, a2, a3, a4, a5]
    exact (dq_eq m c).symm
  · rw [a0, a1, a2, a3, a4, a5]
    exact (dk_eq m c).symm
  · rw [a0, a1, a3, a4]
    exact (dv_eq m c).symm

end Cert.BwdBProof

end
-- ==== Proof.GradInClaim.lean ====
/- The gradient of the input projection: the kernel's sums over sixteen blocks of tokens are the reference's sum. -/
module

public import proofs.«01_k».proof.Proof.Rows
public import proofs.«01_k».proof.Proof.Gen.GradInIdeal.Value
public import proofs.«01_k».proof.Proof.Gen.GradInRefIdeal.Run
public import proofs.«01_k».proof.Defs

@[expose] public section

set_option maxRecDepth 16384

noncomputable section

namespace Cert.GradInProof

open Idealize.ShloMosaic Idealize.ShloMosaic.TcCoe Idealize.SL.Sem Cert.Online

section
open Cert.GradInIdeal Cert.GradInIdeal.Gen

theorem step_apply (o : Vec Ideal S1024x768 .f32) (a : Vec Ideal S512x1024 .bf16) (b : Vec Ideal S512x768 .bf16) (x : Fin 1024) (y : Fin 768) :
    k0_pay2 o a b (ix2 x y) = (o (ix2 x y) : EReal) + ∑ s : Fin 512, (a (ix2 s x) : EReal) * (b (ix2 s y) : EReal) := by
  pointwise [k0_pay2]

theorem start_apply (x : Fin 1024) (y : Fin 768) : k0_pay1 (F := Ideal) (ix2 x y) = 0 := by
  pointwise [k0_pay1]

variable (m : (ℓ : Loc nD τ sig) → Buf (Elt Ideal) ℓ) (c : Dev nD)

/-- The two arguments as arrays. -/
abbrev argA : FVec Ideal S8192x1024 .bf16 := m ((c : Thread nD τ).loc main_arg0)
abbrev argB : FVec Ideal S8192x3840 .bf16 := m ((c : Thread nD τ).loc main_arg1)

theorem idx0 : ∀ t : Fin cfg0.N, win0_0.index t = ![t.val % 16, 0] := by decide +kernel
theorem idx1 : ∀ t : Fin cfg0.N, win0_1.index t = ![t.val % 16, t.val / 16] := by decide +kernel

theorem iblk0_apply (n : ℕ) (hn : n < cfg0.N) (s : Fin 512) (x : Fin 1024) :
    (iblk m c 0 ⟨n, hn⟩ : Vec Ideal S512x1024 .bf16) (ix2 s x) = argA m c (ix2 (at512 (n % 16) (Nat.mod_lt _ (by decide)) s) x) := by
  unfold iblk
  rw [View.read_apply]
  show V m c main_arg0 _ = m (c.tc.loc main_arg0) _
  unfold V
  congr 1
  funext a
  apply Fin.ext
  have hi := idx0 ⟨n, hn⟩
  match a with
  | ⟨0, _⟩ => show win0_0.index ⟨n, hn⟩ 0 * 512 + 1 * s.val = 512 * (n % 16) + s.val
              rw [hi]; show n % 16 * 512 + 1 * s.val = 512 * (n % 16) + s.val; omega
  | ⟨1, _⟩ => show win0_0.index ⟨n, hn⟩ 1 * 1024 + 1 * x.val = x.val
              rw [hi]; show 0 * 1024 + 1 * x.val = x.val; omega

theorem iblk1_apply (n : ℕ) (hn : n < cfg0.N) (s : Fin 512) (y : Fin 768) (hy : 768 * (n / 16) + y.val < 3840) :
    (iblk m c 1 ⟨n, hn⟩ : Vec Ideal S512x768 .bf16) (ix2 s y)
      = argB m c (ix2 (at512 (n % 16) (Nat.mod_lt _ (by decide)) s) ⟨768 * (n / 16) + y.val, hy⟩) := by
  unfold iblk
  rw [View.read_apply]
  show V m c main_arg1 _ = m (c.tc.loc main_arg1) _
  unfold V
  congr 1
  funext a
  apply Fin.ext
  have hi := idx1 ⟨n, hn⟩
  match a with
  | ⟨0, _⟩ => show win0_1.index ⟨n, hn⟩ 0 * 512 + 1 * s.val = 512 * (n % 16) + s.val
              rw [hi]; show n % 16 * 512 + 1 * s.val = 512 * (n % 16) + s.val; omega
  | ⟨1, _⟩ => show win0_1.index ⟨n, hn⟩ 1 * 768 + 1 * y.val = 768 * (n / 16) + y.val
              rw [hi]; show n / 16 * 768 + 1 * y.val = 768 * (n / 16) + y.val; omega

/-- The products of token block `i` at one place of the result (zero past the last block). -/
def part (x : Fin 1024) (z : Fin 3840) (i : ℕ) (s : Fin 512) : EReal :=
  if h : i < 16 then (argA m c (ix2 (at512 i h s) x) : EReal) * (argB m c (ix2 (at512 i h s) z) : EReal) else 0

/-- The two input blocks of a point. -/
abbrev blkA (n : ℕ) (hn : n < cfg0.N) : Vec Ideal S512x1024 .bf16 := iblk m c 0 ⟨n, hn⟩
abbrev blkB (n : ℕ) (hn : n < cfg0.N) : Vec Ideal S512x768 .bf16 := iblk m c 1 ⟨n, hn⟩

theorem pt_add (n : ℕ) (hn : n < cfg0.N) (i : ℕ) (hi : n % 16 = i) (x : Fin 1024) (y : Fin 768) (z : Fin 3840) (hz : z.val = 768 * (n / 16) + y.val) :
    ∑ s : Fin 512, (blkA m c n hn (ix2 s x) : EReal) * (blkB m c n hn (ix2 s y) : EReal)
      = ∑ s : Fin 512, part m c x z i s := by
  subst hi
  have hlt : 768 * (n / 16) + y.val < 3840 := by have := z.isLt; omega
  obtain rfl : z = ⟨768 * (n / 16) + y.val, hlt⟩ := Fin.ext hz
  refine Finset.sum_congr rfl fun s _ => ?_
  unfold part
  rw [dif_pos (Nat.mod_lt _ (by decide))]
  exact congrArg₂ (α := EReal) (β := EReal) (· * ·) (iblk0_apply m c n hn s x) (iblk1_apply m c n hn s y hlt)

/-- After the points `0, …, i` of one column block the block holds the sum over the token blocks passed. -/
theorem acc_apply (q : ℕ) (x : Fin 1024) (y : Fin 768) (z : Fin 3840) (hz : z.val = 768 * q + y.val) : ∀ (i : ℕ) (hi : i < 16) (h : 16 * q + i < cfg0.N),
    (Pipeline.accAt (Value.reset2 m c) (Value.step2 m c) (16 * q) i h (ix2 x y) : EReal)
      = ∑ j ∈ Finset.range (i + 1), ∑ s : Fin 512, part m c x z j s := by
  intro i
  induction i with
  | zero =>
    intro hi h
    rw [Pipeline.accAt_zero, Finset.sum_range_one]
    unfold Value.reset2
    rw [step_apply, start_apply, zero_add]
    exact pt_add m c (16 * q) h 0 (by omega) x y z (by rw [hz]; congr 2; omega)
  | succ i ih =>
    intro hi h
    rw [Pipeline.accAt_succ, Finset.sum_range_succ, ← ih (by omega) (by omega)]
    unfold Value.step2
    rw [step_apply]
    exact congrArg₂ (α := EReal) (β := EReal) (· + ·) rfl (pt_add m c (16 * q + (i + 1)) h (i + 1) (by omega) x y z (by rw [hz]; congr 2; omega))

theorem final (x : Fin 1024) (z : Fin 3840) :
    (Value.G2 m c : FVec Ideal S1024x3840 .f32) (ix2 x z) = ∑ s : Fin 8192, (argA m c (ix2 s x) : EReal) * (argB m c (ix2 s z) : EReal) := by
  have hx := x.isLt
  have hz := z.isLt
  have hr : Value.run2Of (ix2 x z) = z.val / 768 := by
    show 5 * (x.val / 1024 - 0) + 1 * (z.val / 768 - 0) = z.val / 768
    omega
  have hl : Value.loc2Of (ix2 x z) = ix2 x ⟨z.val % 768, Nat.mod_lt _ (by decide)⟩ := by
    funext a
    apply Fin.ext
    match a with
    | ⟨0, _⟩ => show x.val % 1024 = x.val; omega
    | ⟨1, _⟩ => rfl
  have hN : cfg0.N = 16 * 5 := N_0
  have hlt : 16 * Value.run2Of (ix2 x z) + 15 < cfg0.N := by rw [hr, hN]; omega
  have e : ∀ (q : ℕ) (hq : q = z.val / 768) (h : 16 * q + 15 < cfg0.N),
      (Pipeline.accAt (Value.reset2 m c) (Value.step2 m c) (16 * q) 15 h (ix2 x ⟨z.val % 768, Nat.mod_lt _ (by decide)⟩) : EReal)
        = ∑ j ∈ Finset.range 16, ∑ s : Fin 512, part m c x z j s := fun q hq h =>
    acc_apply m c q x ⟨z.val % 768, Nat.mod_lt _ (by decide)⟩ z (by subst hq; show z.val = 768 * (z.val / 768) + z.val % 768; omega) 15 (by decide) h
  have h0 : (Value.G2 m c : FVec Ideal S1024x3840 .f32) (ix2 x z)
      = Pipeline.accAt (Value.reset2 m c) (Value.step2 m c) (16 * Value.run2Of (ix2 x z)) 15 hlt (Value.loc2Of (ix2 x z)) := dif_pos hlt
  rw [h0, hl]
  refine (e _ hr hlt).trans (sum_blocks_range _ _ fun j hj s => ?_).symm
  unfold part
  rw [dif_pos hj]
end

theorem ref_apply (a : FVec Ideal Cert.GradInRefIdeal.S8192x1024 .f32) (b : FVec Ideal Cert.GradInRefIdeal.S8192x3840 .f32) (x : Fin 1024) (z : Fin 3840) :
    Host.dotGeneral Cert.GradInRefIdeal.dot_S8192x1024_S8192x3840_S1024x3840_0_0_1_1_n_n none a b (ix2 x z)
      = ∑ s : Fin 8192, (a (ix2 s x) : EReal) * (b (ix2 s z) : EReal) := by
  pointwise

theorem algebraic : Cert.algebraic_GradInIdeal_GradInRefIdeal (hGradInIdeal := Cert.GradInIdeal.Gen.facts)
    (hGradInRefIdeal := Cert.GradInRefIdeal.Gen.facts) := by
  intro m g m' g' _ hargs
  refine ⟨_, Cert.GradInIdeal.Value.run m g, ?_⟩
  refine (θ_run _ _ _).mono ?_ (Cert.GradInRefIdeal.Value.run m' g')
  intro r hr c
  obtain ⟨h2, hk⟩ := hr c
  obtain ⟨a0, a1⟩ := hargs c
  refine ⟨h2.trans ?_, hk⟩
  rw [a0, a1]
  refine ext2 _ _ fun x z => ?_
  rw [final]
  exact ref_apply _ _ x z

end Cert.GradInProof

end
-- ==== Proof.GradOutClaim.lean ====
/- The gradient of the output projection: the kernel's sums over sixteen blocks of tokens are the reference's sum. -/
module

public import proofs.«01_k».proof.Proof.Rows
public import proofs.«01_k».proof.Proof.Gen.GradOutIdeal.Value
public import proofs.«01_k».proof.Proof.Gen.GradOutRefIdeal.Run
public import proofs.«01_k».proof.Defs

@[expose] public section

set_option maxRecDepth 16384

noncomputable section

namespace Cert.GradOutProof

open Idealize.ShloMosaic Idealize.ShloMosaic.TcCoe Idealize.SL.Sem Cert.Online

section
open Cert.GradOutIdeal Cert.GradOutIdeal.Gen

theorem step_apply (o : Vec Ideal S1536x512 .f32) (a : Vec Ideal S512x1536 .bf16) (b : Vec Ideal S512x512 .f32) (x : Fin 1536) (y : Fin 512) :
    k0_pay2 o a b (ix2 x y) = (o (ix2 x y) : EReal) + ∑ s : Fin 512, (a (ix2 s x) : EReal) * (b (ix2 s y) : EReal) := by
  pointwise [k0_pay2]

theorem start_apply (x : Fin 1536) (y : Fin 512) : k0_pay1 (F := Ideal) (ix2 x y) = 0 := by
  pointwise [k0_pay1]

variable (m : (ℓ : Loc nD τ sig) → Buf (Elt Ideal) ℓ) (c : Dev nD)

/-- The two arguments as arrays. -/
abbrev argA : FVec Ideal S8192x1536 .bf16 := m ((c : Thread nD τ).loc main_arg0)
abbrev argB : FVec Ideal S8192x1024 .f32 := m ((c : Thread nD τ).loc main_arg1)

theorem idx0 : ∀ t : Fin cfg0.N, win0_0.index t = ![t.val % 16, 0] := by decide +kernel
theorem idx1 : ∀ t : Fin cfg0.N, win0_1.index t = ![t.val % 16, t.val / 16] := by decide +kernel

theorem iblk0_apply (n : ℕ) (hn : n < cfg0.N) (s : Fin 512) (x : Fin 1536) :
    (iblk m c 0 ⟨n, hn⟩ : Vec Ideal S512x1536 .bf16) (ix2 s x) = argA m c (ix2 (at512 (n % 16) (Nat.mod_lt _ (by decide)) s) x) := by
  unfold iblk
  rw [View.read_apply]
  show V m c main_arg0 _ = m (c.tc.loc main_arg0) _
  unfold V
  congr 1
  funext a
  apply Fin.ext
  have hi := idx0 ⟨n, hn⟩
  match a with
  | ⟨0, _⟩ => show win0_0.index ⟨n, hn⟩ 0 * 512 + 1 * s.val = 512 * (n % 16) + s.val
              rw [hi]; show n % 16 * 512 + 1 * s.val = 512 * (n % 16) + s.val; omega
  | ⟨1, _⟩ => show win0_0.index ⟨n, hn⟩ 1 * 1536 + 1 * x.val = x.val
              rw [hi]; show 0 * 1536 + 1 * x.val = x.val; omega

theorem iblk1_apply (n : ℕ) (hn : n < cfg0.N) (s : Fin 512) (y : Fin 512) (hy : 512 * (n / 16) + y.val < 1024) :
    (iblk m c 1 ⟨n, hn⟩ : Vec Ideal S512x512 .f32) (ix2 s y)
      = argB m c (ix2 (at512 (n % 16) (Nat.mod_lt _ (by decide)) s) ⟨512 * (n / 16) + y.val, hy⟩) := by
  unfold iblk
  rw [View.read_apply]
  show V m c main_arg1 _ = m (c.tc.loc main_arg1) _
  unfold V
  congr 1
  funext a
  apply Fin.ext
  have hi := idx1 ⟨n, hn⟩
  match a with
  | ⟨0, _⟩ => show win0_1.index ⟨n, hn⟩ 0 * 512 + 1 * s.val = 512 * (n % 16) + s.val
              rw [hi]; show n % 16 * 512 + 1 * s.val = 512 * (n % 16) + s.val; omega
  | ⟨1, _⟩ => show win0_1.index ⟨n, hn⟩ 1 * 512 + 1 * y.val = 512 * (n / 16) + y.val
              rw [hi]; show n / 16 * 512 + 1 * y.val = 512 * (n / 16) + y.val; omega

/-- The products of token block `i` at one place of the result (zero past the last block). -/
def part (x : Fin 1536) (z : Fin 1024) (i : ℕ) (s : Fin 512) : EReal :=
  if h : i < 16 then (argA m c (ix2 (at512 i h s) x) : EReal) * (argB m c (ix2 (at512 i h s) z) : EReal) else 0

/-- The two input blocks of a point. -/
abbrev blkA (n : ℕ) (hn : n < cfg0.N) : Vec Ideal S512x1536 .bf16 := iblk m c 0 ⟨n, hn⟩
abbrev blkB (n : ℕ) (hn : n < cfg0.N) : Vec Ideal S512x512 .f32 := iblk m c 1 ⟨n, hn⟩

theorem pt_add (n : ℕ) (hn : n < cfg0.N) (i : ℕ) (hi : n % 16 = i) (x : Fin 1536) (y : Fin 512) (z : Fin 1024) (hz : z.val = 512 * (n / 16) + y.val) :
    ∑ s : Fin 512, (blkA m c n hn (ix2 s x) : EReal) * (blkB m c n hn (ix2 s y) : EReal)
      = ∑ s : Fin 512, part m c x z i s := by
  subst hi
  have hlt : 512 * (n / 16) + y.val < 1024 := by have := z.isLt; omega
  obtain rfl : z = ⟨512 * (n / 16) + y.val, hlt⟩ := Fin.ext hz
  refine Finset.sum_congr rfl fun s _ => ?_
  unfold part
  rw [dif_pos (Nat.mod_lt _ (by decide))]
  exact congrArg₂ (α := EReal) (β := EReal) (· * ·) (iblk0_apply m c n hn s x) (iblk1_apply m c n hn s y hlt)

/-- After the points `0, …, i` of one column block the block holds the sum over the token blocks passed. -/
theorem acc_apply (q : ℕ) (x : Fin 1536) (y : Fin 512) (z : Fin 1024) (hz : z.val = 512 * q + y.val) : ∀ (i : ℕ) (hi : i < 16) (h : 16 * q + i < cfg0.N),
    (Pipeline.accAt (Value.reset2 m c) (Value.step2 m c) (16 * q) i h (ix2 x y) : EReal)
      = ∑ j ∈ Finset.range (i + 1), ∑ s : Fin 512, part m c x z j s := by
  intro i
  induction i with
  | zero =>
    intro hi h
    rw [Pipeline.accAt_zero, Finset.sum_range_one]
    unfold Value.reset2
    rw [step_apply, start_apply, zero_add]
    exact pt_add m c (16 * q) h 0 (by omega) x y z (by rw [hz]; congr 2; omega)
  | succ i ih =>
    intro hi h
    rw [Pipeline.accAt_succ, Finset.sum_range_succ, ← ih (by omega) (by omega)]
    unfold Value.step2
    rw [step_apply]
    exact congrArg₂ (α := EReal) (β := EReal) (· + ·) rfl (pt_add m c (16 * q + (i + 1)) h (i + 1) (by omega) x y z (by rw [hz]; congr 2; omega))

theorem final (x : Fin 1536) (z : Fin 1024) :
    (Value.G2 m c : FVec Ideal S1536x1024 .f32) (ix2 x z) = ∑ s : Fin 8192, (argA m c (ix2 s x) : EReal) * (argB m c (ix2 s z) : EReal) := by
  have hx := x.isLt
  have hz := z.isLt
  have hr : Value.run2Of (ix2 x z) = z.val / 512 := by
    show 2 * (x.val / 1536 - 0) + 1 * (z.val / 512 - 0) = z.val / 512
    omega
  have hl : Value.loc2Of (ix2 x z) = ix2 x ⟨z.val % 512, Nat.mod_lt _ (by decide)⟩ := by
    funext a
    apply Fin.ext
    match a with
    | ⟨0, _⟩ => show x.val % 1536 = x.val; omega
    | ⟨1, _⟩ => rfl
  have hN : cfg0.N = 16 * 2 := N_0
  have hlt : 16 * Value.run2Of (ix2 x z) + 15 < cfg0.N := by rw [hr, hN]; omega
  have e : ∀ (q : ℕ) (hq : q = z.val / 512) (h : 16 * q + 15 < cfg0.N),
      (Pipeline.accAt (Value.reset2 m c) (Value.step2 m c) (16 * q) 15 h (ix2 x ⟨z.val % 512, Nat.mod_lt _ (by decide)⟩) : EReal)
        = ∑ j ∈ Finset.range 16, ∑ s : Fin 512, part m c x z j s := fun q hq h =>
    acc_apply m c q x ⟨z.val % 512, Nat.mod_lt _ (by decide)⟩ z (by subst hq; show z.val = 512 * (z.val / 512) + z.val % 512; omega) 15 (by decide) h
  have h0 : (Value.G2 m c : FVec Ideal S1536x1024 .f32) (ix2 x z)
      = Pipeline.accAt (Value.reset2 m c) (Value.step2 m c) (16 * Value.run2Of (ix2 x z)) 15 hlt (Value.loc2Of (ix2 x z)) := dif_pos hlt
  rw [h0, hl]
  refine (e _ hr hlt).trans (sum_blocks_range _ _ fun j hj s => ?_).symm
  unfold part
  rw [dif_pos hj]
end

theorem ref_apply (a : FVec Ideal Cert.GradOutRefIdeal.S8192x1536 .f32) (b : FVec Ideal Cert.GradOutRefIdeal.S8192x1024 .f32) (x : Fin 1536) (z : Fin 1024) :
    Host.dotGeneral Cert.GradOutRefIdeal.dot_S8192x1536_S8192x1024_S1536x1024_0_0_1_1_n_n none a b (ix2 x z)
      = ∑ s : Fin 8192, (a (ix2 s x) : EReal) * (b (ix2 s z) : EReal) := by
  pointwise

theorem algebraic : Cert.algebraic_GradOutIdeal_GradOutRefIdeal (hGradOutIdeal := Cert.GradOutIdeal.Gen.facts)
    (hGradOutRefIdeal := Cert.GradOutRefIdeal.Gen.facts) := by
  intro m g m' g' _ hargs
  refine ⟨_, Cert.GradOutIdeal.Value.run m g, ?_⟩
  refine (θ_run _ _ _).mono ?_ (Cert.GradOutRefIdeal.Value.run m' g')
  intro r hr c
  obtain ⟨h2, hk⟩ := hr c
  obtain ⟨a0, a1⟩ := hargs c
  refine ⟨h2.trans ?_, hk⟩
  rw [a0, a1]
  refine ext2 _ _ fun x z => ?_
  rw [final]
  exact ref_apply _ _ x z

end Cert.GradOutProof

end
-- ==== Proof.GradUqClaim.lean ====
/- The gradient of the up-projection of the queries: the kernel's sums over sixteen blocks of tokens are the reference's sum. -/
module

public import proofs.«01_k».proof.Proof.Rows
public import proofs.«01_k».proof.Proof.Gen.GradUqIdeal.Value
public import proofs.«01_k».proof.Proof.Gen.GradUqRefIdeal.Run
public import proofs.«01_k».proof.Defs

@[expose] public section

set_option maxRecDepth 16384

noncomputable section

namespace Cert.GradUqProof

open Idealize.ShloMosaic Idealize.ShloMosaic.TcCoe Idealize.SL.Sem Cert.Online

section
open Cert.GradUqIdeal Cert.GradUqIdeal.Gen

theorem step_apply (o : Vec Ideal S384x512 .f32) (a : Vec Ideal S512x384 .bf16) (b : Vec Ideal S512x512 .bf16) (x : Fin 384) (y : Fin 512) :
    k0_pay2 o a b (ix2 x y) = (o (ix2 x y) : EReal) + ∑ s : Fin 512, (a (ix2 s x) : EReal) * (b (ix2 s y) : EReal) := by
  pointwise [k0_pay2]

theorem start_apply (x : Fin 384) (y : Fin 512) : k0_pay1 (F := Ideal) (ix2 x y) = 0 := by
  pointwise [k0_pay1]

variable (m : (ℓ : Loc nD τ sig) → Buf (Elt Ideal) ℓ) (c : Dev nD)

/-- The two arguments as arrays. -/
abbrev argA : FVec Ideal S8192x384 .bf16 := m ((c : Thread nD τ).loc main_arg0)
abbrev argB : FVec Ideal S8192x512 .bf16 := m ((c : Thread nD τ).loc main_arg1)

theorem idx0 : ∀ t : Fin cfg0.N, win0_0.index t = ![t.val % 16, 0] := by decide +kernel
theorem idx1 : ∀ t : Fin cfg0.N, win0_1.index t = ![t.val % 16, t.val / 16] := by decide +kernel

theorem iblk0_apply (n : ℕ) (hn : n < cfg0.N) (s : Fin 512) (x : Fin 384) :
    (iblk m c 0 ⟨n, hn⟩ : Vec Ideal S512x384 .bf16) (ix2 s x) = argA m c (ix2 (at512 (n % 16) (Nat.mod_lt _ (by decide)) s) x) := by
  unfold iblk
  rw [View.read_apply]
  show V m c main_arg0 _ = m (c.tc.loc main_arg0) _
  unfold V
  congr 1
  funext a
  apply Fin.ext
  have hi := idx0 ⟨n, hn⟩
  match a with
  | ⟨0, _⟩ => show win0_0.index ⟨n, hn⟩ 0 * 512 + 1 * s.val = 512 * (n % 16) + s.val
              rw [hi]; show n % 16 * 512 + 1 * s.val = 512 * (n % 16) + s.val; omega
  | ⟨1, _⟩ => show win0_0.index ⟨n, hn⟩ 1 * 384 + 1 * x.val = x.val
              rw [hi]; show 0 * 384 + 1 * x.val = x.val; omega

theorem iblk1_apply (n : ℕ) (hn : n < cfg0.N) (s : Fin 512) (y : Fin 512) (hy : 512 * (n / 16) + y.val < 512) :
    (iblk m c 1 ⟨n, hn⟩ : Vec Ideal S512x512 .bf16) (ix2 s y)
      = argB m c (ix2 (at512 (n % 16) (Nat.mod_lt _ (by decide)) s) ⟨512 * (n / 16) + y.val, hy⟩) := by
  unfold iblk
  rw [View.read_apply]
  show V m c main_arg1 _ = m (c.tc.loc main_arg1) _
  unfold V
  congr 1
  funext a
  apply Fin.ext
  have hi := idx1 ⟨n, hn⟩
  match a with
  | ⟨0, _⟩ => show win0_1.index ⟨n, hn⟩ 0 * 512 + 1 * s.val = 512 * (n % 16) + s.val
              rw [hi]; show n % 16 * 512 + 1 * s.val = 512 * (n % 16) + s.val; omega
  | ⟨1, _⟩ => show win0_1.index ⟨n, hn⟩ 1 * 512 + 1 * y.val = 512 * (n / 16) + y.val
              rw [hi]; show n / 16 * 512 + 1 * y.val = 512 * (n / 16) + y.val; omega

/-- The products of token block `i` at one place of the result (zero past the last block). -/
def part (x : Fin 384) (z : Fin 512) (i : ℕ) (s : Fin 512) : EReal :=
  if h : i < 16 then (argA m c (ix2 (at512 i h s) x) : EReal) * (argB m c (ix2 (at512 i h s) z) : EReal) else 0

/-- The two input blocks of a point. -/
abbrev blkA (n : ℕ) (hn : n < cfg0.N) : Vec Ideal S512x384 .bf16 := iblk m c 0 ⟨n, hn⟩
abbrev blkB (n : ℕ) (hn : n < cfg0.N) : Vec Ideal S512x512 .bf16 := iblk m c 1 ⟨n, hn⟩

theorem pt_add (n : ℕ) (hn : n < cfg0.N) (i : ℕ) (hi : n % 16 = i) (x : Fin 384) (y : Fin 512) (z : Fin 512) (hz : z.val = 512 * (n / 16) + y.val) :
    ∑ s : Fin 512, (blkA m c n hn (ix2 s x) : EReal) * (blkB m c n hn (ix2 s y) : EReal)
      = ∑ s : Fin 512, part m c x z i s := by
  subst hi
  have hlt : 512 * (n / 16) + y.val < 512 := by have := z.isLt; omega
  obtain rfl : z = ⟨512 * (n / 16) + y.val, hlt⟩ := Fin.ext hz
  refine Finset.sum_congr rfl fun s _ => ?_
  unfold part
  rw [dif_pos (Nat.mod_lt _ (by decide))]
  exact congrArg₂ (α := EReal) (β := EReal) (· * ·) (iblk0_apply m c n hn s x) (iblk1_apply m c n hn s y hlt)

/-- After the points `0, …, i` of one column block the block holds the sum over the token blocks passed. -/
theorem acc_apply (q : ℕ) (x : Fin 384) (y : Fin 512) (z : Fin 512) (hz : z.val = 512 * q + y.val) : ∀ (i : ℕ) (hi : i < 16) (h : 16 * q + i < cfg0.N),
    (Pipeline.accAt (Value.reset2 m c) (Value.step2 m c) (16 * q) i h (ix2 x y) : EReal)
      = ∑ j ∈ Finset.range (i + 1), ∑ s : Fin 512, part m c x z j s := by
  intro i
  induction i with
  | zero =>
    intro hi h
    rw [Pipeline.accAt_zero, Finset.sum_range_one]
    unfold Value.reset2
    rw [step_apply, start_apply, zero_add]
    exact pt_add m c (16 * q) h 0 (by omega) x y z (by rw [hz]; congr 2; omega)
  | succ i ih =>
    intro hi h
    rw [Pipeline.accAt_succ, Finset.sum_range_succ, ← ih (by omega) (by omega)]
    unfold Value.step2
    rw [step_apply]
    exact congrArg₂ (α := EReal) (β := EReal) (· + ·) rfl (pt_add m c (16 * q + (i + 1)) h (i + 1) (by omega) x y z (by rw [hz]; congr 2; omega))

theorem final (x : Fin 384) (z : Fin 512) :
    (Value.G2 m c : FVec Ideal S384x512 .f32) (ix2 x z) = ∑ s : Fin 8192, (argA m c (ix2 s x) : EReal) * (argB m c (ix2 s z) : EReal) := by
  have hx := x.isLt
  have hz := z.isLt
  have hr : Value.run2Of (ix2 x z) = z.val / 512 := by
    show 1 * (x.val / 384 - 0) + 1 * (z.val / 512 - 0) = z.val / 512
    omega
  have hl : Value.loc2Of (ix2 x z) = ix2 x ⟨z.val % 512, Nat.mod_lt _ (by decide)⟩ := by
    funext a
    apply Fin.ext
    match a with
    | ⟨0, _⟩ => show x.val % 384 = x.val; omega
    | ⟨1, _⟩ => rfl
  have hN : cfg0.N = 16 * 1 := N_0
  have hlt : 16 * Value.run2Of (ix2 x z) + 15 < cfg0.N := by rw [hr, hN]; omega
  have e : ∀ (q : ℕ) (hq : q = z.val / 512) (h : 16 * q + 15 < cfg0.N),
      (Pipeline.accAt (Value.reset2 m c) (Value.step2 m c) (16 * q) 15 h (ix2 x ⟨z.val % 512, Nat.mod_lt _ (by decide)⟩) : EReal)
        = ∑ j ∈ Finset.range 16, ∑ s : Fin 512, part m c x z j s := fun q hq h =>
    acc_apply m c q x ⟨z.val % 512, Nat.mod_lt _ (by decide)⟩ z (by subst hq; show z.val = 512 * (z.val / 512) + z.val % 512; omega) 15 (by decide) h
  have h0 : (Value.G2 m c : FVec Ideal S384x512 .f32) (ix2 x z)
      = Pipeline.accAt (Value.reset2 m c) (Value.step2 m c) (16 * Value.run2Of (ix2 x z)) 15 hlt (Value.loc2Of (ix2 x z)) := dif_pos hlt
  rw [h0, hl]
  refine (e _ hr hlt).trans (sum_blocks_range _ _ fun j hj s => ?_).symm
  unfold part
  rw [dif_pos hj]
end

theorem ref_apply (a : FVec Ideal Cert.GradUqRefIdeal.S8192x384 .f32) (b : FVec Ideal Cert.GradUqRefIdeal.S8192x512 .f32) (x : Fin 384) (z : Fin 512) :
    Host.dotGeneral Cert.GradUqRefIdeal.dot_S8192x384_S8192x512_S384x512_0_0_1_1_n_n none a b (ix2 x z)
      = ∑ s : Fin 8192, (a (ix2 s x) : EReal) * (b (ix2 s z) : EReal) := by
  pointwise

theorem algebraic : Cert.algebraic_GradUqIdeal_GradUqRefIdeal (hGradUqIdeal := Cert.GradUqIdeal.Gen.facts)
    (hGradUqRefIdeal := Cert.GradUqRefIdeal.Gen.facts) := by
  intro m g m' g' _ hargs
  refine ⟨_, Cert.GradUqIdeal.Value.run m g, ?_⟩
  refine (θ_run _ _ _).mono ?_ (Cert.GradUqRefIdeal.Value.run m' g')
  intro r hr c
  obtain ⟨h2, hk⟩ := hr c
  obtain ⟨a0, a1⟩ := hargs c
  refine ⟨h2.trans ?_, hk⟩
  rw [a0, a1]
  refine ext2 _ _ fun x z => ?_
  rw [final]
  exact ref_apply _ _ x z

end Cert.GradUqProof

end
-- ==== Proof.GradUkvClaim.lean ====
/- The gradient of the up-projection of the keys and values: the kernel's sums over sixteen blocks of tokens are the reference's sum. -/
module

public import proofs.«01_k».proof.Proof.Rows
public import proofs.«01_k».proof.Proof.Gen.GradUkvIdeal.Value
public import proofs.«01_k».proof.Proof.Gen.GradUkvRefIdeal.Run
public import proofs.«01_k».proof.Defs

@[expose] public section

set_option maxRecDepth 16384

noncomputable section

namespace Cert.GradUkvProof

open Idealize.ShloMosaic Idealize.ShloMosaic.TcCoe Idealize.SL.Sem Cert.Online

section
open Cert.GradUkvIdeal Cert.GradUkvIdeal.Gen

theorem step_apply (o : Vec Ideal S256x1024 .f32) (a : Vec Ideal S512x256 .bf16) (b : Vec Ideal S512x1024 .bf16) (x : Fin 256) (y : Fin 1024) :
    k0_pay2 o a b (ix2 x y) = (o (ix2 x y) : EReal) + ∑ s : Fin 512, (a (ix2 s x) : EReal) * (b (ix2 s y) : EReal) := by
  pointwise [k0_pay2]

theorem start_apply (x : Fin 256) (y : Fin 1024) : k0_pay1 (F := Ideal) (ix2 x y) = 0 := by
  pointwise [k0_pay1]

variable (m : (ℓ : Loc nD τ sig) → Buf (Elt Ideal) ℓ) (c : Dev nD)

/-- The two arguments as arrays. -/
abbrev argA : FVec Ideal S8192x256 .bf16 := m ((c : Thread nD τ).loc main_arg0)
abbrev argB : FVec Ideal S8192x1024 .bf16 := m ((c : Thread nD τ).loc main_arg1)

theorem idx0 : ∀ t : Fin cfg0.N, win0_0.index t = ![t.val % 16, 0] := by decide +kernel
theorem idx1 : ∀ t : Fin cfg0.N, win0_1.index t = ![t.val % 16, t.val / 16] := by decide +kernel

theorem iblk0_apply (n : ℕ) (hn : n < cfg0.N) (s : Fin 512) (x : Fin 256) :
    (iblk m c 0 ⟨n, hn⟩ : Vec Ideal S512x256 .bf16) (ix2 s x) = argA m c (ix2 (at512 (n % 16) (Nat.mod_lt _ (by decide)) s) x) := by
  unfold iblk
  rw [View.read_apply]
  show V m c main_arg0 _ = m (c.tc.loc main_arg0) _
  unfold V
  congr 1
  funext a
  apply Fin.ext
  have hi := idx0 ⟨n, hn⟩
  match a with
  | ⟨0, _⟩ => show win0_0.index ⟨n, hn⟩ 0 * 512 + 1 * s.val = 512 * (n % 16) + s.val
              rw [hi]; show n % 16 * 512 + 1 * s.val = 512 * (n % 16) + s.val; omega
  | ⟨1, _⟩ => show win0_0.index ⟨n, hn⟩ 1 * 256 + 1 * x.val = x.val
              rw [hi]; show 0 * 256 + 1 * x.val = x.val; omega

theorem iblk1_apply (n : ℕ) (hn : n < cfg0.N) (s : Fin 512) (y : Fin 1024) (hy : 1024 * (n / 16) + y.val < 1024) :
    (iblk m c 1 ⟨n, hn⟩ : Vec Ideal S512x1024 .bf16) (ix2 s y)
      = argB m c (ix2 (at512 (n % 16) (Nat.mod_lt _ (by decide)) s) ⟨1024 * (n / 16) + y.val, hy⟩) := by
  unfold iblk
  rw [View.read_apply]
  show V m c main_arg1 _ = m (c.tc.loc main_arg1) _
  unfold V
  congr 1
  funext a
  apply Fin.ext
  have hi := idx1 ⟨n, hn⟩
  match a with
  | ⟨0, _⟩ => show win0_1.index ⟨n, hn⟩ 0 * 512 + 1 * s.val = 512 * (n % 16) + s.val
              rw [hi]; show n % 16 * 512 + 1 * s.val = 512 * (n % 16) + s.val; omega
  | ⟨1, _⟩ => show win0_1.index ⟨n, hn⟩ 1 * 1024 + 1 * y.val = 1024 * (n / 16) + y.val
              rw [hi]; show n / 16 * 1024 + 1 * y.val = 1024 * (n / 16) + y.val; omega

/-- The products of token block `i` at one place of the result (zero past the last block). -/
def part (x : Fin 256) (z : Fin 1024) (i : ℕ) (s : Fin 512) : EReal :=
  if h : i < 16 then (argA m c (ix2 (at512 i h s) x) : EReal) * (argB m c (ix2 (at512 i h s) z) : EReal) else 0

/-- The two input blocks of a point. -/
abbrev blkA (n : ℕ) (hn : n < cfg0.N) : Vec Ideal S512x256 .bf16 := iblk m c 0 ⟨n, hn⟩
abbrev blkB (n : ℕ) (hn : n < cfg0.N) : Vec Ideal S512x1024 .bf16 := iblk m c 1 ⟨n, hn⟩

theorem pt_add (n : ℕ) (hn : n < cfg0.N) (i : ℕ) (hi : n % 16 = i) (x : Fin 256) (y : Fin 1024) (z : Fin 1024) (hz : z.val = 1024 * (n / 16) + y.val) :
    ∑ s : Fin 512, (blkA m c n hn (ix2 s x) : EReal) * (blkB m c n hn (ix2 s y) : EReal)
      = ∑ s : Fin 512, part m c x z i s := by
  subst hi
  have hlt : 1024 * (n / 16) + y.val < 1024 := by have := z.isLt; omega
  obtain rfl : z = ⟨1024 * (n / 16) + y.val, hlt⟩ := Fin.ext hz
  refine Finset.sum_congr rfl fun s _ => ?_
  unfold part
  rw [dif_pos (Nat.mod_lt _ (by decide))]
  exact congrArg₂ (α := EReal) (β := EReal) (· * ·) (iblk0_apply m c n hn s x) (iblk1_apply m c n hn s y hlt)

/-- After the points `0, …, i` of one column block the block holds the sum over the token blocks passed. -/
theorem acc_apply (q : ℕ) (x : Fin 256) (y : Fin 1024) (z : Fin 1024) (hz : z.val = 1024 * q + y.val) : ∀ (i : ℕ) (hi : i < 16) (h : 16 * q + i < cfg0.N),
    (Pipeline.accAt (Value.reset2 m c) (Value.step2 m c) (16 * q) i h (ix2 x y) : EReal)
      = ∑ j ∈ Finset.range (i + 1), ∑ s : Fin 512, part m c x z j s := by
  intro i
  induction i with
  | zero =>
    intro hi h
    rw [Pipeline.accAt_zero, Finset.sum_range_one]
    unfold Value.reset2
    rw [step_apply, start_apply, zero_add]
    exact pt_add m c (16 * q) h 0 (by omega) x y z (by rw [hz]; congr 2; omega)
  | succ i ih =>
    intro hi h
    rw [Pipeline.accAt_succ, Finset.sum_range_succ, ← ih (by omega) (by omega)]
    unfold Value.step2
    rw [step_apply]
    exact congrArg₂ (α := EReal) (β := EReal) (· + ·) rfl (pt_add m c (16 * q + (i + 1)) h (i + 1) (by omega) x y z (by rw [hz]; congr 2; omega))

theorem final (x : Fin 256) (z : Fin 1024) :
    (Value.G2 m c : FVec Ideal S256x1024 .f32) (ix2 x z) = ∑ s : Fin 8192, (argA m c (ix2 s x) : EReal) * (argB m c (ix2 s z) : EReal) := by
  have hx := x.isLt
  have hz := z.isLt
  have hr : Value.run2Of (ix2 x z) = z.val / 1024 := by
    show 1 * (x.val / 256 - 0) + 1 * (z.val / 1024 - 0) = z.val / 1024
    omega
  have hl : Value.loc2Of (ix2 x z) = ix2 x ⟨z.val % 1024, Nat.mod_lt _ (by decide)⟩ := by
    funext a
    apply Fin.ext
    match a with
    | ⟨0, _⟩ => show x.val % 256 = x.val; omega
    | ⟨1, _⟩ => rfl
  have hN : cfg0.N = 16 * 1 := N_0
  have hlt : 16 * Value.run2Of (ix2 x z) + 15 < cfg0.N := by rw [hr, hN]; omega
  have e : ∀ (q : ℕ) (hq : q = z.val / 1024) (h : 16 * q + 15 < cfg0.N),
      (Pipeline.accAt (Value.reset2 m c) (Value.step2 m c) (16 * q) 15 h (ix2 x ⟨z.val % 1024, Nat.mod_lt _ (by decide)⟩) : EReal)
        = ∑ j ∈ Finset.range 16, ∑ s : Fin 512, part m c x z j s := fun q hq h =>
    acc_apply m c q x ⟨z.val % 1024, Nat.mod_lt _ (by decide)⟩ z (by subst hq; show z.val = 1024 * (z.val / 1024) + z.val % 1024; omega) 15 (by decide) h
  have h0 : (Value.G2 m c : FVec Ideal S256x1024 .f32) (ix2 x z)
      = Pipeline.accAt (Value.reset2 m c) (Value.step2 m c) (16 * Value.run2Of (ix2 x z)) 15 hlt (Value.loc2Of (ix2 x z)) := dif_pos hlt
  rw [h0, hl]
  refine (e _ hr hlt).trans (sum_blocks_range _ _ fun j hj s => ?_).symm
  unfold part
  rw [dif_pos hj]
end

theorem ref_apply (a : FVec Ideal Cert.GradUkvRefIdeal.S8192x256 .f32) (b : FVec Ideal Cert.GradUkvRefIdeal.S8192x1024 .f32) (x : Fin 256) (z : Fin 1024) :
    Host.dotGeneral Cert.GradUkvRefIdeal.dot_S8192x256_S8192x1024_S256x1024_0_0_1_1_n_n none a b (ix2 x z)
      = ∑ s : Fin 8192, (a (ix2 s x) : EReal) * (b (ix2 s z) : EReal) := by
  pointwise

theorem algebraic : Cert.algebraic_GradUkvIdeal_GradUkvRefIdeal (hGradUkvIdeal := Cert.GradUkvIdeal.Gen.facts)
    (hGradUkvRefIdeal := Cert.GradUkvRefIdeal.Gen.facts) := by
  intro m g m' g' _ hargs
  refine ⟨_, Cert.GradUkvIdeal.Value.run m g, ?_⟩
  refine (θ_run _ _ _).mono ?_ (Cert.GradUkvRefIdeal.Value.run m' g')
  intro r hr c
  obtain ⟨h2, hk⟩ := hr c
  obtain ⟨a0, a1⟩ := hargs c
  refine ⟨h2.trans ?_, hk⟩
  rw [a0, a1]
  refine ext2 _ _ fun x z => ?_
  rw [final]
  exact ref_apply _ _ x z

end Cert.GradUkvProof

end
-- ==== Proof.MidVal.lean ====
/- The elementwise pieces of the gate, the residual and the gradient of the gate, and the loads of column blocks. -/
module

public import Idealize.ShloMosaic.Lib.VecWindow
public import proofs.«01_k».proof.Proof.Rows
public import proofs.«01_k».proof.Proof.Gen.MidIdeal.Frame
public import Idealize.ShloMosaic.Lib.Pointwise

@[expose] public section

set_option maxRecDepth 16384

noncomputable section

namespace Cert.MidIdeal.Block

open Cert.MidIdeal Cert.MidIdeal.Gen Idealize.ShloMosaic Idealize.ShloMosaic.TcCoe Cert.Online

/-- The logistic function, the gate's value and the gate's derivative. -/
def sg (g : EReal) : EReal := Ideal.div 1 (1 + Ideal.exp (0 - g))
def si (g : EReal) : EReal := g * sg g
def dsi (g : EReal) : EReal := sg g * (1 + g * (1 - sg g))

/-- Column `d` of head `h`. -/
abbrev col (h : ℕ) (hh : h < 12) (d : Fin 128) : Fin 1536 := ⟨128 * h + d.val, by have := d.isLt; omega⟩

/-- The attention output at a column of the twelve heads side by side. -/
def oB (x2 : Vec Ideal S8x256x128 .f32) (x3 : Vec Ideal S4x256x128 .f32) (r : Fin 256) (n : Fin 1536) : EReal :=
  if h : n.val / 128 < 8 then x2 (ix3 ⟨n.val / 128, h⟩ r ⟨n.val % 128, Nat.mod_lt _ (by decide)⟩)
  else x3 (ix3 ⟨n.val / 128 - 8, by have := n.isLt; omega⟩ r ⟨n.val % 128, Nat.mod_lt _ (by decide)⟩)

theorem oB_lo (x2 : Vec Ideal S8x256x128 .f32) (x3 : Vec Ideal S4x256x128 .f32) (r : Fin 256) (n : Fin 1536) (h : Fin 8) (d : Fin 128)
    (e : n.val = 128 * h.val + d.val) : oB x2 x3 r n = x2 (ix3 h r d) := by
  have := d.isLt; have := h.isLt
  unfold oB
  rw [dif_pos (by omega)]
  congr 2
  · exact Fin.ext (by show n.val / 128 = h.val; omega)
  · exact Fin.ext (by show n.val % 128 = d.val; omega)

theorem oB_hi (x2 : Vec Ideal S8x256x128 .f32) (x3 : Vec Ideal S4x256x128 .f32) (r : Fin 256) (n : Fin 1536) (h : Fin 4) (d : Fin 128)
    (e : n.val = 128 * (8 + h.val) + d.val) : oB x2 x3 r n = x3 (ix3 h r d) := by
  have := d.isLt; have := h.isLt
  unfold oB
  rw [dif_neg (by omega)]
  congr 2
  · exact Fin.ext (by show n.val / 128 - 8 = h.val; omega)
  · exact Fin.ext (by show n.val % 128 = d.val; omega)

/-- An index of a block of columns is its pair of coordinates. -/
theorem ix2_of (x : S256x128.Idx) : ∃ (r : Fin 256) (d : Fin 128), x = ix2 r d :=
  ⟨x 0, x 1, by funext a; match a with | ⟨0, _⟩ => rfl | ⟨1, _⟩ => rfl⟩

/-- The place of entry `(r, d)` of the block of columns starting at `o`. -/
theorem emb_col (o : ℕ) (inb : ∀ a, (![0, o] : Fin 2 → ℕ) a + S256x128.size a ≤ S256x1536.size a) (r : Fin 256) (d : Fin 128) (h : o + d.val < 1536) :
    (Rect.unit (s := S256x1536) ![0, o] S256x128.size inb).emb (ix2 r d) = ix2 r ⟨o + d.val, h⟩ := by
  funext a
  apply Fin.ext
  match a with
  | ⟨0, _⟩ => show 0 + 1 * r.val = r.val; omega
  | ⟨1, _⟩ => show o + 1 * d.val = o + d.val; omega

theorem ld_col {e : EltTy} (o : ℕ) (inb : ∀ a, (![0, o] : Fin 2 → ℕ) a + S256x128.size a ≤ S256x1536.size a) (x : Vec Ideal S256x1536 e) (r : Fin 256) (d : Fin 128)
    (h : o + d.val < 1536) :
    (View.ld x (Rect.unit (s := S256x1536) ![0, o] S256x128.size inb) : Vec Ideal S256x128 e) (ix2 r d) = x (ix2 r ⟨o + d.val, h⟩) := by
  unfold View.ld
  exact congrArg x (emb_col o inb r d h)

theorem ld_lo {e : EltTy} (o : ℕ) (ho : o < 8) (inb : ∀ a, (![o, 0, 0] : Fin 3 → ℕ) a + S1x256x128.size a ≤ S8x256x128.size a) (x : Vec Ideal S8x256x128 e) (r : Fin 256) (d : Fin 128) :
    (View.ld x (Rect.unit (s := S8x256x128) ![o, 0, 0] S1x256x128.size inb) : Vec Ideal S1x256x128 e) (ix3 0 r d) = x (ix3 ⟨o, ho⟩ r d) := by
  unfold View.ld
  congr 1
  funext a
  apply Fin.ext
  match a with
  | ⟨0, _⟩ => show o + 1 * 0 = o; omega
  | ⟨1, _⟩ => show 0 + 1 * r.val = r.val; omega
  | ⟨2, _⟩ => show 0 + 1 * d.val = d.val; omega

theorem ld_hi {e : EltTy} (o : ℕ) (ho : o < 4) (inb : ∀ a, (![o, 0, 0] : Fin 3 → ℕ) a + S1x256x128.size a ≤ S4x256x128.size a) (x : Vec Ideal S4x256x128 e) (r : Fin 256) (d : Fin 128) :
    (View.ld x (Rect.unit (s := S4x256x128) ![o, 0, 0] S1x256x128.size inb) : Vec Ideal S1x256x128 e) (ix3 0 r d) = x (ix3 ⟨o, ho⟩ r d) := by
  unfold View.ld
  congr 1
  funext a
  apply Fin.ext
  match a with
  | ⟨0, _⟩ => show o + 1 * 0 = o; omega
  | ⟨1, _⟩ => show 0 + 1 * r.val = r.val; omega
  | ⟨2, _⟩ => show 0 + 1 * d.val = d.val; omega

/-- The gated outputs, the gate's values and its derivatives, as blocks of all columns. -/
def Y (x2 : Vec Ideal S8x256x128 .f32) (x3 : Vec Ideal S4x256x128 .f32) (x4 : Vec Ideal S256x1536 .f32) (r : Fin 256) (n : Fin 1536) : EReal :=
  oB x2 x3 r n * si (x4 (ix2 r n))

/-- The two scale factors: one over the width of a row, and half of it. -/
def κ : EReal := Ideal.ofBits .f32 0x3A800000#32
def κ₂ : EReal := Ideal.ofBits .f32 0x3A000000#32

section
variable (x0 : Vec Ideal S256x1024 .f32) (x1 : Vec Ideal S256x1024 .f32) (x2 : Vec Ideal S8x256x128 .f32) (x3 : Vec Ideal S4x256x128 .f32)
  (x4 : Vec Ideal S256x1536 .f32) (x5 : Vec Ideal S1536x1024 .bf16)

/-- The residual minus the target. -/
def er (r : Fin 256) (d : Fin 1024) : EReal := x0 (ix2 r d) + (∑ n : Fin 1536, Y x2 x3 x4 r n * x5 (ix2 n d)) - x1 (ix2 r d)
/-- The gradient of the residual stream, and of the gated outputs. -/
def dh (r : Fin 256) (d : Fin 1024) : EReal := er x0 x1 x2 x3 x4 x5 r d * κ
def DY (r : Fin 256) (n : Fin 1536) : EReal := ∑ d : Fin 1024, dh x0 x1 x2 x3 x4 x5 r d * (x5 (ix2 n d) : EReal)
/-- The gradients of the attention outputs and of the gates, and each head's row sums. -/
def DO (r : Fin 256) (n : Fin 1536) : EReal := DY x0 x1 x2 x3 x4 x5 r n * si (x4 (ix2 r n))
def DG (r : Fin 256) (n : Fin 1536) : EReal := DY x0 x1 x2 x3 x4 x5 r n * oB x2 x3 r n * dsi (x4 (ix2 r n))
def DL (h : Fin 12) (r : Fin 256) : EReal := ∑ d : Fin 128, DO x0 x1 x2 x3 x4 x5 r (col h.val h.isLt d) * oB x2 x3 r (col h.val h.isLt d)
/-- The block's part of the loss. -/
def LS : EReal := (∑ r : Fin 256, ∑ d : Fin 1024, er x0 x1 x2 x3 x4 x5 r d * er x0 x1 x2 x3 x4 x5 r d) * κ₂
end

theorem pay71_apply (a b : Vec Ideal S256x1024 .f32) (y : Vec Ideal S256x1536 .bf16) (w : Vec Ideal S1536x1024 .bf16) (r : Fin 256) (d : Fin 1024) :
    k0_pay71 a y w b (ix2 r d) = (a (ix2 r d) + (∑ n : Fin 1536, (y (ix2 r n) : EReal) * (w (ix2 n d) : EReal)) - b (ix2 r d)) * κ := by
  unfold κ
  pointwise [k0_pay71, k0_pay69]

theorem pay72_apply (a b : Vec Ideal S256x1024 .f32) (y : Vec Ideal S256x1536 .bf16) (w w' : Vec Ideal S1536x1024 .bf16) (r : Fin 256) (n : Fin 1536) :
    k0_pay72 a y w b w' (ix2 r n)
      = ∑ d : Fin 1024, (a (ix2 r d) + (∑ n : Fin 1536, (y (ix2 r n) : EReal) * (w (ix2 n d) : EReal)) - b (ix2 r d)) * κ * (w' (ix2 n d) : EReal) := by
  unfold κ
  pointwise [k0_pay72, k0_pay71, k0_pay69]

theorem pay70_apply (a b : Vec Ideal S256x1024 .f32) (y : Vec Ideal S256x1536 .bf16) (w : Vec Ideal S1536x1024 .bf16) (o : Vec Ideal S8x128 .f32) (u : Fin 8) (l : Fin 128) :
    k0_pay70 a y w b o (ix2 u l)
      = o (ix2 u l) + (∑ r : Fin 256, ∑ d : Fin 1024, (a (ix2 r d) + (∑ n : Fin 1536, (y (ix2 r n) : EReal) * (w (ix2 n d) : EReal)) - b (ix2 r d))
          * (a (ix2 r d) + (∑ n : Fin 1536, (y (ix2 r n) : EReal) * (w (ix2 n d) : EReal)) - b (ix2 r d))) * κ₂ := by
  unfold κ₂
  pointwise [k0_pay70, k0_pay69]

theorem pay2_apply (u : Fin 8) (l : Fin 128) : k0_pay2 (F := Ideal) (ix2 u l) = 0 := by
  pointwise [k0_pay2]

theorem hz2 : (![0, 0] : Fin 2 → Nat) = fun _ => 0 := funext fun a => by fin_cases a <;> rfl

/-- A load of a whole block reads it. -/
theorem ldw1 {e : EltTy} (x : Vec Ideal S256x1024 e) (inb : ∀ a, (![0, 0] : Fin 2 → ℕ) a + S256x1024.size a ≤ S256x1024.size a) :
    View.ld x (Rect.unit (s := S256x1024) ![0, 0] S256x1024.size inb) = x := View.ld_unit_zero hz2 _ _
theorem ldw1' {e : EltTy} (x : Vec Ideal S256x1024 e) (inb : ∀ a, (![0, 0] : Fin 2 → ℕ) a + (![256, 1024] : Fin 2 → ℕ) a ≤ S256x1024.size a) :
    (View.ld x (Rect.unit (s := S256x1024) ![0, 0] ![256, 1024] inb) : Vec Ideal S256x1024 e) = x := ldw1 x inb
theorem ldw5 {e : EltTy} (x : Vec Ideal S1536x1024 e) (inb : ∀ a, (![0, 0] : Fin 2 → ℕ) a + S1536x1024.size a ≤ S1536x1024.size a) :
    View.ld x (Rect.unit (s := S1536x1024) ![0, 0] S1536x1024.size inb) = x := View.ld_unit_zero hz2 _ _
theorem ldw5' {e : EltTy} (x : Vec Ideal S1536x1024 e) (inb : ∀ a, (![0, 0] : Fin 2 → ℕ) a + (![1536, 1024] : Fin 2 → ℕ) a ≤ S1536x1024.size a) :
    (View.ld x (Rect.unit (s := S1536x1024) ![0, 0] ![1536, 1024] inb) : Vec Ideal S1536x1024 e) = x := ldw5 x inb
theorem ldw12 {e : EltTy} (x : Vec Ideal S8x128 e) (inb : ∀ a, (![0, 0] : Fin 2 → ℕ) a + S8x128.size a ≤ S8x128.size a) :
    View.ld x (Rect.unit (s := S8x128) ![0, 0] S8x128.size inb) = x := View.ld_unit_zero hz2 _ _
theorem ldw12' {e : EltTy} (x : Vec Ideal S8x128 e) (inb : ∀ a, (![0, 0] : Fin 2 → ℕ) a + (![8, 128] : Fin 2 → ℕ) a ≤ S8x128.size a) :
    (View.ld x (Rect.unit (s := S8x128) ![0, 0] ![8, 128] inb) : Vec Ideal S8x128 e) = x := ldw12 x inb

theorem hlt9 (i : S8x256x128.Idx) : 0 + (i 0).val < 12 := by
  have h : (i 0).val < 8 := (i 0).isLt
  omega
theorem hlt10 (i : S4x256x128.Idx) : 8 + (i 0).val < 12 := by
  have h : (i 0).val < 4 := (i 0).isLt
  omega

/-- The places of a head's block, and the pairs of coordinates of its entries. -/
theorem emb_lo (o : ℕ) (ho : o < 8) (inb : ∀ a, (![o, 0, 0] : Fin 3 → ℕ) a + S1x256x128.size a ≤ S8x256x128.size a) (r : Fin 256) (d : Fin 128) :
    (Rect.unit (s := S8x256x128) ![o, 0, 0] S1x256x128.size inb).emb (ix3 0 r d) = ix3 ⟨o, ho⟩ r d := by
  funext a
  apply Fin.ext
  match a with
  | ⟨0, _⟩ => show o + 1 * 0 = o; omega
  | ⟨1, _⟩ => show 0 + 1 * r.val = r.val; omega
  | ⟨2, _⟩ => show 0 + 1 * d.val = d.val; omega

theorem emb_hi (o : ℕ) (ho : o < 4) (inb : ∀ a, (![o, 0, 0] : Fin 3 → ℕ) a + S1x256x128.size a ≤ S4x256x128.size a) (r : Fin 256) (d : Fin 128) :
    (Rect.unit (s := S4x256x128) ![o, 0, 0] S1x256x128.size inb).emb (ix3 0 r d) = ix3 ⟨o, ho⟩ r d := by
  funext a
  apply Fin.ext
  match a with
  | ⟨0, _⟩ => show o + 1 * 0 = o; omega
  | ⟨1, _⟩ => show 0 + 1 * r.val = r.val; omega
  | ⟨2, _⟩ => show 0 + 1 * d.val = d.val; omega

theorem emb_row (o : ℕ) (ho : o < 12) (inb : ∀ a, (![o, 0, 0] : Fin 3 → ℕ) a + S1x256x1.size a ≤ S12x256x1.size a) (r : Fin 256) :
    (Rect.unit (s := S12x256x1) ![o, 0, 0] S1x256x1.size inb).emb (ix3 0 r 0) = ix3 ⟨o, ho⟩ r 0 := by
  funext a
  apply Fin.ext
  match a with
  | ⟨0, _⟩ => show o + 1 * 0 = o; omega
  | ⟨1, _⟩ => show 0 + 1 * r.val = r.val; omega
  | ⟨2, _⟩ => rfl

theorem ix3_of (x : S1x256x128.Idx) : ∃ (r : Fin 256) (d : Fin 128), x = ix3 0 r d :=
  ⟨x 1, x 2, by funext a; match a with | ⟨0, _⟩ => exact Subsingleton.elim (α := Fin 1) _ _ | ⟨1, _⟩ => rfl | ⟨2, _⟩ => rfl⟩

theorem ix3_of' (x : S1x256x1.Idx) : ∃ r : Fin 256, x = ix3 0 r 0 :=
  ⟨x 1, by funext a; match a with | ⟨0, _⟩ => exact Subsingleton.elim (α := Fin 1) _ _ | ⟨1, _⟩ => rfl | ⟨2, _⟩ => exact Subsingleton.elim (α := Fin 1) _ _⟩

/-- One element read back after writes of which some piece covers it. -/
theorem read_pieces {s : Shape} {e : EltTy} {sp : Space} (v : View sig .tc sp s e) (f : v.ty.Contents (Elt Ideal)) (L : List (View.Piece (Elt Ideal) s e))
    (G : s.Idx → Elt Ideal e) (hG : ∀ p ∈ L, ∀ x : p.1.shape.Idx, p.2 x = G (p.1.emb x)) (y : s.Idx) (hy : ∃ p ∈ L, y ∈ p.1.set) :
    v.read (Elt Ideal) (v.writes (Elt Ideal) f L) y = G y :=
  View.read_writes_apply_of_pieces v f G L hG y hy

end Cert.MidIdeal.Block

end
-- ==== Proof.MidPieces.lean ====
module

public import proofs.«01_k».proof.Proof.MidVal

@[expose] public section

set_option maxRecDepth 16384

noncomputable section

namespace Cert.MidIdeal.Block

open Cert.MidIdeal Cert.MidIdeal.Gen Idealize.ShloMosaic Idealize.ShloMosaic.TcCoe Cert.Online

/-- The pieces of the gated outputs. -/
theorem pieces_y_A (c : Dev nD) (arg3 : Memref sig .tc .vmem S8x256x128 .f32) (h3 : arg3.IsWhole) (arg4 : Memref sig .tc .vmem S4x256x128 .f32) (h4 : arg4.IsWhole)
    (arg5 : Memref sig .tc .vmem S256x1536 .f32) (h5 : arg5.IsWhole)
    (x2 : Vec Ideal S8x256x128 .f32) (x3 : Vec Ideal S4x256x128 .f32) (x4 : Vec Ideal S256x1536 .f32) :
    ∀ p ∈ kernelRun0_A.sl.H6_12 (F := Ideal) c arg3 h3 arg4 h4 arg5 h5 x2 x3 x4, ∀ x : p.1.shape.Idx,
      p.2 x = (fun i : S256x1536.Idx => Y x2 x3 x4 (i 0) (i 1)) (p.1.emb x) := by
  unfold kernelRun0_A.sl.H6_12
  sl_unfold_run_names
  simp only [View.readAt_eq_ld, h3.read_unread, h4.read_unread, h5.read_unread]
  intro p hp x
  simp only [List.mem_cons, List.not_mem_nil, or_false] at hp
  rcases hp with rfl | rfl | rfl | rfl | rfl | rfl | rfl | rfl | rfl | rfl | rfl | rfl
  all_goals obtain ⟨r, d, rfl⟩ := ix2_of x
  on_goal 1 => (rw [emb_col 1408 _ r d (by have := d.isLt; omega)]; show _ = Y x2 x3 x4 r ⟨1408 + d.val, by have := d.isLt; omega⟩; unfold Y si sg; rw [oB_hi x2 x3 r _ 3 d rfl])
  on_goal 2 => (rw [emb_col 1280 _ r d (by have := d.isLt; omega)]; show _ = Y x2 x3 x4 r ⟨1280 + d.val, by have := d.isLt; omega⟩; unfold Y si sg; rw [oB_hi x2 x3 r _ 2 d rfl])
  on_goal 3 => (rw [emb_col 1152 _ r d (by have := d.isLt; omega)]; show _ = Y x2 x3 x4 r ⟨1152 + d.val, by have := d.isLt; omega⟩; unfold Y si sg; rw [oB_hi x2 x3 r _ 1 d rfl])
  on_goal 4 => (rw [emb_col 1024 _ r d (by have := d.isLt; omega)]; show _ = Y x2 x3 x4 r ⟨1024 + d.val, by have := d.isLt; omega⟩; unfold Y si sg; rw [oB_hi x2 x3 r _ 0 d rfl])
  on_goal 5 => (rw [emb_col 896 _ r d (by have := d.isLt; omega)]; show _ = Y x2 x3 x4 r ⟨896 + d.val, by have := d.isLt; omega⟩; unfold Y si sg; rw [oB_lo x2 x3 r _ 7 d rfl])
  on_goal 6 => (rw [emb_col 768 _ r d (by have := d.isLt; omega)]; show _ = Y x2 x3 x4 r ⟨768 + d.val, by have := d.isLt; omega⟩; unfold Y si sg; rw [oB_lo x2 x3 r _ 6 d rfl])
  on_goal 7 => (rw [emb_col 640 _ r d (by have := d.isLt; omega)]; show _ = Y x2 x3 x4 r ⟨640 + d.val, by have := d.isLt; omega⟩; unfold Y si sg; rw [oB_lo x2 x3 r _ 5 d rfl])
  on_goal 8 => (rw [emb_col 512 _ r d (by have := d.isLt; omega)]; show _ = Y x2 x3 x4 r ⟨512 + d.val, by have := d.isLt; omega⟩; unfold Y si sg; rw [oB_lo x2 x3 r _ 4 d rfl])
  on_goal 9 => (rw [emb_col 384 _ r d (by have := d.isLt; omega)]; show _ = Y x2 x3 x4 r ⟨384 + d.val, by have := d.isLt; omega⟩; unfold Y si sg; rw [oB_lo x2 x3 r _ 3 d rfl])
  on_goal 10 => (rw [emb_col 256 _ r d (by have := d.isLt; omega)]; show _ = Y x2 x3 x4 r ⟨256 + d.val, by have := d.isLt; omega⟩; unfold Y si sg; rw [oB_lo x2 x3 r _ 2 d rfl])
  on_goal 11 => (rw [emb_col 128 _ r d (by have := d.isLt; omega)]; show _ = Y x2 x3 x4 r ⟨128 + d.val, by have := d.isLt; omega⟩; unfold Y si sg; rw [oB_lo x2 x3 r _ 1 d rfl])
  on_goal 12 => (rw [emb_col 0 _ r d (by have := d.isLt; omega)]; show _ = Y x2 x3 x4 r ⟨0 + d.val, by have := d.isLt; omega⟩; unfold Y si sg; rw [oB_lo x2 x3 r _ 0 d rfl])
  all_goals dsimp only
  all_goals pointwise [k0_pay3, k0_pay4, k0_pay5, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54, k0_pay55, k0_pay56, k0_pay57, k0_pay58, k0_pay59, k0_pay60, k0_pay61, k0_pay62, k0_pay63, k0_pay64, k0_pay65, k0_pay66, k0_pay67, k0_pay68]

/-- The pieces of the scratch block `silu`, that they cover it, and what a load of a head's columns finds. -/
theorem pieces_silu_A (c : Dev nD) (arg5 : Memref sig .tc .vmem S256x1536 .f32) (h5 : arg5.IsWhole) (x4 : Vec Ideal S256x1536 .f32) :
    ∀ p ∈ kernelRun0_A.sl.HS0_12 (F := Ideal) c arg5 h5 x4, ∀ x : p.1.shape.Idx,
      p.2 x = (fun i : S256x1536.Idx => si (x4 (ix2 (i 0) (i 1)))) (p.1.emb x) := by
  unfold kernelRun0_A.sl.HS0_12
  sl_unfold_run_names
  simp only [View.readAt_eq_ld, h5.read_unread]
  intro p hp x
  simp only [List.mem_cons, List.not_mem_nil, or_false] at hp
  rcases hp with rfl | rfl | rfl | rfl | rfl | rfl | rfl | rfl | rfl | rfl | rfl | rfl
  all_goals obtain ⟨r, d, rfl⟩ := ix2_of x
  on_goal 1 => (rw [emb_col 1408 _ r d (by have := d.isLt; omega)]; show _ = si (x4 (ix2 r ⟨1408 + d.val, by have := d.isLt; omega⟩)))
  on_goal 2 => (rw [emb_col 1280 _ r d (by have := d.isLt; omega)]; show _ = si (x4 (ix2 r ⟨1280 + d.val, by have := d.isLt; omega⟩)))
  on_goal 3 => (rw [emb_col 1152 _ r d (by have := d.isLt; omega)]; show _ = si (x4 (ix2 r ⟨1152 + d.val, by have := d.isLt; omega⟩)))
  on_goal 4 => (rw [emb_col 1024 _ r d (by have := d.isLt; omega)]; show _ = si (x4 (ix2 r ⟨1024 + d.val, by have := d.isLt; omega⟩)))
  on_goal 5 => (rw [emb_col 896 _ r d (by have := d.isLt; omega)]; show _ = si (x4 (ix2 r ⟨896 + d.val, by have := d.isLt; omega⟩)))
  on_goal 6 => (rw [emb_col 768 _ r d (by have := d.isLt; omega)]; show _ = si (x4 (ix2 r ⟨768 + d.val, by have := d.isLt; omega⟩)))
  on_goal 7 => (rw [emb_col 640 _ r d (by have := d.isLt; omega)]; show _ = si (x4 (ix2 r ⟨640 + d.val, by have := d.isLt; omega⟩)))
  on_goal 8 => (rw [emb_col 512 _ r d (by have := d.isLt; omega)]; show _ = si (x4 (ix2 r ⟨512 + d.val, by have := d.isLt; omega⟩)))
  on_goal 9 => (rw [emb_col 384 _ r d (by have := d.isLt; omega)]; show _ = si (x4 (ix2 r ⟨384 + d.val, by have := d.isLt; omega⟩)))
  on_goal 10 => (rw [emb_col 256 _ r d (by have := d.isLt; omega)]; show _ = si (x4 (ix2 r ⟨256 + d.val, by have := d.isLt; omega⟩)))
  on_goal 11 => (rw [emb_col 128 _ r d (by have := d.isLt; omega)]; show _ = si (x4 (ix2 r ⟨128 + d.val, by have := d.isLt; omega⟩)))
  on_goal 12 => (rw [emb_col 0 _ r d (by have := d.isLt; omega)]; show _ = si (x4 (ix2 r ⟨0 + d.val, by have := d.isLt; omega⟩)))
  all_goals unfold si sg
  all_goals dsimp only
  all_goals pointwise [k0_pay3, k0_pay4, k0_pay5, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54, k0_pay55, k0_pay56, k0_pay57, k0_pay58, k0_pay59, k0_pay60, k0_pay61, k0_pay62, k0_pay63, k0_pay64, k0_pay65, k0_pay66, k0_pay67, k0_pay68]

theorem rd_silu_A (c : Dev nD) (arg5 : Memref sig .tc .vmem S256x1536 .f32) (h5 : arg5.IsWhole) (x4 : Vec Ideal S256x1536 .f32)
    (v : Memref sig .tc .vmem S256x1536 .f32) (o : ℕ) (inb : ∀ a, (![0, o] : Fin 2 → ℕ) a + S256x128.size a ≤ S256x1536.size a) (r : Fin 256) (d : Fin 128)
    (h : o + d.val < 1536) :
    v.view.readCov (kernelRun0_A.sl.HS0_12 (F := Ideal) c arg5 h5 x4) (Rect.unit (s := S256x1536) ![0, o] S256x128.size inb).toLoadRect (ix2 r d)
      = si (x4 (ix2 r ⟨o + d.val, h⟩)) := by
  unfold View.readCov
  rw [View.readAt_eq_ld]
  refine (ld_col o inb _ r d h).trans ?_
  exact read_pieces v.view _ _ (fun i : S256x1536.Idx => si (x4 (ix2 (i 0) (i 1)))) (pieces_silu_A c arg5 h5 x4) (ix2 r ⟨o + d.val, h⟩)
    (View.cover_of_tiledL (s := S256x1536) (kernelRun0_A.sl.HS0_12 (F := Ideal) c arg5 h5 x4) S256x128.size (by sl_kernel_rfl) _)

/-- The pieces of the scratch block `dsilu`, that they cover it, and what a load of a head's columns finds. -/
theorem pieces_dsilu_A (c : Dev nD) (arg5 : Memref sig .tc .vmem S256x1536 .f32) (h5 : arg5.IsWhole) (x4 : Vec Ideal S256x1536 .f32) :
    ∀ p ∈ kernelRun0_A.sl.HS1_12 (F := Ideal) c arg5 h5 x4, ∀ x : p.1.shape.Idx,
      p.2 x = (fun i : S256x1536.Idx => dsi (x4 (ix2 (i 0) (i 1)))) (p.1.emb x) := by
  unfold kernelRun0_A.sl.HS1_12
  sl_unfold_run_names
  simp only [View.readAt_eq_ld, h5.read_unread]
  intro p hp x
  simp only [List.mem_cons, List.not_mem_nil, or_false] at hp
  rcases hp with rfl | rfl | rfl | rfl | rfl | rfl | rfl | rfl | rfl | rfl | rfl | rfl
  all_goals obtain ⟨r, d, rfl⟩ := ix2_of x
  on_goal 1 => (rw [emb_col 1408 _ r d (by have := d.isLt; omega)]; show _ = dsi (x4 (ix2 r ⟨1408 + d.val, by have := d.isLt; omega⟩)))
  on_goal 2 => (rw [emb_col 1280 _ r d (by have := d.isLt; omega)]; show _ = dsi (x4 (ix2 r ⟨1280 + d.val, by have := d.isLt; omega⟩)))
  on_goal 3 => (rw [emb_col 1152 _ r d (by have := d.isLt; omega)]; show _ = dsi (x4 (ix2 r ⟨1152 + d.val, by have := d.isLt; omega⟩)))
  on_goal 4 => (rw [emb_col 1024 _ r d (by have := d.isLt; omega)]; show _ = dsi (x4 (ix2 r ⟨1024 + d.val, by have := d.isLt; omega⟩)))
  on_goal 5 => (rw [emb_col 896 _ r d (by have := d.isLt; omega)]; show _ = dsi (x4 (ix2 r ⟨896 + d.val, by have := d.isLt; omega⟩)))
  on_goal 6 => (rw [emb_col 768 _ r d (by have := d.isLt; omega)]; show _ = dsi (x4 (ix2 r ⟨768 + d.val, by have := d.isLt; omega⟩)))
  on_goal 7 => (rw [emb_col 640 _ r d (by have := d.isLt; omega)]; show _ = dsi (x4 (ix2 r ⟨640 + d.val, by have := d.isLt; omega⟩)))
  on_goal 8 => (rw [emb_col 512 _ r d (by have := d.isLt; omega)]; show _ = dsi (x4 (ix2 r ⟨512 + d.val, by have := d.isLt; omega⟩)))
  on_goal 9 => (rw [emb_col 384 _ r d (by have := d.isLt; omega)]; show _ = dsi (x4 (ix2 r ⟨384 + d.val, by have := d.isLt; omega⟩)))
  on_goal 10 => (rw [emb_col 256 _ r d (by have := d.isLt; omega)]; show _ = dsi (x4 (ix2 r ⟨256 + d.val, by have := d.isLt; omega⟩)))
  on_goal 11 => (rw [emb_col 128 _ r d (by have := d.isLt; omega)]; show _ = dsi (x4 (ix2 r ⟨128 + d.val, by have := d.isLt; omega⟩)))
  on_goal 12 => (rw [emb_col 0 _ r d (by have := d.isLt; omega)]; show _ = dsi (x4 (ix2 r ⟨0 + d.val, by have := d.isLt; omega⟩)))
  all_goals unfold dsi sg
  all_goals dsimp only
  all_goals pointwise [k0_pay3, k0_pay4, k0_pay5, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54, k0_pay55, k0_pay56, k0_pay57, k0_pay58, k0_pay59, k0_pay60, k0_pay61, k0_pay62, k0_pay63, k0_pay64, k0_pay65, k0_pay66, k0_pay67, k0_pay68]

theorem rd_dsilu_A (c : Dev nD) (arg5 : Memref sig .tc .vmem S256x1536 .f32) (h5 : arg5.IsWhole) (x4 : Vec Ideal S256x1536 .f32)
    (v : Memref sig .tc .vmem S256x1536 .f32) (o : ℕ) (inb : ∀ a, (![0, o] : Fin 2 → ℕ) a + S256x128.size a ≤ S256x1536.size a) (r : Fin 256) (d : Fin 128)
    (h : o + d.val < 1536) :
    v.view.readCov (kernelRun0_A.sl.HS1_12 (F := Ideal) c arg5 h5 x4) (Rect.unit (s := S256x1536) ![0, o] S256x128.size inb).toLoadRect (ix2 r d)
      = dsi (x4 (ix2 r ⟨o + d.val, h⟩)) := by
  unfold View.readCov
  rw [View.readAt_eq_ld]
  refine (ld_col o inb _ r d h).trans ?_
  exact read_pieces v.view _ _ (fun i : S256x1536.Idx => dsi (x4 (ix2 (i 0) (i 1)))) (pieces_dsilu_A c arg5 h5 x4) (ix2 r ⟨o + d.val, h⟩)
    (View.cover_of_tiledL (s := S256x1536) (kernelRun0_A.sl.HS1_12 (F := Ideal) c arg5 h5 x4) S256x128.size (by sl_kernel_rfl) _)

/-- The pieces of the gated outputs. -/
theorem pieces_y_B (c : Dev nD) (arg3 : Memref sig .tc .vmem S8x256x128 .f32) (h3 : arg3.IsWhole) (arg4 : Memref sig .tc .vmem S4x256x128 .f32) (h4 : arg4.IsWhole)
    (arg5 : Memref sig .tc .vmem S256x1536 .f32) (h5 : arg5.IsWhole)
    (x2 : Vec Ideal S8x256x128 .f32) (x3 : Vec Ideal S4x256x128 .f32) (x4 : Vec Ideal S256x1536 .f32) :
    ∀ p ∈ kernelRun0_B.sl.H6_12 (F := Ideal) c arg3 h3 arg4 h4 arg5 h5 x2 x3 x4, ∀ x : p.1.shape.Idx,
      p.2 x = (fun i : S256x1536.Idx => Y x2 x3 x4 (i 0) (i 1)) (p.1.emb x) := by
  unfold kernelRun0_B.sl.H6_12
  sl_unfold_run_names
  simp only [View.readAt_eq_ld, h3.read_unread, h4.read_unread, h5.read_unread]
  intro p hp x
  simp only [List.mem_cons, List.not_mem_nil, or_false] at hp
  rcases hp with rfl | rfl | rfl | rfl | rfl | rfl | rfl | rfl | rfl | rfl | rfl | rfl
  all_goals obtain ⟨r, d, rfl⟩ := ix2_of x
  on_goal 1 => (rw [emb_col 1408 _ r d (by have := d.isLt; omega)]; show _ = Y x2 x3 x4 r ⟨1408 + d.val, by have := d.isLt; omega⟩; unfold Y si sg; rw [oB_hi x2 x3 r _ 3 d rfl])
  on_goal 2 => (rw [emb_col 1280 _ r d (by have := d.isLt; omega)]; show _ = Y x2 x3 x4 r ⟨1280 + d.val, by have := d.isLt; omega⟩; unfold Y si sg; rw [oB_hi x2 x3 r _ 2 d rfl])
  on_goal 3 => (rw [emb_col 1152 _ r d (by have := d.isLt; omega)]; show _ = Y x2 x3 x4 r ⟨1152 + d.val, by have := d.isLt; omega⟩; unfold Y si sg; rw [oB_hi x2 x3 r _ 1 d rfl])
  on_goal 4 => (rw [emb_col 1024 _ r d (by have := d.isLt; omega)]; show _ = Y x2 x3 x4 r ⟨1024 + d.val, by have := d.isLt; omega⟩; unfold Y si sg; rw [oB_hi x2 x3 r _ 0 d rfl])
  on_goal 5 => (rw [emb_col 896 _ r d (by have := d.isLt; omega)]; show _ = Y x2 x3 x4 r ⟨896 + d.val, by have := d.isLt; omega⟩; unfold Y si sg; rw [oB_lo x2 x3 r _ 7 d rfl])
  on_goal 6 => (rw [emb_col 768 _ r d (by have := d.isLt; omega)]; show _ = Y x2 x3 x4 r ⟨768 + d.val, by have := d.isLt; omega⟩; unfold Y si sg; rw [oB_lo x2 x3 r _ 6 d rfl])
  on_goal 7 => (rw [emb_col 640 _ r d (by have := d.isLt; omega)]; show _ = Y x2 x3 x4 r ⟨640 + d.val, by have := d.isLt; omega⟩; unfold Y si sg; rw [oB_lo x2 x3 r _ 5 d rfl])
  on_goal 8 => (rw [emb_col 512 _ r d (by have := d.isLt; omega)]; show _ = Y x2 x3 x4 r ⟨512 + d.val, by have := d.isLt; omega⟩; unfold Y si sg; rw [oB_lo x2 x3 r _ 4 d rfl])
  on_goal 9 => (rw [emb_col 384 _ r d (by have := d.isLt; omega)]; show _ = Y x2 x3 x4 r ⟨384 + d.val, by have := d.isLt; omega⟩; unfold Y si sg; rw [oB_lo x2 x3 r _ 3 d rfl])
  on_goal 10 => (rw [emb_col 256 _ r d (by have := d.isLt; omega)]; show _ = Y x2 x3 x4 r ⟨256 + d.val, by have := d.isLt; omega⟩; unfold Y si sg; rw [oB_lo x2 x3 r _ 2 d rfl])
  on_goal 11 => (rw [emb_col 128 _ r d (by have := d.isLt; omega)]; show _ = Y x2 x3 x4 r ⟨128 + d.val, by have := d.isLt; omega⟩; unfold Y si sg; rw [oB_lo x2 x3 r _ 1 d rfl])
  on_goal 12 => (rw [emb_col 0 _ r d (by have := d.isLt; omega)]; show _ = Y x2 x3 x4 r ⟨0 + d.val, by have := d.isLt; omega⟩; unfold Y si sg; rw [oB_lo x2 x3 r _ 0 d rfl])
  all_goals dsimp only
  all_goals pointwise [k0_pay3, k0_pay4, k0_pay5, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54, k0_pay55, k0_pay56, k0_pay57, k0_pay58, k0_pay59, k0_pay60, k0_pay61, k0_pay62, k0_pay63, k0_pay64, k0_pay65, k0_pay66, k0_pay67, k0_pay68]

/-- The pieces of the scratch block `silu`, that they cover it, and what a load of a head's columns finds. -/
theorem pieces_silu_B (c : Dev nD) (arg5 : Memref sig .tc .vmem S256x1536 .f32) (h5 : arg5.IsWhole) (x4 : Vec Ideal S256x1536 .f32) :
    ∀ p ∈ kernelRun0_B.sl.HS0_12 (F := Ideal) c arg5 h5 x4, ∀ x : p.1.shape.Idx,
      p.2 x = (fun i : S256x1536.Idx => si (x4 (ix2 (i 0) (i 1)))) (p.1.emb x) := by
  unfold kernelRun0_B.sl.HS0_12
  sl_unfold_run_names
  simp only [View.readAt_eq_ld, h5.read_unread]
  intro p hp x
  simp only [List.mem_cons, List.not_mem_nil, or_false] at hp
  rcases hp with rfl | rfl | rfl | rfl | rfl | rfl | rfl | rfl | rfl | rfl | rfl | rfl
  all_goals obtain ⟨r, d, rfl⟩ := ix2_of x
  on_goal 1 => (rw [emb_col 1408 _ r d (by have := d.isLt; omega)]; show _ = si (x4 (ix2 r ⟨1408 + d.val, by have := d.isLt; omega⟩)))
  on_goal 2 => (rw [emb_col 1280 _ r d (by have := d.isLt; omega)]; show _ = si (x4 (ix2 r ⟨1280 + d.val, by have := d.isLt; omega⟩)))
  on_goal 3 => (rw [emb_col 1152 _ r d (by have := d.isLt; omega)]; show _ = si (x4 (ix2 r ⟨1152 + d.val, by have := d.isLt; omega⟩)))
  on_goal 4 => (rw [emb_col 1024 _ r d (by have := d.isLt; omega)]; show _ = si (x4 (ix2 r ⟨1024 + d.val, by have := d.isLt; omega⟩)))
  on_goal 5 => (rw [emb_col 896 _ r d (by have := d.isLt; omega)]; show _ = si (x4 (ix2 r ⟨896 + d.val, by have := d.isLt; omega⟩)))
  on_goal 6 => (rw [emb_col 768 _ r d (by have := d.isLt; omega)]; show _ = si (x4 (ix2 r ⟨768 + d.val, by have := d.isLt; omega⟩)))
  on_goal 7 => (rw [emb_col 640 _ r d (by have := d.isLt; omega)]; show _ = si (x4 (ix2 r ⟨640 + d.val, by have := d.isLt; omega⟩)))
  on_goal 8 => (rw [emb_col 512 _ r d (by have := d.isLt; omega)]; show _ = si (x4 (ix2 r ⟨512 + d.val, by have := d.isLt; omega⟩)))
  on_goal 9 => (rw [emb_col 384 _ r d (by have := d.isLt; omega)]; show _ = si (x4 (ix2 r ⟨384 + d.val, by have := d.isLt; omega⟩)))
  on_goal 10 => (rw [emb_col 256 _ r d (by have := d.isLt; omega)]; show _ = si (x4 (ix2 r ⟨256 + d.val, by have := d.isLt; omega⟩)))
  on_goal 11 => (rw [emb_col 128 _ r d (by have := d.isLt; omega)]; show _ = si (x4 (ix2 r ⟨128 + d.val, by have := d.isLt; omega⟩)))
  on_goal 12 => (rw [emb_col 0 _ r d (by have := d.isLt; omega)]; show _ = si (x4 (ix2 r ⟨0 + d.val, by have := d.isLt; omega⟩)))
  all_goals unfold si sg
  all_goals dsimp only
  all_goals pointwise [k0_pay3, k0_pay4, k0_pay5, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54, k0_pay55, k0_pay56, k0_pay57, k0_pay58, k0_pay59, k0_pay60, k0_pay61, k0_pay62, k0_pay63, k0_pay64, k0_pay65, k0_pay66, k0_pay67, k0_pay68]

theorem rd_silu_B (c : Dev nD) (arg5 : Memref sig .tc .vmem S256x1536 .f32) (h5 : arg5.IsWhole) (x4 : Vec Ideal S256x1536 .f32)
    (v : Memref sig .tc .vmem S256x1536 .f32) (o : ℕ) (inb : ∀ a, (![0, o] : Fin 2 → ℕ) a + S256x128.size a ≤ S256x1536.size a) (r : Fin 256) (d : Fin 128)
    (h : o + d.val < 1536) :
    v.view.readCov (kernelRun0_B.sl.HS0_12 (F := Ideal) c arg5 h5 x4) (Rect.unit (s := S256x1536) ![0, o] S256x128.size inb).toLoadRect (ix2 r d)
      = si (x4 (ix2 r ⟨o + d.val, h⟩)) := by
  unfold View.readCov
  rw [View.readAt_eq_ld]
  refine (ld_col o inb _ r d h).trans ?_
  exact read_pieces v.view _ _ (fun i : S256x1536.Idx => si (x4 (ix2 (i 0) (i 1)))) (pieces_silu_B c arg5 h5 x4) (ix2 r ⟨o + d.val, h⟩)
    (View.cover_of_tiledL (s := S256x1536) (kernelRun0_B.sl.HS0_12 (F := Ideal) c arg5 h5 x4) S256x128.size (by sl_kernel_rfl) _)

/-- The pieces of the scratch block `dsilu`, that they cover it, and what a load of a head's columns finds. -/
theorem pieces_dsilu_B (c : Dev nD) (arg5 : Memref sig .tc .vmem S256x1536 .f32) (h5 : arg5.IsWhole) (x4 : Vec Ideal S256x1536 .f32) :
    ∀ p ∈ kernelRun0_B.sl.HS1_12 (F := Ideal) c arg5 h5 x4, ∀ x : p.1.shape.Idx,
      p.2 x = (fun i : S256x1536.Idx => dsi (x4 (ix2 (i 0) (i 1)))) (p.1.emb x) := by
  unfold kernelRun0_B.sl.HS1_12
  sl_unfold_run_names
  simp only [View.readAt_eq_ld, h5.read_unread]
  intro p hp x
  simp only [List.mem_cons, List.not_mem_nil, or_false] at hp
  rcases hp with rfl | rfl | rfl | rfl | rfl | rfl | rfl | rfl | rfl | rfl | rfl | rfl
  all_goals obtain ⟨r, d, rfl⟩ := ix2_of x
  on_goal 1 => (rw [emb_col 1408 _ r d (by have := d.isLt; omega)]; show _ = dsi (x4 (ix2 r ⟨1408 + d.val, by have := d.isLt; omega⟩)))
  on_goal 2 => (rw [emb_col 1280 _ r d (by have := d.isLt; omega)]; show _ = dsi (x4 (ix2 r ⟨1280 + d.val, by have := d.isLt; omega⟩)))
  on_goal 3 => (rw [emb_col 1152 _ r d (by have := d.isLt; omega)]; show _ = dsi (x4 (ix2 r ⟨1152 + d.val, by have := d.isLt; omega⟩)))
  on_goal 4 => (rw [emb_col 1024 _ r d (by have := d.isLt; omega)]; show _ = dsi (x4 (ix2 r ⟨1024 + d.val, by have := d.isLt; omega⟩)))
  on_goal 5 => (rw [emb_col 896 _ r d (by have := d.isLt; omega)]; show _ = dsi (x4 (ix2 r ⟨896 + d.val, by have := d.isLt; omega⟩)))
  on_goal 6 => (rw [emb_col 768 _ r d (by have := d.isLt; omega)]; show _ = dsi (x4 (ix2 r ⟨768 + d.val, by have := d.isLt; omega⟩)))
  on_goal 7 => (rw [emb_col 640 _ r d (by have := d.isLt; omega)]; show _ = dsi (x4 (ix2 r ⟨640 + d.val, by have := d.isLt; omega⟩)))
  on_goal 8 => (rw [emb_col 512 _ r d (by have := d.isLt; omega)]; show _ = dsi (x4 (ix2 r ⟨512 + d.val, by have := d.isLt; omega⟩)))
  on_goal 9 => (rw [emb_col 384 _ r d (by have := d.isLt; omega)]; show _ = dsi (x4 (ix2 r ⟨384 + d.val, by have := d.isLt; omega⟩)))
  on_goal 10 => (rw [emb_col 256 _ r d (by have := d.isLt; omega)]; show _ = dsi (x4 (ix2 r ⟨256 + d.val, by have := d.isLt; omega⟩)))
  on_goal 11 => (rw [emb_col 128 _ r d (by have := d.isLt; omega)]; show _ = dsi (x4 (ix2 r ⟨128 + d.val, by have := d.isLt; omega⟩)))
  on_goal 12 => (rw [emb_col 0 _ r d (by have := d.isLt; omega)]; show _ = dsi (x4 (ix2 r ⟨0 + d.val, by have := d.isLt; omega⟩)))
  all_goals unfold dsi sg
  all_goals dsimp only
  all_goals pointwise [k0_pay3, k0_pay4, k0_pay5, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54, k0_pay55, k0_pay56, k0_pay57, k0_pay58, k0_pay59, k0_pay60, k0_pay61, k0_pay62, k0_pay63, k0_pay64, k0_pay65, k0_pay66, k0_pay67, k0_pay68]

theorem rd_dsilu_B (c : Dev nD) (arg5 : Memref sig .tc .vmem S256x1536 .f32) (h5 : arg5.IsWhole) (x4 : Vec Ideal S256x1536 .f32)
    (v : Memref sig .tc .vmem S256x1536 .f32) (o : ℕ) (inb : ∀ a, (![0, o] : Fin 2 → ℕ) a + S256x128.size a ≤ S256x1536.size a) (r : Fin 256) (d : Fin 128)
    (h : o + d.val < 1536) :
    v.view.readCov (kernelRun0_B.sl.HS1_12 (F := Ideal) c arg5 h5 x4) (Rect.unit (s := S256x1536) ![0, o] S256x128.size inb).toLoadRect (ix2 r d)
      = dsi (x4 (ix2 r ⟨o + d.val, h⟩)) := by
  unfold View.readCov
  rw [View.readAt_eq_ld]
  refine (ld_col o inb _ r d h).trans ?_
  exact read_pieces v.view _ _ (fun i : S256x1536.Idx => dsi (x4 (ix2 (i 0) (i 1)))) (pieces_dsilu_B c arg5 h5 x4) (ix2 r ⟨o + d.val, h⟩)
    (View.cover_of_tiledL (s := S256x1536) (kernelRun0_B.sl.HS1_12 (F := Ideal) c arg5 h5 x4) S256x128.size (by sl_kernel_rfl) _)

end Cert.MidIdeal.Block

end
-- ==== Proof.MidA.lean ====
module

public import proofs.«01_k».proof.Proof.MidPieces

@[expose] public section

set_option maxRecDepth 16384

noncomputable section

namespace Cert.MidIdeal.Block

open Cert.MidIdeal Cert.MidIdeal.Gen Idealize.ShloMosaic Idealize.ShloMosaic.TcCoe Cert.Online

section
variable (c : Dev nD) (i : grid0.Coords)
  (arg1 : Memref sig .tc .vmem S256x1024 .f32) (h1 : arg1.IsWhole)
  (arg2 : Memref sig .tc .vmem S256x1024 .f32) (h2 : arg2.IsWhole)
  (arg3 : Memref sig .tc .vmem S8x256x128 .f32) (h3 : arg3.IsWhole)
  (arg4 : Memref sig .tc .vmem S4x256x128 .f32) (h4 : arg4.IsWhole)
  (arg5 : Memref sig .tc .vmem S256x1536 .f32) (h5 : arg5.IsWhole)
  (arg6 : Memref sig .tc .vmem S1536x1024 .bf16) (h6 : arg6.IsWhole)
  (arg7 : Memref sig .tc .vmem S256x1536 .bf16) (h7 : arg7.IsWhole)
  (arg8 : Memref sig .tc .vmem S256x1024 .f32) (h8 : arg8.IsWhole)
  (arg9 : Memref sig .tc .vmem S256x1536 .bf16) (h9 : arg9.IsWhole)
  (arg10 : Memref sig .tc .vmem S8x256x128 .bf16) (h10 : arg10.IsWhole)
  (arg11 : Memref sig .tc .vmem S4x256x128 .bf16) (h11 : arg11.IsWhole)
  (arg12 : Memref sig .tc .vmem S12x256x1 .f32) (h12 : arg12.IsWhole)
  (arg13 : Memref sig .tc .vmem S8x128 .f32) (h13 : arg13.IsWhole)
  (arg14 : Memref sig .tc .vmem S256x1536 .f32) (h14 : arg14.IsWhole)
  (arg15 : Memref sig .tc .vmem S256x1536 .f32) (h15 : arg15.IsWhole)
  (x0 : Vec Ideal S256x1024 .f32) (x1 : Vec Ideal S256x1024 .f32) (x2 : Vec Ideal S8x256x128 .f32) (x3 : Vec Ideal S4x256x128 .f32)
  (x4 : Vec Ideal S256x1536 .f32) (x5 : Vec Ideal S1536x1024 .bf16) (xo12 : Vec Ideal S8x128 .f32)

/-- What the second half of a point reads back of the gated outputs, and the gradient it forms of them. -/
theorem y_A (r : Fin 256) (n : Fin 1536) : kernelRun0_A.sl.v316 (F := Ideal) c arg3 h3 arg4 h4 arg5 h5 arg7 x2 x3 x4 (ix2 r n) = Y x2 x3 x4 r n := by
  unfold kernelRun0_A.sl.v316 View.readCov
  rw [View.readAt_eq_ld, View.ld_unit_zero hz2]
  exact read_pieces arg7.view _ _ (fun i : S256x1536.Idx => Y x2 x3 x4 (i 0) (i 1)) (pieces_y_A c arg3 h3 arg4 h4 arg5 h5 x2 x3 x4) (ix2 r n)
    (View.cover_of_tiledL (s := S256x1536) (kernelRun0_A.sl.H6_12 (F := Ideal) c arg3 h3 arg4 h4 arg5 h5 x2 x3 x4) S256x128.size (by sl_kernel_rfl) _)

theorem dy_A (r : Fin 256) (n : Fin 1536) :
    k0_pay72 x0 (kernelRun0_A.sl.v316 (F := Ideal) c arg3 h3 arg4 h4 arg5 h5 arg7 x2 x3 x4) x5 x1 x5 (ix2 r n) = DY x0 x1 x2 x3 x4 x5 r n := by
  rw [pay72_apply]
  simp only [y_A]
  rfl

theorem out6_A (hc0 : cond0_0 i) (r : Fin 256) (n : Fin 1536) : out0_A_6 c i arg1 h1 arg2 h2 arg3 h3 arg4 h4 arg5 h5 arg6 h6 arg7 h7 arg8 h8 arg9 h9 arg10 h10 arg11 h11 arg12 h12 arg13 h13 arg14 h14 arg15 h15 hc0 x0 x1 x2 x3 x4 x5 (ix2 r n) = Y x2 x3 x4 r n := by
  unfold out0_A_6
  exact read_pieces VO0_6 _ _ (fun i : S256x1536.Idx => Y x2 x3 x4 (i 0) (i 1)) (pieces_y_A c arg3 h3 arg4 h4 arg5 h5 x2 x3 x4) (ix2 r n) (cover0_A_6 c i arg1 h1 arg2 h2 arg3 h3 arg4 h4 arg5 h5 arg6 h6 arg7 h7 arg8 h8 arg9 h9 arg10 h10 arg11 h11 arg12 h12 arg13 h13 arg14 h14 arg15 h15 hc0 x0 x1 x2 x3 x4 x5 _)

theorem out7_A (hc0 : cond0_0 i) (r : Fin 256) (d : Fin 1024) : out0_A_7 c i arg1 h1 arg2 h2 arg3 h3 arg4 h4 arg5 h5 arg6 h6 arg7 h7 arg8 h8 arg9 h9 arg10 h10 arg11 h11 arg12 h12 arg13 h13 arg14 h14 arg15 h15 hc0 x0 x1 x2 x3 x4 x5 (ix2 r d) = dh x0 x1 x2 x3 x4 x5 r d := by
  unfold out0_A_7
  unfold kernelRun0_A
  dsimp only
  rw [View.read_writes_full]
  simp only [View.readAt_eq_ld, h1.read_unread, h2.read_unread, h3.read_unread, h4.read_unread, h5.read_unread, h6.read_unread, h13.read_unread, ldw1, ldw5, ldw12, ldw1', ldw5', ldw12']
  rw [pay71_apply]
  simp only [y_A]
  rfl

theorem out8_A (hc0 : cond0_0 i) (r : Fin 256) (n : Fin 1536) : out0_A_8 c i arg1 h1 arg2 h2 arg3 h3 arg4 h4 arg5 h5 arg6 h6 arg7 h7 arg8 h8 arg9 h9 arg10 h10 arg11 h11 arg12 h12 arg13 h13 arg14 h14 arg15 h15 hc0 x0 x1 x2 x3 x4 x5 (ix2 r n) = DG x0 x1 x2 x3 x4 x5 r n := by
  unfold out0_A_8
  refine read_pieces VO0_8 _ _ (fun i : S256x1536.Idx => DG x0 x1 x2 x3 x4 x5 (i 0) (i 1)) ?_ (ix2 r n) (cover0_A_8 c i arg1 h1 arg2 h2 arg3 h3 arg4 h4 arg5 h5 arg6 h6 arg7 h7 arg8 h8 arg9 h9 arg10 h10 arg11 h11 arg12 h12 arg13 h13 arg14 h14 arg15 h15 hc0 x0 x1 x2 x3 x4 x5 _)
  unfold kernelRun0_A
  dsimp only
  intro p hp x
  simp only [List.mem_cons, List.not_mem_nil, or_false] at hp
  rcases hp with rfl | rfl | rfl | rfl | rfl | rfl | rfl | rfl | rfl | rfl | rfl | rfl
  all_goals obtain ⟨r, d, rfl⟩ := ix2_of x
  all_goals simp only [kernelRun0_A.sl.r_7, kernelRun0_A.sl.r_15, kernelRun0_A.sl.r_23, kernelRun0_A.sl.r_24, kernelRun0_A.sl.r_25, kernelRun0_A.sl.r_26, kernelRun0_A.sl.r_27, kernelRun0_A.sl.r_28, kernelRun0_A.sl.r_29, kernelRun0_A.sl.r_30, kernelRun0_A.sl.r_31, kernelRun0_A.sl.r_32, kernelRun0_A.sl.r_33, kernelRun0_A.sl.r_34, kernelRun0_A.sl.r_35, kernelRun0_A.sl.r_36, kernelRun0_A.sl.r_37, kernelRun0_A.sl.r_38, kernelRun0_A.sl.r_39, View.readAt_eq_ld, h1.read_unread, h2.read_unread, h3.read_unread, h4.read_unread, h5.read_unread, h6.read_unread, h13.read_unread, ldw1, ldw5, ldw12, ldw1', ldw5', ldw12']
  on_goal 1 => (rw [emb_col 1408 _ r d (by have := d.isLt; omega)]; show _ = DG x0 x1 x2 x3 x4 x5 r ⟨1408 + d.val, by have := d.isLt; omega⟩; unfold DG; rw [oB_hi x2 x3 r _ 3 d rfl, ← dy_A c arg3 h3 arg4 h4 arg5 h5 arg7, ← rd_dsilu_A c arg5 h5 x4 arg15 1408 (by decide)])
  on_goal 2 => (rw [emb_col 1280 _ r d (by have := d.isLt; omega)]; show _ = DG x0 x1 x2 x3 x4 x5 r ⟨1280 + d.val, by have := d.isLt; omega⟩; unfold DG; rw [oB_hi x2 x3 r _ 2 d rfl, ← dy_A c arg3 h3 arg4 h4 arg5 h5 arg7, ← rd_dsilu_A c arg5 h5 x4 arg15 1280 (by decide)])
  on_goal 3 => (rw [emb_col 1152 _ r d (by have := d.isLt; omega)]; show _ = DG x0 x1 x2 x3 x4 x5 r ⟨1152 + d.val, by have := d.isLt; omega⟩; unfold DG; rw [oB_hi x2 x3 r _ 1 d rfl, ← dy_A c arg3 h3 arg4 h4 arg5 h5 arg7, ← rd_dsilu_A c arg5 h5 x4 arg15 1152 (by decide)])
  on_goal 4 => (rw [emb_col 1024 _ r d (by have := d.isLt; omega)]; show _ = DG x0 x1 x2 x3 x4 x5 r ⟨1024 + d.val, by have := d.isLt; omega⟩; unfold DG; rw [oB_hi x2 x3 r _ 0 d rfl, ← dy_A c arg3 h3 arg4 h4 arg5 h5 arg7, ← rd_dsilu_A c arg5 h5 x4 arg15 1024 (by decide)])
  on_goal 5 => (rw [emb_col 896 _ r d (by have := d.isLt; omega)]; show _ = DG x0 x1 x2 x3 x4 x5 r ⟨896 + d.val, by have := d.isLt; omega⟩; unfold DG; rw [oB_lo x2 x3 r _ 7 d rfl, ← dy_A c arg3 h3 arg4 h4 arg5 h5 arg7, ← rd_dsilu_A c arg5 h5 x4 arg15 896 (by decide)])
  on_goal 6 => (rw [emb_col 768 _ r d (by have := d.isLt; omega)]; show _ = DG x0 x1 x2 x3 x4 x5 r ⟨768 + d.val, by have := d.isLt; omega⟩; unfold DG; rw [oB_lo x2 x3 r _ 6 d rfl, ← dy_A c arg3 h3 arg4 h4 arg5 h5 arg7, ← rd_dsilu_A c arg5 h5 x4 arg15 768 (by decide)])
  on_goal 7 => (rw [emb_col 640 _ r d (by have := d.isLt; omega)]; show _ = DG x0 x1 x2 x3 x4 x5 r ⟨640 + d.val, by have := d.isLt; omega⟩; unfold DG; rw [oB_lo x2 x3 r _ 5 d rfl, ← dy_A c arg3 h3 arg4 h4 arg5 h5 arg7, ← rd_dsilu_A c arg5 h5 x4 arg15 640 (by decide)])
  on_goal 8 => (rw [emb_col 512 _ r d (by have := d.isLt; omega)]; show _ = DG x0 x1 x2 x3 x4 x5 r ⟨512 + d.val, by have := d.isLt; omega⟩; unfold DG; rw [oB_lo x2 x3 r _ 4 d rfl, ← dy_A c arg3 h3 arg4 h4 arg5 h5 arg7, ← rd_dsilu_A c arg5 h5 x4 arg15 512 (by decide)])
  on_goal 9 => (rw [emb_col 384 _ r d (by have := d.isLt; omega)]; show _ = DG x0 x1 x2 x3 x4 x5 r ⟨384 + d.val, by have := d.isLt; omega⟩; unfold DG; rw [oB_lo x2 x3 r _ 3 d rfl, ← dy_A c arg3 h3 arg4 h4 arg5 h5 arg7, ← rd_dsilu_A c arg5 h5 x4 arg15 384 (by decide)])
  on_goal 10 => (rw [emb_col 256 _ r d (by have := d.isLt; omega)]; show _ = DG x0 x1 x2 x3 x4 x5 r ⟨256 + d.val, by have := d.isLt; omega⟩; unfold DG; rw [oB_lo x2 x3 r _ 2 d rfl, ← dy_A c arg3 h3 arg4 h4 arg5 h5 arg7, ← rd_dsilu_A c arg5 h5 x4 arg15 256 (by decide)])
  on_goal 11 => (rw [emb_col 128 _ r d (by have := d.isLt; omega)]; show _ = DG x0 x1 x2 x3 x4 x5 r ⟨128 + d.val, by have := d.isLt; omega⟩; unfold DG; rw [oB_lo x2 x3 r _ 1 d rfl, ← dy_A c arg3 h3 arg4 h4 arg5 h5 arg7, ← rd_dsilu_A c arg5 h5 x4 arg15 128 (by decide)])
  on_goal 12 => (rw [emb_col 0 _ r d (by have := d.isLt; omega)]; show _ = DG x0 x1 x2 x3 x4 x5 r ⟨0 + d.val, by have := d.isLt; omega⟩; unfold DG; rw [oB_lo x2 x3 r _ 0 d rfl, ← dy_A c arg3 h3 arg4 h4 arg5 h5 arg7, ← rd_dsilu_A c arg5 h5 x4 arg15 0 (by decide)])
  all_goals dsimp only
  all_goals pointwise [k0_pay73, k0_pay74, k0_pay75, k0_pay76, k0_pay77, k0_pay78, k0_pay79, k0_pay80, k0_pay81, k0_pay82, k0_pay83, k0_pay84, k0_pay85, k0_pay86, k0_pay87, k0_pay88, k0_pay89, k0_pay90, k0_pay91, k0_pay92, k0_pay93, k0_pay94, k0_pay95, k0_pay96, k0_pay97, k0_pay98, k0_pay99, k0_pay100, k0_pay101, k0_pay102, k0_pay103, k0_pay104, k0_pay105, k0_pay106, k0_pay107, k0_pay108, k0_pay109, k0_pay110, k0_pay111, k0_pay112, k0_pay113, k0_pay114, k0_pay115, k0_pay116, k0_pay117, k0_pay118, k0_pay119, k0_pay120, k0_pay121, k0_pay122, k0_pay123, k0_pay124, k0_pay125, k0_pay126, k0_pay127, k0_pay128, k0_pay129, k0_pay130, k0_pay131, k0_pay132, k0_pay133, k0_pay134, k0_pay135, k0_pay136, k0_pay137, k0_pay138, k0_pay139, k0_pay140, k0_pay141, k0_pay142, k0_pay143, k0_pay144, k0_pay145, k0_pay146, k0_pay147, k0_pay148, k0_pay149, k0_pay1]
  all_goals rfl

theorem out9_A (hc0 : cond0_0 i) (h : Fin 8) (r : Fin 256) (d : Fin 128) :
    out0_A_9 c i arg1 h1 arg2 h2 arg3 h3 arg4 h4 arg5 h5 arg6 h6 arg7 h7 arg8 h8 arg9 h9 arg10 h10 arg11 h11 arg12 h12 arg13 h13 arg14 h14 arg15 h15 hc0 x0 x1 x2 x3 x4 x5 (ix3 h r d) = DO x0 x1 x2 x3 x4 x5 r (col (0 + h.val) (by have := h.isLt; omega) d) := by
  unfold out0_A_9
  refine read_pieces VO0_9 _ _ (fun i : S8x256x128.Idx => DO x0 x1 x2 x3 x4 x5 (i 1) (col (0 + (i 0).val) (hlt9 i) (i 2))) ?_ (ix3 h r d) (cover0_A_9 c i arg1 h1 arg2 h2 arg3 h3 arg4 h4 arg5 h5 arg6 h6 arg7 h7 arg8 h8 arg9 h9 arg10 h10 arg11 h11 arg12 h12 arg13 h13 arg14 h14 arg15 h15 hc0 x0 x1 x2 x3 x4 x5 _)
  unfold kernelRun0_A
  dsimp only
  intro p hp x
  simp only [List.mem_cons, List.not_mem_nil, or_false] at hp
  rcases hp with rfl | rfl | rfl | rfl | rfl | rfl | rfl | rfl
  all_goals obtain ⟨r, d, rfl⟩ := ix3_of x
  all_goals simp only [kernelRun0_A.sl.r_7, kernelRun0_A.sl.r_15, kernelRun0_A.sl.r_23, kernelRun0_A.sl.r_24, kernelRun0_A.sl.r_25, kernelRun0_A.sl.r_26, kernelRun0_A.sl.r_27, kernelRun0_A.sl.r_28, kernelRun0_A.sl.r_29, kernelRun0_A.sl.r_30, kernelRun0_A.sl.r_31, kernelRun0_A.sl.r_32, kernelRun0_A.sl.r_33, kernelRun0_A.sl.r_34, kernelRun0_A.sl.r_35, kernelRun0_A.sl.r_36, kernelRun0_A.sl.r_37, kernelRun0_A.sl.r_38, kernelRun0_A.sl.r_39, View.readAt_eq_ld, h1.read_unread, h2.read_unread, h3.read_unread, h4.read_unread, h5.read_unread, h6.read_unread, h13.read_unread, ldw1, ldw5, ldw12, ldw1', ldw5', ldw12']
  on_goal 1 => (rw [emb_lo 7 (by decide) _ r d]; show _ = DO x0 x1 x2 x3 x4 x5 r ⟨896 + d.val, by have := d.isLt; omega⟩; unfold DO; rw [← dy_A c arg3 h3 arg4 h4 arg5 h5 arg7, ← rd_silu_A c arg5 h5 x4 arg14 896 (by decide)])
  on_goal 2 => (rw [emb_lo 6 (by decide) _ r d]; show _ = DO x0 x1 x2 x3 x4 x5 r ⟨768 + d.val, by have := d.isLt; omega⟩; unfold DO; rw [← dy_A c arg3 h3 arg4 h4 arg5 h5 arg7, ← rd_silu_A c arg5 h5 x4 arg14 768 (by decide)])
  on_goal 3 => (rw [emb_lo 5 (by decide) _ r d]; show _ = DO x0 x1 x2 x3 x4 x5 r ⟨640 + d.val, by have := d.isLt; omega⟩; unfold DO; rw [← dy_A c arg3 h3 arg4 h4 arg5 h5 arg7, ← rd_silu_A c arg5 h5 x4 arg14 640 (by decide)])
  on_goal 4 => (rw [emb_lo 4 (by decide) _ r d]; show _ = DO x0 x1 x2 x3 x4 x5 r ⟨512 + d.val, by have := d.isLt; omega⟩; unfold DO; rw [← dy_A c arg3 h3 arg4 h4 arg5 h5 arg7, ← rd_silu_A c arg5 h5 x4 arg14 512 (by decide)])
  on_goal 5 => (rw [emb_lo 3 (by decide) _ r d]; show _ = DO x0 x1 x2 x3 x4 x5 r ⟨384 + d.val, by have := d.isLt; omega⟩; unfold DO; rw [← dy_A c arg3 h3 arg4 h4 arg5 h5 arg7, ← rd_silu_A c arg5 h5 x4 arg14 384 (by decide)])
  on_goal 6 => (rw [emb_lo 2 (by decide) _ r d]; show _ = DO x0 x1 x2 x3 x4 x5 r ⟨256 + d.val, by have := d.isLt; omega⟩; unfold DO; rw [← dy_A c arg3 h3 arg4 h4 arg5 h5 arg7, ← rd_silu_A c arg5 h5 x4 arg14 256 (by decide)])
  on_goal 7 => (rw [emb_lo 1 (by decide) _ r d]; show _ = DO x0 x1 x2 x3 x4 x5 r ⟨128 + d.val, by have := d.isLt; omega⟩; unfold DO; rw [← dy_A c arg3 h3 arg4 h4 arg5 h5 arg7, ← rd_silu_A c arg5 h5 x4 arg14 128 (by decide)])
  on_goal 8 => (rw [emb_lo 0 (by decide) _ r d]; show _ = DO x0 x1 x2 x3 x4 x5 r ⟨0 + d.val, by have := d.isLt; omega⟩; unfold DO; rw [← dy_A c arg3 h3 arg4 h4 arg5 h5 arg7, ← rd_silu_A c arg5 h5 x4 arg14 0 (by decide)])
  all_goals dsimp only
  all_goals pointwise [k0_pay73, k0_pay74, k0_pay75, k0_pay76, k0_pay77, k0_pay78, k0_pay79, k0_pay80, k0_pay81, k0_pay82, k0_pay83, k0_pay84, k0_pay85, k0_pay86, k0_pay87, k0_pay88, k0_pay89, k0_pay90, k0_pay91, k0_pay92, k0_pay93, k0_pay94, k0_pay95, k0_pay96, k0_pay97, k0_pay98, k0_pay99, k0_pay100, k0_pay101, k0_pay102, k0_pay103, k0_pay104, k0_pay105, k0_pay106, k0_pay107, k0_pay108, k0_pay109, k0_pay110, k0_pay111, k0_pay112, k0_pay113, k0_pay114, k0_pay115, k0_pay116, k0_pay117, k0_pay118, k0_pay119, k0_pay120, k0_pay121, k0_pay122, k0_pay123, k0_pay124, k0_pay125, k0_pay126, k0_pay127, k0_pay128, k0_pay129, k0_pay130, k0_pay131, k0_pay132, k0_pay133, k0_pay134, k0_pay135, k0_pay136, k0_pay137, k0_pay138, k0_pay139, k0_pay140, k0_pay141, k0_pay142, k0_pay143, k0_pay144, k0_pay145, k0_pay146, k0_pay147, k0_pay148, k0_pay149, k0_pay1]
  all_goals rfl

theorem out10_A (hc0 : cond0_0 i) (h : Fin 4) (r : Fin 256) (d : Fin 128) :
    out0_A_10 c i arg1 h1 arg2 h2 arg3 h3 arg4 h4 arg5 h5 arg6 h6 arg7 h7 arg8 h8 arg9 h9 arg10 h10 arg11 h11 arg12 h12 arg13 h13 arg14 h14 arg15 h15 hc0 x0 x1 x2 x3 x4 x5 (ix3 h r d) = DO x0 x1 x2 x3 x4 x5 r (col (8 + h.val) (by have := h.isLt; omega) d) := by
  unfold out0_A_10
  refine read_pieces VO0_10 _ _ (fun i : S4x256x128.Idx => DO x0 x1 x2 x3 x4 x5 (i 1) (col (8 + (i 0).val) (hlt10 i) (i 2))) ?_ (ix3 h r d) (cover0_A_10 c i arg1 h1 arg2 h2 arg3 h3 arg4 h4 arg5 h5 arg6 h6 arg7 h7 arg8 h8 arg9 h9 arg10 h10 arg11 h11 arg12 h12 arg13 h13 arg14 h14 arg15 h15 hc0 x0 x1 x2 x3 x4 x5 _)
  unfold kernelRun0_A
  dsimp only
  intro p hp x
  simp only [List.mem_cons, List.not_mem_nil, or_false] at hp
  rcases hp with rfl | rfl | rfl | rfl
  all_goals obtain ⟨r, d, rfl⟩ := ix3_of x
  all_goals simp only [kernelRun0_A.sl.r_7, kernelRun0_A.sl.r_15, kernelRun0_A.sl.r_23, kernelRun0_A.sl.r_24, kernelRun0_A.sl.r_25, kernelRun0_A.sl.r_26, kernelRun0_A.sl.r_27, kernelRun0_A.sl.r_28, kernelRun0_A.sl.r_29, kernelRun0_A.sl.r_30, kernelRun0_A.sl.r_31, kernelRun0_A.sl.r_32, kernelRun0_A.sl.r_33, kernelRun0_A.sl.r_34, kernelRun0_A.sl.r_35, kernelRun0_A.sl.r_36, kernelRun0_A.sl.r_37, kernelRun0_A.sl.r_38, kernelRun0_A.sl.r_39, View.readAt_eq_ld, h1.read_unread, h2.read_unread, h3.read_unread, h4.read_unread, h5.read_unread, h6.read_unread, h13.read_unread, ldw1, ldw5, ldw12, ldw1', ldw5', ldw12']
  on_goal 1 => (rw [emb_hi 3 (by decide) _ r d]; show _ = DO x0 x1 x2 x3 x4 x5 r ⟨1408 + d.val, by have := d.isLt; omega⟩; unfold DO; rw [← dy_A c arg3 h3 arg4 h4 arg5 h5 arg7, ← rd_silu_A c arg5 h5 x4 arg14 1408 (by decide)])
  on_goal 2 => (rw [emb_hi 2 (by decide) _ r d]; show _ = DO x0 x1 x2 x3 x4 x5 r ⟨1280 + d.val, by have := d.isLt; omega⟩; unfold DO; rw [← dy_A c arg3 h3 arg4 h4 arg5 h5 arg7, ← rd_silu_A c arg5 h5 x4 arg14 1280 (by decide)])
  on_goal 3 => (rw [emb_hi 1 (by decide) _ r d]; show _ = DO x0 x1 x2 x3 x4 x5 r ⟨1152 + d.val, by have := d.isLt; omega⟩; unfold DO; rw [← dy_A c arg3 h3 arg4 h4 arg5 h5 arg7, ← rd_silu_A c arg5 h5 x4 arg14 1152 (by decide)])
  on_goal 4 => (rw [emb_hi 0 (by decide) _ r d]; show _ = DO x0 x1 x2 x3 x4 x5 r ⟨1024 + d.val, by have := d.isLt; omega⟩; unfold DO; rw [← dy_A c arg3 h3 arg4 h4 arg5 h5 arg7, ← rd_silu_A c arg5 h5 x4 arg14 1024 (by decide)])
  all_goals dsimp only
  all_goals pointwise [k0_pay73, k0_pay74, k0_pay75, k0_pay76, k0_pay77, k0_pay78, k0_pay79, k0_pay80, k0_pay81, k0_pay82, k0_pay83, k0_pay84, k0_pay85, k0_pay86, k0_pay87, k0_pay88, k0_pay89, k0_pay90, k0_pay91, k0_pay92, k0_pay93, k0_pay94, k0_pay95, k0_pay96, k0_pay97, k0_pay98, k0_pay99, k0_pay100, k0_pay101, k0_pay102, k0_pay103, k0_pay104, k0_pay105, k0_pay106, k0_pay107, k0_pay108, k0_pay109, k0_pay110, k0_pay111, k0_pay112, k0_pay113, k0_pay114, k0_pay115, k0_pay116, k0_pay117, k0_pay118, k0_pay119, k0_pay120, k0_pay121, k0_pay122, k0_pay123, k0_pay124, k0_pay125, k0_pay126, k0_pay127, k0_pay128, k0_pay129, k0_pay130, k0_pay131, k0_pay132, k0_pay133, k0_pay134, k0_pay135, k0_pay136, k0_pay137, k0_pay138, k0_pay139, k0_pay140, k0_pay141, k0_pay142, k0_pay143, k0_pay144, k0_pay145, k0_pay146, k0_pay147, k0_pay148, k0_pay149, k0_pay1]
  all_goals rfl

theorem out11_A (hc0 : cond0_0 i) (h : Fin 12) (r : Fin 256) : out0_A_11 c i arg1 h1 arg2 h2 arg3 h3 arg4 h4 arg5 h5 arg6 h6 arg7 h7 arg8 h8 arg9 h9 arg10 h10 arg11 h11 arg12 h12 arg13 h13 arg14 h14 arg15 h15 hc0 x0 x1 x2 x3 x4 x5 (ix3 h r 0) = DL x0 x1 x2 x3 x4 x5 h r := by
  unfold out0_A_11
  refine read_pieces VO0_11 _ _ (fun i : S12x256x1.Idx => DL x0 x1 x2 x3 x4 x5 (i 0) (i 1)) ?_ (ix3 h r 0) (cover0_A_11 c i arg1 h1 arg2 h2 arg3 h3 arg4 h4 arg5 h5 arg6 h6 arg7 h7 arg8 h8 arg9 h9 arg10 h10 arg11 h11 arg12 h12 arg13 h13 arg14 h14 arg15 h15 hc0 x0 x1 x2 x3 x4 x5 _)
  unfold kernelRun0_A
  dsimp only
  intro p hp x
  simp only [List.mem_cons, List.not_mem_nil, or_false] at hp
  rcases hp with rfl | rfl | rfl | rfl | rfl | rfl | rfl | rfl | rfl | rfl | rfl | rfl
  all_goals obtain ⟨r, rfl⟩ := ix3_of' x
  all_goals simp only [kernelRun0_A.sl.r_7, kernelRun0_A.sl.r_15, kernelRun0_A.sl.r_23, kernelRun0_A.sl.r_24, kernelRun0_A.sl.r_25, kernelRun0_A.sl.r_26, kernelRun0_A.sl.r_27, kernelRun0_A.sl.r_28, kernelRun0_A.sl.r_29, kernelRun0_A.sl.r_30, kernelRun0_A.sl.r_31, kernelRun0_A.sl.r_32, kernelRun0_A.sl.r_33, kernelRun0_A.sl.r_34, kernelRun0_A.sl.r_35, kernelRun0_A.sl.r_36, kernelRun0_A.sl.r_37, kernelRun0_A.sl.r_38, kernelRun0_A.sl.r_39, View.readAt_eq_ld, h1.read_unread, h2.read_unread, h3.read_unread, h4.read_unread, h5.read_unread, h6.read_unread, h13.read_unread, ldw1, ldw5, ldw12, ldw1', ldw5', ldw12']
  on_goal 1 => (rw [emb_row 11 (by decide) _ r]; show _ = DL x0 x1 x2 x3 x4 x5 11 r; refine Eq.trans ?_ (Finset.sum_congr rfl fun d _ => (show _ = DO x0 x1 x2 x3 x4 x5 r ⟨1408 + d.val, by have := d.isLt; omega⟩ * oB x2 x3 r ⟨1408 + d.val, by have := d.isLt; omega⟩ by unfold DO; rw [oB_hi x2 x3 r _ 3 d rfl, ← dy_A c arg3 h3 arg4 h4 arg5 h5 arg7, ← rd_silu_A c arg5 h5 x4 arg14 1408 (by decide)])))
  on_goal 2 => (rw [emb_row 10 (by decide) _ r]; show _ = DL x0 x1 x2 x3 x4 x5 10 r; refine Eq.trans ?_ (Finset.sum_congr rfl fun d _ => (show _ = DO x0 x1 x2 x3 x4 x5 r ⟨1280 + d.val, by have := d.isLt; omega⟩ * oB x2 x3 r ⟨1280 + d.val, by have := d.isLt; omega⟩ by unfold DO; rw [oB_hi x2 x3 r _ 2 d rfl, ← dy_A c arg3 h3 arg4 h4 arg5 h5 arg7, ← rd_silu_A c arg5 h5 x4 arg14 1280 (by decide)])))
  on_goal 3 => (rw [emb_row 9 (by decide) _ r]; show _ = DL x0 x1 x2 x3 x4 x5 9 r; refine Eq.trans ?_ (Finset.sum_congr rfl fun d _ => (show _ = DO x0 x1 x2 x3 x4 x5 r ⟨1152 + d.val, by have := d.isLt; omega⟩ * oB x2 x3 r ⟨1152 + d.val, by have := d.isLt; omega⟩ by unfold DO; rw [oB_hi x2 x3 r _ 1 d rfl, ← dy_A c arg3 h3 arg4 h4 arg5 h5 arg7, ← rd_silu_A c arg5 h5 x4 arg14 1152 (by decide)])))
  on_goal 4 => (rw [emb_row 8 (by decide) _ r]; show _ = DL x0 x1 x2 x3 x4 x5 8 r; refine Eq.trans ?_ (Finset.sum_congr rfl fun d _ => (show _ = DO x0 x1 x2 x3 x4 x5 r ⟨1024 + d.val, by have := d.isLt; omega⟩ * oB x2 x3 r ⟨1024 + d.val, by have := d.isLt; omega⟩ by unfold DO; rw [oB_hi x2 x3 r _ 0 d rfl, ← dy_A c arg3 h3 arg4 h4 arg5 h5 arg7, ← rd_silu_A c arg5 h5 x4 arg14 1024 (by decide)])))
  on_goal 5 => (rw [emb_row 7 (by decide) _ r]; show _ = DL x0 x1 x2 x3 x4 x5 7 r; refine Eq.trans ?_ (Finset.sum_congr rfl fun d _ => (show _ = DO x0 x1 x2 x3 x4 x5 r ⟨896 + d.val, by have := d.isLt; omega⟩ * oB x2 x3 r ⟨896 + d.val, by have := d.isLt; omega⟩ by unfold DO; rw [oB_lo x2 x3 r _ 7 d rfl, ← dy_A c arg3 h3 arg4 h4 arg5 h5 arg7, ← rd_silu_A c arg5 h5 x4 arg14 896 (by decide)])))
  on_goal 6 => (rw [emb_row 6 (by decide) _ r]; show _ = DL x0 x1 x2 x3 x4 x5 6 r; refine Eq.trans ?_ (Finset.sum_congr rfl fun d _ => (show _ = DO x0 x1 x2 x3 x4 x5 r ⟨768 + d.val, by have := d.isLt; omega⟩ * oB x2 x3 r ⟨768 + d.val, by have := d.isLt; omega⟩ by unfold DO; rw [oB_lo x2 x3 r _ 6 d rfl, ← dy_A c arg3 h3 arg4 h4 arg5 h5 arg7, ← rd_silu_A c arg5 h5 x4 arg14 768 (by decide)])))
  on_goal 7 => (rw [emb_row 5 (by decide) _ r]; show _ = DL x0 x1 x2 x3 x4 x5 5 r; refine Eq.trans ?_ (Finset.sum_congr rfl fun d _ => (show _ = DO x0 x1 x2 x3 x4 x5 r ⟨640 + d.val, by have := d.isLt; omega⟩ * oB x2 x3 r ⟨640 + d.val, by have := d.isLt; omega⟩ by unfold DO; rw [oB_lo x2 x3 r _ 5 d rfl, ← dy_A c arg3 h3 arg4 h4 arg5 h5 arg7, ← rd_silu_A c arg5 h5 x4 arg14 640 (by decide)])))
  on_goal 8 => (rw [emb_row 4 (by decide) _ r]; show _ = DL x0 x1 x2 x3 x4 x5 4 r; refine Eq.trans ?_ (Finset.sum_congr rfl fun d _ => (show _ = DO x0 x1 x2 x3 x4 x5 r ⟨512 + d.val, by have := d.isLt; omega⟩ * oB x2 x3 r ⟨512 + d.val, by have := d.isLt; omega⟩ by unfold DO; rw [oB_lo x2 x3 r _ 4 d rfl, ← dy_A c arg3 h3 arg4 h4 arg5 h5 arg7, ← rd_silu_A c arg5 h5 x4 arg14 512 (by decide)])))
  on_goal 9 => (rw [emb_row 3 (by decide) _ r]; show _ = DL x0 x1 x2 x3 x4 x5 3 r; refine Eq.trans ?_ (Finset.sum_congr rfl fun d _ => (show _ = DO x0 x1 x2 x3 x4 x5 r ⟨384 + d.val, by have := d.isLt; omega⟩ * oB x2 x3 r ⟨384 + d.val, by have := d.isLt; omega⟩ by unfold DO; rw [oB_lo x2 x3 r _ 3 d rfl, ← dy_A c arg3 h3 arg4 h4 arg5 h5 arg7, ← rd_silu_A c arg5 h5 x4 arg14 384 (by decide)])))
  on_goal 10 => (rw [emb_row 2 (by decide) _ r]; show _ = DL x0 x1 x2 x3 x4 x5 2 r; refine Eq.trans ?_ (Finset.sum_congr rfl fun d _ => (show _ = DO x0 x1 x2 x3 x4 x5 r ⟨256 + d.val, by have := d.isLt; omega⟩ * oB x2 x3 r ⟨256 + d.val, by have := d.isLt; omega⟩ by unfold DO; rw [oB_lo x2 x3 r _ 2 d rfl, ← dy_A c arg3 h3 arg4 h4 arg5 h5 arg7, ← rd_silu_A c arg5 h5 x4 arg14 256 (by decide)])))
  on_goal 11 => (rw [emb_row 1 (by decide) _ r]; show _ = DL x0 x1 x2 x3 x4 x5 1 r; refine Eq.trans ?_ (Finset.sum_congr rfl fun d _ => (show _ = DO x0 x1 x2 x3 x4 x5 r ⟨128 + d.val, by have := d.isLt; omega⟩ * oB x2 x3 r ⟨128 + d.val, by have := d.isLt; omega⟩ by unfold DO; rw [oB_lo x2 x3 r _ 1 d rfl, ← dy_A c arg3 h3 arg4 h4 arg5 h5 arg7, ← rd_silu_A c arg5 h5 x4 arg14 128 (by decide)])))
  on_goal 12 => (rw [emb_row 0 (by decide) _ r]; show _ = DL x0 x1 x2 x3 x4 x5 0 r; refine Eq.trans ?_ (Finset.sum_congr rfl fun d _ => (show _ = DO x0 x1 x2 x3 x4 x5 r ⟨0 + d.val, by have := d.isLt; omega⟩ * oB x2 x3 r ⟨0 + d.val, by have := d.isLt; omega⟩ by unfold DO; rw [oB_lo x2 x3 r _ 0 d rfl, ← dy_A c arg3 h3 arg4 h4 arg5 h5 arg7, ← rd_silu_A c arg5 h5 x4 arg14 0 (by decide)])))
  all_goals dsimp only
  all_goals pointwise [k0_pay73, k0_pay74, k0_pay75, k0_pay76, k0_pay77, k0_pay78, k0_pay79, k0_pay80, k0_pay81, k0_pay82, k0_pay83, k0_pay84, k0_pay85, k0_pay86, k0_pay87, k0_pay88, k0_pay89, k0_pay90, k0_pay91, k0_pay92, k0_pay93, k0_pay94, k0_pay95, k0_pay96, k0_pay97, k0_pay98, k0_pay99, k0_pay100, k0_pay101, k0_pay102, k0_pay103, k0_pay104, k0_pay105, k0_pay106, k0_pay107, k0_pay108, k0_pay109, k0_pay110, k0_pay111, k0_pay112, k0_pay113, k0_pay114, k0_pay115, k0_pay116, k0_pay117, k0_pay118, k0_pay119, k0_pay120, k0_pay121, k0_pay122, k0_pay123, k0_pay124, k0_pay125, k0_pay126, k0_pay127, k0_pay128, k0_pay129, k0_pay130, k0_pay131, k0_pay132, k0_pay133, k0_pay134, k0_pay135, k0_pay136, k0_pay137, k0_pay138, k0_pay139, k0_pay140, k0_pay141, k0_pay142, k0_pay143, k0_pay144, k0_pay145, k0_pay146, k0_pay147, k0_pay148, k0_pay149, k0_pay1]
  all_goals rfl

theorem out12_A (hc0 : cond0_0 i) (u : Fin 8) (l : Fin 128) : out0_A_12 c i arg1 h1 arg2 h2 arg3 h3 arg4 h4 arg5 h5 arg6 h6 arg7 h7 arg8 h8 arg9 h9 arg10 h10 arg11 h11 arg12 h12 arg13 h13 arg14 h14 arg15 h15 hc0 x0 x1 x2 x3 x4 x5 (ix2 u l) = LS x0 x1 x2 x3 x4 x5 := by
  unfold out0_A_12 kernelRun0_A
  dsimp only
  rw [View.read_writes_full]
  simp only [View.readAt_eq_ld, h1.read_unread, h2.read_unread, h3.read_unread, h4.read_unread, h5.read_unread, h6.read_unread, h13.read_unread, ldw1, ldw5, ldw12, ldw1', ldw5', ldw12', kernelRun0_A.sl.v328, kernelRun0_A.sl.H12_1]
  rw [pay70_apply]
  refine Eq.trans (congrArg (· + _) ((congrFun (View.readCov_full (s := S8x128) arg13.view _ _ _ _) (ix2 u l)).trans (pay2_apply u l))) ?_
  rw [zero_add]
  simp only [y_A]
  rfl

end

end Cert.MidIdeal.Block

end
-- ==== Proof.MidB.lean ====
module

public import proofs.«01_k».proof.Proof.MidPieces

@[expose] public section

set_option maxRecDepth 16384

noncomputable section

namespace Cert.MidIdeal.Block

open Cert.MidIdeal Cert.MidIdeal.Gen Idealize.ShloMosaic Idealize.ShloMosaic.TcCoe Cert.Online

section
variable (c : Dev nD) (i : grid0.Coords)
  (arg1 : Memref sig .tc .vmem S256x1024 .f32) (h1 : arg1.IsWhole)
  (arg2 : Memref sig .tc .vmem S256x1024 .f32) (h2 : arg2.IsWhole)
  (arg3 : Memref sig .tc .vmem S8x256x128 .f32) (h3 : arg3.IsWhole)
  (arg4 : Memref sig .tc .vmem S4x256x128 .f32) (h4 : arg4.IsWhole)
  (arg5 : Memref sig .tc .vmem S256x1536 .f32) (h5 : arg5.IsWhole)
  (arg6 : Memref sig .tc .vmem S1536x1024 .bf16) (h6 : arg6.IsWhole)
  (arg7 : Memref sig .tc .vmem S256x1536 .bf16) (h7 : arg7.IsWhole)
  (arg8 : Memref sig .tc .vmem S256x1024 .f32) (h8 : arg8.IsWhole)
  (arg9 : Memref sig .tc .vmem S256x1536 .bf16) (h9 : arg9.IsWhole)
  (arg10 : Memref sig .tc .vmem S8x256x128 .bf16) (h10 : arg10.IsWhole)
  (arg11 : Memref sig .tc .vmem S4x256x128 .bf16) (h11 : arg11.IsWhole)
  (arg12 : Memref sig .tc .vmem S12x256x1 .f32) (h12 : arg12.IsWhole)
  (arg13 : Memref sig .tc .vmem S8x128 .f32) (h13 : arg13.IsWhole)
  (arg14 : Memref sig .tc .vmem S256x1536 .f32) (h14 : arg14.IsWhole)
  (arg15 : Memref sig .tc .vmem S256x1536 .f32) (h15 : arg15.IsWhole)
  (x0 : Vec Ideal S256x1024 .f32) (x1 : Vec Ideal S256x1024 .f32) (x2 : Vec Ideal S8x256x128 .f32) (x3 : Vec Ideal S4x256x128 .f32)
  (x4 : Vec Ideal S256x1536 .f32) (x5 : Vec Ideal S1536x1024 .bf16) (xo12 : Vec Ideal S8x128 .f32)

/-- What the second half of a point reads back of the gated outputs, and the gradient it forms of them. -/
theorem y_B (r : Fin 256) (n : Fin 1536) : kernelRun0_B.sl.v316 (F := Ideal) c arg3 h3 arg4 h4 arg5 h5 arg7 x2 x3 x4 (ix2 r n) = Y x2 x3 x4 r n := by
  unfold kernelRun0_B.sl.v316 View.readCov
  rw [View.readAt_eq_ld, View.ld_unit_zero hz2]
  exact read_pieces arg7.view _ _ (fun i : S256x1536.Idx => Y x2 x3 x4 (i 0) (i 1)) (pieces_y_B c arg3 h3 arg4 h4 arg5 h5 x2 x3 x4) (ix2 r n)
    (View.cover_of_tiledL (s := S256x1536) (kernelRun0_B.sl.H6_12 (F := Ideal) c arg3 h3 arg4 h4 arg5 h5 x2 x3 x4) S256x128.size (by sl_kernel_rfl) _)

theorem dy_B (r : Fin 256) (n : Fin 1536) :
    k0_pay72 x0 (kernelRun0_B.sl.v316 (F := Ideal) c arg3 h3 arg4 h4 arg5 h5 arg7 x2 x3 x4) x5 x1 x5 (ix2 r n) = DY x0 x1 x2 x3 x4 x5 r n := by
  rw [pay72_apply]
  simp only [y_B]
  rfl

theorem out6_B (hc0 : ¬cond0_0 i) (r : Fin 256) (n : Fin 1536) : out0_B_6 c i arg1 h1 arg2 h2 arg3 h3 arg4 h4 arg5 h5 arg6 h6 arg7 h7 arg8 h8 arg9 h9 arg10 h10 arg11 h11 arg12 h12 arg13 h13 arg14 h14 arg15 h15 hc0 x0 x1 x2 x3 x4 x5 xo12 (ix2 r n) = Y x2 x3 x4 r n := by
  unfold out0_B_6
  exact read_pieces VO0_6 _ _ (fun i : S256x1536.Idx => Y x2 x3 x4 (i 0) (i 1)) (pieces_y_B c arg3 h3 arg4 h4 arg5 h5 x2 x3 x4) (ix2 r n) (cover0_B_6 c i arg1 h1 arg2 h2 arg3 h3 arg4 h4 arg5 h5 arg6 h6 arg7 h7 arg8 h8 arg9 h9 arg10 h10 arg11 h11 arg12 h12 arg13 h13 arg14 h14 arg15 h15 hc0 x0 x1 x2 x3 x4 x5 xo12 _)

theorem out7_B (hc0 : ¬cond0_0 i) (r : Fin 256) (d : Fin 1024) : out0_B_7 c i arg1 h1 arg2 h2 arg3 h3 arg4 h4 arg5 h5 arg6 h6 arg7 h7 arg8 h8 arg9 h9 arg10 h10 arg11 h11 arg12 h12 arg13 h13 arg14 h14 arg15 h15 hc0 x0 x1 x2 x3 x4 x5 xo12 (ix2 r d) = dh x0 x1 x2 x3 x4 x5 r d := by
  unfold out0_B_7
  unfold kernelRun0_B
  dsimp only
  rw [View.read_writes_full]
  simp only [View.readAt_eq_ld, h1.read_unread, h2.read_unread, h3.read_unread, h4.read_unread, h5.read_unread, h6.read_unread, h13.read_unread, ldw1, ldw5, ldw12, ldw1', ldw5', ldw12']
  rw [pay71_apply]
  simp only [y_B]
  rfl

theorem out8_B (hc0 : ¬cond0_0 i) (r : Fin 256) (n : Fin 1536) : out0_B_8 c i arg1 h1 arg2 h2 arg3 h3 arg4 h4 arg5 h5 arg6 h6 arg7 h7 arg8 h8 arg9 h9 arg10 h10 arg11 h11 arg12 h12 arg13 h13 arg14 h14 arg15 h15 hc0 x0 x1 x2 x3 x4 x5 xo12 (ix2 r n) = DG x0 x1 x2 x3 x4 x5 r n := by
  unfold out0_B_8
  refine read_pieces VO0_8 _ _ (fun i : S256x1536.Idx => DG x0 x1 x2 x3 x4 x5 (i 0) (i 1)) ?_ (ix2 r n) (cover0_B_8 c i arg1 h1 arg2 h2 arg3 h3 arg4 h4 arg5 h5 arg6 h6 arg7 h7 arg8 h8 arg9 h9 arg10 h10 arg11 h11 arg12 h12 arg13 h13 arg14 h14 arg15 h15 hc0 x0 x1 x2 x3 x4 x5 xo12 _)
  unfold kernelRun0_B
  dsimp only
  intro p hp x
  simp only [List.mem_cons, List.not_mem_nil, or_false] at hp
  rcases hp with rfl | rfl | rfl | rfl | rfl | rfl | rfl | rfl | rfl | rfl | rfl | rfl
  all_goals obtain ⟨r, d, rfl⟩ := ix2_of x
  all_goals simp only [kernelRun0_B.sl.r_7, kernelRun0_B.sl.r_15, kernelRun0_B.sl.r_23, kernelRun0_B.sl.r_24, kernelRun0_B.sl.r_25, kernelRun0_B.sl.r_26, kernelRun0_B.sl.r_27, kernelRun0_B.sl.r_28, kernelRun0_B.sl.r_29, kernelRun0_B.sl.r_30, kernelRun0_B.sl.r_31, kernelRun0_B.sl.r_32, kernelRun0_B.sl.r_33, kernelRun0_B.sl.r_34, kernelRun0_B.sl.r_35, kernelRun0_B.sl.r_36, kernelRun0_B.sl.r_37, kernelRun0_B.sl.r_38, kernelRun0_B.sl.r_39, View.readAt_eq_ld, h1.read_unread, h2.read_unread, h3.read_unread, h4.read_unread, h5.read_unread, h6.read_unread, h13.read_unread, ldw1, ldw5, ldw12, ldw1', ldw5', ldw12']
  on_goal 1 => (rw [emb_col 1408 _ r d (by have := d.isLt; omega)]; show _ = DG x0 x1 x2 x3 x4 x5 r ⟨1408 + d.val, by have := d.isLt; omega⟩; unfold DG; rw [oB_hi x2 x3 r _ 3 d rfl, ← dy_B c arg3 h3 arg4 h4 arg5 h5 arg7, ← rd_dsilu_B c arg5 h5 x4 arg15 1408 (by decide)])
  on_goal 2 => (rw [emb_col 1280 _ r d (by have := d.isLt; omega)]; show _ = DG x0 x1 x2 x3 x4 x5 r ⟨1280 + d.val, by have := d.isLt; omega⟩; unfold DG; rw [oB_hi x2 x3 r _ 2 d rfl, ← dy_B c arg3 h3 arg4 h4 arg5 h5 arg7, ← rd_dsilu_B c arg5 h5 x4 arg15 1280 (by decide)])
  on_goal 3 => (rw [emb_col 1152 _ r d (by have := d.isLt; omega)]; show _ = DG x0 x1 x2 x3 x4 x5 r ⟨1152 + d.val, by have := d.isLt; omega⟩; unfold DG; rw [oB_hi x2 x3 r _ 1 d rfl, ← dy_B c arg3 h3 arg4 h4 arg5 h5 arg7, ← rd_dsilu_B c arg5 h5 x4 arg15 1152 (by decide)])
  on_goal 4 => (rw [emb_col 1024 _ r d (by have := d.isLt; omega)]; show _ = DG x0 x1 x2 x3 x4 x5 r ⟨1024 + d.val, by have := d.isLt; omega⟩; unfold DG; rw [oB_hi x2 x3 r _ 0 d rfl, ← dy_B c arg3 h3 arg4 h4 arg5 h5 arg7, ← rd_dsilu_B c arg5 h5 x4 arg15 1024 (by decide)])
  on_goal 5 => (rw [emb_col 896 _ r d (by have := d.isLt; omega)]; show _ = DG x0 x1 x2 x3 x4 x5 r ⟨896 + d.val, by have := d.isLt; omega⟩; unfold DG; rw [oB_lo x2 x3 r _ 7 d rfl, ← dy_B c arg3 h3 arg4 h4 arg5 h5 arg7, ← rd_dsilu_B c arg5 h5 x4 arg15 896 (by decide)])
  on_goal 6 => (rw [emb_col 768 _ r d (by have := d.isLt; omega)]; show _ = DG x0 x1 x2 x3 x4 x5 r ⟨768 + d.val, by have := d.isLt; omega⟩; unfold DG; rw [oB_lo x2 x3 r _ 6 d rfl, ← dy_B c arg3 h3 arg4 h4 arg5 h5 arg7, ← rd_dsilu_B c arg5 h5 x4 arg15 768 (by decide)])
  on_goal 7 => (rw [emb_col 640 _ r d (by have := d.isLt; omega)]; show _ = DG x0 x1 x2 x3 x4 x5 r ⟨640 + d.val, by have := d.isLt; omega⟩; unfold DG; rw [oB_lo x2 x3 r _ 5 d rfl, ← dy_B c arg3 h3 arg4 h4 arg5 h5 arg7, ← rd_dsilu_B c arg5 h5 x4 arg15 640 (by decide)])
  on_goal 8 => (rw [emb_col 512 _ r d (by have := d.isLt; omega)]; show _ = DG x0 x1 x2 x3 x4 x5 r ⟨512 + d.val, by have := d.isLt; omega⟩; unfold DG; rw [oB_lo x2 x3 r _ 4 d rfl, ← dy_B c arg3 h3 arg4 h4 arg5 h5 arg7, ← rd_dsilu_B c arg5 h5 x4 arg15 512 (by decide)])
  on_goal 9 => (rw [emb_col 384 _ r d (by have := d.isLt; omega)]; show _ = DG x0 x1 x2 x3 x4 x5 r ⟨384 + d.val, by have := d.isLt; omega⟩; unfold DG; rw [oB_lo x2 x3 r _ 3 d rfl, ← dy_B c arg3 h3 arg4 h4 arg5 h5 arg7, ← rd_dsilu_B c arg5 h5 x4 arg15 384 (by decide)])
  on_goal 10 => (rw [emb_col 256 _ r d (by have := d.isLt; omega)]; show _ = DG x0 x1 x2 x3 x4 x5 r ⟨256 + d.val, by have := d.isLt; omega⟩; unfold DG; rw [oB_lo x2 x3 r _ 2 d rfl, ← dy_B c arg3 h3 arg4 h4 arg5 h5 arg7, ← rd_dsilu_B c arg5 h5 x4 arg15 256 (by decide)])
  on_goal 11 => (rw [emb_col 128 _ r d (by have := d.isLt; omega)]; show _ = DG x0 x1 x2 x3 x4 x5 r ⟨128 + d.val, by have := d.isLt; omega⟩; unfold DG; rw [oB_lo x2 x3 r _ 1 d rfl, ← dy_B c arg3 h3 arg4 h4 arg5 h5 arg7, ← rd_dsilu_B c arg5 h5 x4 arg15 128 (by decide)])
  on_goal 12 => (rw [emb_col 0 _ r d (by have := d.isLt; omega)]; show _ = DG x0 x1 x2 x3 x4 x5 r ⟨0 + d.val, by have := d.isLt; omega⟩; unfold DG; rw [oB_lo x2 x3 r _ 0 d rfl, ← dy_B c arg3 h3 arg4 h4 arg5 h5 arg7, ← rd_dsilu_B c arg5 h5 x4 arg15 0 (by decide)])
  all_goals dsimp only
  all_goals pointwise [k0_pay73, k0_pay74, k0_pay75, k0_pay76, k0_pay77, k0_pay78, k0_pay79, k0_pay80, k0_pay81, k0_pay82, k0_pay83, k0_pay84, k0_pay85, k0_pay86, k0_pay87, k0_pay88, k0_pay89, k0_pay90, k0_pay91, k0_pay92, k0_pay93, k0_pay94, k0_pay95, k0_pay96, k0_pay97, k0_pay98, k0_pay99, k0_pay100, k0_pay101, k0_pay102, k0_pay103, k0_pay104, k0_pay105, k0_pay106, k0_pay107, k0_pay108, k0_pay109, k0_pay110, k0_pay111, k0_pay112, k0_pay113, k0_pay114, k0_pay115, k0_pay116, k0_pay117, k0_pay118, k0_pay119, k0_pay120, k0_pay121, k0_pay122, k0_pay123, k0_pay124, k0_pay125, k0_pay126, k0_pay127, k0_pay128, k0_pay129, k0_pay130, k0_pay131, k0_pay132, k0_pay133, k0_pay134, k0_pay135, k0_pay136, k0_pay137, k0_pay138, k0_pay139, k0_pay140, k0_pay141, k0_pay142, k0_pay143, k0_pay144, k0_pay145, k0_pay146, k0_pay147, k0_pay148, k0_pay149, k0_pay1]
  all_goals rfl

theorem out9_B (hc0 : ¬cond0_0 i) (h : Fin 8) (r : Fin 256) (d : Fin 128) :
    out0_B_9 c i arg1 h1 arg2 h2 arg3 h3 arg4 h4 arg5 h5 arg6 h6 arg7 h7 arg8 h8 arg9 h9 arg10 h10 arg11 h11 arg12 h12 arg13 h13 arg14 h14 arg15 h15 hc0 x0 x1 x2 x3 x4 x5 xo12 (ix3 h r d) = DO x0 x1 x2 x3 x4 x5 r (col (0 + h.val) (by have := h.isLt; omega) d) := by
  unfold out0_B_9
  refine read_pieces VO0_9 _ _ (fun i : S8x256x128.Idx => DO x0 x1 x2 x3 x4 x5 (i 1) (col (0 + (i 0).val) (hlt9 i) (i 2))) ?_ (ix3 h r d) (cover0_B_9 c i arg1 h1 arg2 h2 arg3 h3 arg4 h4 arg5 h5 arg6 h6 arg7 h7 arg8 h8 arg9 h9 arg10 h10 arg11 h11 arg12 h12 arg13 h13 arg14 h14 arg15 h15 hc0 x0 x1 x2 x3 x4 x5 xo12 _)
  unfold kernelRun0_B
  dsimp only
  intro p hp x
  simp only [List.mem_cons, List.not_mem_nil, or_false] at hp
  rcases hp with rfl | rfl | rfl | rfl | rfl | rfl | rfl | rfl
  all_goals obtain ⟨r, d, rfl⟩ := ix3_of x
  all_goals simp only [kernelRun0_B.sl.r_7, kernelRun0_B.sl.r_15, kernelRun0_B.sl.r_23, kernelRun0_B.sl.r_24, kernelRun0_B.sl.r_25, kernelRun0_B.sl.r_26, kernelRun0_B.sl.r_27, kernelRun0_B.sl.r_28, kernelRun0_B.sl.r_29, kernelRun0_B.sl.r_30, kernelRun0_B.sl.r_31, kernelRun0_B.sl.r_32, kernelRun0_B.sl.r_33, kernelRun0_B.sl.r_34, kernelRun0_B.sl.r_35, kernelRun0_B.sl.r_36, kernelRun0_B.sl.r_37, kernelRun0_B.sl.r_38, kernelRun0_B.sl.r_39, View.readAt_eq_ld, h1.read_unread, h2.read_unread, h3.read_unread, h4.read_unread, h5.read_unread, h6.read_unread, h13.read_unread, ldw1, ldw5, ldw12, ldw1', ldw5', ldw12']
  on_goal 1 => (rw [emb_lo 7 (by decide) _ r d]; show _ = DO x0 x1 x2 x3 x4 x5 r ⟨896 + d.val, by have := d.isLt; omega⟩; unfold DO; rw [← dy_B c arg3 h3 arg4 h4 arg5 h5 arg7, ← rd_silu_B c arg5 h5 x4 arg14 896 (by decide)])
  on_goal 2 => (rw [emb_lo 6 (by decide) _ r d]; show _ = DO x0 x1 x2 x3 x4 x5 r ⟨768 + d.val, by have := d.isLt; omega⟩; unfold DO; rw [← dy_B c arg3 h3 arg4 h4 arg5 h5 arg7, ← rd_silu_B c arg5 h5 x4 arg14 768 (by decide)])
  on_goal 3 => (rw [emb_lo 5 (by decide) _ r d]; show _ = DO x0 x1 x2 x3 x4 x5 r ⟨640 + d.val, by have := d.isLt; omega⟩; unfold DO; rw [← dy_B c arg3 h3 arg4 h4 arg5 h5 arg7, ← rd_silu_B c arg5 h5 x4 arg14 640 (by decide)])
  on_goal 4 => (rw [emb_lo 4 (by decide) _ r d]; show _ = DO x0 x1 x2 x3 x4 x5 r ⟨512 + d.val, by have := d.isLt; omega⟩; unfold DO; rw [← dy_B c arg3 h3 arg4 h4 arg5 h5 arg7, ← rd_silu_B c arg5 h5 x4 arg14 512 (by decide)])
  on_goal 5 => (rw [emb_lo 3 (by decide) _ r d]; show _ = DO x0 x1 x2 x3 x4 x5 r ⟨384 + d.val, by have := d.isLt; omega⟩; unfold DO; rw [← dy_B c arg3 h3 arg4 h4 arg5 h5 arg7, ← rd_silu_B c arg5 h5 x4 arg14 384 (by decide)])
  on_goal 6 => (rw [emb_lo 2 (by decide) _ r d]; show _ = DO x0 x1 x2 x3 x4 x5 r ⟨256 + d.val, by have := d.isLt; omega⟩; unfold DO; rw [← dy_B c arg3 h3 arg4 h4 arg5 h5 arg7, ← rd_silu_B c arg5 h5 x4 arg14 256 (by decide)])
  on_goal 7 => (rw [emb_lo 1 (by decide) _ r d]; show _ = DO x0 x1 x2 x3 x4 x5 r ⟨128 + d.val, by have := d.isLt; omega⟩; unfold DO; rw [← dy_B c arg3 h3 arg4 h4 arg5 h5 arg7, ← rd_silu_B c arg5 h5 x4 arg14 128 (by decide)])
  on_goal 8 => (rw [emb_lo 0 (by decide) _ r d]; show _ = DO x0 x1 x2 x3 x4 x5 r ⟨0 + d.val, by have := d.isLt; omega⟩; unfold DO; rw [← dy_B c arg3 h3 arg4 h4 arg5 h5 arg7, ← rd_silu_B c arg5 h5 x4 arg14 0 (by decide)])
  all_goals dsimp only
  all_goals pointwise [k0_pay73, k0_pay74, k0_pay75, k0_pay76, k0_pay77, k0_pay78, k0_pay79, k0_pay80, k0_pay81, k0_pay82, k0_pay83, k0_pay84, k0_pay85, k0_pay86, k0_pay87, k0_pay88, k0_pay89, k0_pay90, k0_pay91, k0_pay92, k0_pay93, k0_pay94, k0_pay95, k0_pay96, k0_pay97, k0_pay98, k0_pay99, k0_pay100, k0_pay101, k0_pay102, k0_pay103, k0_pay104, k0_pay105, k0_pay106, k0_pay107, k0_pay108, k0_pay109, k0_pay110, k0_pay111, k0_pay112, k0_pay113, k0_pay114, k0_pay115, k0_pay116, k0_pay117, k0_pay118, k0_pay119, k0_pay120, k0_pay121, k0_pay122, k0_pay123, k0_pay124, k0_pay125, k0_pay126, k0_pay127, k0_pay128, k0_pay129, k0_pay130, k0_pay131, k0_pay132, k0_pay133, k0_pay134, k0_pay135, k0_pay136, k0_pay137, k0_pay138, k0_pay139, k0_pay140, k0_pay141, k0_pay142, k0_pay143, k0_pay144, k0_pay145, k0_pay146, k0_pay147, k0_pay148, k0_pay149, k0_pay1]
  all_goals rfl

theorem out10_B (hc0 : ¬cond0_0 i) (h : Fin 4) (r : Fin 256) (d : Fin 128) :
    out0_B_10 c i arg1 h1 arg2 h2 arg3 h3 arg4 h4 arg5 h5 arg6 h6 arg7 h7 arg8 h8 arg9 h9 arg10 h10 arg11 h11 arg12 h12 arg13 h13 arg14 h14 arg15 h15 hc0 x0 x1 x2 x3 x4 x5 xo12 (ix3 h r d) = DO x0 x1 x2 x3 x4 x5 r (col (8 + h.val) (by have := h.isLt; omega) d) := by
  unfold out0_B_10
  refine read_pieces VO0_10 _ _ (fun i : S4x256x128.Idx => DO x0 x1 x2 x3 x4 x5 (i 1) (col (8 + (i 0).val) (hlt10 i) (i 2))) ?_ (ix3 h r d) (cover0_B_10 c i arg1 h1 arg2 h2 arg3 h3 arg4 h4 arg5 h5 arg6 h6 arg7 h7 arg8 h8 arg9 h9 arg10 h10 arg11 h11 arg12 h12 arg13 h13 arg14 h14 arg15 h15 hc0 x0 x1 x2 x3 x4 x5 xo12 _)
  unfold kernelRun0_B
  dsimp only
  intro p hp x
  simp only [List.mem_cons, List.not_mem_nil, or_false] at hp
  rcases hp with rfl | rfl | rfl | rfl
  all_goals obtain ⟨r, d, rfl⟩ := ix3_of x
  all_goals simp only [kernelRun0_B.sl.r_7, kernelRun0_B.sl.r_15, kernelRun0_B.sl.r_23, kernelRun0_B.sl.r_24, kernelRun0_B.sl.r_25, kernelRun0_B.sl.r_26, kernelRun0_B.sl.r_27, kernelRun0_B.sl.r_28, kernelRun0_B.sl.r_29, kernelRun0_B.sl.r_30, kernelRun0_B.sl.r_31, kernelRun0_B.sl.r_32, kernelRun0_B.sl.r_33, kernelRun0_B.sl.r_34, kernelRun0_B.sl.r_35, kernelRun0_B.sl.r_36, kernelRun0_B.sl.r_37, kernelRun0_B.sl.r_38, kernelRun0_B.sl.r_39, View.readAt_eq_ld, h1.read_unread, h2.read_unread, h3.read_unread, h4.read_unread, h5.read_unread, h6.read_unread, h13.read_unread, ldw1, ldw5, ldw12, ldw1', ldw5', ldw12']
  on_goal 1 => (rw [emb_hi 3 (by decide) _ r d]; show _ = DO x0 x1 x2 x3 x4 x5 r ⟨1408 + d.val, by have := d.isLt; omega⟩; unfold DO; rw [← dy_B c arg3 h3 arg4 h4 arg5 h5 arg7, ← rd_silu_B c arg5 h5 x4 arg14 1408 (by decide)])
  on_goal 2 => (rw [emb_hi 2 (by decide) _ r d]; show _ = DO x0 x1 x2 x3 x4 x5 r ⟨1280 + d.val, by have := d.isLt; omega⟩; unfold DO; rw [← dy_B c arg3 h3 arg4 h4 arg5 h5 arg7, ← rd_silu_B c arg5 h5 x4 arg14 1280 (by decide)])
  on_goal 3 => (rw [emb_hi 1 (by decide) _ r d]; show _ = DO x0 x1 x2 x3 x4 x5 r ⟨1152 + d.val, by have := d.isLt; omega⟩; unfold DO; rw [← dy_B c arg3 h3 arg4 h4 arg5 h5 arg7, ← rd_silu_B c arg5 h5 x4 arg14 1152 (by decide)])
  on_goal 4 => (rw [emb_hi 0 (by decide) _ r d]; show _ = DO x0 x1 x2 x3 x4 x5 r ⟨1024 + d.val, by have := d.isLt; omega⟩; unfold DO; rw [← dy_B c arg3 h3 arg4 h4 arg5 h5 arg7, ← rd_silu_B c arg5 h5 x4 arg14 1024 (by decide)])
  all_goals dsimp only
  all_goals pointwise [k0_pay73, k0_pay74, k0_pay75, k0_pay76, k0_pay77, k0_pay78, k0_pay79, k0_pay80, k0_pay81, k0_pay82, k0_pay83, k0_pay84, k0_pay85, k0_pay86, k0_pay87, k0_pay88, k0_pay89, k0_pay90, k0_pay91, k0_pay92, k0_pay93, k0_pay94, k0_pay95, k0_pay96, k0_pay97, k0_pay98, k0_pay99, k0_pay100, k0_pay101, k0_pay102, k0_pay103, k0_pay104, k0_pay105, k0_pay106, k0_pay107, k0_pay108, k0_pay109, k0_pay110, k0_pay111, k0_pay112, k0_pay113, k0_pay114, k0_pay115, k0_pay116, k0_pay117, k0_pay118, k0_pay119, k0_pay120, k0_pay121, k0_pay122, k0_pay123, k0_pay124, k0_pay125, k0_pay126, k0_pay127, k0_pay128, k0_pay129, k0_pay130, k0_pay131, k0_pay132, k0_pay133, k0_pay134, k0_pay135, k0_pay136, k0_pay137, k0_pay138, k0_pay139, k0_pay140, k0_pay141, k0_pay142, k0_pay143, k0_pay144, k0_pay145, k0_pay146, k0_pay147, k0_pay148, k0_pay149, k0_pay1]
  all_goals rfl

theorem out11_B (hc0 : ¬cond0_0 i) (h : Fin 12) (r : Fin 256) : out0_B_11 c i arg1 h1 arg2 h2 arg3 h3 arg4 h4 arg5 h5 arg6 h6 arg7 h7 arg8 h8 arg9 h9 arg10 h10 arg11 h11 arg12 h12 arg13 h13 arg14 h14 arg15 h15 hc0 x0 x1 x2 x3 x4 x5 xo12 (ix3 h r 0) = DL x0 x1 x2 x3 x4 x5 h r := by
  unfold out0_B_11
  refine read_pieces VO0_11 _ _ (fun i : S12x256x1.Idx => DL x0 x1 x2 x3 x4 x5 (i 0) (i 1)) ?_ (ix3 h r 0) (cover0_B_11 c i arg1 h1 arg2 h2 arg3 h3 arg4 h4 arg5 h5 arg6 h6 arg7 h7 arg8 h8 arg9 h9 arg10 h10 arg11 h11 arg12 h12 arg13 h13 arg14 h14 arg15 h15 hc0 x0 x1 x2 x3 x4 x5 xo12 _)
  unfold kernelRun0_B
  dsimp only
  intro p hp x
  simp only [List.mem_cons, List.not_mem_nil, or_false] at hp
  rcases hp with rfl | rfl | rfl | rfl | rfl | rfl | rfl | rfl | rfl | rfl | rfl | rfl
  all_goals obtain ⟨r, rfl⟩ := ix3_of' x
  all_goals simp only [kernelRun0_B.sl.r_7, kernelRun0_B.sl.r_15, kernelRun0_B.sl.r_23, kernelRun0_B.sl.r_24, kernelRun0_B.sl.r_25, kernelRun0_B.sl.r_26, kernelRun0_B.sl.r_27, kernelRun0_B.sl.r_28, kernelRun0_B.sl.r_29, kernelRun0_B.sl.r_30, kernelRun0_B.sl.r_31, kernelRun0_B.sl.r_32, kernelRun0_B.sl.r_33, kernelRun0_B.sl.r_34, kernelRun0_B.sl.r_35, kernelRun0_B.sl.r_36, kernelRun0_B.sl.r_37, kernelRun0_B.sl.r_38, kernelRun0_B.sl.r_39, View.readAt_eq_ld, h1.read_unread, h2.read_unread, h3.read_unread, h4.read_unread, h5.read_unread, h6.read_unread, h13.read_unread, ldw1, ldw5, ldw12, ldw1', ldw5', ldw12']
  on_goal 1 => (rw [emb_row 11 (by decide) _ r]; show _ = DL x0 x1 x2 x3 x4 x5 11 r; refine Eq.trans ?_ (Finset.sum_congr rfl fun d _ => (show _ = DO x0 x1 x2 x3 x4 x5 r ⟨1408 + d.val, by have := d.isLt; omega⟩ * oB x2 x3 r ⟨1408 + d.val, by have := d.isLt; omega⟩ by unfold DO; rw [oB_hi x2 x3 r _ 3 d rfl, ← dy_B c arg3 h3 arg4 h4 arg5 h5 arg7, ← rd_silu_B c arg5 h5 x4 arg14 1408 (by decide)])))
  on_goal 2 => (rw [emb_row 10 (by decide) _ r]; show _ = DL x0 x1 x2 x3 x4 x5 10 r; refine Eq.trans ?_ (Finset.sum_congr rfl fun d _ => (show _ = DO x0 x1 x2 x3 x4 x5 r ⟨1280 + d.val, by have := d.isLt; omega⟩ * oB x2 x3 r ⟨1280 + d.val, by have := d.isLt; omega⟩ by unfold DO; rw [oB_hi x2 x3 r _ 2 d rfl, ← dy_B c arg3 h3 arg4 h4 arg5 h5 arg7, ← rd_silu_B c arg5 h5 x4 arg14 1280 (by decide)])))
  on_goal 3 => (rw [emb_row 9 (by decide) _ r]; show _ = DL x0 x1 x2 x3 x4 x5 9 r; refine Eq.trans ?_ (Finset.sum_congr rfl fun d _ => (show _ = DO x0 x1 x2 x3 x4 x5 r ⟨1152 + d.val, by have := d.isLt; omega⟩ * oB x2 x3 r ⟨1152 + d.val, by have := d.isLt; omega⟩ by unfold DO; rw [oB_hi x2 x3 r _ 1 d rfl, ← dy_B c arg3 h3 arg4 h4 arg5 h5 arg7, ← rd_silu_B c arg5 h5 x4 arg14 1152 (by decide)])))
  on_goal 4 => (rw [emb_row 8 (by decide) _ r]; show _ = DL x0 x1 x2 x3 x4 x5 8 r; refine Eq.trans ?_ (Finset.sum_congr rfl fun d _ => (show _ = DO x0 x1 x2 x3 x4 x5 r ⟨1024 + d.val, by have := d.isLt; omega⟩ * oB x2 x3 r ⟨1024 + d.val, by have := d.isLt; omega⟩ by unfold DO; rw [oB_hi x2 x3 r _ 0 d rfl, ← dy_B c arg3 h3 arg4 h4 arg5 h5 arg7, ← rd_silu_B c arg5 h5 x4 arg14 1024 (by decide)])))
  on_goal 5 => (rw [emb_row 7 (by decide) _ r]; show _ = DL x0 x1 x2 x3 x4 x5 7 r; refine Eq.trans ?_ (Finset.sum_congr rfl fun d _ => (show _ = DO x0 x1 x2 x3 x4 x5 r ⟨896 + d.val, by have := d.isLt; omega⟩ * oB x2 x3 r ⟨896 + d.val, by have := d.isLt; omega⟩ by unfold DO; rw [oB_lo x2 x3 r _ 7 d rfl, ← dy_B c arg3 h3 arg4 h4 arg5 h5 arg7, ← rd_silu_B c arg5 h5 x4 arg14 896 (by decide)])))
  on_goal 6 => (rw [emb_row 6 (by decide) _ r]; show _ = DL x0 x1 x2 x3 x4 x5 6 r; refine Eq.trans ?_ (Finset.sum_congr rfl fun d _ => (show _ = DO x0 x1 x2 x3 x4 x5 r ⟨768 + d.val, by have := d.isLt; omega⟩ * oB x2 x3 r ⟨768 + d.val, by have := d.isLt; omega⟩ by unfold DO; rw [oB_lo x2 x3 r _ 6 d rfl, ← dy_B c arg3 h3 arg4 h4 arg5 h5 arg7, ← rd_silu_B c arg5 h5 x4 arg14 768 (by decide)])))
  on_goal 7 => (rw [emb_row 5 (by decide) _ r]; show _ = DL x0 x1 x2 x3 x4 x5 5 r; refine Eq.trans ?_ (Finset.sum_congr rfl fun d _ => (show _ = DO x0 x1 x2 x3 x4 x5 r ⟨640 + d.val, by have := d.isLt; omega⟩ * oB x2 x3 r ⟨640 + d.val, by have := d.isLt; omega⟩ by unfold DO; rw [oB_lo x2 x3 r _ 5 d rfl, ← dy_B c arg3 h3 arg4 h4 arg5 h5 arg7, ← rd_silu_B c arg5 h5 x4 arg14 640 (by decide)])))
  on_goal 8 => (rw [emb_row 4 (by decide) _ r]; show _ = DL x0 x1 x2 x3 x4 x5 4 r; refine Eq.trans ?_ (Finset.sum_congr rfl fun d _ => (show _ = DO x0 x1 x2 x3 x4 x5 r ⟨512 + d.val, by have := d.isLt; omega⟩ * oB x2 x3 r ⟨512 + d.val, by have := d.isLt; omega⟩ by unfold DO; rw [oB_lo x2 x3 r _ 4 d rfl, ← dy_B c arg3 h3 arg4 h4 arg5 h5 arg7, ← rd_silu_B c arg5 h5 x4 arg14 512 (by decide)])))
  on_goal 9 => (rw [emb_row 3 (by decide) _ r]; show _ = DL x0 x1 x2 x3 x4 x5 3 r; refine Eq.trans ?_ (Finset.sum_congr rfl fun d _ => (show _ = DO x0 x1 x2 x3 x4 x5 r ⟨384 + d.val, by have := d.isLt; omega⟩ * oB x2 x3 r ⟨384 + d.val, by have := d.isLt; omega⟩ by unfold DO; rw [oB_lo x2 x3 r _ 3 d rfl, ← dy_B c arg3 h3 arg4 h4 arg5 h5 arg7, ← rd_silu_B c arg5 h5 x4 arg14 384 (by decide)])))
  on_goal 10 => (rw [emb_row 2 (by decide) _ r]; show _ = DL x0 x1 x2 x3 x4 x5 2 r; refine Eq.trans ?_ (Finset.sum_congr rfl fun d _ => (show _ = DO x0 x1 x2 x3 x4 x5 r ⟨256 + d.val, by have := d.isLt; omega⟩ * oB x2 x3 r ⟨256 + d.val, by have := d.isLt; omega⟩ by unfold DO; rw [oB_lo x2 x3 r _ 2 d rfl, ← dy_B c arg3 h3 arg4 h4 arg5 h5 arg7, ← rd_silu_B c arg5 h5 x4 arg14 256 (by decide)])))
  on_goal 11 => (rw [emb_row 1 (by decide) _ r]; show _ = DL x0 x1 x2 x3 x4 x5 1 r; refine Eq.trans ?_ (Finset.sum_congr rfl fun d _ => (show _ = DO x0 x1 x2 x3 x4 x5 r ⟨128 + d.val, by have := d.isLt; omega⟩ * oB x2 x3 r ⟨128 + d.val, by have := d.isLt; omega⟩ by unfold DO; rw [oB_lo x2 x3 r _ 1 d rfl, ← dy_B c arg3 h3 arg4 h4 arg5 h5 arg7, ← rd_silu_B c arg5 h5 x4 arg14 128 (by decide)])))
  on_goal 12 => (rw [emb_row 0 (by decide) _ r]; show _ = DL x0 x1 x2 x3 x4 x5 0 r; refine Eq.trans ?_ (Finset.sum_congr rfl fun d _ => (show _ = DO x0 x1 x2 x3 x4 x5 r ⟨0 + d.val, by have := d.isLt; omega⟩ * oB x2 x3 r ⟨0 + d.val, by have := d.isLt; omega⟩ by unfold DO; rw [oB_lo x2 x3 r _ 0 d rfl, ← dy_B c arg3 h3 arg4 h4 arg5 h5 arg7, ← rd_silu_B c arg5 h5 x4 arg14 0 (by decide)])))
  all_goals dsimp only
  all_goals pointwise [k0_pay73, k0_pay74, k0_pay75, k0_pay76, k0_pay77, k0_pay78, k0_pay79, k0_pay80, k0_pay81, k0_pay82, k0_pay83, k0_pay84, k0_pay85, k0_pay86, k0_pay87, k0_pay88, k0_pay89, k0_pay90, k0_pay91, k0_pay92, k0_pay93, k0_pay94, k0_pay95, k0_pay96, k0_pay97, k0_pay98, k0_pay99, k0_pay100, k0_pay101, k0_pay102, k0_pay103, k0_pay104, k0_pay105, k0_pay106, k0_pay107, k0_pay108, k0_pay109, k0_pay110, k0_pay111, k0_pay112, k0_pay113, k0_pay114, k0_pay115, k0_pay116, k0_pay117, k0_pay118, k0_pay119, k0_pay120, k0_pay121, k0_pay122, k0_pay123, k0_pay124, k0_pay125, k0_pay126, k0_pay127, k0_pay128, k0_pay129, k0_pay130, k0_pay131, k0_pay132, k0_pay133, k0_pay134, k0_pay135, k0_pay136, k0_pay137, k0_pay138, k0_pay139, k0_pay140, k0_pay141, k0_pay142, k0_pay143, k0_pay144, k0_pay145, k0_pay146, k0_pay147, k0_pay148, k0_pay149, k0_pay1]
  all_goals rfl

theorem out12_B (hc0 : ¬cond0_0 i) (u : Fin 8) (l : Fin 128) : out0_B_12 c i arg1 h1 arg2 h2 arg3 h3 arg4 h4 arg5 h5 arg6 h6 arg7 h7 arg8 h8 arg9 h9 arg10 h10 arg11 h11 arg12 h12 arg13 h13 arg14 h14 arg15 h15 hc0 x0 x1 x2 x3 x4 x5 xo12 (ix2 u l) = xo12 (ix2 u l) + LS x0 x1 x2 x3 x4 x5 := by
  unfold out0_B_12
  unfold kernelRun0_B
  dsimp only
  rw [View.read_writes_full]
  simp only [View.readAt_eq_ld, h1.read_unread, h2.read_unread, h3.read_unread, h4.read_unread, h5.read_unread, h6.read_unread, h13.read_unread, ldw1, ldw5, ldw12, ldw1', ldw5', ldw12']
  rw [pay70_apply]
  simp only [y_B]
  rfl

end

end Cert.MidIdeal.Block

end
-- ==== Proof.MidArray.lean ====
/- The seven result arrays of the gate, loss and head-gradient kernel, element by element, from the arrays it is given. -/
module

public import proofs.«01_k».proof.Proof.Pos
public import proofs.«01_k».proof.Proof.MidA
public import proofs.«01_k».proof.Proof.MidB
public import proofs.«01_k».proof.Proof.Gen.MidIdeal.Value

@[expose] public section

set_option maxRecDepth 16384

noncomputable section

namespace Cert.MidIdeal.Block

open Cert.MidIdeal Cert.MidIdeal.Gen Idealize.ShloMosaic Idealize.ShloMosaic.TcCoe Cert.Online

section
variable (a0 a1 : FVec Ideal S8192x1024 .f32) (a2 : FVec Ideal S8x8192x128 .f32) (a3 : FVec Ideal S4x8192x128 .f32)
  (a4 : FVec Ideal S8192x1536 .f32) (a5 : FVec Ideal S1536x1024 .bf16)

/-- The attention output at a column of the twelve heads side by side. -/
def oG (s : Fin 8192) (n : Fin 1536) : EReal :=
  if h : n.val / 128 < 8 then a2 (ix3 ⟨n.val / 128, h⟩ s ⟨n.val % 128, Nat.mod_lt _ (by decide)⟩)
  else a3 (ix3 ⟨n.val / 128 - 8, by have := n.isLt; omega⟩ s ⟨n.val % 128, Nat.mod_lt _ (by decide)⟩)
/-- The gated outputs, the residual minus the target, and the gradients of a row, as for a block. -/
def yG (s : Fin 8192) (n : Fin 1536) : EReal := oG a2 a3 s n * si (a4 (ix2 s n))
def eG (s : Fin 8192) (d : Fin 1024) : EReal := a0 (ix2 s d) + (∑ n : Fin 1536, yG a2 a3 a4 s n * a5 (ix2 n d)) - a1 (ix2 s d)
def dhG (s : Fin 8192) (d : Fin 1024) : EReal := eG a0 a1 a2 a3 a4 a5 s d * κ
def dyG (s : Fin 8192) (n : Fin 1536) : EReal := ∑ d : Fin 1024, dhG a0 a1 a2 a3 a4 a5 s d * (a5 (ix2 n d) : EReal)
def doG (s : Fin 8192) (n : Fin 1536) : EReal := dyG a0 a1 a2 a3 a4 a5 s n * si (a4 (ix2 s n))
def dgG (s : Fin 8192) (n : Fin 1536) : EReal := dyG a0 a1 a2 a3 a4 a5 s n * oG a2 a3 s n * dsi (a4 (ix2 s n))
def dlG (h : Fin 12) (s : Fin 8192) : EReal := ∑ d : Fin 128, doG a0 a1 a2 a3 a4 a5 s (col h.val h.isLt d) * oG a2 a3 s (col h.val h.isLt d)
/-- The sum of the squares of a row's errors. -/
def sqG (s : Fin 8192) : EReal := ∑ d : Fin 1024, eG a0 a1 a2 a3 a4 a5 s d * eG a0 a1 a2 a3 a4 a5 s d

/-- Row `r` of block `j` of 256 rows. -/
abbrev at256 (j : ℕ) (hj : j < 32) (r : Fin 256) : Fin 8192 := ⟨256 * j + r.val, by have := r.isLt; omega⟩

theorem sum_blocks256 (f : Fin 8192 → EReal) : ∑ t, f t = ∑ j : Fin 32, ∑ k : Fin 256, f (at256 j.val j.isLt k) := by
  rw [← Fintype.sum_prod_type', ← (finProdFinEquiv (m := 32) (n := 256)).sum_comp]
  refine Finset.sum_congr rfl fun p _ => congrArg f (Fin.ext ?_)
  show p.2.val + 256 * p.1.val = 256 * p.1.val + p.2.val
  omega

variable (x0 x1 : Vec Ideal S256x1024 .f32) (x2 : Vec Ideal S8x256x128 .f32) (x3 : Vec Ideal S4x256x128 .f32)
  (x4 : Vec Ideal S256x1536 .f32) (x5 : Vec Ideal S1536x1024 .bf16) (j : ℕ) (hj : j < 32)
  (h0 : ∀ r d, x0 (ix2 r d) = a0 (ix2 (at256 j hj r) d)) (h1 : ∀ r d, x1 (ix2 r d) = a1 (ix2 (at256 j hj r) d))
  (h2 : ∀ h r d, x2 (ix3 h r d) = a2 (ix3 h (at256 j hj r) d)) (h3 : ∀ h r d, x3 (ix3 h r d) = a3 (ix3 h (at256 j hj r) d))
  (h4 : ∀ r n, x4 (ix2 r n) = a4 (ix2 (at256 j hj r) n)) (h5 : ∀ n d, x5 (ix2 n d) = a5 (ix2 n d))

include h2 h3 in
theorem oB_blk (r : Fin 256) (n : Fin 1536) : oB x2 x3 r n = oG a2 a3 (at256 j hj r) n := by
  unfold oB oG
  by_cases hn : n.val / 128 < 8
  · rw [dif_pos hn, dif_pos hn]; exact h2 _ _ _
  · rw [dif_neg hn, dif_neg hn]; exact h3 _ _ _

include h2 h3 h4 in
theorem y_blk (r : Fin 256) (n : Fin 1536) : Y x2 x3 x4 r n = yG a2 a3 a4 (at256 j hj r) n := by
  unfold Y yG
  rw [oB_blk a2 a3 x2 x3 j hj h2 h3, h4]

include h0 h1 h2 h3 h4 h5 in
theorem er_blk (r : Fin 256) (d : Fin 1024) : er x0 x1 x2 x3 x4 x5 r d = eG a0 a1 a2 a3 a4 a5 (at256 j hj r) d := by
  unfold er eG
  simp only [y_blk a2 a3 a4 x2 x3 x4 j hj h2 h3 h4, h0, h1, h5]

include h0 h1 h2 h3 h4 h5 in
theorem dh_blk (r : Fin 256) (d : Fin 1024) : dh x0 x1 x2 x3 x4 x5 r d = dhG a0 a1 a2 a3 a4 a5 (at256 j hj r) d := by
  unfold dh dhG
  rw [er_blk a0 a1 a2 a3 a4 a5 x0 x1 x2 x3 x4 x5 j hj h0 h1 h2 h3 h4 h5]

include h0 h1 h2 h3 h4 h5 in
theorem DY_blk (r : Fin 256) (n : Fin 1536) : DY x0 x1 x2 x3 x4 x5 r n = dyG a0 a1 a2 a3 a4 a5 (at256 j hj r) n := by
  unfold DY dyG
  simp only [dh_blk a0 a1 a2 a3 a4 a5 x0 x1 x2 x3 x4 x5 j hj h0 h1 h2 h3 h4 h5, h5]

include h0 h1 h2 h3 h4 h5 in
theorem DO_blk (r : Fin 256) (n : Fin 1536) : DO x0 x1 x2 x3 x4 x5 r n = doG a0 a1 a2 a3 a4 a5 (at256 j hj r) n := by
  unfold DO doG
  rw [DY_blk a0 a1 a2 a3 a4 a5 x0 x1 x2 x3 x4 x5 j hj h0 h1 h2 h3 h4 h5, h4]

include h0 h1 h2 h3 h4 h5 in
theorem DG_blk (r : Fin 256) (n : Fin 1536) : DG x0 x1 x2 x3 x4 x5 r n = dgG a0 a1 a2 a3 a4 a5 (at256 j hj r) n := by
  unfold DG dgG
  rw [DY_blk a0 a1 a2 a3 a4 a5 x0 x1 x2 x3 x4 x5 j hj h0 h1 h2 h3 h4 h5, oB_blk a2 a3 x2 x3 j hj h2 h3, h4]

include h0 h1 h2 h3 h4 h5 in
theorem DL_blk (h : Fin 12) (r : Fin 256) : DL x0 x1 x2 x3 x4 x5 h r = dlG a0 a1 a2 a3 a4 a5 h (at256 j hj r) := by
  unfold DL dlG
  simp only [DO_blk a0 a1 a2 a3 a4 a5 x0 x1 x2 x3 x4 x5 j hj h0 h1 h2 h3 h4 h5, oB_blk a2 a3 x2 x3 j hj h2 h3]

include h0 h1 h2 h3 h4 h5 in
theorem LS_blk : LS x0 x1 x2 x3 x4 x5 = (∑ r : Fin 256, sqG a0 a1 a2 a3 a4 a5 (at256 j hj r)) * κ₂ := by
  unfold LS sqG
  simp only [er_blk a0 a1 a2 a3 a4 a5 x0 x1 x2 x3 x4 x5 j hj h0 h1 h2 h3 h4 h5]
end

section
variable (m : (ℓ : Loc nD τ sig) → Buf (Elt Ideal) ℓ) (c : Dev nD)

/-- The six arguments as arrays. -/
abbrev arg0 : FVec Ideal S8192x1024 .f32 := m (c.tc.loc main_arg0)
abbrev arg1 : FVec Ideal S8192x1024 .f32 := m (c.tc.loc main_arg1)
abbrev arg2 : FVec Ideal S8x8192x128 .f32 := m (c.tc.loc main_arg2)
abbrev arg3 : FVec Ideal S4x8192x128 .f32 := m (c.tc.loc main_arg3)
abbrev arg4 : FVec Ideal S8192x1536 .f32 := m (c.tc.loc main_arg4)
abbrev arg5 : FVec Ideal S1536x1024 .bf16 := m (c.tc.loc main_arg5)

/-- The grid point of block `j`. -/
abbrev pt (j : ℕ) (hj : j < 32) : Fin cfg0.N := ⟨j, by rw [show cfg0.N = 32 from N_0]; omega⟩

theorem idx0 : ∀ t : Fin cfg0.N, win0_0.index t = ![t.val, 0] := by decide +kernel
theorem idx1 : ∀ t : Fin cfg0.N, win0_1.index t = ![t.val, 0] := by decide +kernel
theorem idx2 : ∀ t : Fin cfg0.N, win0_2.index t = ![0, t.val, 0] := by decide +kernel
theorem idx3 : ∀ t : Fin cfg0.N, win0_3.index t = ![0, t.val, 0] := by decide +kernel
theorem idx4 : ∀ t : Fin cfg0.N, win0_4.index t = ![t.val, 0] := by decide +kernel
theorem idx5 : ∀ t : Fin cfg0.N, win0_5.index t = ![0, 0] := by decide +kernel
theorem idx6 : ∀ t : Fin cfg0.N, win0_6.index t = ![t.val, 0] := by decide +kernel
theorem idx7 : ∀ t : Fin cfg0.N, win0_7.index t = ![t.val, 0] := by decide +kernel
theorem idx8 : ∀ t : Fin cfg0.N, win0_8.index t = ![t.val, 0] := by decide +kernel
theorem idx9 : ∀ t : Fin cfg0.N, win0_9.index t = ![0, t.val, 0] := by decide +kernel
theorem idx10 : ∀ t : Fin cfg0.N, win0_10.index t = ![0, t.val, 0] := by decide +kernel
theorem idx11 : ∀ t : Fin cfg0.N, win0_11.index t = ![0, t.val, 0] := by decide +kernel
theorem idx12 : ∀ t : Fin cfg0.N, win0_12.index t = ![0, 0] := by decide +kernel

theorem iblk0_apply (j : ℕ) (hj : j < 32) (u : Fin 256) (v : Fin 1024) :
    (iblk m c 0 (pt j hj) : Vec Ideal S256x1024 .f32) (ix2 u v) = arg0 m c (ix2 (at256 j hj u) v) := by
  unfold iblk
  rw [View.read_apply]
  show V m c main_arg0 _ = m (c.tc.loc main_arg0) _
  unfold V
  congr 1
  exact pos2 (idx0 (pt j hj)) j 0 256 1024 u.val v.val (256 * j + u.val) v.val rfl rfl rfl rfl (by omega) (by omega)

theorem iblk1_apply (j : ℕ) (hj : j < 32) (u : Fin 256) (v : Fin 1024) :
    (iblk m c 1 (pt j hj) : Vec Ideal S256x1024 .f32) (ix2 u v) = arg1 m c (ix2 (at256 j hj u) v) := by
  unfold iblk
  rw [View.read_apply]
  show V m c main_arg1 _ = m (c.tc.loc main_arg1) _
  unfold V
  congr 1
  exact pos2 (idx1 (pt j hj)) j 0 256 1024 u.val v.val (256 * j + u.val) v.val rfl rfl rfl rfl (by omega) (by omega)

theorem iblk2_apply (j : ℕ) (hj : j < 32) (u : Fin 8) (v : Fin 256) (w : Fin 128) :
    (iblk m c 2 (pt j hj) : Vec Ideal S8x256x128 .f32) (ix3 u v w) = arg2 m c (ix3 u (at256 j hj v) w) := by
  unfold iblk
  rw [View.read_apply]
  show V m c main_arg2 _ = m (c.tc.loc main_arg2) _
  unfold V
  congr 1
  exact pos3 (idx2 (pt j hj)) 0 j 0 8 256 128 u.val v.val w.val u.val (256 * j + v.val) w.val rfl rfl rfl rfl rfl rfl (by omega) (by omega) (by omega)

theorem iblk3_apply (j : ℕ) (hj : j < 32) (u : Fin 4) (v : Fin 256) (w : Fin 128) :
    (iblk m c 3 (pt j hj) : Vec Ideal S4x256x128 .f32) (ix3 u v w) = arg3 m c (ix3 u (at256 j hj v) w) := by
  unfold iblk
  rw [View.read_apply]
  show V m c main_arg3 _ = m (c.tc.loc main_arg3) _
  unfold V
  congr 1
  exact pos3 (idx3 (pt j hj)) 0 j 0 4 256 128 u.val v.val w.val u.val (256 * j + v.val) w.val rfl rfl rfl rfl rfl rfl (by omega) (by omega) (by omega)

theorem iblk4_apply (j : ℕ) (hj : j < 32) (u : Fin 256) (v : Fin 1536) :
    (iblk m c 4 (pt j hj) : Vec Ideal S256x1536 .f32) (ix2 u v) = arg4 m c (ix2 (at256 j hj u) v) := by
  unfold iblk
  rw [View.read_apply]
  show V m c main_arg4 _ = m (c.tc.loc main_arg4) _
  unfold V
  congr 1
  exact pos2 (idx4 (pt j hj)) j 0 256 1536 u.val v.val (256 * j + u.val) v.val rfl rfl rfl rfl (by omega) (by omega)

theorem iblk5_apply (j : ℕ) (hj : j < 32) (u : Fin 1536) (v : Fin 1024) :
    (iblk m c 5 (pt j hj) : Vec Ideal S1536x1024 .bf16) (ix2 u v) = arg5 m c (ix2 u v) := by
  unfold iblk
  rw [View.read_apply]
  show V m c main_arg5 _ = m (c.tc.loc main_arg5) _
  unfold V
  congr 1
  exact pos2 (idx5 (pt j hj)) 0 0 1536 1024 u.val v.val u.val v.val rfl rfl rfl rfl (by omega) (by omega)

theorem pt_6 (j : ℕ) (hj : j < 32) (r : Fin 256) (n : Fin 1536) :
    ((outsAt0 m c (pt j hj).val (pt j hj).isLt).1 : Vec Ideal S256x1536 .bf16) (ix2 r n) = yG (arg2 m c) (arg3 m c) (arg4 m c) (at256 j hj r) n := by
  by_cases h0 : (pt j hj).val % 32 = 0
  · rw [outsAt0_A m c (pt j hj) h0]
    dsimp only
    exact (out6_A c _ _ _ _ _ _ _ _ _ _ _ _ _ _ _ _ _ _ _ _ _ _ _ _ _ _ _ _ _ _ _ _ _ _ _ _ _ _ r n).trans (y_blk (arg2 m c) (arg3 m c) (arg4 m c) _ _ _ j hj (iblk2_apply m c j hj) (iblk3_apply m c j hj) (iblk4_apply m c j hj) r n)
  · rw [outsAt0_B m c (pt j hj) h0]
    dsimp only
    exact (out6_B c _ _ _ _ _ _ _ _ _ _ _ _ _ _ _ _ _ _ _ _ _ _ _ _ _ _ _ _ _ _ _ _ _ _ _ _ _ _ _ r n).trans (y_blk (arg2 m c) (arg3 m c) (arg4 m c) _ _ _ j hj (iblk2_apply m c j hj) (iblk3_apply m c j hj) (iblk4_apply m c j hj) r n)

theorem final6 (s : Fin 8192) (n : Fin 1536) : ((dats m 0 c).arrAt 6 cfg0.N : FVec Ideal S8192x1536 .bf16) (ix2 s n) = yG (arg2 m c) (arg3 m c) (arg4 m c) s n := by
  have hj : s.val / 256 < 32 := by have := s.isLt; omega
  have hb := congrFun (Value.blocks6 m c (pt (s.val / 256) hj) (flush0_6 _)) (ix2 ⟨s.val % 256, Nat.mod_lt _ (by decide)⟩ n)
  rw [Value.flushed6] at hb
  refine Eq.trans ?_ (hb.trans ?_)
  · rw [View.read_apply]
    congr 1
    exact (pos2 (idx6 (pt (s.val / 256) hj)) (s.val / 256) 0 256 1536 (s.val % 256) n.val s.val n.val rfl rfl rfl rfl (by omega) (by omega)).symm
  · have e := pt_6 m c (s.val / 256) hj ⟨s.val % 256, Nat.mod_lt _ (by decide)⟩ n
    rw [show at256 (s.val / 256) hj ⟨s.val % 256, Nat.mod_lt _ (by decide)⟩ = s from Fin.ext (Nat.div_add_mod s.val 256)] at e
    exact e

theorem pt_7 (j : ℕ) (hj : j < 32) (r : Fin 256) (n : Fin 1024) :
    ((outsAt0 m c (pt j hj).val (pt j hj).isLt).2.1 : Vec Ideal S256x1024 .f32) (ix2 r n) = dhG (arg0 m c) (arg1 m c) (arg2 m c) (arg3 m c) (arg4 m c) (arg5 m c) (at256 j hj r) n := by
  by_cases h0 : (pt j hj).val % 32 = 0
  · rw [outsAt0_A m c (pt j hj) h0]
    dsimp only
    exact (out7_A c _ _ _ _ _ _ _ _ _ _ _ _ _ _ _ _ _ _ _ _ _ _ _ _ _ _ _ _ _ _ _ _ _ _ _ _ _ _ r n).trans (dh_blk (arg0 m c) (arg1 m c) (arg2 m c) (arg3 m c) (arg4 m c) (arg5 m c) _ _ _ _ _ _ j hj (iblk0_apply m c j hj) (iblk1_apply m c j hj) (iblk2_apply m c j hj) (iblk3_apply m c j hj) (iblk4_apply m c j hj) (iblk5_apply m c j hj) r n)
  · rw [outsAt0_B m c (pt j hj) h0]
    dsimp only
    exact (out7_B c _ _ _ _ _ _ _ _ _ _ _ _ _ _ _ _ _ _ _ _ _ _ _ _ _ _ _ _ _ _ _ _ _ _ _ _ _ _ _ r n).trans (dh_blk (arg0 m c) (arg1 m c) (arg2 m c) (arg3 m c) (arg4 m c) (arg5 m c) _ _ _ _ _ _ j hj (iblk0_apply m c j hj) (iblk1_apply m c j hj) (iblk2_apply m c j hj) (iblk3_apply m c j hj) (iblk4_apply m c j hj) (iblk5_apply m c j hj) r n)

theorem final7 (s : Fin 8192) (n : Fin 1024) : ((dats m 0 c).arrAt 7 cfg0.N : FVec Ideal S8192x1024 .f32) (ix2 s n) = dhG (arg0 m c) (arg1 m c) (arg2 m c) (arg3 m c) (arg4 m c) (arg5 m c) s n := by
  have hj : s.val / 256 < 32 := by have := s.isLt; omega
  have hb := congrFun (Value.blocks7 m c (pt (s.val / 256) hj) (flush0_7 _)) (ix2 ⟨s.val % 256, Nat.mod_lt _ (by decide)⟩ n)
  rw [Value.flushed7] at hb
  refine Eq.trans ?_ (hb.trans ?_)
  · rw [View.read_apply]
    congr 1
    exact (pos2 (idx7 (pt (s.val / 256) hj)) (s.val / 256) 0 256 1024 (s.val % 256) n.val s.val n.val rfl rfl rfl rfl (by omega) (by omega)).symm
  · have e := pt_7 m c (s.val / 256) hj ⟨s.val % 256, Nat.mod_lt _ (by decide)⟩ n
    rw [show at256 (s.val / 256) hj ⟨s.val % 256, Nat.mod_lt _ (by decide)⟩ = s from Fin.ext (Nat.div_add_mod s.val 256)] at e
    exact e

theorem pt_8 (j : ℕ) (hj : j < 32) (r : Fin 256) (n : Fin 1536) :
    ((outsAt0 m c (pt j hj).val (pt j hj).isLt).2.2.1 : Vec Ideal S256x1536 .bf16) (ix2 r n) = dgG (arg0 m c) (arg1 m c) (arg2 m c) (arg3 m c) (arg4 m c) (arg5 m c) (at256 j hj r) n := by
  by_cases h0 : (pt j hj).val % 32 = 0
  · rw [outsAt0_A m c (pt j hj) h0]
    dsimp only
    exact (out8_A c _ _ _ _ _ _ _ _ _ _ _ _ _ _ _ _ _ _ _ _ _ _ _ _ _ _ _ _ _ _ _ _ _ _ _ _ _ _ r n).trans (DG_blk (arg0 m c) (arg1 m c) (arg2 m c) (arg3 m c) (arg4 m c) (arg5 m c) _ _ _ _ _ _ j hj (iblk0_apply m c j hj) (iblk1_apply m c j hj) (iblk2_apply m c j hj) (iblk3_apply m c j hj) (iblk4_apply m c j hj) (iblk5_apply m c j hj) r n)
  · rw [outsAt0_B m c (pt j hj) h0]
    dsimp only
    exact (out8_B c _ _ _ _ _ _ _ _ _ _ _ _ _ _ _ _ _ _ _ _ _ _ _ _ _ _ _ _ _ _ _ _ _ _ _ _ _ _ _ r n).trans (DG_blk (arg0 m c) (arg1 m c) (arg2 m c) (arg3 m c) (arg4 m c) (arg5 m c) _ _ _ _ _ _ j hj (iblk0_apply m c j hj) (iblk1_apply m c j hj) (iblk2_apply m c j hj) (iblk3_apply m c j hj) (iblk4_apply m c j hj) (iblk5_apply m c j hj) r n)

theorem final8 (s : Fin 8192) (n : Fin 1536) : ((dats m 0 c).arrAt 8 cfg0.N : FVec Ideal S8192x1536 .bf16) (ix2 s n) = dgG (arg0 m c) (arg1 m c) (arg2 m c) (arg3 m c) (arg4 m c) (arg5 m c) s n := by
  have hj : s.val / 256 < 32 := by have := s.isLt; omega
  have hb := congrFun (Value.blocks8 m c (pt (s.val / 256) hj) (flush0_8 _)) (ix2 ⟨s.val % 256, Nat.mod_lt _ (by decide)⟩ n)
  rw [Value.flushed8] at hb
  refine Eq.trans ?_ (hb.trans ?_)
  · rw [View.read_apply]
    congr 1
    exact (pos2 (idx8 (pt (s.val / 256) hj)) (s.val / 256) 0 256 1536 (s.val % 256) n.val s.val n.val rfl rfl rfl rfl (by omega) (by omega)).symm
  · have e := pt_8 m c (s.val / 256) hj ⟨s.val % 256, Nat.mod_lt _ (by decide)⟩ n
    rw [show at256 (s.val / 256) hj ⟨s.val % 256, Nat.mod_lt _ (by decide)⟩ = s from Fin.ext (Nat.div_add_mod s.val 256)] at e
    exact e

theorem pt_9 (j : ℕ) (hj : j < 32) (h : Fin 8) (r : Fin 256) (d : Fin 128) :
    ((outsAt0 m c (pt j hj).val (pt j hj).isLt).2.2.2.1 : Vec Ideal S8x256x128 .bf16) (ix3 h r d) = doG (arg0 m c) (arg1 m c) (arg2 m c) (arg3 m c) (arg4 m c) (arg5 m c) (at256 j hj r) (col (0 + h.val) (by have := h.isLt; omega) d) := by
  by_cases h0 : (pt j hj).val % 32 = 0
  · rw [outsAt0_A m c (pt j hj) h0]
    dsimp only
    exact (out9_A c _ _ _ _ _ _ _ _ _ _ _ _ _ _ _ _ _ _ _ _ _ _ _ _ _ _ _ _ _ _ _ _ _ _ _ _ _ _ h r d).trans (DO_blk (arg0 m c) (arg1 m c) (arg2 m c) (arg3 m c) (arg4 m c) (arg5 m c) _ _ _ _ _ _ j hj (iblk0_apply m c j hj) (iblk1_apply m c j hj) (iblk2_apply m c j hj) (iblk3_apply m c j hj) (iblk4_apply m c j hj) (iblk5_apply m c j hj) r (col (0 + h.val) (by have := h.isLt; omega) d))
  · rw [outsAt0_B m c (pt j hj) h0]
    dsimp only
    exact (out9_B c _ _ _ _ _ _ _ _ _ _ _ _ _ _ _ _ _ _ _ _ _ _ _ _ _ _ _ _ _ _ _ _ _ _ _ _ _ _ _ h r d).trans (DO_blk (arg0 m c) (arg1 m c) (arg2 m c) (arg3 m c) (arg4 m c) (arg5 m c) _ _ _ _ _ _ j hj (iblk0_apply m c j hj) (iblk1_apply m c j hj) (iblk2_apply m c j hj) (iblk3_apply m c j hj) (iblk4_apply m c j hj) (iblk5_apply m c j hj) r (col (0 + h.val) (by have := h.isLt; omega) d))

theorem final9 (h : Fin 8) (s : Fin 8192) (d : Fin 128) : ((dats m 0 c).arrAt 9 cfg0.N : FVec Ideal S8x8192x128 .bf16) (ix3 h s d) = doG (arg0 m c) (arg1 m c) (arg2 m c) (arg3 m c) (arg4 m c) (arg5 m c) s (col (0 + h.val) (by have := h.isLt; omega) d) := by
  have hj : s.val / 256 < 32 := by have := s.isLt; omega
  have hb := congrFun (Value.blocks9 m c (pt (s.val / 256) hj) (flush0_9 _)) (ix3 h ⟨s.val % 256, Nat.mod_lt _ (by decide)⟩ d)
  rw [Value.flushed9] at hb
  refine Eq.trans ?_ (hb.trans ?_)
  · rw [View.read_apply]
    congr 1
    exact (pos3 (idx9 (pt (s.val / 256) hj)) 0 (s.val / 256) 0 8 256 128 h.val (s.val % 256) d.val h.val s.val d.val rfl rfl rfl rfl rfl rfl (by omega) (by omega) (by omega)).symm
  · have e := pt_9 m c (s.val / 256) hj h ⟨s.val % 256, Nat.mod_lt _ (by decide)⟩ d
    rw [show at256 (s.val / 256) hj ⟨s.val % 256, Nat.mod_lt _ (by decide)⟩ = s from Fin.ext (Nat.div_add_mod s.val 256)] at e
    exact e

theorem pt_10 (j : ℕ) (hj : j < 32) (h : Fin 4) (r : Fin 256) (d : Fin 128) :
    ((outsAt0 m c (pt j hj).val (pt j hj).isLt).2.2.2.2.1 : Vec Ideal S4x256x128 .bf16) (ix3 h r d) = doG (arg0 m c) (arg1 m c) (arg2 m c) (arg3 m c) (arg4 m c) (arg5 m c) (at256 j hj r) (col (8 + h.val) (by have := h.isLt; omega) d) := by
  by_cases h0 : (pt j hj).val % 32 = 0
  · rw [outsAt0_A m c (pt j hj) h0]
    dsimp only
    exact (out10_A c _ _ _ _ _ _ _ _ _ _ _ _ _ _ _ _ _ _ _ _ _ _ _ _ _ _ _ _ _ _ _ _ _ _ _ _ _ _ h r d).trans (DO_blk (arg0 m c) (arg1 m c) (arg2 m c) (arg3 m c) (arg4 m c) (arg5 m c) _ _ _ _ _ _ j hj (iblk0_apply m c j hj) (iblk1_apply m c j hj) (iblk2_apply m c j hj) (iblk3_apply m c j hj) (iblk4_apply m c j hj) (iblk5_apply m c j hj) r (col (8 + h.val) (by have := h.isLt; omega) d))
  · rw [outsAt0_B m c (pt j hj) h0]
    dsimp only
    exact (out10_B c _ _ _ _ _ _ _ _ _ _ _ _ _ _ _ _ _ _ _ _ _ _ _ _ _ _ _ _ _ _ _ _ _ _ _ _ _ _ _ h r d).trans (DO_blk (arg0 m c) (arg1 m c) (arg2 m c) (arg3 m c) (arg4 m c) (arg5 m c) _ _ _ _ _ _ j hj (iblk0_apply m c j hj) (iblk1_apply m c j hj) (iblk2_apply m c j hj) (iblk3_apply m c j hj) (iblk4_apply m c j hj) (iblk5_apply m c j hj) r (col (8 + h.val) (by have := h.isLt; omega) d))

theorem final10 (h : Fin 4) (s : Fin 8192) (d : Fin 128) : ((dats m 0 c).arrAt 10 cfg0.N : FVec Ideal S4x8192x128 .bf16) (ix3 h s d) = doG (arg0 m c) (arg1 m c) (arg2 m c) (arg3 m c) (arg4 m c) (arg5 m c) s (col (8 + h.val) (by have := h.isLt; omega) d) := by
  have hj : s.val / 256 < 32 := by have := s.isLt; omega
  have hb := congrFun (Value.blocks10 m c (pt (s.val / 256) hj) (flush0_10 _)) (ix3 h ⟨s.val % 256, Nat.mod_lt _ (by decide)⟩ d)
  rw [Value.flushed10] at hb
  refine Eq.trans ?_ (hb.trans ?_)
  · rw [View.read_apply]
    congr 1
    exact (pos3 (idx10 (pt (s.val / 256) hj)) 0 (s.val / 256) 0 4 256 128 h.val (s.val % 256) d.val h.val s.val d.val rfl rfl rfl rfl rfl rfl (by omega) (by omega) (by omega)).symm
  · have e := pt_10 m c (s.val / 256) hj h ⟨s.val % 256, Nat.mod_lt _ (by decide)⟩ d
    rw [show at256 (s.val / 256) hj ⟨s.val % 256, Nat.mod_lt _ (by decide)⟩ = s from Fin.ext (Nat.div_add_mod s.val 256)] at e
    exact e

theorem pt_11 (j : ℕ) (hj : j < 32) (h : Fin 12) (r : Fin 256) :
    ((outsAt0 m c (pt j hj).val (pt j hj).isLt).2.2.2.2.2.1 : Vec Ideal S12x256x1 .f32) (ix3 h r 0) = dlG (arg0 m c) (arg1 m c) (arg2 m c) (arg3 m c) (arg4 m c) (arg5 m c) h (at256 j hj r) := by
  by_cases h0 : (pt j hj).val % 32 = 0
  · rw [outsAt0_A m c (pt j hj) h0]
    dsimp only
    exact (out11_A c _ _ _ _ _ _ _ _ _ _ _ _ _ _ _ _ _ _ _ _ _ _ _ _ _ _ _ _ _ _ _ _ _ _ _ _ _ _ h r).trans (DL_blk (arg0 m c) (arg1 m c) (arg2 m c) (arg3 m c) (arg4 m c) (arg5 m c) _ _ _ _ _ _ j hj (iblk0_apply m c j hj) (iblk1_apply m c j hj) (iblk2_apply m c j hj) (iblk3_apply m c j hj) (iblk4_apply m c j hj) (iblk5_apply m c j hj) h r)
  · rw [outsAt0_B m c (pt j hj) h0]
    dsimp only
    exact (out11_B c _ _ _ _ _ _ _ _ _ _ _ _ _ _ _ _ _ _ _ _ _ _ _ _ _ _ _ _ _ _ _ _ _ _ _ _ _ _ _ h r).trans (DL_blk (arg0 m c) (arg1 m c) (arg2 m c) (arg3 m c) (arg4 m c) (arg5 m c) _ _ _ _ _ _ j hj (iblk0_apply m c j hj) (iblk1_apply m c j hj) (iblk2_apply m c j hj) (iblk3_apply m c j hj) (iblk4_apply m c j hj) (iblk5_apply m c j hj) h r)

theorem final11 (h : Fin 12) (s : Fin 8192) : ((dats m 0 c).arrAt 11 cfg0.N : FVec Ideal S12x8192x1 .f32) (ix3 h s 0) = dlG (arg0 m c) (arg1 m c) (arg2 m c) (arg3 m c) (arg4 m c) (arg5 m c) h s := by
  have hj : s.val / 256 < 32 := by have := s.isLt; omega
  have hb := congrFun (Value.blocks11 m c (pt (s.val / 256) hj) (flush0_11 _)) (ix3 h ⟨s.val % 256, Nat.mod_lt _ (by decide)⟩ 0)
  rw [Value.flushed11] at hb
  refine Eq.trans ?_ (hb.trans ?_)
  · rw [View.read_apply]
    congr 1
    exact (pos3 (idx11 (pt (s.val / 256) hj)) 0 (s.val / 256) 0 12 256 1 h.val (s.val % 256) 0 h.val s.val 0 rfl rfl rfl rfl rfl rfl (by omega) (by omega) (by omega)).symm
  · have e := pt_11 m c (s.val / 256) hj h ⟨s.val % 256, Nat.mod_lt _ (by decide)⟩
    rw [show at256 (s.val / 256) hj ⟨s.val % 256, Nat.mod_lt _ (by decide)⟩ = s from Fin.ext (Nat.div_add_mod s.val 256)] at e
    exact e

/-- The part of the loss of block `j`, zero past the last. -/
def lsG (j : ℕ) : EReal := if hj : j < 32 then (∑ r : Fin 256, sqG (arg0 m c) (arg1 m c) (arg2 m c) (arg3 m c) (arg4 m c) (arg5 m c) (at256 j hj r)) * κ₂ else 0

theorem pt_12 (u : Fin 8) (l : Fin 128) : ∀ (j : ℕ) (hj : j < 32),
    ((outsAt0 m c (pt j hj).val (pt j hj).isLt).2.2.2.2.2.2 : Vec Ideal S8x128 .f32) (ix2 u l) = ∑ i ∈ Finset.range (j + 1), lsG m c i := by
  intro j
  induction j with
  | zero =>
    intro hj
    have h0 : (pt 0 hj).val % 32 = 0 := rfl
    rw [outsAt0_A m c (pt 0 hj) h0, Finset.sum_range_one]
    dsimp only
    refine (out12_A c _ _ _ _ _ _ _ _ _ _ _ _ _ _ _ _ _ _ _ _ _ _ _ _ _ _ _ _ _ _ _ _ _ _ _ _ _ _ u l).trans ((LS_blk (arg0 m c) (arg1 m c) (arg2 m c) (arg3 m c) (arg4 m c) (arg5 m c) _ _ _ _ _ _ 0 hj (iblk0_apply m c 0 hj) (iblk1_apply m c 0 hj) (iblk2_apply m c 0 hj) (iblk3_apply m c 0 hj) (iblk4_apply m c 0 hj) (iblk5_apply m c 0 hj)).trans ?_)
    unfold lsG
    rw [dif_pos hj]
  | succ j ih =>
    intro hj
    have h0 : ¬(pt (j + 1) hj).val % 32 = 0 := by show ¬(j + 1) % 32 = 0; omega
    rw [outsAt0_B m c (pt (j + 1) hj) h0, Finset.sum_range_succ, ← ih (by omega)]
    dsimp only
    refine (out12_B c _ _ _ _ _ _ _ _ _ _ _ _ _ _ _ _ _ _ _ _ _ _ _ _ _ _ _ _ _ _ _ _ _ _ _ _ _ _ _ u l).trans (congrArg₂ (α := EReal) (β := EReal) (· + ·) rfl ((LS_blk (arg0 m c) (arg1 m c) (arg2 m c) (arg3 m c) (arg4 m c) (arg5 m c) _ _ _ _ _ _ (j + 1) hj (iblk0_apply m c (j + 1) hj) (iblk1_apply m c (j + 1) hj) (iblk2_apply m c (j + 1) hj) (iblk3_apply m c (j + 1) hj) (iblk4_apply m c (j + 1) hj) (iblk5_apply m c (j + 1) hj)).trans ?_))
    unfold lsG
    rw [dif_pos hj]

/-- Only the last point writes the loss back. -/
theorem disjoint12 : ∀ t t' : Fin cfg0.N, (cfg0.win 12).flush t = true → (cfg0.win 12).flush t' = true → t ≠ t' →
    Disjoint ((cfg0.win 12).blk t).view.set ((cfg0.win 12).blk t').view.set := by
  intro t t' hf hf' hne
  have h1 := (flush0_12 t).mp hf
  have h2 := (flush0_12 t').mp hf'
  have h3 : t.val < 32 := lt_of_lt_of_eq t.isLt N_0
  have h4 : t'.val < 32 := lt_of_lt_of_eq t'.isLt N_0
  exact absurd (Fin.ext (by omega)) hne

theorem final12 (u : Fin 8) (l : Fin 128) :
    ((dats m 0 c).arrAt 12 cfg0.N : FVec Ideal S8x128 .f32) (ix2 u l) = ∑ i ∈ Finset.range 32, lsG m c i := by
  have hf : (cfg0.win 12).flush (pt 31 (by decide)) = true := (flush0_12 _).mpr rfl
  have hb := congrFun ((dats m 0 c).read_blk_arrAt_eq_flushed 12 disjoint12 cfg0.N (pt 31 (by decide)) (pt 31 (by decide)).isLt hf) (ix2 u l)
  rw [Value.flushed12] at hb
  refine Eq.trans ?_ (hb.trans (pt_12 m c u l 31 (by decide)))
  rw [View.read_apply]
  congr 1
  exact (pos2 (idx12 (pt 31 (by decide))) 0 0 8 128 u.val l.val u.val l.val rfl rfl rfl rfl (by omega) (by omega)).symm
end

end Cert.MidIdeal.Block

end
-- ==== Proof.MidRef.lean ====
/- The seven results of the reference of the gate, loss and head-gradient kernel, element by element. -/
module

public import proofs.«01_k».proof.Proof.MidArray
public import proofs.«01_k».proof.Proof.Gen.MidRefIdeal.Run

@[expose] public section

set_option maxRecDepth 16384

noncomputable section

namespace Cert.MidRefIdeal.Val

open Cert.MidRefIdeal Cert.MidRefIdeal.Gen Cert.MidRefIdeal.Value Idealize.ShloMosaic Idealize.ShloMosaic.TcCoe Cert.Online
open Cert.MidIdeal.Block (si sg dsi κ κ₂ oG yG eG dhG dyG doG dgG dlG sqG col)

variable (a0 a1 : FVec Ideal S8192x1024 .f32) (a2 : FVec Ideal S8x8192x128 .f32) (a3 : FVec Ideal S4x8192x128 .f32)
  (a4 : FVec Ideal S8192x1536 .f32) (a5 : FVec Ideal S1536x1024 .bf16)

/-- The reference's intermediate arrays. -/
abbrev one : FVec Ideal S8192x1536 .f32 := broadcastInDim S8192x1536 ![] bcast_S_S8192x1536 (constant S_ .f32 0x3F800000#32)
def rO : FVec Ideal S8192x1536 .f32 :=
  shapeCast _ (transpose S8192x12x128 [1, 0, 2] (fn_main_v1 (F := Ideal) a2 a3) transposes_S12x8192x128_S8192x12x128_1_0_2) shapeCasts_S8192x12x128_S8192x1536
def rSig : FVec Ideal S8192x1536 .f32 := Host.divf one (addf one (Host.exp (Host.negf a4)))
def rSilu : FVec Ideal S8192x1536 .f32 := mulf a4 (rSig a4)
def rY : FVec Ideal S8192x1536 .f32 := mulf (rO a2 a3) (rSilu a4)
def rE : FVec Ideal S8192x1024 .f32 :=
  subf (addf a0 (Host.dotGeneral dot_S8192x1536_S1536x1024_S8192x1024_1_0_0_1_n_n none (rY a2 a3 a4) (extf .f32 a5 bitsLt_bf16_f32))) a1
def rDh : FVec Ideal S8192x1024 .f32 := Host.divf (rE a0 a1 a2 a3 a4 a5) (broadcastInDim S8192x1024 ![] bcast_S_S8192x1024 (constant S_ .f32 0x44800000#32))
def rDy : FVec Ideal S8192x1536 .f32 :=
  Host.dotGeneral dot_S8192x1024_S1536x1024_S8192x1536_1_1_0_0_n_n none (rDh a0 a1 a2 a3 a4 a5) (extf .f32 a5 bitsLt_bf16_f32)
def rDo : FVec Ideal S8192x1536 .f32 := mulf (rDy a0 a1 a2 a3 a4 a5) (rSilu a4)
def rDg : FVec Ideal S8192x1536 .f32 := mulf (mulf (rDy a0 a1 a2 a3 a4 a5) (rO a2 a3)) (mulf (rSig a4) (addf one (mulf a4 (subf one (rSig a4)))))
def rHd (x : FVec Ideal S8192x1536 .f32) : FVec Ideal S12x8192x128 .f32 :=
  transpose S12x8192x128 [1, 0, 2] (shapeCast _ x shapeCasts_S8192x1536_S8192x12x128) transposes_S8192x12x128_S12x8192x128_1_0_2

/-- The divisor and the factors. -/
theorem ofBits_1024 : Ideal.ofBits .f32 0x44800000#32 = ((1024 : ℝ) : EReal) := by
  simp [Ideal.ofBits, Ideal.ieee, -EReal.coe_mul]; norm_num
theorem κ_eq : κ = ((1 / 1024 : ℝ) : EReal) := by
  unfold κ
  simp [Ideal.ofBits, Ideal.ieee, -EReal.coe_mul]; norm_num
theorem κ₂_eq : κ₂ = ((1 / 2048 : ℝ) : EReal) := by
  unfold κ₂
  simp [Ideal.ofBits, Ideal.ieee, -EReal.coe_mul]; norm_num
theorem ofBits_half : Ideal.ofBits .f32 0x3F000000#32 = ((1 / 2 : ℝ) : EReal) := by
  simp [Ideal.ofBits, Ideal.ieee, -EReal.coe_mul]; norm_num

theorem concat_apply (h : Fin 12) (s : Fin 8192) (d : Fin 128) : fn_main_v1 (F := Ideal) a2 a3 (ix3 h s d)
    = if hh : h.val < 8 then a2 (ix3 ⟨h.val, hh⟩ s d) else a3 (ix3 ⟨h.val - 8, by have := h.isLt; omega⟩ s d) := by
  unfold fn_main_v1
  pointwise
theorem rO_apply (s : Fin 8192) (n : Fin 1536) : rO a2 a3 (ix2 s n) = oG a2 a3 s n := by
  unfold rO oG
  pointwise
  exact concat_apply a2 a3 _ _ _
theorem rSig_apply (s : Fin 8192) (n : Fin 1536) : rSig a4 (ix2 s n) = sg (a4 (ix2 s n)) := by
  unfold rSig one sg
  pointwise
  rw [zero_sub]
theorem rSilu_apply (s : Fin 8192) (n : Fin 1536) : rSilu a4 (ix2 s n) = si (a4 (ix2 s n)) := by
  unfold si
  rw [← rSig_apply]
  rfl
theorem rHd_apply (x : FVec Ideal S8192x1536 .f32) (h : Fin 12) (s : Fin 8192) (d : Fin 128) : rHd x (ix3 h s d) = x (ix2 s (col h.val h.isLt d)) := by
  unfold rHd
  pointwise
  congr 2
  exact Fin.ext (by show h.val * 128 + d.val = 128 * h.val + d.val; omega)
theorem rY_apply (s : Fin 8192) (n : Fin 1536) : rY a2 a3 a4 (ix2 s n) = yG a2 a3 a4 s n := by
  unfold yG
  rw [← rO_apply, ← rSilu_apply]
  rfl
theorem rE_apply (s : Fin 8192) (d : Fin 1024) : rE a0 a1 a2 a3 a4 a5 (ix2 s d) = eG a0 a1 a2 a3 a4 a5 s d := by
  unfold rE eG
  pointwise
  simp only [rY_apply]
theorem rDh_apply (s : Fin 8192) (d : Fin 1024) : rDh a0 a1 a2 a3 a4 a5 (ix2 s d) = dhG a0 a1 a2 a3 a4 a5 s d := by
  unfold rDh dhG
  pointwise
  rw [rE_apply, ofBits_1024, Ideal.div_coe (by norm_num), κ_eq]
theorem rDy_apply (s : Fin 8192) (n : Fin 1536) : rDy a0 a1 a2 a3 a4 a5 (ix2 s n) = dyG a0 a1 a2 a3 a4 a5 s n := by
  unfold rDy dyG
  pointwise
  simp only [rDh_apply]
theorem rDo_apply (s : Fin 8192) (n : Fin 1536) : rDo a0 a1 a2 a3 a4 a5 (ix2 s n) = doG a0 a1 a2 a3 a4 a5 s n := by
  unfold doG
  rw [← rDy_apply, ← rSilu_apply]
  rfl
theorem rDg_apply (s : Fin 8192) (n : Fin 1536) : rDg a0 a1 a2 a3 a4 a5 (ix2 s n) = dgG a0 a1 a2 a3 a4 a5 s n := by
  unfold rDg one dgG dsi
  pointwise
  rw [rDy_apply, rO_apply, rSig_apply]

/-- The seven results as the reference's run gives them. -/
def res6 : FVec Ideal S8192x1536 .bf16 := truncf .bf16 (rY a2 a3 a4) bitsLt_bf16_f32
def res8 : FVec Ideal S8192x1536 .bf16 := truncf .bf16 (rDg a0 a1 a2 a3 a4 a5) bitsLt_bf16_f32
def res9 : FVec Ideal S8x8192x128 .bf16 :=
  extractStridedSlice S8x8192x128 ![0, 0, 0] (truncf .bf16 (rHd (rDo a0 a1 a2 a3 a4 a5)) bitsLt_bf16_f32) slices_S12x8192x128_S8x8192x128_0_0_0
def res10 : FVec Ideal S4x8192x128 .bf16 :=
  extractStridedSlice S4x8192x128 ![8, 0, 0] (truncf .bf16 (rHd (rDo a0 a1 a2 a3 a4 a5)) bitsLt_bf16_f32) slices_S12x8192x128_S4x8192x128_8_0_0
def res11 : FVec Ideal S12x8192x1 .f32 :=
  broadcastInDim S12x8192x1 ![0, 1] bcast_S12x8192_S12x8192x1_0_1
    (Host.reduceAdd (rHd (mulf (rDo a0 a1 a2 a3 a4 a5) (rO a2 a3))) (constant S_ .f32 0x00000000#32) reducesTo_S12x8192x128_S12x8192_d2 h_S_)
def res12 : FVec Ideal S8x128 .f32 :=
  broadcastInDim S8x128 ![] bcast_S_S8x128 (mulf (constant S_ .f32 0x3F000000#32)
    (Host.reduceAdd (Host.divf (Host.reduceAdd (mulf (rE a0 a1 a2 a3 a4 a5) (rE a0 a1 a2 a3 a4 a5)) (constant S_ .f32 0x00000000#32) reducesTo_S8192x1024_S8192_d1 h_S_)
      (broadcastInDim S8192 ![] bcast_S_S8192 (constant S_ .f32 0x44800000#32))) (constant S_ .f32 0x00000000#32) reducesTo_S8192_S_d0 h_S_))

theorem res6_apply (s : Fin 8192) (n : Fin 1536) : res6 a2 a3 a4 (ix2 s n) = yG a2 a3 a4 s n := rY_apply a2 a3 a4 s n
theorem res8_apply (s : Fin 8192) (n : Fin 1536) : res8 a0 a1 a2 a3 a4 a5 (ix2 s n) = dgG a0 a1 a2 a3 a4 a5 s n := rDg_apply a0 a1 a2 a3 a4 a5 s n
theorem res9_apply (h : Fin 8) (s : Fin 8192) (d : Fin 128) :
    res9 a0 a1 a2 a3 a4 a5 (ix3 h s d) = doG a0 a1 a2 a3 a4 a5 s (col (0 + h.val) (by have := h.isLt; omega) d) := by
  unfold res9
  pointwise
  rw [rHd_apply, rDo_apply]
theorem res10_apply (h : Fin 4) (s : Fin 8192) (d : Fin 128) :
    res10 a0 a1 a2 a3 a4 a5 (ix3 h s d) = doG a0 a1 a2 a3 a4 a5 s (col (8 + h.val) (by have := h.isLt; omega) d) := by
  unfold res10
  pointwise
  rw [rHd_apply, rDo_apply]
theorem res11_apply (h : Fin 12) (s : Fin 8192) : res11 a0 a1 a2 a3 a4 a5 (ix3 h s 0) = dlG a0 a1 a2 a3 a4 a5 h s := by
  unfold res11 dlG
  pointwise
  simp only [rHd_apply]
  refine Finset.sum_congr rfl fun d _ => ?_
  rw [← rDo_apply, ← rO_apply]
  rfl
theorem res12_apply (u : Fin 8) (l : Fin 128) : res12 a0 a1 a2 a3 a4 a5 (ix2 u l) = (∑ s : Fin 8192, sqG a0 a1 a2 a3 a4 a5 s) * κ₂ := by
  unfold res12
  pointwise
  unfold sqG
  simp only [rE_apply, ofBits_1024, Ideal.div_coe (show (1024 : ℝ) ≠ 0 by norm_num), ofBits_half]
  rw [mul_comm _ κ₂, κ₂_eq, coe_mul_sum _ _ (by norm_num), coe_mul_sum _ _ (by norm_num)]
  refine Finset.sum_congr rfl fun s _ => ?_
  rw [mul_comm _ ((1 / 1024 : ℝ) : EReal), ← mul_assoc, ← EReal.coe_mul]
  norm_num

end Cert.MidRefIdeal.Val

end
-- ==== Proof.MidClaim.lean ====
/- The gate, loss and head-gradient kernel computes the reference's seven arrays. -/
module

public import proofs.«01_k».proof.Proof.MidRef
public import proofs.«01_k».proof.Defs

@[expose] public section

set_option maxRecDepth 16384

noncomputable section

namespace Cert.MidProof

open Idealize.ShloMosaic Idealize.ShloMosaic.TcCoe Idealize.SL.Sem Cert.Online Cert.MidIdeal.Block Cert.MidRefIdeal.Val

section
variable (m : (ℓ : Loc Cert.MidIdeal.nD Cert.MidIdeal.τ Cert.MidIdeal.sig) → Buf (Elt Ideal) ℓ) (c : Dev Cert.MidIdeal.nD)

theorem eq6 : ((Cert.MidIdeal.Gen.dats m 0 c).arrAt 6 Cert.MidIdeal.cfg0.N : FVec Ideal Cert.MidIdeal.S8192x1536 .bf16)
    = res6 (arg2 m c) (arg3 m c) (arg4 m c) := by
  refine ext2 _ _ fun s n => ?_
  exact (final6 m c s n).trans (res6_apply _ _ _ s n).symm

theorem eq7 : ((Cert.MidIdeal.Gen.dats m 0 c).arrAt 7 Cert.MidIdeal.cfg0.N : FVec Ideal Cert.MidIdeal.S8192x1024 .f32)
    = rDh (arg0 m c) (arg1 m c) (arg2 m c) (arg3 m c) (arg4 m c) (arg5 m c) := by
  refine ext2 _ _ fun s n => ?_
  exact (final7 m c s n).trans (rDh_apply _ _ _ _ _ _ s n).symm

theorem eq8 : ((Cert.MidIdeal.Gen.dats m 0 c).arrAt 8 Cert.MidIdeal.cfg0.N : FVec Ideal Cert.MidIdeal.S8192x1536 .bf16)
    = res8 (arg0 m c) (arg1 m c) (arg2 m c) (arg3 m c) (arg4 m c) (arg5 m c) := by
  refine ext2 _ _ fun s n => ?_
  exact (final8 m c s n).trans (res8_apply _ _ _ _ _ _ s n).symm

theorem eq9 : ((Cert.MidIdeal.Gen.dats m 0 c).arrAt 9 Cert.MidIdeal.cfg0.N : FVec Ideal Cert.MidIdeal.S8x8192x128 .bf16)
    = res9 (arg0 m c) (arg1 m c) (arg2 m c) (arg3 m c) (arg4 m c) (arg5 m c) := by
  refine ext3 _ _ fun h s d => ?_
  exact (final9 m c h s d).trans (res9_apply _ _ _ _ _ _ h s d).symm

theorem eq10 : ((Cert.MidIdeal.Gen.dats m 0 c).arrAt 10 Cert.MidIdeal.cfg0.N : FVec Ideal Cert.MidIdeal.S4x8192x128 .bf16)
    = res10 (arg0 m c) (arg1 m c) (arg2 m c) (arg3 m c) (arg4 m c) (arg5 m c) := by
  refine ext3 _ _ fun h s d => ?_
  exact (final10 m c h s d).trans (res10_apply _ _ _ _ _ _ h s d).symm

theorem eq11 : ((Cert.MidIdeal.Gen.dats m 0 c).arrAt 11 Cert.MidIdeal.cfg0.N : FVec Ideal Cert.MidIdeal.S12x8192x1 .f32)
    = res11 (arg0 m c) (arg1 m c) (arg2 m c) (arg3 m c) (arg4 m c) (arg5 m c) := by
  refine ext3 _ _ fun h s d => ?_
  rw [Subsingleton.elim d 0]
  exact (final11 m c h s).trans (res11_apply _ _ _ _ _ _ h s).symm

theorem loss_sum : ∑ i ∈ Finset.range 32, lsG m c i
    = (∑ s : Fin 8192, sqG (arg0 m c) (arg1 m c) (arg2 m c) (arg3 m c) (arg4 m c) (arg5 m c) s) * κ₂ := by
  rw [sum_blocks256, Finset.sum_range, mul_comm _ κ₂, κ₂_eq, coe_mul_sum _ _ (by norm_num)]
  refine Finset.sum_congr rfl fun j _ => ?_
  unfold lsG
  rw [dif_pos j.isLt, mul_comm _ κ₂, κ₂_eq]

theorem eq12 : ((Cert.MidIdeal.Gen.dats m 0 c).arrAt 12 Cert.MidIdeal.cfg0.N : FVec Ideal Cert.MidIdeal.S8x128 .f32)
    = res12 (arg0 m c) (arg1 m c) (arg2 m c) (arg3 m c) (arg4 m c) (arg5 m c) := by
  refine ext2 _ _ fun u l => ?_
  exact (final12 m c u l).trans ((loss_sum m c).trans (res12_apply _ _ _ _ _ _ u l).symm)
end

theorem algebraic : Cert.algebraic_MidIdeal_MidRefIdeal (hMidIdeal := Cert.MidIdeal.Gen.facts)
    (hMidRefIdeal := Cert.MidRefIdeal.Gen.facts) := by
  intro m g m' g' _ hargs
  refine ⟨_, _, _, _, _, _, _, Cert.MidIdeal.Value.run_blocks m g, ?_⟩
  refine (θ_run _ _ _).mono ?_ (Cert.MidRefIdeal.Value.run m' g')
  intro r hr c
  obtain ⟨h6, h7, h8, h9, h10, h11, h12, hk⟩ := hr c
  obtain ⟨a0, a1, a2, a3, a4, a5⟩ := hargs c
  refine ⟨h6.trans ?_, h7.trans ?_, h8.trans ?_, h9.trans ?_, h10.trans ?_, h11.trans ?_, h12.trans ?_, hk⟩
  · rw [a2, a3, a4]
    exact (eq6 m c).symm
  · rw [a0, a1, a2, a3, a4, a5]
    exact (eq7 m c).symm
  · rw [a0, a1, a2, a3, a4, a5]
    exact (eq8 m c).symm
  · rw [a0, a1, a2, a3, a4, a5]
    exact (eq9 m c).symm
  · rw [a0, a1, a2, a3, a4, a5]
    exact (eq10 m c).symm
  · rw [a0, a1, a2, a3, a4, a5]
    exact (eq11 m c).symm
  · rw [a0, a1, a2, a3, a4, a5]
    exact (eq12 m c).symm

end Cert.MidProof

end
-- ==== Proof.AdamVal.lean ====
/- The AdamW kernel: its three result arrays as one function of the packed arrays, and the packing as a layout of values
   of any type, so that a function of elements passes through it. -/
module

public import proofs.«01_k».proof.Proof.Online
public import proofs.«01_k».proof.Proof.Gen.AdamIdeal.Value

@[expose] public section

set_option maxRecDepth 16384

noncomputable section

namespace Cert.AdamIdeal.Val

open Cert.AdamIdeal Cert.AdamIdeal.Gen Idealize.ShloMosaic Idealize.ShloMosaic.TcCoe Cert.Online

/-! ## The packing -/

section
variable {α β : Type} (φ : α → β)

theorem sizes_map (t : Shape) (a : Fin t.rank) (xs : List ((s : Shape) × (s.Idx → α))) :
    axisSizes t a (xs.map fun p => (⟨p.1, fun i => φ (p.2 i)⟩ : (s : Shape) × (s.Idx → β))) = axisSizes t a xs := by
  unfold axisSizes
  simp only [List.map_map]
  rfl

theorem catAt_map (t : Shape) (a : Fin t.rank) (j : t.Idx) : ∀ (xs : List ((s : Shape) × (s.Idx → α)))
    (hs : ∀ s ∈ xs.map (·.1), s.FitsOff t a)
    (hs' : ∀ s ∈ (xs.map fun p => (⟨p.1, fun i => φ (p.2 i)⟩ : (s : Shape) × (s.Idx → β))).map (·.1), s.FitsOff t a)
    (c : ℕ) (hc : c < (axisSizes t a xs).sum)
    (hc' : c < (axisSizes t a (xs.map fun p => (⟨p.1, fun i => φ (p.2 i)⟩ : (s : Shape) × (s.Idx → β)))).sum),
    concatenateAt t a j (xs.map fun p => (⟨p.1, fun i => φ (p.2 i)⟩ : (s : Shape) × (s.Idx → β))) hs' c hc'
      = φ (concatenateAt t a j xs hs c hc)
  | [], _, _, _, hc, _ => absurd hc (Nat.not_lt_zero _)
  | [_], _, _, _, _, _ => rfl
  | p :: q :: xs, hs, hs', c, hc, hc' => by
    have ih := catAt_map t a j (q :: xs) (fun s h => hs s (List.mem_cons_of_mem _ h)) (fun s h => hs' s (List.mem_cons_of_mem _ h))
    simp only [List.map_cons] at ih ⊢
    rw [concatenateAt_cons, concatenateAt_cons]
    split
    · rfl
    · have hd : c - p.1.size (a.cast (hs p.1 List.mem_cons_self).rank_eq.symm) < (axisSizes t a (q :: xs)).sum := by
        rw [axisSizes_cons t a p (q :: xs) (hs p.1 List.mem_cons_self), List.sum_cons] at hc
        omega
      exact ih _ hd ((congrArg List.sum (sizes_map φ t a (q :: xs))).symm ▸ hd)

theorem cat_map (t : Shape) (a : Fin t.rank) (xs : List ((s : Shape) × (s.Idx → α)))
    (h : Shape.Concatenates (xs.map (·.1)) t a)
    (h' : Shape.Concatenates ((xs.map fun p => (⟨p.1, fun i => φ (p.2 i)⟩ : (s : Shape) × (s.Idx → β))).map (·.1)) t a) (j : t.Idx) :
    concatenate t a (xs.map fun p => (⟨p.1, fun i => φ (p.2 i)⟩ : (s : Shape) × (s.Idx → β))) h' j = φ (concatenate t a xs h j) := by
  rw [concatenate_apply, concatenate_apply]
  exact catAt_map φ t a j xs _ _ _ _ _
end

section
variable {α : Type} (z : α) (x0 : S1x1024.Idx → α) (x1 : S1x1024x616.Idx → α) (x2 x3 : S1x64.Idx → α) (x4 : S1x384.Idx → α)
  (x5 : S1x256.Idx → α) (x6 : S1x96x384.Idx → α) (x7 : S1x256x192.Idx → α) (x8 x9 : S1x96.Idx → α) (x10 : S1x256x1024.Idx → α)

/-- The seven vectors end to end. -/
def vecs : S1984.Idx → α :=
  concatenate S1984 0 [⟨S1024, shapeCast S1024 x0 shapeCasts_S1x1024_S1024⟩, ⟨S64, shapeCast S64 x2 shapeCasts_S1x64_S64⟩,
    ⟨S64, shapeCast S64 x3 shapeCasts_S1x64_S64⟩, ⟨S384, shapeCast S384 x4 shapeCasts_S1x384_S384⟩,
    ⟨S256, shapeCast S256 x5 shapeCasts_S1x256_S256⟩, ⟨S96, shapeCast S96 x8 shapeCasts_S1x96_S96⟩,
    ⟨S96, shapeCast S96 x9 shapeCasts_S1x96_S96⟩] concatenates_S1024_S64_S64_S384_S256_S96_S96_S1984_d0
/-- Filled up to sixteen rows. -/
def vecs' : S2048.Idx → α :=
  concatenate S2048 0 [⟨S1984, vecs x0 x2 x3 x4 x5 x8 x9⟩, ⟨S64, fun _ => z⟩] concatenates_S1984_S64_S2048_d0
/-- The eleven arrays in rows of 128, filled up with `z`. -/
def pk : S7680x128.Idx → α :=
  concatenate S7680x128 0 [⟨S4928x128, shapeCast S4928x128 (shapeCast S1024x616 x1 shapeCasts_S1x1024x616_S1024x616) shapeCasts_S1024x616_S4928x128⟩,
    ⟨S288x128, shapeCast S288x128 (shapeCast S96x384 x6 shapeCasts_S1x96x384_S96x384) shapeCasts_S96x384_S288x128⟩,
    ⟨S384x128, shapeCast S384x128 (shapeCast S256x192 x7 shapeCasts_S1x256x192_S256x192) shapeCasts_S256x192_S384x128⟩,
    ⟨S2048x128, shapeCast S2048x128 (shapeCast S256x1024 x10 shapeCasts_S1x256x1024_S256x1024) shapeCasts_S256x1024_S2048x128⟩,
    ⟨S16x128, shapeCast S16x128 (vecs' z x0 x2 x3 x4 x5 x8 x9) shapeCasts_S2048_S16x128⟩, ⟨S16x128, fun _ => z⟩]
    concatenates_S4928x128_S288x128_S384x128_S2048x128_S16x128_S16x128_S7680x128_d0

variable {β : Type} (φ : α → β)

theorem vecs_map (j : S1984.Idx) : vecs (fun i => φ (x0 i)) (fun i => φ (x2 i)) (fun i => φ (x3 i)) (fun i => φ (x4 i))
    (fun i => φ (x5 i)) (fun i => φ (x8 i)) (fun i => φ (x9 i)) j = φ (vecs x0 x2 x3 x4 x5 x8 x9 j) :=
  cat_map φ S1984 0 [⟨S1024, shapeCast S1024 x0 shapeCasts_S1x1024_S1024⟩, ⟨S64, shapeCast S64 x2 shapeCasts_S1x64_S64⟩,
    ⟨S64, shapeCast S64 x3 shapeCasts_S1x64_S64⟩, ⟨S384, shapeCast S384 x4 shapeCasts_S1x384_S384⟩,
    ⟨S256, shapeCast S256 x5 shapeCasts_S1x256_S256⟩, ⟨S96, shapeCast S96 x8 shapeCasts_S1x96_S96⟩,
    ⟨S96, shapeCast S96 x9 shapeCasts_S1x96_S96⟩] concatenates_S1024_S64_S64_S384_S256_S96_S96_S1984_d0 concatenates_S1024_S64_S64_S384_S256_S96_S96_S1984_d0 j

theorem vecs'_map (j : S2048.Idx) : vecs' (φ z) (fun i => φ (x0 i)) (fun i => φ (x2 i)) (fun i => φ (x3 i)) (fun i => φ (x4 i))
    (fun i => φ (x5 i)) (fun i => φ (x8 i)) (fun i => φ (x9 i)) j = φ (vecs' z x0 x2 x3 x4 x5 x8 x9 j) := by
  unfold vecs'
  rw [show vecs (fun i => φ (x0 i)) (fun i => φ (x2 i)) (fun i => φ (x3 i)) (fun i => φ (x4 i)) (fun i => φ (x5 i))
    (fun i => φ (x8 i)) (fun i => φ (x9 i)) = fun j => φ (vecs x0 x2 x3 x4 x5 x8 x9 j) from funext fun j => vecs_map x0 x2 x3 x4 x5 x8 x9 φ j]
  exact cat_map φ S2048 0 [⟨S1984, vecs x0 x2 x3 x4 x5 x8 x9⟩, ⟨S64, fun _ => z⟩] _ concatenates_S1984_S64_S2048_d0 j

theorem pk_map (j : S7680x128.Idx) : pk (φ z) (fun i => φ (x0 i)) (fun i => φ (x1 i)) (fun i => φ (x2 i)) (fun i => φ (x3 i))
    (fun i => φ (x4 i)) (fun i => φ (x5 i)) (fun i => φ (x6 i)) (fun i => φ (x7 i)) (fun i => φ (x8 i)) (fun i => φ (x9 i))
    (fun i => φ (x10 i)) j = φ (pk z x0 x1 x2 x3 x4 x5 x6 x7 x8 x9 x10 j) := by
  unfold pk
  rw [show vecs' (φ z) (fun i => φ (x0 i)) (fun i => φ (x2 i)) (fun i => φ (x3 i)) (fun i => φ (x4 i)) (fun i => φ (x5 i))
    (fun i => φ (x8 i)) (fun i => φ (x9 i)) = fun j => φ (vecs' z x0 x2 x3 x4 x5 x8 x9 j) from funext fun j => vecs'_map z x0 x2 x3 x4 x5 x8 x9 φ j]
  exact cat_map φ S7680x128 0
    [⟨S4928x128, shapeCast S4928x128 (shapeCast S1024x616 x1 shapeCasts_S1x1024x616_S1024x616) shapeCasts_S1024x616_S4928x128⟩,
    ⟨S288x128, shapeCast S288x128 (shapeCast S96x384 x6 shapeCasts_S1x96x384_S96x384) shapeCasts_S96x384_S288x128⟩,
    ⟨S384x128, shapeCast S384x128 (shapeCast S256x192 x7 shapeCasts_S1x256x192_S256x192) shapeCasts_S256x192_S384x128⟩,
    ⟨S2048x128, shapeCast S2048x128 (shapeCast S256x1024 x10 shapeCasts_S1x256x1024_S256x1024) shapeCasts_S256x1024_S2048x128⟩,
    ⟨S16x128, shapeCast S16x128 (vecs' z x0 x2 x3 x4 x5 x8 x9) shapeCasts_S2048_S16x128⟩, ⟨S16x128, fun _ => z⟩]
    _ concatenates_S4928x128_S288x128_S384x128_S2048x128_S16x128_S16x128_S7680x128_d0 j
end

/-! ## The step of one element -/

/-- The new first moment, the new second moment, the change of the weight. -/
def nm (g m : EReal) : EReal := Ideal.ofBits .f32 0x3F666666#32 * m + Ideal.ofBits .f32 0x3DCCCCCD#32 * g
def nv (g v : EReal) : EReal := Ideal.ofBits .f32 0x3F7FBE77#32 * v + Ideal.ofBits .f32 0x3A83126F#32 * (g * g)
def dl (w g m v : EReal) : EReal :=
  Ideal.ofBits .f32 0xBA83126F#32 * (Ideal.div (Ideal.div (nm g m) (Ideal.ofBits .f32 0x3F26BD02#32))
      (Ideal.sqrt (Ideal.div (nv g v) (Ideal.ofBits .f32 0x3C231ACC#32)) + Ideal.ofBits .f32 0x322BCC77#32)
    + Ideal.ofBits .f32 0x3C23D70A#32 * w)

section
variable (x0 x1 x2 x3 : Vec Ideal S1536x128 .f32) (r : Fin 1536) (l : Fin 128)

theorem pay2_apply : k0_pay2 x1 x2 (ix2 r l) = nm (x1 (ix2 r l)) (x2 (ix2 r l)) := by
  unfold nm
  pointwise [k0_pay2, k0_pay1]
theorem pay3_apply : k0_pay3 x1 x3 (ix2 r l) = nv (x1 (ix2 r l)) (x3 (ix2 r l)) := by
  unfold nv
  pointwise [k0_pay3, k0_pay1]
theorem pay4_apply : k0_pay4 x1 x2 x3 x0 (ix2 r l) = dl (x0 (ix2 r l)) (x1 (ix2 r l)) (x2 (ix2 r l)) (x3 (ix2 r l)) := by
  unfold dl nm nv
  pointwise [k0_pay4, k0_pay3, k0_pay2, k0_pay1]

theorem hz : (![0, 0] : Fin 2 → Nat) = fun _ => 0 := funext fun a => by fin_cases a <;> rfl

theorem out4_apply : out0_4 x0 x1 x2 x3 (ix2 r l) = dl (x0 (ix2 r l)) (x1 (ix2 r l)) (x2 (ix2 r l)) (x3 (ix2 r l)) := by
  unfold out0_4
  simp only [r0_0, View.ld_unit_zero (S := S1536x128) hz]
  rw [View.canon_unit_zero hz, pay4_apply]
theorem out5_apply : out0_5 x0 x1 x2 x3 (ix2 r l) = nm (x1 (ix2 r l)) (x2 (ix2 r l)) := by
  unfold out0_5
  simp only [r0_0, View.ld_unit_zero (S := S1536x128) hz]
  rw [View.canon_unit_zero hz, pay2_apply]
theorem out6_apply : out0_6 x0 x1 x2 x3 (ix2 r l) = nv (x1 (ix2 r l)) (x3 (ix2 r l)) := by
  unfold out0_6
  simp only [r0_0, View.ld_unit_zero (S := S1536x128) hz]
  rw [View.canon_unit_zero hz, pay3_apply]
end

/-! ## The whole arrays -/

section
variable (m : (ℓ : Loc nD τ sig) → Buf (Elt Ideal) ℓ) (c : Dev nD)

/-- The packed weights, gradients, first and second moments. -/
abbrev pW : FVec Ideal S7680x128 .f32 := V m c main_v20
abbrev pG : FVec Ideal S7680x128 .f32 := V m c main_v41
abbrev pM : FVec Ideal S7680x128 .f32 := V m c main_v62
abbrev pV : FVec Ideal S7680x128 .f32 := V m c main_v83

abbrev pt (j : ℕ) (hj : j < 5) : Fin cfg0.N := ⟨j, by rw [show cfg0.N = 5 from N_0]; omega⟩
abbrev at1536 (j : ℕ) (hj : j < 5) (r : Fin 1536) : Fin 7680 := ⟨1536 * j + r.val, by have := r.isLt; omega⟩
theorem idx0 : ∀ t : Fin cfg0.N, win0_0.index t = ![t.val, 0] := by decide +kernel
theorem idx1 : ∀ t : Fin cfg0.N, win0_1.index t = ![t.val, 0] := by decide +kernel
theorem idx2 : ∀ t : Fin cfg0.N, win0_2.index t = ![t.val, 0] := by decide +kernel
theorem idx3 : ∀ t : Fin cfg0.N, win0_3.index t = ![t.val, 0] := by decide +kernel
theorem idx4 : ∀ t : Fin cfg0.N, win0_4.index t = ![t.val, 0] := by decide +kernel
theorem idx5 : ∀ t : Fin cfg0.N, win0_5.index t = ![t.val, 0] := by decide +kernel
theorem idx6 : ∀ t : Fin cfg0.N, win0_6.index t = ![t.val, 0] := by decide +kernel

theorem iblk0_apply (j : ℕ) (hj : j < 5) (r : Fin 1536) (l : Fin 128) :
    (iblk m c 0 (pt j hj) : Vec Ideal S1536x128 .f32) (ix2 r l) = pW m c (ix2 (at1536 j hj r) l) := by
  unfold iblk
  rw [View.read_apply]
  show V m c main_v20 _ = V m c main_v20 _
  congr 1
  funext a
  apply Fin.ext
  have hi := idx0 (pt j hj)
  match a with
  | ⟨0, _⟩ => show win0_0.index (pt j hj) 0 * 1536 + 1 * r.val = 1536 * j + r.val
              rw [hi]; show j * 1536 + 1 * r.val = 1536 * j + r.val; omega
  | ⟨1, _⟩ => show win0_0.index (pt j hj) 1 * 128 + 1 * l.val = l.val
              rw [hi]; show 0 * 128 + 1 * l.val = l.val; omega

theorem iblk1_apply (j : ℕ) (hj : j < 5) (r : Fin 1536) (l : Fin 128) :
    (iblk m c 1 (pt j hj) : Vec Ideal S1536x128 .f32) (ix2 r l) = pG m c (ix2 (at1536 j hj r) l) := by
  unfold iblk
  rw [View.read_apply]
  show V m c main_v41 _ = V m c main_v41 _
  congr 1
  funext a
  apply Fin.ext
  have hi := idx1 (pt j hj)
  match a with
  | ⟨0, _⟩ => show win0_1.index (pt j hj) 0 * 1536 + 1 * r.val = 1536 * j + r.val
              rw [hi]; show j * 1536 + 1 * r.val = 1536 * j + r.val; omega
  | ⟨1, _⟩ => show win0_1.index (pt j hj) 1 * 128 + 1 * l.val = l.val
              rw [hi]; show 0 * 128 + 1 * l.val = l.val; omega

theorem iblk2_apply (j : ℕ) (hj : j < 5) (r : Fin 1536) (l : Fin 128) :
    (iblk m c 2 (pt j hj) : Vec Ideal S1536x128 .f32) (ix2 r l) = pM m c (ix2 (at1536 j hj r) l) := by
  unfold iblk
  rw [View.read_apply]
  show V m c main_v62 _ = V m c main_v62 _
  congr 1
  funext a
  apply Fin.ext
  have hi := idx2 (pt j hj)
  match a with
  | ⟨0, _⟩ => show win0_2.index (pt j hj) 0 * 1536 + 1 * r.val = 1536 * j + r.val
              rw [hi]; show j * 1536 + 1 * r.val = 1536 * j + r.val; omega
  | ⟨1, _⟩ => show win0_2.index (pt j hj) 1 * 128 + 1 * l.val = l.val
              rw [hi]; show 0 * 128 + 1 * l.val = l.val; omega

theorem iblk3_apply (j : ℕ) (hj : j < 5) (r : Fin 1536) (l : Fin 128) :
    (iblk m c 3 (pt j hj) : Vec Ideal S1536x128 .f32) (ix2 r l) = pV m c (ix2 (at1536 j hj r) l) := by
  unfold iblk
  rw [View.read_apply]
  show V m c main_v83 _ = V m c main_v83 _
  congr 1
  funext a
  apply Fin.ext
  have hi := idx3 (pt j hj)
  match a with
  | ⟨0, _⟩ => show win0_3.index (pt j hj) 0 * 1536 + 1 * r.val = 1536 * j + r.val
              rw [hi]; show j * 1536 + 1 * r.val = 1536 * j + r.val; omega
  | ⟨1, _⟩ => show win0_3.index (pt j hj) 1 * 128 + 1 * l.val = l.val
              rw [hi]; show 0 * 128 + 1 * l.val = l.val; omega

theorem final4 (r : Fin 7680) (l : Fin 128) : ((dats m 0 c).arrAt 4 cfg0.N : FVec Ideal S7680x128 .f32) (ix2 r l)
    = dl (pW m c (ix2 r l)) (pG m c (ix2 r l)) (pM m c (ix2 r l)) (pV m c (ix2 r l)) := by
  have hj : r.val / 1536 < 5 := by have := r.isLt; omega
  have hb := congrFun (Value.blocks4 m c (pt (r.val / 1536) hj) (flush0_4 _)) (ix2 ⟨r.val % 1536, Nat.mod_lt _ (by decide)⟩ l)
  rw [Value.flushed4] at hb
  refine Eq.trans ?_ (hb.trans ?_)
  · rw [View.read_apply]
    congr 1
    funext a
    apply Fin.ext
    have hi := idx4 (pt (r.val / 1536) hj)
    match a with
    | ⟨0, _⟩ => show r.val = win0_4.index (pt (r.val / 1536) hj) 0 * 1536 + 1 * (r.val % 1536)
                rw [hi]; show r.val = r.val / 1536 * 1536 + 1 * (r.val % 1536); omega
    | ⟨1, _⟩ => show l.val = win0_4.index (pt (r.val / 1536) hj) 1 * 128 + 1 * l.val
                rw [hi]; show l.val = 0 * 128 + 1 * l.val; omega
  · refine (out4_apply _ _ _ _ ⟨r.val % 1536, Nat.mod_lt _ (by decide)⟩ l).trans ?_
    have e : at1536 (r.val / 1536) hj ⟨r.val % 1536, Nat.mod_lt _ (by decide)⟩ = r := Fin.ext (Nat.div_add_mod r.val 1536)
    rw [iblk0_apply m c _ hj, iblk1_apply m c _ hj, iblk2_apply m c _ hj, iblk3_apply m c _ hj, e]

theorem final5 (r : Fin 7680) (l : Fin 128) : ((dats m 0 c).arrAt 5 cfg0.N : FVec Ideal S7680x128 .f32) (ix2 r l)
    = nm (pG m c (ix2 r l)) (pM m c (ix2 r l)) := by
  have hj : r.val / 1536 < 5 := by have := r.isLt; omega
  have hb := congrFun (Value.blocks5 m c (pt (r.val / 1536) hj) (flush0_5 _)) (ix2 ⟨r.val % 1536, Nat.mod_lt _ (by decide)⟩ l)
  rw [Value.flushed5] at hb
  refine Eq.trans ?_ (hb.trans ?_)
  · rw [View.read_apply]
    congr 1
    funext a
    apply Fin.ext
    have hi := idx5 (pt (r.val / 1536) hj)
    match a with
    | ⟨0, _⟩ => show r.val = win0_5.index (pt (r.val / 1536) hj) 0 * 1536 + 1 * (r.val % 1536)
                rw [hi]; show r.val = r.val / 1536 * 1536 + 1 * (r.val % 1536); omega
    | ⟨1, _⟩ => show l.val = win0_5.index (pt (r.val / 1536) hj) 1 * 128 + 1 * l.val
                rw [hi]; show l.val = 0 * 128 + 1 * l.val; omega
  · refine (out5_apply _ _ _ _ ⟨r.val % 1536, Nat.mod_lt _ (by decide)⟩ l).trans ?_
    have e : at1536 (r.val / 1536) hj ⟨r.val % 1536, Nat.mod_lt _ (by decide)⟩ = r := Fin.ext (Nat.div_add_mod r.val 1536)
    rw [iblk1_apply m c _ hj, iblk2_apply m c _ hj, e]

theorem final6 (r : Fin 7680) (l : Fin 128) : ((dats m 0 c).arrAt 6 cfg0.N : FVec Ideal S7680x128 .f32) (ix2 r l)
    = nv (pG m c (ix2 r l)) (pV m c (ix2 r l)) := by
  have hj : r.val / 1536 < 5 := by have := r.isLt; omega
  have hb := congrFun (Value.blocks6 m c (pt (r.val / 1536) hj) (flush0_6 _)) (ix2 ⟨r.val % 1536, Nat.mod_lt _ (by decide)⟩ l)
  rw [Value.flushed6] at hb
  refine Eq.trans ?_ (hb.trans ?_)
  · rw [View.read_apply]
    congr 1
    funext a
    apply Fin.ext
    have hi := idx6 (pt (r.val / 1536) hj)
    match a with
    | ⟨0, _⟩ => show r.val = win0_6.index (pt (r.val / 1536) hj) 0 * 1536 + 1 * (r.val % 1536)
                rw [hi]; show r.val = r.val / 1536 * 1536 + 1 * (r.val % 1536); omega
    | ⟨1, _⟩ => show l.val = win0_6.index (pt (r.val / 1536) hj) 1 * 128 + 1 * l.val
                rw [hi]; show l.val = 0 * 128 + 1 * l.val; omega
  · refine (out6_apply _ _ _ _ ⟨r.val % 1536, Nat.mod_lt _ (by decide)⟩ l).trans ?_
    have e : at1536 (r.val / 1536) hj ⟨r.val % 1536, Nat.mod_lt _ (by decide)⟩ = r := Fin.ext (Nat.div_add_mod r.val 1536)
    rw [iblk1_apply m c _ hj, iblk3_apply m c _ hj, e]
end

end Cert.AdamIdeal.Val

end
-- ==== Proof.AdamClaim.lean ====
/- The packed AdamW step has the results of AdamW weight by weight, laid out in rows of 128. -/
module

public import proofs.«01_k».proof.Proof.AdamVal
public import proofs.«01_k».proof.Proof.Gen.AdamRefIdeal.Run
public import proofs.«01_k».proof.Defs
public import Idealize.ShloMosaic.Lib.StableHlo.RunRead
public import proofs.«01_k».proof.Proof.Rows
public import Idealize.ShloMosaic.Lib.IdealHost

@[expose] public section

set_option maxRecDepth 16384

noncomputable section

namespace Cert.AdamIdeal.Val

open Cert.AdamIdeal Cert.AdamIdeal.Gen Idealize.ShloMosaic Idealize.ShloMosaic.TcCoe Idealize.SL.Sem Cert.Online

/-- The filling of the packed arrays. -/
abbrev z0 : EReal := Ideal.ofBits .f32 0x00000000#32

section
variable (w0 : FVec Ideal S1x1024 .f32) (w1 : FVec Ideal S1x1024x616 .f32) (w2 : FVec Ideal S1x64 .f32) (w3 : FVec Ideal S1x64 .f32) (w4 : FVec Ideal S1x384 .f32) (w5 : FVec Ideal S1x256 .f32) (w6 : FVec Ideal S1x96x384 .f32) (w7 : FVec Ideal S1x256x192 .f32) (w8 : FVec Ideal S1x96 .f32) (w9 : FVec Ideal S1x96 .f32) (w10 : FVec Ideal S1x256x1024 .f32)
  (g0 : FVec Ideal S1x1024 .f32) (g1 : FVec Ideal S1x1024x616 .f32) (g2 : FVec Ideal S1x64 .f32) (g3 : FVec Ideal S1x64 .f32) (g4 : FVec Ideal S1x384 .f32) (g5 : FVec Ideal S1x256 .f32) (g6 : FVec Ideal S1x96x384 .f32) (g7 : FVec Ideal S1x256x192 .f32) (g8 : FVec Ideal S1x96 .f32) (g9 : FVec Ideal S1x96 .f32) (g10 : FVec Ideal S1x256x1024 .f32)
  (m0 : FVec Ideal S1x1024 .f32) (m1 : FVec Ideal S1x1024x616 .f32) (m2 : FVec Ideal S1x64 .f32) (m3 : FVec Ideal S1x64 .f32) (m4 : FVec Ideal S1x384 .f32) (m5 : FVec Ideal S1x256 .f32) (m6 : FVec Ideal S1x96x384 .f32) (m7 : FVec Ideal S1x256x192 .f32) (m8 : FVec Ideal S1x96 .f32) (m9 : FVec Ideal S1x96 .f32) (m10 : FVec Ideal S1x256x1024 .f32)
  (v0 : FVec Ideal S1x1024 .f32) (v1 : FVec Ideal S1x1024x616 .f32) (v2 : FVec Ideal S1x64 .f32) (v3 : FVec Ideal S1x64 .f32) (v4 : FVec Ideal S1x384 .f32) (v5 : FVec Ideal S1x256 .f32) (v6 : FVec Ideal S1x96x384 .f32) (v7 : FVec Ideal S1x256x192 .f32) (v8 : FVec Ideal S1x96 .f32) (v9 : FVec Ideal S1x96 .f32) (v10 : FVec Ideal S1x256x1024 .f32) (j : S7680x128.Idx)

theorem get_w : pk z0 w0 w1 w2 w3 w4 w5 w6 w7 w8 w9 w10 j = (pk (z0, z0, z0, z0) (fun i => (w0 i, g0 i, m0 i, v0 i)) (fun i => (w1 i, g1 i, m1 i, v1 i)) (fun i => (w2 i, g2 i, m2 i, v2 i)) (fun i => (w3 i, g3 i, m3 i, v3 i)) (fun i => (w4 i, g4 i, m4 i, v4 i)) (fun i => (w5 i, g5 i, m5 i, v5 i)) (fun i => (w6 i, g6 i, m6 i, v6 i)) (fun i => (w7 i, g7 i, m7 i, v7 i)) (fun i => (w8 i, g8 i, m8 i, v8 i)) (fun i => (w9 i, g9 i, m9 i, v9 i)) (fun i => (w10 i, g10 i, m10 i, v10 i)) j).1 :=
  pk_map (z0, z0, z0, z0) (fun i => (w0 i, g0 i, m0 i, v0 i)) (fun i => (w1 i, g1 i, m1 i, v1 i)) (fun i => (w2 i, g2 i, m2 i, v2 i)) (fun i => (w3 i, g3 i, m3 i, v3 i)) (fun i => (w4 i, g4 i, m4 i, v4 i)) (fun i => (w5 i, g5 i, m5 i, v5 i)) (fun i => (w6 i, g6 i, m6 i, v6 i)) (fun i => (w7 i, g7 i, m7 i, v7 i)) (fun i => (w8 i, g8 i, m8 i, v8 i)) (fun i => (w9 i, g9 i, m9 i, v9 i)) (fun i => (w10 i, g10 i, m10 i, v10 i)) (fun p => p.1) j

theorem get_g : pk z0 g0 g1 g2 g3 g4 g5 g6 g7 g8 g9 g10 j = (pk (z0, z0, z0, z0) (fun i => (w0 i, g0 i, m0 i, v0 i)) (fun i => (w1 i, g1 i, m1 i, v1 i)) (fun i => (w2 i, g2 i, m2 i, v2 i)) (fun i => (w3 i, g3 i, m3 i, v3 i)) (fun i => (w4 i, g4 i, m4 i, v4 i)) (fun i => (w5 i, g5 i, m5 i, v5 i)) (fun i => (w6 i, g6 i, m6 i, v6 i)) (fun i => (w7 i, g7 i, m7 i, v7 i)) (fun i => (w8 i, g8 i, m8 i, v8 i)) (fun i => (w9 i, g9 i, m9 i, v9 i)) (fun i => (w10 i, g10 i, m10 i, v10 i)) j).2.1 :=
  pk_map (z0, z0, z0, z0) (fun i => (w0 i, g0 i, m0 i, v0 i)) (fun i => (w1 i, g1 i, m1 i, v1 i)) (fun i => (w2 i, g2 i, m2 i, v2 i)) (fun i => (w3 i, g3 i, m3 i, v3 i)) (fun i => (w4 i, g4 i, m4 i, v4 i)) (fun i => (w5 i, g5 i, m5 i, v5 i)) (fun i => (w6 i, g6 i, m6 i, v6 i)) (fun i => (w7 i, g7 i, m7 i, v7 i)) (fun i => (w8 i, g8 i, m8 i, v8 i)) (fun i => (w9 i, g9 i, m9 i, v9 i)) (fun i => (w10 i, g10 i, m10 i, v10 i)) (fun p => p.2.1) j

theorem get_m : pk z0 m0 m1 m2 m3 m4 m5 m6 m7 m8 m9 m10 j = (pk (z0, z0, z0, z0) (fun i => (w0 i, g0 i, m0 i, v0 i)) (fun i => (w1 i, g1 i, m1 i, v1 i)) (fun i => (w2 i, g2 i, m2 i, v2 i)) (fun i => (w3 i, g3 i, m3 i, v3 i)) (fun i => (w4 i, g4 i, m4 i, v4 i)) (fun i => (w5 i, g5 i, m5 i, v5 i)) (fun i => (w6 i, g6 i, m6 i, v6 i)) (fun i => (w7 i, g7 i, m7 i, v7 i)) (fun i => (w8 i, g8 i, m8 i, v8 i)) (fun i => (w9 i, g9 i, m9 i, v9 i)) (fun i => (w10 i, g10 i, m10 i, v10 i)) j).2.2.1 :=
  pk_map (z0, z0, z0, z0) (fun i => (w0 i, g0 i, m0 i, v0 i)) (fun i => (w1 i, g1 i, m1 i, v1 i)) (fun i => (w2 i, g2 i, m2 i, v2 i)) (fun i => (w3 i, g3 i, m3 i, v3 i)) (fun i => (w4 i, g4 i, m4 i, v4 i)) (fun i => (w5 i, g5 i, m5 i, v5 i)) (fun i => (w6 i, g6 i, m6 i, v6 i)) (fun i => (w7 i, g7 i, m7 i, v7 i)) (fun i => (w8 i, g8 i, m8 i, v8 i)) (fun i => (w9 i, g9 i, m9 i, v9 i)) (fun i => (w10 i, g10 i, m10 i, v10 i)) (fun p => p.2.2.1) j

theorem get_v : pk z0 v0 v1 v2 v3 v4 v5 v6 v7 v8 v9 v10 j = (pk (z0, z0, z0, z0) (fun i => (w0 i, g0 i, m0 i, v0 i)) (fun i => (w1 i, g1 i, m1 i, v1 i)) (fun i => (w2 i, g2 i, m2 i, v2 i)) (fun i => (w3 i, g3 i, m3 i, v3 i)) (fun i => (w4 i, g4 i, m4 i, v4 i)) (fun i => (w5 i, g5 i, m5 i, v5 i)) (fun i => (w6 i, g6 i, m6 i, v6 i)) (fun i => (w7 i, g7 i, m7 i, v7 i)) (fun i => (w8 i, g8 i, m8 i, v8 i)) (fun i => (w9 i, g9 i, m9 i, v9 i)) (fun i => (w10 i, g10 i, m10 i, v10 i)) j).2.2.2 :=
  pk_map (z0, z0, z0, z0) (fun i => (w0 i, g0 i, m0 i, v0 i)) (fun i => (w1 i, g1 i, m1 i, v1 i)) (fun i => (w2 i, g2 i, m2 i, v2 i)) (fun i => (w3 i, g3 i, m3 i, v3 i)) (fun i => (w4 i, g4 i, m4 i, v4 i)) (fun i => (w5 i, g5 i, m5 i, v5 i)) (fun i => (w6 i, g6 i, m6 i, v6 i)) (fun i => (w7 i, g7 i, m7 i, v7 i)) (fun i => (w8 i, g8 i, m8 i, v8 i)) (fun i => (w9 i, g9 i, m9 i, v9 i)) (fun i => (w10 i, g10 i, m10 i, v10 i)) (fun p => p.2.2.2) j

include w0 w1 w2 w3 w4 w5 w6 w7 w8 w9 w10 g0 g1 g2 g3 g4 g5 g6 g7 g8 g9 g10 m0 m1 m2 m3 m4 m5 m6 m7 m8 m9 m10 v0 v1 v2 v3 v4 v5 v6 v7 v8 v9 v10 in
theorem lay_dl : dl (pk z0 w0 w1 w2 w3 w4 w5 w6 w7 w8 w9 w10 j) (pk z0 g0 g1 g2 g3 g4 g5 g6 g7 g8 g9 g10 j) (pk z0 m0 m1 m2 m3 m4 m5 m6 m7 m8 m9 m10 j) (pk z0 v0 v1 v2 v3 v4 v5 v6 v7 v8 v9 v10 j) = pk (dl z0 z0 z0 z0) (fun i => dl (w0 i) (g0 i) (m0 i) (v0 i)) (fun i => dl (w1 i) (g1 i) (m1 i) (v1 i)) (fun i => dl (w2 i) (g2 i) (m2 i) (v2 i)) (fun i => dl (w3 i) (g3 i) (m3 i) (v3 i)) (fun i => dl (w4 i) (g4 i) (m4 i) (v4 i)) (fun i => dl (w5 i) (g5 i) (m5 i) (v5 i)) (fun i => dl (w6 i) (g6 i) (m6 i) (v6 i)) (fun i => dl (w7 i) (g7 i) (m7 i) (v7 i)) (fun i => dl (w8 i) (g8 i) (m8 i) (v8 i)) (fun i => dl (w9 i) (g9 i) (m9 i) (v9 i)) (fun i => dl (w10 i) (g10 i) (m10 i) (v10 i)) j := by
  rw [get_w w0 w1 w2 w3 w4 w5 w6 w7 w8 w9 w10 g0 g1 g2 g3 g4 g5 g6 g7 g8 g9 g10 m0 m1 m2 m3 m4 m5 m6 m7 m8 m9 m10 v0 v1 v2 v3 v4 v5 v6 v7 v8 v9 v10 j, get_g w0 w1 w2 w3 w4 w5 w6 w7 w8 w9 w10 g0 g1 g2 g3 g4 g5 g6 g7 g8 g9 g10 m0 m1 m2 m3 m4 m5 m6 m7 m8 m9 m10 v0 v1 v2 v3 v4 v5 v6 v7 v8 v9 v10 j, get_m w0 w1 w2 w3 w4 w5 w6 w7 w8 w9 w10 g0 g1 g2 g3 g4 g5 g6 g7 g8 g9 g10 m0 m1 m2 m3 m4 m5 m6 m7 m8 m9 m10 v0 v1 v2 v3 v4 v5 v6 v7 v8 v9 v10 j, get_v w0 w1 w2 w3 w4 w5 w6 w7 w8 w9 w10 g0 g1 g2 g3 g4 g5 g6 g7 g8 g9 g10 m0 m1 m2 m3 m4 m5 m6 m7 m8 m9 m10 v0 v1 v2 v3 v4 v5 v6 v7 v8 v9 v10 j]
  exact (pk_map (z0, z0, z0, z0) (fun i => (w0 i, g0 i, m0 i, v0 i)) (fun i => (w1 i, g1 i, m1 i, v1 i)) (fun i => (w2 i, g2 i, m2 i, v2 i)) (fun i => (w3 i, g3 i, m3 i, v3 i)) (fun i => (w4 i, g4 i, m4 i, v4 i)) (fun i => (w5 i, g5 i, m5 i, v5 i)) (fun i => (w6 i, g6 i, m6 i, v6 i)) (fun i => (w7 i, g7 i, m7 i, v7 i)) (fun i => (w8 i, g8 i, m8 i, v8 i)) (fun i => (w9 i, g9 i, m9 i, v9 i)) (fun i => (w10 i, g10 i, m10 i, v10 i)) (fun p => dl p.1 p.2.1 p.2.2.1 p.2.2.2) j).symm

include w0 w1 w2 w3 w4 w5 w6 w7 w8 w9 w10 g0 g1 g2 g3 g4 g5 g6 g7 g8 g9 g10 m0 m1 m2 m3 m4 m5 m6 m7 m8 m9 m10 v0 v1 v2 v3 v4 v5 v6 v7 v8 v9 v10 in
theorem lay_nm : nm (pk z0 g0 g1 g2 g3 g4 g5 g6 g7 g8 g9 g10 j) (pk z0 m0 m1 m2 m3 m4 m5 m6 m7 m8 m9 m10 j) = pk (nm z0 z0) (fun i => nm (g0 i) (m0 i)) (fun i => nm (g1 i) (m1 i)) (fun i => nm (g2 i) (m2 i)) (fun i => nm (g3 i) (m3 i)) (fun i => nm (g4 i) (m4 i)) (fun i => nm (g5 i) (m5 i)) (fun i => nm (g6 i) (m6 i)) (fun i => nm (g7 i) (m7 i)) (fun i => nm (g8 i) (m8 i)) (fun i => nm (g9 i) (m9 i)) (fun i => nm (g10 i) (m10 i)) j := by
  rw [get_g w0 w1 w2 w3 w4 w5 w6 w7 w8 w9 w10 g0 g1 g2 g3 g4 g5 g6 g7 g8 g9 g10 m0 m1 m2 m3 m4 m5 m6 m7 m8 m9 m10 v0 v1 v2 v3 v4 v5 v6 v7 v8 v9 v10 j, get_m w0 w1 w2 w3 w4 w5 w6 w7 w8 w9 w10 g0 g1 g2 g3 g4 g5 g6 g7 g8 g9 g10 m0 m1 m2 m3 m4 m5 m6 m7 m8 m9 m10 v0 v1 v2 v3 v4 v5 v6 v7 v8 v9 v10 j]
  exact (pk_map (z0, z0, z0, z0) (fun i => (w0 i, g0 i, m0 i, v0 i)) (fun i => (w1 i, g1 i, m1 i, v1 i)) (fun i => (w2 i, g2 i, m2 i, v2 i)) (fun i => (w3 i, g3 i, m3 i, v3 i)) (fun i => (w4 i, g4 i, m4 i, v4 i)) (fun i => (w5 i, g5 i, m5 i, v5 i)) (fun i => (w6 i, g6 i, m6 i, v6 i)) (fun i => (w7 i, g7 i, m7 i, v7 i)) (fun i => (w8 i, g8 i, m8 i, v8 i)) (fun i => (w9 i, g9 i, m9 i, v9 i)) (fun i => (w10 i, g10 i, m10 i, v10 i)) (fun p => nm p.2.1 p.2.2.1) j).symm

include w0 w1 w2 w3 w4 w5 w6 w7 w8 w9 w10 g0 g1 g2 g3 g4 g5 g6 g7 g8 g9 g10 m0 m1 m2 m3 m4 m5 m6 m7 m8 m9 m10 v0 v1 v2 v3 v4 v5 v6 v7 v8 v9 v10 in
theorem lay_nv : nv (pk z0 g0 g1 g2 g3 g4 g5 g6 g7 g8 g9 g10 j) (pk z0 v0 v1 v2 v3 v4 v5 v6 v7 v8 v9 v10 j) = pk (nv z0 z0) (fun i => nv (g0 i) (v0 i)) (fun i => nv (g1 i) (v1 i)) (fun i => nv (g2 i) (v2 i)) (fun i => nv (g3 i) (v3 i)) (fun i => nv (g4 i) (v4 i)) (fun i => nv (g5 i) (v5 i)) (fun i => nv (g6 i) (v6 i)) (fun i => nv (g7 i) (v7 i)) (fun i => nv (g8 i) (v8 i)) (fun i => nv (g9 i) (v9 i)) (fun i => nv (g10 i) (v10 i)) j := by
  rw [get_g w0 w1 w2 w3 w4 w5 w6 w7 w8 w9 w10 g0 g1 g2 g3 g4 g5 g6 g7 g8 g9 g10 m0 m1 m2 m3 m4 m5 m6 m7 m8 m9 m10 v0 v1 v2 v3 v4 v5 v6 v7 v8 v9 v10 j, get_v w0 w1 w2 w3 w4 w5 w6 w7 w8 w9 w10 g0 g1 g2 g3 g4 g5 g6 g7 g8 g9 g10 m0 m1 m2 m3 m4 m5 m6 m7 m8 m9 m10 v0 v1 v2 v3 v4 v5 v6 v7 v8 v9 v10 j]
  exact (pk_map (z0, z0, z0, z0) (fun i => (w0 i, g0 i, m0 i, v0 i)) (fun i => (w1 i, g1 i, m1 i, v1 i)) (fun i => (w2 i, g2 i, m2 i, v2 i)) (fun i => (w3 i, g3 i, m3 i, v3 i)) (fun i => (w4 i, g4 i, m4 i, v4 i)) (fun i => (w5 i, g5 i, m5 i, v5 i)) (fun i => (w6 i, g6 i, m6 i, v6 i)) (fun i => (w7 i, g7 i, m7 i, v7 i)) (fun i => (w8 i, g8 i, m8 i, v8 i)) (fun i => (w9 i, g9 i, m9 i, v9 i)) (fun i => (w10 i, g10 i, m10 i, v10 i)) (fun p => nv p.2.1 p.2.2.2) j).symm

end

theorem pW_eq (m : (ℓ : Loc nD τ sig) → Buf (Elt Ideal) ℓ) (c : Dev nD) : pW m c
    = pk z0 (m (c.tc.loc main_arg0)) (m (c.tc.loc main_arg1)) (m (c.tc.loc main_arg2)) (m (c.tc.loc main_arg3)) (m (c.tc.loc main_arg4)) (m (c.tc.loc main_arg5)) (m (c.tc.loc main_arg6)) (m (c.tc.loc main_arg7)) (m (c.tc.loc main_arg8)) (m (c.tc.loc main_arg9)) (m (c.tc.loc main_arg10)) := by
  show StableHlo.after hostOps0 _ (Proc.devRef .tc main_v20) = _
  after_reads_simp
  rfl

theorem pG_eq (m : (ℓ : Loc nD τ sig) → Buf (Elt Ideal) ℓ) (c : Dev nD) : pG m c
    = pk z0 (m (c.tc.loc main_arg11)) (m (c.tc.loc main_arg12)) (m (c.tc.loc main_arg13)) (m (c.tc.loc main_arg14)) (m (c.tc.loc main_arg15)) (m (c.tc.loc main_arg16)) (m (c.tc.loc main_arg17)) (m (c.tc.loc main_arg18)) (m (c.tc.loc main_arg19)) (m (c.tc.loc main_arg20)) (m (c.tc.loc main_arg21)) := by
  show StableHlo.after hostOps0 _ (Proc.devRef .tc main_v41) = _
  after_reads_simp
  rfl

theorem pM_eq (m : (ℓ : Loc nD τ sig) → Buf (Elt Ideal) ℓ) (c : Dev nD) : pM m c
    = pk z0 (m (c.tc.loc main_arg22)) (m (c.tc.loc main_arg23)) (m (c.tc.loc main_arg24)) (m (c.tc.loc main_arg25)) (m (c.tc.loc main_arg26)) (m (c.tc.loc main_arg27)) (m (c.tc.loc main_arg28)) (m (c.tc.loc main_arg29)) (m (c.tc.loc main_arg30)) (m (c.tc.loc main_arg31)) (m (c.tc.loc main_arg32)) := by
  show StableHlo.after hostOps0 _ (Proc.devRef .tc main_v62) = _
  after_reads_simp
  rfl

theorem pV_eq (m : (ℓ : Loc nD τ sig) → Buf (Elt Ideal) ℓ) (c : Dev nD) : pV m c
    = pk z0 (m (c.tc.loc main_arg33)) (m (c.tc.loc main_arg34)) (m (c.tc.loc main_arg35)) (m (c.tc.loc main_arg36)) (m (c.tc.loc main_arg37)) (m (c.tc.loc main_arg38)) (m (c.tc.loc main_arg39)) (m (c.tc.loc main_arg40)) (m (c.tc.loc main_arg41)) (m (c.tc.loc main_arg42)) (m (c.tc.loc main_arg43)) := by
  show StableHlo.after hostOps0 _ (Proc.devRef .tc main_v83) = _
  after_reads_simp
  rfl

theorem z0_eq : z0 = 0 := by simp [Ideal.ofBits, Ideal.ieee]
theorem nm_zero : nm z0 z0 = z0 := by unfold nm; rw [z0_eq]; simp only [mul_zero, add_zero]
theorem nv_zero : nv z0 z0 = z0 := by unfold nv; rw [z0_eq]; simp only [mul_zero, add_zero]
theorem dl_zero : dl z0 z0 z0 z0 = z0 := by
  unfold dl
  rw [nm_zero, nv_zero, z0_eq]
  have h5 : Ideal.ofBits .f32 0x3F26BD02#32 ≠ 0 := by simp [Ideal.ofBits, Ideal.ieee, -EReal.coe_mul]
  have h6 : Ideal.ofBits .f32 0x3C231ACC#32 ≠ 0 := by simp [Ideal.ofBits, Ideal.ieee, -EReal.coe_mul]
  have h8 : Ideal.ofBits .f32 0x322BCC77#32 ≠ 0 := by simp [Ideal.ofBits, Ideal.ieee, -EReal.coe_mul]
  have hs : Ideal.sqrt 0 = 0 := by
    show Ideal.sqrt ((0 : ℝ) : EReal) = 0
    change (if (0 : ℝ) < 0 then (⊥ : EReal) else ((Real.sqrt 0 : ℝ) : EReal)) = ((0 : ℝ) : EReal)
    simp
  rw [Ideal.zero_div h5, Ideal.zero_div h6, hs, zero_add, Ideal.zero_div h8, mul_zero, add_zero, mul_zero]

theorem eq4 (m : (ℓ : Loc nD τ sig) → Buf (Elt Ideal) ℓ) (c : Dev nD) : ((dats m 0 c).arrAt 4 cfg0.N : FVec Ideal S7680x128 .f32)
    = pk z0 (fun i => dl ((m (c.tc.loc main_arg0) : FVec Ideal S1x1024 .f32) i) ((m (c.tc.loc main_arg11) : FVec Ideal S1x1024 .f32) i) ((m (c.tc.loc main_arg22) : FVec Ideal S1x1024 .f32) i) ((m (c.tc.loc main_arg33) : FVec Ideal S1x1024 .f32) i)) (fun i => dl ((m (c.tc.loc main_arg1) : FVec Ideal S1x1024x616 .f32) i) ((m (c.tc.loc main_arg12) : FVec Ideal S1x1024x616 .f32) i) ((m (c.tc.loc main_arg23) : FVec Ideal S1x1024x616 .f32) i) ((m (c.tc.loc main_arg34) : FVec Ideal S1x1024x616 .f32) i)) (fun i => dl ((m (c.tc.loc main_arg2) : FVec Ideal S1x64 .f32) i) ((m (c.tc.loc main_arg13) : FVec Ideal S1x64 .f32) i) ((m (c.tc.loc main_arg24) : FVec Ideal S1x64 .f32) i) ((m (c.tc.loc main_arg35) : FVec Ideal S1x64 .f32) i)) (fun i => dl ((m (c.tc.loc main_arg3) : FVec Ideal S1x64 .f32) i) ((m (c.tc.loc main_arg14) : FVec Ideal S1x64 .f32) i) ((m (c.tc.loc main_arg25) : FVec Ideal S1x64 .f32) i) ((m (c.tc.loc main_arg36) : FVec Ideal S1x64 .f32) i)) (fun i => dl ((m (c.tc.loc main_arg4) : FVec Ideal S1x384 .f32) i) ((m (c.tc.loc main_arg15) : FVec Ideal S1x384 .f32) i) ((m (c.tc.loc main_arg26) : FVec Ideal S1x384 .f32) i) ((m (c.tc.loc main_arg37) : FVec Ideal S1x384 .f32) i)) (fun i => dl ((m (c.tc.loc main_arg5) : FVec Ideal S1x256 .f32) i) ((m (c.tc.loc main_arg16) : FVec Ideal S1x256 .f32) i) ((m (c.tc.loc main_arg27) : FVec Ideal S1x256 .f32) i) ((m (c.tc.loc main_arg38) : FVec Ideal S1x256 .f32) i)) (fun i => dl ((m (c.tc.loc main_arg6) : FVec Ideal S1x96x384 .f32) i) ((m (c.tc.loc main_arg17) : FVec Ideal S1x96x384 .f32) i) ((m (c.tc.loc main_arg28) : FVec Ideal S1x96x384 .f32) i) ((m (c.tc.loc main_arg39) : FVec Ideal S1x96x384 .f32) i)) (fun i => dl ((m (c.tc.loc main_arg7) : FVec Ideal S1x256x192 .f32) i) ((m (c.tc.loc main_arg18) : FVec Ideal S1x256x192 .f32) i) ((m (c.tc.loc main_arg29) : FVec Ideal S1x256x192 .f32) i) ((m (c.tc.loc main_arg40) : FVec Ideal S1x256x192 .f32) i)) (fun i => dl ((m (c.tc.loc main_arg8) : FVec Ideal S1x96 .f32) i) ((m (c.tc.loc main_arg19) : FVec Ideal S1x96 .f32) i) ((m (c.tc.loc main_arg30) : FVec Ideal S1x96 .f32) i) ((m (c.tc.loc main_arg41) : FVec Ideal S1x96 .f32) i)) (fun i => dl ((m (c.tc.loc main_arg9) : FVec Ideal S1x96 .f32) i) ((m (c.tc.loc main_arg20) : FVec Ideal S1x96 .f32) i) ((m (c.tc.loc main_arg31) : FVec Ideal S1x96 .f32) i) ((m (c.tc.loc main_arg42) : FVec Ideal S1x96 .f32) i)) (fun i => dl ((m (c.tc.loc main_arg10) : FVec Ideal S1x256x1024 .f32) i) ((m (c.tc.loc main_arg21) : FVec Ideal S1x256x1024 .f32) i) ((m (c.tc.loc main_arg32) : FVec Ideal S1x256x1024 .f32) i) ((m (c.tc.loc main_arg43) : FVec Ideal S1x256x1024 .f32) i)) := by
  refine Cert.Online.ext2 _ _ fun r l => ?_
  rw [final4, pW_eq m c, pG_eq m c, pM_eq m c, pV_eq m c]
  refine (lay_dl (m (c.tc.loc main_arg0)) (m (c.tc.loc main_arg1)) (m (c.tc.loc main_arg2)) (m (c.tc.loc main_arg3)) (m (c.tc.loc main_arg4)) (m (c.tc.loc main_arg5)) (m (c.tc.loc main_arg6)) (m (c.tc.loc main_arg7)) (m (c.tc.loc main_arg8)) (m (c.tc.loc main_arg9)) (m (c.tc.loc main_arg10)) (m (c.tc.loc main_arg11)) (m (c.tc.loc main_arg12)) (m (c.tc.loc main_arg13)) (m (c.tc.loc main_arg14)) (m (c.tc.loc main_arg15)) (m (c.tc.loc main_arg16)) (m (c.tc.loc main_arg17)) (m (c.tc.loc main_arg18)) (m (c.tc.loc main_arg19)) (m (c.tc.loc main_arg20)) (m (c.tc.loc main_arg21)) (m (c.tc.loc main_arg22)) (m (c.tc.loc main_arg23)) (m (c.tc.loc main_arg24)) (m (c.tc.loc main_arg25)) (m (c.tc.loc main_arg26)) (m (c.tc.loc main_arg27)) (m (c.tc.loc main_arg28)) (m (c.tc.loc main_arg29)) (m (c.tc.loc main_arg30)) (m (c.tc.loc main_arg31)) (m (c.tc.loc main_arg32)) (m (c.tc.loc main_arg33)) (m (c.tc.loc main_arg34)) (m (c.tc.loc main_arg35)) (m (c.tc.loc main_arg36)) (m (c.tc.loc main_arg37)) (m (c.tc.loc main_arg38)) (m (c.tc.loc main_arg39)) (m (c.tc.loc main_arg40)) (m (c.tc.loc main_arg41)) (m (c.tc.loc main_arg42)) (m (c.tc.loc main_arg43)) (ix2 r l)).trans ?_
  rw [dl_zero]

theorem eq5 (m : (ℓ : Loc nD τ sig) → Buf (Elt Ideal) ℓ) (c : Dev nD) : ((dats m 0 c).arrAt 5 cfg0.N : FVec Ideal S7680x128 .f32)
    = pk z0 (fun i => nm ((m (c.tc.loc main_arg11) : FVec Ideal S1x1024 .f32) i) ((m (c.tc.loc main_arg22) : FVec Ideal S1x1024 .f32) i)) (fun i => nm ((m (c.tc.loc main_arg12) : FVec Ideal S1x1024x616 .f32) i) ((m (c.tc.loc main_arg23) : FVec Ideal S1x1024x616 .f32) i)) (fun i => nm ((m (c.tc.loc main_arg13) : FVec Ideal S1x64 .f32) i) ((m (c.tc.loc main_arg24) : FVec Ideal S1x64 .f32) i)) (fun i => nm ((m (c.tc.loc main_arg14) : FVec Ideal S1x64 .f32) i) ((m (c.tc.loc main_arg25) : FVec Ideal S1x64 .f32) i)) (fun i => nm ((m (c.tc.loc main_arg15) : FVec Ideal S1x384 .f32) i) ((m (c.tc.loc main_arg26) : FVec Ideal S1x384 .f32) i)) (fun i => nm ((m (c.tc.loc main_arg16) : FVec Ideal S1x256 .f32) i) ((m (c.tc.loc main_arg27) : FVec Ideal S1x256 .f32) i)) (fun i => nm ((m (c.tc.loc main_arg17) : FVec Ideal S1x96x384 .f32) i) ((m (c.tc.loc main_arg28) : FVec Ideal S1x96x384 .f32) i)) (fun i => nm ((m (c.tc.loc main_arg18) : FVec Ideal S1x256x192 .f32) i) ((m (c.tc.loc main_arg29) : FVec Ideal S1x256x192 .f32) i)) (fun i => nm ((m (c.tc.loc main_arg19) : FVec Ideal S1x96 .f32) i) ((m (c.tc.loc main_arg30) : FVec Ideal S1x96 .f32) i)) (fun i => nm ((m (c.tc.loc main_arg20) : FVec Ideal S1x96 .f32) i) ((m (c.tc.loc main_arg31) : FVec Ideal S1x96 .f32) i)) (fun i => nm ((m (c.tc.loc main_arg21) : FVec Ideal S1x256x1024 .f32) i) ((m (c.tc.loc main_arg32) : FVec Ideal S1x256x1024 .f32) i)) := by
  refine Cert.Online.ext2 _ _ fun r l => ?_
  rw [final5, pG_eq m c, pM_eq m c]
  refine (lay_nm (m (c.tc.loc main_arg0)) (m (c.tc.loc main_arg1)) (m (c.tc.loc main_arg2)) (m (c.tc.loc main_arg3)) (m (c.tc.loc main_arg4)) (m (c.tc.loc main_arg5)) (m (c.tc.loc main_arg6)) (m (c.tc.loc main_arg7)) (m (c.tc.loc main_arg8)) (m (c.tc.loc main_arg9)) (m (c.tc.loc main_arg10)) (m (c.tc.loc main_arg11)) (m (c.tc.loc main_arg12)) (m (c.tc.loc main_arg13)) (m (c.tc.loc main_arg14)) (m (c.tc.loc main_arg15)) (m (c.tc.loc main_arg16)) (m (c.tc.loc main_arg17)) (m (c.tc.loc main_arg18)) (m (c.tc.loc main_arg19)) (m (c.tc.loc main_arg20)) (m (c.tc.loc main_arg21)) (m (c.tc.loc main_arg22)) (m (c.tc.loc main_arg23)) (m (c.tc.loc main_arg24)) (m (c.tc.loc main_arg25)) (m (c.tc.loc main_arg26)) (m (c.tc.loc main_arg27)) (m (c.tc.loc main_arg28)) (m (c.tc.loc main_arg29)) (m (c.tc.loc main_arg30)) (m (c.tc.loc main_arg31)) (m (c.tc.loc main_arg32)) (m (c.tc.loc main_arg33)) (m (c.tc.loc main_arg34)) (m (c.tc.loc main_arg35)) (m (c.tc.loc main_arg36)) (m (c.tc.loc main_arg37)) (m (c.tc.loc main_arg38)) (m (c.tc.loc main_arg39)) (m (c.tc.loc main_arg40)) (m (c.tc.loc main_arg41)) (m (c.tc.loc main_arg42)) (m (c.tc.loc main_arg43)) (ix2 r l)).trans ?_
  rw [nm_zero]

theorem eq6 (m : (ℓ : Loc nD τ sig) → Buf (Elt Ideal) ℓ) (c : Dev nD) : ((dats m 0 c).arrAt 6 cfg0.N : FVec Ideal S7680x128 .f32)
    = pk z0 (fun i => nv ((m (c.tc.loc main_arg11) : FVec Ideal S1x1024 .f32) i) ((m (c.tc.loc main_arg33) : FVec Ideal S1x1024 .f32) i)) (fun i => nv ((m (c.tc.loc main_arg12) : FVec Ideal S1x1024x616 .f32) i) ((m (c.tc.loc main_arg34) : FVec Ideal S1x1024x616 .f32) i)) (fun i => nv ((m (c.tc.loc main_arg13) : FVec Ideal S1x64 .f32) i) ((m (c.tc.loc main_arg35) : FVec Ideal S1x64 .f32) i)) (fun i => nv ((m (c.tc.loc main_arg14) : FVec Ideal S1x64 .f32) i) ((m (c.tc.loc main_arg36) : FVec Ideal S1x64 .f32) i)) (fun i => nv ((m (c.tc.loc main_arg15) : FVec Ideal S1x384 .f32) i) ((m (c.tc.loc main_arg37) : FVec Ideal S1x384 .f32) i)) (fun i => nv ((m (c.tc.loc main_arg16) : FVec Ideal S1x256 .f32) i) ((m (c.tc.loc main_arg38) : FVec Ideal S1x256 .f32) i)) (fun i => nv ((m (c.tc.loc main_arg17) : FVec Ideal S1x96x384 .f32) i) ((m (c.tc.loc main_arg39) : FVec Ideal S1x96x384 .f32) i)) (fun i => nv ((m (c.tc.loc main_arg18) : FVec Ideal S1x256x192 .f32) i) ((m (c.tc.loc main_arg40) : FVec Ideal S1x256x192 .f32) i)) (fun i => nv ((m (c.tc.loc main_arg19) : FVec Ideal S1x96 .f32) i) ((m (c.tc.loc main_arg41) : FVec Ideal S1x96 .f32) i)) (fun i => nv ((m (c.tc.loc main_arg20) : FVec Ideal S1x96 .f32) i) ((m (c.tc.loc main_arg42) : FVec Ideal S1x96 .f32) i)) (fun i => nv ((m (c.tc.loc main_arg21) : FVec Ideal S1x256x1024 .f32) i) ((m (c.tc.loc main_arg43) : FVec Ideal S1x256x1024 .f32) i)) := by
  refine Cert.Online.ext2 _ _ fun r l => ?_
  rw [final6, pG_eq m c, pV_eq m c]
  refine (lay_nv (m (c.tc.loc main_arg0)) (m (c.tc.loc main_arg1)) (m (c.tc.loc main_arg2)) (m (c.tc.loc main_arg3)) (m (c.tc.loc main_arg4)) (m (c.tc.loc main_arg5)) (m (c.tc.loc main_arg6)) (m (c.tc.loc main_arg7)) (m (c.tc.loc main_arg8)) (m (c.tc.loc main_arg9)) (m (c.tc.loc main_arg10)) (m (c.tc.loc main_arg11)) (m (c.tc.loc main_arg12)) (m (c.tc.loc main_arg13)) (m (c.tc.loc main_arg14)) (m (c.tc.loc main_arg15)) (m (c.tc.loc main_arg16)) (m (c.tc.loc main_arg17)) (m (c.tc.loc main_arg18)) (m (c.tc.loc main_arg19)) (m (c.tc.loc main_arg20)) (m (c.tc.loc main_arg21)) (m (c.tc.loc main_arg22)) (m (c.tc.loc main_arg23)) (m (c.tc.loc main_arg24)) (m (c.tc.loc main_arg25)) (m (c.tc.loc main_arg26)) (m (c.tc.loc main_arg27)) (m (c.tc.loc main_arg28)) (m (c.tc.loc main_arg29)) (m (c.tc.loc main_arg30)) (m (c.tc.loc main_arg31)) (m (c.tc.loc main_arg32)) (m (c.tc.loc main_arg33)) (m (c.tc.loc main_arg34)) (m (c.tc.loc main_arg35)) (m (c.tc.loc main_arg36)) (m (c.tc.loc main_arg37)) (m (c.tc.loc main_arg38)) (m (c.tc.loc main_arg39)) (m (c.tc.loc main_arg40)) (m (c.tc.loc main_arg41)) (m (c.tc.loc main_arg42)) (m (c.tc.loc main_arg43)) (ix2 r l)).trans ?_
  rw [nv_zero]

end Cert.AdamIdeal.Val

namespace Cert.AdamProof

open Cert.AdamRefIdeal Idealize.ShloMosaic Idealize.ShloMosaic.TcCoe Idealize.SL.Sem Cert.AdamIdeal.Val

theorem algebraic : Cert.algebraic_AdamIdeal_AdamRefIdeal (hAdamIdeal := Cert.AdamIdeal.Gen.facts)
    (hAdamRefIdeal := Cert.AdamRefIdeal.Gen.facts) := by
  intro m g m' g' _ hargs
  refine ⟨_, _, _, Cert.AdamIdeal.Value.run_blocks m g, ?_⟩
  refine (θ_run _ _ _).mono ?_ (Cert.AdamRefIdeal.Value.run m' g')
  intro r hr c
  obtain ⟨h4, h5, h6, hk⟩ := hr c
  obtain ⟨a0, a1, a2, a3, a4, a5, a6, a7, a8, a9, a10, a11, a12, a13, a14, a15, a16, a17, a18, a19, a20, a21, a22, a23, a24, a25, a26, a27, a28, a29, a30, a31, a32, a33, a34, a35, a36, a37, a38, a39, a40, a41, a42, a43⟩ := hargs c
  refine ⟨h4.trans ?_, h5.trans ?_, h6.trans ?_, hk⟩
  · refine Eq.trans (b := pk z0 (fun i => dl ((m' (c.tc.loc main_arg0) : FVec Ideal S1x1024 .f32) i) ((m' (c.tc.loc main_arg11) : FVec Ideal S1x1024 .f32) i) ((m' (c.tc.loc main_arg22) : FVec Ideal S1x1024 .f32) i) ((m' (c.tc.loc main_arg33) : FVec Ideal S1x1024 .f32) i)) (fun i => dl ((m' (c.tc.loc main_arg1) : FVec Ideal S1x1024x616 .f32) i) ((m' (c.tc.loc main_arg12) : FVec Ideal S1x1024x616 .f32) i) ((m' (c.tc.loc main_arg23) : FVec Ideal S1x1024x616 .f32) i) ((m' (c.tc.loc main_arg34) : FVec Ideal S1x1024x616 .f32) i)) (fun i => dl ((m' (c.tc.loc main_arg2) : FVec Ideal S1x64 .f32) i) ((m' (c.tc.loc main_arg13) : FVec Ideal S1x64 .f32) i) ((m' (c.tc.loc main_arg24) : FVec Ideal S1x64 .f32) i) ((m' (c.tc.loc main_arg35) : FVec Ideal S1x64 .f32) i)) (fun i => dl ((m' (c.tc.loc main_arg3) : FVec Ideal S1x64 .f32) i) ((m' (c.tc.loc main_arg14) : FVec Ideal S1x64 .f32) i) ((m' (c.tc.loc main_arg25) : FVec Ideal S1x64 .f32) i) ((m' (c.tc.loc main_arg36) : FVec Ideal S1x64 .f32) i)) (fun i => dl ((m' (c.tc.loc main_arg4) : FVec Ideal S1x384 .f32) i) ((m' (c.tc.loc main_arg15) : FVec Ideal S1x384 .f32) i) ((m' (c.tc.loc main_arg26) : FVec Ideal S1x384 .f32) i) ((m' (c.tc.loc main_arg37) : FVec Ideal S1x384 .f32) i)) (fun i => dl ((m' (c.tc.loc main_arg5) : FVec Ideal S1x256 .f32) i) ((m' (c.tc.loc main_arg16) : FVec Ideal S1x256 .f32) i) ((m' (c.tc.loc main_arg27) : FVec Ideal S1x256 .f32) i) ((m' (c.tc.loc main_arg38) : FVec Ideal S1x256 .f32) i)) (fun i => dl ((m' (c.tc.loc main_arg6) : FVec Ideal S1x96x384 .f32) i) ((m' (c.tc.loc main_arg17) : FVec Ideal S1x96x384 .f32) i) ((m' (c.tc.loc main_arg28) : FVec Ideal S1x96x384 .f32) i) ((m' (c.tc.loc main_arg39) : FVec Ideal S1x96x384 .f32) i)) (fun i => dl ((m' (c.tc.loc main_arg7) : FVec Ideal S1x256x192 .f32) i) ((m' (c.tc.loc main_arg18) : FVec Ideal S1x256x192 .f32) i) ((m' (c.tc.loc main_arg29) : FVec Ideal S1x256x192 .f32) i) ((m' (c.tc.loc main_arg40) : FVec Ideal S1x256x192 .f32) i)) (fun i => dl ((m' (c.tc.loc main_arg8) : FVec Ideal S1x96 .f32) i) ((m' (c.tc.loc main_arg19) : FVec Ideal S1x96 .f32) i) ((m' (c.tc.loc main_arg30) : FVec Ideal S1x96 .f32) i) ((m' (c.tc.loc main_arg41) : FVec Ideal S1x96 .f32) i)) (fun i => dl ((m' (c.tc.loc main_arg9) : FVec Ideal S1x96 .f32) i) ((m' (c.tc.loc main_arg20) : FVec Ideal S1x96 .f32) i) ((m' (c.tc.loc main_arg31) : FVec Ideal S1x96 .f32) i) ((m' (c.tc.loc main_arg42) : FVec Ideal S1x96 .f32) i)) (fun i => dl ((m' (c.tc.loc main_arg10) : FVec Ideal S1x256x1024 .f32) i) ((m' (c.tc.loc main_arg21) : FVec Ideal S1x256x1024 .f32) i) ((m' (c.tc.loc main_arg32) : FVec Ideal S1x256x1024 .f32) i) ((m' (c.tc.loc main_arg43) : FVec Ideal S1x256x1024 .f32) i))) rfl ?_
    rw [a0, a1, a2, a3, a4, a5, a6, a7, a8, a9, a10, a11, a12, a13, a14, a15, a16, a17, a18, a19, a20, a21, a22, a23, a24, a25, a26, a27, a28, a29, a30, a31, a32, a33, a34, a35, a36, a37, a38, a39, a40, a41, a42, a43]
    exact (eq4 m c).symm
  · refine Eq.trans (b := pk z0 (fun i => nm ((m' (c.tc.loc main_arg11) : FVec Ideal S1x1024 .f32) i) ((m' (c.tc.loc main_arg22) : FVec Ideal S1x1024 .f32) i)) (fun i => nm ((m' (c.tc.loc main_arg12) : FVec Ideal S1x1024x616 .f32) i) ((m' (c.tc.loc main_arg23) : FVec Ideal S1x1024x616 .f32) i)) (fun i => nm ((m' (c.tc.loc main_arg13) : FVec Ideal S1x64 .f32) i) ((m' (c.tc.loc main_arg24) : FVec Ideal S1x64 .f32) i)) (fun i => nm ((m' (c.tc.loc main_arg14) : FVec Ideal S1x64 .f32) i) ((m' (c.tc.loc main_arg25) : FVec Ideal S1x64 .f32) i)) (fun i => nm ((m' (c.tc.loc main_arg15) : FVec Ideal S1x384 .f32) i) ((m' (c.tc.loc main_arg26) : FVec Ideal S1x384 .f32) i)) (fun i => nm ((m' (c.tc.loc main_arg16) : FVec Ideal S1x256 .f32) i) ((m' (c.tc.loc main_arg27) : FVec Ideal S1x256 .f32) i)) (fun i => nm ((m' (c.tc.loc main_arg17) : FVec Ideal S1x96x384 .f32) i) ((m' (c.tc.loc main_arg28) : FVec Ideal S1x96x384 .f32) i)) (fun i => nm ((m' (c.tc.loc main_arg18) : FVec Ideal S1x256x192 .f32) i) ((m' (c.tc.loc main_arg29) : FVec Ideal S1x256x192 .f32) i)) (fun i => nm ((m' (c.tc.loc main_arg19) : FVec Ideal S1x96 .f32) i) ((m' (c.tc.loc main_arg30) : FVec Ideal S1x96 .f32) i)) (fun i => nm ((m' (c.tc.loc main_arg20) : FVec Ideal S1x96 .f32) i) ((m' (c.tc.loc main_arg31) : FVec Ideal S1x96 .f32) i)) (fun i => nm ((m' (c.tc.loc main_arg21) : FVec Ideal S1x256x1024 .f32) i) ((m' (c.tc.loc main_arg32) : FVec Ideal S1x256x1024 .f32) i))) rfl ?_
    rw [a11, a12, a13, a14, a15, a16, a17, a18, a19, a20, a21, a22, a23, a24, a25, a26, a27, a28, a29, a30, a31, a32]
    exact (eq5 m c).symm
  · refine Eq.trans (b := pk z0 (fun i => nv ((m' (c.tc.loc main_arg11) : FVec Ideal S1x1024 .f32) i) ((m' (c.tc.loc main_arg33) : FVec Ideal S1x1024 .f32) i)) (fun i => nv ((m' (c.tc.loc main_arg12) : FVec Ideal S1x1024x616 .f32) i) ((m' (c.tc.loc main_arg34) : FVec Ideal S1x1024x616 .f32) i)) (fun i => nv ((m' (c.tc.loc main_arg13) : FVec Ideal S1x64 .f32) i) ((m' (c.tc.loc main_arg35) : FVec Ideal S1x64 .f32) i)) (fun i => nv ((m' (c.tc.loc main_arg14) : FVec Ideal S1x64 .f32) i) ((m' (c.tc.loc main_arg36) : FVec Ideal S1x64 .f32) i)) (fun i => nv ((m' (c.tc.loc main_arg15) : FVec Ideal S1x384 .f32) i) ((m' (c.tc.loc main_arg37) : FVec Ideal S1x384 .f32) i)) (fun i => nv ((m' (c.tc.loc main_arg16) : FVec Ideal S1x256 .f32) i) ((m' (c.tc.loc main_arg38) : FVec Ideal S1x256 .f32) i)) (fun i => nv ((m' (c.tc.loc main_arg17) : FVec Ideal S1x96x384 .f32) i) ((m' (c.tc.loc main_arg39) : FVec Ideal S1x96x384 .f32) i)) (fun i => nv ((m' (c.tc.loc main_arg18) : FVec Ideal S1x256x192 .f32) i) ((m' (c.tc.loc main_arg40) : FVec Ideal S1x256x192 .f32) i)) (fun i => nv ((m' (c.tc.loc main_arg19) : FVec Ideal S1x96 .f32) i) ((m' (c.tc.loc main_arg41) : FVec Ideal S1x96 .f32) i)) (fun i => nv ((m' (c.tc.loc main_arg20) : FVec Ideal S1x96 .f32) i) ((m' (c.tc.loc main_arg42) : FVec Ideal S1x96 .f32) i)) (fun i => nv ((m' (c.tc.loc main_arg21) : FVec Ideal S1x256x1024 .f32) i) ((m' (c.tc.loc main_arg43) : FVec Ideal S1x256x1024 .f32) i))) rfl ?_
    rw [a11, a12, a13, a14, a15, a16, a17, a18, a19, a20, a21, a33, a34, a35, a36, a37, a38, a39, a40, a41, a42, a43]
    exact (eq6 m c).symm

end Cert.AdamProof

end
-- ==== Proof.PreIdealRun.lean ====
/- The whole body of the program PreIdeal, run once over its skeleton on whole staging buffers. -/
module

public import proofs.«01_k».proof.Proof.Gen.PreIdeal.Frame.Runs

@[expose] public section

set_option maxRecDepth 16384

noncomputable section

namespace Cert.PreIdeal.Own

open Cert.PreIdeal Cert.PreIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

set_option maxHeartbeats 4000000 in
/-- The body on whole staging buffers: what it stores into each result, last store first, and the triple that says so. -/
noncomputable def bodyRun (c : Dev nD) (i : grid0.Coords) (arg1 : Memref sig .tc .vmem S256x1024 .f32) (harg1 : arg1.IsWhole) (arg2 : Memref sig .tc .vmem S256x128 .f32) (harg2 : arg2.IsWhole) (arg3 : Memref sig .tc .vmem S256x128 .f32) (harg3 : arg3.IsWhole) (arg4 : Memref sig .tc .vmem S256x128 .f32) (harg4 : arg4.IsWhole) (arg5 : Memref sig .tc .vmem S256x128 .f32) (harg5 : arg5.IsWhole) (arg6 : Memref sig .tc .vmem S1024x3840 .bf16) (harg6 : arg6.IsWhole) (arg7 : Memref sig .tc .vmem S384x512 .bf16) (harg7 : arg7.IsWhole) (arg8 : Memref sig .tc .vmem S256x1024 .bf16) (harg8 : arg8.IsWhole) (arg9 : Memref sig .tc .vmem S1x1024 .f32) (harg9 : arg9.IsWhole) (arg10 : Memref sig .tc .vmem S1x128 .f32) (harg10 : arg10.IsWhole) (arg11 : Memref sig .tc .vmem S1x128 .f32) (harg11 : arg11.IsWhole) (arg12 : Memref sig .tc .vmem S1x384 .f32) (harg12 : arg12.IsWhole) (arg13 : Memref sig .tc .vmem S1x256 .f32) (harg13 : arg13.IsWhole) (arg14 : Memref sig .tc .vmem S1x128 .f32) (harg14 : arg14.IsWhole) (arg15 : Memref sig .tc .vmem S1x128 .f32) (harg15 : arg15.IsWhole) (arg16 : Memref sig .tc .vmem S256x1024 .bf16) (harg16 : arg16.IsWhole) (arg17 : Memref sig .tc .vmem S256x1536 .f32) (harg17 : arg17.IsWhole) (arg18 : Memref sig .tc .vmem S256x1920 .f32) (harg18 : arg18.IsWhole) (arg19 : Memref sig .tc .vmem S256x512 .f32) (harg19 : arg19.IsWhole) (arg20 : Memref sig .tc .vmem S256x512 .f32) (harg20 : arg20.IsWhole) (arg21 : Memref sig .tc .vmem S256x384 .bf16) (harg21 : arg21.IsWhole) (arg22 : Memref sig .tc .vmem S256x256 .bf16) (harg22 : arg22.IsWhole) (arg23 : Memref sig .tc .vmem S8x256x128 .bf16) (harg23 : arg23.IsWhole) (arg24 : Memref sig .tc .vmem S2x256x128 .bf16) (harg24 : arg24.IsWhole) (arg25 : Memref sig .tc .vmem S2x256x128 .bf16) (harg25 : arg25.IsWhole) (arg26 : Memref sig .tc .vmem S4x256x128 .bf16) (harg26 : arg26.IsWhole) (arg27 : Memref sig .tc .vmem S4x256x128 .bf16) (harg27 : arg27.IsWhole) (arg28 : Memref sig .tc .vmem S4x256x128 .bf16) (harg28 : arg28.IsWhole) (arg29 : Memref sig .tc .vmem S256x3840 .f32) (harg29 : arg29.IsWhole)
    (x0 : Vec F S256x1024 .f32) (x1 : Vec F S256x128 .f32) (x2 : Vec F S256x128 .f32) (x3 : Vec F S256x128 .f32) (x4 : Vec F S256x128 .f32) (x5 : Vec F S1024x3840 .bf16) (x6 : Vec F S384x512 .bf16) (x7 : Vec F S256x1024 .bf16) (x8 : Vec F S1x1024 .f32) (x9 : Vec F S1x128 .f32) (x10 : Vec F S1x128 .f32) (x11 : Vec F S1x384 .f32) (x12 : Vec F S1x256 .f32) (x13 : Vec F S1x128 .f32) (x14 : Vec F S1x128 .f32) :
    Σ' (L15 : List (View.Piece (Elt F) S256x1024 .bf16)), Σ' (L16 : List (View.Piece (Elt F) S256x1536 .f32)), Σ' (L17 : List (View.Piece (Elt F) S256x1920 .f32)), Σ' (L18 : List (View.Piece (Elt F) S256x512 .f32)), Σ' (L19 : List (View.Piece (Elt F) S256x512 .f32)), Σ' (L20 : List (View.Piece (Elt F) S256x384 .bf16)), Σ' (L21 : List (View.Piece (Elt F) S256x256 .bf16)), Σ' (L22 : List (View.Piece (Elt F) S8x256x128 .bf16)), Σ' (L23 : List (View.Piece (Elt F) S2x256x128 .bf16)), Σ' (L24 : List (View.Piece (Elt F) S2x256x128 .bf16)), Σ' (L25 : List (View.Piece (Elt F) S4x256x128 .bf16)), Σ' (L26 : List (View.Piece (Elt F) S4x256x128 .bf16)), Σ' (L27 : List (View.Piece (Elt F) S4x256x128 .bf16)), { LT0 : List (View.Piece (Elt F) S256x3840 .f32) //
      ∀ (E : Set ℕ) (K : PUnit → sProp (MT nD τ sig Unit (Elt F) ℕ (UR sig nD τ) ℕ)),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10 ∗ owns (c : Thread nD τ) arg12 fullShare x11 ∗ owns (c : Thread nD τ) arg13 fullShare x12 ∗ owns (c : Thread nD τ) arg14 fullShare x13 ∗ owns (c : Thread nD τ) arg15 fullShare x14 ∗ (∃ d, owns (c : Thread nD τ) arg16 fullShare d) ∗ (∃ d, owns (c : Thread nD τ) arg17 fullShare d) ∗ (∃ d, owns (c : Thread nD τ) arg18 fullShare d) ∗ (∃ d, owns (c : Thread nD τ) arg19 fullShare d) ∗ (∃ d, owns (c : Thread nD τ) arg20 fullShare d) ∗ (∃ d, owns (c : Thread nD τ) arg21 fullShare d) ∗ (∃ d, owns (c : Thread nD τ) arg22 fullShare d) ∗ (∃ d, owns (c : Thread nD τ) arg23 fullShare d) ∗ (∃ d, owns (c : Thread nD τ) arg24 fullShare d) ∗ (∃ d, owns (c : Thread nD τ) arg25 fullShare d) ∗ (∃ d, owns (c : Thread nD τ) arg26 fullShare d) ∗ (∃ d, owns (c : Thread nD τ) arg27 fullShare d) ∗ (∃ d, owns (c : Thread nD τ) arg28 fullShare d) ∗ (∃ d, owns (c : Thread nD τ) arg29 fullShare d)
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10 ∗ owns (c : Thread nD τ) arg12 fullShare x11 ∗ owns (c : Thread nD τ) arg13 fullShare x12 ∗ owns (c : Thread nD τ) arg14 fullShare x13 ∗ owns (c : Thread nD τ) arg15 fullShare x14 ∗ (∃ f, arg16.view.loc (c : Thread nD τ) ↦[arg16.view.set]{fullShare} arg16.view.writes (Elt F) f L15) ∗ (∃ f, arg17.view.loc (c : Thread nD τ) ↦[arg17.view.set]{fullShare} arg17.view.writes (Elt F) f L16) ∗ (∃ f, arg18.view.loc (c : Thread nD τ) ↦[arg18.view.set]{fullShare} arg18.view.writes (Elt F) f L17) ∗ (∃ f, arg19.view.loc (c : Thread nD τ) ↦[arg19.view.set]{fullShare} arg19.view.writes (Elt F) f L18) ∗ (∃ f, arg20.view.loc (c : Thread nD τ) ↦[arg20.view.set]{fullShare} arg20.view.writes (Elt F) f L19) ∗ (∃ f, arg21.view.loc (c : Thread nD τ) ↦[arg21.view.set]{fullShare} arg21.view.writes (Elt F) f L20) ∗ (∃ f, arg22.view.loc (c : Thread nD τ) ↦[arg22.view.set]{fullShare} arg22.view.writes (Elt F) f L21) ∗ (∃ f, arg23.view.loc (c : Thread nD τ) ↦[arg23.view.set]{fullShare} arg23.view.writes (Elt F) f L22) ∗ (∃ f, arg24.view.loc (c : Thread nD τ) ↦[arg24.view.set]{fullShare} arg24.view.writes (Elt F) f L23) ∗ (∃ f, arg25.view.loc (c : Thread nD τ) ↦[arg25.view.set]{fullShare} arg25.view.writes (Elt F) f L24) ∗ (∃ f, arg26.view.loc (c : Thread nD τ) ↦[arg26.view.set]{fullShare} arg26.view.writes (Elt F) f L25) ∗ (∃ f, arg27.view.loc (c : Thread nD τ) ↦[arg27.view.set]{fullShare} arg27.view.writes (Elt F) f L26) ∗ (∃ f, arg28.view.loc (c : Thread nD τ) ↦[arg28.view.set]{fullShare} arg28.view.writes (Elt F) f L27) ∗ (∃ f, arg29.view.loc (c : Thread nD τ) ↦[arg29.view.set]{fullShare} arg29.view.writes (Elt F) f LT0)) -∗ K ⟨⟩))
          ⊢ wp frame (wpE (defs₀ (F := F)) Variants.none c none) E (cc0_pre i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29) K } := by
  refine ⟨?_, ?_, ?_, ?_, ?_, ?_, ?_, ?_, ?_, ?_, ?_, ?_, ?_, ?_, fun E K => ?run⟩
  case run =>
    simp only [cc0_pre_eq_skeleton]; unfold cc0_pre_skel
    simp only [k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton, k0_part15_eq_skeleton, k0_part16_eq_skeleton, k0_part17_eq_skeleton, k0_part18_eq_skeleton, k0_part19_eq_skeleton, k0_part20_eq_skeleton, k0_part21_eq_skeleton, k0_part22_eq_skeleton, k0_part23_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%f13, %hf13, H13⟩, ⟨%f14, %hf14, H14⟩, ⟨%d15, %f15, -, H15⟩, ⟨%d16, %f16, -, H16⟩, ⟨%d17, %f17, -, H17⟩, ⟨%d18, %f18, -, H18⟩, ⟨%d19, %f19, -, H19⟩, ⟨%d20, %f20, -, H20⟩, ⟨%d21, %f21, -, H21⟩, ⟨%d22, %f22, -, H22⟩, ⟨%d23, %f23, -, H23⟩, ⟨%d24, %f24, -, H24⟩, ⟨%d25, %f25, -, H25⟩, ⟨%d26, %f26, -, H26⟩, ⟨%d27, %f27, -, H27⟩, ⟨%ds0, %fs0, -, HS0⟩, Hk⟩
    obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg7.eq_unread hf6; obtain rfl := harg8.eq_unread hf7; obtain rfl := harg9.eq_unread hf8; obtain rfl := harg10.eq_unread hf9; obtain rfl := harg11.eq_unread hf10; obtain rfl := harg12.eq_unread hf11; obtain rfl := harg13.eq_unread hf12; obtain rfl := harg14.eq_unread hf13; obtain rfl := harg15.eq_unread hf14
    sl_exec
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]
    · iexists _; isplitr; · ipureintro; exact harg7.read_unread _
      iexact H6
    isplitl [H7]
    · iexists _; isplitr; · ipureintro; exact harg8.read_unread _
      iexact H7
    isplitl [H8]
    · iexists _; isplitr; · ipureintro; exact harg9.read_unread _
      iexact H8
    isplitl [H9]
    · iexists _; isplitr; · ipureintro; exact harg10.read_unread _
      iexact H9
    isplitl [H10]
    · iexists _; isplitr; · ipureintro; exact harg11.read_unread _
      iexact H10
    isplitl [H11]
    · iexists _; isplitr; · ipureintro; exact harg12.read_unread _
      iexact H11
    isplitl [H12]
    · iexists _; isplitr; · ipureintro; exact harg13.read_unread _
      iexact H12
    isplitl [H13]
    · iexists _; isplitr; · ipureintro; exact harg14.read_unread _
      iexact H13
    isplitl [H14]
    · iexists _; isplitr; · ipureintro; exact harg15.read_unread _
      iexact H14
    isplitl [H15]; · iexists _; iexact H15
    isplitl [H16]; · iexists _; iexact H16
    isplitl [H17]; · iexists _; iexact H17
    isplitl [H18]; · iexists _; iexact H18
    isplitl [H19]; · iexists _; iexact H19
    isplitl [H20]; · iexists _; iexact H20
    isplitl [H21]; · iexists _; iexact H21
    isplitl [H22]; · iexists _; iexact H22
    isplitl [H23]; · iexists _; iexact H23
    isplitl [H24]; · iexists _; iexact H24
    isplitl [H25]; · iexists _; iexact H25
    isplitl [H26]; · iexists _; iexact H26
    isplitl [H27]; · iexists _; iexact H27
    iexists _; iexact HS0

end Cert.PreIdeal.Own

end
-- ==== Proof.PreIdealPipe.lean ====
/- The pipeline of the program PreIdeal: what the body leaves at each point, the obligation, and the run of the whole program. -/
module

public import proofs.«01_k».proof.Proof.PreIdealRun
public import Idealize.ShloMosaic.Lib.Claim
public import Idealize.ShloMosaic.Lib.Pipeline.Value

@[expose] public section

set_option maxRecDepth 16384

noncomputable section

namespace Cert.PreIdeal.Own

open Cert.PreIdeal Cert.PreIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

variable (m : (ℓ : Loc nD τ sig) → Buf (Elt F) ℓ) (ρ : Dev nD → PrngReg)

/-- The body's run at point `t`: its staging buffers there and the blocks of the arguments. -/
def runAt (c : Dev nD) (t : Fin cfg0.N) :=
  bodyRun c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) (ms0_19 t) (hs0_19 t) (ms0_20 t) (hs0_20 t) (ms0_21 t) (hs0_21 t) (ms0_22 t) (hs0_22 t) (ms0_23 t) (hs0_23 t) (ms0_24 t) (hs0_24 t) (ms0_25 t) (hs0_25 t) (ms0_26 t) (hs0_26 t) (ms0_27 t) (hs0_27 t) scM0_0 (Memref.isWhole_whole _) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t)

theorem cov15 (c : Dev nD) (t : Fin cfg0.N) (y : S256x1024.Idx) : ∃ p ∈ (runAt m c t).1, y ∈ p.1.set :=
  View.cover_of_tiledL (runAt m c t).1 S256x1024.size (by sl_kernel_rfl) y

def o15 (c : Dev nD) (t : Fin cfg0.N) : Vec F S256x1024 .bf16 :=
  VO0_15.read (Elt F) (VO0_15.writes (Elt F) VO0_15.junk (runAt m c t).1)

theorem cov16 (c : Dev nD) (t : Fin cfg0.N) (y : S256x1536.Idx) : ∃ p ∈ (runAt m c t).2.1, y ∈ p.1.set :=
  View.cover_of_tiledL (runAt m c t).2.1 S256x1536.size (by sl_kernel_rfl) y

def o16 (c : Dev nD) (t : Fin cfg0.N) : Vec F S256x1536 .f32 :=
  VO0_16.read (Elt F) (VO0_16.writes (Elt F) VO0_16.junk (runAt m c t).2.1)

theorem cov17 (c : Dev nD) (t : Fin cfg0.N) (y : S256x1920.Idx) : ∃ p ∈ (runAt m c t).2.2.1, y ∈ p.1.set :=
  View.cover_of_tiledBy (runAt m c t).2.2.1 ![256, 640] (by sl_kernel_rfl) y

def o17 (c : Dev nD) (t : Fin cfg0.N) : Vec F S256x1920 .f32 :=
  VO0_17.read (Elt F) (VO0_17.writes (Elt F) VO0_17.junk (runAt m c t).2.2.1)

theorem cov18 (c : Dev nD) (t : Fin cfg0.N) (y : S256x512.Idx) : ∃ p ∈ (runAt m c t).2.2.2.1, y ∈ p.1.set :=
  View.cover_of_tiledL (runAt m c t).2.2.2.1 S256x512.size (by sl_kernel_rfl) y

def o18 (c : Dev nD) (t : Fin cfg0.N) : Vec F S256x512 .f32 :=
  VO0_18.read (Elt F) (VO0_18.writes (Elt F) VO0_18.junk (runAt m c t).2.2.2.1)

theorem cov19 (c : Dev nD) (t : Fin cfg0.N) (y : S256x512.Idx) : ∃ p ∈ (runAt m c t).2.2.2.2.1, y ∈ p.1.set :=
  View.cover_of_tiledL (runAt m c t).2.2.2.2.1 S256x128.size (by sl_kernel_rfl) y

def o19 (c : Dev nD) (t : Fin cfg0.N) : Vec F S256x512 .f32 :=
  VO0_19.read (Elt F) (VO0_19.writes (Elt F) VO0_19.junk (runAt m c t).2.2.2.2.1)

theorem cov20 (c : Dev nD) (t : Fin cfg0.N) (y : S256x384.Idx) : ∃ p ∈ (runAt m c t).2.2.2.2.2.1, y ∈ p.1.set :=
  View.cover_of_tiledL (runAt m c t).2.2.2.2.2.1 S256x384.size (by sl_kernel_rfl) y

def o20 (c : Dev nD) (t : Fin cfg0.N) : Vec F S256x384 .bf16 :=
  VO0_20.read (Elt F) (VO0_20.writes (Elt F) VO0_20.junk (runAt m c t).2.2.2.2.2.1)

theorem cov21 (c : Dev nD) (t : Fin cfg0.N) (y : S256x256.Idx) : ∃ p ∈ (runAt m c t).2.2.2.2.2.2.1, y ∈ p.1.set :=
  View.cover_of_tiledL (runAt m c t).2.2.2.2.2.2.1 S256x256.size (by sl_kernel_rfl) y

def o21 (c : Dev nD) (t : Fin cfg0.N) : Vec F S256x256 .bf16 :=
  VO0_21.read (Elt F) (VO0_21.writes (Elt F) VO0_21.junk (runAt m c t).2.2.2.2.2.2.1)

theorem cov22 (c : Dev nD) (t : Fin cfg0.N) (y : S8x256x128.Idx) : ∃ p ∈ (runAt m c t).2.2.2.2.2.2.2.1, y ∈ p.1.set :=
  View.cover_of_tiledL (runAt m c t).2.2.2.2.2.2.2.1 S1x256x128.size (by sl_kernel_rfl) y

def o22 (c : Dev nD) (t : Fin cfg0.N) : Vec F S8x256x128 .bf16 :=
  VO0_22.read (Elt F) (VO0_22.writes (Elt F) VO0_22.junk (runAt m c t).2.2.2.2.2.2.2.1)

theorem cov23 (c : Dev nD) (t : Fin cfg0.N) (y : S2x256x128.Idx) : ∃ p ∈ (runAt m c t).2.2.2.2.2.2.2.2.1, y ∈ p.1.set :=
  View.cover_of_tiledL (runAt m c t).2.2.2.2.2.2.2.2.1 S1x256x128.size (by sl_kernel_rfl) y

def o23 (c : Dev nD) (t : Fin cfg0.N) : Vec F S2x256x128 .bf16 :=
  VO0_23.read (Elt F) (VO0_23.writes (Elt F) VO0_23.junk (runAt m c t).2.2.2.2.2.2.2.2.1)

theorem cov24 (c : Dev nD) (t : Fin cfg0.N) (y : S2x256x128.Idx) : ∃ p ∈ (runAt m c t).2.2.2.2.2.2.2.2.2.1, y ∈ p.1.set :=
  View.cover_of_tiledL (runAt m c t).2.2.2.2.2.2.2.2.2.1 S1x256x128.size (by sl_kernel_rfl) y

def o24 (c : Dev nD) (t : Fin cfg0.N) : Vec F S2x256x128 .bf16 :=
  VO0_24.read (Elt F) (VO0_24.writes (Elt F) VO0_24.junk (runAt m c t).2.2.2.2.2.2.2.2.2.1)

theorem cov25 (c : Dev nD) (t : Fin cfg0.N) (y : S4x256x128.Idx) : ∃ p ∈ (runAt m c t).2.2.2.2.2.2.2.2.2.2.1, y ∈ p.1.set :=
  View.cover_of_tiledL (runAt m c t).2.2.2.2.2.2.2.2.2.2.1 S1x256x128.size (by sl_kernel_rfl) y

def o25 (c : Dev nD) (t : Fin cfg0.N) : Vec F S4x256x128 .bf16 :=
  VO0_25.read (Elt F) (VO0_25.writes (Elt F) VO0_25.junk (runAt m c t).2.2.2.2.2.2.2.2.2.2.1)

theorem cov26 (c : Dev nD) (t : Fin cfg0.N) (y : S4x256x128.Idx) : ∃ p ∈ (runAt m c t).2.2.2.2.2.2.2.2.2.2.2.1, y ∈ p.1.set :=
  View.cover_of_tiledL (runAt m c t).2.2.2.2.2.2.2.2.2.2.2.1 S1x256x128.size (by sl_kernel_rfl) y

def o26 (c : Dev nD) (t : Fin cfg0.N) : Vec F S4x256x128 .bf16 :=
  VO0_26.read (Elt F) (VO0_26.writes (Elt F) VO0_26.junk (runAt m c t).2.2.2.2.2.2.2.2.2.2.2.1)

theorem cov27 (c : Dev nD) (t : Fin cfg0.N) (y : S4x256x128.Idx) : ∃ p ∈ (runAt m c t).2.2.2.2.2.2.2.2.2.2.2.2.1, y ∈ p.1.set :=
  View.cover_of_tiledL (runAt m c t).2.2.2.2.2.2.2.2.2.2.2.2.1 S1x256x128.size (by sl_kernel_rfl) y

def o27 (c : Dev nD) (t : Fin cfg0.N) : Vec F S4x256x128 .bf16 :=
  VO0_27.read (Elt F) (VO0_27.writes (Elt F) VO0_27.junk (runAt m c t).2.2.2.2.2.2.2.2.2.2.2.2.1)

/-- After point `t` an argument's buffer holds its block, a result's what the body stored. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => iblk m c 9 t
    | ⟨10, _⟩ => iblk m c 10 t
    | ⟨11, _⟩ => iblk m c 11 t
    | ⟨12, _⟩ => iblk m c 12 t
    | ⟨13, _⟩ => iblk m c 13 t
    | ⟨14, _⟩ => iblk m c 14 t
    | ⟨15, _⟩ => o15 m c t
    | ⟨16, _⟩ => o16 m c t
    | ⟨17, _⟩ => o17 m c t
    | ⟨18, _⟩ => o18 m c t
    | ⟨19, _⟩ => o19 m c t
    | ⟨20, _⟩ => o20 m c t
    | ⟨21, _⟩ => o21 m c t
    | ⟨22, _⟩ => o22 m c t
    | ⟨23, _⟩ => o23 m c t
    | ⟨24, _⟩ => o24 m c t
    | ⟨25, _⟩ => o25 m c t
    | ⟨26, _⟩ => o26 m c t
    | ⟨27, _⟩ => o27 m c t
    | ⟨_ + 28, h⟩ => absurd h (Nat.not_lt.2 (Nat.le_add_left _ _))
  Φ _ := Pipeline.ΦA spec0 c
  q _ := fullShare
  owed _ := 0

theorem A_eq (c : Dev nD) (w : Fin cfg0.W) : (dats m 0 c).A w = V m c (Pipeline.arrRef spec0 w) := by
  dsimp only [dats]

theorem after0 (c : Dev nD) (t : Fin cfg0.N) : (dats m 0 c).after 0 t = iblk m c 0 t := by dsimp only [dats]
theorem after1 (c : Dev nD) (t : Fin cfg0.N) : (dats m 0 c).after 1 t = iblk m c 1 t := by dsimp only [dats]
theorem after2 (c : Dev nD) (t : Fin cfg0.N) : (dats m 0 c).after 2 t = iblk m c 2 t := by dsimp only [dats]
theorem after3 (c : Dev nD) (t : Fin cfg0.N) : (dats m 0 c).after 3 t = iblk m c 3 t := by dsimp only [dats]
theorem after4 (c : Dev nD) (t : Fin cfg0.N) : (dats m 0 c).after 4 t = iblk m c 4 t := by dsimp only [dats]
theorem after5 (c : Dev nD) (t : Fin cfg0.N) : (dats m 0 c).after 5 t = iblk m c 5 t := by dsimp only [dats]
theorem after6 (c : Dev nD) (t : Fin cfg0.N) : (dats m 0 c).after 6 t = iblk m c 6 t := by dsimp only [dats]
theorem after7 (c : Dev nD) (t : Fin cfg0.N) : (dats m 0 c).after 7 t = iblk m c 7 t := by dsimp only [dats]
theorem after8 (c : Dev nD) (t : Fin cfg0.N) : (dats m 0 c).after 8 t = iblk m c 8 t := by dsimp only [dats]
theorem after9 (c : Dev nD) (t : Fin cfg0.N) : (dats m 0 c).after 9 t = iblk m c 9 t := by dsimp only [dats]
theorem after10 (c : Dev nD) (t : Fin cfg0.N) : (dats m 0 c).after 10 t = iblk m c 10 t := by dsimp only [dats]
theorem after11 (c : Dev nD) (t : Fin cfg0.N) : (dats m 0 c).after 11 t = iblk m c 11 t := by dsimp only [dats]
theorem after12 (c : Dev nD) (t : Fin cfg0.N) : (dats m 0 c).after 12 t = iblk m c 12 t := by dsimp only [dats]
theorem after13 (c : Dev nD) (t : Fin cfg0.N) : (dats m 0 c).after 13 t = iblk m c 13 t := by dsimp only [dats]
theorem after14 (c : Dev nD) (t : Fin cfg0.N) : (dats m 0 c).after 14 t = iblk m c 14 t := by dsimp only [dats]
theorem after15 (c : Dev nD) (t : Fin cfg0.N) : (dats m 0 c).after 15 t = o15 m c t := by dsimp only [dats]
theorem after16 (c : Dev nD) (t : Fin cfg0.N) : (dats m 0 c).after 16 t = o16 m c t := by dsimp only [dats]
theorem after17 (c : Dev nD) (t : Fin cfg0.N) : (dats m 0 c).after 17 t = o17 m c t := by dsimp only [dats]
theorem after18 (c : Dev nD) (t : Fin cfg0.N) : (dats m 0 c).after 18 t = o18 m c t := by dsimp only [dats]
theorem after19 (c : Dev nD) (t : Fin cfg0.N) : (dats m 0 c).after 19 t = o19 m c t := by dsimp only [dats]
theorem after20 (c : Dev nD) (t : Fin cfg0.N) : (dats m 0 c).after 20 t = o20 m c t := by dsimp only [dats]
theorem after21 (c : Dev nD) (t : Fin cfg0.N) : (dats m 0 c).after 21 t = o21 m c t := by dsimp only [dats]
theorem after22 (c : Dev nD) (t : Fin cfg0.N) : (dats m 0 c).after 22 t = o22 m c t := by dsimp only [dats]
theorem after23 (c : Dev nD) (t : Fin cfg0.N) : (dats m 0 c).after 23 t = o23 m c t := by dsimp only [dats]
theorem after24 (c : Dev nD) (t : Fin cfg0.N) : (dats m 0 c).after 24 t = o24 m c t := by dsimp only [dats]
theorem after25 (c : Dev nD) (t : Fin cfg0.N) : (dats m 0 c).after 25 t = o25 m c t := by dsimp only [dats]
theorem after26 (c : Dev nD) (t : Fin cfg0.N) : (dats m 0 c).after 26 t = o26 m c t := by dsimp only [dats]
theorem after27 (c : Dev nD) (t : Fin cfg0.N) : (dats m 0 c).after 27 t = o27 m c t := by dsimp only [dats]
theorem before0 (c : Dev nD) (t : Fin cfg0.N) (d) : (dats m 0 c).before 0 t d = iblk m c 0 t :=
  before0_0_of m (dats m 0 c) (A_eq m c 0) (after0 m c) t d
theorem before1 (c : Dev nD) (t : Fin cfg0.N) (d) : (dats m 0 c).before 1 t d = iblk m c 1 t :=
  before0_1_of m (dats m 0 c) (A_eq m c 1) (after1 m c) t d
theorem before2 (c : Dev nD) (t : Fin cfg0.N) (d) : (dats m 0 c).before 2 t d = iblk m c 2 t :=
  before0_2_of m (dats m 0 c) (A_eq m c 2) (after2 m c) t d
theorem before3 (c : Dev nD) (t : Fin cfg0.N) (d) : (dats m 0 c).before 3 t d = iblk m c 3 t :=
  before0_3_of m (dats m 0 c) (A_eq m c 3) (after3 m c) t d
theorem before4 (c : Dev nD) (t : Fin cfg0.N) (d) : (dats m 0 c).before 4 t d = iblk m c 4 t :=
  before0_4_of m (dats m 0 c) (A_eq m c 4) (after4 m c) t d
theorem before5 (c : Dev nD) (t : Fin cfg0.N) (d) : (dats m 0 c).before 5 t d = iblk m c 5 t :=
  before0_5_of m (dats m 0 c) (A_eq m c 5) (after5 m c) t d
theorem before6 (c : Dev nD) (t : Fin cfg0.N) (d) : (dats m 0 c).before 6 t d = iblk m c 6 t :=
  before0_6_of m (dats m 0 c) (A_eq m c 6) (after6 m c) t d
theorem before7 (c : Dev nD) (t : Fin cfg0.N) (d) : (dats m 0 c).before 7 t d = iblk m c 7 t :=
  before0_7_of m (dats m 0 c) (A_eq m c 7) (after7 m c) t d
theorem before8 (c : Dev nD) (t : Fin cfg0.N) (d) : (dats m 0 c).before 8 t d = iblk m c 8 t :=
  before0_8_of m (dats m 0 c) (A_eq m c 8) (after8 m c) t d
theorem before9 (c : Dev nD) (t : Fin cfg0.N) (d) : (dats m 0 c).before 9 t d = iblk m c 9 t :=
  before0_9_of m (dats m 0 c) (A_eq m c 9) (after9 m c) t d
theorem before10 (c : Dev nD) (t : Fin cfg0.N) (d) : (dats m 0 c).before 10 t d = iblk m c 10 t :=
  before0_10_of m (dats m 0 c) (A_eq m c 10) (after10 m c) t d
theorem before11 (c : Dev nD) (t : Fin cfg0.N) (d) : (dats m 0 c).before 11 t d = iblk m c 11 t :=
  before0_11_of m (dats m 0 c) (A_eq m c 11) (after11 m c) t d
theorem before12 (c : Dev nD) (t : Fin cfg0.N) (d) : (dats m 0 c).before 12 t d = iblk m c 12 t :=
  before0_12_of m (dats m 0 c) (A_eq m c 12) (after12 m c) t d
theorem before13 (c : Dev nD) (t : Fin cfg0.N) (d) : (dats m 0 c).before 13 t d = iblk m c 13 t :=
  before0_13_of m (dats m 0 c) (A_eq m c 13) (after13 m c) t d
theorem before14 (c : Dev nD) (t : Fin cfg0.N) (d) : (dats m 0 c).before 14 t d = iblk m c 14 t :=
  before0_14_of m (dats m 0 c) (A_eq m c 14) (after14 m c) t d

/-- The staging buffers as the body finds them at point `t`. -/
def pointPre (c : Dev nD) (t : Fin cfg0.N) : sProp (MT nD τ sig Unit (Elt F) ℕ (UR sig nD τ) ℕ) :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d))
    ∗ (∃ d, owns (c : Thread nD τ) (ms0_6 t) fullShare ((dats m 0 c).before 6 t d))
    ∗ (∃ d, owns (c : Thread nD τ) (ms0_7 t) fullShare ((dats m 0 c).before 7 t d))
    ∗ (∃ d, owns (c : Thread nD τ) (ms0_8 t) fullShare ((dats m 0 c).before 8 t d))
    ∗ (∃ d, owns (c : Thread nD τ) (ms0_9 t) fullShare ((dats m 0 c).before 9 t d))
    ∗ (∃ d, owns (c : Thread nD τ) (ms0_10 t) fullShare ((dats m 0 c).before 10 t d))
    ∗ (∃ d, owns (c : Thread nD τ) (ms0_11 t) fullShare ((dats m 0 c).before 11 t d))
    ∗ (∃ d, owns (c : Thread nD τ) (ms0_12 t) fullShare ((dats m 0 c).before 12 t d))
    ∗ (∃ d, owns (c : Thread nD τ) (ms0_13 t) fullShare ((dats m 0 c).before 13 t d))
    ∗ (∃ d, owns (c : Thread nD τ) (ms0_14 t) fullShare ((dats m 0 c).before 14 t d))
    ∗ (∃ d, owns (c : Thread nD τ) (ms0_15 t) fullShare ((dats m 0 c).before 15 t d))
    ∗ (∃ d, owns (c : Thread nD τ) (ms0_16 t) fullShare ((dats m 0 c).before 16 t d))
    ∗ (∃ d, owns (c : Thread nD τ) (ms0_17 t) fullShare ((dats m 0 c).before 17 t d))
    ∗ (∃ d, owns (c : Thread nD τ) (ms0_18 t) fullShare ((dats m 0 c).before 18 t d))
    ∗ (∃ d, owns (c : Thread nD τ) (ms0_19 t) fullShare ((dats m 0 c).before 19 t d))
    ∗ (∃ d, owns (c : Thread nD τ) (ms0_20 t) fullShare ((dats m 0 c).before 20 t d))
    ∗ (∃ d, owns (c : Thread nD τ) (ms0_21 t) fullShare ((dats m 0 c).before 21 t d))
    ∗ (∃ d, owns (c : Thread nD τ) (ms0_22 t) fullShare ((dats m 0 c).before 22 t d))
    ∗ (∃ d, owns (c : Thread nD τ) (ms0_23 t) fullShare ((dats m 0 c).before 23 t d))
    ∗ (∃ d, owns (c : Thread nD τ) (ms0_24 t) fullShare ((dats m 0 c).before 24 t d))
    ∗ (∃ d, owns (c : Thread nD τ) (ms0_25 t) fullShare ((dats m 0 c).before 25 t d))
    ∗ (∃ d, owns (c : Thread nD τ) (ms0_26 t) fullShare ((dats m 0 c).before 26 t d))
    ∗ (∃ d, owns (c : Thread nD τ) (ms0_27 t) fullShare ((dats m 0 c).before 27 t d)))

/-- The staging buffers as the body leaves them at point `t`. -/
def pointPost (c : Dev nD) (t : Fin cfg0.N) : sProp (MT nD τ sig Unit (Elt F) ℕ (UR sig nD τ) ℕ) :=
  iprop((dats m 0 c).Φ t.succ ∗ (dats m 0 c).owesAt () t.succ
    ∗ owns (c : Thread nD τ) (ms0_0 t) fullShare ((dats m 0 c).after 0 t)
    ∗ owns (c : Thread nD τ) (ms0_1 t) fullShare ((dats m 0 c).after 1 t)
    ∗ owns (c : Thread nD τ) (ms0_2 t) fullShare ((dats m 0 c).after 2 t)
    ∗ owns (c : Thread nD τ) (ms0_3 t) fullShare ((dats m 0 c).after 3 t)
    ∗ owns (c : Thread nD τ) (ms0_4 t) fullShare ((dats m 0 c).after 4 t)
    ∗ owns (c : Thread nD τ) (ms0_5 t) fullShare ((dats m 0 c).after 5 t)
    ∗ owns (c : Thread nD τ) (ms0_6 t) fullShare ((dats m 0 c).after 6 t)
    ∗ owns (c : Thread nD τ) (ms0_7 t) fullShare ((dats m 0 c).after 7 t)
    ∗ owns (c : Thread nD τ) (ms0_8 t) fullShare ((dats m 0 c).after 8 t)
    ∗ owns (c : Thread nD τ) (ms0_9 t) fullShare ((dats m 0 c).after 9 t)
    ∗ owns (c : Thread nD τ) (ms0_10 t) fullShare ((dats m 0 c).after 10 t)
    ∗ owns (c : Thread nD τ) (ms0_11 t) fullShare ((dats m 0 c).after 11 t)
    ∗ owns (c : Thread nD τ) (ms0_12 t) fullShare ((dats m 0 c).after 12 t)
    ∗ owns (c : Thread nD τ) (ms0_13 t) fullShare ((dats m 0 c).after 13 t)
    ∗ owns (c : Thread nD τ) (ms0_14 t) fullShare ((dats m 0 c).after 14 t)
    ∗ owns (c : Thread nD τ) (ms0_15 t) fullShare ((dats m 0 c).after 15 t)
    ∗ owns (c : Thread nD τ) (ms0_16 t) fullShare ((dats m 0 c).after 16 t)
    ∗ owns (c : Thread nD τ) (ms0_17 t) fullShare ((dats m 0 c).after 17 t)
    ∗ owns (c : Thread nD τ) (ms0_18 t) fullShare ((dats m 0 c).after 18 t)
    ∗ owns (c : Thread nD τ) (ms0_19 t) fullShare ((dats m 0 c).after 19 t)
    ∗ owns (c : Thread nD τ) (ms0_20 t) fullShare ((dats m 0 c).after 20 t)
    ∗ owns (c : Thread nD τ) (ms0_21 t) fullShare ((dats m 0 c).after 21 t)
    ∗ owns (c : Thread nD τ) (ms0_22 t) fullShare ((dats m 0 c).after 22 t)
    ∗ owns (c : Thread nD τ) (ms0_23 t) fullShare ((dats m 0 c).after 23 t)
    ∗ owns (c : Thread nD τ) (ms0_24 t) fullShare ((dats m 0 c).after 24 t)
    ∗ owns (c : Thread nD τ) (ms0_25 t) fullShare ((dats m 0 c).after 25 t)
    ∗ owns (c : Thread nD τ) (ms0_26 t) fullShare ((dats m 0 c).after 26 t)
    ∗ owns (c : Thread nD τ) (ms0_27 t) fullShare ((dats m 0 c).after 27 t))

set_option maxHeartbeats 4000000 in
theorem point_sound (c : Dev nD) (t : Fin cfg0.N) :
    pointPre m c t ⊢ wp frame (wpE (defs₀ (F := F)) Variants.none c none) Set.univ (bodyAt0 t) (fun _ => pointPost m c t) := by
  unfold pointPre pointPost bodyAt0
  simp only [before0, before1, before2, before3, before4, before5, before6, before7, before8, before9, before10, before11, before12, before13, before14]
  rw [show (dats m 0 c).Φ t.succ = (dats m 0 c).Φ t.castSucc from rfl,
    show (dats m 0 c).owesAt () t.succ = (dats m 0 c).owesAt () t.castSucc from rfl,
    after0, after1, after2, after3, after4, after5, after6, after7, after8, after9, after10, after11, after12, after13, after14, after15, after16, after17, after18, after19, after20, after21, after22, after23, after24, after25, after26, after27]
  rw [show (dats m 0 c).Φ t.castSucc = Pipeline.ΦA spec0 c from rfl, PhiA0_eq]
  unfold o15 o16 o17 o18 o19 o20 o21 o22 o23 o24 o25 o26 o27
  iintro ⟨⟨HS0, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩, ⟨%d16, H16⟩, ⟨%d17, H17⟩, ⟨%d18, H18⟩, ⟨%d19, H19⟩, ⟨%d20, H20⟩, ⟨%d21, H21⟩, ⟨%d22, H22⟩, ⟨%d23, H23⟩, ⟨%d24, H24⟩, ⟨%d25, H25⟩, ⟨%d26, H26⟩, ⟨%d27, H27⟩⟩
  iapply ((runAt m c t).2.2.2.2.2.2.2.2.2.2.2.2.2.2 Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexists _; iexact H15
  isplitl [H16]; · iexists _; iexact H16
  isplitl [H17]; · iexists _; iexact H17
  isplitl [H18]; · iexists _; iexact H18
  isplitl [H19]; · iexists _; iexact H19
  isplitl [H20]; · iexists _; iexact H20
  isplitl [H21]; · iexists _; iexact H21
  isplitl [H22]; · iexists _; iexact H22
  isplitl [H23]; · iexists _; iexact H23
  isplitl [H24]; · iexists _; iexact H24
  isplitl [H25]; · iexists _; iexact H25
  isplitl [H26]; · iexists _; iexact H26
  isplitl [H27]; · iexists _; iexact H27
  isplitl [HS0]; · iexact HS0
  iintro ⟨H0, H1, H2, H3, H4, H5, H6, H7, H8, H9, H10, H11, H12, H13, H14, ⟨%e15, H15⟩, ⟨%e16, H16⟩, ⟨%e17, H17⟩, ⟨%e18, H18⟩, ⟨%e19, H19⟩, ⟨%e20, H20⟩, ⟨%e21, H21⟩, ⟨%e22, H22⟩, ⟨%e23, H23⟩, ⟨%e24, H24⟩, ⟨%e25, H25⟩, ⟨%e26, H26⟩, ⟨%e27, H27⟩, ⟨%fT0, HS0⟩⟩
  isplitl [HS0 Hg]
  · isplitl [HS0]
    · iexists _; unfold owns; iexists _; isplitr
      swap; · iexact HS0
      ipureintro; rfl
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]
  · unfold owns; iexists _; isplitr
    swap; · iexact H15
    ipureintro; exact View.read_writes_of_cover _ _ _ _ _ (cov15 m c t)
  isplitl [H16]
  · unfold owns; iexists _; isplitr
    swap; · iexact H16
    ipureintro; exact View.read_writes_of_cover _ _ _ _ _ (cov16 m c t)
  isplitl [H17]
  · unfold owns; iexists _; isplitr
    swap; · iexact H17
    ipureintro; exact View.read_writes_of_cover _ _ _ _ _ (cov17 m c t)
  isplitl [H18]
  · unfold owns; iexists _; isplitr
    swap; · iexact H18
    ipureintro; exact View.read_writes_of_cover _ _ _ _ _ (cov18 m c t)
  isplitl [H19]
  · unfold owns; iexists _; isplitr
    swap; · iexact H19
    ipureintro; exact View.read_writes_of_cover _ _ _ _ _ (cov19 m c t)
  isplitl [H20]
  · unfold owns; iexists _; isplitr
    swap; · iexact H20
    ipureintro; exact View.read_writes_of_cover _ _ _ _ _ (cov20 m c t)
  isplitl [H21]
  · unfold owns; iexists _; isplitr
    swap; · iexact H21
    ipureintro; exact View.read_writes_of_cover _ _ _ _ _ (cov21 m c t)
  isplitl [H22]
  · unfold owns; iexists _; isplitr
    swap; · iexact H22
    ipureintro; exact View.read_writes_of_cover _ _ _ _ _ (cov22 m c t)
  isplitl [H23]
  · unfold owns; iexists _; isplitr
    swap; · iexact H23
    ipureintro; exact View.read_writes_of_cover _ _ _ _ _ (cov23 m c t)
  isplitl [H24]
  · unfold owns; iexists _; isplitr
    swap; · iexact H24
    ipureintro; exact View.read_writes_of_cover _ _ _ _ _ (cov24 m c t)
  isplitl [H25]
  · unfold owns; iexists _; isplitr
    swap; · iexact H25
    ipureintro; exact View.read_writes_of_cover _ _ _ _ _ (cov25 m c t)
  isplitl [H26]
  · unfold owns; iexists _; isplitr
    swap; · iexact H26
    ipureintro; exact View.read_writes_of_cover _ _ _ _ _ (cov26 m c t)
  unfold owns; iexists _; isplitr
  swap; · iexact H27
  ipureintro; exact View.read_writes_of_cover _ _ _ _ _ (cov27 m c t)

set_option maxHeartbeats 4000000 in
theorem obligation (c : Dev nD) : BodyObligation (dats (F := F) m 0 c) (defs₀ (F := F)) Variants.none () Set.univ := fun t => by
  rw [bigSep_W0, bigSep_W0, show defs₀ (F := F) .tc cfg0.body (cfg0.bodyArgs t (cfg0.slots t)) = bodyAt0 t from by
    unfold defs₀; rw [Defs.onTc_tc]]
  exact triple_restated (point_sound m c t) rfl .rfl fun _ => .rfl

set_option backward.isDefEq.respectTransparency.types false in
/-- The whole program ends with the pipeline's arrays at what its points wrote, the rest as the region found it, and every counter at zero. -/
theorem whole : θ_run defs (onTc (τ := τ) (main (F := F))) (s₀ m ρ)
    (fun r => (Pipeline.FramePost cfgs (dats m) 0 (V m)) r ∧ r.2.sem = fun _ => 0) :=
  Pipeline.θ_run_frame (Q' := _) cfgs (dats m) (0 : Fin 1) launch0 defs₀ Variants.none m ρ main
    (hbody := fun c => (obligation m c).loose) (hshare := fun c => (dats m 0 c).share_full fun _ => rfl)
    (howed := fun _ _ => rfl) (V := V m) (hmain := hmain m Variants.none) (hA := A_eq m) (hΦ := fun _ _ => rfl)

/-- The arguments end as they began, and every counter at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18))
      ∧ r.2.sem = fun _ => 0) :=
  θ_run_and (frame_of m ρ (dats m) (A_eq m) ((θ_run defs _ _).mono (fun _ h => h.1) (whole m ρ)))
    ((θ_run defs _ _).mono (fun _ h => h.2) (whole m ρ))

end Cert.PreIdeal.Own

end
-- ==== Proof.PreFrame.lean ====
/- The frame of the program whose means are plain constants, from that of the program whose means are named. -/
module

public import proofs.«01_k».proof.Proof.PreIdealPipe
public import proofs.«01_k».proof.Proof.Gen.Pre

@[expose] public section

set_option maxRecDepth 65536

noncomputable section

namespace Cert.PreFrame

open Idealize.ShloMosaic Idealize.ShloMosaic.TcCoe Idealize.ShloMosaic.Tactic Idealize.SL.Sem

variable {F : FTy → Type} [FloatOps F]

/-- A named constant read as the bits it is printed with. -/
abbrev plain : Named F := ⟨fun _ _ {φ} bits => Scalar.ofBits φ bits⟩

section
open Cert.Pre Cert.Pre.Gen
/-- What is claimed of the program with plain constants. -/
def Keeps : Prop := ∀ (m : (ℓ : Loc nD τ sig) → Buf (Elt F) ℓ) (ρ : Dev nD → PrngReg), θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18))
      ∧ r.2.sem = fun _ => 0)
end

section
open Cert.PreIdeal Cert.PreIdeal.Gen
/-- What is claimed of the program with named constants. -/
def KeepsNamed [Named F] : Prop := ∀ (m : (ℓ : Loc nD τ sig) → Buf (Elt F) ℓ) (ρ : Dev nD → PrngReg), θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18))
      ∧ r.2.sem = fun _ => 0)
end

/-- The frame of the program with named constants, under any reading of the names. -/
theorem keepsNamed [Named F] : KeepsNamed (F := F) := fun m ρ => Cert.PreIdeal.Own.frame m ρ

/-- The two programs are the same text but for the constants, so the two claims are one. -/
theorem keeps_eq : Keeps (F := F) = @KeepsNamed F _ plain := by sl_kernel_rfl

/-- The frame of the program with plain constants. -/
theorem keeps : Keeps (F := F) := keeps_eq (F := F) ▸ @keepsNamed F _ plain

end Cert.PreFrame

end
-- ==== Proof.PreSpec.lean ====
/- The formulas of the projections, the head norms and the rotary embedding of one row, plain and with every head
   padded to 128 lanes, and that the padded ones are the plain ones padded. -/
module

public import proofs.«01_k».proof.Proof.Rows

@[expose] public section

noncomputable section

namespace Cert.PreSpec

open Idealize.ShloMosaic

/-- The constant added under the root, and the two scales of the queries. -/
def eps : EReal := Ideal.ofBits .f32 0x358637BD#32
def scA : EReal := Ideal.ofBits .f32 0x3E000000#32
def scB : EReal := Ideal.ofBits .f32 0x3DD105EC#32

/-- A row over the root of its mean square, times the gain. -/
def nrm {n : ℕ} (κ : EReal) (f g : Fin n → EReal) (l : Fin n) : EReal :=
  f l * Ideal.rsqrt ((∑ j : Fin n, f j * f j) * κ + eps) * g l

/-- A head padded with zeros to 128 lanes. -/
def pd {n : ℕ} (f : Fin n → EReal) (l : Fin 128) : EReal := if h : l.val < n then f ⟨l.val, h⟩ else 0

theorem sum_pd {n : ℕ} (hn : n ≤ 128) (f : Fin n → EReal) : ∑ j : Fin 128, pd f j * pd f j = ∑ j : Fin n, f j * f j := by
  rw [← Finset.sum_subset (Finset.subset_univ (Finset.univ.map (Fin.castLEEmb hn)))]
  · rw [Finset.sum_map]
    refine Finset.sum_congr rfl fun j _ => ?_
    have : pd f (Fin.castLEEmb hn j) = f j := dif_pos j.isLt
    rw [this]
  · intro j _ hj
    have : ¬ j.val < n := fun h => hj (Finset.mem_map.2 ⟨⟨j.val, h⟩, Finset.mem_univ _, Fin.ext rfl⟩)
    unfold pd
    rw [dif_neg this, mul_zero]

theorem nrm_pd {n : ℕ} (hn : n ≤ 128) (κ : EReal) (f g : Fin n → EReal) : nrm κ (pd f) (pd g) = pd (nrm κ f g) := by
  funext l
  unfold nrm
  rw [sum_pd hn]
  unfold pd
  split
  · rfl
  · rw [mul_zero]

theorem pd_mul {n : ℕ} (f : Fin n → EReal) (a : EReal) (l : Fin 128) : pd f l * a = pd (fun l => f l * a) l := by
  unfold pd
  split
  · rfl
  · rw [zero_mul]

/-- The lane `a` further, around the end. -/
def lane (a : ℕ) (l : Fin 128) : Fin 128 := ⟨(l.val + a) % 128, Nat.mod_lt _ (by decide)⟩

/-- The rotary embedding on 128 lanes: the partner of a lane is `half` above or below it. -/
def rot (half : ℕ) (y c s : Fin 128 → EReal) (l : Fin 128) : EReal :=
  y l * c l + (if l.val % (2 * half) < half then y (lane half l) else y (lane (128 - half) l)) * s l

/-- The rotary embedding of a head of 64 columns: the first half by the row's angles, the second by the column's. -/
def rotA (y : Fin 64 → EReal) (cr sr cc sc : Fin 16 → EReal) (l : Fin 64) : EReal :=
  if h : l.val < 16 then y l * cr ⟨l.val, h⟩ - y ⟨l.val + 16, by omega⟩ * sr ⟨l.val, h⟩
  else if h2 : l.val < 32 then y ⟨l.val - 16, by omega⟩ * sr ⟨l.val - 16, by omega⟩ + y l * cr ⟨l.val - 16, by omega⟩
  else if h3 : l.val < 48 then y l * cc ⟨l.val - 32, by omega⟩ - y ⟨l.val + 16, by omega⟩ * sc ⟨l.val - 32, by omega⟩
  else y ⟨l.val - 16, by omega⟩ * sc ⟨l.val - 48, by omega⟩ + y l * cc ⟨l.val - 48, by omega⟩

/-- The same of the last 32 of 96 columns. -/
def rotB (y : Fin 96 → EReal) (cr sr cc sc : Fin 8 → EReal) (l : Fin 96) : EReal :=
  if h : l.val < 64 then y l
  else if h1 : l.val < 72 then y l * cr ⟨l.val - 64, by omega⟩ - y ⟨l.val + 8, by omega⟩ * sr ⟨l.val - 64, by omega⟩
  else if h2 : l.val < 80 then y ⟨l.val - 8, by omega⟩ * sr ⟨l.val - 72, by omega⟩ + y l * cr ⟨l.val - 72, by omega⟩
  else if h3 : l.val < 88 then y l * cc ⟨l.val - 80, by omega⟩ - y ⟨l.val + 8, by omega⟩ * sc ⟨l.val - 80, by omega⟩
  else y ⟨l.val - 8, by omega⟩ * sc ⟨l.val - 88, by omega⟩ + y l * cc ⟨l.val - 88, by omega⟩

/-- The tables of cosines and signed sines, padded to 128 lanes. -/
def cosA (cr cc : Fin 16 → EReal) (l : Fin 128) : EReal :=
  if h : l.val < 16 then cr ⟨l.val, h⟩ else if h : l.val < 32 then cr ⟨l.val - 16, by omega⟩
  else if h : l.val < 48 then cc ⟨l.val - 32, by omega⟩ else if h : l.val < 64 then cc ⟨l.val - 48, by omega⟩ else 0
def sinA (sr sc : Fin 16 → EReal) (l : Fin 128) : EReal :=
  if h : l.val < 16 then -sr ⟨l.val, h⟩ else if h : l.val < 32 then sr ⟨l.val - 16, by omega⟩
  else if h : l.val < 48 then -sc ⟨l.val - 32, by omega⟩ else if h : l.val < 64 then sc ⟨l.val - 48, by omega⟩ else 0
def cosB (cr cc : Fin 8 → EReal) (l : Fin 128) : EReal :=
  if l.val < 64 then 1 else if h : l.val < 72 then cr ⟨l.val - 64, by omega⟩ else if h : l.val < 80 then cr ⟨l.val - 72, by omega⟩
  else if h : l.val < 88 then cc ⟨l.val - 80, by omega⟩ else if h : l.val < 96 then cc ⟨l.val - 88, by omega⟩ else 0
def sinB (sr sc : Fin 8 → EReal) (l : Fin 128) : EReal :=
  if l.val < 64 then 0 else if h : l.val < 72 then -sr ⟨l.val - 64, by omega⟩ else if h : l.val < 80 then sr ⟨l.val - 72, by omega⟩
  else if h : l.val < 88 then -sc ⟨l.val - 80, by omega⟩ else if h : l.val < 96 then sc ⟨l.val - 88, by omega⟩ else 0

theorem rot_pdA (y : Fin 64 → EReal) (cr sr cc sc : Fin 16 → EReal) :
    rot 16 (pd y) (cosA cr cc) (sinA sr sc) = pd (rotA y cr sr cc sc) := by
  funext l
  have := l.isLt
  unfold rot pd cosA sinA rotA lane
  dsimp only
  by_cases h1 : l.val < 16
  · have e1 : l.val % (2 * 16) < 16 := by omega
    have e2 : (l.val + 16) % 128 = l.val + 16 := by omega
    have e3 : l.val < 64 := by omega
    have e4 : l.val + 16 < 64 := by omega
    simp only [h1, e1, e2, e3, e4, ↓reduceDIte, ↓reduceIte, mul_neg, sub_eq_add_neg]
  by_cases h2 : l.val < 32
  · have e1 : ¬ l.val % (2 * 16) < 16 := by omega
    have e2 : (l.val + (128 - 16)) % 128 = l.val - 16 := by omega
    have e3 : l.val < 64 := by omega
    have e4 : l.val - 16 < 64 := by omega
    simp only [h1, h2, e1, e2, e3, e4, ↓reduceDIte, ↓reduceIte]
    exact add_comm _ _
  by_cases h3 : l.val < 48
  · have e1 : l.val % (2 * 16) < 16 := by omega
    have e2 : (l.val + 16) % 128 = l.val + 16 := by omega
    have e3 : l.val < 64 := by omega
    have e4 : l.val + 16 < 64 := by omega
    simp only [h1, h2, h3, e1, e2, e3, e4, ↓reduceDIte, ↓reduceIte, mul_neg, sub_eq_add_neg]
  by_cases h4 : l.val < 64
  · have e1 : ¬ l.val % (2 * 16) < 16 := by omega
    have e2 : (l.val + (128 - 16)) % 128 = l.val - 16 := by omega
    have e4 : l.val - 16 < 64 := by omega
    simp only [h1, h2, h3, h4, e1, e2, e4, ↓reduceDIte, ↓reduceIte]
    exact add_comm _ _
  · simp only [h1, h2, h3, h4, ↓reduceDIte, mul_zero, add_zero]

theorem rot_pdB (y : Fin 96 → EReal) (cr sr cc sc : Fin 8 → EReal) :
    rot 8 (pd y) (cosB cr cc) (sinB sr sc) = pd (rotB y cr sr cc sc) := by
  funext l
  have := l.isLt
  unfold rot pd cosB sinB rotB lane
  dsimp only
  by_cases h0 : l.val < 64
  · have e3 : l.val < 96 := by omega
    simp only [h0, e3, ↓reduceDIte, ↓reduceIte, mul_zero, add_zero, mul_one]
  by_cases h1 : l.val < 72
  · have e1 : l.val % (2 * 8) < 8 := by omega
    have e2 : (l.val + 8) % 128 = l.val + 8 := by omega
    have e3 : l.val < 96 := by omega
    have e4 : l.val + 8 < 96 := by omega
    simp only [h0, h1, e1, e2, e3, e4, ↓reduceDIte, ↓reduceIte, mul_neg, sub_eq_add_neg]
  by_cases h2 : l.val < 80
  · have e1 : ¬ l.val % (2 * 8) < 8 := by omega
    have e2 : (l.val + (128 - 8)) % 128 = l.val - 8 := by omega
    have e3 : l.val < 96 := by omega
    have e4 : l.val - 8 < 96 := by omega
    simp only [h0, h1, h2, e1, e2, e3, e4, ↓reduceDIte, ↓reduceIte]
    exact add_comm _ _
  by_cases h3 : l.val < 88
  · have e1 : l.val % (2 * 8) < 8 := by omega
    have e2 : (l.val + 8) % 128 = l.val + 8 := by omega
    have e3 : l.val < 96 := by omega
    have e4 : l.val + 8 < 96 := by omega
    simp only [h0, h1, h2, h3, e1, e2, e3, e4, ↓reduceDIte, ↓reduceIte, mul_neg, sub_eq_add_neg]
  by_cases h4 : l.val < 96
  · have e1 : ¬ l.val % (2 * 8) < 8 := by omega
    have e2 : (l.val + (128 - 8)) % 128 = l.val - 8 := by omega
    have e4 : l.val - 8 < 96 := by omega
    simp only [h0, h1, h2, h3, h4, e1, e2, e4, ↓reduceDIte, ↓reduceIte]
    exact add_comm _ _
  · simp only [h0, h1, h2, h3, h4, ↓reduceDIte, ↓reduceIte, mul_zero, add_zero]

section
variable (x : Fin 1024 → EReal) (w : Fin 1024 → Fin 2464 → EReal) (uq : Fin 384 → Fin 384 → EReal) (ukv : Fin 256 → Fin 768 → EReal)
  (gi : Fin 1024 → EReal) (gcq : Fin 384 → EReal) (gckv : Fin 256 → EReal)

/-- The normalised input, its projection, and the two latents with theirs, for one row. -/
def xn : Fin 1024 → EReal := nrm ((1 / 1024 : ℝ) : EReal) x gi
def pj (n : Fin 2464) : EReal := ∑ d : Fin 1024, xn x gi d * w d n
def cq : Fin 384 → EReal := nrm ((1 / 384 : ℝ) : EReal) (fun j => pj x w gi ⟨1280 + j.val, by omega⟩) gcq
def ckv : Fin 256 → EReal := nrm ((1 / 256 : ℝ) : EReal) (fun j => pj x w gi ⟨1664 + j.val, by omega⟩) gckv
def pq (n : Fin 384) : EReal := ∑ j : Fin 384, cq x w gi gcq j * uq j n
def pkv (n : Fin 768) : EReal := ∑ j : Fin 256, ckv x w gi gckv j * ukv j n
/-- A head's query and key of the second mixer before their norms. -/
def hq (h : Fin 4) (l : Fin 96) : EReal := pq x w uq gi gcq ⟨96 * h.val + l.val, by omega⟩
def hk (h : Fin 4) (l : Fin 96) : EReal :=
  if e : l.val < 64 then pkv x w ukv gi gckv ⟨192 * h.val + l.val, by omega⟩ else pj x w gi ⟨1920 + (l.val - 64), by omega⟩
end

section
variable (x : Fin 1024 → EReal) (W : Fin 1024 → Fin 3840 → EReal) (UQ : Fin 384 → Fin 512 → EReal) (UKV : Fin 256 → Fin 1024 → EReal)
  (gi : Fin 1024 → EReal) (gcq : Fin 384 → EReal) (gckv : Fin 256 → EReal)

/-- The same with the padded weights. -/
def Pj (n : Fin 3840) : EReal := ∑ d : Fin 1024, xn x gi d * W d n
def Cq : Fin 384 → EReal := nrm ((1 / 384 : ℝ) : EReal) (fun j => Pj x W gi ⟨3072 + j.val, by omega⟩) gcq
def Ckv : Fin 256 → EReal := nrm ((1 / 256 : ℝ) : EReal) (fun j => Pj x W gi ⟨3456 + j.val, by omega⟩) gckv
def Pq (n : Fin 512) : EReal := ∑ j : Fin 384, Cq x W gi gcq j * UQ j n
def Pkv (n : Fin 1024) : EReal := ∑ j : Fin 256, Ckv x W gi gckv j * UKV j n
def Hk (h : Fin 4) (l : Fin 128) : EReal := Pkv x W UKV gi gckv ⟨128 * h.val + l.val, by omega⟩ + Pj x W gi ⟨3712 + l.val, by omega⟩
end

section
variable (w : Fin 1024 → Fin 2464 → EReal) (uq : Fin 384 → Fin 384 → EReal) (ukv : Fin 256 → Fin 768 → EReal)

/-- The padded weights. -/
def padW (d : Fin 1024) (n : Fin 3840) : EReal :=
  if _h : n.val < 1024 then pd (fun l : Fin 64 => w d ⟨64 * (n.val / 128) + l.val, by omega⟩) ⟨n.val % 128, by omega⟩
  else if _h : n.val < 1280 then pd (fun l : Fin 64 => w d ⟨512 + (64 * ((n.val - 1024) / 128) + l.val), by omega⟩) ⟨(n.val - 1024) % 128, by omega⟩
  else if _h : n.val < 1536 then pd (fun l : Fin 64 => w d ⟨640 + (64 * ((n.val - 1280) / 128) + l.val), by omega⟩) ⟨(n.val - 1280) % 128, by omega⟩
  else if _h : n.val < 2560 then pd (fun l : Fin 64 => w d ⟨768 + (64 * ((n.val - 1536) / 128) + l.val), by omega⟩) ⟨(n.val - 1536) % 128, by omega⟩
  else if _h : n.val < 3072 then w d ⟨1952 + (n.val - 2560), by omega⟩
  else if _h : n.val < 3456 then w d ⟨1280 + (n.val - 3072), by omega⟩
  else if _h : n.val < 3712 then w d ⟨1664 + (n.val - 3456), by omega⟩
  else if _h : n.val < 3776 then 0
  else if _h : n.val < 3808 then w d ⟨1920 + (n.val - 3776), by omega⟩ else 0
def padQ (j : Fin 384) (n : Fin 512) : EReal := pd (fun l : Fin 96 => uq j ⟨96 * (n.val / 128) + l.val, by omega⟩) ⟨n.val % 128, by omega⟩
def padKV (j : Fin 256) (n : Fin 1024) : EReal :=
  if _h : n.val < 512 then pd (fun l : Fin 64 => ukv j ⟨192 * (n.val / 128) + l.val, by omega⟩) ⟨n.val % 128, by omega⟩
  else ukv j ⟨192 * ((n.val - 512) / 128) + 64 + (n.val - 512) % 128, by omega⟩
end

section
variable (x : Fin 1024 → EReal) (w : Fin 1024 → Fin 2464 → EReal) (uq : Fin 384 → Fin 384 → EReal) (ukv : Fin 256 → Fin 768 → EReal)
  (gi : Fin 1024 → EReal) (gcq : Fin 384 → EReal) (gckv : Fin 256 → EReal)

theorem Pj_same (n : Fin 3840) (k : Fin 2464) (h : ∀ d, padW w d n = w d k) : Pj x (padW w) gi n = pj x w gi k := by
  unfold Pj pj
  simp only [h]
theorem Pj_zero (n : Fin 3840) (h : ∀ d, padW w d n = 0) : Pj x (padW w) gi n = 0 := by
  unfold Pj
  simp only [h, mul_zero, Finset.sum_const_zero]

theorem Pj_q (h : Fin 8) (l : Fin 128) : Pj x (padW w) gi ⟨128 * h.val + l.val, by omega⟩ = pd (fun l : Fin 64 => pj x w gi ⟨64 * h.val + l.val, by omega⟩) l := by
  have e1 : 128 * h.val + l.val < 1024 := by omega
  have e2 : (128 * h.val + l.val) / 128 = h.val := by omega
  have e3 : (128 * h.val + l.val) % 128 = l.val := by omega
  unfold pd
  split
  · exact Pj_same x w gi _ _ fun d => by unfold padW pd; simp only [e1, e2, e3, *, ↓reduceDIte]
  · exact Pj_zero x w gi _ fun d => by unfold padW pd; simp only [e1, e2, e3, *, ↓reduceDIte]
theorem Pj_k (h : Fin 2) (l : Fin 128) : Pj x (padW w) gi ⟨1024 + (128 * h.val + l.val), by omega⟩ = pd (fun l : Fin 64 => pj x w gi ⟨512 + (64 * h.val + l.val), by omega⟩) l := by
  have e0 : ¬ 1024 + (128 * h.val + l.val) < 1024 := by omega
  have e1 : 1024 + (128 * h.val + l.val) < 1280 := by omega
  have e2 : (1024 + (128 * h.val + l.val) - 1024) / 128 = h.val := by omega
  have e3 : (1024 + (128 * h.val + l.val) - 1024) % 128 = l.val := by omega
  unfold pd
  split
  · exact Pj_same x w gi _ _ fun d => by unfold padW pd; simp only [e0, e1, e2, e3, *, ↓reduceDIte]
  · exact Pj_zero x w gi _ fun d => by unfold padW pd; simp only [e0, e1, e2, e3, *, ↓reduceDIte]
theorem Pj_v (h : Fin 2) (l : Fin 128) : Pj x (padW w) gi ⟨1280 + (128 * h.val + l.val), by omega⟩ = pd (fun l : Fin 64 => pj x w gi ⟨640 + (64 * h.val + l.val), by omega⟩) l := by
  have e0 : ¬ 1280 + (128 * h.val + l.val) < 1024 := by omega
  have e0' : ¬ 1280 + (128 * h.val + l.val) < 1280 := by omega
  have e1 : 1280 + (128 * h.val + l.val) < 1536 := by omega
  have e2 : (1280 + (128 * h.val + l.val) - 1280) / 128 = h.val := by omega
  have e3 : (1280 + (128 * h.val + l.val) - 1280) % 128 = l.val := by omega
  unfold pd
  split
  · exact Pj_same x w gi _ _ fun d => by unfold padW pd; simp only [e0, e0', e1, e2, e3, *, ↓reduceDIte]
  · exact Pj_zero x w gi _ fun d => by unfold padW pd; simp only [e0, e0', e1, e2, e3, *, ↓reduceDIte]
theorem Pj_g (h : Fin 8) (l : Fin 128) : Pj x (padW w) gi ⟨1536 + (128 * h.val + l.val), by omega⟩ = pd (fun l : Fin 64 => pj x w gi ⟨768 + (64 * h.val + l.val), by omega⟩) l := by
  have e0 : ¬ 1536 + (128 * h.val + l.val) < 1024 := by omega
  have e0' : ¬ 1536 + (128 * h.val + l.val) < 1280 := by omega
  have e0'' : ¬ 1536 + (128 * h.val + l.val) < 1536 := by omega
  have e1 : 1536 + (128 * h.val + l.val) < 2560 := by omega
  have e2 : (1536 + (128 * h.val + l.val) - 1536) / 128 = h.val := by omega
  have e3 : (1536 + (128 * h.val + l.val) - 1536) % 128 = l.val := by omega
  unfold pd
  split
  · exact Pj_same x w gi _ _ fun d => by unfold padW pd; simp only [e0, e0', e0'', e1, e2, e3, *, ↓reduceDIte]
  · exact Pj_zero x w gi _ fun d => by unfold padW pd; simp only [e0, e0', e0'', e1, e2, e3, *, ↓reduceDIte]
theorem Pj_bg (n : Fin 3840) (h1 : 2560 ≤ n.val) (h2 : n.val < 3072) : Pj x (padW w) gi n = pj x w gi ⟨1952 + (n.val - 2560), by omega⟩ :=
  Pj_same x w gi _ _ fun d => by
    unfold padW
    rw [dif_neg (by omega), dif_neg (by omega), dif_neg (by omega), dif_neg (by omega), dif_pos h2]
theorem Pj_cq (n : Fin 3840) (h1 : 3072 ≤ n.val) (h2 : n.val < 3456) : Pj x (padW w) gi n = pj x w gi ⟨1280 + (n.val - 3072), by omega⟩ :=
  Pj_same x w gi _ _ fun d => by
    unfold padW
    rw [dif_neg (by omega), dif_neg (by omega), dif_neg (by omega), dif_neg (by omega), dif_neg (by omega), dif_pos h2]
theorem Pj_ckv (n : Fin 3840) (h1 : 3456 ≤ n.val) (h2 : n.val < 3712) : Pj x (padW w) gi n = pj x w gi ⟨1664 + (n.val - 3456), by omega⟩ :=
  Pj_same x w gi _ _ fun d => by
    unfold padW
    rw [dif_neg (by omega), dif_neg (by omega), dif_neg (by omega), dif_neg (by omega), dif_neg (by omega), dif_neg (by omega), dif_pos h2]
theorem Pj_kr (l : Fin 128) : Pj x (padW w) gi ⟨3712 + l.val, by omega⟩
    = if h : 64 ≤ l.val ∧ l.val < 96 then pj x w gi ⟨1920 + (l.val - 64), by omega⟩ else 0 := by
  have n0 : ¬ 3712 + l.val < 1024 := by omega
  have n1 : ¬ 3712 + l.val < 1280 := by omega
  have n2 : ¬ 3712 + l.val < 1536 := by omega
  have n3 : ¬ 3712 + l.val < 2560 := by omega
  have n4 : ¬ 3712 + l.val < 3072 := by omega
  have n5 : ¬ 3712 + l.val < 3456 := by omega
  have n6 : ¬ 3712 + l.val < 3712 := by omega
  split
  · next h =>
    refine Pj_same x w gi _ _ fun d => ?_
    have m1 : ¬ 3712 + l.val < 3776 := by omega
    have m2 : 3712 + l.val < 3808 := by omega
    unfold padW
    simp only [n0, n1, n2, n3, n4, n5, n6, m1, m2, ↓reduceDIte]
    refine congrArg (w d) (Fin.ext ?_)
    show 1920 + (3712 + l.val - 3776) = 1920 + (l.val - 64)
    omega
  · next h =>
    refine Pj_zero x w gi _ fun d => ?_
    unfold padW
    simp only [n0, n1, n2, n3, n4, n5, n6, ↓reduceDIte]
    split
    · rfl
    · rw [dif_neg (by omega)]

theorem Cq_eq : Cq x (padW w) gi gcq = cq x w gi gcq := by
  unfold Cq cq
  congr 1
  funext j
  refine (Pj_cq x w gi _ (by show 3072 ≤ 3072 + j.val; omega) (by show 3072 + j.val < 3456; omega)).trans ?_
  refine congrArg (pj x w gi) (Fin.ext ?_)
  show 1280 + (3072 + j.val - 3072) = 1280 + j.val
  omega
theorem Ckv_eq : Ckv x (padW w) gi gckv = ckv x w gi gckv := by
  unfold Ckv ckv
  congr 1
  funext j
  refine (Pj_ckv x w gi _ (by show 3456 ≤ 3456 + j.val; omega) (by show 3456 + j.val < 3712; omega)).trans ?_
  refine congrArg (pj x w gi) (Fin.ext ?_)
  show 1664 + (3456 + j.val - 3456) = 1664 + j.val
  omega

theorem Pq_eq (h : Fin 4) (l : Fin 128) : Pq x (padW w) (padQ uq) gi gcq ⟨128 * h.val + l.val, by omega⟩ = pd (hq x w uq gi gcq h) l := by
  have e2 : (128 * h.val + l.val) / 128 = h.val := by omega
  have e3 : (128 * h.val + l.val) % 128 = l.val := by omega
  unfold Pq pd padQ hq pq pd
  simp only [Cq_eq, e2, e3]
  split
  · rfl
  · simp only [mul_zero, Finset.sum_const_zero]

theorem Pkv_v (h : Fin 4) (l : Fin 128) : Pkv x (padW w) (padKV ukv) gi gckv ⟨512 + (128 * h.val + l.val), by omega⟩
    = pkv x w ukv gi gckv ⟨192 * h.val + 64 + l.val, by omega⟩ := by
  have e1 : ¬ 512 + (128 * h.val + l.val) < 512 := by omega
  have e2 : (512 + (128 * h.val + l.val) - 512) / 128 = h.val := by omega
  have e3 : (512 + (128 * h.val + l.val) - 512) % 128 = l.val := by omega
  unfold Pkv pkv padKV
  simp only [Ckv_eq, e1, e2, e3, ↓reduceDIte]

theorem Hk_eq (h : Fin 4) : Hk x (padW w) (padKV ukv) gi gckv h = pd (hk x w ukv gi gckv h) := by
  funext l
  have e1 : 128 * h.val + l.val < 512 := by omega
  have e2 : (128 * h.val + l.val) / 128 = h.val := by omega
  have e3 : (128 * h.val + l.val) % 128 = l.val := by omega
  unfold Hk Pkv padKV pd hk
  rw [Pj_kr]
  simp only [Ckv_eq, e1, e2, e3, ↓reduceDIte]
  by_cases h1 : l.val < 64
  · have h2 : ¬ (64 ≤ l.val ∧ l.val < 96) := by omega
    have h3 : l.val < 96 := by omega
    rw [dif_neg h2, dif_pos h3, add_zero]
    simp only [h1, ↓reduceDIte]
    rfl
  · simp only [h1, ↓reduceDIte, mul_zero, Finset.sum_const_zero, zero_add]
    by_cases h3 : l.val < 96
    · have h2 : 64 ≤ l.val ∧ l.val < 96 := by omega
      rw [dif_pos h2, dif_pos h3]
    · have h2 : ¬ (64 ≤ l.val ∧ l.val < 96) := by omega
      rw [dif_neg h2, dif_neg h3]
end

end Cert.PreSpec

end
-- ==== Proof.PreVal.lean ====
/- The vectors that the body of the kernel forms for one head, element by element. -/
module

public import Idealize.ShloMosaic.Lib.VecWindow
public import Idealize.ShloMosaic.Lib.KernelVsHost
public import proofs.«01_k».proof.Proof.PreSpec
public import proofs.«01_k».proof.Proof.Gen.PreIdeal.Skeleton
public import Idealize.ShloMosaic.Lib.Pointwise

@[expose] public section

set_option maxRecDepth 16384

noncomputable section

namespace Cert.PreIdeal.Block

open Cert.PreIdeal Cert.PreIdeal.Gen Idealize.ShloMosaic Idealize.ShloMosaic.TcCoe Cert.Online Cert.PreSpec

/-- The lanes whose partner lies above, as the body computes them. -/
def mask (n half : BitVec 32) : IVec S256x128 1 :=
  cmpi .slt (select (andi (xori (cmpi .slt (remsi (iota .tc S256x128 32 [1] iota_S256x128_d1_w32) (broadcast S256x128 (Scalar.select (Scalar.cmpi .eq n 0#32) 1#32 n))) (broadcast S256x128 0#32))
      (broadcastTo S256x128 (broadcast S256x128 (Scalar.cmpi .slt (Scalar.select (Scalar.cmpi .eq n 0#32) 1#32 n) 0#32)) broadcasts_S256x128_S256x128))
      (cmpi .ne (remsi (iota .tc S256x128 32 [1] iota_S256x128_d1_w32) (broadcast S256x128 (Scalar.select (Scalar.cmpi .eq n 0#32) 1#32 n))) (broadcast S256x128 0#32)))
    (addi (remsi (iota .tc S256x128 32 [1] iota_S256x128_d1_w32) (broadcast S256x128 (Scalar.select (Scalar.cmpi .eq n 0#32) 1#32 n))) (broadcast S256x128 (Scalar.select (Scalar.cmpi .eq n 0#32) 1#32 n)))
    (remsi (iota .tc S256x128 32 [1] iota_S256x128_d1_w32) (broadcast S256x128 (Scalar.select (Scalar.cmpi .eq n 0#32) 1#32 n)))) (broadcast S256x128 half)

theorem mask32 (r : Fin 256) (l : Fin 128) : mask 32#32 16#32 (ix2 r l) = if l.val % (2 * 16) < 16 then 1#1 else 0#1 := by
  pointwise [mask]
  revert l; decide

theorem mask16 (r : Fin 256) (l : Fin 128) : mask 16#32 8#32 (ix2 r l) = if l.val % (2 * 8) < 8 then 1#1 else 0#1 := by
  pointwise [mask]
  revert l; decide

/-- The norm of a head, with the mean's factor `k`. -/
def vN (k : EReal) (v : FVec Ideal S256x128 .f32) (g : FVec Ideal S1x128 .f32) : FVec Ideal S256x128 .f32 :=
  mulf (mulf v (broadcastTo S256x128 (rsqrt (addf (mulf (shapeCast S256x1 (multiReduction .add [1] S256 (mulf v v) 0x00000000#32 reduces_S256x128_S256 (.inl rfl) rfl) shapeCasts_S256_S256x1) (broadcast S256x1 k)) (broadcast S256x1 (Scalar.ofBits .f32 0x358637BD#32)))) broadcasts_S256x1_S256x128))
    (broadcastTo S256x128 g broadcasts_S1x128_S256x128)

theorem vN_apply (k : EReal) (v : FVec Ideal S256x128 .f32) (g : FVec Ideal S1x128 .f32) (r : Fin 256) (l : Fin 128) :
    vN k v g (ix2 r l) = nrm k (fun l => v (ix2 r l)) (fun l => g (ix2 0 l)) l := by
  unfold nrm eps
  pointwise [vN]

/-- The rotary embedding of a head, as the body forms it. -/
def vRA (y c s : FVec Ideal S256x128 .f32) : FVec Ideal S256x128 .f32 :=
  addf (mulf y c) (mulf (select (mask 32#32 16#32) (dynamicRotate 1 112#32 none y rotates_S256x128_d1) (dynamicRotate 1 16#32 none y rotates_S256x128_d1)) s)
def vRB (y c s : FVec Ideal S256x128 .f32) : FVec Ideal S256x128 .f32 :=
  addf (mulf y c) (mulf (select (mask 16#32 8#32) (dynamicRotate 1 120#32 none y rotates_S256x128_d1) (dynamicRotate 1 8#32 none y rotates_S256x128_d1)) s)

theorem turn (a : ℕ) (sb : BitVec 32) (hs : sb.toNat = 128 - a) (ha : a < 128) (y : FVec Ideal S256x128 .f32) (r : Fin 256) (l : Fin 128) :
    dynamicRotate 1 sb none y rotates_S256x128_d1 (ix2 r l) = y (ix2 r (lane a l)) := by
  refine dynamicRotate_apply (1 : Fin 2) sb y rotates_S256x128_d1 (ix2 r l) (ix2 r (lane a l)) fun b => ?_
  have := l.isLt
  match b with
  | ⟨0, _⟩ => rfl
  | ⟨1, _⟩ =>
    show (l.val + a) % 128 = (l.val + 128 - sb.toNat % 128) % 128
    rw [hs]
    by_cases h : a = 0
    · subst h; omega
    · rw [Nat.mod_eq_of_lt (show 128 - a < 128 by omega)]; congr 1; omega

theorem vRA_apply (y c s : FVec Ideal S256x128 .f32) (r : Fin 256) (l : Fin 128) :
    vRA y c s (ix2 r l) = rot 16 (fun l => y (ix2 r l)) (fun l => c (ix2 r l)) (fun l => s (ix2 r l)) l := by
  show y (ix2 r l) * c (ix2 r l) + Scalar.select (mask 32#32 16#32 (ix2 r l)) (dynamicRotate 1 112#32 none y rotates_S256x128_d1 (ix2 r l)) (dynamicRotate 1 16#32 none y rotates_S256x128_d1 (ix2 r l)) * s (ix2 r l) = _
  rw [mask32, turn 16 112#32 rfl (by decide), turn 112 16#32 rfl (by decide)]
  unfold rot
  split
  · rfl
  · rfl
theorem vRB_apply (y c s : FVec Ideal S256x128 .f32) (r : Fin 256) (l : Fin 128) :
    vRB y c s (ix2 r l) = rot 8 (fun l => y (ix2 r l)) (fun l => c (ix2 r l)) (fun l => s (ix2 r l)) l := by
  show y (ix2 r l) * c (ix2 r l) + Scalar.select (mask 16#32 8#32 (ix2 r l)) (dynamicRotate 1 120#32 none y rotates_S256x128_d1 (ix2 r l)) (dynamicRotate 1 8#32 none y rotates_S256x128_d1 (ix2 r l)) * s (ix2 r l) = _
  rw [mask16, turn 8 120#32 rfl (by decide), turn 120 8#32 rfl (by decide)]
  unfold rot
  split
  · rfl
  · rfl

end Cert.PreIdeal.Block

end
-- ==== Proof.PreBlock.lean ====
/- What a point of the grid leaves of each result: the tools. -/
module

public import proofs.«01_k».proof.Proof.PreIdealPipe
public import proofs.«01_k».proof.Proof.PreVal

@[expose] public section

set_option maxRecDepth 16384

noncomputable section

namespace Cert.PreIdeal.Block

open Cert.PreIdeal Cert.PreIdeal.Gen Cert.PreIdeal.Own Idealize.ShloMosaic Idealize.ShloMosaic.TcCoe Cert.Online Cert.PreSpec

/-- One element read back after writes of which some piece covers it. -/
theorem read_pieces {s : Shape} {e : EltTy} {sp : Space} (v : View sig .tc sp s e) (f : v.ty.Contents (Elt Ideal)) (L : List (View.Piece (Elt Ideal) s e))
    (G : s.Idx → Elt Ideal e) (hG : ∀ p ∈ L, ∀ x : p.1.shape.Idx, p.2 x = G (p.1.emb x)) (y : s.Idx) (hy : ∃ p ∈ L, y ∈ p.1.set) :
    v.read (Elt Ideal) (v.writes (Elt Ideal) f L) y = G y :=
  View.read_writes_apply_of_pieces v f G L hG y hy

theorem ix2_of {a b : ℕ} (x : (⟨2, ![a, b]⟩ : Shape).Idx) : ∃ (r : Fin a) (d : Fin b), x = ix2 r d :=
  ⟨x 0, x 1, by funext i; match i with | ⟨0, _⟩ => rfl | ⟨1, _⟩ => rfl⟩
theorem ix3_of {b c : ℕ} (x : (⟨3, ![1, b, c]⟩ : Shape).Idx) : ∃ (r : Fin b) (d : Fin c), x = ix3 0 r d :=
  ⟨x 1, x 2, by funext i; match i with | ⟨0, _⟩ => exact Fin.ext (by have : (x 0).val < 1 := (x 0).isLt; show (x 0).val = 0; omega) | ⟨1, _⟩ => rfl | ⟨2, _⟩ => rfl⟩

/-- The place of entry `(r, d)` of the block of columns starting at `o`. -/
theorem emb_col {a b W : ℕ} (o : ℕ) (inb : ∀ i, (![0, o] : Fin 2 → ℕ) i + (![a, W] : Fin 2 → ℕ) i ≤ (⟨2, ![a, b]⟩ : Shape).size i) (r : Fin a) (d : Fin W) (h : o + d.val < b) :
    (Rect.unit (s := ⟨2, ![a, b]⟩) ![0, o] ![a, W] inb).emb (ix2 r d) = ix2 r ⟨o + d.val, h⟩ := by
  funext i
  apply Fin.ext
  match i with
  | ⟨0, _⟩ => show 0 + 1 * r.val = r.val; omega
  | ⟨1, _⟩ => show o + 1 * d.val = o + d.val; omega
theorem emb_head {n a b : ℕ} (o : ℕ) (inb : ∀ i, (![o, 0, 0] : Fin 3 → ℕ) i + (![1, a, b] : Fin 3 → ℕ) i ≤ (⟨3, ![n, a, b]⟩ : Shape).size i) (r : Fin a) (d : Fin b) (h : o < n) :
    (Rect.unit (s := ⟨3, ![n, a, b]⟩) ![o, 0, 0] ![1, a, b] inb).emb (ix3 0 r d) = ix3 ⟨o, h⟩ r d := by
  funext i
  apply Fin.ext
  match i with
  | ⟨0, _⟩ => show o + 1 * 0 = o; omega
  | ⟨1, _⟩ => show 0 + 1 * r.val = r.val; omega
  | ⟨2, _⟩ => show 0 + 1 * d.val = d.val; omega

theorem hz2 : (![0, 0] : Fin 2 → ℕ) = fun _ => 0 := by funext a; match a with | ⟨0, _⟩ => rfl | ⟨1, _⟩ => rfl

/-- A load of a whole array. -/
theorem ldw {a b : ℕ} {e : EltTy} (x : Vec Ideal (⟨2, ![a, b]⟩ : Shape) e) (inb : ∀ i, (![0, 0] : Fin 2 → ℕ) i + (![a, b] : Fin 2 → ℕ) i ≤ (⟨2, ![a, b]⟩ : Shape).size i) :
    View.ld x (Rect.unit (s := ⟨2, ![a, b]⟩) ![0, 0] ![a, b] inb) = x := View.ld_unit_zero (S := ⟨2, ![a, b]⟩) hz2 inb x

/-- Columns read from an array that was written as a whole. -/
theorem rcov {a b : ℕ} {e : EltTy} {sp : Space} (v : View sig .tc sp (⟨2, ![a, b]⟩ : Shape) e)
    (inb : ∀ i, (![0, 0] : Fin 2 → ℕ) i + (![a, b] : Fin 2 → ℕ) i ≤ (⟨2, ![a, b]⟩ : Shape).size i) (w : Vec Ideal (⟨2, ![a, b]⟩ : Shape) e) (R : Rect (⟨2, ![a, b]⟩ : Shape)) :
    View.readCov (Val := Elt Ideal) v [⟨Rect.unit (s := ⟨2, ![a, b]⟩) ![0, 0] ![a, b] inb, w⟩] R.toLoadRect = View.ld w R := by
  show v.readAt (Elt Ideal) R.toLoadRect (v.writes (Elt Ideal) v.junk [⟨Rect.unit (s := ⟨2, ![a, b]⟩) ![0, 0] ![a, b] inb, w⟩]) = _
  rw [View.readAt_eq_ld]
  congr 1
  exact View.read_writes_full v v.junk inb w []

theorem ldc {a b W : ℕ} {e : EltTy} (o : ℕ) (inb : ∀ i, (![0, o] : Fin 2 → ℕ) i + (![a, W] : Fin 2 → ℕ) i ≤ (⟨2, ![a, b]⟩ : Shape).size i) (x : Vec Ideal (⟨2, ![a, b]⟩ : Shape) e)
    (r : Fin a) (d : Fin W) (h : o + d.val < b) : (View.ld x (Rect.unit (s := ⟨2, ![a, b]⟩) ![0, o] ![a, W] inb) : Vec Ideal (⟨2, ![a, W]⟩ : Shape) e) (ix2 r d) = x (ix2 r ⟨o + d.val, h⟩) := by
  unfold View.ld
  exact congrArg x (emb_col o inb r d h)

section
variable (x0 : Vec Ideal S256x1024 .f32) (x8 : Vec Ideal S1x1024 .f32) (x5 : Vec Ideal S1024x3840 .bf16)
def PX (r : Fin 256) (n : Fin 1024) : EReal := xn (fun d => x0 (ix2 r d)) (fun d => x8 (ix2 0 d)) n
def PP (r : Fin 256) (n : Fin 3840) : EReal := Pj (fun d => x0 (ix2 r d)) (fun d n => x5 (ix2 d n)) (fun d => x8 (ix2 0 d)) n

theorem c1024 : Ideal.ofBits .f32 0x3A800000#32 = ((1 / 1024 : ℝ) : EReal) := by
  simp [Ideal.ofBits, Ideal.ieee, -EReal.coe_mul]; norm_num
theorem c256 : Ideal.ofBits .f32 0x3B800000#32 = ((1 / 256 : ℝ) : EReal) := by
  simp [Ideal.ofBits, Ideal.ieee, -EReal.coe_mul]; norm_num
theorem c64 : Ideal.ofBits .f32 0x3C800000#32 = ((1 / 64 : ℝ) : EReal) := by
  simp [Ideal.ofBits, Ideal.ieee, -EReal.coe_mul]; norm_num
theorem n384 : (Named.named (F := Ideal) (φ := .f32) κ "mean384" 0x3B2AAAAB#32) = ((1 / 384 : ℝ) : EReal) := by
  show (κ "mean384").getD _ = _
  simp [κ]
theorem n96 : (Named.named (F := Ideal) (φ := .f32) κ "mean96" 0x3C2AAAAB#32) = ((1 / 96 : ℝ) : EReal) := by
  show (κ "mean96").getD _ = _
  simp [κ]

theorem pay3 (r : Fin 256) (n : Fin 1024) : k0_pay3 (F := Ideal) x0 x8 (ix2 r n) = PX x0 x8 r n := by
  unfold PX xn nrm eps
  rw [← c1024]
  pointwise [k0_pay3]

theorem pay4 (r : Fin 256) (n : Fin 3840) : k0_pay4 (F := Ideal) x0 x8 x5 (ix2 r n) = PP x0 x8 x5 r n := by
  unfold PP Pj
  have e : ∀ d, xn (fun d => x0 (ix2 r d)) (fun d => x8 (ix2 0 d)) d = k0_pay3 (F := Ideal) x0 x8 (ix2 r d) := fun d => (pay3 x0 x8 r d).symm
  simp only [e]
  pointwise [k0_pay4]

variable (x11 : Vec Ideal S1x384 .f32) (x6 : Vec Ideal S384x512 .bf16) (x12 : Vec Ideal S1x256 .f32) (x7 : Vec Ideal S256x1024 .bf16)
end

theorem pay54 (v : Vec Ideal S256x384 .f32) (g : Vec Ideal S1x384 .f32) (r : Fin 256) (n : Fin 384) :
    k0_pay54 (F := Ideal) v g (k0_pay53 v) (ix2 r n) = nrm ((1 / 384 : ℝ) : EReal) (fun j => v (ix2 r j)) (fun j => g (ix2 0 j)) n := by
  unfold nrm eps
  rw [← n384]
  pointwise [k0_pay54, k0_pay53]
theorem pay55 (v : Vec Ideal S256x384 .f32) (g : Vec Ideal S1x384 .f32) (u : Vec Ideal S384x512 .bf16) (r : Fin 256) (n : Fin 512) :
    k0_pay55 (F := Ideal) v g (k0_pay53 v) u (ix2 r n) = ∑ j : Fin 384, nrm ((1 / 384 : ℝ) : EReal) (fun j => v (ix2 r j)) (fun j => g (ix2 0 j)) j * (u (ix2 j n) : EReal) := by
  simp only [← pay54]
  unfold k0_pay55
  generalize k0_pay54 (F := Ideal) v g (k0_pay53 v) = y at *
  pointwise
theorem pay56 (v : Vec Ideal S256x256 .f32) (g : Vec Ideal S1x256 .f32) (r : Fin 256) (n : Fin 256) :
    k0_pay56 (F := Ideal) v g (ix2 r n) = nrm ((1 / 256 : ℝ) : EReal) (fun j => v (ix2 r j)) (fun j => g (ix2 0 j)) n := by
  unfold nrm eps
  rw [← c256]
  pointwise [k0_pay56]
theorem pay57 (v : Vec Ideal S256x256 .f32) (g : Vec Ideal S1x256 .f32) (u : Vec Ideal S256x1024 .bf16) (r : Fin 256) (n : Fin 1024) :
    k0_pay57 (F := Ideal) v g u (ix2 r n) = ∑ j : Fin 256, nrm ((1 / 256 : ℝ) : EReal) (fun j => v (ix2 r j)) (fun j => g (ix2 0 j)) j * (u (ix2 j n) : EReal) := by
  simp only [← pay56]
  unfold k0_pay57
  generalize k0_pay56 (F := Ideal) v g = y at *
  pointwise

/-- A head as the body stores it. -/
def headA (y c s : FVec Ideal S256x128 .f32) (k : Ideal .f32) : FVec Ideal S1x256x128 .bf16 :=
  shapeCast S1x256x128 (truncf .bf16 (mulf (vRA y c s) (broadcast S256x128 k)) bitsLt_bf16_f32) shapeCasts_S256x128_S1x256x128
def headA' (y c s : FVec Ideal S256x128 .f32) : FVec Ideal S1x256x128 .bf16 :=
  shapeCast S1x256x128 (truncf .bf16 (vRA y c s) bitsLt_bf16_f32) shapeCasts_S256x128_S1x256x128
def headB (y c s : FVec Ideal S256x128 .f32) (k : Ideal .f32) : FVec Ideal S1x256x128 .bf16 :=
  shapeCast S1x256x128 (truncf .bf16 (mulf (vRB y c s) (broadcast S256x128 k)) bitsLt_bf16_f32) shapeCasts_S256x128_S1x256x128
def headB' (y c s : FVec Ideal S256x128 .f32) : FVec Ideal S1x256x128 .bf16 :=
  shapeCast S1x256x128 (truncf .bf16 (vRB y c s) bitsLt_bf16_f32) shapeCasts_S256x128_S1x256x128

theorem cast_head {e : FTy} (z : FVec Ideal S256x128 e) (r : Fin 256) (l : Fin 128) :
    shapeCast S1x256x128 z shapeCasts_S256x128_S1x256x128 (ix3 0 r l) = z (ix2 r l) := by pointwise

theorem headA_apply (y c s : FVec Ideal S256x128 .f32) (k : Ideal .f32) (r : Fin 256) (l : Fin 128) :
    headA y c s k (ix3 0 r l) = rot 16 (fun l => y (ix2 r l)) (fun l => c (ix2 r l)) (fun l => s (ix2 r l)) l * k := by
  rw [← vRA_apply]; exact cast_head (truncf .bf16 (mulf (vRA y c s) (broadcast S256x128 k)) bitsLt_bf16_f32) r l
theorem headA'_apply (y c s : FVec Ideal S256x128 .f32) (r : Fin 256) (l : Fin 128) :
    headA' y c s (ix3 0 r l) = rot 16 (fun l => y (ix2 r l)) (fun l => c (ix2 r l)) (fun l => s (ix2 r l)) l := by
  rw [← vRA_apply]; exact cast_head (truncf .bf16 (vRA y c s) bitsLt_bf16_f32) r l
theorem headB_apply (y c s : FVec Ideal S256x128 .f32) (k : Ideal .f32) (r : Fin 256) (l : Fin 128) :
    headB y c s k (ix3 0 r l) = rot 8 (fun l => y (ix2 r l)) (fun l => c (ix2 r l)) (fun l => s (ix2 r l)) l * k := by
  rw [← vRB_apply]; exact cast_head (truncf .bf16 (mulf (vRB y c s) (broadcast S256x128 k)) bitsLt_bf16_f32) r l
theorem headB'_apply (y c s : FVec Ideal S256x128 .f32) (r : Fin 256) (l : Fin 128) :
    headB' y c s (ix3 0 r l) = rot 8 (fun l => y (ix2 r l)) (fun l => c (ix2 r l)) (fun l => s (ix2 r l)) l := by
  rw [← vRB_apply]; exact cast_head (truncf .bf16 (vRB y c s) bitsLt_bf16_f32) r l

end Cert.PreIdeal.Block

end
-- ==== Proof.PreOut.lean ====
/- What a point of the grid leaves of each result, as functions of the blocks it reads. -/
module

public import proofs.«01_k».proof.Proof.PreIdealPipe
public import proofs.«01_k».proof.Proof.PreBlock

@[expose] public section

set_option maxRecDepth 16384

noncomputable section

namespace Cert.PreIdeal.Block

open Cert.PreIdeal Cert.PreIdeal.Gen Cert.PreIdeal.Own Idealize.ShloMosaic Idealize.ShloMosaic.TcCoe Cert.Online Cert.PreSpec

theorem col_lt {a b W : ℕ} {o : ℕ} (inb : ∀ i, (![0, o] : Fin 2 → ℕ) i + (![a, W] : Fin 2 → ℕ) i ≤ (⟨2, ![a, b]⟩ : Shape).size i) (d : Fin W) : o + d.val < b := by
  have h : o + W ≤ b := inb 1
  omega
theorem ldc' {a b W : ℕ} (o : ℕ) (inb : ∀ i, (![0, o] : Fin 2 → ℕ) i + (![a, W] : Fin 2 → ℕ) i ≤ (⟨2, ![a, b]⟩ : Shape).size i) (x : FVec Ideal (⟨2, ![a, b]⟩ : Shape) .f32)
    (r : Fin a) (d : Fin W) : View.ld (Val := Elt Ideal) (e' := .f32) x (Rect.unit (s := ⟨2, ![a, b]⟩) ![0, o] ![a, W] inb) (ix2 r d) = x (ix2 r ⟨o + d.val, col_lt inb d⟩) :=
  ldc (e := .f32) o inb x r d (col_lt inb d)
theorem rcov' {a b : ℕ} {sp : Space} (v : View sig .tc sp (⟨2, ![a, b]⟩ : Shape) .f32)
    (inb : ∀ i, (![0, 0] : Fin 2 → ℕ) i + (![a, b] : Fin 2 → ℕ) i ≤ (⟨2, ![a, b]⟩ : Shape).size i) (w : FVec Ideal (⟨2, ![a, b]⟩ : Shape) .f32) (R : Rect (⟨2, ![a, b]⟩ : Shape)) :
    View.readCov (Val := Elt Ideal) v [⟨Rect.unit (s := ⟨2, ![a, b]⟩) ![0, 0] ![a, b] inb, w⟩] R.toLoadRect = View.ld (Val := Elt Ideal) (e' := .f32) w R :=
  rcov (e := .f32) v inb w R

/-- The body's key head of the second mixer, before its norm. -/
theorem slice_k (o : ℕ) (y : FVec Ideal S256x1024 .f32) (h : S256x1024.Slices ![0, o] S256x128) (r : Fin 256) (l : Fin 128) (hl : o + l.val < 1024) :
    extractStridedSlice S256x128 ![0, o] y h (ix2 r l) = y (ix2 r ⟨o + l.val, hl⟩) := by
  refine congrArg y (funext fun a => Fin.ext ?_)
  match a with
  | ⟨0, _⟩ => show 0 + r.val = r.val; omega
  | ⟨1, _⟩ => rfl

section
variable (x0 : Vec Ideal S256x1024 .f32) (x8 : Vec Ideal S1x1024 .f32) (x5 : Vec Ideal S1024x3840 .bf16) (x11 : Vec Ideal S1x384 .f32) (x6 : Vec Ideal S384x512 .bf16)
  (x12 : Vec Ideal S1x256 .f32) (x7 : Vec Ideal S256x1024 .bf16)
def PCq (r : Fin 256) (n : Fin 384) : EReal := Cq (fun d => x0 (ix2 r d)) (fun d n => x5 (ix2 d n)) (fun d => x8 (ix2 0 d)) (fun j => x11 (ix2 0 j)) n
def PCkv (r : Fin 256) (n : Fin 256) : EReal := Ckv (fun d => x0 (ix2 r d)) (fun d n => x5 (ix2 d n)) (fun d => x8 (ix2 0 d)) (fun j => x12 (ix2 0 j)) n
def PPq (r : Fin 256) (n : Fin 512) : EReal := Pq (fun d => x0 (ix2 r d)) (fun d n => x5 (ix2 d n)) (fun j n => x6 (ix2 j n)) (fun d => x8 (ix2 0 d)) (fun j => x11 (ix2 0 j)) n
def PPkv (r : Fin 256) (n : Fin 1024) : EReal := Pkv (fun d => x0 (ix2 r d)) (fun d n => x5 (ix2 d n)) (fun j n => x7 (ix2 j n)) (fun d => x8 (ix2 0 d)) (fun j => x12 (ix2 0 j)) n
def PHk (h : Fin 4) (r : Fin 256) (l : Fin 128) : EReal := Hk (fun d => x0 (ix2 r d)) (fun d n => x5 (ix2 d n)) (fun j n => x7 (ix2 j n)) (fun d => x8 (ix2 0 d)) (fun j => x12 (ix2 0 j)) h l
def G16 (r : Fin 256) (n : Fin 1536) : EReal := PP x0 x8 x5 r ⟨1536 + n.val, by omega⟩
def G17 (r : Fin 256) (n : Fin 1920) : EReal := if _h : n.val < 1280 then PP x0 x8 x5 r ⟨n.val, by omega⟩ else PP x0 x8 x5 r ⟨3072 + (n.val - 1280), by omega⟩
def G19 (r : Fin 256) (n : Fin 512) : EReal := PHk x0 x8 x5 x12 x7 ⟨n.val / 128, by omega⟩ r ⟨n.val % 128, by omega⟩
variable (g : Vec Ideal S1x128 .f32) (cs sn : Vec Ideal S256x128 .f32)
def G22 (h : Fin 8) (r : Fin 256) (l : Fin 128) : EReal :=
  rot 16 (nrm ((1 / 64 : ℝ) : EReal) (fun l => PP x0 x8 x5 r ⟨128 * h.val + l.val, by omega⟩) (fun l => g (ix2 0 l))) (fun l => cs (ix2 r l)) (fun l => sn (ix2 r l)) l * scA
def G23 (h : Fin 2) (r : Fin 256) (l : Fin 128) : EReal :=
  rot 16 (nrm ((1 / 64 : ℝ) : EReal) (fun l => PP x0 x8 x5 r ⟨1024 + 128 * h.val + l.val, by omega⟩) (fun l => g (ix2 0 l))) (fun l => cs (ix2 r l)) (fun l => sn (ix2 r l)) l
def G24 (h : Fin 2) (r : Fin 256) (l : Fin 128) : EReal := PP x0 x8 x5 r ⟨1280 + 128 * h.val + l.val, by omega⟩
def G25 (h : Fin 4) (r : Fin 256) (l : Fin 128) : EReal :=
  rot 8 (nrm ((1 / 96 : ℝ) : EReal) (fun l => PPq x0 x8 x5 x11 x6 r ⟨128 * h.val + l.val, by omega⟩) (fun l => g (ix2 0 l))) (fun l => cs (ix2 r l)) (fun l => sn (ix2 r l)) l * scB
def G26 (h : Fin 4) (r : Fin 256) (l : Fin 128) : EReal :=
  rot 8 (nrm ((1 / 96 : ℝ) : EReal) (fun l => PHk x0 x8 x5 x12 x7 h r l) (fun l => g (ix2 0 l))) (fun l => cs (ix2 r l)) (fun l => sn (ix2 r l)) l
def G27 (h : Fin 4) (r : Fin 256) (l : Fin 128) : EReal := PPkv x0 x8 x5 x12 x7 r ⟨512 + 128 * h.val + l.val, by omega⟩

theorem ldP {W : ℕ} (o : ℕ) (inb : ∀ i, (![0, o] : Fin 2 → ℕ) i + (![256, W] : Fin 2 → ℕ) i ≤ S256x3840.size i) (r : Fin 256) (d : Fin W) :
    View.ld (Val := Elt Ideal) (e' := .f32) (k0_pay4 x0 x8 x5) (Rect.unit (s := S256x3840) ![0, o] ![256, W] inb) (ix2 r d) = PP x0 x8 x5 r ⟨o + d.val, col_lt inb d⟩ :=
  (ldc' o inb _ r d).trans (pay4 x0 x8 x5 r _)
theorem cq_eq (inb : ∀ i, (![0, 3072] : Fin 2 → ℕ) i + (![256, 384] : Fin 2 → ℕ) i ≤ S256x3840.size i) (r : Fin 256) (n : Fin 384) :
    k0_pay54 (F := Ideal) (View.ld (Val := Elt Ideal) (e' := .f32) (k0_pay4 x0 x8 x5) (Rect.unit (s := S256x3840) ![0, 3072] ![256, 384] inb)) x11
      (k0_pay53 (View.ld (Val := Elt Ideal) (e' := .f32) (k0_pay4 x0 x8 x5) (Rect.unit (s := S256x3840) ![0, 3072] ![256, 384] inb))) (ix2 r n) = PCq x0 x8 x5 x11 r n := by
  rw [pay54]
  simp only [ldP]
  rfl
theorem pq_eq (inb : ∀ i, (![0, 3072] : Fin 2 → ℕ) i + (![256, 384] : Fin 2 → ℕ) i ≤ S256x3840.size i) (r : Fin 256) (n : Fin 512) :
    k0_pay55 (F := Ideal) (View.ld (Val := Elt Ideal) (e' := .f32) (k0_pay4 x0 x8 x5) (Rect.unit (s := S256x3840) ![0, 3072] ![256, 384] inb)) x11
      (k0_pay53 (View.ld (Val := Elt Ideal) (e' := .f32) (k0_pay4 x0 x8 x5) (Rect.unit (s := S256x3840) ![0, 3072] ![256, 384] inb))) x6 (ix2 r n) = PPq x0 x8 x5 x11 x6 r n := by
  rw [pay55]
  simp only [ldP]
  rfl
theorem ldQ {W : ℕ} (o : ℕ) (inb' : ∀ i, (![0, o] : Fin 2 → ℕ) i + (![256, W] : Fin 2 → ℕ) i ≤ S256x512.size i)
    (inb : ∀ i, (![0, 3072] : Fin 2 → ℕ) i + (![256, 384] : Fin 2 → ℕ) i ≤ S256x3840.size i) (r : Fin 256) (d : Fin W) :
    View.ld (Val := Elt Ideal) (e' := .f32) (k0_pay55 (F := Ideal) (View.ld (Val := Elt Ideal) (e' := .f32) (k0_pay4 x0 x8 x5) (Rect.unit (s := S256x3840) ![0, 3072] ![256, 384] inb)) x11
      (k0_pay53 (View.ld (Val := Elt Ideal) (e' := .f32) (k0_pay4 x0 x8 x5) (Rect.unit (s := S256x3840) ![0, 3072] ![256, 384] inb))) x6)
      (Rect.unit (s := S256x512) ![0, o] ![256, W] inb') (ix2 r d) = PPq x0 x8 x5 x11 x6 r ⟨o + d.val, col_lt inb' d⟩ :=
  (ldc' o inb' _ r d).trans (pq_eq x0 x8 x5 x11 x6 inb r _)
theorem ckv_eq (inb : ∀ i, (![0, 3456] : Fin 2 → ℕ) i + (![256, 256] : Fin 2 → ℕ) i ≤ S256x3840.size i) (r : Fin 256) (n : Fin 256) :
    k0_pay56 (F := Ideal) (View.ld (Val := Elt Ideal) (e' := .f32) (k0_pay4 x0 x8 x5) (Rect.unit (s := S256x3840) ![0, 3456] ![256, 256] inb)) x12 (ix2 r n) = PCkv x0 x8 x5 x12 r n := by
  rw [pay56]
  simp only [ldP]
  rfl
theorem pkv_eq (inb : ∀ i, (![0, 3456] : Fin 2 → ℕ) i + (![256, 256] : Fin 2 → ℕ) i ≤ S256x3840.size i) (r : Fin 256) (n : Fin 1024) :
    k0_pay57 (F := Ideal) (View.ld (Val := Elt Ideal) (e' := .f32) (k0_pay4 x0 x8 x5) (Rect.unit (s := S256x3840) ![0, 3456] ![256, 256] inb)) x12 x7 (ix2 r n) = PPkv x0 x8 x5 x12 x7 r n := by
  rw [pay57]
  simp only [ldP]
  rfl
theorem hk_eq (o : ℕ) (h : Fin 4) (ho : o = 128 * h.val) (hs : S256x1024.Slices ![0, o] S256x128)
    (inb : ∀ i, (![0, 3456] : Fin 2 → ℕ) i + (![256, 256] : Fin 2 → ℕ) i ≤ S256x3840.size i)
    (inb' : ∀ i, (![0, 3712] : Fin 2 → ℕ) i + (![256, 128] : Fin 2 → ℕ) i ≤ S256x3840.size i) (r : Fin 256) (l : Fin 128) :
    addf (F := Ideal) (extractStridedSlice S256x128 ![0, o] (k0_pay57 (View.ld (Val := Elt Ideal) (e' := .f32) (k0_pay4 x0 x8 x5) (Rect.unit (s := S256x3840) ![0, 3456] ![256, 256] inb)) x12 x7) hs)
      (View.ld (Val := Elt Ideal) (e' := .f32) (k0_pay4 x0 x8 x5) (Rect.unit (s := S256x3840) ![0, 3712] ![256, 128] inb') : Vec Ideal S256x128 .f32) (ix2 r l) = PHk x0 x8 x5 x12 x7 h r l := by
  subst ho
  show extractStridedSlice S256x128 ![0, 128 * h.val] (k0_pay57 (F := Ideal) (View.ld (Val := Elt Ideal) (e' := .f32) (k0_pay4 x0 x8 x5) (Rect.unit (s := S256x3840) ![0, 3456] ![256, 256] inb)) x12 x7) hs (ix2 r l) + (View.ld (Val := Elt Ideal) (e' := .f32) (k0_pay4 x0 x8 x5) (Rect.unit (s := S256x3840) ![0, 3712] ![256, 128] inb') : Vec Ideal S256x128 .f32) (ix2 r l) = _
  rw [slice_k (128 * h.val) _ hs r l (by have := h.isLt; omega), pkv_eq, ldP]
  rfl
end

variable (m : (ℓ : Loc nD τ sig) → Buf (Elt Ideal) ℓ)

abbrev b0 (c : Dev nD) (t : Fin cfg0.N) : Vec Ideal S256x1024 .f32 := iblk m c 0 t
abbrev b1 (c : Dev nD) (t : Fin cfg0.N) : Vec Ideal S256x128 .f32 := iblk m c 1 t
abbrev b2 (c : Dev nD) (t : Fin cfg0.N) : Vec Ideal S256x128 .f32 := iblk m c 2 t
abbrev b3 (c : Dev nD) (t : Fin cfg0.N) : Vec Ideal S256x128 .f32 := iblk m c 3 t
abbrev b4 (c : Dev nD) (t : Fin cfg0.N) : Vec Ideal S256x128 .f32 := iblk m c 4 t
abbrev b5 (c : Dev nD) (t : Fin cfg0.N) : Vec Ideal S1024x3840 .bf16 := iblk m c 5 t
abbrev b6 (c : Dev nD) (t : Fin cfg0.N) : Vec Ideal S384x512 .bf16 := iblk m c 6 t
abbrev b7 (c : Dev nD) (t : Fin cfg0.N) : Vec Ideal S256x1024 .bf16 := iblk m c 7 t
abbrev b8 (c : Dev nD) (t : Fin cfg0.N) : Vec Ideal S1x1024 .f32 := iblk m c 8 t
abbrev b9 (c : Dev nD) (t : Fin cfg0.N) : Vec Ideal S1x128 .f32 := iblk m c 9 t
abbrev b10 (c : Dev nD) (t : Fin cfg0.N) : Vec Ideal S1x128 .f32 := iblk m c 10 t
abbrev b11 (c : Dev nD) (t : Fin cfg0.N) : Vec Ideal S1x384 .f32 := iblk m c 11 t
abbrev b12 (c : Dev nD) (t : Fin cfg0.N) : Vec Ideal S1x256 .f32 := iblk m c 12 t
abbrev b13 (c : Dev nD) (t : Fin cfg0.N) : Vec Ideal S1x128 .f32 := iblk m c 13 t
abbrev b14 (c : Dev nD) (t : Fin cfg0.N) : Vec Ideal S1x128 .f32 := iblk m c 14 t

end Cert.PreIdeal.Block

end
-- ==== Proof.PreRow.lean ====
/- The thirteen results as functions of one row of the arguments, and that a block's rows are these when the block
   holds the padded arguments. -/
module

public import proofs.«01_k».proof.Proof.PreOut

@[expose] public section

set_option maxRecDepth 16384

noncomputable section

namespace Cert.PreIdeal.Block

open Cert.PreIdeal Cert.PreIdeal.Gen Cert.PreIdeal.Own Idealize.ShloMosaic Idealize.ShloMosaic.TcCoe Cert.Online Cert.PreSpec

section
variable (x : Fin 1024 → EReal) (w : Fin 1024 → Fin 2464 → EReal) (uq : Fin 384 → Fin 384 → EReal) (ukv : Fin 256 → Fin 768 → EReal)
  (gi : Fin 1024 → EReal) (gcq : Fin 384 → EReal) (gckv : Fin 256 → EReal) (ga : Fin 64 → EReal) (gb : Fin 96 → EReal)
  (cr sr cc sc : Fin 16 → EReal) (dr tr dc tc : Fin 8 → EReal)

/-- The gates: eight padded heads of 64, then 512 columns. -/
def T16 (n : Fin 1536) : EReal :=
  if _h : n.val < 1024 then pd (fun l : Fin 64 => pj x w gi ⟨768 + (64 * (n.val / 128) + l.val), by omega⟩) ⟨n.val % 128, by omega⟩
  else pj x w gi ⟨1952 + (n.val - 1024), by omega⟩
/-- The projections before the norms: padded query heads, padded key heads, the two latents. -/
def T17 (n : Fin 1920) : EReal :=
  if _h : n.val < 1024 then pd (fun l : Fin 64 => pj x w gi ⟨64 * (n.val / 128) + l.val, by omega⟩) ⟨n.val % 128, by omega⟩
  else if _h : n.val < 1280 then pd (fun l : Fin 64 => pj x w gi ⟨512 + (64 * ((n.val - 1024) / 128) + l.val), by omega⟩) ⟨(n.val - 1024) % 128, by omega⟩
  else pj x w gi ⟨n.val, by omega⟩
def T18 (n : Fin 512) : EReal := pd (hq x w uq gi gcq ⟨n.val / 128, by omega⟩) ⟨n.val % 128, by omega⟩
def T19 (n : Fin 512) : EReal := pd (hk x w ukv gi gckv ⟨n.val / 128, by omega⟩) ⟨n.val % 128, by omega⟩
def T22 (h : Fin 8) (l : Fin 128) : EReal :=
  pd (fun l => rotA (nrm ((1 / 64 : ℝ) : EReal) (fun l : Fin 64 => pj x w gi ⟨64 * h.val + l.val, by omega⟩) ga) cr sr cc sc l * scA) l
def T23 (h : Fin 2) (l : Fin 128) : EReal :=
  pd (rotA (nrm ((1 / 64 : ℝ) : EReal) (fun l : Fin 64 => pj x w gi ⟨512 + (64 * h.val + l.val), by omega⟩) ga) cr sr cc sc) l
def T24 (h : Fin 2) (l : Fin 128) : EReal := pd (fun l : Fin 64 => pj x w gi ⟨640 + (64 * h.val + l.val), by omega⟩) l
def T25 (h : Fin 4) (l : Fin 128) : EReal :=
  pd (fun l => rotB (nrm ((1 / 96 : ℝ) : EReal) (hq x w uq gi gcq h) gb) dr tr dc tc l * scB) l
def T26 (h : Fin 4) (l : Fin 128) : EReal :=
  pd (rotB (nrm ((1 / 96 : ℝ) : EReal) (hk x w ukv gi gckv h) gb) dr tr dc tc) l
def T27 (h : Fin 4) (l : Fin 128) : EReal := pkv x w ukv gi gckv ⟨192 * h.val + 64 + l.val, by omega⟩

variable (x0 : Vec Ideal S256x1024 .f32) (x8 : Vec Ideal S1x1024 .f32) (x5 : Vec Ideal S1024x3840 .bf16) (x11 : Vec Ideal S1x384 .f32) (x6 : Vec Ideal S384x512 .bf16)
  (x12 : Vec Ideal S1x256 .f32) (x7 : Vec Ideal S256x1024 .bf16) (g : Vec Ideal S1x128 .f32) (cs sn : Vec Ideal S256x128 .f32) (r : Fin 256)
  (h0 : ∀ d, x0 (ix2 r d) = x d) (h8 : ∀ d, x8 (ix2 0 d) = gi d) (h5 : ∀ d n, x5 (ix2 d n) = padW w d n)
  (h11 : ∀ j, x11 (ix2 0 j) = gcq j) (h6 : ∀ j n, x6 (ix2 j n) = padQ uq j n)
  (h12 : ∀ j, x12 (ix2 0 j) = gckv j) (h7 : ∀ j n, x7 (ix2 j n) = padKV ukv j n)

include h0 h8 in
theorem PX_row (n : Fin 1024) : PX x0 x8 r n = xn x gi n := by
  unfold PX
  rw [show (fun d => x0 (ix2 r d)) = x from funext h0, show (fun d => x8 (ix2 0 d)) = gi from funext h8]
include h0 h8 h5 in
theorem PP_row (n : Fin 3840) : PP x0 x8 x5 r n = Pj x (padW w) gi n := by
  unfold PP
  rw [show (fun d => x0 (ix2 r d)) = x from funext h0, show (fun d => x8 (ix2 0 d)) = gi from funext h8, show (fun d n => x5 (ix2 d n)) = padW w from funext fun d => funext (h5 d)]
include h0 h8 h5 h11 in
theorem PCq_row (n : Fin 384) : PCq x0 x8 x5 x11 r n = cq x w gi gcq n := by
  unfold PCq
  rw [show (fun d => x0 (ix2 r d)) = x from funext h0, show (fun d => x8 (ix2 0 d)) = gi from funext h8, show (fun d n => x5 (ix2 d n)) = padW w from funext fun d => funext (h5 d),
    show (fun j => x11 (ix2 0 j)) = gcq from funext h11, Cq_eq]
include h0 h8 h5 h12 in
theorem PCkv_row (n : Fin 256) : PCkv x0 x8 x5 x12 r n = ckv x w gi gckv n := by
  unfold PCkv
  rw [show (fun d => x0 (ix2 r d)) = x from funext h0, show (fun d => x8 (ix2 0 d)) = gi from funext h8, show (fun d n => x5 (ix2 d n)) = padW w from funext fun d => funext (h5 d),
    show (fun j => x12 (ix2 0 j)) = gckv from funext h12, Ckv_eq]
include h0 h8 h5 h11 h6 in
theorem PPq_row (n : Fin 512) : PPq x0 x8 x5 x11 x6 r n = Pq x (padW w) (padQ uq) gi gcq n := by
  unfold PPq
  rw [show (fun d => x0 (ix2 r d)) = x from funext h0, show (fun d => x8 (ix2 0 d)) = gi from funext h8, show (fun d n => x5 (ix2 d n)) = padW w from funext fun d => funext (h5 d),
    show (fun j => x11 (ix2 0 j)) = gcq from funext h11, show (fun j n => x6 (ix2 j n)) = padQ uq from funext fun d => funext (h6 d)]
include h0 h8 h5 h12 h7 in
theorem PPkv_row (n : Fin 1024) : PPkv x0 x8 x5 x12 x7 r n = Pkv x (padW w) (padKV ukv) gi gckv n := by
  unfold PPkv
  rw [show (fun d => x0 (ix2 r d)) = x from funext h0, show (fun d => x8 (ix2 0 d)) = gi from funext h8, show (fun d n => x5 (ix2 d n)) = padW w from funext fun d => funext (h5 d),
    show (fun j => x12 (ix2 0 j)) = gckv from funext h12, show (fun j n => x7 (ix2 j n)) = padKV ukv from funext fun d => funext (h7 d)]
include h0 h8 h5 h12 h7 in
theorem PHk_row (h : Fin 4) (l : Fin 128) : PHk x0 x8 x5 x12 x7 h r l = pd (hk x w ukv gi gckv h) l := by
  unfold PHk
  rw [show (fun d => x0 (ix2 r d)) = x from funext h0, show (fun d => x8 (ix2 0 d)) = gi from funext h8, show (fun d n => x5 (ix2 d n)) = padW w from funext fun d => funext (h5 d),
    show (fun j => x12 (ix2 0 j)) = gckv from funext h12, show (fun j n => x7 (ix2 j n)) = padKV ukv from funext fun d => funext (h7 d), Hk_eq]

include h0 h8 h5 in
theorem G16_row (n : Fin 1536) : G16 x0 x8 x5 r n = T16 x w gi n := by
  unfold G16 T16
  rw [PP_row x w gi x0 x8 x5 r h0 h8 h5]
  have hn := n.isLt
  by_cases h : n.val < 1024
  · rw [dif_pos h]
    refine Eq.trans (congrArg _ (Fin.ext ?_)) (Pj_g x w gi ⟨n.val / 128, by omega⟩ ⟨n.val % 128, by omega⟩)
    show 1536 + n.val = 1536 + (128 * (n.val / 128) + n.val % 128)
    omega
  · rw [dif_neg h]
    refine (Pj_bg x w gi _ (by show 2560 ≤ 1536 + n.val; omega) (by show 1536 + n.val < 3072; omega)).trans (congrArg _ (Fin.ext ?_))
    show 1952 + (1536 + n.val - 2560) = 1952 + (n.val - 1024)
    omega
include h0 h8 h5 in
theorem G17_row (n : Fin 1920) : G17 x0 x8 x5 r n = T17 x w gi n := by
  unfold G17 T17
  have hn := n.isLt
  by_cases h : n.val < 1024
  · rw [dif_pos h, dif_pos (by omega), PP_row x w gi x0 x8 x5 r h0 h8 h5]
    refine Eq.trans (congrArg _ (Fin.ext ?_)) (Pj_q x w gi ⟨n.val / 128, by omega⟩ ⟨n.val % 128, by omega⟩)
    show n.val = 128 * (n.val / 128) + n.val % 128
    omega
  rw [dif_neg h]
  by_cases h2 : n.val < 1280
  · rw [dif_pos h2, dif_pos h2, PP_row x w gi x0 x8 x5 r h0 h8 h5]
    refine Eq.trans (congrArg _ (Fin.ext ?_)) (Pj_k x w gi ⟨(n.val - 1024) / 128, by omega⟩ ⟨(n.val - 1024) % 128, by omega⟩)
    show n.val = 1024 + (128 * ((n.val - 1024) / 128) + (n.val - 1024) % 128)
    omega
  rw [dif_neg h2, dif_neg h2, PP_row x w gi x0 x8 x5 r h0 h8 h5]
  by_cases h3 : n.val < 1664
  · refine (Pj_cq x w gi _ (by show 3072 ≤ 3072 + (n.val - 1280); omega) (by show 3072 + (n.val - 1280) < 3456; omega)).trans (congrArg _ (Fin.ext ?_))
    show 1280 + (3072 + (n.val - 1280) - 3072) = n.val
    omega
  · refine (Pj_ckv x w gi _ (by show 3456 ≤ 3072 + (n.val - 1280); omega) (by show 3072 + (n.val - 1280) < 3712; omega)).trans (congrArg _ (Fin.ext ?_))
    show 1664 + (3072 + (n.val - 1280) - 3456) = n.val
    omega
include h0 h8 h5 h11 h6 in
theorem G18_row (n : Fin 512) : PPq x0 x8 x5 x11 x6 r n = T18 x w uq gi gcq n := by
  have hn := n.isLt
  unfold T18
  rw [PPq_row x w uq gi gcq x0 x8 x5 x11 x6 r h0 h8 h5 h11 h6]
  refine Eq.trans (congrArg _ (Fin.ext ?_)) (Pq_eq x w uq gi gcq ⟨n.val / 128, by omega⟩ ⟨n.val % 128, by omega⟩)
  show n.val = 128 * (n.val / 128) + n.val % 128
  omega
include h0 h8 h5 h12 h7 in
theorem G19_row (n : Fin 512) : G19 x0 x8 x5 x12 x7 r n = T19 x w ukv gi gckv n :=
  PHk_row x w ukv gi gckv x0 x8 x5 x12 x7 r h0 h8 h5 h12 h7 _ _
include h0 h8 h5 in
theorem G22_row (hg : ∀ l, g (ix2 0 l) = pd ga l) (hc : ∀ l, cs (ix2 r l) = cosA cr cc l) (hs : ∀ l, sn (ix2 r l) = sinA sr sc l) (h : Fin 8) (l : Fin 128) :
    G22 x0 x8 x5 g cs sn h r l = T22 x w gi ga cr sr cc sc h l := by
  unfold G22 T22
  rw [show (fun l => cs (ix2 r l)) = cosA cr cc from funext hc, show (fun l => sn (ix2 r l)) = sinA sr sc from funext hs, show (fun l => g (ix2 0 l)) = pd ga from funext hg,
    show (fun l : Fin 128 => PP x0 x8 x5 r ⟨128 * h.val + l.val, by omega⟩) = pd (fun l : Fin 64 => pj x w gi ⟨64 * h.val + l.val, by omega⟩) from
      funext fun l => (PP_row x w gi x0 x8 x5 r h0 h8 h5 _).trans (Pj_q x w gi h l),
    nrm_pd (by decide), rot_pdA, pd_mul]
include h0 h8 h5 in
theorem G23_row (hg : ∀ l, g (ix2 0 l) = pd ga l) (hc : ∀ l, cs (ix2 r l) = cosA cr cc l) (hs : ∀ l, sn (ix2 r l) = sinA sr sc l) (h : Fin 2) (l : Fin 128) :
    G23 x0 x8 x5 g cs sn h r l = T23 x w gi ga cr sr cc sc h l := by
  unfold G23 T23
  rw [show (fun l => cs (ix2 r l)) = cosA cr cc from funext hc, show (fun l => sn (ix2 r l)) = sinA sr sc from funext hs, show (fun l => g (ix2 0 l)) = pd ga from funext hg,
    show (fun l : Fin 128 => PP x0 x8 x5 r ⟨1024 + 128 * h.val + l.val, by omega⟩) = pd (fun l : Fin 64 => pj x w gi ⟨512 + (64 * h.val + l.val), by omega⟩) from
      funext fun l => (PP_row x w gi x0 x8 x5 r h0 h8 h5 _).trans ((congrArg _ (Fin.ext (Nat.add_assoc _ _ _))).trans (Pj_k x w gi h l)),
    nrm_pd (by decide), rot_pdA]
include h0 h8 h5 in
theorem G24_row (h : Fin 2) (l : Fin 128) : G24 x0 x8 x5 h r l = T24 x w gi h l :=
  (PP_row x w gi x0 x8 x5 r h0 h8 h5 _).trans ((congrArg _ (Fin.ext (Nat.add_assoc _ _ _))).trans (Pj_v x w gi h l))
include h0 h8 h5 h11 h6 in
theorem G25_row (hg : ∀ l, g (ix2 0 l) = pd gb l) (hc : ∀ l, cs (ix2 r l) = cosB dr dc l) (hs : ∀ l, sn (ix2 r l) = sinB tr tc l) (h : Fin 4) (l : Fin 128) :
    G25 x0 x8 x5 x11 x6 g cs sn h r l = T25 x w uq gi gcq gb dr tr dc tc h l := by
  unfold G25 T25
  rw [show (fun l => cs (ix2 r l)) = cosB dr dc from funext hc, show (fun l => sn (ix2 r l)) = sinB tr tc from funext hs, show (fun l => g (ix2 0 l)) = pd gb from funext hg,
    show (fun l : Fin 128 => PPq x0 x8 x5 x11 x6 r ⟨128 * h.val + l.val, by omega⟩) = pd (hq x w uq gi gcq h) from
      funext fun l => (PPq_row x w uq gi gcq x0 x8 x5 x11 x6 r h0 h8 h5 h11 h6 _).trans (Pq_eq x w uq gi gcq h l),
    nrm_pd (by decide), rot_pdB, pd_mul]
include h0 h8 h5 h12 h7 in
theorem G26_row (hg : ∀ l, g (ix2 0 l) = pd gb l) (hc : ∀ l, cs (ix2 r l) = cosB dr dc l) (hs : ∀ l, sn (ix2 r l) = sinB tr tc l) (h : Fin 4) (l : Fin 128) :
    G26 x0 x8 x5 x12 x7 g cs sn h r l = T26 x w ukv gi gckv gb dr tr dc tc h l := by
  unfold G26 T26
  rw [show (fun l => cs (ix2 r l)) = cosB dr dc from funext hc, show (fun l => sn (ix2 r l)) = sinB tr tc from funext hs, show (fun l => g (ix2 0 l)) = pd gb from funext hg,
    show (fun l : Fin 128 => PHk x0 x8 x5 x12 x7 h r l) = pd (hk x w ukv gi gckv h) from
      funext fun l => PHk_row x w ukv gi gckv x0 x8 x5 x12 x7 r h0 h8 h5 h12 h7 h l,
    nrm_pd (by decide), rot_pdB]
include h0 h8 h5 h12 h7 in
theorem G27_row (h : Fin 4) (l : Fin 128) : G27 x0 x8 x5 x12 x7 h r l = T27 x w ukv gi gckv h l :=
  (PPkv_row x w ukv gi gckv x0 x8 x5 x12 x7 r h0 h8 h5 h12 h7 _).trans ((congrArg _ (Fin.ext (Nat.add_assoc _ _ _))).trans (Pkv_v x w ukv gi gckv h l))
end

end Cert.PreIdeal.Block

end
-- ==== Proof.PreHost.lean ====
/- What the host hands the kernel: the tables, the weights and the gains, padded to 128 lanes. -/
module

public import Idealize.ShloMosaic.Lib.VecWindow
public import Idealize.ShloMosaic.Lib.KernelVsHost
public import proofs.«01_k».proof.Proof.PreSpec
public import proofs.«01_k».proof.Proof.PreIdealPipe
public import Idealize.ShloMosaic.Lib.Pointwise
public import Idealize.ShloMosaic.Lib.StableHlo.RunRead

@[expose] public section

set_option maxRecDepth 16384

noncomputable section

namespace Cert.PreIdeal.Val

open Cert.PreIdeal Cert.PreIdeal.Gen Idealize.ShloMosaic Idealize.ShloMosaic.TcCoe Cert.Online Cert.PreSpec

variable (m : (ℓ : Loc nD τ sig) → Buf (Elt Ideal) ℓ) (c : Dev nD)

/-- An array of the arguments as a function of its coordinates. -/
abbrev A2 {a b : ℕ} (x : FVec Ideal ⟨2, ![a, b]⟩ .f32) (r : Fin a) (l : Fin b) : EReal := x (ix2 r l)
abbrev B2 {a b : ℕ} (x : FVec Ideal ⟨2, ![a, b]⟩ .bf16) (r : Fin a) (l : Fin b) : EReal := x (ix2 r l)

/-- The zero that the host pads with. -/
abbrev zF : FVec Ideal S_ .f32 := sitofp .f32 (constantI S_ 32 0#32)
abbrev zB : FVec Ideal S_ .bf16 := sitofp .bf16 (constantI S_ 32 0#32)

theorem zF_apply (i : S_.Idx) : zF i = 0 := by
  show ((((0#32 : BitVec 32).toInt : ℤ) : ℝ) : EReal) = 0
  simp
theorem zB_apply (i : S_.Idx) : zB i = 0 := by
  show ((((0#32 : BitVec 32).toInt : ℤ) : ℝ) : EReal) = 0
  simp

theorem one_eq : Ideal.ofBits .f32 0x3F800000#32 = 1 := by
  simp [Ideal.ofBits, Ideal.ieee, -EReal.coe_mul]
  norm_num
theorem zero_eq : Ideal.ofBits .f32 0x00000000#32 = 0 := by
  simp [Ideal.ofBits, Ideal.ieee]

/-- The host's values: the gains, the tables, the three weights. -/
def hG64 (g : FVec Ideal S1x64 .f32) : FVec Ideal S1x128 .f32 := pad S1x128 ![0, 0] ![0, 64] ![0, 0] g zF pads_S1x64_S1x128_000_0640 h_S_
def hG96 (g : FVec Ideal S1x96 .f32) : FVec Ideal S1x128 .f32 := pad S1x128 ![0, 0] ![0, 32] ![0, 0] g zF pads_S1x96_S1x128_000_0320 h_S_
def hTA (z : BitVec 32) (a b d e : FVec Ideal S8192x16 .f32) : FVec Ideal S8192x64 .f32 :=
  concatenate S8192x64 1 [⟨S8192x0, broadcastInDim S8192x0 ![] bcast_S_S8192x0 (constant S_ .f32 z)⟩, ⟨S8192x16, a⟩, ⟨S8192x16, b⟩, ⟨S8192x16, d⟩, ⟨S8192x16, e⟩] concatenates_S8192x0_S8192x16_S8192x16_S8192x16_S8192x16_S8192x64_d1
def hTB (z : BitVec 32) (a b d e : FVec Ideal S8192x8 .f32) : FVec Ideal S8192x96 .f32 :=
  concatenate S8192x96 1 [⟨S8192x64, broadcastInDim S8192x64 ![] bcast_S_S8192x64 (constant S_ .f32 z)⟩, ⟨S8192x8, a⟩, ⟨S8192x8, b⟩, ⟨S8192x8, d⟩, ⟨S8192x8, e⟩] concatenates_S8192x64_S8192x8_S8192x8_S8192x8_S8192x8_S8192x96_d1
def hPA (x : FVec Ideal S8192x64 .f32) : FVec Ideal S8192x128 .f32 := pad S8192x128 ![0, 0] ![0, 64] ![0, 0] x zF pads_S8192x64_S8192x128_000_0640 h_S_
def hPB (x : FVec Ideal S8192x96 .f32) : FVec Ideal S8192x128 .f32 := pad S8192x128 ![0, 0] ![0, 32] ![0, 0] x zF pads_S8192x96_S8192x128_000_0320 h_S_
def hQ8 (x : FVec Ideal S1024x512 .bf16) : FVec Ideal S1024x1024 .bf16 :=
  shapeCast S1024x1024 (pad S1024x8x128 ![0, 0, 0] ![0, 0, 64] ![0, 0, 0] (shapeCast S1024x8x64 x shapeCasts_S1024x512_S1024x8x64) zB pads_S1024x8x64_S1024x8x128_000_000_0640 h_S_) shapeCasts_S1024x8x128_S1024x1024
def hQ2 (x : FVec Ideal S1024x128 .bf16) : FVec Ideal S1024x256 .bf16 :=
  shapeCast S1024x256 (pad S1024x2x128 ![0, 0, 0] ![0, 0, 64] ![0, 0, 0] (shapeCast S1024x2x64 x shapeCasts_S1024x128_S1024x2x64) zB pads_S1024x2x64_S1024x2x128_000_000_0640 h_S_) shapeCasts_S1024x2x128_S1024x256
def hR (x : FVec Ideal S1024x32 .bf16) : FVec Ideal S1024x128 .bf16 := pad S1024x128 ![0, 64] ![0, 32] ![0, 0] x zB pads_S1024x32_S1024x128_000_64320 h_S_
def hW (w : FVec Ideal S1024x2464 .bf16) : FVec Ideal S1024x3840 .bf16 :=
  concatenate S1024x3840 1 [⟨S1024x1024, hQ8 (extractStridedSlice S1024x512 ![0, 0] w slices_S1024x2464_S1024x512_0_0)⟩,
    ⟨S1024x256, hQ2 (extractStridedSlice S1024x128 ![0, 512] w slices_S1024x2464_S1024x128_0_512)⟩,
    ⟨S1024x256, hQ2 (extractStridedSlice S1024x128 ![0, 640] w slices_S1024x2464_S1024x128_0_640)⟩,
    ⟨S1024x1024, hQ8 (extractStridedSlice S1024x512 ![0, 768] w slices_S1024x2464_S1024x512_0_768)⟩,
    ⟨S1024x512, extractStridedSlice S1024x512 ![0, 1952] w slices_S1024x2464_S1024x512_0_1952⟩,
    ⟨S1024x384, extractStridedSlice S1024x384 ![0, 1280] w slices_S1024x2464_S1024x384_0_1280⟩,
    ⟨S1024x256, extractStridedSlice S1024x256 ![0, 1664] w slices_S1024x2464_S1024x256_0_1664⟩,
    ⟨S1024x128, hR (extractStridedSlice S1024x32 ![0, 1920] w slices_S1024x2464_S1024x32_0_1920)⟩] concatenates_S1024x1024_S1024x256_S1024x256_S1024x1024_S1024x512_S1024x384_S1024x256_S1024x128_S1024x3840_d1
def hUq (w : FVec Ideal S384x384 .bf16) : FVec Ideal S384x512 .bf16 :=
  shapeCast S384x512 (pad S384x4x128 ![0, 0, 0] ![0, 0, 32] ![0, 0, 0] (shapeCast S384x4x96 w shapeCasts_S384x384_S384x4x96) zB pads_S384x4x96_S384x4x128_000_000_0320 h_S_) shapeCasts_S384x4x128_S384x512
def hUk (w : FVec Ideal S256x768 .bf16) : FVec Ideal S256x512 .bf16 :=
  shapeCast S256x512 (pad S256x4x128 ![0, 0, 0] ![0, 0, 64] ![0, 0, 0] (shapeCast S256x4x64 (shapeCast S256x256 (extractStridedSlice S256x4x64 ![0, 0, 0] (shapeCast S256x4x192 w shapeCasts_S256x768_S256x4x192) slices_S256x4x192_S256x4x64_0_0_0) shapeCasts_S256x4x64_S256x256) shapeCasts_S256x256_S256x4x64) zB pads_S256x4x64_S256x4x128_000_000_0640 h_S_) shapeCasts_S256x4x128_S256x512
def hUv (w : FVec Ideal S256x768 .bf16) : FVec Ideal S256x512 .bf16 :=
  shapeCast S256x512 (extractStridedSlice S256x4x128 ![0, 0, 64] (shapeCast S256x4x192 w shapeCasts_S256x768_S256x4x192) slices_S256x4x192_S256x4x128_0_0_64) shapeCasts_S256x4x128_S256x512
def hUkv (w : FVec Ideal S256x768 .bf16) : FVec Ideal S256x1024 .bf16 :=
  concatenate S256x1024 1 [⟨S256x512, hUk w⟩, ⟨S256x512, hUv w⟩] concatenates_S256x512_S256x512_S256x1024_d1

set_option maxHeartbeats 4000000 in
theorem V_gaq : (V (F := Ideal) m c main_v50 : FVec Ideal S1x128 .f32) = hG64 (m ((c : Thread nD τ).loc main_arg13)) := by
  unfold V
  after_reads_simp
  rfl

set_option maxHeartbeats 4000000 in
theorem V_gak : (V (F := Ideal) m c main_v51 : FVec Ideal S1x128 .f32) = hG64 (m ((c : Thread nD τ).loc main_arg14)) := by
  unfold V
  after_reads_simp
  rfl

set_option maxHeartbeats 4000000 in
theorem V_gbq : (V (F := Ideal) m c main_v52 : FVec Ideal S1x128 .f32) = hG96 (m ((c : Thread nD τ).loc main_arg17)) := by
  unfold V
  after_reads_simp
  rfl

set_option maxHeartbeats 4000000 in
theorem V_gbk : (V (F := Ideal) m c main_v53 : FVec Ideal S1x128 .f32) = hG96 (m ((c : Thread nD τ).loc main_arg18)) := by
  unfold V
  after_reads_simp
  rfl

set_option maxHeartbeats 4000000 in
theorem V_ca : (V (F := Ideal) m c main_v6 : FVec Ideal S8192x128 .f32) = hPA (hTA 0x3F800000#32 (m ((c : Thread nD τ).loc main_arg1)) (m ((c : Thread nD τ).loc main_arg1)) (m ((c : Thread nD τ).loc main_arg3)) (m ((c : Thread nD τ).loc main_arg3))) := by
  unfold V
  after_reads_simp
  rfl

set_option maxHeartbeats 4000000 in
theorem V_sa : (V (F := Ideal) m c main_v7 : FVec Ideal S8192x128 .f32) = hPA (hTA 0x00000000#32 (Host.negf (F := Ideal) (s := S8192x16) (φ := .f32) (m ((c : Thread nD τ).loc main_arg2))) (m ((c : Thread nD τ).loc main_arg2)) (Host.negf (F := Ideal) (s := S8192x16) (φ := .f32) (m ((c : Thread nD τ).loc main_arg4))) (m ((c : Thread nD τ).loc main_arg4))) := by
  unfold V
  after_reads_simp
  rfl

set_option maxHeartbeats 4000000 in
theorem V_cb : (V (F := Ideal) m c main_v14 : FVec Ideal S8192x128 .f32) = hPB (hTB 0x3F800000#32 (m ((c : Thread nD τ).loc main_arg5)) (m ((c : Thread nD τ).loc main_arg5)) (m ((c : Thread nD τ).loc main_arg7)) (m ((c : Thread nD τ).loc main_arg7))) := by
  unfold V
  after_reads_simp
  rfl

set_option maxHeartbeats 4000000 in
theorem V_sb : (V (F := Ideal) m c main_v15 : FVec Ideal S8192x128 .f32) = hPB (hTB 0x00000000#32 (Host.negf (F := Ideal) (s := S8192x8) (φ := .f32) (m ((c : Thread nD τ).loc main_arg6))) (m ((c : Thread nD τ).loc main_arg6)) (Host.negf (F := Ideal) (s := S8192x8) (φ := .f32) (m ((c : Thread nD τ).loc main_arg8))) (m ((c : Thread nD τ).loc main_arg8))) := by
  unfold V
  after_reads_simp
  rfl

set_option maxHeartbeats 4000000 in
theorem V_w : (V (F := Ideal) m c main_v37 : FVec Ideal S1024x3840 .bf16) = hW (m ((c : Thread nD τ).loc main_arg9)) := by
  unfold V
  after_reads_simp
  rfl

set_option maxHeartbeats 4000000 in
theorem V_uq : (V (F := Ideal) m c main_v40 : FVec Ideal S384x512 .bf16) = hUq (m ((c : Thread nD τ).loc main_arg10)) := by
  unfold V
  after_reads_simp
  rfl

set_option maxHeartbeats 4000000 in
theorem V_ukv : (V (F := Ideal) m c main_v49 : FVec Ideal S256x1024 .bf16) = hUkv (m ((c : Thread nD τ).loc main_arg11)) := by
  unfold V
  after_reads_simp
  rfl

theorem hG64_apply (g : FVec Ideal S1x64 .f32) (l : Fin 128) : hG64 g (ix2 0 l) = pd (A2 g 0) l := by
  unfold pd
  pointwise [hG64, zF_apply]
theorem hG96_apply (g : FVec Ideal S1x96 .f32) (l : Fin 128) : hG96 g (ix2 0 l) = pd (A2 g 0) l := by
  unfold pd
  pointwise [hG96, zF_apply]
theorem hTA_apply (z : BitVec 32) (a b d e : FVec Ideal S8192x16 .f32) (r : Fin 8192) (l : Fin 64) : hTA z a b d e (ix2 r l)
    = if h : l.val < 16 then a (ix2 r ⟨l.val, h⟩) else if h : l.val < 32 then b (ix2 r ⟨l.val - 16, by omega⟩)
      else if h : l.val < 48 then d (ix2 r ⟨l.val - 32, by omega⟩) else e (ix2 r ⟨l.val - 48, by omega⟩) := by
  pointwise [hTA]
  rw [dif_neg (Nat.not_lt_zero _)]
  by_cases h1 : l.val < 16
  · rw [dif_pos h1, dif_pos h1]
  rw [dif_neg h1, dif_neg h1]
  by_cases h2 : l.val < 32
  · rw [dif_pos h2, dif_pos (by omega)]
  rw [dif_neg h2, dif_neg (by omega)]
  by_cases h3 : l.val < 48
  · rw [dif_pos h3, dif_pos (by omega)]
    exact congrArg (fun k => d (ix2 r k)) (Fin.ext (by show l.val - 16 - 16 = l.val - 32; omega))
  rw [dif_neg h3, dif_neg (by omega)]
  exact congrArg (fun k => e (ix2 r k)) (Fin.ext (by show l.val - 16 - 16 - 16 = l.val - 48; omega))
theorem hTB_apply (z : BitVec 32) (a b d e : FVec Ideal S8192x8 .f32) (r : Fin 8192) (l : Fin 96) : hTB z a b d e (ix2 r l)
    = if l.val < 64 then Ideal.ofBits .f32 z else if h : l.val < 72 then a (ix2 r ⟨l.val - 64, by omega⟩)
      else if h : l.val < 80 then b (ix2 r ⟨l.val - 72, by omega⟩)
      else if h : l.val < 88 then d (ix2 r ⟨l.val - 80, by omega⟩) else e (ix2 r ⟨l.val - 88, by omega⟩) := by
  pointwise [hTB]
  by_cases h0 : l.val < 64
  · rw [dif_pos h0, if_pos h0]
  rw [dif_neg h0, if_neg h0]
  by_cases h1 : l.val < 72
  · rw [dif_pos h1, dif_pos (by omega)]
  rw [dif_neg h1, dif_neg (by omega)]
  by_cases h2 : l.val < 80
  · rw [dif_pos h2, dif_pos (by omega)]
    exact congrArg (fun k => b (ix2 r k)) (Fin.ext (by show l.val - 64 - 8 = l.val - 72; omega))
  rw [dif_neg h2, dif_neg (by omega)]
  by_cases h3 : l.val < 88
  · rw [dif_pos h3, dif_pos (by omega)]
    exact congrArg (fun k => d (ix2 r k)) (Fin.ext (by show l.val - 64 - 8 - 8 = l.val - 80; omega))
  rw [dif_neg h3, dif_neg (by omega)]
  exact congrArg (fun k => e (ix2 r k)) (Fin.ext (by show l.val - 64 - 8 - 8 - 8 = l.val - 88; omega))
theorem hPA_apply (x : FVec Ideal S8192x64 .f32) (r : Fin 8192) (l : Fin 128) : hPA x (ix2 r l) = pd (fun j => x (ix2 r j)) l := by
  unfold pd
  pointwise [hPA, zF_apply]
theorem hPB_apply (x : FVec Ideal S8192x96 .f32) (r : Fin 8192) (l : Fin 128) : hPB x (ix2 r l) = pd (fun j => x (ix2 r j)) l := by
  unfold pd
  pointwise [hPB, zF_apply]
theorem ca_apply (z : BitVec 32) (a d : FVec Ideal S8192x16 .f32) (r : Fin 8192) (l : Fin 128) : hPA (hTA z a a d d) (ix2 r l) = cosA (A2 a r) (A2 d r) l := by
  rw [hPA_apply]
  unfold pd cosA
  simp only [hTA_apply]
  by_cases h : l.val < 64
  · rw [dif_pos h]; simp only [h, ↓reduceDIte]
  · have h1 : ¬ l.val < 16 := by omega
    have h2 : ¬ l.val < 32 := by omega
    have h3 : ¬ l.val < 48 := by omega
    simp only [h, h1, h2, h3, ↓reduceDIte]
theorem sa_apply (z : BitVec 32) (a d : FVec Ideal S8192x16 .f32) (r : Fin 8192) (l : Fin 128) :
    hPA (hTA z (Host.negf (F := Ideal) (s := S8192x16) (φ := .f32) a) a (Host.negf (F := Ideal) (s := S8192x16) (φ := .f32) d) d) (ix2 r l) = sinA (A2 a r) (A2 d r) l := by
  rw [hPA_apply]
  unfold pd sinA
  simp only [hTA_apply]
  by_cases h : l.val < 64
  · rw [dif_pos h]; simp only [h, ↓reduceDIte]; rfl
  · have h1 : ¬ l.val < 16 := by omega
    have h2 : ¬ l.val < 32 := by omega
    have h3 : ¬ l.val < 48 := by omega
    simp only [h, h1, h2, h3, ↓reduceDIte]
theorem cb_apply (a d : FVec Ideal S8192x8 .f32) (r : Fin 8192) (l : Fin 128) : hPB (hTB 0x3F800000#32 a a d d) (ix2 r l) = cosB (A2 a r) (A2 d r) l := by
  rw [hPB_apply]
  unfold pd cosB
  simp only [hTB_apply, one_eq]
  by_cases h : l.val < 96
  · rw [dif_pos h]; simp only [h, ↓reduceDIte]
  · have h0 : ¬ l.val < 64 := by omega
    have h1 : ¬ l.val < 72 := by omega
    have h2 : ¬ l.val < 80 := by omega
    have h3 : ¬ l.val < 88 := by omega
    simp only [h, h0, h1, h2, h3, ↓reduceDIte, ↓reduceIte]
theorem sb_apply (a d : FVec Ideal S8192x8 .f32) (r : Fin 8192) (l : Fin 128) :
    hPB (hTB 0x00000000#32 (Host.negf (F := Ideal) (s := S8192x8) (φ := .f32) a) a (Host.negf (F := Ideal) (s := S8192x8) (φ := .f32) d) d) (ix2 r l) = sinB (A2 a r) (A2 d r) l := by
  rw [hPB_apply]
  unfold pd sinB
  simp only [hTB_apply, zero_eq]
  by_cases h : l.val < 96
  · rw [dif_pos h]; simp only [h, ↓reduceDIte]; rfl
  · have h0 : ¬ l.val < 64 := by omega
    have h1 : ¬ l.val < 72 := by omega
    have h2 : ¬ l.val < 80 := by omega
    have h3 : ¬ l.val < 88 := by omega
    simp only [h, h0, h1, h2, h3, ↓reduceDIte, ↓reduceIte]
theorem hQ8_apply (x : FVec Ideal S1024x512 .bf16) (d : Fin 1024) (n : Fin 1024) :
    hQ8 x (ix2 d n) = pd (fun l : Fin 64 => x (ix2 d ⟨64 * (n.val / 128) + l.val, by omega⟩)) ⟨n.val % 128, by omega⟩ := by
  unfold pd
  pointwise [hQ8, zB_apply]
  have := n.isLt
  by_cases h : n.val % 128 < 64
  · rw [dif_pos h, dif_pos ⟨by omega, h⟩]
    exact congrArg (fun k => x (ix2 d k)) (Fin.ext (by show n.val / 128 * 64 + n.val % 128 = 64 * (n.val / 128) + n.val % 128; omega))
  · rw [dif_neg h, dif_neg (fun e => h e.2)]
theorem hQ2_apply (x : FVec Ideal S1024x128 .bf16) (d : Fin 1024) (n : Fin 256) :
    hQ2 x (ix2 d n) = pd (fun l : Fin 64 => x (ix2 d ⟨64 * (n.val / 128) + l.val, by omega⟩)) ⟨n.val % 128, by omega⟩ := by
  unfold pd
  pointwise [hQ2, zB_apply]
  have := n.isLt
  by_cases h : n.val % 128 < 64
  · rw [dif_pos h, dif_pos ⟨by omega, h⟩]
    exact congrArg (fun k => x (ix2 d k)) (Fin.ext (by show n.val / 128 * 64 + n.val % 128 = 64 * (n.val / 128) + n.val % 128; omega))
  · rw [dif_neg h, dif_neg (fun e => h e.2)]
theorem hR_apply (x : FVec Ideal S1024x32 .bf16) (d : Fin 1024) (n : Fin 128) :
    hR x (ix2 d n) = if h : 64 ≤ n.val ∧ n.val < 96 then x (ix2 d ⟨n.val - 64, by omega⟩) else 0 := by
  pointwise [hR, zB_apply]
  by_cases h : 64 ≤ n.val ∧ n.val < 96
  · rw [dif_pos h, dif_pos (by omega)]
  · rw [dif_neg h, dif_neg (by omega)]
theorem hUq_apply (w : FVec Ideal S384x384 .bf16) (j : Fin 384) (n : Fin 512) : hUq w (ix2 j n) = padQ (B2 w) j n := by
  unfold padQ pd
  pointwise [hUq, zB_apply]
  have := n.isLt
  by_cases h : n.val % 128 < 96
  · rw [dif_pos h, dif_pos ⟨by omega, h⟩]
    exact congrArg (fun k => w (ix2 j k)) (Fin.ext (by show n.val / 128 * 96 + n.val % 128 = 96 * (n.val / 128) + n.val % 128; omega))
  · rw [dif_neg h, dif_neg (fun e => h e.2)]
theorem hUv_apply (w : FVec Ideal S256x768 .bf16) (j : Fin 256) (n : Fin 512) :
    hUv w (ix2 j n) = w (ix2 j ⟨192 * (n.val / 128) + 64 + n.val % 128, by omega⟩) := by
  pointwise [hUv]
  exact congrArg (fun k => w (ix2 j k)) (Fin.ext (by show n.val / 128 * 192 + (64 + n.val % 128) = 192 * (n.val / 128) + 64 + n.val % 128; omega))
theorem hUk_apply (w : FVec Ideal S256x768 .bf16) (j : Fin 256) (n : Fin 512) :
    hUk w (ix2 j n) = pd (fun l : Fin 64 => w (ix2 j ⟨192 * (n.val / 128) + l.val, by omega⟩)) ⟨n.val % 128, by omega⟩ := by
  unfold pd
  pointwise [hUk, zB_apply]
  have := n.isLt
  by_cases h : n.val % 128 < 64
  · rw [dif_pos h, dif_pos ⟨by omega, h⟩]
    refine congrArg (fun k => w (ix2 j k)) (Fin.ext ?_)
    dsimp only
    omega
  · rw [dif_neg h, dif_neg (fun e => h e.2)]
theorem hUkv_apply (w : FVec Ideal S256x768 .bf16) (j : Fin 256) (n : Fin 1024) : hUkv w (ix2 j n) = padKV (B2 w) j n := by
  unfold padKV
  pointwise [hUkv]
  by_cases h : n.val < 512
  · rw [dif_pos h, dif_pos h, hUk_apply]
  · rw [dif_neg h, dif_neg h, hUv_apply]
theorem hW_apply (w : FVec Ideal S1024x2464 .bf16) (d : Fin 1024) (n : Fin 3840) : hW w (ix2 d n) = padW (B2 w) d n := by
  unfold padW
  pointwise [hW]
  have := n.isLt
  by_cases h1 : n.val < 1024
  · rw [dif_pos h1, dif_pos h1, hQ8_apply]
    unfold pd
    pointwise []
  rw [dif_neg h1, dif_neg h1]
  by_cases h2 : n.val < 1280
  · rw [dif_pos h2, dif_pos (by omega), hQ2_apply]
    unfold pd
    pointwise []
  rw [dif_neg h2, dif_neg (by omega)]
  by_cases h3 : n.val < 1536
  · rw [dif_pos h3, dif_pos (by omega), hQ2_apply]
    have e : n.val - 1024 - 256 = n.val - 1280 := by omega
    unfold pd
    pointwise [e]
  rw [dif_neg h3, dif_neg (by omega)]
  by_cases h4 : n.val < 2560
  · rw [dif_pos h4, dif_pos (by omega), hQ8_apply]
    have e : n.val - 1024 - 256 - 256 = n.val - 1536 := by omega
    unfold pd
    pointwise [e]
  rw [dif_neg h4, dif_neg (by omega)]
  have e5 : n.val - 1024 - 256 - 256 - 1024 = n.val - 2560 := by omega
  by_cases h5 : n.val < 3072
  · rw [dif_pos h5, dif_pos (by omega)]
    simp only [e5]
  rw [dif_neg h5, dif_neg (by omega)]
  have e6 : n.val - 1024 - 256 - 256 - 1024 - 512 = n.val - 3072 := by omega
  by_cases h6 : n.val < 3456
  · rw [dif_pos h6, dif_pos (by omega)]
    simp only [e6]
  rw [dif_neg h6, dif_neg (by omega)]
  have e7 : n.val - 1024 - 256 - 256 - 1024 - 512 - 384 = n.val - 3456 := by omega
  by_cases h7 : n.val < 3712
  · rw [dif_pos h7, dif_pos (by omega)]
    simp only [e7]
  rw [dif_neg h7, dif_neg (by omega), hR_apply]
  by_cases h8 : n.val < 3776
  · rw [dif_pos h8, dif_neg (by dsimp only; omega)]
  rw [dif_neg h8]
  by_cases h9 : n.val < 3808
  · rw [dif_pos h9, dif_pos (by dsimp only; omega)]
    pointwise []
    refine congrArg (fun k => w (ix2 d k)) (Fin.ext ?_)
    dsimp only
    omega
  · rw [dif_neg h9, dif_neg (by dsimp only; omega)]

end Cert.PreIdeal.Val

end
-- ==== Proof.PrePiecesA.lean ====
/- The pieces of some of the results. -/
module

public import proofs.«01_k».proof.Proof.PreIdealPipe
public import proofs.«01_k».proof.Proof.PreOut

@[expose] public section

set_option maxRecDepth 16384

noncomputable section

namespace Cert.PreIdeal.Block

open Cert.PreIdeal Cert.PreIdeal.Gen Cert.PreIdeal.Own Idealize.ShloMosaic Idealize.ShloMosaic.TcCoe Cert.Online Cert.PreSpec

variable (m : (ℓ : Loc nD τ sig) → Buf (Elt Ideal) ℓ)

set_option maxHeartbeats 4000000 in
theorem pieces15 (c : Dev nD) (t : Fin cfg0.N) : ∀ p ∈ (runAt m c t).1, ∀ x : p.1.shape.Idx,
    p.2 x = (fun i : S256x1024.Idx => PX (b0 m c t) (b8 m c t) (i 0) (i 1)) (p.1.emb x) := by
  unfold runAt bodyRun
  dsimp only
  sl_unfold_run_names
  obtain ⟨x0, h0⟩ : ∃ x0 : Vec Ideal S256x1024 .f32, x0 = iblk m c 0 t := ⟨_, rfl⟩
  obtain ⟨x8, h8⟩ : ∃ x8 : Vec Ideal S1x1024 .f32, x8 = iblk m c 8 t := ⟨_, rfl⟩
  simp only [View.readAt_eq_ld, (hs0_0 t).read_unread, ← h0, (hs0_8 t).read_unread, ← h8, ldw, rcov']
  intro p hp x
  simp only [List.mem_cons, List.not_mem_nil, or_false] at hp
  subst hp
  obtain ⟨r, d, rfl⟩ := ix2_of x
  rw [emb_col 0 _ r d (by have := d.isLt; omega)]
  dsimp only
  show _ = PX x0 x8 r ⟨0 + d.val, by have := d.isLt; omega⟩
  simp only [Nat.zero_add]
  exact pay3 _ _ r d

theorem o15_eq (c : Dev nD) (t : Fin cfg0.N) (r : Fin 256) (n : Fin 1024) : o15 m c t (ix2 r n) = PX (b0 m c t) (b8 m c t) r n := by
  unfold o15
  exact read_pieces VO0_15 _ _ (fun i : S256x1024.Idx => PX (b0 m c t) (b8 m c t) (i 0) (i 1)) (pieces15 m c t) (ix2 r n) (cov15 m c t _)

set_option maxHeartbeats 4000000 in
theorem pieces16 (c : Dev nD) (t : Fin cfg0.N) : ∀ p ∈ (runAt m c t).2.1, ∀ x : p.1.shape.Idx,
    p.2 x = (fun i : S256x1536.Idx => G16 (b0 m c t) (b8 m c t) (b5 m c t) (i 0) (i 1)) (p.1.emb x) := by
  unfold runAt bodyRun
  dsimp only
  sl_unfold_run_names
  obtain ⟨x0, h0⟩ : ∃ x0 : Vec Ideal S256x1024 .f32, x0 = iblk m c 0 t := ⟨_, rfl⟩
  obtain ⟨x8, h8⟩ : ∃ x8 : Vec Ideal S1x1024 .f32, x8 = iblk m c 8 t := ⟨_, rfl⟩
  obtain ⟨x5, h5⟩ : ∃ x5 : Vec Ideal S1024x3840 .bf16, x5 = iblk m c 5 t := ⟨_, rfl⟩
  simp only [View.readAt_eq_ld, (hs0_0 t).read_unread, ← h0, (hs0_8 t).read_unread, ← h8, (hs0_5 t).read_unread, ← h5, ldw, rcov']
  intro p hp x
  simp only [List.mem_cons, List.not_mem_nil, or_false] at hp
  subst hp
  obtain ⟨r, d, rfl⟩ := ix2_of x
  rw [emb_col 0 _ r d (by have := d.isLt; omega)]
  dsimp only
  show _ = G16 x0 x8 x5 r ⟨0 + d.val, by have := d.isLt; omega⟩
  simp only [Nat.zero_add]
  exact (ldc' 1536 _ _ r d).trans (pay4 _ _ _ r _)

theorem o16_eq (c : Dev nD) (t : Fin cfg0.N) (r : Fin 256) (n : Fin 1536) : o16 m c t (ix2 r n) = G16 (b0 m c t) (b8 m c t) (b5 m c t) r n := by
  unfold o16
  exact read_pieces VO0_16 _ _ (fun i : S256x1536.Idx => G16 (b0 m c t) (b8 m c t) (b5 m c t) (i 0) (i 1)) (pieces16 m c t) (ix2 r n) (cov16 m c t _)

set_option maxHeartbeats 4000000 in
theorem pieces17 (c : Dev nD) (t : Fin cfg0.N) : ∀ p ∈ (runAt m c t).2.2.1, ∀ x : p.1.shape.Idx,
    p.2 x = (fun i : S256x1920.Idx => G17 (b0 m c t) (b8 m c t) (b5 m c t) (i 0) (i 1)) (p.1.emb x) := by
  unfold runAt bodyRun
  dsimp only
  sl_unfold_run_names
  obtain ⟨x0, h0⟩ : ∃ x0 : Vec Ideal S256x1024 .f32, x0 = iblk m c 0 t := ⟨_, rfl⟩
  obtain ⟨x8, h8⟩ : ∃ x8 : Vec Ideal S1x1024 .f32, x8 = iblk m c 8 t := ⟨_, rfl⟩
  obtain ⟨x5, h5⟩ : ∃ x5 : Vec Ideal S1024x3840 .bf16, x5 = iblk m c 5 t := ⟨_, rfl⟩
  simp only [View.readAt_eq_ld, (hs0_0 t).read_unread, ← h0, (hs0_8 t).read_unread, ← h8, (hs0_5 t).read_unread, ← h5, ldw, rcov']
  intro p hp x
  simp only [List.mem_cons, List.not_mem_nil, or_false] at hp
  rcases hp with rfl | rfl
  · obtain ⟨r, d, rfl⟩ := ix2_of x
    have := d.isLt
    rw [emb_col 1280 _ r d (by omega)]
    show _ = G17 x0 x8 x5 r ⟨1280 + d.val, by omega⟩
    unfold G17
    rw [dif_neg (show ¬ 1280 + d.val < 1280 by omega)]
    refine ((ldc' 3072 _ _ r d).trans (pay4 _ _ _ r _)).trans (congrArg _ (Fin.ext ?_))
    show 3072 + d.val = 3072 + (1280 + d.val - 1280)
    omega
  · obtain ⟨r, d, rfl⟩ := ix2_of x
    have := d.isLt
    rw [emb_col 0 _ r d (by omega)]
    show _ = G17 x0 x8 x5 r ⟨0 + d.val, by omega⟩
    unfold G17
    rw [dif_pos (show 0 + d.val < 1280 by omega)]
    exact (ldc' 0 _ _ r d).trans (pay4 _ _ _ r _)

theorem o17_eq (c : Dev nD) (t : Fin cfg0.N) (r : Fin 256) (n : Fin 1920) : o17 m c t (ix2 r n) = G17 (b0 m c t) (b8 m c t) (b5 m c t) r n := by
  unfold o17
  exact read_pieces VO0_17 _ _ (fun i : S256x1920.Idx => G17 (b0 m c t) (b8 m c t) (b5 m c t) (i 0) (i 1)) (pieces17 m c t) (ix2 r n) (cov17 m c t _)

set_option maxHeartbeats 4000000 in
theorem pieces18 (c : Dev nD) (t : Fin cfg0.N) : ∀ p ∈ (runAt m c t).2.2.2.1, ∀ x : p.1.shape.Idx,
    p.2 x = (fun i : S256x512.Idx => PPq (b0 m c t) (b8 m c t) (b5 m c t) (b11 m c t) (b6 m c t) (i 0) (i 1)) (p.1.emb x) := by
  unfold runAt bodyRun
  dsimp only
  sl_unfold_run_names
  obtain ⟨x0, h0⟩ : ∃ x0 : Vec Ideal S256x1024 .f32, x0 = iblk m c 0 t := ⟨_, rfl⟩
  obtain ⟨x8, h8⟩ : ∃ x8 : Vec Ideal S1x1024 .f32, x8 = iblk m c 8 t := ⟨_, rfl⟩
  obtain ⟨x5, h5⟩ : ∃ x5 : Vec Ideal S1024x3840 .bf16, x5 = iblk m c 5 t := ⟨_, rfl⟩
  obtain ⟨x11, h11⟩ : ∃ x11 : Vec Ideal S1x384 .f32, x11 = iblk m c 11 t := ⟨_, rfl⟩
  obtain ⟨x6, h6⟩ : ∃ x6 : Vec Ideal S384x512 .bf16, x6 = iblk m c 6 t := ⟨_, rfl⟩
  simp only [View.readAt_eq_ld, (hs0_0 t).read_unread, ← h0, (hs0_8 t).read_unread, ← h8, (hs0_5 t).read_unread, ← h5, (hs0_11 t).read_unread, ← h11, (hs0_6 t).read_unread, ← h6, ldw, rcov']
  intro p hp x
  simp only [List.mem_cons, List.not_mem_nil, or_false] at hp
  subst hp
  obtain ⟨r, d, rfl⟩ := ix2_of x
  rw [emb_col 0 _ r d (by have := d.isLt; omega)]
  dsimp only
  show _ = PPq x0 x8 x5 x11 x6 r ⟨0 + d.val, by have := d.isLt; omega⟩
  simp only [Nat.zero_add]
  exact pq_eq _ _ _ _ _ _ r d

theorem o18_eq (c : Dev nD) (t : Fin cfg0.N) (r : Fin 256) (n : Fin 512) : o18 m c t (ix2 r n) = PPq (b0 m c t) (b8 m c t) (b5 m c t) (b11 m c t) (b6 m c t) r n := by
  unfold o18
  exact read_pieces VO0_18 _ _ (fun i : S256x512.Idx => PPq (b0 m c t) (b8 m c t) (b5 m c t) (b11 m c t) (b6 m c t) (i 0) (i 1)) (pieces18 m c t) (ix2 r n) (cov18 m c t _)

set_option maxHeartbeats 4000000 in
theorem pieces19 (c : Dev nD) (t : Fin cfg0.N) : ∀ p ∈ (runAt m c t).2.2.2.2.1, ∀ x : p.1.shape.Idx,
    p.2 x = (fun i : S256x512.Idx => G19 (b0 m c t) (b8 m c t) (b5 m c t) (b12 m c t) (b7 m c t) (i 0) (i 1)) (p.1.emb x) := by
  unfold runAt bodyRun
  dsimp only
  sl_unfold_run_names
  obtain ⟨x0, h0⟩ : ∃ x0 : Vec Ideal S256x1024 .f32, x0 = iblk m c 0 t := ⟨_, rfl⟩
  obtain ⟨x8, h8⟩ : ∃ x8 : Vec Ideal S1x1024 .f32, x8 = iblk m c 8 t := ⟨_, rfl⟩
  obtain ⟨x5, h5⟩ : ∃ x5 : Vec Ideal S1024x3840 .bf16, x5 = iblk m c 5 t := ⟨_, rfl⟩
  obtain ⟨x12, h12⟩ : ∃ x12 : Vec Ideal S1x256 .f32, x12 = iblk m c 12 t := ⟨_, rfl⟩
  obtain ⟨x7, h7⟩ : ∃ x7 : Vec Ideal S256x1024 .bf16, x7 = iblk m c 7 t := ⟨_, rfl⟩
  simp only [View.readAt_eq_ld, (hs0_0 t).read_unread, ← h0, (hs0_8 t).read_unread, ← h8, (hs0_5 t).read_unread, ← h5, (hs0_12 t).read_unread, ← h12, (hs0_7 t).read_unread, ← h7, ldw, rcov']
  intro p hp x
  simp only [List.mem_cons, List.not_mem_nil, or_false] at hp
  rcases hp with rfl | rfl | rfl | rfl
  · obtain ⟨r, d, rfl⟩ := ix2_of x
    have := d.isLt
    rw [emb_col 384 _ r d (by omega)]
    show _ = PHk x0 x8 x5 x12 x7 ⟨(384 + d.val) / 128, by omega⟩ r ⟨(384 + d.val) % 128, by omega⟩
    rw [show (⟨(384 + d.val) / 128, by omega⟩ : Fin 4) = 3 from Fin.ext (by show (384 + d.val) / 128 = 3; omega),
      show (⟨(384 + d.val) % 128, by omega⟩ : Fin 128) = d from Fin.ext (by show (384 + d.val) % 128 = d.val; omega)]
    exact hk_eq _ _ _ _ _ 384 3 rfl _ _ _ r d
  · obtain ⟨r, d, rfl⟩ := ix2_of x
    have := d.isLt
    rw [emb_col 256 _ r d (by omega)]
    show _ = PHk x0 x8 x5 x12 x7 ⟨(256 + d.val) / 128, by omega⟩ r ⟨(256 + d.val) % 128, by omega⟩
    rw [show (⟨(256 + d.val) / 128, by omega⟩ : Fin 4) = 2 from Fin.ext (by show (256 + d.val) / 128 = 2; omega),
      show (⟨(256 + d.val) % 128, by omega⟩ : Fin 128) = d from Fin.ext (by show (256 + d.val) % 128 = d.val; omega)]
    exact hk_eq _ _ _ _ _ 256 2 rfl _ _ _ r d
  · obtain ⟨r, d, rfl⟩ := ix2_of x
    have := d.isLt
    rw [emb_col 128 _ r d (by omega)]
    show _ = PHk x0 x8 x5 x12 x7 ⟨(128 + d.val) / 128, by omega⟩ r ⟨(128 + d.val) % 128, by omega⟩
    rw [show (⟨(128 + d.val) / 128, by omega⟩ : Fin 4) = 1 from Fin.ext (by show (128 + d.val) / 128 = 1; omega),
      show (⟨(128 + d.val) % 128, by omega⟩ : Fin 128) = d from Fin.ext (by show (128 + d.val) % 128 = d.val; omega)]
    exact hk_eq _ _ _ _ _ 128 1 rfl _ _ _ r d
  · obtain ⟨r, d, rfl⟩ := ix2_of x
    have := d.isLt
    rw [emb_col 0 _ r d (by omega)]
    show _ = PHk x0 x8 x5 x12 x7 ⟨(0 + d.val) / 128, by omega⟩ r ⟨(0 + d.val) % 128, by omega⟩
    rw [show (⟨(0 + d.val) / 128, by omega⟩ : Fin 4) = 0 from Fin.ext (by show (0 + d.val) / 128 = 0; omega),
      show (⟨(0 + d.val) % 128, by omega⟩ : Fin 128) = d from Fin.ext (by show (0 + d.val) % 128 = d.val; omega)]
    exact hk_eq _ _ _ _ _ 0 0 rfl _ _ _ r d

theorem o19_eq (c : Dev nD) (t : Fin cfg0.N) (r : Fin 256) (n : Fin 512) : o19 m c t (ix2 r n) = G19 (b0 m c t) (b8 m c t) (b5 m c t) (b12 m c t) (b7 m c t) r n := by
  unfold o19
  exact read_pieces VO0_19 _ _ (fun i : S256x512.Idx => G19 (b0 m c t) (b8 m c t) (b5 m c t) (b12 m c t) (b7 m c t) (i 0) (i 1)) (pieces19 m c t) (ix2 r n) (cov19 m c t _)

set_option maxHeartbeats 4000000 in
theorem pieces20 (c : Dev nD) (t : Fin cfg0.N) : ∀ p ∈ (runAt m c t).2.2.2.2.2.1, ∀ x : p.1.shape.Idx,
    p.2 x = (fun i : S256x384.Idx => PCq (b0 m c t) (b8 m c t) (b5 m c t) (b11 m c t) (i 0) (i 1)) (p.1.emb x) := by
  unfold runAt bodyRun
  dsimp only
  sl_unfold_run_names
  obtain ⟨x0, h0⟩ : ∃ x0 : Vec Ideal S256x1024 .f32, x0 = iblk m c 0 t := ⟨_, rfl⟩
  obtain ⟨x8, h8⟩ : ∃ x8 : Vec Ideal S1x1024 .f32, x8 = iblk m c 8 t := ⟨_, rfl⟩
  obtain ⟨x5, h5⟩ : ∃ x5 : Vec Ideal S1024x3840 .bf16, x5 = iblk m c 5 t := ⟨_, rfl⟩
  obtain ⟨x11, h11⟩ : ∃ x11 : Vec Ideal S1x384 .f32, x11 = iblk m c 11 t := ⟨_, rfl⟩
  simp only [View.readAt_eq_ld, (hs0_0 t).read_unread, ← h0, (hs0_8 t).read_unread, ← h8, (hs0_5 t).read_unread, ← h5, (hs0_11 t).read_unread, ← h11, ldw, rcov']
  intro p hp x
  simp only [List.mem_cons, List.not_mem_nil, or_false] at hp
  subst hp
  obtain ⟨r, d, rfl⟩ := ix2_of x
  rw [emb_col 0 _ r d (by have := d.isLt; omega)]
  dsimp only
  show _ = PCq x0 x8 x5 x11 r ⟨0 + d.val, by have := d.isLt; omega⟩
  simp only [Nat.zero_add]
  exact cq_eq _ _ _ _ _ r d

theorem o20_eq (c : Dev nD) (t : Fin cfg0.N) (r : Fin 256) (n : Fin 384) : o20 m c t (ix2 r n) = PCq (b0 m c t) (b8 m c t) (b5 m c t) (b11 m c t) r n := by
  unfold o20
  exact read_pieces VO0_20 _ _ (fun i : S256x384.Idx => PCq (b0 m c t) (b8 m c t) (b5 m c t) (b11 m c t) (i 0) (i 1)) (pieces20 m c t) (ix2 r n) (cov20 m c t _)

set_option maxHeartbeats 4000000 in
theorem pieces21 (c : Dev nD) (t : Fin cfg0.N) : ∀ p ∈ (runAt m c t).2.2.2.2.2.2.1, ∀ x : p.1.shape.Idx,
    p.2 x = (fun i : S256x256.Idx => PCkv (b0 m c t) (b8 m c t) (b5 m c t) (b12 m c t) (i 0) (i 1)) (p.1.emb x) := by
  unfold runAt bodyRun
  dsimp only
  sl_unfold_run_names
  obtain ⟨x0, h0⟩ : ∃ x0 : Vec Ideal S256x1024 .f32, x0 = iblk m c 0 t := ⟨_, rfl⟩
  obtain ⟨x8, h8⟩ : ∃ x8 : Vec Ideal S1x1024 .f32, x8 = iblk m c 8 t := ⟨_, rfl⟩
  obtain ⟨x5, h5⟩ : ∃ x5 : Vec Ideal S1024x3840 .bf16, x5 = iblk m c 5 t := ⟨_, rfl⟩
  obtain ⟨x12, h12⟩ : ∃ x12 : Vec Ideal S1x256 .f32, x12 = iblk m c 12 t := ⟨_, rfl⟩
  simp only [View.readAt_eq_ld, (hs0_0 t).read_unread, ← h0, (hs0_8 t).read_unread, ← h8, (hs0_5 t).read_unread, ← h5, (hs0_12 t).read_unread, ← h12, ldw, rcov']
  intro p hp x
  simp only [List.mem_cons, List.not_mem_nil, or_false] at hp
  subst hp
  obtain ⟨r, d, rfl⟩ := ix2_of x
  rw [emb_col 0 _ r d (by have := d.isLt; omega)]
  dsimp only
  show _ = PCkv x0 x8 x5 x12 r ⟨0 + d.val, by have := d.isLt; omega⟩
  simp only [Nat.zero_add]
  exact ckv_eq _ _ _ _ _ r d

theorem o21_eq (c : Dev nD) (t : Fin cfg0.N) (r : Fin 256) (n : Fin 256) : o21 m c t (ix2 r n) = PCkv (b0 m c t) (b8 m c t) (b5 m c t) (b12 m c t) r n := by
  unfold o21
  exact read_pieces VO0_21 _ _ (fun i : S256x256.Idx => PCkv (b0 m c t) (b8 m c t) (b5 m c t) (b12 m c t) (i 0) (i 1)) (pieces21 m c t) (ix2 r n) (cov21 m c t _)

end Cert.PreIdeal.Block

end
-- ==== Proof.PrePiecesB.lean ====
/- The pieces of some of the results. -/
module

public import proofs.«01_k».proof.Proof.PreIdealPipe
public import proofs.«01_k».proof.Proof.PreOut

@[expose] public section

set_option maxRecDepth 16384

noncomputable section

namespace Cert.PreIdeal.Block

open Cert.PreIdeal Cert.PreIdeal.Gen Cert.PreIdeal.Own Idealize.ShloMosaic Idealize.ShloMosaic.TcCoe Cert.Online Cert.PreSpec

variable (m : (ℓ : Loc nD τ sig) → Buf (Elt Ideal) ℓ)

set_option maxHeartbeats 4000000 in
theorem pieces22 (c : Dev nD) (t : Fin cfg0.N) : ∀ p ∈ (runAt m c t).2.2.2.2.2.2.2.1, ∀ x : p.1.shape.Idx,
    p.2 x = (fun i : S8x256x128.Idx => G22 (b0 m c t) (b8 m c t) (b5 m c t) (b9 m c t) (b1 m c t) (b2 m c t) (i 0) (i 1) (i 2)) (p.1.emb x) := by
  unfold runAt bodyRun
  dsimp only
  sl_unfold_run_names
  obtain ⟨x0, h0⟩ : ∃ x0 : Vec Ideal S256x1024 .f32, x0 = iblk m c 0 t := ⟨_, rfl⟩
  obtain ⟨x8, h8⟩ : ∃ x8 : Vec Ideal S1x1024 .f32, x8 = iblk m c 8 t := ⟨_, rfl⟩
  obtain ⟨x5, h5⟩ : ∃ x5 : Vec Ideal S1024x3840 .bf16, x5 = iblk m c 5 t := ⟨_, rfl⟩
  obtain ⟨x9, h9⟩ : ∃ x9 : Vec Ideal S1x128 .f32, x9 = iblk m c 9 t := ⟨_, rfl⟩
  obtain ⟨x1, h1⟩ : ∃ x1 : Vec Ideal S256x128 .f32, x1 = iblk m c 1 t := ⟨_, rfl⟩
  obtain ⟨x2, h2⟩ : ∃ x2 : Vec Ideal S256x128 .f32, x2 = iblk m c 2 t := ⟨_, rfl⟩
  simp only [View.readAt_eq_ld, (hs0_0 t).read_unread, ← h0, (hs0_8 t).read_unread, ← h8, (hs0_5 t).read_unread, ← h5, (hs0_9 t).read_unread, ← h9, (hs0_1 t).read_unread, ← h1, (hs0_2 t).read_unread, ← h2, ldw, rcov']
  intro p hp x
  simp only [List.mem_cons, List.not_mem_nil, or_false] at hp
  rcases hp with rfl | rfl | rfl | rfl | rfl | rfl | rfl | rfl
  · obtain ⟨r, d, rfl⟩ := ix3_of x
    rw [emb_head 7 _ r d (by decide)]
    show _ = G22 x0 x8 x5 x9 x1 x2 ⟨7, by decide⟩ r d
    refine Eq.trans (congrFun (g := headA (vN (Ideal.ofBits .f32 0x3C800000#32) _ _) _ _ _) rfl _) ?_
    rw [headA_apply]
    simp only [vN_apply, k0_pay5, k0_pay6, k0_pay28, k0_pay32, shapeCast_self, ldP, c64]
    rfl
  · obtain ⟨r, d, rfl⟩ := ix3_of x
    rw [emb_head 6 _ r d (by decide)]
    show _ = G22 x0 x8 x5 x9 x1 x2 ⟨6, by decide⟩ r d
    refine Eq.trans (congrFun (g := headA (vN (Ideal.ofBits .f32 0x3C800000#32) _ _) _ _ _) rfl _) ?_
    rw [headA_apply]
    simp only [vN_apply, k0_pay5, k0_pay6, k0_pay28, k0_pay32, shapeCast_self, ldP, c64]
    rfl
  · obtain ⟨r, d, rfl⟩ := ix3_of x
    rw [emb_head 5 _ r d (by decide)]
    show _ = G22 x0 x8 x5 x9 x1 x2 ⟨5, by decide⟩ r d
    refine Eq.trans (congrFun (g := headA (vN (Ideal.ofBits .f32 0x3C800000#32) _ _) _ _ _) rfl _) ?_
    rw [headA_apply]
    simp only [vN_apply, k0_pay5, k0_pay6, k0_pay28, k0_pay32, shapeCast_self, ldP, c64]
    rfl
  · obtain ⟨r, d, rfl⟩ := ix3_of x
    rw [emb_head 4 _ r d (by decide)]
    show _ = G22 x0 x8 x5 x9 x1 x2 ⟨4, by decide⟩ r d
    refine Eq.trans (congrFun (g := headA (vN (Ideal.ofBits .f32 0x3C800000#32) _ _) _ _ _) rfl _) ?_
    rw [headA_apply]
    simp only [vN_apply, k0_pay5, k0_pay6, k0_pay28, k0_pay32, shapeCast_self, ldP, c64]
    rfl
  · obtain ⟨r, d, rfl⟩ := ix3_of x
    rw [emb_head 3 _ r d (by decide)]
    show _ = G22 x0 x8 x5 x9 x1 x2 ⟨3, by decide⟩ r d
    refine Eq.trans (congrFun (g := headA (vN (Ideal.ofBits .f32 0x3C800000#32) _ _) _ _ _) rfl _) ?_
    rw [headA_apply]
    simp only [vN_apply, k0_pay5, k0_pay6, k0_pay28, k0_pay32, shapeCast_self, ldP, c64]
    rfl
  · obtain ⟨r, d, rfl⟩ := ix3_of x
    rw [emb_head 2 _ r d (by decide)]
    show _ = G22 x0 x8 x5 x9 x1 x2 ⟨2, by decide⟩ r d
    refine Eq.trans (congrFun (g := headA (vN (Ideal.ofBits .f32 0x3C800000#32) _ _) _ _ _) rfl _) ?_
    rw [headA_apply]
    simp only [vN_apply, k0_pay5, k0_pay6, k0_pay28, k0_pay32, shapeCast_self, ldP, c64]
    rfl
  · obtain ⟨r, d, rfl⟩ := ix3_of x
    rw [emb_head 1 _ r d (by decide)]
    show _ = G22 x0 x8 x5 x9 x1 x2 ⟨1, by decide⟩ r d
    refine Eq.trans (congrFun (g := headA (vN (Ideal.ofBits .f32 0x3C800000#32) _ _) _ _ _) rfl _) ?_
    rw [headA_apply]
    simp only [vN_apply, k0_pay5, k0_pay6, k0_pay28, k0_pay32, shapeCast_self, ldP, c64]
    rfl
  · obtain ⟨r, d, rfl⟩ := ix3_of x
    rw [emb_head 0 _ r d (by decide)]
    show _ = G22 x0 x8 x5 x9 x1 x2 ⟨0, by decide⟩ r d
    refine Eq.trans (congrFun (g := headA (vN (Ideal.ofBits .f32 0x3C800000#32) _ _) _ _ _) rfl _) ?_
    rw [headA_apply]
    simp only [vN_apply, k0_pay5, k0_pay6, k0_pay28, k0_pay32, shapeCast_self, ldP, c64]
    rfl

theorem o22_eq (c : Dev nD) (t : Fin cfg0.N) (h : Fin 8) (r : Fin 256) (l : Fin 128) : o22 m c t (ix3 h r l) = G22 (b0 m c t) (b8 m c t) (b5 m c t) (b9 m c t) (b1 m c t) (b2 m c t) h r l := by
  unfold o22
  exact read_pieces VO0_22 _ _ (fun i : S8x256x128.Idx => G22 (b0 m c t) (b8 m c t) (b5 m c t) (b9 m c t) (b1 m c t) (b2 m c t) (i 0) (i 1) (i 2)) (pieces22 m c t) (ix3 h r l) (cov22 m c t _)

set_option maxHeartbeats 4000000 in
theorem pieces23 (c : Dev nD) (t : Fin cfg0.N) : ∀ p ∈ (runAt m c t).2.2.2.2.2.2.2.2.1, ∀ x : p.1.shape.Idx,
    p.2 x = (fun i : S2x256x128.Idx => G23 (b0 m c t) (b8 m c t) (b5 m c t) (b10 m c t) (b1 m c t) (b2 m c t) (i 0) (i 1) (i 2)) (p.1.emb x) := by
  unfold runAt bodyRun
  dsimp only
  sl_unfold_run_names
  obtain ⟨x0, h0⟩ : ∃ x0 : Vec Ideal S256x1024 .f32, x0 = iblk m c 0 t := ⟨_, rfl⟩
  obtain ⟨x8, h8⟩ : ∃ x8 : Vec Ideal S1x1024 .f32, x8 = iblk m c 8 t := ⟨_, rfl⟩
  obtain ⟨x5, h5⟩ : ∃ x5 : Vec Ideal S1024x3840 .bf16, x5 = iblk m c 5 t := ⟨_, rfl⟩
  obtain ⟨x10, h10⟩ : ∃ x10 : Vec Ideal S1x128 .f32, x10 = iblk m c 10 t := ⟨_, rfl⟩
  obtain ⟨x1, h1⟩ : ∃ x1 : Vec Ideal S256x128 .f32, x1 = iblk m c 1 t := ⟨_, rfl⟩
  obtain ⟨x2, h2⟩ : ∃ x2 : Vec Ideal S256x128 .f32, x2 = iblk m c 2 t := ⟨_, rfl⟩
  simp only [View.readAt_eq_ld, (hs0_0 t).read_unread, ← h0, (hs0_8 t).read_unread, ← h8, (hs0_5 t).read_unread, ← h5, (hs0_10 t).read_unread, ← h10, (hs0_1 t).read_unread, ← h1, (hs0_2 t).read_unread, ← h2, ldw, rcov']
  intro p hp x
  simp only [List.mem_cons, List.not_mem_nil, or_false] at hp
  rcases hp with rfl | rfl
  · obtain ⟨r, d, rfl⟩ := ix3_of x
    rw [emb_head 1 _ r d (by decide)]
    show _ = G23 x0 x8 x5 x10 x1 x2 ⟨1, by decide⟩ r d
    refine Eq.trans (congrFun (g := headA' (vN (Ideal.ofBits .f32 0x3C800000#32) _ _) _ _) rfl _) ?_
    rw [headA'_apply]
    simp only [vN_apply, k0_pay5, k0_pay6, k0_pay28, k0_pay32, shapeCast_self, ldP, c64]
    rfl
  · obtain ⟨r, d, rfl⟩ := ix3_of x
    rw [emb_head 0 _ r d (by decide)]
    show _ = G23 x0 x8 x5 x10 x1 x2 ⟨0, by decide⟩ r d
    refine Eq.trans (congrFun (g := headA' (vN (Ideal.ofBits .f32 0x3C800000#32) _ _) _ _) rfl _) ?_
    rw [headA'_apply]
    simp only [vN_apply, k0_pay5, k0_pay6, k0_pay28, k0_pay32, shapeCast_self, ldP, c64]
    rfl

theorem o23_eq (c : Dev nD) (t : Fin cfg0.N) (h : Fin 2) (r : Fin 256) (l : Fin 128) : o23 m c t (ix3 h r l) = G23 (b0 m c t) (b8 m c t) (b5 m c t) (b10 m c t) (b1 m c t) (b2 m c t) h r l := by
  unfold o23
  exact read_pieces VO0_23 _ _ (fun i : S2x256x128.Idx => G23 (b0 m c t) (b8 m c t) (b5 m c t) (b10 m c t) (b1 m c t) (b2 m c t) (i 0) (i 1) (i 2)) (pieces23 m c t) (ix3 h r l) (cov23 m c t _)

set_option maxHeartbeats 4000000 in
theorem pieces24 (c : Dev nD) (t : Fin cfg0.N) : ∀ p ∈ (runAt m c t).2.2.2.2.2.2.2.2.2.1, ∀ x : p.1.shape.Idx,
    p.2 x = (fun i : S2x256x128.Idx => G24 (b0 m c t) (b8 m c t) (b5 m c t) (i 0) (i 1) (i 2)) (p.1.emb x) := by
  unfold runAt bodyRun
  dsimp only
  sl_unfold_run_names
  obtain ⟨x0, h0⟩ : ∃ x0 : Vec Ideal S256x1024 .f32, x0 = iblk m c 0 t := ⟨_, rfl⟩
  obtain ⟨x8, h8⟩ : ∃ x8 : Vec Ideal S1x1024 .f32, x8 = iblk m c 8 t := ⟨_, rfl⟩
  obtain ⟨x5, h5⟩ : ∃ x5 : Vec Ideal S1024x3840 .bf16, x5 = iblk m c 5 t := ⟨_, rfl⟩
  simp only [View.readAt_eq_ld, (hs0_0 t).read_unread, ← h0, (hs0_8 t).read_unread, ← h8, (hs0_5 t).read_unread, ← h5, ldw, rcov']
  intro p hp x
  simp only [List.mem_cons, List.not_mem_nil, or_false] at hp
  rcases hp with rfl | rfl
  · obtain ⟨r, d, rfl⟩ := ix3_of x
    rw [emb_head 1 _ r d (by decide)]
    show _ = G24 x0 x8 x5 ⟨1, by decide⟩ r d
    refine Eq.trans (congrFun (g := shapeCast S1x256x128 (truncf (F := Ideal) .bf16 (_ : FVec Ideal S256x128 .f32) bitsLt_bf16_f32) shapeCasts_S256x128_S1x256x128) rfl _) ?_
    rw [cast_head]
    exact (ldc' 1408 _ _ r d).trans (pay4 _ _ _ r _)
  · obtain ⟨r, d, rfl⟩ := ix3_of x
    rw [emb_head 0 _ r d (by decide)]
    show _ = G24 x0 x8 x5 ⟨0, by decide⟩ r d
    refine Eq.trans (congrFun (g := shapeCast S1x256x128 (truncf (F := Ideal) .bf16 (_ : FVec Ideal S256x128 .f32) bitsLt_bf16_f32) shapeCasts_S256x128_S1x256x128) rfl _) ?_
    rw [cast_head]
    exact (ldc' 1280 _ _ r d).trans (pay4 _ _ _ r _)

theorem o24_eq (c : Dev nD) (t : Fin cfg0.N) (h : Fin 2) (r : Fin 256) (l : Fin 128) : o24 m c t (ix3 h r l) = G24 (b0 m c t) (b8 m c t) (b5 m c t) h r l := by
  unfold o24
  exact read_pieces VO0_24 _ _ (fun i : S2x256x128.Idx => G24 (b0 m c t) (b8 m c t) (b5 m c t) (i 0) (i 1) (i 2)) (pieces24 m c t) (ix3 h r l) (cov24 m c t _)

end Cert.PreIdeal.Block

end
-- ==== Proof.PrePiecesC.lean ====
/- The pieces of some of the results. -/
module

public import proofs.«01_k».proof.Proof.PreIdealPipe
public import proofs.«01_k».proof.Proof.PreOut

@[expose] public section

set_option maxRecDepth 16384

noncomputable section

namespace Cert.PreIdeal.Block

open Cert.PreIdeal Cert.PreIdeal.Gen Cert.PreIdeal.Own Idealize.ShloMosaic Idealize.ShloMosaic.TcCoe Cert.Online Cert.PreSpec

variable (m : (ℓ : Loc nD τ sig) → Buf (Elt Ideal) ℓ)

set_option maxHeartbeats 4000000 in
theorem pieces25 (c : Dev nD) (t : Fin cfg0.N) : ∀ p ∈ (runAt m c t).2.2.2.2.2.2.2.2.2.2.1, ∀ x : p.1.shape.Idx,
    p.2 x = (fun i : S4x256x128.Idx => G25 (b0 m c t) (b8 m c t) (b5 m c t) (b11 m c t) (b6 m c t) (b13 m c t) (b3 m c t) (b4 m c t) (i 0) (i 1) (i 2)) (p.1.emb x) := by
  unfold runAt bodyRun
  dsimp only
  sl_unfold_run_names
  obtain ⟨x0, h0⟩ : ∃ x0 : Vec Ideal S256x1024 .f32, x0 = iblk m c 0 t := ⟨_, rfl⟩
  obtain ⟨x8, h8⟩ : ∃ x8 : Vec Ideal S1x1024 .f32, x8 = iblk m c 8 t := ⟨_, rfl⟩
  obtain ⟨x5, h5⟩ : ∃ x5 : Vec Ideal S1024x3840 .bf16, x5 = iblk m c 5 t := ⟨_, rfl⟩
  obtain ⟨x11, h11⟩ : ∃ x11 : Vec Ideal S1x384 .f32, x11 = iblk m c 11 t := ⟨_, rfl⟩
  obtain ⟨x6, h6⟩ : ∃ x6 : Vec Ideal S384x512 .bf16, x6 = iblk m c 6 t := ⟨_, rfl⟩
  obtain ⟨x13, h13⟩ : ∃ x13 : Vec Ideal S1x128 .f32, x13 = iblk m c 13 t := ⟨_, rfl⟩
  obtain ⟨x3, h3⟩ : ∃ x3 : Vec Ideal S256x128 .f32, x3 = iblk m c 3 t := ⟨_, rfl⟩
  obtain ⟨x4, h4⟩ : ∃ x4 : Vec Ideal S256x128 .f32, x4 = iblk m c 4 t := ⟨_, rfl⟩
  simp only [View.readAt_eq_ld, (hs0_0 t).read_unread, ← h0, (hs0_8 t).read_unread, ← h8, (hs0_5 t).read_unread, ← h5, (hs0_11 t).read_unread, ← h11, (hs0_6 t).read_unread, ← h6, (hs0_13 t).read_unread, ← h13, (hs0_3 t).read_unread, ← h3, (hs0_4 t).read_unread, ← h4, ldw, rcov']
  intro p hp x
  simp only [List.mem_cons, List.not_mem_nil, or_false] at hp
  rcases hp with rfl | rfl | rfl | rfl
  · obtain ⟨r, d, rfl⟩ := ix3_of x
    rw [emb_head 3 _ r d (by decide)]
    show _ = G25 x0 x8 x5 x11 x6 x13 x3 x4 ⟨3, by decide⟩ r d
    refine Eq.trans (congrFun (g := headB (vN (Named.named (F := Ideal) (φ := .f32) κ "mean96" 0x3C2AAAAB#32) _ _) _ _ _) rfl _) ?_
    rw [headB_apply]
    simp only [vN_apply, k0_pay7, k0_pay8, k0_pay77, k0_pay81, k0_pay76, k0_pay58, shapeCast_self, ldQ, n96]
    rfl
  · obtain ⟨r, d, rfl⟩ := ix3_of x
    rw [emb_head 2 _ r d (by decide)]
    show _ = G25 x0 x8 x5 x11 x6 x13 x3 x4 ⟨2, by decide⟩ r d
    refine Eq.trans (congrFun (g := headB (vN (Named.named (F := Ideal) (φ := .f32) κ "mean96" 0x3C2AAAAB#32) _ _) _ _ _) rfl _) ?_
    rw [headB_apply]
    simp only [vN_apply, k0_pay7, k0_pay8, k0_pay77, k0_pay81, k0_pay76, k0_pay58, shapeCast_self, ldQ, n96]
    rfl
  · obtain ⟨r, d, rfl⟩ := ix3_of x
    rw [emb_head 1 _ r d (by decide)]
    show _ = G25 x0 x8 x5 x11 x6 x13 x3 x4 ⟨1, by decide⟩ r d
    refine Eq.trans (congrFun (g := headB (vN (Named.named (F := Ideal) (φ := .f32) κ "mean96" 0x3C2AAAAB#32) _ _) _ _ _) rfl _) ?_
    rw [headB_apply]
    simp only [vN_apply, k0_pay7, k0_pay8, k0_pay77, k0_pay81, k0_pay76, k0_pay58, shapeCast_self, ldQ, n96]
    rfl
  · obtain ⟨r, d, rfl⟩ := ix3_of x
    rw [emb_head 0 _ r d (by decide)]
    show _ = G25 x0 x8 x5 x11 x6 x13 x3 x4 ⟨0, by decide⟩ r d
    refine Eq.trans (congrFun (g := headB (vN (Named.named (F := Ideal) (φ := .f32) κ "mean96" 0x3C2AAAAB#32) _ _) _ _ _) rfl _) ?_
    rw [headB_apply]
    simp only [vN_apply, k0_pay7, k0_pay8, k0_pay77, k0_pay81, k0_pay76, k0_pay58, shapeCast_self, ldQ, n96]
    rfl

theorem o25_eq (c : Dev nD) (t : Fin cfg0.N) (h : Fin 4) (r : Fin 256) (l : Fin 128) : o25 m c t (ix3 h r l) = G25 (b0 m c t) (b8 m c t) (b5 m c t) (b11 m c t) (b6 m c t) (b13 m c t) (b3 m c t) (b4 m c t) h r l := by
  unfold o25
  exact read_pieces VO0_25 _ _ (fun i : S4x256x128.Idx => G25 (b0 m c t) (b8 m c t) (b5 m c t) (b11 m c t) (b6 m c t) (b13 m c t) (b3 m c t) (b4 m c t) (i 0) (i 1) (i 2)) (pieces25 m c t) (ix3 h r l) (cov25 m c t _)

set_option maxHeartbeats 4000000 in
theorem pieces26 (c : Dev nD) (t : Fin cfg0.N) : ∀ p ∈ (runAt m c t).2.2.2.2.2.2.2.2.2.2.2.1, ∀ x : p.1.shape.Idx,
    p.2 x = (fun i : S4x256x128.Idx => G26 (b0 m c t) (b8 m c t) (b5 m c t) (b12 m c t) (b7 m c t) (b14 m c t) (b3 m c t) (b4 m c t) (i 0) (i 1) (i 2)) (p.1.emb x) := by
  unfold runAt bodyRun
  dsimp only
  sl_unfold_run_names
  obtain ⟨x0, h0⟩ : ∃ x0 : Vec Ideal S256x1024 .f32, x0 = iblk m c 0 t := ⟨_, rfl⟩
  obtain ⟨x8, h8⟩ : ∃ x8 : Vec Ideal S1x1024 .f32, x8 = iblk m c 8 t := ⟨_, rfl⟩
  obtain ⟨x5, h5⟩ : ∃ x5 : Vec Ideal S1024x3840 .bf16, x5 = iblk m c 5 t := ⟨_, rfl⟩
  obtain ⟨x12, h12⟩ : ∃ x12 : Vec Ideal S1x256 .f32, x12 = iblk m c 12 t := ⟨_, rfl⟩
  obtain ⟨x7, h7⟩ : ∃ x7 : Vec Ideal S256x1024 .bf16, x7 = iblk m c 7 t := ⟨_, rfl⟩
  obtain ⟨x14, h14⟩ : ∃ x14 : Vec Ideal S1x128 .f32, x14 = iblk m c 14 t := ⟨_, rfl⟩
  obtain ⟨x3, h3⟩ : ∃ x3 : Vec Ideal S256x128 .f32, x3 = iblk m c 3 t := ⟨_, rfl⟩
  obtain ⟨x4, h4⟩ : ∃ x4 : Vec Ideal S256x128 .f32, x4 = iblk m c 4 t := ⟨_, rfl⟩
  simp only [View.readAt_eq_ld, (hs0_0 t).read_unread, ← h0, (hs0_8 t).read_unread, ← h8, (hs0_5 t).read_unread, ← h5, (hs0_12 t).read_unread, ← h12, (hs0_7 t).read_unread, ← h7, (hs0_14 t).read_unread, ← h14, (hs0_3 t).read_unread, ← h3, (hs0_4 t).read_unread, ← h4, ldw, rcov']
  intro p hp x
  simp only [List.mem_cons, List.not_mem_nil, or_false] at hp
  rcases hp with rfl | rfl | rfl | rfl
  · obtain ⟨r, d, rfl⟩ := ix3_of x
    rw [emb_head 3 _ r d (by decide)]
    show _ = G26 x0 x8 x5 x12 x7 x14 x3 x4 ⟨3, by decide⟩ r d
    refine Eq.trans (congrFun (g := headB' (vN (Named.named (F := Ideal) (φ := .f32) κ "mean96" 0x3C2AAAAB#32) _ _) _ _) rfl _) ?_
    rw [headB'_apply]
    simp only [vN_apply, k0_pay7, k0_pay8, k0_pay77, k0_pay81, k0_pay76, k0_pay58, shapeCast_self, k0_pay60, k0_pay70, k0_pay80, k0_pay82, k0_pay90, hk_eq _ _ _ _ _ 384 ⟨3, by decide⟩ rfl, n96]
    rfl
  · obtain ⟨r, d, rfl⟩ := ix3_of x
    rw [emb_head 2 _ r d (by decide)]
    show _ = G26 x0 x8 x5 x12 x7 x14 x3 x4 ⟨2, by decide⟩ r d
    refine Eq.trans (congrFun (g := headB' (vN (Named.named (F := Ideal) (φ := .f32) κ "mean96" 0x3C2AAAAB#32) _ _) _ _) rfl _) ?_
    rw [headB'_apply]
    simp only [vN_apply, k0_pay7, k0_pay8, k0_pay77, k0_pay81, k0_pay76, k0_pay58, shapeCast_self, k0_pay60, k0_pay70, k0_pay80, k0_pay82, k0_pay90, hk_eq _ _ _ _ _ 256 ⟨2, by decide⟩ rfl, n96]
    rfl
  · obtain ⟨r, d, rfl⟩ := ix3_of x
    rw [emb_head 1 _ r d (by decide)]
    show _ = G26 x0 x8 x5 x12 x7 x14 x3 x4 ⟨1, by decide⟩ r d
    refine Eq.trans (congrFun (g := headB' (vN (Named.named (F := Ideal) (φ := .f32) κ "mean96" 0x3C2AAAAB#32) _ _) _ _) rfl _) ?_
    rw [headB'_apply]
    simp only [vN_apply, k0_pay7, k0_pay8, k0_pay77, k0_pay81, k0_pay76, k0_pay58, shapeCast_self, k0_pay60, k0_pay70, k0_pay80, k0_pay82, k0_pay90, hk_eq _ _ _ _ _ 128 ⟨1, by decide⟩ rfl, n96]
    rfl
  · obtain ⟨r, d, rfl⟩ := ix3_of x
    rw [emb_head 0 _ r d (by decide)]
    show _ = G26 x0 x8 x5 x12 x7 x14 x3 x4 ⟨0, by decide⟩ r d
    refine Eq.trans (congrFun (g := headB' (vN (Named.named (F := Ideal) (φ := .f32) κ "mean96" 0x3C2AAAAB#32) _ _) _ _) rfl _) ?_
    rw [headB'_apply]
    simp only [vN_apply, k0_pay7, k0_pay8, k0_pay77, k0_pay81, k0_pay76, k0_pay58, shapeCast_self, k0_pay60, k0_pay70, k0_pay80, k0_pay82, k0_pay90, hk_eq _ _ _ _ _ 0 ⟨0, by decide⟩ rfl, n96]
    rfl

theorem o26_eq (c : Dev nD) (t : Fin cfg0.N) (h : Fin 4) (r : Fin 256) (l : Fin 128) : o26 m c t (ix3 h r l) = G26 (b0 m c t) (b8 m c t) (b5 m c t) (b12 m c t) (b7 m c t) (b14 m c t) (b3 m c t) (b4 m c t) h r l := by
  unfold o26
  exact read_pieces VO0_26 _ _ (fun i : S4x256x128.Idx => G26 (b0 m c t) (b8 m c t) (b5 m c t) (b12 m c t) (b7 m c t) (b14 m c t) (b3 m c t) (b4 m c t) (i 0) (i 1) (i 2)) (pieces26 m c t) (ix3 h r l) (cov26 m c t _)

set_option maxHeartbeats 4000000 in
theorem pieces27 (c : Dev nD) (t : Fin cfg0.N) : ∀ p ∈ (runAt m c t).2.2.2.2.2.2.2.2.2.2.2.2.1, ∀ x : p.1.shape.Idx,
    p.2 x = (fun i : S4x256x128.Idx => G27 (b0 m c t) (b8 m c t) (b5 m c t) (b12 m c t) (b7 m c t) (i 0) (i 1) (i 2)) (p.1.emb x) := by
  unfold runAt bodyRun
  dsimp only
  sl_unfold_run_names
  obtain ⟨x0, h0⟩ : ∃ x0 : Vec Ideal S256x1024 .f32, x0 = iblk m c 0 t := ⟨_, rfl⟩
  obtain ⟨x8, h8⟩ : ∃ x8 : Vec Ideal S1x1024 .f32, x8 = iblk m c 8 t := ⟨_, rfl⟩
  obtain ⟨x5, h5⟩ : ∃ x5 : Vec Ideal S1024x3840 .bf16, x5 = iblk m c 5 t := ⟨_, rfl⟩
  obtain ⟨x12, h12⟩ : ∃ x12 : Vec Ideal S1x256 .f32, x12 = iblk m c 12 t := ⟨_, rfl⟩
  obtain ⟨x7, h7⟩ : ∃ x7 : Vec Ideal S256x1024 .bf16, x7 = iblk m c 7 t := ⟨_, rfl⟩
  simp only [View.readAt_eq_ld, (hs0_0 t).read_unread, ← h0, (hs0_8 t).read_unread, ← h8, (hs0_5 t).read_unread, ← h5, (hs0_12 t).read_unread, ← h12, (hs0_7 t).read_unread, ← h7, ldw, rcov']
  intro p hp x
  simp only [List.mem_cons, List.not_mem_nil, or_false] at hp
  rcases hp with rfl | rfl | rfl | rfl
  · obtain ⟨r, d, rfl⟩ := ix3_of x
    rw [emb_head 3 _ r d (by decide)]
    show _ = G27 x0 x8 x5 x12 x7 ⟨3, by decide⟩ r d
    refine Eq.trans (congrFun (g := shapeCast S1x256x128 (truncf (F := Ideal) .bf16 (extractStridedSlice (s := S256x1024) S256x128 ![0, 896] _) bitsLt_bf16_f32) shapeCasts_S256x128_S1x256x128) rfl _) ?_
    rw [cast_head]
    exact (slice_k 896 _ slices_S256x1024_o0_896_S256x128 r d (by have := d.isLt; omega)).trans (pkv_eq _ _ _ _ _ _ r _)
  · obtain ⟨r, d, rfl⟩ := ix3_of x
    rw [emb_head 2 _ r d (by decide)]
    show _ = G27 x0 x8 x5 x12 x7 ⟨2, by decide⟩ r d
    refine Eq.trans (congrFun (g := shapeCast S1x256x128 (truncf (F := Ideal) .bf16 (extractStridedSlice (s := S256x1024) S256x128 ![0, 768] _) bitsLt_bf16_f32) shapeCasts_S256x128_S1x256x128) rfl _) ?_
    rw [cast_head]
    exact (slice_k 768 _ slices_S256x1024_o0_768_S256x128 r d (by have := d.isLt; omega)).trans (pkv_eq _ _ _ _ _ _ r _)
  · obtain ⟨r, d, rfl⟩ := ix3_of x
    rw [emb_head 1 _ r d (by decide)]
    show _ = G27 x0 x8 x5 x12 x7 ⟨1, by decide⟩ r d
    refine Eq.trans (congrFun (g := shapeCast S1x256x128 (truncf (F := Ideal) .bf16 (extractStridedSlice (s := S256x1024) S256x128 ![0, 640] _) bitsLt_bf16_f32) shapeCasts_S256x128_S1x256x128) rfl _) ?_
    rw [cast_head]
    exact (slice_k 640 _ slices_S256x1024_o0_640_S256x128 r d (by have := d.isLt; omega)).trans (pkv_eq _ _ _ _ _ _ r _)
  · obtain ⟨r, d, rfl⟩ := ix3_of x
    rw [emb_head 0 _ r d (by decide)]
    show _ = G27 x0 x8 x5 x12 x7 ⟨0, by decide⟩ r d
    refine Eq.trans (congrFun (g := shapeCast S1x256x128 (truncf (F := Ideal) .bf16 (extractStridedSlice (s := S256x1024) S256x128 ![0, 512] _) bitsLt_bf16_f32) shapeCasts_S256x128_S1x256x128) rfl _) ?_
    rw [cast_head]
    exact (slice_k 512 _ slices_S256x1024_o0_512_S256x128 r d (by have := d.isLt; omega)).trans (pkv_eq _ _ _ _ _ _ r _)

theorem o27_eq (c : Dev nD) (t : Fin cfg0.N) (h : Fin 4) (r : Fin 256) (l : Fin 128) : o27 m c t (ix3 h r l) = G27 (b0 m c t) (b8 m c t) (b5 m c t) (b12 m c t) (b7 m c t) h r l := by
  unfold o27
  exact read_pieces VO0_27 _ _ (fun i : S4x256x128.Idx => G27 (b0 m c t) (b8 m c t) (b5 m c t) (b12 m c t) (b7 m c t) (i 0) (i 1) (i 2)) (pieces27 m c t) (ix3 h r l) (cov27 m c t _)

end Cert.PreIdeal.Block

end
-- ==== Proof.PreArray.lean ====
/- The thirteen result arrays of the input projections, element by element, from the arguments. -/
module

public import proofs.«01_k».proof.Proof.PreRow
public import proofs.«01_k».proof.Proof.PreHost
public import proofs.«01_k».proof.Proof.PrePiecesA
public import proofs.«01_k».proof.Proof.PrePiecesB
public import proofs.«01_k».proof.Proof.PrePiecesC

@[expose] public section

set_option maxRecDepth 16384

noncomputable section

namespace Cert.PreIdeal.Block

open Cert.PreIdeal Cert.PreIdeal.Gen Cert.PreIdeal.Own Cert.PreIdeal.Val Idealize.ShloMosaic Idealize.ShloMosaic.TcCoe Idealize.SL.Sem Cert.Online Cert.PreSpec

variable (m : (ℓ : Loc nD τ sig) → Buf (Elt Ideal) ℓ) (c : Dev nD)

/-- The arguments as arrays. -/
abbrev a0 : FVec Ideal S8192x1024 .f32 := m ((c : Thread nD τ).loc main_arg0)
abbrev a1 : FVec Ideal S8192x16 .f32 := m ((c : Thread nD τ).loc main_arg1)
abbrev a2 : FVec Ideal S8192x16 .f32 := m ((c : Thread nD τ).loc main_arg2)
abbrev a3 : FVec Ideal S8192x16 .f32 := m ((c : Thread nD τ).loc main_arg3)
abbrev a4 : FVec Ideal S8192x16 .f32 := m ((c : Thread nD τ).loc main_arg4)
abbrev a5 : FVec Ideal S8192x8 .f32 := m ((c : Thread nD τ).loc main_arg5)
abbrev a6 : FVec Ideal S8192x8 .f32 := m ((c : Thread nD τ).loc main_arg6)
abbrev a7 : FVec Ideal S8192x8 .f32 := m ((c : Thread nD τ).loc main_arg7)
abbrev a8 : FVec Ideal S8192x8 .f32 := m ((c : Thread nD τ).loc main_arg8)
abbrev a9 : FVec Ideal S1024x2464 .bf16 := m ((c : Thread nD τ).loc main_arg9)
abbrev a10 : FVec Ideal S384x384 .bf16 := m ((c : Thread nD τ).loc main_arg10)
abbrev a11 : FVec Ideal S256x768 .bf16 := m ((c : Thread nD τ).loc main_arg11)
abbrev a12 : FVec Ideal S1x1024 .f32 := m ((c : Thread nD τ).loc main_arg12)
abbrev a13 : FVec Ideal S1x64 .f32 := m ((c : Thread nD τ).loc main_arg13)
abbrev a14 : FVec Ideal S1x64 .f32 := m ((c : Thread nD τ).loc main_arg14)
abbrev a15 : FVec Ideal S1x384 .f32 := m ((c : Thread nD τ).loc main_arg15)
abbrev a16 : FVec Ideal S1x256 .f32 := m ((c : Thread nD τ).loc main_arg16)
abbrev a17 : FVec Ideal S1x96 .f32 := m ((c : Thread nD τ).loc main_arg17)
abbrev a18 : FVec Ideal S1x96 .f32 := m ((c : Thread nD τ).loc main_arg18)

/-- Row `r` of block `j` of 256 rows, and the grid point of block `j`. -/
abbrev at256 (j : ℕ) (hj : j < 32) (r : Fin 256) : Fin 8192 := ⟨256 * j + r.val, by have := r.isLt; omega⟩
abbrev pt (j : ℕ) (hj : j < 32) : Fin cfg0.N := ⟨j, by rw [show cfg0.N = 32 from N_0]; omega⟩

theorem idx0 : ∀ t : Fin cfg0.N, win0_0.index t = ![t.val, 0] := by decide +kernel
theorem idx1 : ∀ t : Fin cfg0.N, win0_1.index t = ![t.val, 0] := by decide +kernel
theorem idx2 : ∀ t : Fin cfg0.N, win0_2.index t = ![t.val, 0] := by decide +kernel
theorem idx3 : ∀ t : Fin cfg0.N, win0_3.index t = ![t.val, 0] := by decide +kernel
theorem idx4 : ∀ t : Fin cfg0.N, win0_4.index t = ![t.val, 0] := by decide +kernel
theorem idx5 : ∀ t : Fin cfg0.N, win0_5.index t = ![0, 0] := by decide +kernel
theorem idx6 : ∀ t : Fin cfg0.N, win0_6.index t = ![0, 0] := by decide +kernel
theorem idx7 : ∀ t : Fin cfg0.N, win0_7.index t = ![0, 0] := by decide +kernel
theorem idx8 : ∀ t : Fin cfg0.N, win0_8.index t = ![0, 0] := by decide +kernel
theorem idx9 : ∀ t : Fin cfg0.N, win0_9.index t = ![0, 0] := by decide +kernel
theorem idx10 : ∀ t : Fin cfg0.N, win0_10.index t = ![0, 0] := by decide +kernel
theorem idx11 : ∀ t : Fin cfg0.N, win0_11.index t = ![0, 0] := by decide +kernel
theorem idx12 : ∀ t : Fin cfg0.N, win0_12.index t = ![0, 0] := by decide +kernel
theorem idx13 : ∀ t : Fin cfg0.N, win0_13.index t = ![0, 0] := by decide +kernel
theorem idx14 : ∀ t : Fin cfg0.N, win0_14.index t = ![0, 0] := by decide +kernel
theorem idx15 : ∀ t : Fin cfg0.N, win0_15.index t = ![t.val, 0] := by decide +kernel
theorem idx16 : ∀ t : Fin cfg0.N, win0_16.index t = ![t.val, 0] := by decide +kernel
theorem idx17 : ∀ t : Fin cfg0.N, win0_17.index t = ![t.val, 0] := by decide +kernel
theorem idx18 : ∀ t : Fin cfg0.N, win0_18.index t = ![t.val, 0] := by decide +kernel
theorem idx19 : ∀ t : Fin cfg0.N, win0_19.index t = ![t.val, 0] := by decide +kernel
theorem idx20 : ∀ t : Fin cfg0.N, win0_20.index t = ![t.val, 0] := by decide +kernel
theorem idx21 : ∀ t : Fin cfg0.N, win0_21.index t = ![t.val, 0] := by decide +kernel
theorem idx22 : ∀ t : Fin cfg0.N, win0_22.index t = ![0, t.val, 0] := by decide +kernel
theorem idx23 : ∀ t : Fin cfg0.N, win0_23.index t = ![0, t.val, 0] := by decide +kernel
theorem idx24 : ∀ t : Fin cfg0.N, win0_24.index t = ![0, t.val, 0] := by decide +kernel
theorem idx25 : ∀ t : Fin cfg0.N, win0_25.index t = ![0, t.val, 0] := by decide +kernel
theorem idx26 : ∀ t : Fin cfg0.N, win0_26.index t = ![0, t.val, 0] := by decide +kernel
theorem idx27 : ∀ t : Fin cfg0.N, win0_27.index t = ![0, t.val, 0] := by decide +kernel

/-- Every row lies in some block. -/
theorem split (s : Fin 8192) : ∃ (j : ℕ) (hj : j < 32) (r : Fin 256), s = at256 j hj r :=
  ⟨s.val / 256, by have := s.isLt; omega, ⟨s.val % 256, Nat.mod_lt _ (by decide)⟩, Fin.ext (Nat.div_add_mod s.val 256).symm⟩

/-- The element of the whole array that an element of a block is: of a block of rows, of the whole, of a block of rows of
each head. -/
theorem rowPos {B : ℕ} (p : (⟨2, ![8192, B]⟩ : Shape).Idx) (i : Fin 2 → ℕ) (j : ℕ) (hj : j < 32) (u : Fin 256) (v : Fin B)
    (hi : i = ![j, 0]) (h0 : (p 0).val = i 0 * 256 + 1 * u.val) (h1 : (p 1).val = i 1 * B + 1 * v.val) : p = ix2 (at256 j hj u) v := by
  subst hi
  funext k
  apply Fin.ext
  match k with
  | ⟨0, _⟩ => exact h0.trans (show j * 256 + 1 * u.val = 256 * j + u.val by omega)
  | ⟨1, _⟩ => exact h1.trans (show 0 * B + 1 * v.val = v.val by omega)
theorem allPos {A B : ℕ} (p : (⟨2, ![A, B]⟩ : Shape).Idx) (i : Fin 2 → ℕ) (u : Fin A) (v : Fin B)
    (hi : i = ![0, 0]) (h0 : (p 0).val = i 0 * A + 1 * u.val) (h1 : (p 1).val = i 1 * B + 1 * v.val) : p = ix2 u v := by
  subst hi
  funext k
  apply Fin.ext
  match k with
  | ⟨0, _⟩ => exact h0.trans (show 0 * A + 1 * u.val = u.val by omega)
  | ⟨1, _⟩ => exact h1.trans (show 0 * B + 1 * v.val = v.val by omega)
theorem headPos {H : ℕ} (p : (⟨3, ![H, 8192, 128]⟩ : Shape).Idx) (i : Fin 3 → ℕ) (j : ℕ) (hj : j < 32) (h : Fin H) (u : Fin 256) (v : Fin 128)
    (hi : i = ![0, j, 0]) (h0 : (p 0).val = i 0 * H + 1 * h.val) (h1 : (p 1).val = i 1 * 256 + 1 * u.val)
    (h2 : (p 2).val = i 2 * 128 + 1 * v.val) : p = ix3 h (at256 j hj u) v := by
  subst hi
  funext k
  apply Fin.ext
  match k with
  | ⟨0, _⟩ => exact h0.trans (show 0 * H + 1 * h.val = h.val by omega)
  | ⟨1, _⟩ => exact h1.trans (show j * 256 + 1 * u.val = 256 * j + u.val by omega)
  | ⟨2, _⟩ => exact h2.trans (show 0 * 128 + 1 * v.val = v.val by omega)

/-- Different grid points have different blocks. -/
theorem inj2 {i i' : Fin 2 → ℕ} {t t' : Fin cfg0.N} (h : i = ![t.val, 0]) (h' : i' = ![t'.val, 0]) (e : i = i') : t = t' :=
  Fin.ext (congrFun (h.symm.trans (e.trans h')) 0)
theorem inj3 {i i' : Fin 3 → ℕ} {t t' : Fin cfg0.N} (h : i = ![0, t.val, 0]) (h' : i' = ![0, t'.val, 0]) (e : i = i') : t = t' :=
  Fin.ext (congrFun (h.symm.trans (e.trans h')) 1)

/-- A block of a result array at the end is what the body left there. -/
theorem blk_read (w : Fin cfg0.W) (hk : (cfg0.win w).kind = .blocked) (hi : ∀ t t' : Fin cfg0.N, (cfg0.win w).index t = (cfg0.win w).index t' → t = t')
    (hf : ∀ t : Fin cfg0.N, (cfg0.win w).flush t = true) (t : Fin cfg0.N) :
    ((cfg0.win w).blk t).view.read (Elt Ideal) ((dats m 0 c).arrAt w cfg0.N) = (cfg0.win w).cut (grid0.coords t) ((dats m 0 c).after w t) := by
  exact (dats m 0 c).read_blk_arrAt_eq_flushed w (fun t t' _ _ hne => (cfg0.win w).disjoint_blk (hk := hk) fun h => hne (hi t t' h)) cfg0.N t t.isLt (hf t)

theorem iblk0_apply (j : ℕ) (hj : j < 32) (u : Fin 256) (v : Fin 1024) :
    b0 m c (pt j hj) (ix2 u v) = (V m c main_arg0 : FVec Ideal S8192x1024 .f32) (ix2 (at256 j hj u) v) := by
  unfold b0 iblk
  rw [View.read_apply]
  exact congrArg (V m c main_arg0) (rowPos _ (win0_0.index (pt j hj)) j hj u v (idx0 _) rfl rfl)
theorem iblk1_apply (j : ℕ) (hj : j < 32) (u : Fin 256) (v : Fin 128) :
    b1 m c (pt j hj) (ix2 u v) = (V m c main_v6 : FVec Ideal S8192x128 .f32) (ix2 (at256 j hj u) v) := by
  unfold b1 iblk
  rw [View.read_apply]
  exact congrArg (V m c main_v6) (rowPos _ (win0_1.index (pt j hj)) j hj u v (idx1 _) rfl rfl)
theorem iblk2_apply (j : ℕ) (hj : j < 32) (u : Fin 256) (v : Fin 128) :
    b2 m c (pt j hj) (ix2 u v) = (V m c main_v7 : FVec Ideal S8192x128 .f32) (ix2 (at256 j hj u) v) := by
  unfold b2 iblk
  rw [View.read_apply]
  exact congrArg (V m c main_v7) (rowPos _ (win0_2.index (pt j hj)) j hj u v (idx2 _) rfl rfl)
theorem iblk3_apply (j : ℕ) (hj : j < 32) (u : Fin 256) (v : Fin 128) :
    b3 m c (pt j hj) (ix2 u v) = (V m c main_v14 : FVec Ideal S8192x128 .f32) (ix2 (at256 j hj u) v) := by
  unfold b3 iblk
  rw [View.read_apply]
  exact congrArg (V m c main_v14) (rowPos _ (win0_3.index (pt j hj)) j hj u v (idx3 _) rfl rfl)
theorem iblk4_apply (j : ℕ) (hj : j < 32) (u : Fin 256) (v : Fin 128) :
    b4 m c (pt j hj) (ix2 u v) = (V m c main_v15 : FVec Ideal S8192x128 .f32) (ix2 (at256 j hj u) v) := by
  unfold b4 iblk
  rw [View.read_apply]
  exact congrArg (V m c main_v15) (rowPos _ (win0_4.index (pt j hj)) j hj u v (idx4 _) rfl rfl)
theorem iblk5_apply (t : Fin cfg0.N) (u : Fin 1024) (v : Fin 3840) :
    b5 m c t (ix2 u v) = (V m c main_v37 : FVec Ideal S1024x3840 .bf16) (ix2 u v) := by
  unfold b5 iblk
  rw [View.read_apply]
  exact congrArg (V m c main_v37) (allPos _ (win0_5.index t) u v (idx5 t) rfl rfl)
theorem iblk6_apply (t : Fin cfg0.N) (u : Fin 384) (v : Fin 512) :
    b6 m c t (ix2 u v) = (V m c main_v40 : FVec Ideal S384x512 .bf16) (ix2 u v) := by
  unfold b6 iblk
  rw [View.read_apply]
  exact congrArg (V m c main_v40) (allPos _ (win0_6.index t) u v (idx6 t) rfl rfl)
theorem iblk7_apply (t : Fin cfg0.N) (u : Fin 256) (v : Fin 1024) :
    b7 m c t (ix2 u v) = (V m c main_v49 : FVec Ideal S256x1024 .bf16) (ix2 u v) := by
  unfold b7 iblk
  rw [View.read_apply]
  exact congrArg (V m c main_v49) (allPos _ (win0_7.index t) u v (idx7 t) rfl rfl)
theorem iblk8_apply (t : Fin cfg0.N) (u : Fin 1) (v : Fin 1024) :
    b8 m c t (ix2 u v) = (V m c main_arg12 : FVec Ideal S1x1024 .f32) (ix2 u v) := by
  unfold b8 iblk
  rw [View.read_apply]
  exact congrArg (V m c main_arg12) (allPos _ (win0_8.index t) u v (idx8 t) rfl rfl)
theorem iblk9_apply (t : Fin cfg0.N) (u : Fin 1) (v : Fin 128) :
    b9 m c t (ix2 u v) = (V m c main_v50 : FVec Ideal S1x128 .f32) (ix2 u v) := by
  unfold b9 iblk
  rw [View.read_apply]
  exact congrArg (V m c main_v50) (allPos _ (win0_9.index t) u v (idx9 t) rfl rfl)
theorem iblk10_apply (t : Fin cfg0.N) (u : Fin 1) (v : Fin 128) :
    b10 m c t (ix2 u v) = (V m c main_v51 : FVec Ideal S1x128 .f32) (ix2 u v) := by
  unfold b10 iblk
  rw [View.read_apply]
  exact congrArg (V m c main_v51) (allPos _ (win0_10.index t) u v (idx10 t) rfl rfl)
theorem iblk11_apply (t : Fin cfg0.N) (u : Fin 1) (v : Fin 384) :
    b11 m c t (ix2 u v) = (V m c main_arg15 : FVec Ideal S1x384 .f32) (ix2 u v) := by
  unfold b11 iblk
  rw [View.read_apply]
  exact congrArg (V m c main_arg15) (allPos _ (win0_11.index t) u v (idx11 t) rfl rfl)
theorem iblk12_apply (t : Fin cfg0.N) (u : Fin 1) (v : Fin 256) :
    b12 m c t (ix2 u v) = (V m c main_arg16 : FVec Ideal S1x256 .f32) (ix2 u v) := by
  unfold b12 iblk
  rw [View.read_apply]
  exact congrArg (V m c main_arg16) (allPos _ (win0_12.index t) u v (idx12 t) rfl rfl)
theorem iblk13_apply (t : Fin cfg0.N) (u : Fin 1) (v : Fin 128) :
    b13 m c t (ix2 u v) = (V m c main_v52 : FVec Ideal S1x128 .f32) (ix2 u v) := by
  unfold b13 iblk
  rw [View.read_apply]
  exact congrArg (V m c main_v52) (allPos _ (win0_13.index t) u v (idx13 t) rfl rfl)
theorem iblk14_apply (t : Fin cfg0.N) (u : Fin 1) (v : Fin 128) :
    b14 m c t (ix2 u v) = (V m c main_v53 : FVec Ideal S1x128 .f32) (ix2 u v) := by
  unfold b14 iblk
  rw [View.read_apply]
  exact congrArg (V m c main_v53) (allPos _ (win0_14.index t) u v (idx14 t) rfl rfl)

/-- The blocks in terms of the arguments. -/
theorem b0_row (j : ℕ) (hj : j < 32) (r : Fin 256) (d : Fin 1024) : b0 m c (pt j hj) (ix2 r d) = A2 (a0 m c) (at256 j hj r) d := by
  rw [iblk0_apply, V_main_arg0]
theorem b1_row (j : ℕ) (hj : j < 32) (r : Fin 256) (l : Fin 128) : b1 m c (pt j hj) (ix2 r l) = cosA (A2 (a1 m c) (at256 j hj r)) (A2 (a3 m c) (at256 j hj r)) l := by
  rw [iblk1_apply, V_ca]
  exact ca_apply _ _ _ _ _
theorem b2_row (j : ℕ) (hj : j < 32) (r : Fin 256) (l : Fin 128) : b2 m c (pt j hj) (ix2 r l) = sinA (A2 (a2 m c) (at256 j hj r)) (A2 (a4 m c) (at256 j hj r)) l := by
  rw [iblk2_apply, V_sa]
  exact sa_apply _ _ _ _ _
theorem b3_row (j : ℕ) (hj : j < 32) (r : Fin 256) (l : Fin 128) : b3 m c (pt j hj) (ix2 r l) = cosB (A2 (a5 m c) (at256 j hj r)) (A2 (a7 m c) (at256 j hj r)) l := by
  rw [iblk3_apply, V_cb]
  exact cb_apply _ _ _ _
theorem b4_row (j : ℕ) (hj : j < 32) (r : Fin 256) (l : Fin 128) : b4 m c (pt j hj) (ix2 r l) = sinB (A2 (a6 m c) (at256 j hj r)) (A2 (a8 m c) (at256 j hj r)) l := by
  rw [iblk4_apply, V_sb]
  exact sb_apply _ _ _ _
theorem b5_row (t : Fin cfg0.N) (d : Fin 1024) (n : Fin 3840) : b5 m c t (ix2 d n) = padW (B2 (a9 m c)) d n := by
  rw [iblk5_apply, V_w]
  exact hW_apply _ _ _
theorem b6_row (t : Fin cfg0.N) (d : Fin 384) (n : Fin 512) : b6 m c t (ix2 d n) = padQ (B2 (a10 m c)) d n := by
  rw [iblk6_apply, V_uq]
  exact hUq_apply _ _ _
theorem b7_row (t : Fin cfg0.N) (d : Fin 256) (n : Fin 1024) : b7 m c t (ix2 d n) = padKV (B2 (a11 m c)) d n := by
  rw [iblk7_apply, V_ukv]
  exact hUkv_apply _ _ _
theorem b8_row (t : Fin cfg0.N) (d : Fin 1024) : b8 m c t (ix2 0 d) = A2 (a12 m c) 0 d := by
  rw [iblk8_apply, V_main_arg12]
theorem b9_row (t : Fin cfg0.N) (l : Fin 128) : b9 m c t (ix2 0 l) = pd (A2 (a13 m c) 0) l := by
  rw [iblk9_apply, V_gaq]
  exact hG64_apply _ _
theorem b10_row (t : Fin cfg0.N) (l : Fin 128) : b10 m c t (ix2 0 l) = pd (A2 (a14 m c) 0) l := by
  rw [iblk10_apply, V_gak]
  exact hG64_apply _ _
theorem b11_row (t : Fin cfg0.N) (d : Fin 384) : b11 m c t (ix2 0 d) = A2 (a15 m c) 0 d := by
  rw [iblk11_apply, V_main_arg15]
theorem b12_row (t : Fin cfg0.N) (d : Fin 256) : b12 m c t (ix2 0 d) = A2 (a16 m c) 0 d := by
  rw [iblk12_apply, V_main_arg16]
theorem b13_row (t : Fin cfg0.N) (l : Fin 128) : b13 m c t (ix2 0 l) = pd (A2 (a17 m c) 0) l := by
  rw [iblk13_apply, V_gbq]
  exact hG96_apply _ _
theorem b14_row (t : Fin cfg0.N) (l : Fin 128) : b14 m c t (ix2 0 l) = pd (A2 (a18 m c) 0) l := by
  rw [iblk14_apply, V_gbk]
  exact hG96_apply _ _

theorem final15 (s : Fin 8192) (n : Fin 1024) : ((dats m 0 c).arrAt 15 cfg0.N : FVec Ideal S8192x1024 .bf16) (ix2 s n) = xn (A2 (a0 m c) s) (A2 (a12 m c) 0) n := by
  obtain ⟨j, hj, r, rfl⟩ := split s
  refine Eq.trans ?_ ((congrFun ((blk_read m c 15 rfl (fun t t' => inj2 (idx15 t) (idx15 t')) flush0_15 (pt j hj)).trans
    (congrArg ((cfg0.win 15).cut (grid0.coords (pt j hj))) (after15 m c (pt j hj)))) (ix2 r n)).trans ((o15_eq m c (pt j hj) r n).trans
      (PX_row _ _ _ _ r (b0_row m c j hj r) (b8_row m c _) n)))
  rw [View.read_apply]
  exact congrArg ((dats m 0 c).arrAt 15 cfg0.N) (rowPos _ (win0_15.index (pt j hj)) j hj r n (idx15 _) rfl rfl).symm
theorem final16 (s : Fin 8192) (n : Fin 1536) : ((dats m 0 c).arrAt 16 cfg0.N : FVec Ideal S8192x1536 .f32) (ix2 s n) = T16 (A2 (a0 m c) s) (B2 (a9 m c)) (A2 (a12 m c) 0) n := by
  obtain ⟨j, hj, r, rfl⟩ := split s
  refine Eq.trans ?_ ((congrFun ((blk_read m c 16 rfl (fun t t' => inj2 (idx16 t) (idx16 t')) flush0_16 (pt j hj)).trans
    (congrArg ((cfg0.win 16).cut (grid0.coords (pt j hj))) (after16 m c (pt j hj)))) (ix2 r n)).trans ((o16_eq m c (pt j hj) r n).trans
      (G16_row _ _ _ _ _ _ r (b0_row m c j hj r) (b8_row m c _) (b5_row m c _) n)))
  rw [View.read_apply]
  exact congrArg ((dats m 0 c).arrAt 16 cfg0.N) (rowPos _ (win0_16.index (pt j hj)) j hj r n (idx16 _) rfl rfl).symm
theorem final17 (s : Fin 8192) (n : Fin 1920) : ((dats m 0 c).arrAt 17 cfg0.N : FVec Ideal S8192x1920 .f32) (ix2 s n) = T17 (A2 (a0 m c) s) (B2 (a9 m c)) (A2 (a12 m c) 0) n := by
  obtain ⟨j, hj, r, rfl⟩ := split s
  refine Eq.trans ?_ ((congrFun ((blk_read m c 17 rfl (fun t t' => inj2 (idx17 t) (idx17 t')) flush0_17 (pt j hj)).trans
    (congrArg ((cfg0.win 17).cut (grid0.coords (pt j hj))) (after17 m c (pt j hj)))) (ix2 r n)).trans ((o17_eq m c (pt j hj) r n).trans
      (G17_row _ _ _ _ _ _ r (b0_row m c j hj r) (b8_row m c _) (b5_row m c _) n)))
  rw [View.read_apply]
  exact congrArg ((dats m 0 c).arrAt 17 cfg0.N) (rowPos _ (win0_17.index (pt j hj)) j hj r n (idx17 _) rfl rfl).symm
theorem final18 (s : Fin 8192) (n : Fin 512) : ((dats m 0 c).arrAt 18 cfg0.N : FVec Ideal S8192x512 .f32) (ix2 s n) = T18 (A2 (a0 m c) s) (B2 (a9 m c)) (B2 (a10 m c)) (A2 (a12 m c) 0) (A2 (a15 m c) 0) n := by
  obtain ⟨j, hj, r, rfl⟩ := split s
  refine Eq.trans ?_ ((congrFun ((blk_read m c 18 rfl (fun t t' => inj2 (idx18 t) (idx18 t')) flush0_18 (pt j hj)).trans
    (congrArg ((cfg0.win 18).cut (grid0.coords (pt j hj))) (after18 m c (pt j hj)))) (ix2 r n)).trans ((o18_eq m c (pt j hj) r n).trans
      (G18_row _ _ _ _ _ _ _ _ _ _ r (b0_row m c j hj r) (b8_row m c _) (b5_row m c _) (b11_row m c _) (b6_row m c _) n)))
  rw [View.read_apply]
  exact congrArg ((dats m 0 c).arrAt 18 cfg0.N) (rowPos _ (win0_18.index (pt j hj)) j hj r n (idx18 _) rfl rfl).symm
theorem final19 (s : Fin 8192) (n : Fin 512) : ((dats m 0 c).arrAt 19 cfg0.N : FVec Ideal S8192x512 .f32) (ix2 s n) = T19 (A2 (a0 m c) s) (B2 (a9 m c)) (B2 (a11 m c)) (A2 (a12 m c) 0) (A2 (a16 m c) 0) n := by
  obtain ⟨j, hj, r, rfl⟩ := split s
  refine Eq.trans ?_ ((congrFun ((blk_read m c 19 rfl (fun t t' => inj2 (idx19 t) (idx19 t')) flush0_19 (pt j hj)).trans
    (congrArg ((cfg0.win 19).cut (grid0.coords (pt j hj))) (after19 m c (pt j hj)))) (ix2 r n)).trans ((o19_eq m c (pt j hj) r n).trans
      (G19_row _ _ _ _ _ _ _ _ _ _ r (b0_row m c j hj r) (b8_row m c _) (b5_row m c _) (b12_row m c _) (b7_row m c _) n)))
  rw [View.read_apply]
  exact congrArg ((dats m 0 c).arrAt 19 cfg0.N) (rowPos _ (win0_19.index (pt j hj)) j hj r n (idx19 _) rfl rfl).symm
theorem final20 (s : Fin 8192) (n : Fin 384) : ((dats m 0 c).arrAt 20 cfg0.N : FVec Ideal S8192x384 .bf16) (ix2 s n) = cq (A2 (a0 m c) s) (B2 (a9 m c)) (A2 (a12 m c) 0) (A2 (a15 m c) 0) n := by
  obtain ⟨j, hj, r, rfl⟩ := split s
  refine Eq.trans ?_ ((congrFun ((blk_read m c 20 rfl (fun t t' => inj2 (idx20 t) (idx20 t')) flush0_20 (pt j hj)).trans
    (congrArg ((cfg0.win 20).cut (grid0.coords (pt j hj))) (after20 m c (pt j hj)))) (ix2 r n)).trans ((o20_eq m c (pt j hj) r n).trans
      (PCq_row _ _ _ _ _ _ _ _ r (b0_row m c j hj r) (b8_row m c _) (b5_row m c _) (b11_row m c _) n)))
  rw [View.read_apply]
  exact congrArg ((dats m 0 c).arrAt 20 cfg0.N) (rowPos _ (win0_20.index (pt j hj)) j hj r n (idx20 _) rfl rfl).symm
theorem final21 (s : Fin 8192) (n : Fin 256) : ((dats m 0 c).arrAt 21 cfg0.N : FVec Ideal S8192x256 .bf16) (ix2 s n) = ckv (A2 (a0 m c) s) (B2 (a9 m c)) (A2 (a12 m c) 0) (A2 (a16 m c) 0) n := by
  obtain ⟨j, hj, r, rfl⟩ := split s
  refine Eq.trans ?_ ((congrFun ((blk_read m c 21 rfl (fun t t' => inj2 (idx21 t) (idx21 t')) flush0_21 (pt j hj)).trans
    (congrArg ((cfg0.win 21).cut (grid0.coords (pt j hj))) (after21 m c (pt j hj)))) (ix2 r n)).trans ((o21_eq m c (pt j hj) r n).trans
      (PCkv_row _ _ _ _ _ _ _ _ r (b0_row m c j hj r) (b8_row m c _) (b5_row m c _) (b12_row m c _) n)))
  rw [View.read_apply]
  exact congrArg ((dats m 0 c).arrAt 21 cfg0.N) (rowPos _ (win0_21.index (pt j hj)) j hj r n (idx21 _) rfl rfl).symm
theorem final22 (h : Fin 8) (s : Fin 8192) (n : Fin 128) : ((dats m 0 c).arrAt 22 cfg0.N : FVec Ideal S8x8192x128 .bf16) (ix3 h s n) = T22 (A2 (a0 m c) s) (B2 (a9 m c)) (A2 (a12 m c) 0) (A2 (a13 m c) 0) (A2 (a1 m c) s) (A2 (a2 m c) s) (A2 (a3 m c) s) (A2 (a4 m c) s) h n := by
  obtain ⟨j, hj, r, rfl⟩ := split s
  refine Eq.trans ?_ ((congrFun ((blk_read m c 22 rfl (fun t t' => inj3 (idx22 t) (idx22 t')) flush0_22 (pt j hj)).trans
    (congrArg ((cfg0.win 22).cut (grid0.coords (pt j hj))) (after22 m c (pt j hj)))) (ix3 h r n)).trans ((o22_eq m c (pt j hj) h r n).trans
      (G22_row _ _ _ _ _ _ _ _ _ _ _ _ _ _ r (b0_row m c j hj r) (b8_row m c _) (b5_row m c _) (b9_row m c _) (b1_row m c j hj r) (b2_row m c j hj r) h n)))
  rw [View.read_apply]
  exact congrArg ((dats m 0 c).arrAt 22 cfg0.N) (headPos _ (win0_22.index (pt j hj)) j hj h r n (idx22 _) rfl rfl rfl).symm
theorem final23 (h : Fin 2) (s : Fin 8192) (n : Fin 128) : ((dats m 0 c).arrAt 23 cfg0.N : FVec Ideal S2x8192x128 .bf16) (ix3 h s n) = T23 (A2 (a0 m c) s) (B2 (a9 m c)) (A2 (a12 m c) 0) (A2 (a14 m c) 0) (A2 (a1 m c) s) (A2 (a2 m c) s) (A2 (a3 m c) s) (A2 (a4 m c) s) h n := by
  obtain ⟨j, hj, r, rfl⟩ := split s
  refine Eq.trans ?_ ((congrFun ((blk_read m c 23 rfl (fun t t' => inj3 (idx23 t) (idx23 t')) flush0_23 (pt j hj)).trans
    (congrArg ((cfg0.win 23).cut (grid0.coords (pt j hj))) (after23 m c (pt j hj)))) (ix3 h r n)).trans ((o23_eq m c (pt j hj) h r n).trans
      (G23_row _ _ _ _ _ _ _ _ _ _ _ _ _ _ r (b0_row m c j hj r) (b8_row m c _) (b5_row m c _) (b10_row m c _) (b1_row m c j hj r) (b2_row m c j hj r) h n)))
  rw [View.read_apply]
  exact congrArg ((dats m 0 c).arrAt 23 cfg0.N) (headPos _ (win0_23.index (pt j hj)) j hj h r n (idx23 _) rfl rfl rfl).symm
theorem final24 (h : Fin 2) (s : Fin 8192) (n : Fin 128) : ((dats m 0 c).arrAt 24 cfg0.N : FVec Ideal S2x8192x128 .bf16) (ix3 h s n) = T24 (A2 (a0 m c) s) (B2 (a9 m c)) (A2 (a12 m c) 0) h n := by
  obtain ⟨j, hj, r, rfl⟩ := split s
  refine Eq.trans ?_ ((congrFun ((blk_read m c 24 rfl (fun t t' => inj3 (idx24 t) (idx24 t')) flush0_24 (pt j hj)).trans
    (congrArg ((cfg0.win 24).cut (grid0.coords (pt j hj))) (after24 m c (pt j hj)))) (ix3 h r n)).trans ((o24_eq m c (pt j hj) h r n).trans
      (G24_row _ _ _ _ _ _ r (b0_row m c j hj r) (b8_row m c _) (b5_row m c _) h n)))
  rw [View.read_apply]
  exact congrArg ((dats m 0 c).arrAt 24 cfg0.N) (headPos _ (win0_24.index (pt j hj)) j hj h r n (idx24 _) rfl rfl rfl).symm
theorem final25 (h : Fin 4) (s : Fin 8192) (n : Fin 128) : ((dats m 0 c).arrAt 25 cfg0.N : FVec Ideal S4x8192x128 .bf16) (ix3 h s n) = T25 (A2 (a0 m c) s) (B2 (a9 m c)) (B2 (a10 m c)) (A2 (a12 m c) 0) (A2 (a15 m c) 0) (A2 (a17 m c) 0) (A2 (a5 m c) s) (A2 (a6 m c) s) (A2 (a7 m c) s) (A2 (a8 m c) s) h n := by
  obtain ⟨j, hj, r, rfl⟩ := split s
  refine Eq.trans ?_ ((congrFun ((blk_read m c 25 rfl (fun t t' => inj3 (idx25 t) (idx25 t')) flush0_25 (pt j hj)).trans
    (congrArg ((cfg0.win 25).cut (grid0.coords (pt j hj))) (after25 m c (pt j hj)))) (ix3 h r n)).trans ((o25_eq m c (pt j hj) h r n).trans
      (G25_row _ _ _ _ _ _ _ _ _ _ _ _ _ _ _ _ _ _ r (b0_row m c j hj r) (b8_row m c _) (b5_row m c _) (b11_row m c _) (b6_row m c _) (b13_row m c _) (b3_row m c j hj r) (b4_row m c j hj r) h n)))
  rw [View.read_apply]
  exact congrArg ((dats m 0 c).arrAt 25 cfg0.N) (headPos _ (win0_25.index (pt j hj)) j hj h r n (idx25 _) rfl rfl rfl).symm
theorem final26 (h : Fin 4) (s : Fin 8192) (n : Fin 128) : ((dats m 0 c).arrAt 26 cfg0.N : FVec Ideal S4x8192x128 .bf16) (ix3 h s n) = T26 (A2 (a0 m c) s) (B2 (a9 m c)) (B2 (a11 m c)) (A2 (a12 m c) 0) (A2 (a16 m c) 0) (A2 (a18 m c) 0) (A2 (a5 m c) s) (A2 (a6 m c) s) (A2 (a7 m c) s) (A2 (a8 m c) s) h n := by
  obtain ⟨j, hj, r, rfl⟩ := split s
  refine Eq.trans ?_ ((congrFun ((blk_read m c 26 rfl (fun t t' => inj3 (idx26 t) (idx26 t')) flush0_26 (pt j hj)).trans
    (congrArg ((cfg0.win 26).cut (grid0.coords (pt j hj))) (after26 m c (pt j hj)))) (ix3 h r n)).trans ((o26_eq m c (pt j hj) h r n).trans
      (G26_row _ _ _ _ _ _ _ _ _ _ _ _ _ _ _ _ _ _ r (b0_row m c j hj r) (b8_row m c _) (b5_row m c _) (b12_row m c _) (b7_row m c _) (b14_row m c _) (b3_row m c j hj r) (b4_row m c j hj r) h n)))
  rw [View.read_apply]
  exact congrArg ((dats m 0 c).arrAt 26 cfg0.N) (headPos _ (win0_26.index (pt j hj)) j hj h r n (idx26 _) rfl rfl rfl).symm
theorem final27 (h : Fin 4) (s : Fin 8192) (n : Fin 128) : ((dats m 0 c).arrAt 27 cfg0.N : FVec Ideal S4x8192x128 .bf16) (ix3 h s n) = T27 (A2 (a0 m c) s) (B2 (a9 m c)) (B2 (a11 m c)) (A2 (a12 m c) 0) (A2 (a16 m c) 0) h n := by
  obtain ⟨j, hj, r, rfl⟩ := split s
  refine Eq.trans ?_ ((congrFun ((blk_read m c 27 rfl (fun t t' => inj3 (idx27 t) (idx27 t')) flush0_27 (pt j hj)).trans
    (congrArg ((cfg0.win 27).cut (grid0.coords (pt j hj))) (after27 m c (pt j hj)))) (ix3 h r n)).trans ((o27_eq m c (pt j hj) h r n).trans
      (G27_row _ _ _ _ _ _ _ _ _ _ r (b0_row m c j hj r) (b8_row m c _) (b5_row m c _) (b12_row m c _) (b7_row m c _) h n)))
  rw [View.read_apply]
  exact congrArg ((dats m 0 c).arrAt 27 cfg0.N) (headPos _ (win0_27.index (pt j hj)) j hj h r n (idx27 _) rfl rfl rfl).symm

end Cert.PreIdeal.Block

end
-- ==== Proof.PreEnds.lean ====
/- How every run of the input-projection kernel ends. -/
module

public import proofs.«01_k».proof.Proof.PreIdealPipe

@[expose] public section

set_option maxRecDepth 16384

noncomputable section

namespace Cert.PreIdeal.Block

open Cert.PreIdeal Cert.PreIdeal.Gen Cert.PreIdeal.Own Idealize.ShloMosaic Idealize.ShloMosaic.TcCoe Idealize.SL.Sem

variable (m : (ℓ : Loc nD τ sig) → Buf (Elt Ideal) ℓ)

set_option maxHeartbeats 4000000 in
/-- Every run ends with the result arrays above and the arguments as they were. -/
theorem ends (ρ : Dev nD → PrngReg) : θ_run defs (onTc (τ := τ) (main (F := Ideal))) ⟨m, fun _ => 0, ρ⟩ fun r => ∀ c : Dev nD,
    r.2.mem ((c.tc : Thread nD τ).loc main_v54_0) = (dats m 0 c).arrAt 15 cfg0.N
    ∧ r.2.mem ((c.tc : Thread nD τ).loc main_v54_1) = (dats m 0 c).arrAt 16 cfg0.N
    ∧ r.2.mem ((c.tc : Thread nD τ).loc main_v54_2) = (dats m 0 c).arrAt 17 cfg0.N
    ∧ r.2.mem ((c.tc : Thread nD τ).loc main_v54_3) = (dats m 0 c).arrAt 18 cfg0.N
    ∧ r.2.mem ((c.tc : Thread nD τ).loc main_v54_4) = (dats m 0 c).arrAt 19 cfg0.N
    ∧ r.2.mem ((c.tc : Thread nD τ).loc main_v54_5) = (dats m 0 c).arrAt 20 cfg0.N
    ∧ r.2.mem ((c.tc : Thread nD τ).loc main_v54_6) = (dats m 0 c).arrAt 21 cfg0.N
    ∧ r.2.mem ((c.tc : Thread nD τ).loc main_v54_7) = (dats m 0 c).arrAt 22 cfg0.N
    ∧ r.2.mem ((c.tc : Thread nD τ).loc main_v54_8) = (dats m 0 c).arrAt 23 cfg0.N
    ∧ r.2.mem ((c.tc : Thread nD τ).loc main_v54_9) = (dats m 0 c).arrAt 24 cfg0.N
    ∧ r.2.mem ((c.tc : Thread nD τ).loc main_v54_10) = (dats m 0 c).arrAt 25 cfg0.N
    ∧ r.2.mem ((c.tc : Thread nD τ).loc main_v54_11) = (dats m 0 c).arrAt 26 cfg0.N
    ∧ r.2.mem ((c.tc : Thread nD τ).loc main_v54_12) = (dats m 0 c).arrAt 27 cfg0.N
    ∧ r.2.mem ((c.tc : Thread nD τ).loc main_arg0) = m ((c.tc : Thread nD τ).loc main_arg0)
    ∧ r.2.mem ((c.tc : Thread nD τ).loc main_arg1) = m ((c.tc : Thread nD τ).loc main_arg1)
    ∧ r.2.mem ((c.tc : Thread nD τ).loc main_arg2) = m ((c.tc : Thread nD τ).loc main_arg2)
    ∧ r.2.mem ((c.tc : Thread nD τ).loc main_arg3) = m ((c.tc : Thread nD τ).loc main_arg3)
    ∧ r.2.mem ((c.tc : Thread nD τ).loc main_arg4) = m ((c.tc : Thread nD τ).loc main_arg4)
    ∧ r.2.mem ((c.tc : Thread nD τ).loc main_arg5) = m ((c.tc : Thread nD τ).loc main_arg5)
    ∧ r.2.mem ((c.tc : Thread nD τ).loc main_arg6) = m ((c.tc : Thread nD τ).loc main_arg6)
    ∧ r.2.mem ((c.tc : Thread nD τ).loc main_arg7) = m ((c.tc : Thread nD τ).loc main_arg7)
    ∧ r.2.mem ((c.tc : Thread nD τ).loc main_arg8) = m ((c.tc : Thread nD τ).loc main_arg8)
    ∧ r.2.mem ((c.tc : Thread nD τ).loc main_arg9) = m ((c.tc : Thread nD τ).loc main_arg9)
    ∧ r.2.mem ((c.tc : Thread nD τ).loc main_arg10) = m ((c.tc : Thread nD τ).loc main_arg10)
    ∧ r.2.mem ((c.tc : Thread nD τ).loc main_arg11) = m ((c.tc : Thread nD τ).loc main_arg11)
    ∧ r.2.mem ((c.tc : Thread nD τ).loc main_arg12) = m ((c.tc : Thread nD τ).loc main_arg12)
    ∧ r.2.mem ((c.tc : Thread nD τ).loc main_arg13) = m ((c.tc : Thread nD τ).loc main_arg13)
    ∧ r.2.mem ((c.tc : Thread nD τ).loc main_arg14) = m ((c.tc : Thread nD τ).loc main_arg14)
    ∧ r.2.mem ((c.tc : Thread nD τ).loc main_arg15) = m ((c.tc : Thread nD τ).loc main_arg15)
    ∧ r.2.mem ((c.tc : Thread nD τ).loc main_arg16) = m ((c.tc : Thread nD τ).loc main_arg16)
    ∧ r.2.mem ((c.tc : Thread nD τ).loc main_arg17) = m ((c.tc : Thread nD τ).loc main_arg17)
    ∧ r.2.mem ((c.tc : Thread nD τ).loc main_arg18) = m ((c.tc : Thread nD τ).loc main_arg18) :=
  (θ_run defs _ _).mono (fun r h c => ⟨(h.1 c).1 15,
    (h.1 c).1 16,
    (h.1 c).1 17,
    (h.1 c).1 18,
    (h.1 c).1 19,
    (h.1 c).1 20,
    (h.1 c).1 21,
    (h.1 c).1 22,
    (h.1 c).1 23,
    (h.1 c).1 24,
    (h.1 c).1 25,
    (h.1 c).1 26,
    (h.1 c).1 27,
    ((h.1 c).1 0).trans (((dats m 0 c).arrAt_in 0 rfl _).trans ((A_eq m c 0).trans (V_main_arg0 m c))),
    ((h.1 c).2 main_arg1 (Pipeline.mem_restRefs_of main_arg1 (by decide) (by decide))).trans (V_main_arg1 m c),
    ((h.1 c).2 main_arg2 (Pipeline.mem_restRefs_of main_arg2 (by decide) (by decide))).trans (V_main_arg2 m c),
    ((h.1 c).2 main_arg3 (Pipeline.mem_restRefs_of main_arg3 (by decide) (by decide))).trans (V_main_arg3 m c),
    ((h.1 c).2 main_arg4 (Pipeline.mem_restRefs_of main_arg4 (by decide) (by decide))).trans (V_main_arg4 m c),
    ((h.1 c).2 main_arg5 (Pipeline.mem_restRefs_of main_arg5 (by decide) (by decide))).trans (V_main_arg5 m c),
    ((h.1 c).2 main_arg6 (Pipeline.mem_restRefs_of main_arg6 (by decide) (by decide))).trans (V_main_arg6 m c),
    ((h.1 c).2 main_arg7 (Pipeline.mem_restRefs_of main_arg7 (by decide) (by decide))).trans (V_main_arg7 m c),
    ((h.1 c).2 main_arg8 (Pipeline.mem_restRefs_of main_arg8 (by decide) (by decide))).trans (V_main_arg8 m c),
    ((h.1 c).2 main_arg9 (Pipeline.mem_restRefs_of main_arg9 (by decide) (by decide))).trans (V_main_arg9 m c),
    ((h.1 c).2 main_arg10 (Pipeline.mem_restRefs_of main_arg10 (by decide) (by decide))).trans (V_main_arg10 m c),
    ((h.1 c).2 main_arg11 (Pipeline.mem_restRefs_of main_arg11 (by decide) (by decide))).trans (V_main_arg11 m c),
    ((h.1 c).1 8).trans (((dats m 0 c).arrAt_in 8 rfl _).trans ((A_eq m c 8).trans (V_main_arg12 m c))),
    ((h.1 c).2 main_arg13 (Pipeline.mem_restRefs_of main_arg13 (by decide) (by decide))).trans (V_main_arg13 m c),
    ((h.1 c).2 main_arg14 (Pipeline.mem_restRefs_of main_arg14 (by decide) (by decide))).trans (V_main_arg14 m c),
    ((h.1 c).1 11).trans (((dats m 0 c).arrAt_in 11 rfl _).trans ((A_eq m c 11).trans (V_main_arg15 m c))),
    ((h.1 c).1 12).trans (((dats m 0 c).arrAt_in 12 rfl _).trans ((A_eq m c 12).trans (V_main_arg16 m c))),
    ((h.1 c).2 main_arg17 (Pipeline.mem_restRefs_of main_arg17 (by decide) (by decide))).trans (V_main_arg17 m c),
    ((h.1 c).2 main_arg18 (Pipeline.mem_restRefs_of main_arg18 (by decide) (by decide))).trans (V_main_arg18 m c)⟩) (whole m ρ)

end Cert.PreIdeal.Block

end
-- ==== Proof.PreRefVal.lean ====
/- The thirteen results of the reference of the input projections, element by element. -/
module

public import proofs.«01_k».proof.Proof.PreRow
public import proofs.«01_k».proof.Proof.PreHost
public import proofs.«01_k».proof.Proof.Gen.PreRefIdeal.Run

@[expose] public section

set_option maxRecDepth 16384

noncomputable section

namespace Cert.PreRefIdeal.Val

open Cert.PreRefIdeal Cert.PreRefIdeal.Gen Cert.PreRefIdeal.Value Idealize.ShloMosaic Idealize.ShloMosaic.TcCoe Cert.Online Cert.PreSpec
open Cert.PreIdeal.Block (T16 T17 T18 T19 T22 T23 T24 T25 T26 T27)
open Cert.PreIdeal.Val (A2 B2)

theorem b1024 : Ideal.ofBits .f32 0x44800000#32 = ((1024 : ℝ) : EReal) := by
  simp [Ideal.ofBits, Ideal.ieee, -EReal.coe_mul]; norm_num
theorem b384 : Ideal.ofBits .f32 0x43C00000#32 = ((384 : ℝ) : EReal) := by
  simp [Ideal.ofBits, Ideal.ieee, -EReal.coe_mul]; norm_num
theorem b256 : Ideal.ofBits .f32 0x43800000#32 = ((256 : ℝ) : EReal) := by
  simp [Ideal.ofBits, Ideal.ieee, -EReal.coe_mul]; norm_num
theorem b96 : Ideal.ofBits .f32 0x42C00000#32 = ((96 : ℝ) : EReal) := by
  simp [Ideal.ofBits, Ideal.ieee, -EReal.coe_mul]; norm_num
theorem b64 : Ideal.ofBits .f32 0x42800000#32 = ((64 : ℝ) : EReal) := by
  simp [Ideal.ofBits, Ideal.ieee, -EReal.coe_mul]; norm_num

/-- The zero of the paddings. -/
abbrev z : FVec Ideal S_ .f32 := sitofp .f32 (constantI S_ 32 0#32)
theorem z_apply (i : S_.Idx) : z i = 0 := by
  show ((((0#32 : BitVec 32).toInt : ℤ) : ℝ) : EReal) = 0
  simp

/-- The norms along the last axis. -/
def n1024 (y : FVec Ideal S8192x1024 .f32) (g : FVec Ideal S1x1024 .f32) : FVec Ideal S8192x1024 .f32 :=
  mulf (mulf y (broadcastInDim S8192x1024 ![0, 1] bcast_S8192x1_S8192x1024_0_1 (Host.rsqrt (addf (Host.divf (broadcastInDim S8192x1 ![0] bcast_S8192_S8192x1_0 (Host.reduceAdd (mulf y y) (constant S_ .f32 0x00000000#32) reducesTo_S8192x1024_S8192_d1 h_S_)) (broadcastInDim S8192x1 ![] bcast_S_S8192x1 (constant S_ .f32 0x44800000#32))) (broadcastInDim S8192x1 ![] bcast_S_S8192x1 (constant S_ .f32 0x358637BD#32))))))
    (broadcastInDim S8192x1024 ![0, 1] bcast_S1x1024_S8192x1024_0_1 (broadcastInDim S1x1024 ![1] bcast_S1024_S1x1024_1 (shapeCast _ g shapeCasts_S1x1024_S1024)))
theorem n1024_apply (y : FVec Ideal S8192x1024 .f32) (g : FVec Ideal S1x1024 .f32) (s : Fin 8192) (l : Fin 1024) :
    n1024 y g (ix2 s l) = nrm ((1 / 1024 : ℝ) : EReal) (A2 y s) (A2 g 0) l := by
  unfold n1024 nrm eps
  pointwise
  rw [b1024, Ideal.div_coe (by norm_num)]
def n384 (y : FVec Ideal S8192x384 .f32) (g : FVec Ideal S1x384 .f32) : FVec Ideal S8192x384 .f32 :=
  mulf (mulf y (broadcastInDim S8192x384 ![0, 1] bcast_S8192x1_S8192x384_0_1 (Host.rsqrt (addf (Host.divf (broadcastInDim S8192x1 ![0] bcast_S8192_S8192x1_0 (Host.reduceAdd (mulf y y) (constant S_ .f32 0x00000000#32) reducesTo_S8192x384_S8192_d1 h_S_)) (broadcastInDim S8192x1 ![] bcast_S_S8192x1 (constant S_ .f32 0x43C00000#32))) (broadcastInDim S8192x1 ![] bcast_S_S8192x1 (constant S_ .f32 0x358637BD#32))))))
    (broadcastInDim S8192x384 ![0, 1] bcast_S1x384_S8192x384_0_1 (broadcastInDim S1x384 ![1] bcast_S384_S1x384_1 (shapeCast _ g shapeCasts_S1x384_S384)))
theorem n384_apply (y : FVec Ideal S8192x384 .f32) (g : FVec Ideal S1x384 .f32) (s : Fin 8192) (l : Fin 384) :
    n384 y g (ix2 s l) = nrm ((1 / 384 : ℝ) : EReal) (A2 y s) (A2 g 0) l := by
  unfold n384 nrm eps
  pointwise
  rw [b384, Ideal.div_coe (by norm_num)]
def n256 (y : FVec Ideal S8192x256 .f32) (g : FVec Ideal S1x256 .f32) : FVec Ideal S8192x256 .f32 :=
  mulf (mulf y (broadcastInDim S8192x256 ![0, 1] bcast_S8192x1_S8192x256_0_1 (Host.rsqrt (addf (Host.divf (broadcastInDim S8192x1 ![0] bcast_S8192_S8192x1_0 (Host.reduceAdd (mulf y y) (constant S_ .f32 0x00000000#32) reducesTo_S8192x256_S8192_d1 h_S_)) (broadcastInDim S8192x1 ![] bcast_S_S8192x1 (constant S_ .f32 0x43800000#32))) (broadcastInDim S8192x1 ![] bcast_S_S8192x1 (constant S_ .f32 0x358637BD#32))))))
    (broadcastInDim S8192x256 ![0, 1] bcast_S1x256_S8192x256_0_1 (broadcastInDim S1x256 ![1] bcast_S256_S1x256_1 (shapeCast _ g shapeCasts_S1x256_S256)))
theorem n256_apply (y : FVec Ideal S8192x256 .f32) (g : FVec Ideal S1x256 .f32) (s : Fin 8192) (l : Fin 256) :
    n256 y g (ix2 s l) = nrm ((1 / 256 : ℝ) : EReal) (A2 y s) (A2 g 0) l := by
  unfold n256 nrm eps
  pointwise
  rw [b256, Ideal.div_coe (by norm_num)]
def n8x64 (y : FVec Ideal S8x8192x64 .f32) (g : FVec Ideal S1x64 .f32) : FVec Ideal S8x8192x64 .f32 :=
  mulf (mulf y (broadcastInDim S8x8192x64 ![0, 1, 2] bcast_S8x8192x1_S8x8192x64_0_1_2 (Host.rsqrt (addf (Host.divf (broadcastInDim S8x8192x1 ![0, 1] bcast_S8x8192_S8x8192x1_0_1 (Host.reduceAdd (mulf y y) (constant S_ .f32 0x00000000#32) reducesTo_S8x8192x64_S8x8192_d2 h_S_)) (broadcastInDim S8x8192x1 ![] bcast_S_S8x8192x1 (constant S_ .f32 0x42800000#32))) (broadcastInDim S8x8192x1 ![] bcast_S_S8x8192x1 (constant S_ .f32 0x358637BD#32))))))
    (broadcastInDim S8x8192x64 ![0, 1, 2] bcast_S1x1x64_S8x8192x64_0_1_2 (broadcastInDim S1x1x64 ![2] bcast_S64_S1x1x64_2 (shapeCast _ g shapeCasts_S1x64_S64)))
theorem n8x64_apply (y : FVec Ideal S8x8192x64 .f32) (g : FVec Ideal S1x64 .f32) (h : Fin 8) (s : Fin 8192) (l : Fin 64) :
    n8x64 y g (ix3 h s l) = nrm ((1 / 64 : ℝ) : EReal) (fun l => y (ix3 h s l)) (A2 g 0) l := by
  unfold n8x64 nrm eps
  pointwise
  rw [b64, Ideal.div_coe (by norm_num)]
def n2x64 (y : FVec Ideal S2x8192x64 .f32) (g : FVec Ideal S1x64 .f32) : FVec Ideal S2x8192x64 .f32 :=
  mulf (mulf y (broadcastInDim S2x8192x64 ![0, 1, 2] bcast_S2x8192x1_S2x8192x64_0_1_2 (Host.rsqrt (addf (Host.divf (broadcastInDim S2x8192x1 ![0, 1] bcast_S2x8192_S2x8192x1_0_1 (Host.reduceAdd (mulf y y) (constant S_ .f32 0x00000000#32) reducesTo_S2x8192x64_S2x8192_d2 h_S_)) (broadcastInDim S2x8192x1 ![] bcast_S_S2x8192x1 (constant S_ .f32 0x42800000#32))) (broadcastInDim S2x8192x1 ![] bcast_S_S2x8192x1 (constant S_ .f32 0x358637BD#32))))))
    (broadcastInDim S2x8192x64 ![0, 1, 2] bcast_S1x1x64_S2x8192x64_0_1_2 (broadcastInDim S1x1x64 ![2] bcast_S64_S1x1x64_2 (shapeCast _ g shapeCasts_S1x64_S64)))
theorem n2x64_apply (y : FVec Ideal S2x8192x64 .f32) (g : FVec Ideal S1x64 .f32) (h : Fin 2) (s : Fin 8192) (l : Fin 64) :
    n2x64 y g (ix3 h s l) = nrm ((1 / 64 : ℝ) : EReal) (fun l => y (ix3 h s l)) (A2 g 0) l := by
  unfold n2x64 nrm eps
  pointwise
  rw [b64, Ideal.div_coe (by norm_num)]
def n4x96 (y : FVec Ideal S4x8192x96 .f32) (g : FVec Ideal S1x96 .f32) : FVec Ideal S4x8192x96 .f32 :=
  mulf (mulf y (broadcastInDim S4x8192x96 ![0, 1, 2] bcast_S4x8192x1_S4x8192x96_0_1_2 (Host.rsqrt (addf (Host.divf (broadcastInDim S4x8192x1 ![0, 1] bcast_S4x8192_S4x8192x1_0_1 (Host.reduceAdd (mulf y y) (constant S_ .f32 0x00000000#32) reducesTo_S4x8192x96_S4x8192_d2 h_S_)) (broadcastInDim S4x8192x1 ![] bcast_S_S4x8192x1 (constant S_ .f32 0x42C00000#32))) (broadcastInDim S4x8192x1 ![] bcast_S_S4x8192x1 (constant S_ .f32 0x358637BD#32))))))
    (broadcastInDim S4x8192x96 ![0, 1, 2] bcast_S1x1x96_S4x8192x96_0_1_2 (broadcastInDim S1x1x96 ![2] bcast_S96_S1x1x96_2 (shapeCast _ g shapeCasts_S1x96_S96)))
theorem n4x96_apply (y : FVec Ideal S4x8192x96 .f32) (g : FVec Ideal S1x96 .f32) (h : Fin 4) (s : Fin 8192) (l : Fin 96) :
    n4x96 y g (ix3 h s l) = nrm ((1 / 96 : ℝ) : EReal) (fun l => y (ix3 h s l)) (A2 g 0) l := by
  unfold n4x96 nrm eps
  pointwise
  rw [b96, Ideal.div_coe (by norm_num)]

/-- The rotary embeddings of the heads. -/
def ro8 (y : FVec Ideal S8x8192x64 .f32) (c₁ s₁ c₂ s₂ : FVec Ideal S8192x16 .f32) : FVec Ideal S8x8192x64 .f32 :=
  concatenate S8x8192x64 2 [⟨S8x8192x32, (concatenate S8x8192x32 2 [⟨S8x8192x16, (subf (mulf (extractStridedSlice S8x8192x16 ![0, 0, 0] (extractStridedSlice S8x8192x32 ![0, 0, 0] y slices_S8x8192x64_S8x8192x32_0_0_0) slices_S8x8192x32_S8x8192x16_0_0_0) (broadcastInDim S8x8192x16 ![0, 1, 2] bcast_S1x8192x16_S8x8192x16_0_1_2 (broadcastInDim S1x8192x16 ![1, 2] bcast_S8192x16_S1x8192x16_1_2 c₁))) (mulf (extractStridedSlice S8x8192x16 ![0, 0, 16] (extractStridedSlice S8x8192x32 ![0, 0, 0] y slices_S8x8192x64_S8x8192x32_0_0_0) slices_S8x8192x32_S8x8192x16_0_0_16) (broadcastInDim S8x8192x16 ![0, 1, 2] bcast_S1x8192x16_S8x8192x16_0_1_2 (broadcastInDim S1x8192x16 ![1, 2] bcast_S8192x16_S1x8192x16_1_2 s₁))))⟩, ⟨S8x8192x16, (addf (mulf (extractStridedSlice S8x8192x16 ![0, 0, 0] (extractStridedSlice S8x8192x32 ![0, 0, 0] y slices_S8x8192x64_S8x8192x32_0_0_0) slices_S8x8192x32_S8x8192x16_0_0_0) (broadcastInDim S8x8192x16 ![0, 1, 2] bcast_S1x8192x16_S8x8192x16_0_1_2 (broadcastInDim S1x8192x16 ![1, 2] bcast_S8192x16_S1x8192x16_1_2 s₁))) (mulf (extractStridedSlice S8x8192x16 ![0, 0, 16] (extractStridedSlice S8x8192x32 ![0, 0, 0] y slices_S8x8192x64_S8x8192x32_0_0_0) slices_S8x8192x32_S8x8192x16_0_0_16) (broadcastInDim S8x8192x16 ![0, 1, 2] bcast_S1x8192x16_S8x8192x16_0_1_2 (broadcastInDim S1x8192x16 ![1, 2] bcast_S8192x16_S1x8192x16_1_2 c₁))))⟩] concatenates_S8x8192x16_S8x8192x16_S8x8192x32_d2)⟩,
    ⟨S8x8192x32, (concatenate S8x8192x32 2 [⟨S8x8192x16, (subf (mulf (extractStridedSlice S8x8192x16 ![0, 0, 0] (extractStridedSlice S8x8192x32 ![0, 0, 32] y slices_S8x8192x64_S8x8192x32_0_0_32) slices_S8x8192x32_S8x8192x16_0_0_0) (broadcastInDim S8x8192x16 ![0, 1, 2] bcast_S1x8192x16_S8x8192x16_0_1_2 (broadcastInDim S1x8192x16 ![1, 2] bcast_S8192x16_S1x8192x16_1_2 c₂))) (mulf (extractStridedSlice S8x8192x16 ![0, 0, 16] (extractStridedSlice S8x8192x32 ![0, 0, 32] y slices_S8x8192x64_S8x8192x32_0_0_32) slices_S8x8192x32_S8x8192x16_0_0_16) (broadcastInDim S8x8192x16 ![0, 1, 2] bcast_S1x8192x16_S8x8192x16_0_1_2 (broadcastInDim S1x8192x16 ![1, 2] bcast_S8192x16_S1x8192x16_1_2 s₂))))⟩, ⟨S8x8192x16, (addf (mulf (extractStridedSlice S8x8192x16 ![0, 0, 0] (extractStridedSlice S8x8192x32 ![0, 0, 32] y slices_S8x8192x64_S8x8192x32_0_0_32) slices_S8x8192x32_S8x8192x16_0_0_0) (broadcastInDim S8x8192x16 ![0, 1, 2] bcast_S1x8192x16_S8x8192x16_0_1_2 (broadcastInDim S1x8192x16 ![1, 2] bcast_S8192x16_S1x8192x16_1_2 s₂))) (mulf (extractStridedSlice S8x8192x16 ![0, 0, 16] (extractStridedSlice S8x8192x32 ![0, 0, 32] y slices_S8x8192x64_S8x8192x32_0_0_32) slices_S8x8192x32_S8x8192x16_0_0_16) (broadcastInDim S8x8192x16 ![0, 1, 2] bcast_S1x8192x16_S8x8192x16_0_1_2 (broadcastInDim S1x8192x16 ![1, 2] bcast_S8192x16_S1x8192x16_1_2 c₂))))⟩] concatenates_S8x8192x16_S8x8192x16_S8x8192x32_d2)⟩] concatenates_S8x8192x32_S8x8192x32_S8x8192x64_d2
theorem ro8_apply (y : FVec Ideal S8x8192x64 .f32) (c₁ s₁ c₂ s₂ : FVec Ideal S8192x16 .f32) (h : Fin 8) (s : Fin 8192) (l : Fin 64) :
    ro8 y c₁ s₁ c₂ s₂ (ix3 h s l) = rotA (fun l => y (ix3 h s l)) (A2 c₁ s) (A2 s₁ s) (A2 c₂ s) (A2 s₂ s) l := by
  have hl := l.isLt
  unfold ro8 rotA
  pointwise
  by_cases h1 : l.val < 16
  · have e1 : l.val < 32 := by omega
    simp only [h1, e1, ↓reduceDIte, Nat.add_comm, Nat.zero_add]
  by_cases h2 : l.val < 32
  · simp only [h1, h2, ↓reduceDIte, Nat.zero_add]
    have e2 : 16 + (l.val - 16) = l.val := by omega
    simp only [e2]
  by_cases h3 : l.val < 48
  · have e1 : l.val - 32 < 16 := by omega
    have e2 : 32 + (l.val - 32) = l.val := by omega
    have e3 : 32 + (16 + (l.val - 32)) = l.val + 16 := by omega
    simp only [h1, h2, h3, e1, e2, e3, ↓reduceDIte, Nat.zero_add]
  · have e1 : ¬ l.val - 32 < 16 := by omega
    have e2 : 32 + (l.val - 48) = l.val - 16 := by omega
    have e3 : 32 + (16 + (l.val - 48)) = l.val := by omega
    have e4 : l.val - 32 - 16 = l.val - 48 := by omega
    simp only [h1, h2, h3, e1, e2, e3, e4, ↓reduceDIte, Nat.zero_add]
def ro2 (y : FVec Ideal S2x8192x64 .f32) (c₁ s₁ c₂ s₂ : FVec Ideal S8192x16 .f32) : FVec Ideal S2x8192x64 .f32 :=
  concatenate S2x8192x64 2 [⟨S2x8192x32, (concatenate S2x8192x32 2 [⟨S2x8192x16, (subf (mulf (extractStridedSlice S2x8192x16 ![0, 0, 0] (extractStridedSlice S2x8192x32 ![0, 0, 0] y slices_S2x8192x64_S2x8192x32_0_0_0) slices_S2x8192x32_S2x8192x16_0_0_0) (broadcastInDim S2x8192x16 ![0, 1, 2] bcast_S1x8192x16_S2x8192x16_0_1_2 (broadcastInDim S1x8192x16 ![1, 2] bcast_S8192x16_S1x8192x16_1_2 c₁))) (mulf (extractStridedSlice S2x8192x16 ![0, 0, 16] (extractStridedSlice S2x8192x32 ![0, 0, 0] y slices_S2x8192x64_S2x8192x32_0_0_0) slices_S2x8192x32_S2x8192x16_0_0_16) (broadcastInDim S2x8192x16 ![0, 1, 2] bcast_S1x8192x16_S2x8192x16_0_1_2 (broadcastInDim S1x8192x16 ![1, 2] bcast_S8192x16_S1x8192x16_1_2 s₁))))⟩, ⟨S2x8192x16, (addf (mulf (extractStridedSlice S2x8192x16 ![0, 0, 0] (extractStridedSlice S2x8192x32 ![0, 0, 0] y slices_S2x8192x64_S2x8192x32_0_0_0) slices_S2x8192x32_S2x8192x16_0_0_0) (broadcastInDim S2x8192x16 ![0, 1, 2] bcast_S1x8192x16_S2x8192x16_0_1_2 (broadcastInDim S1x8192x16 ![1, 2] bcast_S8192x16_S1x8192x16_1_2 s₁))) (mulf (extractStridedSlice S2x8192x16 ![0, 0, 16] (extractStridedSlice S2x8192x32 ![0, 0, 0] y slices_S2x8192x64_S2x8192x32_0_0_0) slices_S2x8192x32_S2x8192x16_0_0_16) (broadcastInDim S2x8192x16 ![0, 1, 2] bcast_S1x8192x16_S2x8192x16_0_1_2 (broadcastInDim S1x8192x16 ![1, 2] bcast_S8192x16_S1x8192x16_1_2 c₁))))⟩] concatenates_S2x8192x16_S2x8192x16_S2x8192x32_d2)⟩,
    ⟨S2x8192x32, (concatenate S2x8192x32 2 [⟨S2x8192x16, (subf (mulf (extractStridedSlice S2x8192x16 ![0, 0, 0] (extractStridedSlice S2x8192x32 ![0, 0, 32] y slices_S2x8192x64_S2x8192x32_0_0_32) slices_S2x8192x32_S2x8192x16_0_0_0) (broadcastInDim S2x8192x16 ![0, 1, 2] bcast_S1x8192x16_S2x8192x16_0_1_2 (broadcastInDim S1x8192x16 ![1, 2] bcast_S8192x16_S1x8192x16_1_2 c₂))) (mulf (extractStridedSlice S2x8192x16 ![0, 0, 16] (extractStridedSlice S2x8192x32 ![0, 0, 32] y slices_S2x8192x64_S2x8192x32_0_0_32) slices_S2x8192x32_S2x8192x16_0_0_16) (broadcastInDim S2x8192x16 ![0, 1, 2] bcast_S1x8192x16_S2x8192x16_0_1_2 (broadcastInDim S1x8192x16 ![1, 2] bcast_S8192x16_S1x8192x16_1_2 s₂))))⟩, ⟨S2x8192x16, (addf (mulf (extractStridedSlice S2x8192x16 ![0, 0, 0] (extractStridedSlice S2x8192x32 ![0, 0, 32] y slices_S2x8192x64_S2x8192x32_0_0_32) slices_S2x8192x32_S2x8192x16_0_0_0) (broadcastInDim S2x8192x16 ![0, 1, 2] bcast_S1x8192x16_S2x8192x16_0_1_2 (broadcastInDim S1x8192x16 ![1, 2] bcast_S8192x16_S1x8192x16_1_2 s₂))) (mulf (extractStridedSlice S2x8192x16 ![0, 0, 16] (extractStridedSlice S2x8192x32 ![0, 0, 32] y slices_S2x8192x64_S2x8192x32_0_0_32) slices_S2x8192x32_S2x8192x16_0_0_16) (broadcastInDim S2x8192x16 ![0, 1, 2] bcast_S1x8192x16_S2x8192x16_0_1_2 (broadcastInDim S1x8192x16 ![1, 2] bcast_S8192x16_S1x8192x16_1_2 c₂))))⟩] concatenates_S2x8192x16_S2x8192x16_S2x8192x32_d2)⟩] concatenates_S2x8192x32_S2x8192x32_S2x8192x64_d2
theorem ro2_apply (y : FVec Ideal S2x8192x64 .f32) (c₁ s₁ c₂ s₂ : FVec Ideal S8192x16 .f32) (h : Fin 2) (s : Fin 8192) (l : Fin 64) :
    ro2 y c₁ s₁ c₂ s₂ (ix3 h s l) = rotA (fun l => y (ix3 h s l)) (A2 c₁ s) (A2 s₁ s) (A2 c₂ s) (A2 s₂ s) l := by
  have hl := l.isLt
  unfold ro2 rotA
  pointwise
  by_cases h1 : l.val < 16
  · have e1 : l.val < 32 := by omega
    simp only [h1, e1, ↓reduceDIte, Nat.add_comm, Nat.zero_add]
  by_cases h2 : l.val < 32
  · simp only [h1, h2, ↓reduceDIte, Nat.zero_add]
    have e2 : 16 + (l.val - 16) = l.val := by omega
    simp only [e2]
  by_cases h3 : l.val < 48
  · have e1 : l.val - 32 < 16 := by omega
    have e2 : 32 + (l.val - 32) = l.val := by omega
    have e3 : 32 + (16 + (l.val - 32)) = l.val + 16 := by omega
    simp only [h1, h2, h3, e1, e2, e3, ↓reduceDIte, Nat.zero_add]
  · have e1 : ¬ l.val - 32 < 16 := by omega
    have e2 : 32 + (l.val - 48) = l.val - 16 := by omega
    have e3 : 32 + (16 + (l.val - 48)) = l.val := by omega
    have e4 : l.val - 32 - 16 = l.val - 48 := by omega
    simp only [h1, h2, h3, e1, e2, e3, e4, ↓reduceDIte, Nat.zero_add]
def ro4 (y : FVec Ideal S4x8192x96 .f32) (c₁ s₁ c₂ s₂ : FVec Ideal S8192x8 .f32) : FVec Ideal S4x8192x96 .f32 :=
  concatenate S4x8192x96 2 [⟨S4x8192x64, (extractStridedSlice S4x8192x64 ![0, 0, 0] y slices_S4x8192x96_S4x8192x64_0_0_0)⟩, ⟨S4x8192x32, (concatenate S4x8192x32 2 [⟨S4x8192x16, (concatenate S4x8192x16 2 [⟨S4x8192x8, (subf (mulf (extractStridedSlice S4x8192x8 ![0, 0, 0] (extractStridedSlice S4x8192x16 ![0, 0, 0] (extractStridedSlice S4x8192x32 ![0, 0, 64] y slices_S4x8192x96_S4x8192x32_0_0_64) slices_S4x8192x32_S4x8192x16_0_0_0) slices_S4x8192x16_S4x8192x8_0_0_0) (broadcastInDim S4x8192x8 ![0, 1, 2] bcast_S1x8192x8_S4x8192x8_0_1_2 (broadcastInDim S1x8192x8 ![1, 2] bcast_S8192x8_S1x8192x8_1_2 c₁))) (mulf (extractStridedSlice S4x8192x8 ![0, 0, 8] (extractStridedSlice S4x8192x16 ![0, 0, 0] (extractStridedSlice S4x8192x32 ![0, 0, 64] y slices_S4x8192x96_S4x8192x32_0_0_64) slices_S4x8192x32_S4x8192x16_0_0_0) slices_S4x8192x16_S4x8192x8_0_0_8) (broadcastInDim S4x8192x8 ![0, 1, 2] bcast_S1x8192x8_S4x8192x8_0_1_2 (broadcastInDim S1x8192x8 ![1, 2] bcast_S8192x8_S1x8192x8_1_2 s₁))))⟩, ⟨S4x8192x8, (addf (mulf (extractStridedSlice S4x8192x8 ![0, 0, 0] (extractStridedSlice S4x8192x16 ![0, 0, 0] (extractStridedSlice S4x8192x32 ![0, 0, 64] y slices_S4x8192x96_S4x8192x32_0_0_64) slices_S4x8192x32_S4x8192x16_0_0_0) slices_S4x8192x16_S4x8192x8_0_0_0) (broadcastInDim S4x8192x8 ![0, 1, 2] bcast_S1x8192x8_S4x8192x8_0_1_2 (broadcastInDim S1x8192x8 ![1, 2] bcast_S8192x8_S1x8192x8_1_2 s₁))) (mulf (extractStridedSlice S4x8192x8 ![0, 0, 8] (extractStridedSlice S4x8192x16 ![0, 0, 0] (extractStridedSlice S4x8192x32 ![0, 0, 64] y slices_S4x8192x96_S4x8192x32_0_0_64) slices_S4x8192x32_S4x8192x16_0_0_0) slices_S4x8192x16_S4x8192x8_0_0_8) (broadcastInDim S4x8192x8 ![0, 1, 2] bcast_S1x8192x8_S4x8192x8_0_1_2 (broadcastInDim S1x8192x8 ![1, 2] bcast_S8192x8_S1x8192x8_1_2 c₁))))⟩] concatenates_S4x8192x8_S4x8192x8_S4x8192x16_d2)⟩,
    ⟨S4x8192x16, (concatenate S4x8192x16 2 [⟨S4x8192x8, (subf (mulf (extractStridedSlice S4x8192x8 ![0, 0, 0] (extractStridedSlice S4x8192x16 ![0, 0, 16] (extractStridedSlice S4x8192x32 ![0, 0, 64] y slices_S4x8192x96_S4x8192x32_0_0_64) slices_S4x8192x32_S4x8192x16_0_0_16) slices_S4x8192x16_S4x8192x8_0_0_0) (broadcastInDim S4x8192x8 ![0, 1, 2] bcast_S1x8192x8_S4x8192x8_0_1_2 (broadcastInDim S1x8192x8 ![1, 2] bcast_S8192x8_S1x8192x8_1_2 c₂))) (mulf (extractStridedSlice S4x8192x8 ![0, 0, 8] (extractStridedSlice S4x8192x16 ![0, 0, 16] (extractStridedSlice S4x8192x32 ![0, 0, 64] y slices_S4x8192x96_S4x8192x32_0_0_64) slices_S4x8192x32_S4x8192x16_0_0_16) slices_S4x8192x16_S4x8192x8_0_0_8) (broadcastInDim S4x8192x8 ![0, 1, 2] bcast_S1x8192x8_S4x8192x8_0_1_2 (broadcastInDim S1x8192x8 ![1, 2] bcast_S8192x8_S1x8192x8_1_2 s₂))))⟩, ⟨S4x8192x8, (addf (mulf (extractStridedSlice S4x8192x8 ![0, 0, 0] (extractStridedSlice S4x8192x16 ![0, 0, 16] (extractStridedSlice S4x8192x32 ![0, 0, 64] y slices_S4x8192x96_S4x8192x32_0_0_64) slices_S4x8192x32_S4x8192x16_0_0_16) slices_S4x8192x16_S4x8192x8_0_0_0) (broadcastInDim S4x8192x8 ![0, 1, 2] bcast_S1x8192x8_S4x8192x8_0_1_2 (broadcastInDim S1x8192x8 ![1, 2] bcast_S8192x8_S1x8192x8_1_2 s₂))) (mulf (extractStridedSlice S4x8192x8 ![0, 0, 8] (extractStridedSlice S4x8192x16 ![0, 0, 16] (extractStridedSlice S4x8192x32 ![0, 0, 64] y slices_S4x8192x96_S4x8192x32_0_0_64) slices_S4x8192x32_S4x8192x16_0_0_16) slices_S4x8192x16_S4x8192x8_0_0_8) (broadcastInDim S4x8192x8 ![0, 1, 2] bcast_S1x8192x8_S4x8192x8_0_1_2 (broadcastInDim S1x8192x8 ![1, 2] bcast_S8192x8_S1x8192x8_1_2 c₂))))⟩] concatenates_S4x8192x8_S4x8192x8_S4x8192x16_d2)⟩] concatenates_S4x8192x16_S4x8192x16_S4x8192x32_d2)⟩] concatenates_S4x8192x64_S4x8192x32_S4x8192x96_d2
theorem ro4_apply (y : FVec Ideal S4x8192x96 .f32) (c₁ s₁ c₂ s₂ : FVec Ideal S8192x8 .f32) (h : Fin 4) (s : Fin 8192) (l : Fin 96) :
    ro4 y c₁ s₁ c₂ s₂ (ix3 h s l) = rotB (fun l => y (ix3 h s l)) (A2 c₁ s) (A2 s₁ s) (A2 c₂ s) (A2 s₂ s) l := by
  have hl := l.isLt
  unfold ro4 rotB
  pointwise
  by_cases h0 : l.val < 64
  · simp only [h0, ↓reduceDIte, Nat.zero_add]
  by_cases h1 : l.val < 72
  · have e0 : l.val - 64 < 16 := by omega
    have e1 : l.val - 64 < 8 := by omega
    have e2 : 64 + (l.val - 64) = l.val := by omega
    have e3 : 64 + (8 + (l.val - 64)) = l.val + 8 := by omega
    simp only [h0, h1, e0, e1, e2, e3, ↓reduceDIte, Nat.zero_add]
  by_cases h2 : l.val < 80
  · have e0 : l.val - 64 < 16 := by omega
    have e1 : ¬ l.val - 64 < 8 := by omega
    have e2 : 64 + (l.val - 72) = l.val - 8 := by omega
    have e3 : 64 + (8 + (l.val - 72)) = l.val := by omega
    have e4 : l.val - 64 - 8 = l.val - 72 := by omega
    simp only [h0, h1, h2, e0, e1, e2, e3, e4, ↓reduceDIte, Nat.zero_add]
  by_cases h3 : l.val < 88
  · have e0 : ¬ l.val - 64 < 16 := by omega
    have e1 : l.val - 80 < 8 := by omega
    have e2 : 64 + (16 + (l.val - 80)) = l.val := by omega
    have e3 : 64 + (16 + (8 + (l.val - 80))) = l.val + 8 := by omega
    have e4 : l.val - 64 - 16 = l.val - 80 := by omega
    simp only [h0, h1, h2, h3, e0, e1, e2, e3, e4, ↓reduceDIte, Nat.zero_add]
  · have e0 : ¬ l.val - 64 < 16 := by omega
    have e1 : ¬ l.val - 64 - 16 < 8 := by omega
    have e2 : 64 + (16 + (l.val - 88)) = l.val - 8 := by omega
    have e3 : 64 + (16 + (8 + (l.val - 88))) = l.val := by omega
    have e4 : l.val - 64 - 16 - 8 = l.val - 88 := by omega
    simp only [h0, h1, h2, h3, e0, e1, e2, e3, e4, ↓reduceDIte, Nat.zero_add]

/-- Heads padded to 128 lanes, and those heads side by side. -/
def pd8 (y : FVec Ideal S8x8192x64 .f32) : FVec Ideal S8x8192x128 .f32 := pad S8x8192x128 ![0, 0, 0] ![0, 0, 64] ![0, 0, 0] y z pads_S8x8192x64_S8x8192x128_000_000_0640 h_S_
theorem pd8_apply (y : FVec Ideal S8x8192x64 .f32) (h : Fin 8) (s : Fin 8192) (l : Fin 128) : pd8 y (ix3 h s l) = pd (fun l => y (ix3 h s l)) l := by
  unfold pd
  pointwise [pd8, z_apply]
def fl8 (y : FVec Ideal S8x8192x128 .f32) : FVec Ideal S8192x1024 .f32 :=
  shapeCast _ (transpose S8192x8x128 [1, 0, 2] y transposes_S8x8192x128_S8192x8x128_1_0_2) shapeCasts_S8192x8x128_S8192x1024
theorem fl8_apply (y : FVec Ideal S8x8192x128 .f32) (s : Fin 8192) (n : Fin 1024) : fl8 y (ix2 s n) = y (ix3 ⟨n.val / 128, by omega⟩ s ⟨n.val % 128, by omega⟩) := by
  unfold fl8
  pointwise
def pd2 (y : FVec Ideal S2x8192x64 .f32) : FVec Ideal S2x8192x128 .f32 := pad S2x8192x128 ![0, 0, 0] ![0, 0, 64] ![0, 0, 0] y z pads_S2x8192x64_S2x8192x128_000_000_0640 h_S_
theorem pd2_apply (y : FVec Ideal S2x8192x64 .f32) (h : Fin 2) (s : Fin 8192) (l : Fin 128) : pd2 y (ix3 h s l) = pd (fun l => y (ix3 h s l)) l := by
  unfold pd
  pointwise [pd2, z_apply]
def fl2 (y : FVec Ideal S2x8192x128 .f32) : FVec Ideal S8192x256 .f32 :=
  shapeCast _ (transpose S8192x2x128 [1, 0, 2] y transposes_S2x8192x128_S8192x2x128_1_0_2) shapeCasts_S8192x2x128_S8192x256
theorem fl2_apply (y : FVec Ideal S2x8192x128 .f32) (s : Fin 8192) (n : Fin 256) : fl2 y (ix2 s n) = y (ix3 ⟨n.val / 128, by omega⟩ s ⟨n.val % 128, by omega⟩) := by
  unfold fl2
  pointwise
def pd4 (y : FVec Ideal S4x8192x96 .f32) : FVec Ideal S4x8192x128 .f32 := pad S4x8192x128 ![0, 0, 0] ![0, 0, 32] ![0, 0, 0] y z pads_S4x8192x96_S4x8192x128_000_000_0320 h_S_
theorem pd4_apply (y : FVec Ideal S4x8192x96 .f32) (h : Fin 4) (s : Fin 8192) (l : Fin 128) : pd4 y (ix3 h s l) = pd (fun l => y (ix3 h s l)) l := by
  unfold pd
  pointwise [pd4, z_apply]
def fl4 (y : FVec Ideal S4x8192x128 .f32) : FVec Ideal S8192x512 .f32 :=
  shapeCast _ (transpose S8192x4x128 [1, 0, 2] y transposes_S4x8192x128_S8192x4x128_1_0_2) shapeCasts_S8192x4x128_S8192x512
theorem fl4_apply (y : FVec Ideal S4x8192x128 .f32) (s : Fin 8192) (n : Fin 512) : fl4 y (ix2 s n) = y (ix3 ⟨n.val / 128, by omega⟩ s ⟨n.val % 128, by omega⟩) := by
  unfold fl4
  pointwise

variable (V0 : Valuation τ sig (Elt Ideal))

abbrev a0 : FVec Ideal S8192x1024 .f32 := V0 (Proc.devRef .tc main_arg0)
abbrev a1 : FVec Ideal S8192x16 .f32 := V0 (Proc.devRef .tc main_arg1)
abbrev a2 : FVec Ideal S8192x16 .f32 := V0 (Proc.devRef .tc main_arg2)
abbrev a3 : FVec Ideal S8192x16 .f32 := V0 (Proc.devRef .tc main_arg3)
abbrev a4 : FVec Ideal S8192x16 .f32 := V0 (Proc.devRef .tc main_arg4)
abbrev a5 : FVec Ideal S8192x8 .f32 := V0 (Proc.devRef .tc main_arg5)
abbrev a6 : FVec Ideal S8192x8 .f32 := V0 (Proc.devRef .tc main_arg6)
abbrev a7 : FVec Ideal S8192x8 .f32 := V0 (Proc.devRef .tc main_arg7)
abbrev a8 : FVec Ideal S8192x8 .f32 := V0 (Proc.devRef .tc main_arg8)
abbrev a9 : FVec Ideal S1024x2464 .bf16 := V0 (Proc.devRef .tc main_arg9)
abbrev a10 : FVec Ideal S384x384 .bf16 := V0 (Proc.devRef .tc main_arg10)
abbrev a11 : FVec Ideal S256x768 .bf16 := V0 (Proc.devRef .tc main_arg11)
abbrev a12 : FVec Ideal S1x1024 .f32 := V0 (Proc.devRef .tc main_arg12)
abbrev a13 : FVec Ideal S1x64 .f32 := V0 (Proc.devRef .tc main_arg13)
abbrev a14 : FVec Ideal S1x64 .f32 := V0 (Proc.devRef .tc main_arg14)
abbrev a15 : FVec Ideal S1x384 .f32 := V0 (Proc.devRef .tc main_arg15)
abbrev a16 : FVec Ideal S1x256 .f32 := V0 (Proc.devRef .tc main_arg16)
abbrev a17 : FVec Ideal S1x96 .f32 := V0 (Proc.devRef .tc main_arg17)
abbrev a18 : FVec Ideal S1x96 .f32 := V0 (Proc.devRef .tc main_arg18)

theorem v13_apply (s : Fin 8192) (d : Fin 1024) : (res_main_v13 V0 : FVec Ideal S8192x1024 .f32) (ix2 s d) = xn (A2 (a0 V0) s) (A2 (a12 V0) 0) d :=
  n1024_apply (a0 V0) (a12 V0) s d
theorem v15_apply (s : Fin 8192) (n : Fin 2464) : (res_main_v15 V0 : FVec Ideal S8192x2464 .f32) (ix2 s n) = pj (A2 (a0 V0) s) (B2 (a9 V0)) (A2 (a12 V0) 0) n := by
  unfold res_main_v15 pj
  pointwise
  simp only [v13_apply]
theorem v18_apply (h : Fin 8) (s : Fin 8192) (l : Fin 64) : (res_main_v18 V0 : FVec Ideal S8x8192x64 .f32) (ix3 h s l) = pj (A2 (a0 V0) s) (B2 (a9 V0)) (A2 (a12 V0) 0) ⟨64 * h.val + l.val, by omega⟩ := by
  rw [← v15_apply]
  unfold res_main_v18
  pointwise
  refine congrArg (fun k => (res_main_v15 V0 : FVec Ideal S8192x2464 .f32) (ix2 s k)) (Fin.ext ?_)
  dsimp only
  omega
theorem v21_apply (h : Fin 2) (s : Fin 8192) (l : Fin 64) : (res_main_v21 V0 : FVec Ideal S2x8192x64 .f32) (ix3 h s l) = pj (A2 (a0 V0) s) (B2 (a9 V0)) (A2 (a12 V0) 0) ⟨512 + (64 * h.val + l.val), by omega⟩ := by
  rw [← v15_apply]
  unfold res_main_v21
  pointwise
  refine congrArg (fun k => (res_main_v15 V0 : FVec Ideal S8192x2464 .f32) (ix2 s k)) (Fin.ext ?_)
  dsimp only
  omega
theorem v28_apply (s : Fin 8192) (n : Fin 384) : (res_main_v28 V0 : FVec Ideal S8192x384 .f32) (ix2 s n) = pj (A2 (a0 V0) s) (B2 (a9 V0)) (A2 (a12 V0) 0) ⟨1280 + n.val, by omega⟩ := by
  rw [← v15_apply]
  unfold res_main_v28
  pointwise
theorem v29_apply (s : Fin 8192) (n : Fin 256) : (res_main_v29 V0 : FVec Ideal S8192x256 .f32) (ix2 s n) = pj (A2 (a0 V0) s) (B2 (a9 V0)) (A2 (a12 V0) 0) ⟨1664 + n.val, by omega⟩ := by
  rw [← v15_apply]
  unfold res_main_v29
  pointwise
theorem v45_apply (h : Fin 8) (s : Fin 8192) (l : Fin 64) : (res_main_v45 V0 : FVec Ideal S8x8192x64 .f32) (ix3 h s l)
    = nrm ((1 / 64 : ℝ) : EReal) (fun l : Fin 64 => pj (A2 (a0 V0) s) (B2 (a9 V0)) (A2 (a12 V0) 0) ⟨64 * h.val + l.val, by omega⟩) (A2 (a13 V0) 0) l := by
  refine (n8x64_apply (res_main_v18 V0) (a13 V0) h s l).trans ?_
  simp only [v18_apply]
theorem v98_apply (h : Fin 2) (s : Fin 8192) (l : Fin 64) : (res_main_v98 V0 : FVec Ideal S2x8192x64 .f32) (ix3 h s l)
    = nrm ((1 / 64 : ℝ) : EReal) (fun l : Fin 64 => pj (A2 (a0 V0) s) (B2 (a9 V0)) (A2 (a12 V0) 0) ⟨512 + (64 * h.val + l.val), by omega⟩) (A2 (a14 V0) 0) l := by
  refine (n2x64_apply (res_main_v21 V0) (a14 V0) h s l).trans ?_
  simp only [v21_apply]
theorem v149_apply (s : Fin 8192) (n : Fin 384) : (res_main_v149 V0 : FVec Ideal S8192x384 .f32) (ix2 s n) = cq (A2 (a0 V0) s) (B2 (a9 V0)) (A2 (a12 V0) 0) (A2 (a15 V0) 0) n := by
  refine (n384_apply (res_main_v28 V0) (a15 V0) s n).trans ?_
  unfold cq
  rw [show A2 (res_main_v28 V0 : FVec Ideal S8192x384 .f32) s = fun j : Fin 384 => pj (A2 (a0 V0) s) (B2 (a9 V0)) (A2 (a12 V0) 0) ⟨1280 + j.val, by omega⟩ from funext (v28_apply V0 s)]
theorem v163_apply (s : Fin 8192) (n : Fin 256) : (res_main_v163 V0 : FVec Ideal S8192x256 .f32) (ix2 s n) = ckv (A2 (a0 V0) s) (B2 (a9 V0)) (A2 (a12 V0) 0) (A2 (a16 V0) 0) n := by
  refine (n256_apply (res_main_v29 V0) (a16 V0) s n).trans ?_
  unfold ckv
  rw [show A2 (res_main_v29 V0 : FVec Ideal S8192x256 .f32) s = fun j : Fin 256 => pj (A2 (a0 V0) s) (B2 (a9 V0)) (A2 (a12 V0) 0) ⟨1664 + j.val, by omega⟩ from funext (v29_apply V0 s)]
theorem v167_apply (h : Fin 4) (s : Fin 8192) (l : Fin 96) : (res_main_v167 V0 : FVec Ideal S4x8192x96 .f32) (ix3 h s l) = hq (A2 (a0 V0) s) (B2 (a9 V0)) (B2 (a10 V0)) (A2 (a12 V0) 0) (A2 (a15 V0) 0) h l := by
  unfold res_main_v167 hq pq
  pointwise
  simp only [v149_apply, Nat.mul_comm]
theorem v171_apply (h : Fin 4) (s : Fin 8192) (l : Fin 192) : (res_main_v171 V0 : FVec Ideal S4x8192x192 .f32) (ix3 h s l) = pkv (A2 (a0 V0) s) (B2 (a9 V0)) (B2 (a11 V0)) (A2 (a12 V0) 0) (A2 (a16 V0) 0) ⟨192 * h.val + l.val, by omega⟩ := by
  unfold res_main_v171 pkv
  pointwise
  simp only [v163_apply, Nat.mul_comm]
theorem v175_apply (h : Fin 4) (s : Fin 8192) (l : Fin 96) : (res_main_v175 V0 : FVec Ideal S4x8192x96 .f32) (ix3 h s l) = hk (A2 (a0 V0) s) (B2 (a9 V0)) (B2 (a11 V0)) (A2 (a12 V0) 0) (A2 (a16 V0) 0) h l := by
  unfold res_main_v175 hk
  pointwise
  simp only [v171_apply, v15_apply, Nat.zero_add]
theorem v189_apply (h : Fin 4) (s : Fin 8192) (l : Fin 96) : (res_main_v189 V0 : FVec Ideal S4x8192x96 .f32) (ix3 h s l)
    = nrm ((1 / 96 : ℝ) : EReal) (hq (A2 (a0 V0) s) (B2 (a9 V0)) (B2 (a10 V0)) (A2 (a12 V0) 0) (A2 (a15 V0) 0) h) (A2 (a17 V0) 0) l := by
  refine (n4x96_apply (res_main_v167 V0) (a17 V0) h s l).trans ?_
  simp only [v167_apply]
theorem v203_apply (h : Fin 4) (s : Fin 8192) (l : Fin 96) : (res_main_v203 V0 : FVec Ideal S4x8192x96 .f32) (ix3 h s l)
    = nrm ((1 / 96 : ℝ) : EReal) (hk (A2 (a0 V0) s) (B2 (a9 V0)) (B2 (a11 V0)) (A2 (a12 V0) 0) (A2 (a16 V0) 0) h) (A2 (a18 V0) 0) l := by
  refine (n4x96_apply (res_main_v175 V0) (a18 V0) h s l).trans ?_
  simp only [v175_apply]

/-- The thirteen results, as the reference's run gives them. -/
def rGate : FVec Ideal S8x8192x64 .f32 :=
  (transpose S8x8192x64 [1, 0, 2] (shapeCast _ (extractStridedSlice S8192x512 ![0, 768] (res_main_v15 V0) slices_S8192x2464_S8192x512_0_768) shapeCasts_S8192x512_S8192x8x64) transposes_S8192x8x64_S8x8192x64_1_0_2)
def rVal : FVec Ideal S2x8192x64 .f32 :=
  (transpose S2x8192x64 [1, 0, 2] (shapeCast _ (extractStridedSlice S8192x128 ![0, 640] (res_main_v15 V0) slices_S8192x2464_S8192x128_0_640) shapeCasts_S8192x128_S8192x2x64) transposes_S8192x2x64_S2x8192x64_1_0_2)
def r15 : FVec Ideal S8192x1024 .bf16 :=
  truncf (F := Ideal) .bf16 (res_main_v13 V0) bitsLt_bf16_f32
def r16 : FVec Ideal S8192x1536 .f32 :=
  concatenate S8192x1536 1 [⟨S8192x1024, (fl8 (pd8 (rGate V0)))⟩, ⟨S8192x512, (extractStridedSlice S8192x512 ![0, 1952] (res_main_v15 V0) slices_S8192x2464_S8192x512_0_1952)⟩] concatenates_S8192x1024_S8192x512_S8192x1536_d1
def r17 : FVec Ideal S8192x1920 .f32 :=
  concatenate S8192x1920 1 [⟨S8192x1024, fl8 (pd8 (res_main_v18 V0))⟩, ⟨S8192x256, fl2 (pd2 (res_main_v21 V0))⟩, ⟨S8192x384, (res_main_v28 V0 : FVec Ideal S8192x384 .f32)⟩, ⟨S8192x256, (res_main_v29 V0 : FVec Ideal S8192x256 .f32)⟩] concatenates_S8192x1024_S8192x256_S8192x384_S8192x256_S8192x1920_d1
def r18 : FVec Ideal S8192x512 .f32 :=
  fl4 (pd4 (res_main_v167 V0))
def r19 : FVec Ideal S8192x512 .f32 :=
  fl4 (pd4 (res_main_v175 V0))
def r20 : FVec Ideal S8192x384 .bf16 :=
  truncf (F := Ideal) .bf16 (res_main_v149 V0) bitsLt_bf16_f32
def r21 : FVec Ideal S8192x256 .bf16 :=
  truncf (F := Ideal) .bf16 (res_main_v163 V0) bitsLt_bf16_f32
def r22 : FVec Ideal S8x8192x128 .bf16 :=
  truncf (F := Ideal) .bf16 (pd8 (mulf (ro8 (res_main_v45 V0) (a1 V0) (a2 V0) (a3 V0) (a4 V0)) (broadcastInDim S8x8192x64 ![] bcast_S_S8x8192x64 (constant S_ .f32 0x3E000000#32)))) bitsLt_bf16_f32
def r23 : FVec Ideal S2x8192x128 .bf16 :=
  truncf (F := Ideal) .bf16 (pd2 (ro2 (res_main_v98 V0) (a1 V0) (a2 V0) (a3 V0) (a4 V0))) bitsLt_bf16_f32
def r24 : FVec Ideal S2x8192x128 .bf16 :=
  truncf (F := Ideal) .bf16 (pd2 (rVal V0)) bitsLt_bf16_f32
def r25 : FVec Ideal S4x8192x128 .bf16 :=
  truncf (F := Ideal) .bf16 (pd4 (mulf (ro4 (res_main_v189 V0) (a5 V0) (a6 V0) (a7 V0) (a8 V0)) (broadcastInDim S4x8192x96 ![] bcast_S_S4x8192x96 (constant S_ .f32 0x3DD105EC#32)))) bitsLt_bf16_f32
def r26 : FVec Ideal S4x8192x128 .bf16 :=
  truncf (F := Ideal) .bf16 (pd4 (ro4 (res_main_v203 V0) (a5 V0) (a6 V0) (a7 V0) (a8 V0))) bitsLt_bf16_f32
def r27 : FVec Ideal S4x8192x128 .bf16 :=
  truncf (F := Ideal) .bf16 (extractStridedSlice S4x8192x128 ![0, 0, 64] (res_main_v171 V0) slices_S4x8192x192_S4x8192x128_0_0_64) bitsLt_bf16_f32

theorem r15_apply (s : Fin 8192) (n : Fin 1024) : r15 V0 (ix2 s n) = xn (A2 (a0 V0) s) (A2 (a12 V0) 0) n := v13_apply V0 s n
theorem r20_apply (s : Fin 8192) (n : Fin 384) : r20 V0 (ix2 s n) = cq (A2 (a0 V0) s) (B2 (a9 V0)) (A2 (a12 V0) 0) (A2 (a15 V0) 0) n := v149_apply V0 s n
theorem r21_apply (s : Fin 8192) (n : Fin 256) : r21 V0 (ix2 s n) = ckv (A2 (a0 V0) s) (B2 (a9 V0)) (A2 (a12 V0) 0) (A2 (a16 V0) 0) n := v163_apply V0 s n
theorem gate_apply (h : Fin 8) (s : Fin 8192) (l : Fin 64) : rGate V0 (ix3 h s l) = pj (A2 (a0 V0) s) (B2 (a9 V0)) (A2 (a12 V0) 0) ⟨768 + (64 * h.val + l.val), by omega⟩ := by
  rw [← v15_apply]
  unfold rGate
  pointwise
  refine congrArg (fun k => (res_main_v15 V0 : FVec Ideal S8192x2464 .f32) (ix2 s k)) (Fin.ext ?_)
  dsimp only
  omega
theorem val_apply (h : Fin 2) (s : Fin 8192) (l : Fin 64) : rVal V0 (ix3 h s l) = pj (A2 (a0 V0) s) (B2 (a9 V0)) (A2 (a12 V0) 0) ⟨640 + (64 * h.val + l.val), by omega⟩ := by
  rw [← v15_apply]
  unfold rVal
  pointwise
  refine congrArg (fun k => (res_main_v15 V0 : FVec Ideal S8192x2464 .f32) (ix2 s k)) (Fin.ext ?_)
  dsimp only
  omega
theorem r16_apply (s : Fin 8192) (n : Fin 1536) : r16 V0 (ix2 s n) = T16 (A2 (a0 V0) s) (B2 (a9 V0)) (A2 (a12 V0) 0) n := by
  unfold r16 T16
  pointwise
  simp only [fl8_apply, pd8_apply, gate_apply, v15_apply]
theorem r17_apply (s : Fin 8192) (n : Fin 1920) : r17 V0 (ix2 s n) = T17 (A2 (a0 V0) s) (B2 (a9 V0)) (A2 (a12 V0) 0) n := by
  have hn := n.isLt
  unfold r17 T17
  pointwise
  by_cases h1 : n.val < 1024
  · simp only [h1, ↓reduceDIte, fl8_apply, pd8_apply, v18_apply]
  by_cases h2 : n.val < 1280
  · have e : n.val - 1024 < 256 := by omega
    simp only [h1, h2, e, ↓reduceDIte, fl2_apply, pd2_apply, v21_apply]
  have e2 : ¬ n.val - 1024 < 256 := by omega
  by_cases h3 : n.val < 1664
  · have e3 : n.val - 1024 - 256 < 384 := by omega
    have e4 : 1280 + (n.val - 1024 - 256) = n.val := by omega
    simp only [h1, h2, e2, e3, e4, ↓reduceDIte, v28_apply]
  · have e3 : ¬ n.val - 1024 - 256 < 384 := by omega
    have e4 : 1664 + (n.val - 1024 - 256 - 384) = n.val := by omega
    simp only [h1, h2, e2, e3, e4, ↓reduceDIte, v29_apply]
theorem r18_apply (s : Fin 8192) (n : Fin 512) : r18 V0 (ix2 s n) = T18 (A2 (a0 V0) s) (B2 (a9 V0)) (B2 (a10 V0)) (A2 (a12 V0) 0) (A2 (a15 V0) 0) n := by
  unfold r18 T18
  rw [fl4_apply, pd4_apply]
  simp only [v167_apply]
theorem r19_apply (s : Fin 8192) (n : Fin 512) : r19 V0 (ix2 s n) = T19 (A2 (a0 V0) s) (B2 (a9 V0)) (B2 (a11 V0)) (A2 (a12 V0) 0) (A2 (a16 V0) 0) n := by
  unfold r19 T19
  rw [fl4_apply, pd4_apply]
  simp only [v175_apply]
theorem r22_apply (h : Fin 8) (s : Fin 8192) (l : Fin 128) : r22 V0 (ix3 h s l) = T22 (A2 (a0 V0) s) (B2 (a9 V0)) (A2 (a12 V0) 0) (A2 (a13 V0) 0) (A2 (a1 V0) s) (A2 (a2 V0) s) (A2 (a3 V0) s) (A2 (a4 V0) s) h l := by
  refine (pd8_apply _ h s l).trans ?_
  unfold T22 scA
  pointwise
  simp only [ro8_apply, v45_apply]
theorem r23_apply (h : Fin 2) (s : Fin 8192) (l : Fin 128) : r23 V0 (ix3 h s l) = T23 (A2 (a0 V0) s) (B2 (a9 V0)) (A2 (a12 V0) 0) (A2 (a14 V0) 0) (A2 (a1 V0) s) (A2 (a2 V0) s) (A2 (a3 V0) s) (A2 (a4 V0) s) h l := by
  refine (pd2_apply _ h s l).trans ?_
  unfold T23
  simp only [ro2_apply, v98_apply]
theorem r24_apply (h : Fin 2) (s : Fin 8192) (l : Fin 128) : r24 V0 (ix3 h s l) = T24 (A2 (a0 V0) s) (B2 (a9 V0)) (A2 (a12 V0) 0) h l := by
  refine (pd2_apply _ h s l).trans ?_
  unfold T24
  simp only [val_apply]
theorem r25_apply (h : Fin 4) (s : Fin 8192) (l : Fin 128) : r25 V0 (ix3 h s l) = T25 (A2 (a0 V0) s) (B2 (a9 V0)) (B2 (a10 V0)) (A2 (a12 V0) 0) (A2 (a15 V0) 0) (A2 (a17 V0) 0) (A2 (a5 V0) s) (A2 (a6 V0) s) (A2 (a7 V0) s) (A2 (a8 V0) s) h l := by
  refine (pd4_apply _ h s l).trans ?_
  unfold T25 scB
  pointwise
  simp only [ro4_apply, v189_apply]
theorem r26_apply (h : Fin 4) (s : Fin 8192) (l : Fin 128) : r26 V0 (ix3 h s l) = T26 (A2 (a0 V0) s) (B2 (a9 V0)) (B2 (a11 V0)) (A2 (a12 V0) 0) (A2 (a16 V0) 0) (A2 (a18 V0) 0) (A2 (a5 V0) s) (A2 (a6 V0) s) (A2 (a7 V0) s) (A2 (a8 V0) s) h l := by
  refine (pd4_apply _ h s l).trans ?_
  unfold T26
  simp only [ro4_apply, v203_apply]
theorem r27_apply (h : Fin 4) (s : Fin 8192) (l : Fin 128) : r27 V0 (ix3 h s l) = T27 (A2 (a0 V0) s) (B2 (a9 V0)) (B2 (a11 V0)) (A2 (a12 V0) 0) (A2 (a16 V0) 0) h l := by
  unfold r27 T27
  pointwise
  rw [v171_apply]
  refine congrArg _ (Fin.ext ?_)
  dsimp only
  omega

end Cert.PreRefIdeal.Val

end
-- ==== Proof.PreClaim.lean ====
/- The input-projection kernel computes the reference's thirteen arrays. -/
module

public import proofs.«01_k».proof.Proof.PreArray
public import proofs.«01_k».proof.Proof.PreEnds
public import proofs.«01_k».proof.Proof.PreRefVal
public import proofs.«01_k».proof.Defs

@[expose] public section

set_option maxRecDepth 16384

noncomputable section

namespace Cert.PreProof

open Idealize.ShloMosaic Idealize.ShloMosaic.TcCoe Idealize.SL.Sem Cert.Online Cert.PreIdeal.Block

section
variable (m : (ℓ : Loc Cert.PreIdeal.nD Cert.PreIdeal.τ Cert.PreIdeal.sig) → Buf (Elt Ideal) ℓ) (c : Dev Cert.PreIdeal.nD)
  (U : Valuation Cert.PreRefIdeal.τ Cert.PreRefIdeal.sig (Elt Ideal))
  (e0 : Cert.PreRefIdeal.Val.a0 U = a0 m c)
  (e1 : Cert.PreRefIdeal.Val.a1 U = a1 m c)
  (e2 : Cert.PreRefIdeal.Val.a2 U = a2 m c)
  (e3 : Cert.PreRefIdeal.Val.a3 U = a3 m c)
  (e4 : Cert.PreRefIdeal.Val.a4 U = a4 m c)
  (e5 : Cert.PreRefIdeal.Val.a5 U = a5 m c)
  (e6 : Cert.PreRefIdeal.Val.a6 U = a6 m c)
  (e7 : Cert.PreRefIdeal.Val.a7 U = a7 m c)
  (e8 : Cert.PreRefIdeal.Val.a8 U = a8 m c)
  (e9 : Cert.PreRefIdeal.Val.a9 U = a9 m c)
  (e10 : Cert.PreRefIdeal.Val.a10 U = a10 m c)
  (e11 : Cert.PreRefIdeal.Val.a11 U = a11 m c)
  (e12 : Cert.PreRefIdeal.Val.a12 U = a12 m c)
  (e13 : Cert.PreRefIdeal.Val.a13 U = a13 m c)
  (e14 : Cert.PreRefIdeal.Val.a14 U = a14 m c)
  (e15 : Cert.PreRefIdeal.Val.a15 U = a15 m c)
  (e16 : Cert.PreRefIdeal.Val.a16 U = a16 m c)
  (e17 : Cert.PreRefIdeal.Val.a17 U = a17 m c)
  (e18 : Cert.PreRefIdeal.Val.a18 U = a18 m c)

include e0 e1 e2 e3 e4 e5 e6 e7 e8 e9 e10 e11 e12 e13 e14 e15 e16 e17 e18 in
theorem eq15 : ((Cert.PreIdeal.Own.dats m 0 c).arrAt 15 Cert.PreIdeal.cfg0.N : FVec Ideal Cert.PreIdeal.S8192x1024 .bf16) = Cert.PreRefIdeal.Val.r15 U := by
  refine ext2 _ _ fun s n => ?_
  refine (final15 m c s n).trans (Eq.trans ?_ (Cert.PreRefIdeal.Val.r15_apply U s n).symm)
  rw [e0, e12]

include e0 e1 e2 e3 e4 e5 e6 e7 e8 e9 e10 e11 e12 e13 e14 e15 e16 e17 e18 in
theorem eq16 : ((Cert.PreIdeal.Own.dats m 0 c).arrAt 16 Cert.PreIdeal.cfg0.N : FVec Ideal Cert.PreIdeal.S8192x1536 .f32) = Cert.PreRefIdeal.Val.r16 U := by
  refine ext2 _ _ fun s n => ?_
  refine (final16 m c s n).trans (Eq.trans ?_ (Cert.PreRefIdeal.Val.r16_apply U s n).symm)
  rw [e0, e9, e12]

include e0 e1 e2 e3 e4 e5 e6 e7 e8 e9 e10 e11 e12 e13 e14 e15 e16 e17 e18 in
theorem eq17 : ((Cert.PreIdeal.Own.dats m 0 c).arrAt 17 Cert.PreIdeal.cfg0.N : FVec Ideal Cert.PreIdeal.S8192x1920 .f32) = Cert.PreRefIdeal.Val.r17 U := by
  refine ext2 _ _ fun s n => ?_
  refine (final17 m c s n).trans (Eq.trans ?_ (Cert.PreRefIdeal.Val.r17_apply U s n).symm)
  rw [e0, e9, e12]

include e0 e1 e2 e3 e4 e5 e6 e7 e8 e9 e10 e11 e12 e13 e14 e15 e16 e17 e18 in
theorem eq18 : ((Cert.PreIdeal.Own.dats m 0 c).arrAt 18 Cert.PreIdeal.cfg0.N : FVec Ideal Cert.PreIdeal.S8192x512 .f32) = Cert.PreRefIdeal.Val.r18 U := by
  refine ext2 _ _ fun s n => ?_
  refine (final18 m c s n).trans (Eq.trans ?_ (Cert.PreRefIdeal.Val.r18_apply U s n).symm)
  rw [e0, e9, e10, e12, e15]

include e0 e1 e2 e3 e4 e5 e6 e7 e8 e9 e10 e11 e12 e13 e14 e15 e16 e17 e18 in
theorem eq19 : ((Cert.PreIdeal.Own.dats m 0 c).arrAt 19 Cert.PreIdeal.cfg0.N : FVec Ideal Cert.PreIdeal.S8192x512 .f32) = Cert.PreRefIdeal.Val.r19 U := by
  refine ext2 _ _ fun s n => ?_
  refine (final19 m c s n).trans (Eq.trans ?_ (Cert.PreRefIdeal.Val.r19_apply U s n).symm)
  rw [e0, e9, e11, e12, e16]

include e0 e1 e2 e3 e4 e5 e6 e7 e8 e9 e10 e11 e12 e13 e14 e15 e16 e17 e18 in
theorem eq20 : ((Cert.PreIdeal.Own.dats m 0 c).arrAt 20 Cert.PreIdeal.cfg0.N : FVec Ideal Cert.PreIdeal.S8192x384 .bf16) = Cert.PreRefIdeal.Val.r20 U := by
  refine ext2 _ _ fun s n => ?_
  refine (final20 m c s n).trans (Eq.trans ?_ (Cert.PreRefIdeal.Val.r20_apply U s n).symm)
  rw [e0, e9, e12, e15]

include e0 e1 e2 e3 e4 e5 e6 e7 e8 e9 e10 e11 e12 e13 e14 e15 e16 e17 e18 in
theorem eq21 : ((Cert.PreIdeal.Own.dats m 0 c).arrAt 21 Cert.PreIdeal.cfg0.N : FVec Ideal Cert.PreIdeal.S8192x256 .bf16) = Cert.PreRefIdeal.Val.r21 U := by
  refine ext2 _ _ fun s n => ?_
  refine (final21 m c s n).trans (Eq.trans ?_ (Cert.PreRefIdeal.Val.r21_apply U s n).symm)
  rw [e0, e9, e12, e16]

include e0 e1 e2 e3 e4 e5 e6 e7 e8 e9 e10 e11 e12 e13 e14 e15 e16 e17 e18 in
theorem eq22 : ((Cert.PreIdeal.Own.dats m 0 c).arrAt 22 Cert.PreIdeal.cfg0.N : FVec Ideal Cert.PreIdeal.S8x8192x128 .bf16) = Cert.PreRefIdeal.Val.r22 U := by
  refine ext3 _ _ fun h s n => ?_
  refine (final22 m c h s n).trans (Eq.trans ?_ (Cert.PreRefIdeal.Val.r22_apply U h s n).symm)
  rw [e0, e1, e2, e3, e4, e9, e12, e13]

include e0 e1 e2 e3 e4 e5 e6 e7 e8 e9 e10 e11 e12 e13 e14 e15 e16 e17 e18 in
theorem eq23 : ((Cert.PreIdeal.Own.dats m 0 c).arrAt 23 Cert.PreIdeal.cfg0.N : FVec Ideal Cert.PreIdeal.S2x8192x128 .bf16) = Cert.PreRefIdeal.Val.r23 U := by
  refine ext3 _ _ fun h s n => ?_
  refine (final23 m c h s n).trans (Eq.trans ?_ (Cert.PreRefIdeal.Val.r23_apply U h s n).symm)
  rw [e0, e1, e2, e3, e4, e9, e12, e14]

include e0 e1 e2 e3 e4 e5 e6 e7 e8 e9 e10 e11 e12 e13 e14 e15 e16 e17 e18 in
theorem eq24 : ((Cert.PreIdeal.Own.dats m 0 c).arrAt 24 Cert.PreIdeal.cfg0.N : FVec Ideal Cert.PreIdeal.S2x8192x128 .bf16) = Cert.PreRefIdeal.Val.r24 U := by
  refine ext3 _ _ fun h s n => ?_
  refine (final24 m c h s n).trans (Eq.trans ?_ (Cert.PreRefIdeal.Val.r24_apply U h s n).symm)
  rw [e0, e9, e12]

include e0 e1 e2 e3 e4 e5 e6 e7 e8 e9 e10 e11 e12 e13 e14 e15 e16 e17 e18 in
theorem eq25 : ((Cert.PreIdeal.Own.dats m 0 c).arrAt 25 Cert.PreIdeal.cfg0.N : FVec Ideal Cert.PreIdeal.S4x8192x128 .bf16) = Cert.PreRefIdeal.Val.r25 U := by
  refine ext3 _ _ fun h s n => ?_
  refine (final25 m c h s n).trans (Eq.trans ?_ (Cert.PreRefIdeal.Val.r25_apply U h s n).symm)
  rw [e0, e5, e6, e7, e8, e9, e10, e12, e15, e17]

include e0 e1 e2 e3 e4 e5 e6 e7 e8 e9 e10 e11 e12 e13 e14 e15 e16 e17 e18 in
theorem eq26 : ((Cert.PreIdeal.Own.dats m 0 c).arrAt 26 Cert.PreIdeal.cfg0.N : FVec Ideal Cert.PreIdeal.S4x8192x128 .bf16) = Cert.PreRefIdeal.Val.r26 U := by
  refine ext3 _ _ fun h s n => ?_
  refine (final26 m c h s n).trans (Eq.trans ?_ (Cert.PreRefIdeal.Val.r26_apply U h s n).symm)
  rw [e0, e5, e6, e7, e8, e9, e11, e12, e16, e18]

include e0 e1 e2 e3 e4 e5 e6 e7 e8 e9 e10 e11 e12 e13 e14 e15 e16 e17 e18 in
theorem eq27 : ((Cert.PreIdeal.Own.dats m 0 c).arrAt 27 Cert.PreIdeal.cfg0.N : FVec Ideal Cert.PreIdeal.S4x8192x128 .bf16) = Cert.PreRefIdeal.Val.r27 U := by
  refine ext3 _ _ fun h s n => ?_
  refine (final27 m c h s n).trans (Eq.trans ?_ (Cert.PreRefIdeal.Val.r27_apply U h s n).symm)
  rw [e0, e9, e11, e12, e16]
end

set_option maxHeartbeats 4000000 in
theorem algebraic : Cert.algebraic_PreIdeal_PreRefIdeal (hPreIdeal := Cert.PreIdeal.Gen.facts)
    (hPreRefIdeal := Cert.PreRefIdeal.Gen.facts) := by
  intro m g m' g' _ hargs
  refine ⟨_, _, _, _, _, _, _, _, _, _, _, _, _, ends m g, ?_⟩
  refine (θ_run _ _ _).mono ?_ (Cert.PreRefIdeal.Value.run m' g')
  intro r hr c
  obtain ⟨h15, h16, h17, h18, h19, h20, h21, h22, h23, h24, h25, h26, h27, hk⟩ := hr c
  obtain ⟨a0, a1, a2, a3, a4, a5, a6, a7, a8, a9, a10, a11, a12, a13, a14, a15, a16, a17, a18⟩ := hargs c
  exact ⟨h15.trans (eq15 m c (Idealize.ShloMosaic.StableHlo.launchContents m' c) a0 a1 a2 a3 a4 a5 a6 a7 a8 a9 a10 a11 a12 a13 a14 a15 a16 a17 a18).symm,
    h16.trans (eq16 m c (Idealize.ShloMosaic.StableHlo.launchContents m' c) a0 a1 a2 a3 a4 a5 a6 a7 a8 a9 a10 a11 a12 a13 a14 a15 a16 a17 a18).symm,
    h17.trans (eq17 m c (Idealize.ShloMosaic.StableHlo.launchContents m' c) a0 a1 a2 a3 a4 a5 a6 a7 a8 a9 a10 a11 a12 a13 a14 a15 a16 a17 a18).symm,
    h18.trans (eq18 m c (Idealize.ShloMosaic.StableHlo.launchContents m' c) a0 a1 a2 a3 a4 a5 a6 a7 a8 a9 a10 a11 a12 a13 a14 a15 a16 a17 a18).symm,
    h19.trans (eq19 m c (Idealize.ShloMosaic.StableHlo.launchContents m' c) a0 a1 a2 a3 a4 a5 a6 a7 a8 a9 a10 a11 a12 a13 a14 a15 a16 a17 a18).symm,
    h20.trans (eq20 m c (Idealize.ShloMosaic.StableHlo.launchContents m' c) a0 a1 a2 a3 a4 a5 a6 a7 a8 a9 a10 a11 a12 a13 a14 a15 a16 a17 a18).symm,
    h21.trans (eq21 m c (Idealize.ShloMosaic.StableHlo.launchContents m' c) a0 a1 a2 a3 a4 a5 a6 a7 a8 a9 a10 a11 a12 a13 a14 a15 a16 a17 a18).symm,
    h22.trans (eq22 m c (Idealize.ShloMosaic.StableHlo.launchContents m' c) a0 a1 a2 a3 a4 a5 a6 a7 a8 a9 a10 a11 a12 a13 a14 a15 a16 a17 a18).symm,
    h23.trans (eq23 m c (Idealize.ShloMosaic.StableHlo.launchContents m' c) a0 a1 a2 a3 a4 a5 a6 a7 a8 a9 a10 a11 a12 a13 a14 a15 a16 a17 a18).symm,
    h24.trans (eq24 m c (Idealize.ShloMosaic.StableHlo.launchContents m' c) a0 a1 a2 a3 a4 a5 a6 a7 a8 a9 a10 a11 a12 a13 a14 a15 a16 a17 a18).symm,
    h25.trans (eq25 m c (Idealize.ShloMosaic.StableHlo.launchContents m' c) a0 a1 a2 a3 a4 a5 a6 a7 a8 a9 a10 a11 a12 a13 a14 a15 a16 a17 a18).symm,
    h26.trans (eq26 m c (Idealize.ShloMosaic.StableHlo.launchContents m' c) a0 a1 a2 a3 a4 a5 a6 a7 a8 a9 a10 a11 a12 a13 a14 a15 a16 a17 a18).symm,
    h27.trans (eq27 m c (Idealize.ShloMosaic.StableHlo.launchContents m' c) a0 a1 a2 a3 a4 a5 a6 a7 a8 a9 a10 a11 a12 a13 a14 a15 a16 a17 a18).symm, hk⟩

end Cert.PreProof

end
-- ==== Proof.lean ====
/- The claims about the calls of the training step: each program's frame, and that each call's results are its
   reference's. -/
module

public import proofs.«01_k».proof.Defs
public import proofs.«01_k».proof.Proof.Gen.FwdA
public import proofs.«01_k».proof.Proof.Gen.FwdA.Frame
public import proofs.«01_k».proof.Proof.Gen.FwdA.Launch
public import proofs.«01_k».proof.Proof.Gen.FwdA.Loops
public import proofs.«01_k».proof.Proof.Gen.FwdA.Points
public import proofs.«01_k».proof.Proof.Gen.FwdA.Skeleton
public import proofs.«01_k».proof.Proof.Gen.FwdAIdeal
public import proofs.«01_k».proof.Proof.Gen.FwdAIdeal.Frame
public import proofs.«01_k».proof.Proof.Gen.FwdAIdeal.Launch
public import proofs.«01_k».proof.Proof.Gen.FwdAIdeal.Loops
public import proofs.«01_k».proof.Proof.Gen.FwdAIdeal.Points
public import proofs.«01_k».proof.Proof.Gen.FwdAIdeal.Skeleton
public import proofs.«01_k».proof.Proof.Gen.FwdAIdeal.Value
public import proofs.«01_k».proof.Proof.Gen.FwdARefIdeal
public import proofs.«01_k».proof.Proof.Gen.FwdARefIdeal.Run
public import proofs.«01_k».proof.Proof.Gen.Pre_finite_a
public import proofs.«01_k».proof.Proof.FwdAClaim
public import proofs.«01_k».proof.Proof.Gen.FwdB
public import proofs.«01_k».proof.Proof.Gen.FwdB.Frame
public import proofs.«01_k».proof.Proof.Gen.FwdB.Launch
public import proofs.«01_k».proof.Proof.Gen.FwdB.Loops
public import proofs.«01_k».proof.Proof.Gen.FwdB.Points
public import proofs.«01_k».proof.Proof.Gen.FwdB.Skeleton
public import proofs.«01_k».proof.Proof.Gen.FwdBIdeal
public import proofs.«01_k».proof.Proof.Gen.FwdBIdeal.Frame
public import proofs.«01_k».proof.Proof.Gen.FwdBIdeal.Launch
public import proofs.«01_k».proof.Proof.Gen.FwdBIdeal.Loops
public import proofs.«01_k».proof.Proof.Gen.FwdBIdeal.Points
public import proofs.«01_k».proof.Proof.Gen.FwdBIdeal.Skeleton
public import proofs.«01_k».proof.Proof.Gen.FwdBIdeal.Value
public import proofs.«01_k».proof.Proof.Gen.FwdBRefIdeal
public import proofs.«01_k».proof.Proof.Gen.FwdBRefIdeal.Run
public import proofs.«01_k».proof.Proof.Gen.Pre_finite_b
public import proofs.«01_k».proof.Proof.FwdBClaim
public import proofs.«01_k».proof.Proof.Gen.BwdA
public import proofs.«01_k».proof.Proof.Gen.BwdA.Frame
public import proofs.«01_k».proof.Proof.Gen.BwdA.Launch
public import proofs.«01_k».proof.Proof.Gen.BwdA.Loops
public import proofs.«01_k».proof.Proof.Gen.BwdA.Points
public import proofs.«01_k».proof.Proof.Gen.BwdA.Skeleton
public import proofs.«01_k».proof.Proof.Gen.BwdAIdeal
public import proofs.«01_k».proof.Proof.Gen.BwdAIdeal.Frame
public import proofs.«01_k».proof.Proof.Gen.BwdAIdeal.Launch
public import proofs.«01_k».proof.Proof.Gen.BwdAIdeal.Loops
public import proofs.«01_k».proof.Proof.Gen.BwdAIdeal.Points
public import proofs.«01_k».proof.Proof.Gen.BwdAIdeal.Skeleton
public import proofs.«01_k».proof.Proof.Gen.BwdAIdeal.Value
public import proofs.«01_k».proof.Proof.Gen.BwdARefIdeal
public import proofs.«01_k».proof.Proof.Gen.BwdARefIdeal.Run
public import proofs.«01_k».proof.Proof.BwdAClaim
public import proofs.«01_k».proof.Proof.Gen.BwdB
public import proofs.«01_k».proof.Proof.Gen.BwdB.Frame
public import proofs.«01_k».proof.Proof.Gen.BwdB.Launch
public import proofs.«01_k».proof.Proof.Gen.BwdB.Loops
public import proofs.«01_k».proof.Proof.Gen.BwdB.Points
public import proofs.«01_k».proof.Proof.Gen.BwdB.Skeleton
public import proofs.«01_k».proof.Proof.Gen.BwdBIdeal
public import proofs.«01_k».proof.Proof.Gen.BwdBIdeal.Frame
public import proofs.«01_k».proof.Proof.Gen.BwdBIdeal.Launch
public import proofs.«01_k».proof.Proof.Gen.BwdBIdeal.Loops
public import proofs.«01_k».proof.Proof.Gen.BwdBIdeal.Points
public import proofs.«01_k».proof.Proof.Gen.BwdBIdeal.Skeleton
public import proofs.«01_k».proof.Proof.Gen.BwdBIdeal.Value
public import proofs.«01_k».proof.Proof.Gen.BwdBRefIdeal
public import proofs.«01_k».proof.Proof.Gen.BwdBRefIdeal.Run
public import proofs.«01_k».proof.Proof.BwdBClaim
public import proofs.«01_k».proof.Proof.Gen.GradIn
public import proofs.«01_k».proof.Proof.Gen.GradIn.Frame
public import proofs.«01_k».proof.Proof.Gen.GradIn.Launch
public import proofs.«01_k».proof.Proof.Gen.GradIn.Points
public import proofs.«01_k».proof.Proof.Gen.GradIn.Skeleton
public import proofs.«01_k».proof.Proof.Gen.GradInIdeal
public import proofs.«01_k».proof.Proof.Gen.GradInIdeal.Frame
public import proofs.«01_k».proof.Proof.Gen.GradInIdeal.Launch
public import proofs.«01_k».proof.Proof.Gen.GradInIdeal.Points
public import proofs.«01_k».proof.Proof.Gen.GradInIdeal.Skeleton
public import proofs.«01_k».proof.Proof.Gen.GradInIdeal.Value
public import proofs.«01_k».proof.Proof.Gen.GradInRefIdeal
public import proofs.«01_k».proof.Proof.Gen.GradInRefIdeal.Run
public import proofs.«01_k».proof.Proof.GradInClaim
public import proofs.«01_k».proof.Proof.Gen.GradOut
public import proofs.«01_k».proof.Proof.Gen.GradOut.Frame
public import proofs.«01_k».proof.Proof.Gen.GradOut.Launch
public import proofs.«01_k».proof.Proof.Gen.GradOut.Points
public import proofs.«01_k».proof.Proof.Gen.GradOut.Skeleton
public import proofs.«01_k».proof.Proof.Gen.GradOutIdeal
public import proofs.«01_k».proof.Proof.Gen.GradOutIdeal.Frame
public import proofs.«01_k».proof.Proof.Gen.GradOutIdeal.Launch
public import proofs.«01_k».proof.Proof.Gen.GradOutIdeal.Points
public import proofs.«01_k».proof.Proof.Gen.GradOutIdeal.Skeleton
public import proofs.«01_k».proof.Proof.Gen.GradOutIdeal.Value
public import proofs.«01_k».proof.Proof.Gen.GradOutRefIdeal
public import proofs.«01_k».proof.Proof.Gen.GradOutRefIdeal.Run
public import proofs.«01_k».proof.Proof.GradOutClaim
public import proofs.«01_k».proof.Proof.Gen.GradUq
public import proofs.«01_k».proof.Proof.Gen.GradUq.Frame
public import proofs.«01_k».proof.Proof.Gen.GradUq.Launch
public import proofs.«01_k».proof.Proof.Gen.GradUq.Points
public import proofs.«01_k».proof.Proof.Gen.GradUq.Skeleton
public import proofs.«01_k».proof.Proof.Gen.GradUqIdeal
public import proofs.«01_k».proof.Proof.Gen.GradUqIdeal.Frame
public import proofs.«01_k».proof.Proof.Gen.GradUqIdeal.Launch
public import proofs.«01_k».proof.Proof.Gen.GradUqIdeal.Points
public import proofs.«01_k».proof.Proof.Gen.GradUqIdeal.Skeleton
public import proofs.«01_k».proof.Proof.Gen.GradUqIdeal.Value
public import proofs.«01_k».proof.Proof.Gen.GradUqRefIdeal
public import proofs.«01_k».proof.Proof.Gen.GradUqRefIdeal.Run
public import proofs.«01_k».proof.Proof.GradUqClaim
public import proofs.«01_k».proof.Proof.Gen.GradUkv
public import proofs.«01_k».proof.Proof.Gen.GradUkv.Frame
public import proofs.«01_k».proof.Proof.Gen.GradUkv.Launch
public import proofs.«01_k».proof.Proof.Gen.GradUkv.Points
public import proofs.«01_k».proof.Proof.Gen.GradUkv.Skeleton
public import proofs.«01_k».proof.Proof.Gen.GradUkvIdeal
public import proofs.«01_k».proof.Proof.Gen.GradUkvIdeal.Frame
public import proofs.«01_k».proof.Proof.Gen.GradUkvIdeal.Launch
public import proofs.«01_k».proof.Proof.Gen.GradUkvIdeal.Points
public import proofs.«01_k».proof.Proof.Gen.GradUkvIdeal.Skeleton
public import proofs.«01_k».proof.Proof.Gen.GradUkvIdeal.Value
public import proofs.«01_k».proof.Proof.Gen.GradUkvRefIdeal
public import proofs.«01_k».proof.Proof.Gen.GradUkvRefIdeal.Run
public import proofs.«01_k».proof.Proof.GradUkvClaim
public import proofs.«01_k».proof.Proof.Gen.Mid
public import proofs.«01_k».proof.Proof.Gen.Mid.Frame
public import proofs.«01_k».proof.Proof.Gen.Mid.Launch
public import proofs.«01_k».proof.Proof.Gen.Mid.Points
public import proofs.«01_k».proof.Proof.Gen.Mid.Skeleton
public import proofs.«01_k».proof.Proof.Gen.MidIdeal
public import proofs.«01_k».proof.Proof.Gen.MidIdeal.Frame
public import proofs.«01_k».proof.Proof.Gen.MidIdeal.Launch
public import proofs.«01_k».proof.Proof.Gen.MidIdeal.Points
public import proofs.«01_k».proof.Proof.Gen.MidIdeal.Skeleton
public import proofs.«01_k».proof.Proof.Gen.MidIdeal.Value
public import proofs.«01_k».proof.Proof.Gen.MidRefIdeal
public import proofs.«01_k».proof.Proof.Gen.MidRefIdeal.Run
public import proofs.«01_k».proof.Proof.MidClaim
public import proofs.«01_k».proof.Proof.Gen.Adam
public import proofs.«01_k».proof.Proof.Gen.Adam.Frame
public import proofs.«01_k».proof.Proof.Gen.Adam.Launch
public import proofs.«01_k».proof.Proof.Gen.Adam.Points
public import proofs.«01_k».proof.Proof.Gen.Adam.Skeleton
public import proofs.«01_k».proof.Proof.Gen.AdamIdeal
public import proofs.«01_k».proof.Proof.Gen.AdamIdeal.Frame
public import proofs.«01_k».proof.Proof.Gen.AdamIdeal.Launch
public import proofs.«01_k».proof.Proof.Gen.AdamIdeal.Points
public import proofs.«01_k».proof.Proof.Gen.AdamIdeal.Skeleton
public import proofs.«01_k».proof.Proof.Gen.AdamIdeal.Value
public import proofs.«01_k».proof.Proof.Gen.AdamRefIdeal
public import proofs.«01_k».proof.Proof.Gen.AdamRefIdeal.Run
public import proofs.«01_k».proof.Proof.AdamClaim
public import proofs.«01_k».proof.Proof.Gen.Pre
public import proofs.«01_k».proof.Proof.Gen.Pre.Launch
public import proofs.«01_k».proof.Proof.Gen.Pre.Points
public import proofs.«01_k».proof.Proof.Gen.Pre.Skeleton
public import proofs.«01_k».proof.Proof.Gen.PreIdeal
public import proofs.«01_k».proof.Proof.Gen.PreIdeal.Launch
public import proofs.«01_k».proof.Proof.Gen.PreIdeal.Points
public import proofs.«01_k».proof.Proof.Gen.PreIdeal.Skeleton
public import proofs.«01_k».proof.Proof.Gen.PreRefIdeal
public import proofs.«01_k».proof.Proof.Gen.PreRefIdeal.Run
public import proofs.«01_k».proof.Proof.PreFrame
public import proofs.«01_k».proof.Proof.PreIdealPipe
public import proofs.«01_k».proof.Proof.PreClaim
public import Idealize.ShloMosaic.Adequacy
public import Idealize.ShloMosaic.Init

@[expose] public section

noncomputable section

namespace Cert.Proof

open Idealize.ShloMosaic Idealize.SL.Sem

/-- The reference `FwdARef` ends with its arguments unchanged; it declares no semaphore. -/
theorem frame_FwdARef : Cert.quiescent_FwdARefIdeal (hFwdARefIdeal := Cert.FwdARefIdeal.Gen.facts) := fun m ρ _ =>
  (θ_run Cert.FwdARefIdeal.defs _ _).mono (fun r h => ⟨fun c => (h c).2.2,
      Idealize.ShloMosaic.sem_eq_zero_of_no_sems (by decide) r.2⟩)
    (Cert.FwdARefIdeal.Value.run (F := Ideal) m ρ)

/-- The reference `FwdBRef` ends with its arguments unchanged; it declares no semaphore. -/
theorem frame_FwdBRef : Cert.quiescent_FwdBRefIdeal (hFwdBRefIdeal := Cert.FwdBRefIdeal.Gen.facts) := fun m ρ _ =>
  (θ_run Cert.FwdBRefIdeal.defs _ _).mono (fun r h => ⟨fun c => (h c).2.2,
      Idealize.ShloMosaic.sem_eq_zero_of_no_sems (by decide) r.2⟩)
    (Cert.FwdBRefIdeal.Value.run (F := Ideal) m ρ)

/-- The reference `BwdARef` ends with its arguments unchanged; it declares no semaphore. -/
theorem frame_BwdARef : Cert.quiescent_BwdARefIdeal (hBwdARefIdeal := Cert.BwdARefIdeal.Gen.facts) := fun m ρ _ =>
  (θ_run Cert.BwdARefIdeal.defs _ _).mono (fun r h => ⟨fun c => (h c).2.2.2,
      Idealize.ShloMosaic.sem_eq_zero_of_no_sems (by decide) r.2⟩)
    (Cert.BwdARefIdeal.Value.run (F := Ideal) m ρ)

/-- The reference `BwdBRef` ends with its arguments unchanged; it declares no semaphore. -/
theorem frame_BwdBRef : Cert.quiescent_BwdBRefIdeal (hBwdBRefIdeal := Cert.BwdBRefIdeal.Gen.facts) := fun m ρ _ =>
  (θ_run Cert.BwdBRefIdeal.defs _ _).mono (fun r h => ⟨fun c => (h c).2.2.2,
      Idealize.ShloMosaic.sem_eq_zero_of_no_sems (by decide) r.2⟩)
    (Cert.BwdBRefIdeal.Value.run (F := Ideal) m ρ)

/-- The reference `GradInRef` ends with its arguments unchanged; it declares no semaphore. -/
theorem frame_GradInRef : Cert.quiescent_GradInRefIdeal (hGradInRefIdeal := Cert.GradInRefIdeal.Gen.facts) := fun m ρ _ =>
  (θ_run Cert.GradInRefIdeal.defs _ _).mono (fun r h => ⟨fun c => (h c).2,
      Idealize.ShloMosaic.sem_eq_zero_of_no_sems (by decide) r.2⟩)
    (Cert.GradInRefIdeal.Value.run (F := Ideal) m ρ)

/-- The reference `GradOutRef` ends with its arguments unchanged; it declares no semaphore. -/
theorem frame_GradOutRef : Cert.quiescent_GradOutRefIdeal (hGradOutRefIdeal := Cert.GradOutRefIdeal.Gen.facts) := fun m ρ _ =>
  (θ_run Cert.GradOutRefIdeal.defs _ _).mono (fun r h => ⟨fun c => (h c).2,
      Idealize.ShloMosaic.sem_eq_zero_of_no_sems (by decide) r.2⟩)
    (Cert.GradOutRefIdeal.Value.run (F := Ideal) m ρ)

/-- The reference `GradUqRef` ends with its arguments unchanged; it declares no semaphore. -/
theorem frame_GradUqRef : Cert.quiescent_GradUqRefIdeal (hGradUqRefIdeal := Cert.GradUqRefIdeal.Gen.facts) := fun m ρ _ =>
  (θ_run Cert.GradUqRefIdeal.defs _ _).mono (fun r h => ⟨fun c => (h c).2,
      Idealize.ShloMosaic.sem_eq_zero_of_no_sems (by decide) r.2⟩)
    (Cert.GradUqRefIdeal.Value.run (F := Ideal) m ρ)

/-- The reference `GradUkvRef` ends with its arguments unchanged; it declares no semaphore. -/
theorem frame_GradUkvRef : Cert.quiescent_GradUkvRefIdeal (hGradUkvRefIdeal := Cert.GradUkvRefIdeal.Gen.facts) := fun m ρ _ =>
  (θ_run Cert.GradUkvRefIdeal.defs _ _).mono (fun r h => ⟨fun c => (h c).2,
      Idealize.ShloMosaic.sem_eq_zero_of_no_sems (by decide) r.2⟩)
    (Cert.GradUkvRefIdeal.Value.run (F := Ideal) m ρ)

/-- The reference `MidRef` ends with its arguments unchanged; it declares no semaphore. -/
theorem frame_MidRef : Cert.quiescent_MidRefIdeal (hMidRefIdeal := Cert.MidRefIdeal.Gen.facts) := fun m ρ _ =>
  (θ_run Cert.MidRefIdeal.defs _ _).mono (fun r h => ⟨fun c => (h c).2.2.2.2.2.2.2,
      Idealize.ShloMosaic.sem_eq_zero_of_no_sems (by decide) r.2⟩)
    (Cert.MidRefIdeal.Value.run (F := Ideal) m ρ)

/-- The reference `AdamRef` ends with its arguments unchanged; it declares no semaphore. -/
theorem frame_AdamRef : Cert.quiescent_AdamRefIdeal (hAdamRefIdeal := Cert.AdamRefIdeal.Gen.facts) := fun m ρ _ =>
  (θ_run Cert.AdamRefIdeal.defs _ _).mono (fun r h => ⟨fun c => (h c).2.2.2,
      Idealize.ShloMosaic.sem_eq_zero_of_no_sems (by decide) r.2⟩)
    (Cert.AdamRefIdeal.Value.run (F := Ideal) m ρ)

/-- The reference `PreRef` ends with its arguments unchanged; it declares no semaphore. -/
theorem frame_PreRef : Cert.quiescent_PreRefIdeal (hPreRefIdeal := Cert.PreRefIdeal.Gen.facts) := fun m ρ _ =>
  (θ_run Cert.PreRefIdeal.defs _ _).mono (fun r h => ⟨fun c => (h c).2.2.2.2.2.2.2.2.2.2.2.2.2,
      Idealize.ShloMosaic.sem_eq_zero_of_no_sems (by decide) r.2⟩)
    (Cert.PreRefIdeal.Value.run (F := Ideal) m ρ)

theorem claim : Cert.Claim :=
  ⟨Cert.FwdA.Gen.facts,
   Cert.FwdAIdeal.Gen.facts,
   Cert.FwdARefIdeal.Gen.facts,
   Cert.FwdB.Gen.facts,
   Cert.FwdBIdeal.Gen.facts,
   Cert.FwdBRefIdeal.Gen.facts,
   Cert.BwdA.Gen.facts,
   Cert.BwdAIdeal.Gen.facts,
   Cert.BwdARefIdeal.Gen.facts,
   Cert.BwdB.Gen.facts,
   Cert.BwdBIdeal.Gen.facts,
   Cert.BwdBRefIdeal.Gen.facts,
   Cert.GradIn.Gen.facts,
   Cert.GradInIdeal.Gen.facts,
   Cert.GradInRefIdeal.Gen.facts,
   Cert.GradOut.Gen.facts,
   Cert.GradOutIdeal.Gen.facts,
   Cert.GradOutRefIdeal.Gen.facts,
   Cert.GradUq.Gen.facts,
   Cert.GradUqIdeal.Gen.facts,
   Cert.GradUqRefIdeal.Gen.facts,
   Cert.GradUkv.Gen.facts,
   Cert.GradUkvIdeal.Gen.facts,
   Cert.GradUkvRefIdeal.Gen.facts,
   Cert.Mid.Gen.facts,
   Cert.MidIdeal.Gen.facts,
   Cert.MidRefIdeal.Gen.facts,
   Cert.Adam.Gen.facts,
   Cert.AdamIdeal.Gen.facts,
   Cert.AdamRefIdeal.Gen.facts,
   Cert.Pre.Gen.facts,
   Cert.PreIdeal.Gen.facts,
   Cert.PreRefIdeal.Gen.facts,
   Cert.Pre_finite_a.Gen.facts,
   Cert.Pre_finite_b.Gen.facts,
   fun m ρ _ => Cert.FwdA.Gen.frame m ρ,
   fun m ρ _ => Cert.FwdAIdeal.Gen.frame m ρ,
   fun m ρ _ => Cert.FwdAIdeal.Gen.frame m ρ,
   frame_FwdARef,
   fun m ρ _ => frame_FwdARef m ρ trivial,
   fun m ρ _ => Cert.FwdB.Gen.frame m ρ,
   fun m ρ _ => Cert.FwdBIdeal.Gen.frame m ρ,
   fun m ρ _ => Cert.FwdBIdeal.Gen.frame m ρ,
   frame_FwdBRef,
   fun m ρ _ => frame_FwdBRef m ρ trivial,
   fun m ρ _ => Cert.BwdA.Gen.frame m ρ,
   fun m ρ _ => Cert.BwdAIdeal.Gen.frame m ρ,
   frame_BwdARef,
   fun m ρ _ => Cert.BwdB.Gen.frame m ρ,
   fun m ρ _ => Cert.BwdBIdeal.Gen.frame m ρ,
   frame_BwdBRef,
   fun m ρ _ => Cert.GradIn.Gen.frame m ρ,
   fun m ρ _ => Cert.GradInIdeal.Gen.frame m ρ,
   frame_GradInRef,
   fun m ρ _ => Cert.GradOut.Gen.frame m ρ,
   fun m ρ _ => Cert.GradOutIdeal.Gen.frame m ρ,
   frame_GradOutRef,
   fun m ρ _ => Cert.GradUq.Gen.frame m ρ,
   fun m ρ _ => Cert.GradUqIdeal.Gen.frame m ρ,
   frame_GradUqRef,
   fun m ρ _ => Cert.GradUkv.Gen.frame m ρ,
   fun m ρ _ => Cert.GradUkvIdeal.Gen.frame m ρ,
   frame_GradUkvRef,
   fun m ρ _ => Cert.Mid.Gen.frame m ρ,
   fun m ρ _ => Cert.MidIdeal.Gen.frame m ρ,
   frame_MidRef,
   fun m ρ _ => Cert.Adam.Gen.frame m ρ,
   fun m ρ _ => Cert.AdamIdeal.Gen.frame m ρ,
   frame_AdamRef,
   fun m ρ _ => Cert.PreFrame.keeps m ρ,
   fun m ρ _ => Cert.PreIdeal.Own.frame m ρ,
   frame_PreRef,
   trivial,
   Cert.FwdAProof.algebraic,
   trivial,
   Cert.FwdBProof.algebraic,
   trivial,
   Cert.BwdAProof.algebraic,
   trivial,
   Cert.BwdBProof.algebraic,
   trivial,
   Cert.GradInProof.algebraic,
   trivial,
   Cert.GradOutProof.algebraic,
   trivial,
   Cert.GradUqProof.algebraic,
   trivial,
   Cert.GradUkvProof.algebraic,
   trivial,
   Cert.MidProof.algebraic,
   trivial,
   Cert.AdamProof.algebraic,
   ⟨Idealize.ShloMosaic.IdealRules.named_const.statement Cert.PreIdeal.κ "mean384" .f32 0x3B2AAAAB#32 ((1 / 384 : ℝ) : EReal) rfl,
    Idealize.ShloMosaic.IdealRules.named_const.statement Cert.PreIdeal.κ "mean96" .f32 0x3C2AAAAB#32 ((1 / 96 : ℝ) : EReal) rfl⟩,
   Cert.PreProof.algebraic⟩

end Cert.Proof

end
